-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxReferenceIdeal (m : (ℓ : Loc Cert.FfnInDxReferenceIdeal.nD Cert.FfnInDxReferenceIdeal.τ Cert.FfnInDxReferenceIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwReferenceIdeal (m : (ℓ : Loc Cert.FfnInDwReferenceIdeal.nD Cert.FfnInDwReferenceIdeal.τ Cert.FfnInDwReferenceIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwReferenceIdeal (m : (ℓ : Loc Cert.FfnOutDwReferenceIdeal.nD Cert.FfnOutDwReferenceIdeal.τ Cert.FfnOutDwReferenceIdeal.sig) → Buf (Elt Ideal) ℓ) : Prop :=
  True

def Pre_DswInDx (m : (ℓ : Loc Cert.DswInDx.nD Cert.DswInDx.τ Cert.DswInDx.sig) → Buf (Elt Bits) ℓ) : Prop :=
  True

def Pre_DswInDxIdeal (m : (ℓ : Loc Cert.DswInDxIdeal.nD Cert.DswInDxIdeal.τ Cert.DswInDxIdeal.sig) → Buf (Elt Ideal) ℓ) : Prop :=
  True

def Pre_DswInDxReferenceIdeal (m : (ℓ : Loc Cert.DswInDxReferenceIdeal.nD Cert.DswInDxReferenceIdeal.τ Cert.DswInDxReferenceIdeal.sig) → Buf (Elt Ideal) ℓ) : Prop :=
  True

def Pre_DswInDw (m : (ℓ : Loc Cert.DswInDw.nD Cert.DswInDw.τ Cert.DswInDw.sig) → Buf (Elt Bits) ℓ) : Prop :=
  True

def Pre_DswInDwIdeal (m : (ℓ : Loc Cert.DswInDwIdeal.nD Cert.DswInDwIdeal.τ Cert.DswInDwIdeal.sig) → Buf (Elt Ideal) ℓ) : Prop :=
  True

def Pre_DswInDwReferenceIdeal (m : (ℓ : Loc Cert.DswInDwReferenceIdeal.nD Cert.DswInDwReferenceIdeal.τ Cert.DswInDwReferenceIdeal.sig) → Buf (Elt Ideal) ℓ) : Prop :=
  True

def Pre_GdnInDx (m : (ℓ : Loc Cert.GdnInDx.nD Cert.GdnInDx.τ Cert.GdnInDx.sig) → Buf (Elt Bits) ℓ) : Prop :=
  True

def Pre_GdnInDxIdeal (m : (ℓ : Loc Cert.GdnInDxIdeal.nD Cert.GdnInDxIdeal.τ Cert.GdnInDxIdeal.sig) → Buf (Elt Ideal) ℓ) : Prop :=
  True

def Pre_GdnInDxReferenceIdeal (m : (ℓ : Loc Cert.GdnInDxReferenceIdeal.nD Cert.GdnInDxReferenceIdeal.τ Cert.GdnInDxReferenceIdeal.sig) → Buf (Elt Ideal) ℓ) : Prop :=
  True

def Pre_GdnInDw (m : (ℓ : Loc Cert.GdnInDw.nD Cert.GdnInDw.τ Cert.GdnInDw.sig) → Buf (Elt Bits) ℓ) : Prop :=
  True

def Pre_GdnInDwIdeal (m : (ℓ : Loc Cert.GdnInDwIdeal.nD Cert.GdnInDwIdeal.τ Cert.GdnInDwIdeal.sig) → Buf (Elt Ideal) ℓ) : Prop :=
  True

def Pre_GdnInDwReferenceIdeal (m : (ℓ : Loc Cert.GdnInDwReferenceIdeal.nD Cert.GdnInDwReferenceIdeal.τ Cert.GdnInDwReferenceIdeal.sig) → Buf (Elt Ideal) ℓ) : Prop :=
  True

def Pre_DswIn (m : (ℓ : Loc Cert.DswIn.nD Cert.DswIn.τ Cert.DswIn.sig) → Buf (Elt Bits) ℓ) : Prop :=
  True

def Pre_DswInIdeal (m : (ℓ : Loc Cert.DswInIdeal.nD Cert.DswInIdeal.τ Cert.DswInIdeal.sig) → Buf (Elt Ideal) ℓ) : Prop :=
  True

def Pre_DswInReferenceIdeal (m : (ℓ : Loc Cert.DswInReferenceIdeal.nD Cert.DswInReferenceIdeal.τ Cert.DswInReferenceIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInReferenceIdeal (m : (ℓ : Loc Cert.GdnInReferenceIdeal.nD Cert.GdnInReferenceIdeal.τ Cert.GdnInReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_GdnOutDx (m : (ℓ : Loc Cert.GdnOutDx.nD Cert.GdnOutDx.τ Cert.GdnOutDx.sig) → Buf (Elt Bits) ℓ) : Prop :=
  True

def Pre_GdnOutDxIdeal (m : (ℓ : Loc Cert.GdnOutDxIdeal.nD Cert.GdnOutDxIdeal.τ Cert.GdnOutDxIdeal.sig) → Buf (Elt Ideal) ℓ) : Prop :=
  True

def Pre_GdnOutDxReferenceIdeal (m : (ℓ : Loc Cert.GdnOutDxReferenceIdeal.nD Cert.GdnOutDxReferenceIdeal.τ Cert.GdnOutDxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxReferenceIdeal [hFfnInDxReferenceIdeal : Cert.FfnInDxReferenceIdeal.Facts] : Prop :=
  ∀ (m : (ℓ : Loc Cert.FfnInDxReferenceIdeal.nD Cert.FfnInDxReferenceIdeal.τ Cert.FfnInDxReferenceIdeal.sig) → Buf (Elt Ideal) ℓ) (g : Dev Cert.FfnInDxReferenceIdeal.nD → PrngReg), Pre_FfnInDxReferenceIdeal m →
    θ_run (Cert.FfnInDxReferenceIdeal.defs (F := Ideal)) (onTc (τ := Cert.FfnInDxReferenceIdeal.τ) (Cert.FfnInDxReferenceIdeal.main (F := Ideal))) ⟨m, fun _ => 0, g⟩ (fun r => (∀ c : Dev Cert.FfnInDxReferenceIdeal.nD,
      r.2.mem ((c.tc : Thread Cert.FfnInDxReferenceIdeal.nD Cert.FfnInDxReferenceIdeal.τ).loc Cert.FfnInDxReferenceIdeal.main_arg0) = m ((c.tc : Thread Cert.FfnInDxReferenceIdeal.nD Cert.FfnInDxReferenceIdeal.τ).loc Cert.FfnInDxReferenceIdeal.main_arg0)
      ∧ r.2.mem ((c.tc : Thread Cert.FfnInDxReferenceIdeal.nD Cert.FfnInDxReferenceIdeal.τ).loc Cert.FfnInDxReferenceIdeal.main_arg1) = m ((c.tc : Thread Cert.FfnInDxReferenceIdeal.nD Cert.FfnInDxReferenceIdeal.τ).loc Cert.FfnInDxReferenceIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwReferenceIdeal [hFfnInDwReferenceIdeal : Cert.FfnInDwReferenceIdeal.Facts] : Prop :=
  ∀ (m : (ℓ : Loc Cert.FfnInDwReferenceIdeal.nD Cert.FfnInDwReferenceIdeal.τ Cert.FfnInDwReferenceIdeal.sig) → Buf (Elt Ideal) ℓ) (g : Dev Cert.FfnInDwReferenceIdeal.nD → PrngReg), Pre_FfnInDwReferenceIdeal m →
    θ_run (Cert.FfnInDwReferenceIdeal.defs (F := Ideal)) (onTc (τ := Cert.FfnInDwReferenceIdeal.τ) (Cert.FfnInDwReferenceIdeal.main (F := Ideal))) ⟨m, fun _ => 0, g⟩ (fun r => (∀ c : Dev Cert.FfnInDwReferenceIdeal.nD,
      r.2.mem ((c.tc : Thread Cert.FfnInDwReferenceIdeal.nD Cert.FfnInDwReferenceIdeal.τ).loc Cert.FfnInDwReferenceIdeal.main_arg0) = m ((c.tc : Thread Cert.FfnInDwReferenceIdeal.nD Cert.FfnInDwReferenceIdeal.τ).loc Cert.FfnInDwReferenceIdeal.main_arg0)
      ∧ r.2.mem ((c.tc : Thread Cert.FfnInDwReferenceIdeal.nD Cert.FfnInDwReferenceIdeal.τ).loc Cert.FfnInDwReferenceIdeal.main_arg1) = m ((c.tc : Thread Cert.FfnInDwReferenceIdeal.nD Cert.FfnInDwReferenceIdeal.τ).loc Cert.FfnInDwReferenceIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwReferenceIdeal [hFfnOutDwReferenceIdeal : Cert.FfnOutDwReferenceIdeal.Facts] : Prop :=
  ∀ (m : (ℓ : Loc Cert.FfnOutDwReferenceIdeal.nD Cert.FfnOutDwReferenceIdeal.τ Cert.FfnOutDwReferenceIdeal.sig) → Buf (Elt Ideal) ℓ) (g : Dev Cert.FfnOutDwReferenceIdeal.nD → PrngReg), Pre_FfnOutDwReferenceIdeal m →
    θ_run (Cert.FfnOutDwReferenceIdeal.defs (F := Ideal)) (onTc (τ := Cert.FfnOutDwReferenceIdeal.τ) (Cert.FfnOutDwReferenceIdeal.main (F := Ideal))) ⟨m, fun _ => 0, g⟩ (fun r => (∀ c : Dev Cert.FfnOutDwReferenceIdeal.nD,
      r.2.mem ((c.tc : Thread Cert.FfnOutDwReferenceIdeal.nD Cert.FfnOutDwReferenceIdeal.τ).loc Cert.FfnOutDwReferenceIdeal.main_arg0) = m ((c.tc : Thread Cert.FfnOutDwReferenceIdeal.nD Cert.FfnOutDwReferenceIdeal.τ).loc Cert.FfnOutDwReferenceIdeal.main_arg0)
      ∧ r.2.mem ((c.tc : Thread Cert.FfnOutDwReferenceIdeal.nD Cert.FfnOutDwReferenceIdeal.τ).loc Cert.FfnOutDwReferenceIdeal.main_arg1) = m ((c.tc : Thread Cert.FfnOutDwReferenceIdeal.nD Cert.FfnOutDwReferenceIdeal.τ).loc Cert.FfnOutDwReferenceIdeal.main_arg1))
      ∧ r.2.sem = fun _ => 0)

def quiescent_DswInDx [hDswInDx : Cert.DswInDx.Facts] : Prop :=
  ∀ (m : (ℓ : Loc Cert.DswInDx.nD Cert.DswInDx.τ Cert.DswInDx.sig) → Buf (Elt Bits) ℓ) (g : Dev Cert.DswInDx.nD → PrngReg), Pre_DswInDx m →
    θ_run (Cert.DswInDx.defs (F := Bits)) (onTc (τ := Cert.DswInDx.τ) (Cert.DswInDx.main (F := Bits))) ⟨m, fun _ => 0, g⟩ (fun r => (∀ c : Dev Cert.DswInDx.nD,
      r.2.mem ((c.tc : Thread Cert.DswInDx.nD Cert.DswInDx.τ).loc Cert.DswInDx.main_arg0) = m ((c.tc : Thread Cert.DswInDx.nD Cert.DswInDx.τ).loc Cert.DswInDx.main_arg0)
      ∧ r.2.mem ((c.tc : Thread Cert.DswInDx.nD Cert.DswInDx.τ).loc Cert.DswInDx.main_arg1) = m ((c.tc : Thread Cert.DswInDx.nD Cert.DswInDx.τ).loc Cert.DswInDx.main_arg1))
      ∧ r.2.sem = fun _ => 0)

def quiescent_DswInDxIdeal [hDswInDxIdeal : Cert.DswInDxIdeal.Facts] : Prop :=
  ∀ (m : (ℓ : Loc Cert.DswInDxIdeal.nD Cert.DswInDxIdeal.τ Cert.DswInDxIdeal.sig) → Buf (Elt Ideal) ℓ) (g : Dev Cert.DswInDxIdeal.nD → PrngReg), Pre_DswInDxIdeal m →
    θ_run (Cert.DswInDxIdeal.defs (F := Ideal)) (onTc (τ := Cert.DswInDxIdeal.τ) (Cert.DswInDxIdeal.main (F := Ideal))) ⟨m, fun _ => 0, g⟩ (fun r => (∀ c : Dev Cert.DswInDxIdeal.nD,
      r.2.mem ((c.tc : Thread Cert.DswInDxIdeal.nD Cert.DswInDxIdeal.τ).loc Cert.DswInDxIdeal.main_arg0) = m ((c.tc : Thread Cert.DswInDxIdeal.nD Cert.DswInDxIdeal.τ).loc Cert.DswInDxIdeal.main_arg0)
      ∧ r.2.mem ((c.tc : Thread Cert.DswInDxIdeal.nD Cert.DswInDxIdeal.τ).loc Cert.DswInDxIdeal.main_arg1) = m ((c.tc : Thread Cert.DswInDxIdeal.nD Cert.DswInDxIdeal.τ).loc Cert.DswInDxIdeal.main_arg1))
      ∧ r.2.sem = fun _ => 0)

def quiescent_DswInDxReferenceIdeal [hDswInDxReferenceIdeal : Cert.DswInDxReferenceIdeal.Facts] : Prop :=
  ∀ (m : (ℓ : Loc Cert.DswInDxReferenceIdeal.nD Cert.DswInDxReferenceIdeal.τ Cert.DswInDxReferenceIdeal.sig) → Buf (Elt Ideal) ℓ) (g : Dev Cert.DswInDxReferenceIdeal.nD → PrngReg), Pre_DswInDxReferenceIdeal m →
    θ_run (Cert.DswInDxReferenceIdeal.defs (F := Ideal)) (onTc (τ := Cert.DswInDxReferenceIdeal.τ) (Cert.DswInDxReferenceIdeal.main (F := Ideal))) ⟨m, fun _ => 0, g⟩ (fun r => (∀ c : Dev Cert.DswInDxReferenceIdeal.nD,
      r.2.mem ((c.tc : Thread Cert.DswInDxReferenceIdeal.nD Cert.DswInDxReferenceIdeal.τ).loc Cert.DswInDxReferenceIdeal.main_arg0) = m ((c.tc : Thread Cert.DswInDxReferenceIdeal.nD Cert.DswInDxReferenceIdeal.τ).loc Cert.DswInDxReferenceIdeal.main_arg0)
      ∧ r.2.mem ((c.tc : Thread Cert.DswInDxReferenceIdeal.nD Cert.DswInDxReferenceIdeal.τ).loc Cert.DswInDxReferenceIdeal.main_arg1) = m ((c.tc : Thread Cert.DswInDxReferenceIdeal.nD Cert.DswInDxReferenceIdeal.τ).loc Cert.DswInDxReferenceIdeal.main_arg1))
      ∧ r.2.sem = fun _ => 0)

def quiescent_DswInDw [hDswInDw : Cert.DswInDw.Facts] : Prop :=
  ∀ (m : (ℓ : Loc Cert.DswInDw.nD Cert.DswInDw.τ Cert.DswInDw.sig) → Buf (Elt Bits) ℓ) (g : Dev Cert.DswInDw.nD → PrngReg), Pre_DswInDw m →
    θ_run (Cert.DswInDw.defs (F := Bits)) (onTc (τ := Cert.DswInDw.τ) (Cert.DswInDw.main (F := Bits))) ⟨m, fun _ => 0, g⟩ (fun r => (∀ c : Dev Cert.DswInDw.nD,
      r.2.mem ((c.tc : Thread Cert.DswInDw.nD Cert.DswInDw.τ).loc Cert.DswInDw.main_arg0) = m ((c.tc : Thread Cert.DswInDw.nD Cert.DswInDw.τ).loc Cert.DswInDw.main_arg0)
      ∧ r.2.mem ((c.tc : Thread Cert.DswInDw.nD Cert.DswInDw.τ).loc Cert.DswInDw.main_arg1) = m ((c.tc : Thread Cert.DswInDw.nD Cert.DswInDw.τ).loc Cert.DswInDw.main_arg1))
      ∧ r.2.sem = fun _ => 0)

def quiescent_DswInDwIdeal [hDswInDwIdeal : Cert.DswInDwIdeal.Facts] : Prop :=
  ∀ (m : (ℓ : Loc Cert.DswInDwIdeal.nD Cert.DswInDwIdeal.τ Cert.DswInDwIdeal.sig) → Buf (Elt Ideal) ℓ) (g : Dev Cert.DswInDwIdeal.nD → PrngReg), Pre_DswInDwIdeal m →
    θ_run (Cert.DswInDwIdeal.defs (F := Ideal)) (onTc (τ := Cert.DswInDwIdeal.τ) (Cert.DswInDwIdeal.main (F := Ideal))) ⟨m, fun _ => 0, g⟩ (fun r => (∀ c : Dev Cert.DswInDwIdeal.nD,
      r.2.mem ((c.tc : Thread Cert.DswInDwIdeal.nD Cert.DswInDwIdeal.τ).loc Cert.DswInDwIdeal.main_arg0) = m ((c.tc : Thread Cert.DswInDwIdeal.nD Cert.DswInDwIdeal.τ).loc Cert.DswInDwIdeal.main_arg0)
      ∧ r.2.mem ((c.tc : Thread Cert.DswInDwIdeal.nD Cert.DswInDwIdeal.τ).loc Cert.DswInDwIdeal.main_arg1) = m ((c.tc : Thread Cert.DswInDwIdeal.nD Cert.DswInDwIdeal.τ).loc Cert.DswInDwIdeal.main_arg1))
      ∧ r.2.sem = fun _ => 0)

def quiescent_DswInDwReferenceIdeal [hDswInDwReferenceIdeal : Cert.DswInDwReferenceIdeal.Facts] : Prop :=
  ∀ (m : (ℓ : Loc Cert.DswInDwReferenceIdeal.nD Cert.DswInDwReferenceIdeal.τ Cert.DswInDwReferenceIdeal.sig) → Buf (Elt Ideal) ℓ) (g : Dev Cert.DswInDwReferenceIdeal.nD → PrngReg), Pre_DswInDwReferenceIdeal m →
    θ_run (Cert.DswInDwReferenceIdeal.defs (F := Ideal)) (onTc (τ := Cert.DswInDwReferenceIdeal.τ) (Cert.DswInDwReferenceIdeal.main (F := Ideal))) ⟨m, fun _ => 0, g⟩ (fun r => (∀ c : Dev Cert.DswInDwReferenceIdeal.nD,
      r.2.mem ((c.tc : Thread Cert.DswInDwReferenceIdeal.nD Cert.DswInDwReferenceIdeal.τ).loc Cert.DswInDwReferenceIdeal.main_arg0) = m ((c.tc : Thread Cert.DswInDwReferenceIdeal.nD Cert.DswInDwReferenceIdeal.τ).loc Cert.DswInDwReferenceIdeal.main_arg0)
      ∧ r.2.mem ((c.tc : Thread Cert.DswInDwReferenceIdeal.nD Cert.DswInDwReferenceIdeal.τ).loc Cert.DswInDwReferenceIdeal.main_arg1) = m ((c.tc : Thread Cert.DswInDwReferenceIdeal.nD Cert.DswInDwReferenceIdeal.τ).loc Cert.DswInDwReferenceIdeal.main_arg1))
      ∧ r.2.sem = fun _ => 0)

def quiescent_GdnInDx [hGdnInDx : Cert.GdnInDx.Facts] : Prop :=
  ∀ (m : (ℓ : Loc Cert.GdnInDx.nD Cert.GdnInDx.τ Cert.GdnInDx.sig) → Buf (Elt Bits) ℓ) (g : Dev Cert.GdnInDx.nD → PrngReg), Pre_GdnInDx m →
    θ_run (Cert.GdnInDx.defs (F := Bits)) (onTc (τ := Cert.GdnInDx.τ) (Cert.GdnInDx.main (F := Bits))) ⟨m, fun _ => 0, g⟩ (fun r => (∀ c : Dev Cert.GdnInDx.nD,
      r.2.mem ((c.tc : Thread Cert.GdnInDx.nD Cert.GdnInDx.τ).loc Cert.GdnInDx.main_arg0) = m ((c.tc : Thread Cert.GdnInDx.nD Cert.GdnInDx.τ).loc Cert.GdnInDx.main_arg0)
      ∧ r.2.mem ((c.tc : Thread Cert.GdnInDx.nD Cert.GdnInDx.τ).loc Cert.GdnInDx.main_arg1) = m ((c.tc : Thread Cert.GdnInDx.nD Cert.GdnInDx.τ).loc Cert.GdnInDx.main_arg1))
      ∧ r.2.sem = fun _ => 0)

def quiescent_GdnInDxIdeal [hGdnInDxIdeal : Cert.GdnInDxIdeal.Facts] : Prop :=
  ∀ (m : (ℓ : Loc Cert.GdnInDxIdeal.nD Cert.GdnInDxIdeal.τ Cert.GdnInDxIdeal.sig) → Buf (Elt Ideal) ℓ) (g : Dev Cert.GdnInDxIdeal.nD → PrngReg), Pre_GdnInDxIdeal m →
    θ_run (Cert.GdnInDxIdeal.defs (F := Ideal)) (onTc (τ := Cert.GdnInDxIdeal.τ) (Cert.GdnInDxIdeal.main (F := Ideal))) ⟨m, fun _ => 0, g⟩ (fun r => (∀ c : Dev Cert.GdnInDxIdeal.nD,
      r.2.mem ((c.tc : Thread Cert.GdnInDxIdeal.nD Cert.GdnInDxIdeal.τ).loc Cert.GdnInDxIdeal.main_arg0) = m ((c.tc : Thread Cert.GdnInDxIdeal.nD Cert.GdnInDxIdeal.τ).loc Cert.GdnInDxIdeal.main_arg0)
      ∧ r.2.mem ((c.tc : Thread Cert.GdnInDxIdeal.nD Cert.GdnInDxIdeal.τ).loc Cert.GdnInDxIdeal.main_arg1) = m ((c.tc : Thread Cert.GdnInDxIdeal.nD Cert.GdnInDxIdeal.τ).loc Cert.GdnInDxIdeal.main_arg1))
      ∧ r.2.sem = fun _ => 0)

def quiescent_GdnInDxReferenceIdeal [hGdnInDxReferenceIdeal : Cert.GdnInDxReferenceIdeal.Facts] : Prop :=
  ∀ (m : (ℓ : Loc Cert.GdnInDxReferenceIdeal.nD Cert.GdnInDxReferenceIdeal.τ Cert.GdnInDxReferenceIdeal.sig) → Buf (Elt Ideal) ℓ) (g : Dev Cert.GdnInDxReferenceIdeal.nD → PrngReg), Pre_GdnInDxReferenceIdeal m →
    θ_run (Cert.GdnInDxReferenceIdeal.defs (F := Ideal)) (onTc (τ := Cert.GdnInDxReferenceIdeal.τ) (Cert.GdnInDxReferenceIdeal.main (F := Ideal))) ⟨m, fun _ => 0, g⟩ (fun r => (∀ c : Dev Cert.GdnInDxReferenceIdeal.nD,
      r.2.mem ((c.tc : Thread Cert.GdnInDxReferenceIdeal.nD Cert.GdnInDxReferenceIdeal.τ).loc Cert.GdnInDxReferenceIdeal.main_arg0) = m ((c.tc : Thread Cert.GdnInDxReferenceIdeal.nD Cert.GdnInDxReferenceIdeal.τ).loc Cert.GdnInDxReferenceIdeal.main_arg0)
      ∧ r.2.mem ((c.tc : Thread Cert.GdnInDxReferenceIdeal.nD Cert.GdnInDxReferenceIdeal.τ).loc Cert.GdnInDxReferenceIdeal.main_arg1) = m ((c.tc : Thread Cert.GdnInDxReferenceIdeal.nD Cert.GdnInDxReferenceIdeal.τ).loc Cert.GdnInDxReferenceIdeal.main_arg1))
      ∧ r.2.sem = fun _ => 0)

def quiescent_GdnInDw [hGdnInDw : Cert.GdnInDw.Facts] : Prop :=
  ∀ (m : (ℓ : Loc Cert.GdnInDw.nD Cert.GdnInDw.τ Cert.GdnInDw.sig) → Buf (Elt Bits) ℓ) (g : Dev Cert.GdnInDw.nD → PrngReg), Pre_GdnInDw m →
    θ_run (Cert.GdnInDw.defs (F := Bits)) (onTc (τ := Cert.GdnInDw.τ) (Cert.GdnInDw.main (F := Bits))) ⟨m, fun _ => 0, g⟩ (fun r => (∀ c : Dev Cert.GdnInDw.nD,
      r.2.mem ((c.tc : Thread Cert.GdnInDw.nD Cert.GdnInDw.τ).loc Cert.GdnInDw.main_arg0) = m ((c.tc : Thread Cert.GdnInDw.nD Cert.GdnInDw.τ).loc Cert.GdnInDw.main_arg0)
      ∧ r.2.mem ((c.tc : Thread Cert.GdnInDw.nD Cert.GdnInDw.τ).loc Cert.GdnInDw.main_arg1) = m ((c.tc : Thread Cert.GdnInDw.nD Cert.GdnInDw.τ).loc Cert.GdnInDw.main_arg1))
      ∧ r.2.sem = fun _ => 0)

def quiescent_GdnInDwIdeal [hGdnInDwIdeal : Cert.GdnInDwIdeal.Facts] : Prop :=
  ∀ (m : (ℓ : Loc Cert.GdnInDwIdeal.nD Cert.GdnInDwIdeal.τ Cert.GdnInDwIdeal.sig) → Buf (Elt Ideal) ℓ) (g : Dev Cert.GdnInDwIdeal.nD → PrngReg), Pre_GdnInDwIdeal m →
    θ_run (Cert.GdnInDwIdeal.defs (F := Ideal)) (onTc (τ := Cert.GdnInDwIdeal.τ) (Cert.GdnInDwIdeal.main (F := Ideal))) ⟨m, fun _ => 0, g⟩ (fun r => (∀ c : Dev Cert.GdnInDwIdeal.nD,
      r.2.mem ((c.tc : Thread Cert.GdnInDwIdeal.nD Cert.GdnInDwIdeal.τ).loc Cert.GdnInDwIdeal.main_arg0) = m ((c.tc : Thread Cert.GdnInDwIdeal.nD Cert.GdnInDwIdeal.τ).loc Cert.GdnInDwIdeal.main_arg0)
      ∧ r.2.mem ((c.tc : Thread Cert.GdnInDwIdeal.nD Cert.GdnInDwIdeal.τ).loc Cert.GdnInDwIdeal.main_arg1) = m ((c.tc : Thread Cert.GdnInDwIdeal.nD Cert.GdnInDwIdeal.τ).loc Cert.GdnInDwIdeal.main_arg1))
      ∧ r.2.sem = fun _ => 0)

def quiescent_GdnInDwReferenceIdeal [hGdnInDwReferenceIdeal : Cert.GdnInDwReferenceIdeal.Facts] : Prop :=
  ∀ (m : (ℓ : Loc Cert.GdnInDwReferenceIdeal.nD Cert.GdnInDwReferenceIdeal.τ Cert.GdnInDwReferenceIdeal.sig) → Buf (Elt Ideal) ℓ) (g : Dev Cert.GdnInDwReferenceIdeal.nD → PrngReg), Pre_GdnInDwReferenceIdeal m →
    θ_run (Cert.GdnInDwReferenceIdeal.defs (F := Ideal)) (onTc (τ := Cert.GdnInDwReferenceIdeal.τ) (Cert.GdnInDwReferenceIdeal.main (F := Ideal))) ⟨m, fun _ => 0, g⟩ (fun r => (∀ c : Dev Cert.GdnInDwReferenceIdeal.nD,
      r.2.mem ((c.tc : Thread Cert.GdnInDwReferenceIdeal.nD Cert.GdnInDwReferenceIdeal.τ).loc Cert.GdnInDwReferenceIdeal.main_arg0) = m ((c.tc : Thread Cert.GdnInDwReferenceIdeal.nD Cert.GdnInDwReferenceIdeal.τ).loc Cert.GdnInDwReferenceIdeal.main_arg0)
      ∧ r.2.mem ((c.tc : Thread Cert.GdnInDwReferenceIdeal.nD Cert.GdnInDwReferenceIdeal.τ).loc Cert.GdnInDwReferenceIdeal.main_arg1) = m ((c.tc : Thread Cert.GdnInDwReferenceIdeal.nD Cert.GdnInDwReferenceIdeal.τ).loc Cert.GdnInDwReferenceIdeal.main_arg1))
      ∧ r.2.sem = fun _ => 0)

def quiescent_DswIn [hDswIn : Cert.DswIn.Facts] : Prop :=
  ∀ (m : (ℓ : Loc Cert.DswIn.nD Cert.DswIn.τ Cert.DswIn.sig) → Buf (Elt Bits) ℓ) (g : Dev Cert.DswIn.nD → PrngReg), Pre_DswIn m →
    θ_run (Cert.DswIn.defs (F := Bits)) (onTc (τ := Cert.DswIn.τ) (Cert.DswIn.main (F := Bits))) ⟨m, fun _ => 0, g⟩ (fun r => (∀ c : Dev Cert.DswIn.nD,
      r.2.mem ((c.tc : Thread Cert.DswIn.nD Cert.DswIn.τ).loc Cert.DswIn.main_arg0) = m ((c.tc : Thread Cert.DswIn.nD Cert.DswIn.τ).loc Cert.DswIn.main_arg0)
      ∧ r.2.mem ((c.tc : Thread Cert.DswIn.nD Cert.DswIn.τ).loc Cert.DswIn.main_arg1) = m ((c.tc : Thread Cert.DswIn.nD Cert.DswIn.τ).loc Cert.DswIn.main_arg1))
      ∧ r.2.sem = fun _ => 0)

def quiescent_DswInIdeal [hDswInIdeal : Cert.DswInIdeal.Facts] : Prop :=
  ∀ (m : (ℓ : Loc Cert.DswInIdeal.nD Cert.DswInIdeal.τ Cert.DswInIdeal.sig) → Buf (Elt Ideal) ℓ) (g : Dev Cert.DswInIdeal.nD → PrngReg), Pre_DswInIdeal m →
    θ_run (Cert.DswInIdeal.defs (F := Ideal)) (onTc (τ := Cert.DswInIdeal.τ) (Cert.DswInIdeal.main (F := Ideal))) ⟨m, fun _ => 0, g⟩ (fun r => (∀ c : Dev Cert.DswInIdeal.nD,
      r.2.mem ((c.tc : Thread Cert.DswInIdeal.nD Cert.DswInIdeal.τ).loc Cert.DswInIdeal.main_arg0) = m ((c.tc : Thread Cert.DswInIdeal.nD Cert.DswInIdeal.τ).loc Cert.DswInIdeal.main_arg0)
      ∧ r.2.mem ((c.tc : Thread Cert.DswInIdeal.nD Cert.DswInIdeal.τ).loc Cert.DswInIdeal.main_arg1) = m ((c.tc : Thread Cert.DswInIdeal.nD Cert.DswInIdeal.τ).loc Cert.DswInIdeal.main_arg1))
      ∧ r.2.sem = fun _ => 0)

def quiescent_DswInReferenceIdeal [hDswInReferenceIdeal : Cert.DswInReferenceIdeal.Facts] : Prop :=
  ∀ (m : (ℓ : Loc Cert.DswInReferenceIdeal.nD Cert.DswInReferenceIdeal.τ Cert.DswInReferenceIdeal.sig) → Buf (Elt Ideal) ℓ) (g : Dev Cert.DswInReferenceIdeal.nD → PrngReg), Pre_DswInReferenceIdeal m →
    θ_run (Cert.DswInReferenceIdeal.defs (F := Ideal)) (onTc (τ := Cert.DswInReferenceIdeal.τ) (Cert.DswInReferenceIdeal.main (F := Ideal))) ⟨m, fun _ => 0, g⟩ (fun r => (∀ c : Dev Cert.DswInReferenceIdeal.nD,
      r.2.mem ((c.tc : Thread Cert.DswInReferenceIdeal.nD Cert.DswInReferenceIdeal.τ).loc Cert.DswInReferenceIdeal.main_arg0) = m ((c.tc : Thread Cert.DswInReferenceIdeal.nD Cert.DswInReferenceIdeal.τ).loc Cert.DswInReferenceIdeal.main_arg0)
      ∧ r.2.mem ((c.tc : Thread Cert.DswInReferenceIdeal.nD Cert.DswInReferenceIdeal.τ).loc Cert.DswInReferenceIdeal.main_arg1) = m ((c.tc : Thread Cert.DswInReferenceIdeal.nD Cert.DswInReferenceIdeal.τ).loc Cert.DswInReferenceIdeal.main_arg1))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInReferenceIdeal [hGdnInReferenceIdeal : Cert.GdnInReferenceIdeal.Facts] : Prop :=
  ∀ (m : (ℓ : Loc Cert.GdnInReferenceIdeal.nD Cert.GdnInReferenceIdeal.τ Cert.GdnInReferenceIdeal.sig) → Buf (Elt Ideal) ℓ) (g : Dev Cert.GdnInReferenceIdeal.nD → PrngReg), Pre_GdnInReferenceIdeal m →
    θ_run (Cert.GdnInReferenceIdeal.defs (F := Ideal)) (onTc (τ := Cert.GdnInReferenceIdeal.τ) (Cert.GdnInReferenceIdeal.main (F := Ideal))) ⟨m, fun _ => 0, g⟩ (fun r => (∀ c : Dev Cert.GdnInReferenceIdeal.nD,
      r.2.mem ((c.tc : Thread Cert.GdnInReferenceIdeal.nD Cert.GdnInReferenceIdeal.τ).loc Cert.GdnInReferenceIdeal.main_arg0) = m ((c.tc : Thread Cert.GdnInReferenceIdeal.nD Cert.GdnInReferenceIdeal.τ).loc Cert.GdnInReferenceIdeal.main_arg0)
      ∧ r.2.mem ((c.tc : Thread Cert.GdnInReferenceIdeal.nD Cert.GdnInReferenceIdeal.τ).loc Cert.GdnInReferenceIdeal.main_arg1) = m ((c.tc : Thread Cert.GdnInReferenceIdeal.nD Cert.GdnInReferenceIdeal.τ).loc Cert.GdnInReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1))
      ∧ r.2.sem = fun _ => 0)

def quiescent_GdnOutDx [hGdnOutDx : Cert.GdnOutDx.Facts] : Prop :=
  ∀ (m : (ℓ : Loc Cert.GdnOutDx.nD Cert.GdnOutDx.τ Cert.GdnOutDx.sig) → Buf (Elt Bits) ℓ) (g : Dev Cert.GdnOutDx.nD → PrngReg), Pre_GdnOutDx m →
    θ_run (Cert.GdnOutDx.defs (F := Bits)) (onTc (τ := Cert.GdnOutDx.τ) (Cert.GdnOutDx.main (F := Bits))) ⟨m, fun _ => 0, g⟩ (fun r => (∀ c : Dev Cert.GdnOutDx.nD,
      r.2.mem ((c.tc : Thread Cert.GdnOutDx.nD Cert.GdnOutDx.τ).loc Cert.GdnOutDx.main_arg0) = m ((c.tc : Thread Cert.GdnOutDx.nD Cert.GdnOutDx.τ).loc Cert.GdnOutDx.main_arg0)
      ∧ r.2.mem ((c.tc : Thread Cert.GdnOutDx.nD Cert.GdnOutDx.τ).loc Cert.GdnOutDx.main_arg1) = m ((c.tc : Thread Cert.GdnOutDx.nD Cert.GdnOutDx.τ).loc Cert.GdnOutDx.main_arg1))
      ∧ r.2.sem = fun _ => 0)

def quiescent_GdnOutDxIdeal [hGdnOutDxIdeal : Cert.GdnOutDxIdeal.Facts] : Prop :=
  ∀ (m : (ℓ : Loc Cert.GdnOutDxIdeal.nD Cert.GdnOutDxIdeal.τ Cert.GdnOutDxIdeal.sig) → Buf (Elt Ideal) ℓ) (g : Dev Cert.GdnOutDxIdeal.nD → PrngReg), Pre_GdnOutDxIdeal m →
    θ_run (Cert.GdnOutDxIdeal.defs (F := Ideal)) (onTc (τ := Cert.GdnOutDxIdeal.τ) (Cert.GdnOutDxIdeal.main (F := Ideal))) ⟨m, fun _ => 0, g⟩ (fun r => (∀ c : Dev Cert.GdnOutDxIdeal.nD,
      r.2.mem ((c.tc : Thread Cert.GdnOutDxIdeal.nD Cert.GdnOutDxIdeal.τ).loc Cert.GdnOutDxIdeal.main_arg0) = m ((c.tc : Thread Cert.GdnOutDxIdeal.nD Cert.GdnOutDxIdeal.τ).loc Cert.GdnOutDxIdeal.main_arg0)
      ∧ r.2.mem ((c.tc : Thread Cert.GdnOutDxIdeal.nD Cert.GdnOutDxIdeal.τ).loc Cert.GdnOutDxIdeal.main_arg1) = m ((c.tc : Thread Cert.GdnOutDxIdeal.nD Cert.GdnOutDxIdeal.τ).loc Cert.GdnOutDxIdeal.main_arg1))
      ∧ r.2.sem = fun _ => 0)

def quiescent_GdnOutDxReferenceIdeal [hGdnOutDxReferenceIdeal : Cert.GdnOutDxReferenceIdeal.Facts] : Prop :=
  ∀ (m : (ℓ : Loc Cert.GdnOutDxReferenceIdeal.nD Cert.GdnOutDxReferenceIdeal.τ Cert.GdnOutDxReferenceIdeal.sig) → Buf (Elt Ideal) ℓ) (g : Dev Cert.GdnOutDxReferenceIdeal.nD → PrngReg), Pre_GdnOutDxReferenceIdeal m →
    θ_run (Cert.GdnOutDxReferenceIdeal.defs (F := Ideal)) (onTc (τ := Cert.GdnOutDxReferenceIdeal.τ) (Cert.GdnOutDxReferenceIdeal.main (F := Ideal))) ⟨m, fun _ => 0, g⟩ (fun r => (∀ c : Dev Cert.GdnOutDxReferenceIdeal.nD,
      r.2.mem ((c.tc : Thread Cert.GdnOutDxReferenceIdeal.nD Cert.GdnOutDxReferenceIdeal.τ).loc Cert.GdnOutDxReferenceIdeal.main_arg0) = m ((c.tc : Thread Cert.GdnOutDxReferenceIdeal.nD Cert.GdnOutDxReferenceIdeal.τ).loc Cert.GdnOutDxReferenceIdeal.main_arg0)
      ∧ r.2.mem ((c.tc : Thread Cert.GdnOutDxReferenceIdeal.nD Cert.GdnOutDxReferenceIdeal.τ).loc Cert.GdnOutDxReferenceIdeal.main_arg1) = m ((c.tc : Thread Cert.GdnOutDxReferenceIdeal.nD Cert.GdnOutDxReferenceIdeal.τ).loc Cert.GdnOutDxReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v118_0)) (v1 : (c : Dev Cert.KernelIdeal.nD) → Buf (Elt Ideal) ((c.tc : Thread Cert.KernelIdeal.nD Cert.KernelIdeal.τ).loc Cert.KernelIdeal.main_v118_1)) (v2 : (c : Dev Cert.KernelIdeal.nD) → Buf (Elt Ideal) ((c.tc : Thread Cert.KernelIdeal.nD Cert.KernelIdeal.τ).loc Cert.KernelIdeal.main_v118_2)) (v3 : (c : Dev Cert.KernelIdeal.nD) → Buf (Elt Ideal) ((c.tc : Thread Cert.KernelIdeal.nD Cert.KernelIdeal.τ).loc Cert.KernelIdeal.main_v118_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118_0) = v0 c
          ∧ r.2.mem ((c.tc : Thread Cert.KernelIdeal.nD Cert.KernelIdeal.τ).loc Cert.KernelIdeal.main_v118_1) = v1 c
          ∧ r.2.mem ((c.tc : Thread Cert.KernelIdeal.nD Cert.KernelIdeal.τ).loc Cert.KernelIdeal.main_v118_2) = v2 c
          ∧ r.2.mem ((c.tc : Thread Cert.KernelIdeal.nD Cert.KernelIdeal.τ).loc Cert.KernelIdeal.main_v118_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_FfnInDx_FfnInDxIdeal : Prop :=
  True

def algebraic_FfnInDxIdeal_FfnInDxReferenceIdeal [hFfnInDxIdeal : Cert.FfnInDxIdeal.Facts] [hFfnInDxReferenceIdeal : Cert.FfnInDxReferenceIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxReferenceIdeal.nD Cert.FfnInDxReferenceIdeal.τ Cert.FfnInDxReferenceIdeal.sig) → Buf (Elt Ideal) ℓ) (g' : Dev Cert.FfnInDxReferenceIdeal.nD → PrngReg), Pre_FfnInDxIdeal m →
    (∀ c : Dev Cert.FfnInDxIdeal.nD,
      m' ((c.tc : Thread Cert.FfnInDxReferenceIdeal.nD Cert.FfnInDxReferenceIdeal.τ).loc Cert.FfnInDxReferenceIdeal.main_arg0) = m ((c.tc : Thread Cert.FfnInDxIdeal.nD Cert.FfnInDxIdeal.τ).loc Cert.FfnInDxIdeal.main_arg0)
      ∧ m' ((c.tc : Thread Cert.FfnInDxReferenceIdeal.nD Cert.FfnInDxReferenceIdeal.τ).loc Cert.FfnInDxReferenceIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxReferenceIdeal.defs (F := Ideal)) (onTc (τ := Cert.FfnInDxReferenceIdeal.τ) (Cert.FfnInDxReferenceIdeal.main (F := Ideal))) ⟨m', fun _ => 0, g'⟩ (fun r => ∀ c : Dev Cert.FfnInDxReferenceIdeal.nD,
          r.2.mem ((c.tc : Thread Cert.FfnInDxReferenceIdeal.nD Cert.FfnInDxReferenceIdeal.τ).loc Cert.FfnInDxReferenceIdeal.main_v11) = v0 c
          ∧ r.2.mem ((c.tc : Thread Cert.FfnInDxReferenceIdeal.nD Cert.FfnInDxReferenceIdeal.τ).loc Cert.FfnInDxReferenceIdeal.main_arg0) = m' ((c.tc : Thread Cert.FfnInDxReferenceIdeal.nD Cert.FfnInDxReferenceIdeal.τ).loc Cert.FfnInDxReferenceIdeal.main_arg0)
          ∧ r.2.mem ((c.tc : Thread Cert.FfnInDxReferenceIdeal.nD Cert.FfnInDxReferenceIdeal.τ).loc Cert.FfnInDxReferenceIdeal.main_arg1) = m' ((c.tc : Thread Cert.FfnInDxReferenceIdeal.nD Cert.FfnInDxReferenceIdeal.τ).loc Cert.FfnInDxReferenceIdeal.main_arg1))

def preserves_FfnInDw_FfnInDwIdeal : Prop :=
  True

def algebraic_FfnInDwIdeal_FfnInDwReferenceIdeal [hFfnInDwIdeal : Cert.FfnInDwIdeal.Facts] [hFfnInDwReferenceIdeal : Cert.FfnInDwReferenceIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwReferenceIdeal.nD Cert.FfnInDwReferenceIdeal.τ Cert.FfnInDwReferenceIdeal.sig) → Buf (Elt Ideal) ℓ) (g' : Dev Cert.FfnInDwReferenceIdeal.nD → PrngReg), Pre_FfnInDwIdeal m →
    (∀ c : Dev Cert.FfnInDwIdeal.nD,
      m' ((c.tc : Thread Cert.FfnInDwReferenceIdeal.nD Cert.FfnInDwReferenceIdeal.τ).loc Cert.FfnInDwReferenceIdeal.main_arg0) = m ((c.tc : Thread Cert.FfnInDwIdeal.nD Cert.FfnInDwIdeal.τ).loc Cert.FfnInDwIdeal.main_arg0)
      ∧ m' ((c.tc : Thread Cert.FfnInDwReferenceIdeal.nD Cert.FfnInDwReferenceIdeal.τ).loc Cert.FfnInDwReferenceIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwReferenceIdeal.defs (F := Ideal)) (onTc (τ := Cert.FfnInDwReferenceIdeal.τ) (Cert.FfnInDwReferenceIdeal.main (F := Ideal))) ⟨m', fun _ => 0, g'⟩ (fun r => ∀ c : Dev Cert.FfnInDwReferenceIdeal.nD,
          r.2.mem ((c.tc : Thread Cert.FfnInDwReferenceIdeal.nD Cert.FfnInDwReferenceIdeal.τ).loc Cert.FfnInDwReferenceIdeal.main_v10) = v0 c
          ∧ r.2.mem ((c.tc : Thread Cert.FfnInDwReferenceIdeal.nD Cert.FfnInDwReferenceIdeal.τ).loc Cert.FfnInDwReferenceIdeal.main_arg0) = m' ((c.tc : Thread Cert.FfnInDwReferenceIdeal.nD Cert.FfnInDwReferenceIdeal.τ).loc Cert.FfnInDwReferenceIdeal.main_arg0)
          ∧ r.2.mem ((c.tc : Thread Cert.FfnInDwReferenceIdeal.nD Cert.FfnInDwReferenceIdeal.τ).loc Cert.FfnInDwReferenceIdeal.main_arg1) = m' ((c.tc : Thread Cert.FfnInDwReferenceIdeal.nD Cert.FfnInDwReferenceIdeal.τ).loc Cert.FfnInDwReferenceIdeal.main_arg1))

def preserves_FfnOutDw_FfnOutDwIdeal : Prop :=
  True

def algebraic_FfnOutDwIdeal_FfnOutDwReferenceIdeal [hFfnOutDwIdeal : Cert.FfnOutDwIdeal.Facts] [hFfnOutDwReferenceIdeal : Cert.FfnOutDwReferenceIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwReferenceIdeal.nD Cert.FfnOutDwReferenceIdeal.τ Cert.FfnOutDwReferenceIdeal.sig) → Buf (Elt Ideal) ℓ) (g' : Dev Cert.FfnOutDwReferenceIdeal.nD → PrngReg), Pre_FfnOutDwIdeal m →
    (∀ c : Dev Cert.FfnOutDwIdeal.nD,
      m' ((c.tc : Thread Cert.FfnOutDwReferenceIdeal.nD Cert.FfnOutDwReferenceIdeal.τ).loc Cert.FfnOutDwReferenceIdeal.main_arg0) = m ((c.tc : Thread Cert.FfnOutDwIdeal.nD Cert.FfnOutDwIdeal.τ).loc Cert.FfnOutDwIdeal.main_arg0)
      ∧ m' ((c.tc : Thread Cert.FfnOutDwReferenceIdeal.nD Cert.FfnOutDwReferenceIdeal.τ).loc Cert.FfnOutDwReferenceIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwReferenceIdeal.defs (F := Ideal)) (onTc (τ := Cert.FfnOutDwReferenceIdeal.τ) (Cert.FfnOutDwReferenceIdeal.main (F := Ideal))) ⟨m', fun _ => 0, g'⟩ (fun r => ∀ c : Dev Cert.FfnOutDwReferenceIdeal.nD,
          r.2.mem ((c.tc : Thread Cert.FfnOutDwReferenceIdeal.nD Cert.FfnOutDwReferenceIdeal.τ).loc Cert.FfnOutDwReferenceIdeal.main_v1) = v0 c
          ∧ r.2.mem ((c.tc : Thread Cert.FfnOutDwReferenceIdeal.nD Cert.FfnOutDwReferenceIdeal.τ).loc Cert.FfnOutDwReferenceIdeal.main_arg0) = m' ((c.tc : Thread Cert.FfnOutDwReferenceIdeal.nD Cert.FfnOutDwReferenceIdeal.τ).loc Cert.FfnOutDwReferenceIdeal.main_arg0)
          ∧ r.2.mem ((c.tc : Thread Cert.FfnOutDwReferenceIdeal.nD Cert.FfnOutDwReferenceIdeal.τ).loc Cert.FfnOutDwReferenceIdeal.main_arg1) = m' ((c.tc : Thread Cert.FfnOutDwReferenceIdeal.nD Cert.FfnOutDwReferenceIdeal.τ).loc Cert.FfnOutDwReferenceIdeal.main_arg1))

def preserves_DswInDx_DswInDxIdeal : Prop :=
  True

def algebraic_DswInDxIdeal_DswInDxReferenceIdeal [hDswInDxIdeal : Cert.DswInDxIdeal.Facts] [hDswInDxReferenceIdeal : Cert.DswInDxReferenceIdeal.Facts] : Prop :=
  ∀ (m : (ℓ : Loc Cert.DswInDxIdeal.nD Cert.DswInDxIdeal.τ Cert.DswInDxIdeal.sig) → Buf (Elt Ideal) ℓ) (g : Dev Cert.DswInDxIdeal.nD → PrngReg)
    (m' : (ℓ : Loc Cert.DswInDxReferenceIdeal.nD Cert.DswInDxReferenceIdeal.τ Cert.DswInDxReferenceIdeal.sig) → Buf (Elt Ideal) ℓ) (g' : Dev Cert.DswInDxReferenceIdeal.nD → PrngReg), Pre_DswInDxIdeal m →
    (∀ c : Dev Cert.DswInDxIdeal.nD,
      m' ((c.tc : Thread Cert.DswInDxReferenceIdeal.nD Cert.DswInDxReferenceIdeal.τ).loc Cert.DswInDxReferenceIdeal.main_arg0) = m ((c.tc : Thread Cert.DswInDxIdeal.nD Cert.DswInDxIdeal.τ).loc Cert.DswInDxIdeal.main_arg0)
      ∧ m' ((c.tc : Thread Cert.DswInDxReferenceIdeal.nD Cert.DswInDxReferenceIdeal.τ).loc Cert.DswInDxReferenceIdeal.main_arg1) = m ((c.tc : Thread Cert.DswInDxIdeal.nD Cert.DswInDxIdeal.τ).loc Cert.DswInDxIdeal.main_arg1)) →
    ∃ (v0 : (c : Dev Cert.DswInDxIdeal.nD) → Buf (Elt Ideal) ((c.tc : Thread Cert.DswInDxIdeal.nD Cert.DswInDxIdeal.τ).loc Cert.DswInDxIdeal.main_v0)),
      θ_run (Cert.DswInDxIdeal.defs (F := Ideal)) (onTc (τ := Cert.DswInDxIdeal.τ) (Cert.DswInDxIdeal.main (F := Ideal))) ⟨m, fun _ => 0, g⟩ (fun r => ∀ c : Dev Cert.DswInDxIdeal.nD,
          r.2.mem ((c.tc : Thread Cert.DswInDxIdeal.nD Cert.DswInDxIdeal.τ).loc Cert.DswInDxIdeal.main_v0) = v0 c
          ∧ r.2.mem ((c.tc : Thread Cert.DswInDxIdeal.nD Cert.DswInDxIdeal.τ).loc Cert.DswInDxIdeal.main_arg0) = m ((c.tc : Thread Cert.DswInDxIdeal.nD Cert.DswInDxIdeal.τ).loc Cert.DswInDxIdeal.main_arg0)
          ∧ r.2.mem ((c.tc : Thread Cert.DswInDxIdeal.nD Cert.DswInDxIdeal.τ).loc Cert.DswInDxIdeal.main_arg1) = m ((c.tc : Thread Cert.DswInDxIdeal.nD Cert.DswInDxIdeal.τ).loc Cert.DswInDxIdeal.main_arg1))
      ∧ θ_run (Cert.DswInDxReferenceIdeal.defs (F := Ideal)) (onTc (τ := Cert.DswInDxReferenceIdeal.τ) (Cert.DswInDxReferenceIdeal.main (F := Ideal))) ⟨m', fun _ => 0, g'⟩ (fun r => ∀ c : Dev Cert.DswInDxReferenceIdeal.nD,
          r.2.mem ((c.tc : Thread Cert.DswInDxReferenceIdeal.nD Cert.DswInDxReferenceIdeal.τ).loc Cert.DswInDxReferenceIdeal.main_v11) = v0 c
          ∧ r.2.mem ((c.tc : Thread Cert.DswInDxReferenceIdeal.nD Cert.DswInDxReferenceIdeal.τ).loc Cert.DswInDxReferenceIdeal.main_arg0) = m' ((c.tc : Thread Cert.DswInDxReferenceIdeal.nD Cert.DswInDxReferenceIdeal.τ).loc Cert.DswInDxReferenceIdeal.main_arg0)
          ∧ r.2.mem ((c.tc : Thread Cert.DswInDxReferenceIdeal.nD Cert.DswInDxReferenceIdeal.τ).loc Cert.DswInDxReferenceIdeal.main_arg1) = m' ((c.tc : Thread Cert.DswInDxReferenceIdeal.nD Cert.DswInDxReferenceIdeal.τ).loc Cert.DswInDxReferenceIdeal.main_arg1))

def preserves_DswInDw_DswInDwIdeal : Prop :=
  True

def algebraic_DswInDwIdeal_DswInDwReferenceIdeal [hDswInDwIdeal : Cert.DswInDwIdeal.Facts] [hDswInDwReferenceIdeal : Cert.DswInDwReferenceIdeal.Facts] : Prop :=
  ∀ (m : (ℓ : Loc Cert.DswInDwIdeal.nD Cert.DswInDwIdeal.τ Cert.DswInDwIdeal.sig) → Buf (Elt Ideal) ℓ) (g : Dev Cert.DswInDwIdeal.nD → PrngReg)
    (m' : (ℓ : Loc Cert.DswInDwReferenceIdeal.nD Cert.DswInDwReferenceIdeal.τ Cert.DswInDwReferenceIdeal.sig) → Buf (Elt Ideal) ℓ) (g' : Dev Cert.DswInDwReferenceIdeal.nD → PrngReg), Pre_DswInDwIdeal m →
    (∀ c : Dev Cert.DswInDwIdeal.nD,
      m' ((c.tc : Thread Cert.DswInDwReferenceIdeal.nD Cert.DswInDwReferenceIdeal.τ).loc Cert.DswInDwReferenceIdeal.main_arg0) = m ((c.tc : Thread Cert.DswInDwIdeal.nD Cert.DswInDwIdeal.τ).loc Cert.DswInDwIdeal.main_arg0)
      ∧ m' ((c.tc : Thread Cert.DswInDwReferenceIdeal.nD Cert.DswInDwReferenceIdeal.τ).loc Cert.DswInDwReferenceIdeal.main_arg1) = m ((c.tc : Thread Cert.DswInDwIdeal.nD Cert.DswInDwIdeal.τ).loc Cert.DswInDwIdeal.main_arg1)) →
    ∃ (v0 : (c : Dev Cert.DswInDwIdeal.nD) → Buf (Elt Ideal) ((c.tc : Thread Cert.DswInDwIdeal.nD Cert.DswInDwIdeal.τ).loc Cert.DswInDwIdeal.main_v0)),
      θ_run (Cert.DswInDwIdeal.defs (F := Ideal)) (onTc (τ := Cert.DswInDwIdeal.τ) (Cert.DswInDwIdeal.main (F := Ideal))) ⟨m, fun _ => 0, g⟩ (fun r => ∀ c : Dev Cert.DswInDwIdeal.nD,
          r.2.mem ((c.tc : Thread Cert.DswInDwIdeal.nD Cert.DswInDwIdeal.τ).loc Cert.DswInDwIdeal.main_v0) = v0 c
          ∧ r.2.mem ((c.tc : Thread Cert.DswInDwIdeal.nD Cert.DswInDwIdeal.τ).loc Cert.DswInDwIdeal.main_arg0) = m ((c.tc : Thread Cert.DswInDwIdeal.nD Cert.DswInDwIdeal.τ).loc Cert.DswInDwIdeal.main_arg0)
          ∧ r.2.mem ((c.tc : Thread Cert.DswInDwIdeal.nD Cert.DswInDwIdeal.τ).loc Cert.DswInDwIdeal.main_arg1) = m ((c.tc : Thread Cert.DswInDwIdeal.nD Cert.DswInDwIdeal.τ).loc Cert.DswInDwIdeal.main_arg1))
      ∧ θ_run (Cert.DswInDwReferenceIdeal.defs (F := Ideal)) (onTc (τ := Cert.DswInDwReferenceIdeal.τ) (Cert.DswInDwReferenceIdeal.main (F := Ideal))) ⟨m', fun _ => 0, g'⟩ (fun r => ∀ c : Dev Cert.DswInDwReferenceIdeal.nD,
          r.2.mem ((c.tc : Thread Cert.DswInDwReferenceIdeal.nD Cert.DswInDwReferenceIdeal.τ).loc Cert.DswInDwReferenceIdeal.main_v10) = v0 c
          ∧ r.2.mem ((c.tc : Thread Cert.DswInDwReferenceIdeal.nD Cert.DswInDwReferenceIdeal.τ).loc Cert.DswInDwReferenceIdeal.main_arg0) = m' ((c.tc : Thread Cert.DswInDwReferenceIdeal.nD Cert.DswInDwReferenceIdeal.τ).loc Cert.DswInDwReferenceIdeal.main_arg0)
          ∧ r.2.mem ((c.tc : Thread Cert.DswInDwReferenceIdeal.nD Cert.DswInDwReferenceIdeal.τ).loc Cert.DswInDwReferenceIdeal.main_arg1) = m' ((c.tc : Thread Cert.DswInDwReferenceIdeal.nD Cert.DswInDwReferenceIdeal.τ).loc Cert.DswInDwReferenceIdeal.main_arg1))

def preserves_GdnInDx_GdnInDxIdeal : Prop :=
  True

def algebraic_GdnInDxIdeal_GdnInDxReferenceIdeal [hGdnInDxIdeal : Cert.GdnInDxIdeal.Facts] [hGdnInDxReferenceIdeal : Cert.GdnInDxReferenceIdeal.Facts] : Prop :=
  ∀ (m : (ℓ : Loc Cert.GdnInDxIdeal.nD Cert.GdnInDxIdeal.τ Cert.GdnInDxIdeal.sig) → Buf (Elt Ideal) ℓ) (g : Dev Cert.GdnInDxIdeal.nD → PrngReg)
    (m' : (ℓ : Loc Cert.GdnInDxReferenceIdeal.nD Cert.GdnInDxReferenceIdeal.τ Cert.GdnInDxReferenceIdeal.sig) → Buf (Elt Ideal) ℓ) (g' : Dev Cert.GdnInDxReferenceIdeal.nD → PrngReg), Pre_GdnInDxIdeal m →
    (∀ c : Dev Cert.GdnInDxIdeal.nD,
      m' ((c.tc : Thread Cert.GdnInDxReferenceIdeal.nD Cert.GdnInDxReferenceIdeal.τ).loc Cert.GdnInDxReferenceIdeal.main_arg0) = m ((c.tc : Thread Cert.GdnInDxIdeal.nD Cert.GdnInDxIdeal.τ).loc Cert.GdnInDxIdeal.main_arg0)
      ∧ m' ((c.tc : Thread Cert.GdnInDxReferenceIdeal.nD Cert.GdnInDxReferenceIdeal.τ).loc Cert.GdnInDxReferenceIdeal.main_arg1) = m ((c.tc : Thread Cert.GdnInDxIdeal.nD Cert.GdnInDxIdeal.τ).loc Cert.GdnInDxIdeal.main_arg1)) →
    ∃ (v0 : (c : Dev Cert.GdnInDxIdeal.nD) → Buf (Elt Ideal) ((c.tc : Thread Cert.GdnInDxIdeal.nD Cert.GdnInDxIdeal.τ).loc Cert.GdnInDxIdeal.main_v0)),
      θ_run (Cert.GdnInDxIdeal.defs (F := Ideal)) (onTc (τ := Cert.GdnInDxIdeal.τ) (Cert.GdnInDxIdeal.main (F := Ideal))) ⟨m, fun _ => 0, g⟩ (fun r => ∀ c : Dev Cert.GdnInDxIdeal.nD,
          r.2.mem ((c.tc : Thread Cert.GdnInDxIdeal.nD Cert.GdnInDxIdeal.τ).loc Cert.GdnInDxIdeal.main_v0) = v0 c
          ∧ r.2.mem ((c.tc : Thread Cert.GdnInDxIdeal.nD Cert.GdnInDxIdeal.τ).loc Cert.GdnInDxIdeal.main_arg0) = m ((c.tc : Thread Cert.GdnInDxIdeal.nD Cert.GdnInDxIdeal.τ).loc Cert.GdnInDxIdeal.main_arg0)
          ∧ r.2.mem ((c.tc : Thread Cert.GdnInDxIdeal.nD Cert.GdnInDxIdeal.τ).loc Cert.GdnInDxIdeal.main_arg1) = m ((c.tc : Thread Cert.GdnInDxIdeal.nD Cert.GdnInDxIdeal.τ).loc Cert.GdnInDxIdeal.main_arg1))
      ∧ θ_run (Cert.GdnInDxReferenceIdeal.defs (F := Ideal)) (onTc (τ := Cert.GdnInDxReferenceIdeal.τ) (Cert.GdnInDxReferenceIdeal.main (F := Ideal))) ⟨m', fun _ => 0, g'⟩ (fun r => ∀ c : Dev Cert.GdnInDxReferenceIdeal.nD,
          r.2.mem ((c.tc : Thread Cert.GdnInDxReferenceIdeal.nD Cert.GdnInDxReferenceIdeal.τ).loc Cert.GdnInDxReferenceIdeal.main_v2) = v0 c
          ∧ r.2.mem ((c.tc : Thread Cert.GdnInDxReferenceIdeal.nD Cert.GdnInDxReferenceIdeal.τ).loc Cert.GdnInDxReferenceIdeal.main_arg0) = m' ((c.tc : Thread Cert.GdnInDxReferenceIdeal.nD Cert.GdnInDxReferenceIdeal.τ).loc Cert.GdnInDxReferenceIdeal.main_arg0)
          ∧ r.2.mem ((c.tc : Thread Cert.GdnInDxReferenceIdeal.nD Cert.GdnInDxReferenceIdeal.τ).loc Cert.GdnInDxReferenceIdeal.main_arg1) = m' ((c.tc : Thread Cert.GdnInDxReferenceIdeal.nD Cert.GdnInDxReferenceIdeal.τ).loc Cert.GdnInDxReferenceIdeal.main_arg1))

def preserves_GdnInDw_GdnInDwIdeal : Prop :=
  True

def algebraic_GdnInDwIdeal_GdnInDwReferenceIdeal [hGdnInDwIdeal : Cert.GdnInDwIdeal.Facts] [hGdnInDwReferenceIdeal : Cert.GdnInDwReferenceIdeal.Facts] : Prop :=
  ∀ (m : (ℓ : Loc Cert.GdnInDwIdeal.nD Cert.GdnInDwIdeal.τ Cert.GdnInDwIdeal.sig) → Buf (Elt Ideal) ℓ) (g : Dev Cert.GdnInDwIdeal.nD → PrngReg)
    (m' : (ℓ : Loc Cert.GdnInDwReferenceIdeal.nD Cert.GdnInDwReferenceIdeal.τ Cert.GdnInDwReferenceIdeal.sig) → Buf (Elt Ideal) ℓ) (g' : Dev Cert.GdnInDwReferenceIdeal.nD → PrngReg), Pre_GdnInDwIdeal m →
    (∀ c : Dev Cert.GdnInDwIdeal.nD,
      m' ((c.tc : Thread Cert.GdnInDwReferenceIdeal.nD Cert.GdnInDwReferenceIdeal.τ).loc Cert.GdnInDwReferenceIdeal.main_arg0) = m ((c.tc : Thread Cert.GdnInDwIdeal.nD Cert.GdnInDwIdeal.τ).loc Cert.GdnInDwIdeal.main_arg0)
      ∧ m' ((c.tc : Thread Cert.GdnInDwReferenceIdeal.nD Cert.GdnInDwReferenceIdeal.τ).loc Cert.GdnInDwReferenceIdeal.main_arg1) = m ((c.tc : Thread Cert.GdnInDwIdeal.nD Cert.GdnInDwIdeal.τ).loc Cert.GdnInDwIdeal.main_arg1)) →
    ∃ (v0 : (c : Dev Cert.GdnInDwIdeal.nD) → Buf (Elt Ideal) ((c.tc : Thread Cert.GdnInDwIdeal.nD Cert.GdnInDwIdeal.τ).loc Cert.GdnInDwIdeal.main_v0)),
      θ_run (Cert.GdnInDwIdeal.defs (F := Ideal)) (onTc (τ := Cert.GdnInDwIdeal.τ) (Cert.GdnInDwIdeal.main (F := Ideal))) ⟨m, fun _ => 0, g⟩ (fun r => ∀ c : Dev Cert.GdnInDwIdeal.nD,
          r.2.mem ((c.tc : Thread Cert.GdnInDwIdeal.nD Cert.GdnInDwIdeal.τ).loc Cert.GdnInDwIdeal.main_v0) = v0 c
          ∧ r.2.mem ((c.tc : Thread Cert.GdnInDwIdeal.nD Cert.GdnInDwIdeal.τ).loc Cert.GdnInDwIdeal.main_arg0) = m ((c.tc : Thread Cert.GdnInDwIdeal.nD Cert.GdnInDwIdeal.τ).loc Cert.GdnInDwIdeal.main_arg0)
          ∧ r.2.mem ((c.tc : Thread Cert.GdnInDwIdeal.nD Cert.GdnInDwIdeal.τ).loc Cert.GdnInDwIdeal.main_arg1) = m ((c.tc : Thread Cert.GdnInDwIdeal.nD Cert.GdnInDwIdeal.τ).loc Cert.GdnInDwIdeal.main_arg1))
      ∧ θ_run (Cert.GdnInDwReferenceIdeal.defs (F := Ideal)) (onTc (τ := Cert.GdnInDwReferenceIdeal.τ) (Cert.GdnInDwReferenceIdeal.main (F := Ideal))) ⟨m', fun _ => 0, g'⟩ (fun r => ∀ c : Dev Cert.GdnInDwReferenceIdeal.nD,
          r.2.mem ((c.tc : Thread Cert.GdnInDwReferenceIdeal.nD Cert.GdnInDwReferenceIdeal.τ).loc Cert.GdnInDwReferenceIdeal.main_v1) = v0 c
          ∧ r.2.mem ((c.tc : Thread Cert.GdnInDwReferenceIdeal.nD Cert.GdnInDwReferenceIdeal.τ).loc Cert.GdnInDwReferenceIdeal.main_arg0) = m' ((c.tc : Thread Cert.GdnInDwReferenceIdeal.nD Cert.GdnInDwReferenceIdeal.τ).loc Cert.GdnInDwReferenceIdeal.main_arg0)
          ∧ r.2.mem ((c.tc : Thread Cert.GdnInDwReferenceIdeal.nD Cert.GdnInDwReferenceIdeal.τ).loc Cert.GdnInDwReferenceIdeal.main_arg1) = m' ((c.tc : Thread Cert.GdnInDwReferenceIdeal.nD Cert.GdnInDwReferenceIdeal.τ).loc Cert.GdnInDwReferenceIdeal.main_arg1))

def preserves_DswIn_DswInIdeal : Prop :=
  True

def algebraic_DswInIdeal_DswInReferenceIdeal [hDswInIdeal : Cert.DswInIdeal.Facts] [hDswInReferenceIdeal : Cert.DswInReferenceIdeal.Facts] : Prop :=
  ∀ (m : (ℓ : Loc Cert.DswInIdeal.nD Cert.DswInIdeal.τ Cert.DswInIdeal.sig) → Buf (Elt Ideal) ℓ) (g : Dev Cert.DswInIdeal.nD → PrngReg)
    (m' : (ℓ : Loc Cert.DswInReferenceIdeal.nD Cert.DswInReferenceIdeal.τ Cert.DswInReferenceIdeal.sig) → Buf (Elt Ideal) ℓ) (g' : Dev Cert.DswInReferenceIdeal.nD → PrngReg), Pre_DswInIdeal m →
    (∀ c : Dev Cert.DswInIdeal.nD,
      m' ((c.tc : Thread Cert.DswInReferenceIdeal.nD Cert.DswInReferenceIdeal.τ).loc Cert.DswInReferenceIdeal.main_arg0) = m ((c.tc : Thread Cert.DswInIdeal.nD Cert.DswInIdeal.τ).loc Cert.DswInIdeal.main_arg0)
      ∧ m' ((c.tc : Thread Cert.DswInReferenceIdeal.nD Cert.DswInReferenceIdeal.τ).loc Cert.DswInReferenceIdeal.main_arg1) = m ((c.tc : Thread Cert.DswInIdeal.nD Cert.DswInIdeal.τ).loc Cert.DswInIdeal.main_arg1)) →
    ∃ (v0 : (c : Dev Cert.DswInIdeal.nD) → Buf (Elt Ideal) ((c.tc : Thread Cert.DswInIdeal.nD Cert.DswInIdeal.τ).loc Cert.DswInIdeal.main_v0)),
      θ_run (Cert.DswInIdeal.defs (F := Ideal)) (onTc (τ := Cert.DswInIdeal.τ) (Cert.DswInIdeal.main (F := Ideal))) ⟨m, fun _ => 0, g⟩ (fun r => ∀ c : Dev Cert.DswInIdeal.nD,
          r.2.mem ((c.tc : Thread Cert.DswInIdeal.nD Cert.DswInIdeal.τ).loc Cert.DswInIdeal.main_v0) = v0 c
          ∧ r.2.mem ((c.tc : Thread Cert.DswInIdeal.nD Cert.DswInIdeal.τ).loc Cert.DswInIdeal.main_arg0) = m ((c.tc : Thread Cert.DswInIdeal.nD Cert.DswInIdeal.τ).loc Cert.DswInIdeal.main_arg0)
          ∧ r.2.mem ((c.tc : Thread Cert.DswInIdeal.nD Cert.DswInIdeal.τ).loc Cert.DswInIdeal.main_arg1) = m ((c.tc : Thread Cert.DswInIdeal.nD Cert.DswInIdeal.τ).loc Cert.DswInIdeal.main_arg1))
      ∧ θ_run (Cert.DswInReferenceIdeal.defs (F := Ideal)) (onTc (τ := Cert.DswInReferenceIdeal.τ) (Cert.DswInReferenceIdeal.main (F := Ideal))) ⟨m', fun _ => 0, g'⟩ (fun r => ∀ c : Dev Cert.DswInReferenceIdeal.nD,
          r.2.mem ((c.tc : Thread Cert.DswInReferenceIdeal.nD Cert.DswInReferenceIdeal.τ).loc Cert.DswInReferenceIdeal.main_v10) = v0 c
          ∧ r.2.mem ((c.tc : Thread Cert.DswInReferenceIdeal.nD Cert.DswInReferenceIdeal.τ).loc Cert.DswInReferenceIdeal.main_arg0) = m' ((c.tc : Thread Cert.DswInReferenceIdeal.nD Cert.DswInReferenceIdeal.τ).loc Cert.DswInReferenceIdeal.main_arg0)
          ∧ r.2.mem ((c.tc : Thread Cert.DswInReferenceIdeal.nD Cert.DswInReferenceIdeal.τ).loc Cert.DswInReferenceIdeal.main_arg1) = m' ((c.tc : Thread Cert.DswInReferenceIdeal.nD Cert.DswInReferenceIdeal.τ).loc Cert.DswInReferenceIdeal.main_arg1))

def preserves_GdnIn_GdnInIdeal : Prop :=
  True

def algebraic_GdnInIdeal_GdnInReferenceIdeal [hGdnInIdeal : Cert.GdnInIdeal.Facts] [hGdnInReferenceIdeal : Cert.GdnInReferenceIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInReferenceIdeal.nD Cert.GdnInReferenceIdeal.τ Cert.GdnInReferenceIdeal.sig) → Buf (Elt Ideal) ℓ) (g' : Dev Cert.GdnInReferenceIdeal.nD → PrngReg), Pre_GdnInIdeal m →
    (∀ c : Dev Cert.GdnInIdeal.nD,
      m' ((c.tc : Thread Cert.GdnInReferenceIdeal.nD Cert.GdnInReferenceIdeal.τ).loc Cert.GdnInReferenceIdeal.main_arg0) = m ((c.tc : Thread Cert.GdnInIdeal.nD Cert.GdnInIdeal.τ).loc Cert.GdnInIdeal.main_arg0)
      ∧ m' ((c.tc : Thread Cert.GdnInReferenceIdeal.nD Cert.GdnInReferenceIdeal.τ).loc Cert.GdnInReferenceIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v0)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v0) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInReferenceIdeal.defs (F := Ideal)) (onTc (τ := Cert.GdnInReferenceIdeal.τ) (Cert.GdnInReferenceIdeal.main (F := Ideal))) ⟨m', fun _ => 0, g'⟩ (fun r => ∀ c : Dev Cert.GdnInReferenceIdeal.nD,
          r.2.mem ((c.tc : Thread Cert.GdnInReferenceIdeal.nD Cert.GdnInReferenceIdeal.τ).loc Cert.GdnInReferenceIdeal.main_v1) = v0 c
          ∧ r.2.mem ((c.tc : Thread Cert.GdnInReferenceIdeal.nD Cert.GdnInReferenceIdeal.τ).loc Cert.GdnInReferenceIdeal.main_arg0) = m' ((c.tc : Thread Cert.GdnInReferenceIdeal.nD Cert.GdnInReferenceIdeal.τ).loc Cert.GdnInReferenceIdeal.main_arg0)
          ∧ r.2.mem ((c.tc : Thread Cert.GdnInReferenceIdeal.nD Cert.GdnInReferenceIdeal.τ).loc Cert.GdnInReferenceIdeal.main_arg1) = m' ((c.tc : Thread Cert.GdnInReferenceIdeal.nD Cert.GdnInReferenceIdeal.τ).loc Cert.GdnInReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v1) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1))

def preserves_GdnOut_GdnOutIdeal : Prop :=
  True

def algebraic_GdnOutIdeal_GdnOutReferenceIdeal [hGdnOutIdeal : Cert.GdnOutIdeal.Facts] [hGdnOutReferenceIdeal : Cert.GdnOutReferenceIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutIdeal m →
    (∀ c : Dev Cert.GdnOutIdeal.nD,
      m' ((c.tc : Thread Cert.GdnOutReferenceIdeal.nD Cert.GdnOutReferenceIdeal.τ).loc Cert.GdnOutReferenceIdeal.main_arg0) = m ((c.tc : Thread Cert.GdnOutIdeal.nD Cert.GdnOutIdeal.τ).loc Cert.GdnOutIdeal.main_arg0)
      ∧ m' ((c.tc : Thread Cert.GdnOutReferenceIdeal.nD Cert.GdnOutReferenceIdeal.τ).loc Cert.GdnOutReferenceIdeal.main_arg1) = m ((c.tc : Thread Cert.GdnOutIdeal.nD Cert.GdnOutIdeal.τ).loc Cert.GdnOutIdeal.main_arg1)) →
    ∃ (v0 : (c : Dev Cert.GdnOutIdeal.nD) → Buf (Elt Ideal) ((c.tc : Thread Cert.GdnOutIdeal.nD Cert.GdnOutIdeal.τ).loc Cert.GdnOutIdeal.main_v0)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v0) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v1) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1))

def preserves_GdnOutDx_GdnOutDxIdeal : Prop :=
  True

def algebraic_GdnOutDxIdeal_GdnOutDxReferenceIdeal [hGdnOutDxIdeal : Cert.GdnOutDxIdeal.Facts] [hGdnOutDxReferenceIdeal : Cert.GdnOutDxReferenceIdeal.Facts] : Prop :=
  ∀ (m : (ℓ : Loc Cert.GdnOutDxIdeal.nD Cert.GdnOutDxIdeal.τ Cert.GdnOutDxIdeal.sig) → Buf (Elt Ideal) ℓ) (g : Dev Cert.GdnOutDxIdeal.nD → PrngReg)
    (m' : (ℓ : Loc Cert.GdnOutDxReferenceIdeal.nD Cert.GdnOutDxReferenceIdeal.τ Cert.GdnOutDxReferenceIdeal.sig) → Buf (Elt Ideal) ℓ) (g' : Dev Cert.GdnOutDxReferenceIdeal.nD → PrngReg), Pre_GdnOutDxIdeal m →
    (∀ c : Dev Cert.GdnOutDxIdeal.nD,
      m' ((c.tc : Thread Cert.GdnOutDxReferenceIdeal.nD Cert.GdnOutDxReferenceIdeal.τ).loc Cert.GdnOutDxReferenceIdeal.main_arg0) = m ((c.tc : Thread Cert.GdnOutDxIdeal.nD Cert.GdnOutDxIdeal.τ).loc Cert.GdnOutDxIdeal.main_arg0)
      ∧ m' ((c.tc : Thread Cert.GdnOutDxReferenceIdeal.nD Cert.GdnOutDxReferenceIdeal.τ).loc Cert.GdnOutDxReferenceIdeal.main_arg1) = m ((c.tc : Thread Cert.GdnOutDxIdeal.nD Cert.GdnOutDxIdeal.τ).loc Cert.GdnOutDxIdeal.main_arg1)) →
    ∃ (v0 : (c : Dev Cert.GdnOutDxIdeal.nD) → Buf (Elt Ideal) ((c.tc : Thread Cert.GdnOutDxIdeal.nD Cert.GdnOutDxIdeal.τ).loc Cert.GdnOutDxIdeal.main_v0)),
      θ_run (Cert.GdnOutDxIdeal.defs (F := Ideal)) (onTc (τ := Cert.GdnOutDxIdeal.τ) (Cert.GdnOutDxIdeal.main (F := Ideal))) ⟨m, fun _ => 0, g⟩ (fun r => ∀ c : Dev Cert.GdnOutDxIdeal.nD,
          r.2.mem ((c.tc : Thread Cert.GdnOutDxIdeal.nD Cert.GdnOutDxIdeal.τ).loc Cert.GdnOutDxIdeal.main_v0) = v0 c
          ∧ r.2.mem ((c.tc : Thread Cert.GdnOutDxIdeal.nD Cert.GdnOutDxIdeal.τ).loc Cert.GdnOutDxIdeal.main_arg0) = m ((c.tc : Thread Cert.GdnOutDxIdeal.nD Cert.GdnOutDxIdeal.τ).loc Cert.GdnOutDxIdeal.main_arg0)
          ∧ r.2.mem ((c.tc : Thread Cert.GdnOutDxIdeal.nD Cert.GdnOutDxIdeal.τ).loc Cert.GdnOutDxIdeal.main_arg1) = m ((c.tc : Thread Cert.GdnOutDxIdeal.nD Cert.GdnOutDxIdeal.τ).loc Cert.GdnOutDxIdeal.main_arg1))
      ∧ θ_run (Cert.GdnOutDxReferenceIdeal.defs (F := Ideal)) (onTc (τ := Cert.GdnOutDxReferenceIdeal.τ) (Cert.GdnOutDxReferenceIdeal.main (F := Ideal))) ⟨m', fun _ => 0, g'⟩ (fun r => ∀ c : Dev Cert.GdnOutDxReferenceIdeal.nD,
          r.2.mem ((c.tc : Thread Cert.GdnOutDxReferenceIdeal.nD Cert.GdnOutDxReferenceIdeal.τ).loc Cert.GdnOutDxReferenceIdeal.main_v2) = v0 c
          ∧ r.2.mem ((c.tc : Thread Cert.GdnOutDxReferenceIdeal.nD Cert.GdnOutDxReferenceIdeal.τ).loc Cert.GdnOutDxReferenceIdeal.main_arg0) = m' ((c.tc : Thread Cert.GdnOutDxReferenceIdeal.nD Cert.GdnOutDxReferenceIdeal.τ).loc Cert.GdnOutDxReferenceIdeal.main_arg0)
          ∧ r.2.mem ((c.tc : Thread Cert.GdnOutDxReferenceIdeal.nD Cert.GdnOutDxReferenceIdeal.τ).loc Cert.GdnOutDxReferenceIdeal.main_arg1) = m' ((c.tc : Thread Cert.GdnOutDxReferenceIdeal.nD Cert.GdnOutDxReferenceIdeal.τ).loc Cert.GdnOutDxReferenceIdeal.main_arg1))

def Claim : Prop :=
  ∃ (hKernel : Cert.Kernel.Facts) (hKernelIdeal : Cert.KernelIdeal.Facts) (hReferenceIdeal : Cert.ReferenceIdeal.Facts) (hFfnInDx : Cert.FfnInDx.Facts) (hFfnInDxIdeal : Cert.FfnInDxIdeal.Facts) (hFfnInDxReferenceIdeal : Cert.FfnInDxReferenceIdeal.Facts) (hFfnInDw : Cert.FfnInDw.Facts) (hFfnInDwIdeal : Cert.FfnInDwIdeal.Facts) (hFfnInDwReferenceIdeal : Cert.FfnInDwReferenceIdeal.Facts) (hFfnOutDw : Cert.FfnOutDw.Facts) (hFfnOutDwIdeal : Cert.FfnOutDwIdeal.Facts) (hFfnOutDwReferenceIdeal : Cert.FfnOutDwReferenceIdeal.Facts) (hDswInDx : Cert.DswInDx.Facts) (hDswInDxIdeal : Cert.DswInDxIdeal.Facts) (hDswInDxReferenceIdeal : Cert.DswInDxReferenceIdeal.Facts) (hDswInDw : Cert.DswInDw.Facts) (hDswInDwIdeal : Cert.DswInDwIdeal.Facts) (hDswInDwReferenceIdeal : Cert.DswInDwReferenceIdeal.Facts) (hGdnInDx : Cert.GdnInDx.Facts) (hGdnInDxIdeal : Cert.GdnInDxIdeal.Facts) (hGdnInDxReferenceIdeal : Cert.GdnInDxReferenceIdeal.Facts) (hGdnInDw : Cert.GdnInDw.Facts) (hGdnInDwIdeal : Cert.GdnInDwIdeal.Facts) (hGdnInDwReferenceIdeal : Cert.GdnInDwReferenceIdeal.Facts) (hDswIn : Cert.DswIn.Facts) (hDswInIdeal : Cert.DswInIdeal.Facts) (hDswInReferenceIdeal : Cert.DswInReferenceIdeal.Facts) (hGdnIn : Cert.GdnIn.Facts) (hGdnInIdeal : Cert.GdnInIdeal.Facts) (hGdnInReferenceIdeal : Cert.GdnInReferenceIdeal.Facts) (hFfnOut : Cert.FfnOut.Facts) (hFfnOutIdeal : Cert.FfnOutIdeal.Facts) (hFfnOutReferenceIdeal : Cert.FfnOutReferenceIdeal.Facts) (hGdnOut : Cert.GdnOut.Facts) (hGdnOutIdeal : Cert.GdnOutIdeal.Facts) (hGdnOutReferenceIdeal : Cert.GdnOutReferenceIdeal.Facts) (hGdnOutDx : Cert.GdnOutDx.Facts) (hGdnOutDxIdeal : Cert.GdnOutDxIdeal.Facts) (hGdnOutDxReferenceIdeal : Cert.GdnOutDxReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_FfnInDx (hFfnInDx := hFfnInDx)
    ∧ quiescent_FfnInDxIdeal (hFfnInDxIdeal := hFfnInDxIdeal)
    ∧ quiescent_FfnInDxReferenceIdeal (hFfnInDxReferenceIdeal := hFfnInDxReferenceIdeal)
    ∧ quiescent_FfnInDw (hFfnInDw := hFfnInDw)
    ∧ quiescent_FfnInDwIdeal (hFfnInDwIdeal := hFfnInDwIdeal)
    ∧ quiescent_FfnInDwReferenceIdeal (hFfnInDwReferenceIdeal := hFfnInDwReferenceIdeal)
    ∧ quiescent_FfnOutDw (hFfnOutDw := hFfnOutDw)
    ∧ quiescent_FfnOutDwIdeal (hFfnOutDwIdeal := hFfnOutDwIdeal)
    ∧ quiescent_FfnOutDwReferenceIdeal (hFfnOutDwReferenceIdeal := hFfnOutDwReferenceIdeal)
    ∧ quiescent_DswInDx (hDswInDx := hDswInDx)
    ∧ quiescent_DswInDxIdeal (hDswInDxIdeal := hDswInDxIdeal)
    ∧ quiescent_DswInDxReferenceIdeal (hDswInDxReferenceIdeal := hDswInDxReferenceIdeal)
    ∧ quiescent_DswInDw (hDswInDw := hDswInDw)
    ∧ quiescent_DswInDwIdeal (hDswInDwIdeal := hDswInDwIdeal)
    ∧ quiescent_DswInDwReferenceIdeal (hDswInDwReferenceIdeal := hDswInDwReferenceIdeal)
    ∧ quiescent_GdnInDx (hGdnInDx := hGdnInDx)
    ∧ quiescent_GdnInDxIdeal (hGdnInDxIdeal := hGdnInDxIdeal)
    ∧ quiescent_GdnInDxReferenceIdeal (hGdnInDxReferenceIdeal := hGdnInDxReferenceIdeal)
    ∧ quiescent_GdnInDw (hGdnInDw := hGdnInDw)
    ∧ quiescent_GdnInDwIdeal (hGdnInDwIdeal := hGdnInDwIdeal)
    ∧ quiescent_GdnInDwReferenceIdeal (hGdnInDwReferenceIdeal := hGdnInDwReferenceIdeal)
    ∧ quiescent_DswIn (hDswIn := hDswIn)
    ∧ quiescent_DswInIdeal (hDswInIdeal := hDswInIdeal)
    ∧ quiescent_DswInReferenceIdeal (hDswInReferenceIdeal := hDswInReferenceIdeal)
    ∧ quiescent_GdnIn (hGdnIn := hGdnIn)
    ∧ quiescent_GdnInIdeal (hGdnInIdeal := hGdnInIdeal)
    ∧ quiescent_GdnInReferenceIdeal (hGdnInReferenceIdeal := hGdnInReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_GdnOut (hGdnOut := hGdnOut)
    ∧ quiescent_GdnOutIdeal (hGdnOutIdeal := hGdnOutIdeal)
    ∧ quiescent_GdnOutReferenceIdeal (hGdnOutReferenceIdeal := hGdnOutReferenceIdeal)
    ∧ quiescent_GdnOutDx (hGdnOutDx := hGdnOutDx)
    ∧ quiescent_GdnOutDxIdeal (hGdnOutDxIdeal := hGdnOutDxIdeal)
    ∧ quiescent_GdnOutDxReferenceIdeal (hGdnOutDxReferenceIdeal := hGdnOutDxReferenceIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_FfnInDx_FfnInDxIdeal
    ∧ algebraic_FfnInDxIdeal_FfnInDxReferenceIdeal (hFfnInDxIdeal := hFfnInDxIdeal) (hFfnInDxReferenceIdeal := hFfnInDxReferenceIdeal)
    ∧ preserves_FfnInDw_FfnInDwIdeal
    ∧ algebraic_FfnInDwIdeal_FfnInDwReferenceIdeal (hFfnInDwIdeal := hFfnInDwIdeal) (hFfnInDwReferenceIdeal := hFfnInDwReferenceIdeal)
    ∧ preserves_FfnOutDw_FfnOutDwIdeal
    ∧ algebraic_FfnOutDwIdeal_FfnOutDwReferenceIdeal (hFfnOutDwIdeal := hFfnOutDwIdeal) (hFfnOutDwReferenceIdeal := hFfnOutDwReferenceIdeal)
    ∧ preserves_DswInDx_DswInDxIdeal
    ∧ algebraic_DswInDxIdeal_DswInDxReferenceIdeal (hDswInDxIdeal := hDswInDxIdeal) (hDswInDxReferenceIdeal := hDswInDxReferenceIdeal)
    ∧ preserves_DswInDw_DswInDwIdeal
    ∧ algebraic_DswInDwIdeal_DswInDwReferenceIdeal (hDswInDwIdeal := hDswInDwIdeal) (hDswInDwReferenceIdeal := hDswInDwReferenceIdeal)
    ∧ preserves_GdnInDx_GdnInDxIdeal
    ∧ algebraic_GdnInDxIdeal_GdnInDxReferenceIdeal (hGdnInDxIdeal := hGdnInDxIdeal) (hGdnInDxReferenceIdeal := hGdnInDxReferenceIdeal)
    ∧ preserves_GdnInDw_GdnInDwIdeal
    ∧ algebraic_GdnInDwIdeal_GdnInDwReferenceIdeal (hGdnInDwIdeal := hGdnInDwIdeal) (hGdnInDwReferenceIdeal := hGdnInDwReferenceIdeal)
    ∧ preserves_DswIn_DswInIdeal
    ∧ algebraic_DswInIdeal_DswInReferenceIdeal (hDswInIdeal := hDswInIdeal) (hDswInReferenceIdeal := hDswInReferenceIdeal)
    ∧ preserves_GdnIn_GdnInIdeal
    ∧ algebraic_GdnInIdeal_GdnInReferenceIdeal (hGdnInIdeal := hGdnInIdeal) (hGdnInReferenceIdeal := hGdnInReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_GdnOut_GdnOutIdeal
    ∧ algebraic_GdnOutIdeal_GdnOutReferenceIdeal (hGdnOutIdeal := hGdnOutIdeal) (hGdnOutReferenceIdeal := hGdnOutReferenceIdeal)
    ∧ preserves_GdnOutDx_GdnOutDxIdeal
    ∧ algebraic_GdnOutDxIdeal_GdnOutDxReferenceIdeal (hGdnOutDxIdeal := hGdnOutDxIdeal) (hGdnOutDxReferenceIdeal := hGdnOutDxReferenceIdeal)
-- ==== Pre_all_finite.lean ====
abbrev S1x8192x512 : Shape := ⟨3, ![1, 8192, 512]⟩
abbrev S24x128x256 : Shape := ⟨3, ![24, 128, 256]⟩
abbrev S8192x8x64 : Shape := ⟨3, ![8192, 8, 64]⟩
abbrev S8192x8 : Shape := ⟨2, ![8192, 8]⟩
abbrev S_ : Shape := ⟨0, ![]⟩

class Facts : Prop where
  bcast_S_S1x8192x512 : S_.BroadcastsInDim S1x8192x512 (![] : Fin 0 → Fin S1x8192x512.rank)
  bcast_S_S24x128x256 : S_.BroadcastsInDim S24x128x256 (![] : Fin 0 → Fin S24x128x256.rank)
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn_part1 {F : FTy → Type} [FloatOps F] (main_arg6 : FVec F S8192x8x64 .f32) (main_arg7 : FVec F S8192x8 .f32) (main_arg8 : FVec F S1x8192x512 .f32) (main_v2 : IVec S1x8192x512 1) (main_v5 : IVec S1x8192x512 1) (main_v8 : IVec S1x8192x512 1) (main_v11 : IVec S24x128x256 1) (main_v14 : IVec S8192x8x64 1) (main_v17 : IVec S8192x8 1) : IVec S1x8192x512 1 × IVec S1x8192x512 1 × IVec S1x8192x512 1 × IVec S24x128x256 1 × IVec S8192x8x64 1 × IVec S8192x8 1 × IVec S8192x8x64 1 × IVec S8192x8 1 × IVec S1x8192x512 1 :=
  let main_v18 : FVec F S8192x8x64 .f32 := Host.absf main_arg6
  let main_cst_5 : FVec F S_ .f32 := constant S_ .f32 0x7F800000#32
  let main_v19 : FVec F S8192x8x64 .f32 := broadcastInDim S8192x8x64 ![] bcast_S_S8192x8x64 main_cst_5
  let main_v20 : IVec S8192x8x64 1 := cmpf .olt main_v18 main_v19
  let main_v21 : FVec F S8192x8 .f32 := Host.absf main_arg7
  let main_cst_6 : FVec F S_ .f32 := constant S_ .f32 0x7F800000#32
  let main_v22 : FVec F S8192x8 .f32 := broadcastInDim S8192x8 ![] bcast_S_S8192x8 main_cst_6
  let main_v23 : IVec S8192x8 1 := cmpf .olt main_v21 main_v22
  let main_v24 : FVec F S1x8192x512 .f32 := Host.absf main_arg8
  let main_cst_7 : FVec F S_ .f32 := constant S_ .f32 0x7F800000#32
  let main_v25 : FVec F S1x8192x512 .f32 := broadcastInDim S1x8192x512 ![] bcast_S_S1x8192x512 main_cst_7
  let main_v26 : IVec S1x8192x512 1 := cmpf .olt main_v24 main_v25
  (main_v2, main_v5, main_v8, main_v11, main_v14, main_v17, main_v20, main_v23, main_v26)

def fn {F : FTy → Type} [FloatOps F] (main_arg0 : FVec F S1x8192x512 .f32) (main_arg1 : FVec F S1x8192x512 .f32) (main_arg2 : FVec F S1x8192x512 .f32) (main_arg3 : FVec F S24x128x256 .f32) (main_arg4 : FVec F S8192x8x64 .f32) (main_arg5 : FVec F S8192x8 .f32) (main_arg6 : FVec F S8192x8x64 .f32) (main_arg7 : FVec F S8192x8 .f32) (main_arg8 : FVec F S1x8192x512 .f32) : IVec S1x8192x512 1 × IVec S1x8192x512 1 × IVec S1x8192x512 1 × IVec S24x128x256 1 × IVec S8192x8x64 1 × IVec S8192x8 1 × IVec S8192x8x64 1 × IVec S8192x8 1 × IVec S1x8192x512 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_v3 : FVec F S1x8192x512 .f32 := Host.absf main_arg1
  let main_cst_0 : FVec F S_ .f32 := constant S_ .f32 0x7F800000#32
  let main_v4 : FVec F S1x8192x512 .f32 := broadcastInDim S1x8192x512 ![] bcast_S_S1x8192x512 main_cst_0
  let main_v5 : IVec S1x8192x512 1 := cmpf .olt main_v3 main_v4
  let main_v6 : FVec F S1x8192x512 .f32 := Host.absf main_arg2
  let main_cst_1 : FVec F S_ .f32 := constant S_ .f32 0x7F800000#32
  let main_v7 : FVec F S1x8192x512 .f32 := broadcastInDim S1x8192x512 ![] bcast_S_S1x8192x512 main_cst_1
  let main_v8 : IVec S1x8192x512 1 := cmpf .olt main_v6 main_v7
  let main_v9 : FVec F S24x128x256 .f32 := Host.absf main_arg3
  let main_cst_2 : FVec F S_ .f32 := constant S_ .f32 0x7F800000#32
  let main_v10 : FVec F S24x128x256 .f32 := broadcastInDim S24x128x256 ![] bcast_S_S24x128x256 main_cst_2
  let main_v11 : IVec S24x128x256 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  let main_v15 : FVec F S8192x8 .f32 := Host.absf main_arg5
  let main_cst_4 : FVec F S_ .f32 := constant S_ .f32 0x7F800000#32
  let main_v16 : FVec F S8192x8 .f32 := broadcastInDim S8192x8 ![] bcast_S_S8192x8 main_cst_4
  let main_v17 : IVec S8192x8 1 := cmpf .olt main_v15 main_v16
  fn_part1 (F := F) main_arg6 main_arg7 main_arg8 main_v2 main_v5 main_v8 main_v11 main_v14 main_v17
-- ==== Kernel.lean ====
abbrev S1x8192x512 : Shape := ⟨3, ![1, 8192, 512]⟩
abbrev S24x128x256 : Shape := ⟨3, ![24, 128, 256]⟩
abbrev S8192x8x64 : Shape := ⟨3, ![8192, 8, 64]⟩
abbrev S8192x8 : Shape := ⟨2, ![8192, 8]⟩
abbrev S8x128x256 : Shape := ⟨3, ![8, 128, 256]⟩
abbrev S64x128x8x64 : Shape := ⟨4, ![64, 128, 8, 64]⟩
abbrev S1x128x8x64 : Shape := ⟨4, ![1, 128, 8, 64]⟩
abbrev S_ : Shape := ⟨0, ![]⟩
abbrev S63x128x8x64 : Shape := ⟨4, ![63, 128, 8, 64]⟩
abbrev S64x256x8x64 : Shape := ⟨4, ![64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S64x8x128x256 : Shape := ⟨4, ![64, 8, 128, 256]⟩
abbrev S1x8x128x256 : Shape := ⟨4, ![1, 8, 128, 256]⟩
abbrev S64x1x128x256 : Shape := ⟨4, ![64, 1, 128, 256]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S64x128x8 : Shape := ⟨3, ![64, 128, 8]⟩
abbrev S8192x8x1 : Shape := ⟨3, ![8192, 8, 1]⟩
abbrev S8192x8x32 : Shape := ⟨3, ![8192, 8, 32]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S256x128 : Shape := ⟨2, ![256, 128]⟩

abbrev nBuf : Space → Nat
  | .hbm => 151
  | .vmem => 22
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S24x128x256, .f32⟩
  | 4 => ⟨S8192x8x64, .f32⟩
  | 5 => ⟨S8192x8, .f32⟩
  | 6 => ⟨S8192x8x64, .f32⟩
  | 7 => ⟨S8192x8, .f32⟩
  | 8 => ⟨S1x8192x512, .f32⟩
  | 9 => ⟨S8x128x256, .f32⟩
  | 10 => ⟨S64x128x8x64, .f32⟩
  | 11 => ⟨S64x128x8x64, .f32⟩
  | 12 => ⟨S64x128x8x64, .f32⟩
  | 13 => ⟨S1x128x8x64, .f32⟩
  | 14 => ⟨S_, .f32⟩
  | 15 => ⟨S1x128x8x64, .f32⟩
  | 16 => ⟨S63x128x8x64, .f32⟩
  | 17 => ⟨S64x128x8x64, .f32⟩
  | 18 => ⟨S64x256x8x64, .f32⟩
  | 19 => ⟨S1x128x8x64, .f32⟩
  | 20 => ⟨S_, .f32⟩
  | 21 => ⟨S1x128x8x64, .f32⟩
  | 22 => ⟨S63x128x8x64, .f32⟩
  | 23 => ⟨S64x128x8x64, .f32⟩
  | 24 => ⟨S64x256x8x64, .f32⟩
  | 25 => ⟨S128, .i32⟩
  | 26 => ⟨S128x1, .i32⟩
  | 27 => ⟨S_, .i32⟩
  | 28 => ⟨S128x1, .i32⟩
  | 29 => ⟨S128x1, .i32⟩
  | 30 => ⟨S256, .i32⟩
  | 31 => ⟨S1x256, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S1x128x256, .i1⟩
  | 43 => ⟨S64, .i32⟩
  | 44 => ⟨S_, .i32⟩
  | 45 => ⟨S64, .i32⟩
  | 46 => ⟨S64, .i1⟩
  | 47 => ⟨S64x1x1, .i1⟩
  | 48 => ⟨S_, .i32⟩
  | 49 => ⟨S1x256, .i32⟩
  | 50 => ⟨S1x256, .i1⟩
  | 51 => ⟨S1x1x256, .i1⟩
  | 52 => ⟨S64x1x256, .i1⟩
  | 53 => ⟨S64x1x256, .i1⟩
  | 54 => ⟨S64x1x256, .i1⟩
  | 55 => ⟨S64x128x256, .i1⟩
  | 56 => ⟨S64x128x256, .i1⟩
  | 57 => ⟨S64x128x256, .i1⟩
  | 58 => ⟨S64x8x128x256, .f32⟩
  | 59 => ⟨S1x8x128x256, .f32⟩
  | 60 => ⟨S64x8x128x256, .f32⟩
  | 61 => ⟨S64x8x128x256, .f32⟩
  | 62 => ⟨S64x1x128x256, .i1⟩
  | 63 => ⟨S_, .f32⟩
  | 64 => ⟨S_, .f32⟩
  | 65 => ⟨S64x8x128x256, .i1⟩
  | 66 => ⟨S64x8x128x256, .f32⟩
  | 67 => ⟨S64x8x128x256, .f32⟩
  | 68 => ⟨S_, .f32⟩
  | 69 => ⟨S64x8x128, .f32⟩
  | 70 => ⟨S64x8x128x1, .f32⟩
  | 71 => ⟨S64x8x128x256, .f32⟩
  | 72 => ⟨S64x8x128x256, .f32⟩
  | 73 => ⟨S64x8x128x256, .f32⟩
  | 74 => ⟨S_, .f32⟩
  | 75 => ⟨S64x8x128, .f32⟩
  | 76 => ⟨S64x8x128x1, .f32⟩
  | 77 => ⟨S64x8x128x256, .f32⟩
  | 78 => ⟨S64x8x128x256, .f32⟩
  | 79 => ⟨S64x8x64x128, .f32⟩
  | 80 => ⟨S64x128x8x64, .f32⟩
  | 81 => ⟨S64x8x128x1, .f32⟩
  | 82 => ⟨S64x8x128x1, .f32⟩
  | 83 => ⟨S64x8x128, .f32⟩
  | 84 => ⟨S8192x8x64, .f32⟩
  | 85 => ⟨S64x128x8, .f32⟩
  | 86 => ⟨S8192x8, .f32⟩
  | 87 => ⟨S8192x8, .f32⟩
  | 88 => ⟨S8192x8, .f32⟩
  | 89 => ⟨S8192x8, .f32⟩
  | 90 => ⟨S8192x8, .f32⟩
  | 91 => ⟨S8192x8, .f32⟩
  | 92 => ⟨S8192x8, .f32⟩
  | 93 => ⟨S8192x8, .f32⟩
  | 94 => ⟨S8192x8, .f32⟩
  | 95 => ⟨S8192x8, .f32⟩
  | 96 => ⟨S8192x8, .f32⟩
  | 97 => ⟨S8192x8x1, .f32⟩
  | 98 => ⟨S8192x8x64, .f32⟩
  | 99 => ⟨S8192x8x64, .f32⟩
  | 100 => ⟨S8192x8x1, .f32⟩
  | 101 => ⟨S8192x8x64, .f32⟩
  | 102 => ⟨S8192x8x64, .f32⟩
  | 103 => ⟨S8192x8x64, .f32⟩
  | 104 => ⟨S8192x8x1, .f32⟩
  | 105 => ⟨S8192x8x64, .f32⟩
  | 106 => ⟨S8192x8x64, .f32⟩
  | 107 => ⟨S8192x8x64, .f32⟩
  | 108 => ⟨S8192x8x1, .f32⟩
  | 109 => ⟨S8192x8x64, .f32⟩
  | 110 => ⟨S8192x8x64, .f32⟩
  | 111 => ⟨S8192x8, .f32⟩
  | 112 => ⟨S8192x8, .f32⟩
  | 113 => ⟨S8192x8x64, .f32⟩
  | 114 => ⟨S8192x8, .f32⟩
  | 115 => ⟨S8192x8x1, .f32⟩
  | 116 => ⟨S8192x8x32, .f32⟩
  | 117 => ⟨S8192x8x1, .f32⟩
  | 118 => ⟨S8192x8x32, .f32⟩
  | 119 => ⟨S8192x8x64, .f32⟩
  | 120 => ⟨S1x8192x512, .f32⟩
  | 121 => ⟨S128, .i32⟩
  | 122 => ⟨S128x1, .i32⟩
  | 123 => ⟨S_, .i32⟩
  | 124 => ⟨S128x1, .i32⟩
  | 125 => ⟨S128x1, .i32⟩
  | 126 => ⟨S256, .i32⟩
  | 127 => ⟨S1x256, .i32⟩
  | _ => ⟨S1x8192x512, .f32⟩

abbrev hbmTy0_1 (i : Nat) : BufTy := match i % 128 with
  | 0 => ⟨S128x256, .i32⟩
  | 1 => ⟨S128x256, .i32⟩
  | 2 => ⟨S128x256, .i32⟩
  | 3 => ⟨S_, .i32⟩
  | 4 => ⟨S128x256, .i32⟩
  | 5 => ⟨S128x256, .i1⟩
  | 6 => ⟨S_, .i32⟩
  | 7 => ⟨S128x256, .i32⟩
  | 8 => ⟨S128x256, .i1⟩
  | 9 => ⟨S128x256, .i1⟩
  | 10 => ⟨S_, .f32⟩
  | 11 => ⟨S_, .f32⟩
  | 12 => ⟨S24x128x256, .i1⟩
  | 13 => ⟨S24x128x256, .f32⟩
  | 14 => ⟨S24x128x256, .f32⟩
  | 15 => ⟨S1x8192x512, .bf16⟩
  | 16 => ⟨S1x8192x512, .bf16⟩
  | 17 => ⟨S1x8192x512, .bf16⟩
  | 18 => ⟨S1x8192x512, .bf16⟩
  | 19 => ⟨S1x8192x512, .f32⟩
  | 20 => ⟨S1x8192x512, .f32⟩
  | 21 => ⟨S1x8192x512, .bf16⟩
  | 22 => ⟨S8x128x256, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S8x128x256, .f32⟩
  | .local _ .vmem, ⟨7, _⟩ => ⟨S1x128x512, .bf16⟩
  | .local _ .vmem, ⟨8, _⟩ => ⟨S1x128x512, .bf16⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .bf16⟩
  | .local _ .vmem, ⟨16, _⟩ => ⟨S1x128x512, .bf16⟩
  | .local _ .vmem, ⟨17, _⟩ => ⟨S8x128x256, .f32⟩
  | .local _ .vmem, ⟨18, _⟩ => ⟨S128x512, .bf16⟩
  | .local _ .vmem, ⟨19, _⟩ => ⟨S128x512, .bf16⟩
  | .local _ .vmem, ⟨20, _⟩ => ⟨S128x512, .f32⟩
  | .local _ .vmem, ⟨21, _⟩ => ⟨S128x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_8 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_c_9 : Ref sig .tc := ⟨.hbm, 131, rfl⟩
abbrev main_v108 : Ref sig .tc := ⟨.hbm, 132, rfl⟩
abbrev main_v109 : Ref sig .tc := ⟨.hbm, 133, rfl⟩
abbrev main_c_10 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_11 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118_0 : Ref sig .tc := ⟨.hbm, 147, rfl⟩
abbrev main_v118_1 : Ref sig .tc := ⟨.hbm, 148, rfl⟩
abbrev main_v118_2 : Ref sig .tc := ⟨.hbm, 149, rfl⟩
abbrev main_v118_3 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 65], ![false, false]⟩

def k0_cond3 (i : grid0.Coords) : BitVec 1 :=
  let arg1 : BitVec 32 := BitVec.ofNat 32 (i 1).val
  let c64_i32 : BitVec 32 := 64#32
  let v8 : BitVec 1 := Scalar.cmpi .slt arg1 c64_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c64_i32_5 : BitVec 32 := 64#32
  let v11 : BitVec 1 := Scalar.cmpi .eq arg1 c64_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S1x8192x512 : Shape := ⟨3, ![1, 8192, 512]⟩
abbrev S24x128x256 : Shape := ⟨3, ![24, 128, 256]⟩
abbrev S8192x8x64 : Shape := ⟨3, ![8192, 8, 64]⟩
abbrev S8192x8 : Shape := ⟨2, ![8192, 8]⟩
abbrev S8x128x256 : Shape := ⟨3, ![8, 128, 256]⟩
abbrev S64x128x8x64 : Shape := ⟨4, ![64, 128, 8, 64]⟩
abbrev S1x128x8x64 : Shape := ⟨4, ![1, 128, 8, 64]⟩
abbrev S_ : Shape := ⟨0, ![]⟩
abbrev S63x128x8x64 : Shape := ⟨4, ![63, 128, 8, 64]⟩
abbrev S64x256x8x64 : Shape := ⟨4, ![64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S64x8x128x256 : Shape := ⟨4, ![64, 8, 128, 256]⟩
abbrev S1x8x128x256 : Shape := ⟨4, ![1, 8, 128, 256]⟩
abbrev S64x1x128x256 : Shape := ⟨4, ![64, 1, 128, 256]⟩
abbrev S64x8x128 : Shape := ⟨3, ![64, 8, 128]⟩
abbrev S64x8x128x1 : Shape := ⟨4, ![64, 8, 128, 1]⟩
abbrev S64x8x64x128 : Shape := ⟨4, ![64, 8, 64, 128]⟩
abbrev S64x128x8 : Shape := ⟨3, ![64, 128, 8]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S64x8x64x256 : Shape := ⟨4, ![64, 8, 64, 256]⟩
abbrev S64x8x256x64 : Shape := ⟨4, ![64, 8, 256, 64]⟩
abbrev S64x8x128x64 : Shape := ⟨4, ![64, 8, 128, 64]⟩

abbrev nBuf : Space → Nat
  | .hbm => 264
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S24x128x256, .f32⟩
  | 4 => ⟨S8192x8x64, .f32⟩
  | 5 => ⟨S8192x8, .f32⟩
  | 6 => ⟨S8192x8x64, .f32⟩
  | 7 => ⟨S8192x8, .f32⟩
  | 8 => ⟨S1x8192x512, .f32⟩
  | 9 => ⟨S8x128x256, .f32⟩
  | 10 => ⟨S64x128x8x64, .f32⟩
  | 11 => ⟨S64x128x8x64, .f32⟩
  | 12 => ⟨S64x128x8x64, .f32⟩
  | 13 => ⟨S1x128x8x64, .f32⟩
  | 14 => ⟨S_, .f32⟩
  | 15 => ⟨S1x128x8x64, .f32⟩
  | 16 => ⟨S63x128x8x64, .f32⟩
  | 17 => ⟨S64x128x8x64, .f32⟩
  | 18 => ⟨S_, .f32⟩
  | 19 => ⟨S1x128x8x64, .f32⟩
  | 20 => ⟨S64x256x8x64, .f32⟩
  | 21 => ⟨S1x128x8x64, .f32⟩
  | 22 => ⟨S_, .f32⟩
  | 23 => ⟨S1x128x8x64, .f32⟩
  | 24 => ⟨S63x128x8x64, .f32⟩
  | 25 => ⟨S64x128x8x64, .f32⟩
  | 26 => ⟨S_, .f32⟩
  | 27 => ⟨S1x128x8x64, .f32⟩
  | 28 => ⟨S64x256x8x64, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S1x128x256, .i1⟩
  | 47 => ⟨S64, .i32⟩
  | 48 => ⟨S_, .i32⟩
  | 49 => ⟨S64, .i32⟩
  | 50 => ⟨S64, .i1⟩
  | 51 => ⟨S64x1x1, .i1⟩
  | 52 => ⟨S_, .i32⟩
  | 53 => ⟨S1x256, .i32⟩
  | 54 => ⟨S1x256, .i1⟩
  | 55 => ⟨S1x1x256, .i1⟩
  | 56 => ⟨S64x1x256, .i1⟩
  | 57 => ⟨S64x1x256, .i1⟩
  | 58 => ⟨S64x1x256, .i1⟩
  | 59 => ⟨S64x128x256, .i1⟩
  | 60 => ⟨S64x128x256, .i1⟩
  | 61 => ⟨S64x128x256, .i1⟩
  | 62 => ⟨S64x8x128x256, .f32⟩
  | 63 => ⟨S1x8x128x256, .f32⟩
  | 64 => ⟨S64x8x128x256, .f32⟩
  | 65 => ⟨S64x8x128x256, .f32⟩
  | 66 => ⟨S64x1x128x256, .i1⟩
  | 67 => ⟨S_, .f32⟩
  | 68 => ⟨S_, .f32⟩
  | 69 => ⟨S64x8x128x256, .i1⟩
  | 70 => ⟨S64x8x128x256, .f32⟩
  | 71 => ⟨S64x8x128x256, .f32⟩
  | 72 => ⟨S_, .f32⟩
  | 73 => ⟨S64x8x128x256, .f32⟩
  | 74 => ⟨S_, .f32⟩
  | 75 => ⟨S64x8x128, .f32⟩
  | 76 => ⟨S64x8x128x1, .f32⟩
  | 77 => ⟨S64x8x128x256, .f32⟩
  | 78 => ⟨S64x8x128x256, .i1⟩
  | 79 => ⟨S64x8x128x256, .f32⟩
  | 80 => ⟨S_, .f32⟩
  | 81 => ⟨S64x8x128, .f32⟩
  | 82 => ⟨S64x8x128x1, .f32⟩
  | 83 => ⟨S64x8x128x256, .f32⟩
  | 84 => ⟨S64x8x128x256, .f32⟩
  | 85 => ⟨S64x8x128x256, .f32⟩
  | 86 => ⟨S_, .f32⟩
  | 87 => ⟨S64x8x128, .f32⟩
  | 88 => ⟨S64x8x128x1, .f32⟩
  | 89 => ⟨S64x8x128x256, .f32⟩
  | 90 => ⟨S64x8x128x256, .f32⟩
  | 91 => ⟨S64x8x128x1, .f32⟩
  | 92 => ⟨S_, .f32⟩
  | 93 => ⟨S64x8x128x1, .f32⟩
  | 94 => ⟨S64x8x128x1, .f32⟩
  | 95 => ⟨S64x8x64x128, .f32⟩
  | 96 => ⟨S64x128x8x64, .f32⟩
  | 97 => ⟨S64x8x128x1, .f32⟩
  | 98 => ⟨S64x8x128x1, .f32⟩
  | 99 => ⟨S64x8x128, .f32⟩
  | 100 => ⟨S8192x8x64, .f32⟩
  | 101 => ⟨S64x128x8, .f32⟩
  | 102 => ⟨S8192x8, .f32⟩
  | 103 => ⟨S1x8192x8, .f32⟩
  | 104 => ⟨S1x8192x8, .f32⟩
  | 105 => ⟨S1x8192x8, .f32⟩
  | 106 => ⟨S3x8192x8, .f32⟩
  | 107 => ⟨S_, .f32⟩
  | 108 => ⟨S8192x8, .f32⟩
  | 109 => ⟨S_, .f32⟩
  | 110 => ⟨S8192x8, .f32⟩
  | 111 => ⟨S_, .f32⟩
  | 112 => ⟨S8192x8, .f32⟩
  | 113 => ⟨S1x8192x8, .f32⟩
  | 114 => ⟨S3x8192x8, .f32⟩
  | 115 => ⟨S3x8192x8, .i1⟩
  | 116 => ⟨S3x8192x8, .f32⟩
  | 117 => ⟨S_, .f32⟩
  | 118 => ⟨S8192x8, .f32⟩
  | 119 => ⟨S_, .f32⟩
  | 120 => ⟨S8192x8, .f32⟩
  | 121 => ⟨S8192x8, .f32⟩
  | 122 => ⟨S_, .f32⟩
  | 123 => ⟨S8192x8, .f32⟩
  | 124 => ⟨S8192x8, .i1⟩
  | 125 => ⟨S_, .f32⟩
  | 126 => ⟨S8192x8, .f32⟩
  | 127 => ⟨S8192x8, .i1⟩
  | _ => ⟨S1x8192x512, .f32⟩

abbrev hbmTy0_1 (i : Nat) : BufTy := match i % 128 with
  | 0 => ⟨S_, .f32⟩
  | 1 => ⟨S8192x8, .f32⟩
  | 2 => ⟨S_, .f32⟩
  | 3 => ⟨S8192x8, .f32⟩
  | 4 => ⟨S_, .f32⟩
  | 5 => ⟨S8192x8, .f32⟩
  | 6 => ⟨S8192x8, .f32⟩
  | 7 => ⟨S8192x8, .f32⟩
  | 8 => ⟨S1x8192x8, .f32⟩
  | 9 => ⟨S3x8192x8, .f32⟩
  | 10 => ⟨S3x8192x8, .f32⟩
  | 11 => ⟨S3x8192x8, .f32⟩
  | 12 => ⟨S_, .f32⟩
  | 13 => ⟨S8192x8, .f32⟩
  | 14 => ⟨S1x8192x8, .f32⟩
  | 15 => ⟨S3x8192x8, .f32⟩
  | 16 => ⟨S3x8192x8, .f32⟩
  | 17 => ⟨S1x8192x8, .f32⟩
  | 18 => ⟨S_, .f32⟩
  | 19 => ⟨S1x8192x8, .f32⟩
  | 20 => ⟨S1x8192x8, .f32⟩
  | 21 => ⟨S3x8192x8x1, .f32⟩
  | 22 => ⟨S1x8192x8x64, .f32⟩
  | 23 => ⟨S1x8192x8x64, .f32⟩
  | 24 => ⟨S1x8192x8x64, .f32⟩
  | 25 => ⟨S3x8192x8x64, .f32⟩
  | 26 => ⟨S_, .f32⟩
  | 27 => ⟨S8192x8x64, .f32⟩
  | 28 => ⟨S_, .f32⟩
  | 29 => ⟨S8192x8x64, .f32⟩
  | 30 => ⟨S3x8192x8x64, .f32⟩
  | 31 => ⟨S3x8192x8x64, .f32⟩
  | 32 => ⟨S_, .f32⟩
  | 33 => ⟨S8192x8x64, .f32⟩
  | 34 => ⟨S1x8192x512, .f32⟩
  | 35 => ⟨S8192x8x64, .f32⟩
  | 36 => ⟨S3x8192x8x64, .f32⟩
  | 37 => ⟨S3x8192x8x64, .f32⟩
  | 38 => ⟨S3x8192x8x64, .f32⟩
  | 39 => ⟨S3x8192x8x64, .f32⟩
  | 40 => ⟨S_, .f32⟩
  | 41 => ⟨S3x8192x8, .f32⟩
  | 42 => ⟨S3x8192x8x1, .f32⟩
  | 43 => ⟨S1x8192x8x64, .f32⟩
  | 44 => ⟨S8192x8x64, .f32⟩
  | 45 => ⟨S1x8192x8x64, .f32⟩
  | 46 => ⟨S8192x8x64, .f32⟩
  | 47 => ⟨S1x8192x8x64, .f32⟩
  | 48 => ⟨S8192x8x64, .f32⟩
  | 49 => ⟨S_, .f32⟩
  | 50 => ⟨S3x8192x8, .f32⟩
  | 51 => ⟨S3x8192x8, .f32⟩
  | 52 => ⟨S3x8192x8, .f32⟩
  | 53 => ⟨S3x8192x8, .f32⟩
  | 54 => ⟨S_, .f32⟩
  | 55 => ⟨S8192x8, .f32⟩
  | 56 => ⟨S1x8192x8, .f32⟩
  | 57 => ⟨S1x8192x8, .f32⟩
  | 58 => ⟨S3x8192x8, .f32⟩
  | 59 => ⟨S3x8192x8, .f32⟩
  | 60 => ⟨S_, .f32⟩
  | 61 => ⟨S8192x8, .f32⟩
  | 62 => ⟨S3x8192x8, .f32⟩
  | 63 => ⟨S3x8192x8, .f32⟩
  | 64 => ⟨S3x8192x8, .f32⟩
  | 65 => ⟨S1x8192x8, .f32⟩
  | 66 => ⟨S8192x8, .f32⟩
  | 67 => ⟨S1x8192x8, .f32⟩
  | 68 => ⟨S8192x8, .f32⟩
  | 69 => ⟨S1x8192x8, .f32⟩
  | 70 => ⟨S8192x8, .f32⟩
  | 71 => ⟨S64x128x8, .f32⟩
  | 72 => ⟨S64x8x128, .f32⟩
  | 73 => ⟨S64x128x8x64, .f32⟩
  | 74 => ⟨S64x8x128x1, .f32⟩
  | 75 => ⟨S64x8x128x1, .f32⟩
  | 76 => ⟨S64x8x64x128, .f32⟩
  | 77 => ⟨S64x8x128x256, .f32⟩
  | 78 => ⟨S64x8x64x256, .f32⟩
  | 79 => ⟨S64x256x8x64, .f32⟩
  | 80 => ⟨S64x8x128x256, .f32⟩
  | 81 => ⟨S64x8x128x256, .f32⟩
  | 82 => ⟨S64x8x128x256, .f32⟩
  | 83 => ⟨S_, .f32⟩
  | 84 => ⟨S64x8x128, .f32⟩
  | 85 => ⟨S64x8x128x1, .f32⟩
  | 86 => ⟨S64x8x128x1, .f32⟩
  | 87 => ⟨S64x8x128x1, .f32⟩
  | 88 => ⟨S64x8x128x256, .f32⟩
  | 89 => ⟨S64x8x128x256, .f32⟩
  | 90 => ⟨S_, .f32⟩
  | 91 => ⟨S64x8x128, .f32⟩
  | 92 => ⟨S64x8x128x256, .f32⟩
  | 93 => ⟨S64x8x128x256, .f32⟩
  | 94 => ⟨S64x8x128x256, .f32⟩
  | 95 => ⟨S64x8x128x256, .f32⟩
  | 96 => ⟨S_, .f32⟩
  | 97 => ⟨S64x8x128, .f32⟩
  | 98 => ⟨S64x8x128x1, .f32⟩
  | 99 => ⟨S64x8x128x1, .f32⟩
  | 100 => ⟨S_, .f32⟩
  | 101 => ⟨S64x8x128, .f32⟩
  | 102 => ⟨S64x8x128, .f32⟩
  | 103 => ⟨S64x8x128x256, .f32⟩
  | 104 => ⟨S64x8x128x256, .f32⟩
  | 105 => ⟨S64x8x128x256, .f32⟩
  | 106 => ⟨S_, .f32⟩
  | 107 => ⟨S64x8x128x256, .f32⟩
  | 108 => ⟨S64x8x128x256, .f32⟩
  | 109 => ⟨S_, .f32⟩
  | 110 => ⟨S8x128x256, .f32⟩
  | 111 => ⟨S1x8x128x256, .f32⟩
  | 112 => ⟨S_, .f32⟩
  | 113 => ⟨S8x128x256, .f32⟩
  | 114 => ⟨S64x8x256x64, .f32⟩
  | 115 => ⟨S64x256x8x64, .f32⟩
  | 116 => ⟨S64x8x128x64, .f32⟩
  | 117 => ⟨S64x128x8x64, .f32⟩
  | 118 => ⟨S64x128x8x64, .f32⟩
  | 119 => ⟨S64x128x8x64, .f32⟩
  | 120 => ⟨S1x128x8x64, .f32⟩
  | 121 => ⟨S63x128x8x64, .f32⟩
  | 122 => ⟨S_, .f32⟩
  | 123 => ⟨S64x128x8x64, .f32⟩
  | 124 => ⟨S64x128x8x64, .f32⟩
  | 125 => ⟨S64x128x8x64, .f32⟩
  | 126 => ⟨S64x128x8x64, .f32⟩
  | 127 => ⟨S1x128x8x64, .f32⟩
  | _ => ⟨S1x8192x512, .f32⟩

abbrev hbmTy0_2 (i : Nat) : BufTy := match i % 128 with
  | 0 => ⟨S63x128x8x64, .f32⟩
  | 1 => ⟨S_, .f32⟩
  | 2 => ⟨S64x128x8x64, .f32⟩
  | 3 => ⟨S64x128x8x64, .f32⟩
  | 4 => ⟨S1x8192x512, .f32⟩
  | 5 => ⟨S1x8192x512, .f32⟩
  | 6 => ⟨S1x8192x512, .f32⟩
  | 7 => ⟨S1x8192x512, .bf16⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_call0_v0 : Ref sig .tc := ⟨.hbm, 68, rfl⟩
abbrev main_v49_1 : Ref sig .tc := ⟨.hbm, 69, rfl⟩
abbrev main_call0_v2 : Ref sig .tc := ⟨.hbm, 70, rfl⟩
abbrev main_v49_0 : Ref sig .tc := ⟨.hbm, 71, rfl⟩
abbrev main_call0_cst : Ref sig .tc := ⟨.hbm, 72, rfl⟩
abbrev main_v49_2 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_15 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_cst_20 : Ref sig .tc := ⟨.hbm, 130, rfl⟩
abbrev main_v94 : Ref sig .tc := ⟨.hbm, 131, rfl⟩
abbrev main_cst_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_23 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_24 : Ref sig .tc := ⟨.hbm, 154, rfl⟩
abbrev main_v114 : Ref sig .tc := ⟨.hbm, 155, rfl⟩
abbrev main_cst_25 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_26 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_27 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_28 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_29 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_30 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_31 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_32 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_33 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_34 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_call1_cst : Ref sig .tc := ⟨.hbm, 234, rfl⟩
abbrev main_call1_v0 : Ref sig .tc := ⟨.hbm, 235, rfl⟩
abbrev main_v183 : Ref sig .tc := ⟨.hbm, 236, rfl⟩
abbrev main_cst_35 : Ref sig .tc := ⟨.hbm, 237, rfl⟩
abbrev main_v184 : Ref sig .tc := ⟨.hbm, 238, rfl⟩
abbrev main_v185 : Ref sig .tc := ⟨.hbm, 239, rfl⟩
abbrev main_cst_36 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_37 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_38 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩

abbrev nD : Nat := 1
abbrev τ : Topo := Topo.v7x

variable {F : FTy → Type} [FloatOps F]
-- ==== FfnInDx.lean ====
abbrev S8192x5632 : Shape := ⟨2, ![8192, 5632]⟩
abbrev S4x1024x1408 : Shape := ⟨3, ![4, 1024, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxReferenceIdeal.lean ====
abbrev S8192x5632 : Shape := ⟨2, ![8192, 5632]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S5632x1024, .bf16⟩
  | .hbm, ⟨12, _⟩ => ⟨S8192x1024, .f32⟩
  | .hbm, ⟨13, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== FfnInDw.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwReferenceIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x8192, .bf16⟩
  | .hbm, ⟨3, _⟩ => ⟨S1024x5632, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== FfnOutDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x8192, .bf16⟩
  | .hbm, ⟨3, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DswInDx.lean ====
abbrev S8192x4608 : Shape := ⟨2, ![8192, 4608]⟩
abbrev S4x1024x1152 : Shape := ⟨3, ![4, 1024, 1152]⟩
abbrev S8192x1024 : Shape := ⟨2, ![8192, 1024]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S4x1024x1152, .bf16⟩
  | .hbm, ⟨2, _⟩ => ⟨S8192x1024, .bf16⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DswInDxReferenceIdeal.lean ====
abbrev S8192x4608 : Shape := ⟨2, ![8192, 4608]⟩
abbrev S4x1024x1152 : Shape := ⟨3, ![4, 1024, 1152]⟩
abbrev S1x1024x1152 : Shape := ⟨3, ![1, 1024, 1152]⟩
abbrev S1024x1152 : Shape := ⟨2, ![1024, 1152]⟩
abbrev S1024x4608 : Shape := ⟨2, ![1024, 4608]⟩
abbrev S4608x1024 : Shape := ⟨2, ![4608, 1024]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S4x1024x1152, .bf16⟩
  | .hbm, ⟨2, _⟩ => ⟨S1x1024x1152, .bf16⟩
  | .hbm, ⟨3, _⟩ => ⟨S1024x1152, .bf16⟩
  | .hbm, ⟨4, _⟩ => ⟨S1x1024x1152, .bf16⟩
  | .hbm, ⟨5, _⟩ => ⟨S1024x1152, .bf16⟩
  | .hbm, ⟨6, _⟩ => ⟨S1x1024x1152, .bf16⟩
  | .hbm, ⟨7, _⟩ => ⟨S1024x1152, .bf16⟩
  | .hbm, ⟨8, _⟩ => ⟨S1x1024x1152, .bf16⟩
  | .hbm, ⟨9, _⟩ => ⟨S1024x1152, .bf16⟩
  | .hbm, ⟨10, _⟩ => ⟨S1024x4608, .bf16⟩
  | .hbm, ⟨11, _⟩ => ⟨S4608x1024, .bf16⟩
  | .hbm, ⟨12, _⟩ => ⟨S8192x1024, .f32⟩
  | .hbm, ⟨13, _⟩ => ⟨S8192x1024, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== DswInDw.lean ====
abbrev S8192x1024 : Shape := ⟨2, ![8192, 1024]⟩
abbrev S8192x4608 : Shape := ⟨2, ![8192, 4608]⟩
abbrev S4x1024x1152 : Shape := ⟨3, ![4, 1024, 1152]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S4x1024x1152, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DswInDwReferenceIdeal.lean ====
abbrev S8192x1024 : Shape := ⟨2, ![8192, 1024]⟩
abbrev S8192x4608 : Shape := ⟨2, ![8192, 4608]⟩
abbrev S1024x8192 : Shape := ⟨2, ![1024, 8192]⟩
abbrev S1024x4608 : Shape := ⟨2, ![1024, 4608]⟩
abbrev S1024x1152 : Shape := ⟨2, ![1024, 1152]⟩
abbrev S1x1024x1152 : Shape := ⟨3, ![1, 1024, 1152]⟩
abbrev S4x1024x1152 : Shape := ⟨3, ![4, 1024, 1152]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x8192, .bf16⟩
  | .hbm, ⟨3, _⟩ => ⟨S1024x4608, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1x1024x1152, .f32⟩
  | .hbm, ⟨9, _⟩ => ⟨S1x1024x1152, .f32⟩
  | .hbm, ⟨10, _⟩ => ⟨S1x1024x1152, .f32⟩
  | .hbm, ⟨11, _⟩ => ⟨S1x1024x1152, .f32⟩
  | .hbm, ⟨12, _⟩ => ⟨S4x1024x1152, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== GdnInDx.lean ====
abbrev S8192x4224 : Shape := ⟨2, ![8192, 4224]⟩
abbrev S1024x4224 : Shape := ⟨2, ![1024, 4224]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInDxReferenceIdeal.lean ====
abbrev S8192x4224 : Shape := ⟨2, ![8192, 4224]⟩
abbrev S1024x4224 : Shape := ⟨2, ![1024, 4224]⟩
abbrev S4224x1024 : Shape := ⟨2, ![4224, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S4224x1024, .bf16⟩
  | .hbm, ⟨3, _⟩ => ⟨S8192x1024, .f32⟩
  | .hbm, ⟨4, _⟩ => ⟨S8192x1024, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GdnInDw.lean ====
abbrev S8192x1024 : Shape := ⟨2, ![8192, 1024]⟩
abbrev S8192x4224 : Shape := ⟨2, ![8192, 4224]⟩
abbrev S1024x4224 : Shape := ⟨2, ![1024, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S1024x4224, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInDwReferenceIdeal.lean ====
abbrev S8192x1024 : Shape := ⟨2, ![8192, 1024]⟩
abbrev S8192x4224 : Shape := ⟨2, ![8192, 4224]⟩
abbrev S1024x8192 : Shape := ⟨2, ![1024, 8192]⟩
abbrev S1024x4224 : Shape := ⟨2, ![1024, 4224]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S1024x8192, .bf16⟩
  | .hbm, ⟨3, _⟩ => ⟨S1024x4224, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DswIn.lean ====
abbrev S8192x1024 : Shape := ⟨2, ![8192, 1024]⟩
abbrev S4x1024x1152 : Shape := ⟨3, ![4, 1024, 1152]⟩
abbrev S8192x4608 : Shape := ⟨2, ![8192, 4608]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1152, .bf16⟩
  | .hbm, ⟨2, _⟩ => ⟨S8192x4608, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .bf16⟩
  | .local _ .vmem, ⟨5, _⟩ => ⟨S1024x1152, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DswInReferenceIdeal.lean ====
abbrev S8192x1024 : Shape := ⟨2, ![8192, 1024]⟩
abbrev S4x1024x1152 : Shape := ⟨3, ![4, 1024, 1152]⟩
abbrev S1x1024x1152 : Shape := ⟨3, ![1, 1024, 1152]⟩
abbrev S1024x1152 : Shape := ⟨2, ![1024, 1152]⟩
abbrev S1024x4608 : Shape := ⟨2, ![1024, 4608]⟩
abbrev S8192x4608 : Shape := ⟨2, ![8192, 4608]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1152, .bf16⟩
  | .hbm, ⟨2, _⟩ => ⟨S1x1024x1152, .bf16⟩
  | .hbm, ⟨3, _⟩ => ⟨S1024x1152, .bf16⟩
  | .hbm, ⟨4, _⟩ => ⟨S1x1024x1152, .bf16⟩
  | .hbm, ⟨5, _⟩ => ⟨S1024x1152, .bf16⟩
  | .hbm, ⟨6, _⟩ => ⟨S1x1024x1152, .bf16⟩
  | .hbm, ⟨7, _⟩ => ⟨S1024x1152, .bf16⟩
  | .hbm, ⟨8, _⟩ => ⟨S1x1024x1152, .bf16⟩
  | .hbm, ⟨9, _⟩ => ⟨S1024x1152, .bf16⟩
  | .hbm, ⟨10, _⟩ => ⟨S1024x4608, .bf16⟩
  | .hbm, ⟨11, _⟩ => ⟨S8192x4608, .f32⟩
  | .hbm, ⟨12, _⟩ => ⟨S8192x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== GdnIn.lean ====
abbrev S8192x1024 : Shape := ⟨2, ![8192, 1024]⟩
abbrev S1024x4224 : Shape := ⟨2, ![1024, 4224]⟩
abbrev S8192x4224 : Shape := ⟨2, ![8192, 4224]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x4224, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInReferenceIdeal.lean ====
abbrev S8192x1024 : Shape := ⟨2, ![8192, 1024]⟩
abbrev S1024x4224 : Shape := ⟨2, ![1024, 4224]⟩
abbrev S8192x4224 : Shape := ⟨2, ![8192, 4224]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x4224, .f32⟩
  | .hbm, ⟨3, _⟩ => ⟨S8192x4224, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnOutReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnOutDxReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .f32⟩
  | .hbm, ⟨4, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Body.lean ====
/- The body of the kernel at its three kinds of points: what it stores, buffer by buffer. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The points of the grid -/

/-- The body's four branch conditions, from the point's coordinates. -/
abbrev isStart (i : grid0.Coords) : Prop := k0_cond1 i = 1#1
abbrev isReset (i : grid0.Coords) : Prop := (Scalar.cmpi .ne (Scalar.extui (Scalar.cmpi .eq (BitVec.ofNat 32 (i 1).val) 0#32)) 0#32) = 1#1
abbrev isTile (i : grid0.Coords) : Prop := k0_cond3 i = 1#1
abbrev isLast (i : grid0.Coords) : Prop := k0_cond4 i = 1#1

theorem start_iff : ∀ t : Fin cfg0.N, isStart (grid0.coords t) ↔ t.val = 0 :=
  (by decide +kernel : ∀ t : Fin grid0.N, isStart (grid0.coords t) ↔ t.val = 0)
theorem reset_iff : ∀ t : Fin cfg0.N, isReset (grid0.coords t) ↔ t.val = 0 :=
  (by decide +kernel : ∀ t : Fin grid0.N, isReset (grid0.coords t) ↔ t.val = 0)
theorem tile_iff : ∀ t : Fin cfg0.N, isTile (grid0.coords t) ↔ t.val < 64 :=
  (by decide +kernel : ∀ t : Fin grid0.N, isTile (grid0.coords t) ↔ t.val < 64)
theorem last_iff : ∀ t : Fin cfg0.N, isLast (grid0.coords t) ↔ ¬ t.val < 64 :=
  (by decide +kernel : ∀ t : Fin grid0.N, isLast (grid0.coords t) ↔ ¬ t.val < 64)

set_option maxHeartbeats 4000000 in
/-- The first point: it clears the sums and the carried blocks, then works on the first tile. The pieces each buffer ends with are found by the run. -/
noncomputable def runA (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
    (h1 : isStart i) (h2 : isReset i) (h3 : isTile i) (h4 : ¬isLast i)
    (x2 : Vec F S1x128x512 .bf16) (x3 : Vec F S1x128x512 .bf16) (x4 : Vec F S1x128x512 .bf16) (x5 : Vec F S8x128x256 .f32) (x6 : Vec F S1x128x512 .bf16) (x7 : Vec F S1x128x512 .f32) :
    Σ' (L8 : List (View.Piece (Elt F) S1x128x512 .f32)), Σ' (L9 : List (View.Piece (Elt F) S1x128x512 .f32)), Σ' (L10 : List (View.Piece (Elt F) S1x128x512 .bf16)), Σ' (L11 : List (View.Piece (Elt F) S8x128x256 .f32)), Σ' (L12 : List (View.Piece (Elt F) S128x512 .bf16)), Σ' (L13 : List (View.Piece (Elt F) S128x512 .bf16)), Σ' (L14 : List (View.Piece (Elt F) S128x512 .f32)),
    { L15 : List (View.Piece (Elt F) S128x512 .f32) //
      ∀ (E : Set ℕ) (K : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15)) -∗ K ⟨⟩))
          ⊢ wp frame (wpE (defs₀ (F := F)) Variants.none c none) E (cc0_dsw_attn_bwd_g0 i a2 w2 a3 w3 a4 w4 a5 w5 a6 w6 a7 w7 a8 w8 a9 w9 a10 w10 a11 w11 a12 w12 a13 w13 a14 w14 a15 w15) K } := by
  refine ⟨?_, ?_, ?_, ?_, ?_, ?_, ?_, ?_, fun E K => ?run⟩
  case run =>
    simp only [cc0_dsw_attn_bwd_g0_eq_skeleton]; unfold cc0_dsw_attn_bwd_g0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := w2.eq_unread e2; obtain rfl := w3.eq_unread e3; obtain rfl := w4.eq_unread e4; obtain rfl := w5.eq_unread e5; obtain rfl := w6.eq_unread e6; obtain rfl := w7.eq_unread e7
    sl_exec (disch := first | sl_exact h1 | sl_exact h2 | sl_exact h3 | sl_exact h4)
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.KernelIdeal.Body

end
-- ==== Proof.BodyTile.lean ====
/- The body at a later tile point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A later tile point: it works on its tile over the carried blocks. The pieces each buffer ends with are found by the run. -/
noncomputable def runB (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
    (h1 : ¬isStart i) (h2 : ¬isReset i) (h3 : isTile i) (h4 : ¬isLast i)
    (x2 : Vec F S1x128x512 .bf16) (x3 : Vec F S1x128x512 .bf16) (x4 : Vec F S1x128x512 .bf16) (x5 : Vec F S8x128x256 .f32) (x6 : Vec F S1x128x512 .bf16) (x7 : Vec F S1x128x512 .f32) (x11 : Vec F S8x128x256 .f32) (x12 : Vec F S128x512 .bf16) (x13 : Vec F S128x512 .bf16) (x14 : Vec F S128x512 .f32) (x15 : Vec F S128x512 .f32) :
    Σ' (L8 : List (View.Piece (Elt F) S1x128x512 .f32)), Σ' (L9 : List (View.Piece (Elt F) S1x128x512 .f32)), Σ' (L10 : List (View.Piece (Elt F) S1x128x512 .bf16)), Σ' (L11 : List (View.Piece (Elt F) S8x128x256 .f32)), Σ' (L12 : List (View.Piece (Elt F) S128x512 .bf16)), Σ' (L13 : List (View.Piece (Elt F) S128x512 .bf16)), Σ' (L14 : List (View.Piece (Elt F) S128x512 .f32)),
    { L15 : List (View.Piece (Elt F) S128x512 .f32) //
      ∀ (E : Set ℕ) (K : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15)) -∗ K ⟨⟩))
          ⊢ wp frame (wpE (defs₀ (F := F)) Variants.none c none) E (cc0_dsw_attn_bwd_g0 i a2 w2 a3 w3 a4 w4 a5 w5 a6 w6 a7 w7 a8 w8 a9 w9 a10 w10 a11 w11 a12 w12 a13 w13 a14 w14 a15 w15) K } := by
  refine ⟨?_, ?_, ?_, ?_, ?_, ?_, ?_, ?_, fun E K => ?run⟩
  case run =>
    simp only [cc0_dsw_attn_bwd_g0_eq_skeleton]; unfold cc0_dsw_attn_bwd_g0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%f11, %e11, H11⟩, ⟨%f12, %e12, H12⟩, ⟨%f13, %e13, H13⟩, ⟨%f14, %e14, H14⟩, ⟨%f15, %e15, H15⟩, Hk⟩
    obtain rfl := w2.eq_unread e2; obtain rfl := w3.eq_unread e3; obtain rfl := w4.eq_unread e4; obtain rfl := w5.eq_unread e5; obtain rfl := w6.eq_unread e6; obtain rfl := w7.eq_unread e7; obtain rfl := w11.eq_unread e11; obtain rfl := w12.eq_unread e12; obtain rfl := w13.eq_unread e13; obtain rfl := w14.eq_unread e14; obtain rfl := w15.eq_unread e15
    sl_exec (disch := first | sl_exact h1 | sl_exact h2 | sl_exact h3 | sl_exact h4)
    sl_step
    iapply Hk
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.KernelIdeal.Body

end
-- ==== Proof.BodyLast.lean ====
/- The body at the last point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.BodyTile

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The last point: it stores the carried sums as the last block of two results. The pieces each buffer ends with are found by the run. -/
noncomputable def runC (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
    (h1 : ¬isStart i) (h2 : ¬isReset i) (h3 : ¬isTile i) (h4 : isLast i)
    (x14 : Vec F S128x512 .f32) (x15 : Vec F S128x512 .f32) :
    Σ' (L9 : List (View.Piece (Elt F) S1x128x512 .f32)),
    { L10 : List (View.Piece (Elt F) S1x128x512 .bf16) //
      ∀ (E : Set ℕ) (K : PUnit → sProp 𝕄),
        iprop((∃ d, owns (c : Thread nD τ) a9 fullShare d) ∗ (∃ d, owns (c : Thread nD τ) a10 fullShare d) ∗ owns (c : Thread nD τ) a14 fullShare x14 ∗ owns (c : Thread nD τ) a15 fullShare x15
            ∗ (iprop((∃ f, a9.view.loc (c : Thread nD τ) ↦[a9.view.set]{fullShare} a9.view.writes (Elt F) f L9) ∗ (∃ f, a10.view.loc (c : Thread nD τ) ↦[a10.view.set]{fullShare} a10.view.writes (Elt F) f L10) ∗ owns (c : Thread nD τ) a14 fullShare x14 ∗ owns (c : Thread nD τ) a15 fullShare x15) -∗ K ⟨⟩))
          ⊢ wp frame (wpE (defs₀ (F := F)) Variants.none c none) E (cc0_dsw_attn_bwd_g0 i a2 w2 a3 w3 a4 w4 a5 w5 a6 w6 a7 w7 a8 w8 a9 w9 a10 w10 a11 w11 a12 w12 a13 w13 a14 w14 a15 w15) K } := by
  refine ⟨?_, ?_, fun E K => ?run⟩
  case run =>
    simp only [cc0_dsw_attn_bwd_g0_eq_skeleton]; unfold cc0_dsw_attn_bwd_g0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%d9, %f9, -, H9⟩, ⟨%d10, %f10, -, H10⟩, ⟨%f14, %e14, H14⟩, ⟨%f15, %e15, H15⟩, Hk⟩
    obtain rfl := w14.eq_unread e14; obtain rfl := w15.eq_unread e15
    sl_exec (disch := first | sl_exact h1 | sl_exact h2 | sl_exact h3 | sl_exact h4)
    sl_step
    iapply Hk
    isplitl [H9]; · iexists _; iexact H9
    isplitl [H10]; · iexists _; iexact H10
    isplitl [H14]
    · iexists _; isplitr; · ipureintro; exact w14.read_unread _
      iexact H14
    iexists _; isplitr; · ipureintro; exact w15.read_unread _
    iexact H15

end Cert.KernelIdeal.Body

end
-- ==== Proof.Tile.lean ====
/- What one tile point leaves in each buffer, written once for all heads: the body's per-head chains are the same function of the head's lanes and of its half of them. -/
module

public import proofs.«01_k».proof.Proof.BodyLast
public import Idealize.ShloMosaic.Lib.Pipeline.ValueKit
public import Idealize.ShloMosaic.Lib.Pipeline.ReadBack

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-! ## One head -/

/-- The lanes of the even heads of the pairs, and those of the odd heads. -/
abbrev evenLanes : IVec S128x128 1 := k0_pay13
abbrev oddLanes : IVec S128x128 1 := k0_pay38 k0_pay13

/-- The rows of `q` (or of the cotangent) cut to one head's lanes. -/
def hQ (mq : IVec S128x128 1) (q : Vec F S1x128x128 .bf16) : FVec F S128x128 .bf16 := k0_pay42 mq (k0_pay24 q)
def hDo (mq : IVec S128x128 1) (g : Vec F S1x128x128 .bf16) : FVec F S128x128 .bf16 := k0_pay50 mq (k0_pay28 g)
/-- The scores. -/
def hS (f : IVec S128x256 1) (k2 : FVec F S256x128 .bf16) (mq : IVec S128x128 1) (q : Vec F S1x128x128 .bf16) (b : Vec F S1x128x256 .f32) : FVec F S128x256 .f32 :=
  k0_pay58 f k2 (hQ mq q) b
/-- The saved normaliser and the saved inner product, read from the head's first and second half of lanes. -/
def hL (mq : IVec S128x128 1) (st : Vec F S1x128x128 .f32) : FVec F S128x1 .f32 := k0_pay68 mq k0_pay14 (k0_pay32 st)
def hDel (mq : IVec S128x128 1) (st : Vec F S1x128x128 .f32) : FVec F S128x1 .f32 := k0_pay76 mq k0_pay14 (k0_pay32 st) (constantI S128x128 1 1#1)
/-- The weights and the gradient of the scores. -/
def hP (f : IVec S128x256 1) (k2 : FVec F S256x128 .bf16) (mq : IVec S128x128 1) (q : Vec F S1x128x128 .bf16) (b : Vec F S1x128x256 .f32)
    (st : Vec F S1x128x128 .f32) : FVec F S128x256 .f32 := k0_pay85 (hS f k2 mq q b) (hL mq st)
def hD (f : IVec S128x256 1) (k2 v2 : FVec F S256x128 .bf16) (mq : IVec S128x128 1) (q g : Vec F S1x128x128 .bf16) (b : Vec F S1x128x256 .f32)
    (st : Vec F S1x128x128 .f32) : FVec F S128x256 .f32 := k0_pay93 v2 (hDo mq g) (hS f k2 mq q b) (hL mq st) (hDel mq st)

/-! ## One pair of heads -/

def pairDq (f : IVec S128x256 1) (k2 v2 : FVec F S256x128 .bf16) (q g : Vec F S1x128x128 .bf16) (b b' : Vec F S1x128x256 .f32) (st : Vec F S1x128x128 .f32) :
    FVec F S1x128x128 .f32 :=
  k0_pay144 (k0_pay109 evenLanes k2 (hD f k2 v2 evenLanes q g b st)) (k0_pay109 oddLanes k2 (hD f k2 v2 oddLanes q g b' st))
def pairDk (f : IVec S128x256 1) (k2 v2 : FVec F S256x128 .bf16) (q g : Vec F S1x128x128 .bf16) (b b' : Vec F S1x128x256 .f32) (st : Vec F S1x128x128 .f32) :
    FVec F S256x128 .f32 :=
  k0_pay142 (k0_pay118 (hQ evenLanes q) (k0_pay101 (hD f k2 v2 evenLanes q g b st))) (k0_pay118 (hQ oddLanes q) (k0_pay101 (hD f k2 v2 oddLanes q g b' st)))
def pairDv (f : IVec S128x256 1) (k2 : FVec F S256x128 .bf16) (q g : Vec F S1x128x128 .bf16) (b b' : Vec F S1x128x256 .f32) (st : Vec F S1x128x128 .f32) :
    FVec F S256x128 .f32 :=
  k0_pay143 (k0_pay126 (hDo evenLanes g) (hP f k2 evenLanes q b st)) (k0_pay126 (hDo oddLanes g) (hP f k2 oddLanes q b' st))
/-- The half of a pair's sums that belongs to the block before, added to what that block carried; and the half carried on. -/
def outDk (c : Vec F S128x128 .f32) (d : FVec F S256x128 .f32) : FVec F S1x128x128 .f32 :=
  shapeCast S1x128x128 (addf c (extractStridedSlice S128x128 ![0, 0] d slices_S256x128_o0_0_S128x128) : FVec F S128x128 .f32) shapeCasts_S128x128_S1x128x128
def outDv (c : Vec F S128x128 .f32) (d : FVec F S256x128 .f32) : FVec F S1x128x128 .bf16 :=
  shapeCast S1x128x128 (truncf .bf16 (addf c (extractStridedSlice S128x128 ![0, 0] d slices_S256x128_o0_0_S128x128) : FVec F S128x128 .f32) bitsLt_bf16_f32) shapeCasts_S128x128_S1x128x128

/-! ## The whole tile -/

/-- What the later tile points find: the blocks of the windows and of the scratches. -/
structure Tile (F : FTy → Type) [FloatOps F] [Named F] where
  q : Vec F S1x128x512 .bf16
  k : Vec F S1x128x512 .bf16
  v : Vec F S1x128x512 .bf16
  b : Vec F S8x128x256 .f32
  g : Vec F S1x128x512 .bf16
  st : Vec F S1x128x512 .f32
  kp : Vec F S128x512 .bf16
  vp : Vec F S128x512 .bf16
  f : IVec S128x256 1

def Tile.k2_0 (T : Tile F) : FVec F S256x128 .bf16 := k0_pay16 (View.ld T.kp (Rect.unit ![0, 0] ![128, 128] inb_S128x512_S128x128_0_0)) (View.ld T.k (Rect.unit ![0, 0, 0] ![1, 128, 128] inb_S1x128x512_S1x128x128_0_0_0))
def Tile.v2_0 (T : Tile F) : FVec F S256x128 .bf16 := k0_pay20 (View.ld T.vp (Rect.unit ![0, 0] ![128, 128] inb_S128x512_S128x128_0_0)) (View.ld T.v (Rect.unit ![0, 0, 0] ![1, 128, 128] inb_S1x128x512_S1x128x128_0_0_0))
def Tile.dq_0 (T : Tile F) : FVec F S1x128x128 .f32 := pairDq T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0))
def Tile.dk_0 (T : Tile F) : FVec F S256x128 .f32 := pairDk T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0))
def Tile.dv_0 (T : Tile F) : FVec F S256x128 .f32 := pairDv T.f T.k2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0))
def Tile.ds_0 (T : Tile F) : FVec F S128x256 .f32 := hD T.f T.k2_0 T.v2_0 evenLanes (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.st (Rect.unit ![0, 0, 0] ![1, 128, 128] inb_S1x128x512_S1x128x128_0_0_0))
def Tile.ds_1 (T : Tile F) : FVec F S128x256 .f32 := hD T.f T.k2_0 T.v2_0 oddLanes (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![1, 0, 0] ![1, 128, 256] inb_S8x128x256_S1x128x256_1_0_0)) (View.ld T.st (Rect.unit ![0, 0, 0] ![1, 128, 128] inb_S1x128x512_S1x128x128_0_0_0))
def Tile.k2_1 (T : Tile F) : FVec F S256x128 .bf16 := k0_pay16 (View.ld T.kp (Rect.unit ![0, 128] ![128, 128] inb_S128x512_S128x128_0_128)) (View.ld T.k (Rect.unit ![0, 0, 128] ![1, 128, 128] inb_S1x128x512_S1x128x128_0_0_128))
def Tile.v2_1 (T : Tile F) : FVec F S256x128 .bf16 := k0_pay20 (View.ld T.vp (Rect.unit ![0, 128] ![128, 128] inb_S128x512_S128x128_0_128)) (View.ld T.v (Rect.unit ![0, 0, 128] ![1, 128, 128] inb_S1x128x512_S1x128x128_0_0_128))
def Tile.dq_1 (T : Tile F) : FVec F S1x128x128 .f32 := pairDq T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128))
def Tile.dk_1 (T : Tile F) : FVec F S256x128 .f32 := pairDk T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128))
def Tile.dv_1 (T : Tile F) : FVec F S256x128 .f32 := pairDv T.f T.k2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128))
def Tile.ds_2 (T : Tile F) : FVec F S128x256 .f32 := hD T.f T.k2_1 T.v2_1 evenLanes (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.st (Rect.unit ![0, 0, 128] ![1, 128, 128] inb_S1x128x512_S1x128x128_0_0_128))
def Tile.ds_3 (T : Tile F) : FVec F S128x256 .f32 := hD T.f T.k2_1 T.v2_1 oddLanes (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![3, 0, 0] ![1, 128, 256] inb_S8x128x256_S1x128x256_3_0_0)) (View.ld T.st (Rect.unit ![0, 0, 128] ![1, 128, 128] inb_S1x128x512_S1x128x128_0_0_128))
def Tile.k2_2 (T : Tile F) : FVec F S256x128 .bf16 := k0_pay16 (View.ld T.kp (Rect.unit ![0, 256] ![128, 128] inb_S128x512_S128x128_0_256)) (View.ld T.k (Rect.unit ![0, 0, 256] ![1, 128, 128] inb_S1x128x512_S1x128x128_0_0_256))
def Tile.v2_2 (T : Tile F) : FVec F S256x128 .bf16 := k0_pay20 (View.ld T.vp (Rect.unit ![0, 256] ![128, 128] inb_S128x512_S128x128_0_256)) (View.ld T.v (Rect.unit ![0, 0, 256] ![1, 128, 128] inb_S1x128x512_S1x128x128_0_0_256))
def Tile.dq_2 (T : Tile F) : FVec F S1x128x128 .f32 := pairDq T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256))
def Tile.dk_2 (T : Tile F) : FVec F S256x128 .f32 := pairDk T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256))
def Tile.dv_2 (T : Tile F) : FVec F S256x128 .f32 := pairDv T.f T.k2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256))
def Tile.ds_4 (T : Tile F) : FVec F S128x256 .f32 := hD T.f T.k2_2 T.v2_2 evenLanes (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.st (Rect.unit ![0, 0, 256] ![1, 128, 128] inb_S1x128x512_S1x128x128_0_0_256))
def Tile.ds_5 (T : Tile F) : FVec F S128x256 .f32 := hD T.f T.k2_2 T.v2_2 oddLanes (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![5, 0, 0] ![1, 128, 256] inb_S8x128x256_S1x128x256_5_0_0)) (View.ld T.st (Rect.unit ![0, 0, 256] ![1, 128, 128] inb_S1x128x512_S1x128x128_0_0_256))
def Tile.k2_3 (T : Tile F) : FVec F S256x128 .bf16 := k0_pay16 (View.ld T.kp (Rect.unit ![0, 384] ![128, 128] inb_S128x512_S128x128_0_384)) (View.ld T.k (Rect.unit ![0, 0, 384] ![1, 128, 128] inb_S1x128x512_S1x128x128_0_0_384))
def Tile.v2_3 (T : Tile F) : FVec F S256x128 .bf16 := k0_pay20 (View.ld T.vp (Rect.unit ![0, 384] ![128, 128] inb_S128x512_S128x128_0_384)) (View.ld T.v (Rect.unit ![0, 0, 384] ![1, 128, 128] inb_S1x128x512_S1x128x128_0_0_384))
def Tile.dq_3 (T : Tile F) : FVec F S1x128x128 .f32 := pairDq T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384))
def Tile.dk_3 (T : Tile F) : FVec F S256x128 .f32 := pairDk T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384))
def Tile.dv_3 (T : Tile F) : FVec F S256x128 .f32 := pairDv T.f T.k2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384))
def Tile.ds_6 (T : Tile F) : FVec F S128x256 .f32 := hD T.f T.k2_3 T.v2_3 evenLanes (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.st (Rect.unit ![0, 0, 384] ![1, 128, 128] inb_S1x128x512_S1x128x128_0_0_384))
def Tile.ds_7 (T : Tile F) : FVec F S128x256 .f32 := hD T.f T.k2_3 T.v2_3 oddLanes (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![7, 0, 0] ![1, 128, 256] inb_S8x128x256_S1x128x256_7_0_0)) (View.ld T.st (Rect.unit ![0, 0, 384] ![1, 128, 128] inb_S1x128x512_S1x128x128_0_0_384))

/-- The tile's gradient of the queries; the block before's gradients of the keys and values, over the sums `c` it carried; the sums of the scores' gradients, over
    what was summed before; and the sums this tile carries on. -/
def Tile.dq (T : Tile F) : Vec F S1x128x512 .f32 := View.canon (Val := Elt F) (s := S1x128x512) (e := .f32) [
    ⟨Rect.unit ![0, 0, 384] ![1, 128, 128] inb_S1x128x512_S1x128x128_0_0_384, T.dq_3⟩,
    ⟨Rect.unit ![0, 0, 256] ![1, 128, 128] inb_S1x128x512_S1x128x128_0_0_256, T.dq_2⟩,
    ⟨Rect.unit ![0, 0, 128] ![1, 128, 128] inb_S1x128x512_S1x128x128_0_0_128, T.dq_1⟩,
    ⟨Rect.unit ![0, 0, 0] ![1, 128, 128] inb_S1x128x512_S1x128x128_0_0_0, T.dq_0⟩]
def Tile.dk (T : Tile F) (c : Vec F S128x512 .f32) : Vec F S1x128x512 .f32 := View.canon (Val := Elt F) (s := S1x128x512) (e := .f32) [
    ⟨Rect.unit ![0, 0, 384] ![1, 128, 128] inb_S1x128x512_S1x128x128_0_0_384, outDk (View.ld c (Rect.unit ![0, 384] ![128, 128] inb_S128x512_S128x128_0_384)) T.dk_3⟩,
    ⟨Rect.unit ![0, 0, 256] ![1, 128, 128] inb_S1x128x512_S1x128x128_0_0_256, outDk (View.ld c (Rect.unit ![0, 256] ![128, 128] inb_S128x512_S128x128_0_256)) T.dk_2⟩,
    ⟨Rect.unit ![0, 0, 128] ![1, 128, 128] inb_S1x128x512_S1x128x128_0_0_128, outDk (View.ld c (Rect.unit ![0, 128] ![128, 128] inb_S128x512_S128x128_0_128)) T.dk_1⟩,
    ⟨Rect.unit ![0, 0, 0] ![1, 128, 128] inb_S1x128x512_S1x128x128_0_0_0, outDk (View.ld c (Rect.unit ![0, 0] ![128, 128] inb_S128x512_S128x128_0_0)) T.dk_0⟩]
def Tile.dv (T : Tile F) (c : Vec F S128x512 .f32) : Vec F S1x128x512 .bf16 := View.canon (Val := Elt F) (s := S1x128x512) (e := .bf16) [
    ⟨Rect.unit ![0, 0, 384] ![1, 128, 128] inb_S1x128x512_S1x128x128_0_0_384, outDv (View.ld c (Rect.unit ![0, 384] ![128, 128] inb_S128x512_S128x128_0_384)) T.dv_3⟩,
    ⟨Rect.unit ![0, 0, 256] ![1, 128, 128] inb_S1x128x512_S1x128x128_0_0_256, outDv (View.ld c (Rect.unit ![0, 256] ![128, 128] inb_S128x512_S128x128_0_256)) T.dv_2⟩,
    ⟨Rect.unit ![0, 0, 128] ![1, 128, 128] inb_S1x128x512_S1x128x128_0_0_128, outDv (View.ld c (Rect.unit ![0, 128] ![128, 128] inb_S128x512_S128x128_0_128)) T.dv_1⟩,
    ⟨Rect.unit ![0, 0, 0] ![1, 128, 128] inb_S1x128x512_S1x128x128_0_0_0, outDv (View.ld c (Rect.unit ![0, 0] ![128, 128] inb_S128x512_S128x128_0_0)) T.dv_0⟩]
def Tile.dbPieces (T : Tile F) (c : Vec F S8x128x256 .f32) : List (View.Piece (Elt F) S8x128x256 .f32) := [
    ⟨Rect.unit ![7, 0, 0] ![1, 128, 256] inb_S8x128x256_S1x128x256_7_0_0, k0_pay134 T.ds_7 (View.ld c (Rect.unit ![7, 0, 0] ![1, 128, 256] inb_S8x128x256_S1x128x256_7_0_0))⟩,
    ⟨Rect.unit ![6, 0, 0] ![1, 128, 256] inb_S8x128x256_S1x128x256_6_0_0, k0_pay134 T.ds_6 (View.ld c (Rect.unit ![6, 0, 0] ![1, 128, 256] inb_S8x128x256_S1x128x256_6_0_0))⟩,
    ⟨Rect.unit ![5, 0, 0] ![1, 128, 256] inb_S8x128x256_S1x128x256_5_0_0, k0_pay134 T.ds_5 (View.ld c (Rect.unit ![5, 0, 0] ![1, 128, 256] inb_S8x128x256_S1x128x256_5_0_0))⟩,
    ⟨Rect.unit ![4, 0, 0] ![1, 128, 256] inb_S8x128x256_S1x128x256_4_0_0, k0_pay134 T.ds_4 (View.ld c (Rect.unit ![4, 0, 0] ![1, 128, 256] inb_S8x128x256_S1x128x256_4_0_0))⟩,
    ⟨Rect.unit ![3, 0, 0] ![1, 128, 256] inb_S8x128x256_S1x128x256_3_0_0, k0_pay134 T.ds_3 (View.ld c (Rect.unit ![3, 0, 0] ![1, 128, 256] inb_S8x128x256_S1x128x256_3_0_0))⟩,
    ⟨Rect.unit ![2, 0, 0] ![1, 128, 256] inb_S8x128x256_S1x128x256_2_0_0, k0_pay134 T.ds_2 (View.ld c (Rect.unit ![2, 0, 0] ![1, 128, 256] inb_S8x128x256_S1x128x256_2_0_0))⟩,
    ⟨Rect.unit ![1, 0, 0] ![1, 128, 256] inb_S8x128x256_S1x128x256_1_0_0, k0_pay134 T.ds_1 (View.ld c (Rect.unit ![1, 0, 0] ![1, 128, 256] inb_S8x128x256_S1x128x256_1_0_0))⟩,
    ⟨Rect.unit ![0, 0, 0] ![1, 128, 256] inb_S8x128x256_S1x128x256_0_0_0, k0_pay134 T.ds_0 (View.ld c (Rect.unit ![0, 0, 0] ![1, 128, 256] inb_S8x128x256_S1x128x256_0_0_0))⟩]
def Tile.ckPieces (T : Tile F) : List (View.Piece (Elt F) S128x512 .f32) := [
    ⟨Rect.unit ![0, 384] ![128, 128] inb_S128x512_S128x128_0_384, k0_pay7 T.dk_3⟩,
    ⟨Rect.unit ![0, 256] ![128, 128] inb_S128x512_S128x128_0_256, k0_pay7 T.dk_2⟩,
    ⟨Rect.unit ![0, 128] ![128, 128] inb_S128x512_S128x128_0_128, k0_pay7 T.dk_1⟩,
    ⟨Rect.unit ![0, 0] ![128, 128] inb_S128x512_S128x128_0_0, k0_pay7 T.dk_0⟩]
def Tile.cvPieces (T : Tile F) : List (View.Piece (Elt F) S128x512 .f32) := [
    ⟨Rect.unit ![0, 384] ![128, 128] inb_S128x512_S128x128_0_384, k0_pay7 T.dv_3⟩,
    ⟨Rect.unit ![0, 256] ![128, 128] inb_S128x512_S128x128_0_256, k0_pay7 T.dv_2⟩,
    ⟨Rect.unit ![0, 128] ![128, 128] inb_S128x512_S128x128_0_128, k0_pay7 T.dv_1⟩,
    ⟨Rect.unit ![0, 0] ![128, 128] inb_S128x512_S128x128_0_0, k0_pay7 T.dv_0⟩]
def Tile.db (T : Tile F) (c : Vec F S8x128x256 .f32) : Vec F S8x128x256 .f32 := View.canon (T.dbPieces c)
def Tile.ck (T : Tile F) : Vec F S128x512 .f32 := View.canon T.ckPieces
def Tile.cv (T : Tile F) : Vec F S128x512 .f32 := View.canon T.cvPieces

/-! ## The runs leave these -/

/-- A load after a fill of the whole buffer reads the fill. -/
theorem ld_fill2 {sp : Space} {e : EltTy} (v : View sig .tc sp S128x512 e) (Z : Vec F S128x512 e) (r : Rect S128x512) (inb : ∀ a, (![0, 0] : Fin 2 → ℕ) a + S128x512.size a ≤ S128x512.size a) :
    v.readCov [⟨Rect.unit ![0, 0] ![128, 512] inb, Z⟩] r.toLoadRect = View.ld Z r :=
  View.readCov_fill (Val := Elt F) v inb Z [] r (by decide)
theorem ld_fill3 {sp : Space} {e : EltTy} (v : View sig .tc sp S8x128x256 e) (Z : Vec F S8x128x256 e) (r : Rect S8x128x256) (inb : ∀ a, (![0, 0, 0] : Fin 3 → ℕ) a + S8x128x256.size a ≤ S8x128x256.size a) :
    v.readCov [⟨Rect.unit ![0, 0, 0] ![8, 128, 256] inb, Z⟩] r.toLoadRect = View.ld Z r :=
  View.readCov_fill (Val := Elt F) v inb Z [] r (by decide)

/-- The tile of a later point, and that of the first. -/
def tileB (i : grid0.Coords) (x2 x3 x4 : Vec F S1x128x512 .bf16) (x5 : Vec F S8x128x256 .f32) (x6 : Vec F S1x128x512 .bf16) (x7 : Vec F S1x128x512 .f32) (x12 x13 : Vec F S128x512 .bf16) : Tile F :=
  { q := x2, k := x3, v := x4, b := x5, g := x6, st := x7, kp := x12, vp := x13, f := k0_pay15 (BitVec.ofNat 32 (i 1).val) }

/-- Stores over earlier ones, where they cover the buffer, leave what they leave alone. -/
theorem canon_append_of_cover {s : Shape} {e : EltTy} (L L' : List (View.Piece (Elt F) s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      obtain ⟨p', hp', hy'⟩ := h
      rcases List.mem_cons.mp hp' with rfl | hp'
      · exact absurd hy' hy
      · exact ih ⟨p', hp', hy'⟩

theorem db_cover (T : Tile F) (c : Vec F S8x128x256 .f32) : ∀ y, ∃ p ∈ T.dbPieces c, y ∈ p.1.set :=
  View.cover_of_tiledL (T.dbPieces c) S1x128x256.size (by sl_kernel_rfl)
theorem ck_cover (T : Tile F) : ∀ y, ∃ p ∈ T.ckPieces, y ∈ p.1.set := View.cover_of_tiledL T.ckPieces S128x128.size (by sl_kernel_rfl)
theorem cv_cover (T : Tile F) : ∀ y, ∃ p ∈ T.cvPieces, y ∈ p.1.set := View.cover_of_tiledL T.cvPieces S128x128.size (by sl_kernel_rfl)

section
variable (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
  (h1 : ¬isStart i) (h2 : ¬isReset i) (h3 : isTile i) (h4 : ¬isLast i)
  (x2 : Vec F S1x128x512 .bf16) (x3 : Vec F S1x128x512 .bf16) (x4 : Vec F S1x128x512 .bf16) (x5 : Vec F S8x128x256 .f32) (x6 : Vec F S1x128x512 .bf16) (x7 : Vec F S1x128x512 .f32) (x11 : Vec F S8x128x256 .f32) (x12 : Vec F S128x512 .bf16) (x13 : Vec F S128x512 .bf16) (x14 : Vec F S128x512 .f32) (x15 : Vec F S128x512 .f32)

theorem runB_dq : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).1 = (tileB i x2 x3 x4 x5 x6 x7 x12 x13).dq := by
  frame_out
  rfl
theorem runB_dk : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.1 = (tileB i x2 x3 x4 x5 x6 x7 x12 x13).dk x14 := by
  frame_out
  rfl
theorem runB_dv : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.1 = (tileB i x2 x3 x4 x5 x6 x7 x12 x13).dv x15 := by
  frame_out
  rfl
theorem runB_db : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.1 = (tileB i x2 x3 x4 x5 x6 x7 x12 x13).db x11 := by
  frame_out
  rfl
theorem runB_kp : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.1 = k0_pay9 (k0_pay36 x3) := by
  frame_out
theorem runB_vp : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.1 = k0_pay10 (k0_pay37 x4) := by
  frame_out
theorem runB_ck : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.2.1 = (tileB i x2 x3 x4 x5 x6 x7 x12 x13).ck := by
  frame_out
  rfl
theorem runB_cv : View.canon (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.2.2.1 = (tileB i x2 x3 x4 x5 x6 x7 x12 x13).cv := by
  frame_out
  rfl
end

section
variable (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
  (h1 : isStart i) (h2 : isReset i) (h3 : isTile i) (h4 : ¬isLast i)
  (x2 : Vec F S1x128x512 .bf16) (x3 : Vec F S1x128x512 .bf16) (x4 : Vec F S1x128x512 .bf16) (x5 : Vec F S8x128x256 .f32) (x6 : Vec F S1x128x512 .bf16) (x7 : Vec F S1x128x512 .f32)

theorem runA_dq : View.canon (runA c i a2 w2 a3 w3 a4 w4 a5 w5 a6 w6 a7 w7 a8 w8 a9 w9 a10 w10 a11 w11 a12 w12 a13 w13 a14 w14 a15 w15 h1 h2 h3 h4 x2 x3 x4 x5 x6 x7).1 = (tileB i x2 x3 x4 x5 x6 x7 k0_pay2 k0_pay3).dq := by
  frame_out
  simp (decide := true) only [↓View.readCov_skip, ↓ld_fill2, ↓ld_fill3]
  rfl
theorem runA_dk : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.1 = (tileB i x2 x3 x4 x5 x6 x7 k0_pay2 k0_pay3).dk k0_pay4 := by
  frame_out
  simp (decide := true) only [↓View.readCov_skip, ↓ld_fill2, ↓ld_fill3]
  rfl
theorem runA_dv : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.2.1 = (tileB i x2 x3 x4 x5 x6 x7 k0_pay2 k0_pay3).dv k0_pay5 := by
  frame_out
  simp (decide := true) only [↓View.readCov_skip, ↓ld_fill2, ↓ld_fill3]
  rfl
theorem runA_db : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.1 = (tileB i x2 x3 x4 x5 x6 x7 k0_pay2 k0_pay3).db k0_pay1 := by
  refine Eq.trans ?_ (funext fun y => canon_append_of_cover ((tileB i x2 x3 x4 x5 x6 x7 k0_pay2 k0_pay3).dbPieces k0_pay1) [⟨Rect.unit ![0, 0, 0] ![8, 128, 256] inb_S8x128x256_S8x128x256_0_0_0, k0_pay1⟩] y (db_cover (tileB i x2 x3 x4 x5 x6 x7 k0_pay2 k0_pay3) k0_pay1 y))
  frame_out
  simp (decide := true) only [↓View.readCov_skip, ↓ld_fill2, ↓ld_fill3]
  rfl
theorem runA_kp : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.1 = k0_pay9 (k0_pay36 x3) := by
  frame_out
theorem runA_vp : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.1 = k0_pay10 (k0_pay37 x4) := by
  frame_out
theorem runA_ck : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.2.1 = (tileB i x2 x3 x4 x5 x6 x7 k0_pay2 k0_pay3).ck := by
  refine Eq.trans ?_ (funext fun y => canon_append_of_cover ((tileB i x2 x3 x4 x5 x6 x7 k0_pay2 k0_pay3).ckPieces) [⟨Rect.unit ![0, 0] ![128, 512] inb_S128x512_S128x512_0_0, k0_pay4⟩] y (ck_cover (tileB i x2 x3 x4 x5 x6 x7 k0_pay2 k0_pay3) y))
  frame_out
  simp (decide := true) only [↓View.readCov_skip, ↓ld_fill2, ↓ld_fill3]
  rfl
theorem runA_cv : View.canon (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.2.2.1 = (tileB i x2 x3 x4 x5 x6 x7 k0_pay2 k0_pay3).cv := by
  refine Eq.trans ?_ (funext fun y => canon_append_of_cover ((tileB i x2 x3 x4 x5 x6 x7 k0_pay2 k0_pay3).cvPieces) [⟨Rect.unit ![0, 0] ![128, 512] inb_S128x512_S128x512_0_0, k0_pay5⟩] y (cv_cover (tileB i x2 x3 x4 x5 x6 x7 k0_pay2 k0_pay3) y))
  frame_out
  simp (decide := true) only [↓View.readCov_skip, ↓ld_fill2, ↓ld_fill3]
  rfl
end

section
variable (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
  (h1 : ¬isStart i) (h2 : ¬isReset i) (h3 : ¬isTile i) (h4 : isLast i)
  (x14 : Vec F S128x512 .f32) (x15 : Vec F S128x512 .f32)

theorem runC_dk : View.canon (runC c i a2 w2 a3 w3 a4 w4 a5 w5 a6 w6 a7 w7 a8 w8 a9 w9 a10 w10 a11 w11 a12 w12 a13 w13 a14 w14 a15 w15 h1 h2 h3 h4 x14 x15).1 = k0_pay11 x14 := by
  frame_out
theorem runC_dv : View.canon (runC c i a2 w2 a3 w3 a4 w4 a5 w5 a6 w6 a7 w7 a8 w8 a9 w9 a10 w10 a11 w11 a12 w12 a13 w13 a14 w14 a15 w15 h1 h2 h3 h4 x14 x15).2.1 = k0_pay12 x15 := by
  frame_out
end

end Cert.KernelIdeal.Body

end
-- ==== Proof.Region.lean ====
/- The region: what each point leaves in every buffer, the pipeline run, and the unchanged arguments. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import proofs.«01_k».proof.Proof.Tile
public import Idealize.ShloMosaic.Lib.Pipeline.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the runs leave, read back -/

section
variable (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
  (h1 : ¬isStart i) (h2 : ¬isReset i) (h3 : isTile i) (h4 : ¬isLast i)
  (x2 : Vec F S1x128x512 .bf16) (x3 : Vec F S1x128x512 .bf16) (x4 : Vec F S1x128x512 .bf16) (x5 : Vec F S8x128x256 .f32) (x6 : Vec F S1x128x512 .bf16) (x7 : Vec F S1x128x512 .f32) (x11 : Vec F S8x128x256 .f32) (x12 : Vec F S128x512 .bf16) (x13 : Vec F S128x512 .bf16) (x14 : Vec F S128x512 .f32) (x15 : Vec F S128x512 .f32)

theorem runB_dq_at (f) : a8.view.read (Elt F) (a8.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).1) = (tileB i x2 x3 x4 x5 x6 x7 x12 x13).dq :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).1 S1x128x128.size (by sl_kernel_rfl))).trans (runB_dq c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_dk_at (f) : a9.view.read (Elt F) (a9.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.1) = (tileB i x2 x3 x4 x5 x6 x7 x12 x13).dk x14 :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.1 S1x128x128.size (by sl_kernel_rfl))).trans (runB_dk c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_dv_at (f) : a10.view.read (Elt F) (a10.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.1) = (tileB i x2 x3 x4 x5 x6 x7 x12 x13).dv x15 :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.1 S1x128x128.size (by sl_kernel_rfl))).trans (runB_dv c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_db_at (f) : a11.view.read (Elt F) (a11.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.1) = (tileB i x2 x3 x4 x5 x6 x7 x12 x13).db x11 :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.1 S1x128x256.size (by sl_kernel_rfl))).trans (runB_db c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_kp_at (f) : a12.view.read (Elt F) (a12.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.1) = k0_pay9 (k0_pay36 x3) :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.1 S128x512.size (by sl_kernel_rfl))).trans (runB_kp c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_vp_at (f) : a13.view.read (Elt F) (a13.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.1) = k0_pay10 (k0_pay37 x4) :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.1 S128x512.size (by sl_kernel_rfl))).trans (runB_vp c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_ck_at (f) : a14.view.read (Elt F) (a14.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.2.1) = (tileB i x2 x3 x4 x5 x6 x7 x12 x13).ck :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.2.1 S128x128.size (by sl_kernel_rfl))).trans (runB_ck c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
theorem runB_cv_at (f) : a15.view.read (Elt F) (a15.view.writes (Elt F) f (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.2.2.1) = (tileB i x2 x3 x4 x5 x6 x7 x12 x13).cv :=
  (View.read_writes_eq_canon _ _ _ (View.cover_of_tiledL (runB c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15).2.2.2.2.2.2.2.1 S128x128.size (by sl_kernel_rfl))).trans (runB_cv c i a2 w2 a3 w3 a4 w4 a5 w5 a6 w6 a7 w7 a8 w8 a9 w9 a10 w10 a11 w11 a12 w12 a13 w13 a14 w14 a15 w15 h1 h2 h3 h4 x2 x3 x4 x5 x6 x7 x11 x12 x13 x14 x15)
end

section
variable (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
  (h1 : isStart i) (h2 : isReset i) (h3 : isTile i) (h4 : ¬isLast i)
  (x2 : Vec F S1x128x512 .bf16) (x3 : Vec F S1x128x512 .bf16) (x4 : Vec F S1x128x512 .bf16) (x5 : Vec F S8x128x256 .f32) (x6 : Vec F S1x128x512 .bf16) (x7 : Vec F S1x128x512 .f32)

theorem runA_dq_at (f) : a8.view.read (Elt F) (a8.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).1) = (tileB i x2 x3 x4 x5 x6 x7 k0_pay2 k0_pay3).dq :=
  (View.read_writes_eq_canon _ _ _ (View.cover_of_tiledL (runA c i a2 w2 a3 w3 a4 w4 a5 w5 a6 w6 a7 w7 a8 w8 a9 w9 a10 w10 a11 w11 a12 w12 a13 w13 a14 w14 a15 w15 h1 h2 h3 h4 x2 x3 x4 x5 x6 x7).1 S1x128x128.size (by sl_kernel_rfl))).trans (runA_dq c i a2 w2 a3 w3 a4 w4 a5 w5 a6 w6 a7 w7 a8 w8 a9 w9 a10 w10 a11 w11 a12 w12 a13 w13 a14 w14 a15 w15 h1 h2 h3 h4 x2 x3 x4 x5 x6 x7)
theorem runA_dk_at (f) : a9.view.read (Elt F) (a9.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.1) = (tileB i x2 x3 x4 x5 x6 x7 k0_pay2 k0_pay3).dk k0_pay4 :=
  (View.read_writes_eq_canon _ _ _ (View.cover_of_tiledL (runA c i a2 w2 a3 w3 a4 w4 a5 w5 a6 w6 a7 w7 a8 w8 a9 w9 a10 w10 a11 w11 a12 w12 a13 w13 a14 w14 a15 w15 h1 h2 h3 h4 x2 x3 x4 x5 x6 x7).2.1 S1x128x128.size (by sl_kernel_rfl))).trans (runA_dk c i a2 w2 a3 w3 a4 w4 a5 w5 a6 w6 a7 w7 a8 w8 a9 w9 a10 w10 a11 w11 a12 w12 a13 w13 a14 w14 a15 w15 h1 h2 h3 h4 x2 x3 x4 x5 x6 x7)
theorem runA_dv_at (f) : a10.view.read (Elt F) (a10.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.2.1) = (tileB i x2 x3 x4 x5 x6 x7 k0_pay2 k0_pay3).dv k0_pay5 :=
  (View.read_writes_eq_canon _ _ _ (View.cover_of_tiledL (runA c i a2 w2 a3 w3 a4 w4 a5 w5 a6 w6 a7 w7 a8 w8 a9 w9 a10 w10 a11 w11 a12 w12 a13 w13 a14 w14 a15 w15 h1 h2 h3 h4 x2 x3 x4 x5 x6 x7).2.2.1 S1x128x128.size (by sl_kernel_rfl))).trans (runA_dv c i a2 w2 a3 w3 a4 w4 a5 w5 a6 w6 a7 w7 a8 w8 a9 w9 a10 w10 a11 w11 a12 w12 a13 w13 a14 w14 a15 w15 h1 h2 h3 h4 x2 x3 x4 x5 x6 x7)
theorem runA_db_at (f) : a11.view.read (Elt F) (a11.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.1) = (tileB i x2 x3 x4 x5 x6 x7 k0_pay2 k0_pay3).db k0_pay1 :=
  (View.read_writes_eq_canon _ _ _ (View.cover_of_tiledBy (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.1 S1x128x256.size (by sl_kernel_rfl))).trans (runA_db c i a2 w2 a3 w3 a4 w4 a5 w5 a6 w6 a7 w7 a8 w8 a9 w9 a10 w10 a11 w11 a12 w12 a13 w13 a14 w14 a15 w15 h1 h2 h3 h4 x2 x3 x4 x5 x6 x7)
theorem runA_kp_at (f) : a12.view.read (Elt F) (a12.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.1) = k0_pay9 (k0_pay36 x3) :=
  (View.read_writes_eq_canon _ _ _ (View.cover_of_tiledL (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.1 S128x512.size (by sl_kernel_rfl))).trans (runA_kp c i a2 w2 a3 w3 a4 w4 a5 w5 a6 w6 a7 w7 a8 w8 a9 w9 a10 w10 a11 w11 a12 w12 a13 w13 a14 w14 a15 w15 h1 h2 h3 h4 x2 x3 x4 x5 x6 x7)
theorem runA_vp_at (f) : a13.view.read (Elt F) (a13.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.1) = k0_pay10 (k0_pay37 x4) :=
  (View.read_writes_eq_canon _ _ _ (View.cover_of_tiledL (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.1 S128x512.size (by sl_kernel_rfl))).trans (runA_vp c i a2 w2 a3 w3 a4 w4 a5 w5 a6 w6 a7 w7 a8 w8 a9 w9 a10 w10 a11 w11 a12 w12 a13 w13 a14 w14 a15 w15 h1 h2 h3 h4 x2 x3 x4 x5 x6 x7)
theorem runA_ck_at (f) : a14.view.read (Elt F) (a14.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.2.1) = (tileB i x2 x3 x4 x5 x6 x7 k0_pay2 k0_pay3).ck :=
  (View.read_writes_eq_canon _ _ _ (View.cover_of_wholeMem (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.2.1 (by sl_whole_mem))).trans (runA_ck c i a2 w2 a3 w3 a4 w4 a5 w5 a6 w6 a7 w7 a8 w8 a9 w9 a10 w10 a11 w11 a12 w12 a13 w13 a14 w14 a15 w15 h1 h2 h3 h4 x2 x3 x4 x5 x6 x7)
theorem runA_cv_at (f) : a15.view.read (Elt F) (a15.view.writes (Elt F) f (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.2.2.1) = (tileB i x2 x3 x4 x5 x6 x7 k0_pay2 k0_pay3).cv :=
  (View.read_writes_eq_canon _ _ _ (View.cover_of_wholeMem (runA c i a2 w2 a3 w3 a4 w4 a5 w5 a6 w6 a7 w7 a8 w8 a9 w9 a10 w10 a11 w11 a12 w12 a13 w13 a14 w14 a15 w15 h1 h2 h3 h4 x2 x3 x4 x5 x6 x7).2.2.2.2.2.2.2.1 (by sl_whole_mem))).trans (runA_cv c i a2 w2 a3 w3 a4 w4 a5 w5 a6 w6 a7 w7 a8 w8 a9 w9 a10 w10 a11 w11 a12 w12 a13 w13 a14 w14 a15 w15 h1 h2 h3 h4 x2 x3 x4 x5 x6 x7)
end

section
variable (c : Dev nD) (i : grid0.Coords) (a2 : Memref sig .tc .vmem S1x128x512 .bf16) (w2 : a2.IsWhole) (a3 : Memref sig .tc .vmem S1x128x512 .bf16) (w3 : a3.IsWhole) (a4 : Memref sig .tc .vmem S1x128x512 .bf16) (w4 : a4.IsWhole) (a5 : Memref sig .tc .vmem S8x128x256 .f32) (w5 : a5.IsWhole) (a6 : Memref sig .tc .vmem S1x128x512 .bf16) (w6 : a6.IsWhole) (a7 : Memref sig .tc .vmem S1x128x512 .f32) (w7 : a7.IsWhole) (a8 : Memref sig .tc .vmem S1x128x512 .f32) (w8 : a8.IsWhole) (a9 : Memref sig .tc .vmem S1x128x512 .f32) (w9 : a9.IsWhole) (a10 : Memref sig .tc .vmem S1x128x512 .bf16) (w10 : a10.IsWhole) (a11 : Memref sig .tc .vmem S8x128x256 .f32) (w11 : a11.IsWhole) (a12 : Memref sig .tc .vmem S128x512 .bf16) (w12 : a12.IsWhole) (a13 : Memref sig .tc .vmem S128x512 .bf16) (w13 : a13.IsWhole) (a14 : Memref sig .tc .vmem S128x512 .f32) (w14 : a14.IsWhole) (a15 : Memref sig .tc .vmem S128x512 .f32) (w15 : a15.IsWhole)
  (h1 : ¬isStart i) (h2 : ¬isReset i) (h3 : ¬isTile i) (h4 : isLast i)
  (x14 : Vec F S128x512 .f32) (x15 : Vec F S128x512 .f32)

theorem runC_dk_at (f) : a9.view.read (Elt F) (a9.view.writes (Elt F) f (runC c i a2 w2 a3 w3 a4 w4 a5 w5 a6 w6 a7 w7 a8 w8 a9 w9 a10 w10 a11 w11 a12 w12 a13 w13 a14 w14 a15 w15 h1 h2 h3 h4 x14 x15).1) = k0_pay11 x14 :=
  (View.read_writes_eq_canon _ _ _ (View.cover_of_tiledL (runC c i a2 w2 a3 w3 a4 w4 a5 w5 a6 w6 a7 w7 a8 w8 a9 w9 a10 w10 a11 w11 a12 w12 a13 w13 a14 w14 a15 w15 h1 h2 h3 h4 x14 x15).1 S1x128x512.size (by sl_kernel_rfl))).trans (runC_dk c i a2 w2 a3 w3 a4 w4 a5 w5 a6 w6 a7 w7 a8 w8 a9 w9 a10 w10 a11 w11 a12 w12 a13 w13 a14 w14 a15 w15 h1 h2 h3 h4 x14 x15)
theorem runC_dv_at (f) : a10.view.read (Elt F) (a10.view.writes (Elt F) f (runC c i a2 w2 a3 w3 a4 w4 a5 w5 a6 w6 a7 w7 a8 w8 a9 w9 a10 w10 a11 w11 a12 w12 a13 w13 a14 w14 a15 w15 h1 h2 h3 h4 x14 x15).2.1) = k0_pay12 x15 :=
  (View.read_writes_eq_canon _ _ _ (View.cover_of_tiledL (runC c i a2 w2 a3 w3 a4 w4 a5 w5 a6 w6 a7 w7 a8 w8 a9 w9 a10 w10 a11 w11 a12 w12 a13 w13 a14 w14 a15 w15 h1 h2 h3 h4 x14 x15).2.1 S1x128x512.size (by sl_kernel_rfl))).trans (runC_dv c i a2 w2 a3 w3 a4 w4 a5 w5 a6 w6 a7 w7 a8 w8 a9 w9 a10 w10 a11 w11 a12 w12 a13 w13 a14 w14 a15 w15 h1 h2 h3 h4 x14 x15)
end

/-! ## The buffers, point by point -/

variable (m : (ℓ : Loc nD τ sig) → Buf (Elt F) ℓ) (ρ : Dev nD → PrngReg)

/-- The `n`-th point. -/
def pt (n : ℕ) : Fin cfg0.N := ⟨min n 64, lt_of_le_of_lt (min_le_right n 64) (show 64 < cfg0.N by rw [show cfg0.N = 65 from N_0]; omega)⟩

theorem pt_val (t : Fin cfg0.N) : pt t.val = t :=
  Fin.ext (min_eq_left (by have := t.isLt; have h : cfg0.N = 65 := N_0; omega))

/-- The block of keys, and of values, carried into point `n`. -/
def kpAt (c : Dev nD) : ℕ → Vec F S128x512 .bf16
  | 0 => k0_pay2
  | n + 1 => k0_pay9 (k0_pay36 (iblk m c 1 (pt n)))
def vpAt (c : Dev nD) : ℕ → Vec F S128x512 .bf16
  | 0 => k0_pay3
  | n + 1 => k0_pay10 (k0_pay37 (iblk m c 2 (pt n)))
theorem kpAt_next (c : Dev nD) (t : Fin cfg0.N) : kpAt m c (t.val + 1) = k0_pay9 (k0_pay36 (iblk m c 1 t)) := by
  show k0_pay9 (k0_pay36 (iblk m c 1 (pt t.val))) = _; rw [pt_val]
theorem vpAt_next (c : Dev nD) (t : Fin cfg0.N) : vpAt m c (t.val + 1) = k0_pay10 (k0_pay37 (iblk m c 2 t)) := by
  show k0_pay10 (k0_pay37 (iblk m c 2 (pt t.val))) = _; rw [pt_val]
/-- What point `n` works on. -/
def tileAt (c : Dev nD) (n : ℕ) : Tile F :=
  tileB (grid0.coords (pt n)) (iblk m c 0 (pt n)) (iblk m c 1 (pt n)) (iblk m c 2 (pt n)) (iblk m c 3 (pt n)) (iblk m c 4 (pt n)) (iblk m c 5 (pt n)) (kpAt m c n) (vpAt m c n)
/-- The sums carried into point `n`, of the keys' and of the values' gradients; -/
def ckAt (c : Dev nD) : ℕ → Vec F S128x512 .f32
  | 0 => k0_pay4
  | n + 1 => (tileAt m c n).ck
def cvAt (c : Dev nD) : ℕ → Vec F S128x512 .f32
  | 0 => k0_pay5
  | n + 1 => (tileAt m c n).cv
/-- and the sum of the scores' gradients before point `n`. -/
def dbAt (c : Dev nD) : ℕ → Vec F S8x128x256 .f32
  | 0 => k0_pay1
  | n + 1 => (tileAt m c n).db (dbAt c n)

/-- What point `n` leaves in the four result windows. -/
def dqOut (c : Dev nD) (n : ℕ) : Vec F S1x128x512 .f32 := (tileAt m c (min n 63)).dq
def dkOut (c : Dev nD) (n : ℕ) : Vec F S1x128x512 .f32 := if n < 64 then (tileAt m c n).dk (ckAt m c n) else k0_pay11 (ckAt m c 64)
def dvOut (c : Dev nD) (n : ℕ) : Vec F S1x128x512 .bf16 := if n < 64 then (tileAt m c n).dv (cvAt m c n) else k0_pay12 (cvAt m c 64)
def dbOut (c : Dev nD) (n : ℕ) : Vec F S8x128x256 .f32 := dbAt m c (min (n + 1) 64)

/-! ## The pipeline's proof data -/

abbrev mw0 (t : Fin cfg0.N) : Memref sig .tc .vmem S1x128x512 .bf16 := win0_0.stage (cfg0.slots t 0)
abbrev hw0 (t : Fin cfg0.N) : (mw0 t).IsWhole := hstage0_0 ((cfg0.slots t 0).cast nbuf0_0)
abbrev mw1 (t : Fin cfg0.N) : Memref sig .tc .vmem S1x128x512 .bf16 := win0_1.stage (cfg0.slots t 1)
abbrev hw1 (t : Fin cfg0.N) : (mw1 t).IsWhole := hstage0_1 ((cfg0.slots t 1).cast nbuf0_1)
abbrev mw2 (t : Fin cfg0.N) : Memref sig .tc .vmem S1x128x512 .bf16 := win0_2.stage (cfg0.slots t 2)
abbrev hw2 (t : Fin cfg0.N) : (mw2 t).IsWhole := hstage0_2 ((cfg0.slots t 2).cast nbuf0_2)
abbrev mw3 (t : Fin cfg0.N) : Memref sig .tc .vmem S8x128x256 .f32 := win0_3.stage (cfg0.slots t 3)
abbrev hw3 (t : Fin cfg0.N) : (mw3 t).IsWhole := hstage0_3 ((cfg0.slots t 3).cast nbuf0_3)
abbrev mw4 (t : Fin cfg0.N) : Memref sig .tc .vmem S1x128x512 .bf16 := win0_4.stage (cfg0.slots t 4)
abbrev hw4 (t : Fin cfg0.N) : (mw4 t).IsWhole := hstage0_4 ((cfg0.slots t 4).cast nbuf0_4)
abbrev mw5 (t : Fin cfg0.N) : Memref sig .tc .vmem S1x128x512 .f32 := win0_5.stage (cfg0.slots t 5)
abbrev hw5 (t : Fin cfg0.N) : (mw5 t).IsWhole := hstage0_5 ((cfg0.slots t 5).cast nbuf0_5)
abbrev mw6 (t : Fin cfg0.N) : Memref sig .tc .vmem S1x128x512 .f32 := win0_6.stage (cfg0.slots t 6)
abbrev hw6 (t : Fin cfg0.N) : (mw6 t).IsWhole := hstage0_6 ((cfg0.slots t 6).cast nbuf0_6)
abbrev mw7 (t : Fin cfg0.N) : Memref sig .tc .vmem S1x128x512 .f32 := win0_7.stage (cfg0.slots t 7)
abbrev hw7 (t : Fin cfg0.N) : (mw7 t).IsWhole := hstage0_7 ((cfg0.slots t 7).cast nbuf0_7)
abbrev mw8 (t : Fin cfg0.N) : Memref sig .tc .vmem S1x128x512 .bf16 := win0_8.stage (cfg0.slots t 8)
abbrev hw8 (t : Fin cfg0.N) : (mw8 t).IsWhole := hstage0_8 ((cfg0.slots t 8).cast nbuf0_8)
abbrev mw9 (t : Fin cfg0.N) : Memref sig .tc .vmem S8x128x256 .f32 := win0_9.stage (cfg0.slots t 9)
abbrev hw9 (t : Fin cfg0.N) : (mw9 t).IsWhole := hstage0_9 ((cfg0.slots t 9).cast nbuf0_9)
abbrev sc0 : Memref sig .tc .vmem S128x512 .bf16 := Memref.whole cc0_scratch0
abbrev sc1 : Memref sig .tc .vmem S128x512 .bf16 := Memref.whole cc0_scratch1
abbrev sc2 : Memref sig .tc .vmem S128x512 .f32 := Memref.whole cc0_scratch2
abbrev sc3 : Memref sig .tc .vmem S128x512 .f32 := Memref.whole cc0_scratch3

/-- The scratches at anything, and the generator register. -/
theorem ΦA_split (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The scratches at what the points before `n` left. -/
def carried (c : Dev nD) (n : ℕ) : sProp 𝕄 :=
  iprop(iprop(owns (c : Thread nD τ) sc0 fullShare (kpAt m c n) ∗ owns (c : Thread nD τ) sc1 fullShare (vpAt m c n) ∗ owns (c : Thread nD τ) sc2 fullShare (ckAt m c n) ∗ owns (c : Thread nD τ) sc3 fullShare (cvAt m c n)) ∗ (∃ r, prngReg c r))
def inv (c : Dev nD) : (n : ℕ) → sProp 𝕄
  | 0 => Pipeline.ΦA spec0 c
  | n + 1 => carried m c (min (n + 1) 64)

theorem inv_pos (c : Dev nD) (n : ℕ) (h : n ≠ 0) : inv m c n = carried m c (min n 64) := by
  cases n with
  | zero => exact absurd rfl h
  | succ n => rfl

/-- The region's arrays as it finds them, the contents after each point, and the scratches between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut m c t.val
    | ⟨7, _⟩ => dkOut m c t.val
    | ⟨8, _⟩ => dvOut m c t.val
    | ⟨9, _⟩ => dbOut m c t.val
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqOut m c t.val := by dsimp only [dats]
theorem after_7 (c : Dev nD) (t : Fin cfg0.N) : (dats m 0 c).after 7 t = dkOut m c t.val := by dsimp only [dats]
theorem after_8 (c : Dev nD) (t : Fin cfg0.N) : (dats m 0 c).after 8 t = dvOut m c t.val := by dsimp only [dats]
theorem after_9 (c : Dev nD) (t : Fin cfg0.N) : (dats m 0 c).after 9 t = dbOut m c t.val := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-! ## The two windows left alone at the last point -/

def fresh6 : ℕ → Bool
  | 0 => true
  | n + 1 => !(n == 63)
def fresh9 : ℕ → Bool
  | 0 => true
  | n + 1 => n == 64
theorem fresh6_step : ∀ t : Fin cfg0.N, fresh6 (t.val + 1) = ((cfg0.win 6).flush t || (cfg0.idle 6 (cfg0.grid.coords t) && fresh6 t.val)) := by decide +kernel
theorem fresh9_step : ∀ t : Fin cfg0.N, fresh9 (t.val + 1) = ((cfg0.win 9).flush t || (cfg0.idle 9 (cfg0.grid.coords t) && fresh9 t.val)) := by decide +kernel
theorem fresh6_eq (t : Fin cfg0.N) : cfg0.fresh 6 t.val = fresh6 t.val := Pipeline.Cfg.fresh_tab cfg0 6 fresh6 rfl fresh6_step t.val (Nat.le_of_lt t.isLt)
theorem fresh9_eq (t : Fin cfg0.N) : cfg0.fresh 9 t.val = fresh9 t.val := Pipeline.Cfg.fresh_tab cfg0 9 fresh9 rfl fresh9_step t.val (Nat.le_of_lt t.isLt)
theorem idle6_iff : ∀ t : Fin cfg0.N, cfg0.idle 6 (grid0.coords t) = true ↔ t.val = 64 := by decide +kernel
theorem idle9_iff : ∀ t : Fin cfg0.N, cfg0.idle 9 (grid0.coords t) = true ↔ t.val = 64 := by decide +kernel
theorem live7 : ∀ t : Fin cfg0.N, cfg0.idle 7 (grid0.coords t) = false := by decide +kernel
theorem live8 : ∀ t : Fin cfg0.N, cfg0.idle 8 (grid0.coords t) = false := by decide +kernel
theorem flush6_last : ∀ t : Fin cfg0.N, t.val = 64 → (cfg0.win 6).flush t = true := by decide +kernel
theorem flush9_last : ∀ t : Fin cfg0.N, t.val = 64 → (cfg0.win 9).flush t = true := by decide +kernel

/-- At the last point the window of the queries' gradients holds what the point before left; -/
theorem before_6_last (c : Dev nD) (t : Fin cfg0.N) (ht : t.val = 64) (d) : (dats m 0 c).before 6 t d = dqOut m c 64 := by
  rw [Dat.before_out_traj _ 6 rfl (fun _ _ => rfl) (fun t' h0 hi _ => by
      rw [after_6, after_6]; have := (idle6_iff t').mp hi; simp only [this]; rfl) t.val t rfl d,
    if_neg (by rw [fresh6_eq, ht]; decide), after_6]
  simp only [ht]; rfl
/-- and the window of the summed gradients holds, from the second point on, what the points before summed. -/
theorem before_9_pos (c : Dev nD) (t : Fin cfg0.N) (ht : t.val ≠ 0) (d) : (dats m 0 c).before 9 t d = dbAt m c (min t.val 64) := by
  have hN : t.val < 65 := lt_of_lt_of_eq t.isLt (show cfg0.N = 65 from N_0)
  rw [Dat.before_out_traj _ 9 rfl (fun _ _ => rfl) (fun t' h0 hi _ => by
      rw [after_9, after_9]; have := (idle9_iff t').mp hi; simp only [this]; rfl) t.val t rfl d,
    if_neg (by
      rw [fresh9_eq]; obtain ⟨n, hn⟩ := Nat.exists_eq_succ_of_ne_zero ht
      rw [hn]; simp only [Nat.succ_eq_add_one, fresh9, beq_iff_eq]; omega), after_9]
  simp only [dbOut]; rw [Nat.sub_add_cancel (Nat.one_le_iff_ne_zero.mpr ht)]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d))
    ∗ (∃ d, owns (c : Thread nD τ) (mw8 t) fullShare ((dats m 0 c).before 8 t d))
    ∗ (∃ d, owns (c : Thread nD τ) (mw9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (mw0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (mw1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (mw2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (mw3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (mw4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (mw5 t) fullShare (iblk m c 5 t) := by
  unfold Dat.leavesExact; rw [show cfg0.idle 5 (cfg0.grid.coords t) = false from rfl, after_5]
theorem leaves_7 (c : Dev nD) (t : Fin cfg0.N) : (dats m 0 c).leavesExact 7 t = owns (c : Thread nD τ) (mw7 t) fullShare (dkOut m c t.val) := by
  unfold Dat.leavesExact; rw [live7 t, after_7]
theorem leaves_8 (c : Dev nD) (t : Fin cfg0.N) : (dats m 0 c).leavesExact 8 t = owns (c : Thread nD τ) (mw8 t) fullShare (dvOut m c t.val) := by
  unfold Dat.leavesExact; rw [live8 t, after_8]
theorem leaves_6 (c : Dev nD) (t : Fin cfg0.N) : (dats m 0 c).leavesExact 6 t = owns (c : Thread nD τ) (mw6 t) fullShare (dqOut m c t.val) := by
  unfold Dat.leavesExact
  by_cases h : cfg0.idle 6 (grid0.coords t) = true
  · rw [h, flush6_last t ((idle6_iff t).mp h), after_6]
  · rw [Bool.eq_false_iff.mpr h, after_6]
theorem leaves_9 (c : Dev nD) (t : Fin cfg0.N) : (dats m 0 c).leavesExact 9 t = owns (c : Thread nD τ) (mw9 t) fullShare (dbOut m c t.val) := by
  unfold Dat.leavesExact
  by_cases h : cfg0.idle 9 (grid0.coords t) = true
  · rw [h, flush9_last t ((idle9_iff t).mp h), after_9]
  · rw [Bool.eq_false_iff.mpr h, after_9]
set_option maxHeartbeats 8000000 in
theorem body_A (c : Dev nD) (t : Fin cfg0.N) (ht : t.val = 0) : bodyPre m c t ⊢ wp frame (wpE (defs₀ (F := F)) Variants.none c none) Set.univ (bodyAt0 t) (fun _ => bodyPost m c t) := by
  have h1 := (start_iff t).mpr ht
  have h2 := (reset_iff t).mpr ht
  have h3 := (tile_iff t).mpr (by omega)
  have h4 := fun h => (last_iff t).mp h (by omega)
  unfold bodyPre bodyPost bodyAt0
  simp only [before_0, before_1, before_2, before_3, before_4, before_5]
  rw [leaves_0, leaves_1, leaves_2, leaves_3, leaves_4, leaves_5, leaves_6, leaves_7, leaves_8, leaves_9]
  rw [show (dats m 0 c).owesAt () t.succ = (dats m 0 c).owesAt () t.castSucc from rfl, show (dats m 0 c).Φ t.succ = carried m c (min (t.val + 1) 64) from rfl, show (dats m 0 c).Φ t.castSucc = inv m c t.val from rfl]
  rw [show inv m c t.val = Pipeline.ΦA spec0 c by rw [ht]; rfl, ΦA_split]
  have eT : tileAt m c t.val = tileB (grid0.coords t) (iblk m c 0 t) (iblk m c 1 t) (iblk m c 2 t) (iblk m c 3 t) (iblk m c 4 t) (iblk m c 5 t) (kpAt m c t.val) (vpAt m c t.val) := by unfold tileAt; rw [pt_val]
  rw [show min (t.val + 1) 64 = t.val + 1 by omega, show dqOut m c t.val = (tileAt m c t.val).dq by unfold dqOut; rw [show min t.val 63 = t.val by omega], show dkOut m c t.val = (tileAt m c t.val).dk (ckAt m c t.val) from if_pos (by omega), show dvOut m c t.val = (tileAt m c t.val).dv (cvAt m c t.val) from if_pos (by omega),
    show dbOut m c t.val = (tileAt m c t.val).db (dbAt m c t.val) by unfold dbOut; rw [show min (t.val + 1) 64 = t.val + 1 by omega]; rfl]
  unfold carried
  rw [kpAt_next, vpAt_next, show ckAt m c (t.val + 1) = (tileAt m c t.val).ck from rfl, show cvAt m c (t.val + 1) = (tileAt m c t.val).cv from rfl, eT]
  simp only [show kpAt m c t.val = k0_pay2 by rw [ht]; rfl, show vpAt m c t.val = k0_pay3 by rw [ht]; rfl, show ckAt m c t.val = k0_pay4 by rw [ht]; rfl, show cvAt m c t.val = k0_pay5 by rw [ht]; rfl, show dbAt m c t.val = k0_pay1 by rw [ht]; rfl]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact runA_kp_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
      isplitl [HS1]
      · unfold owns; iexists _; isplitr
        swap; · iexact HS1
        ipureintro; exact runA_vp_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
      isplitl [HS2]
      · unfold owns; iexists _; isplitr
        swap; · iexact HS2
        ipureintro; exact runA_ck_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
      unfold owns; iexists _; isplitr
      swap; · iexact HS3
      ipureintro; exact runA_cv_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runA_dq_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
  isplitl [H7]
  · unfold owns; iexists _; isplitr
    swap; · iexact H7
    ipureintro; exact runA_dk_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
  isplitl [H8]
  · unfold owns; iexists _; isplitr
    swap; · iexact H8
    ipureintro; exact runA_dv_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _
  unfold owns; iexists _; isplitr
  swap; · iexact H9
  ipureintro; exact runA_db_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) _

set_option maxHeartbeats 8000000 in
theorem body_B (c : Dev nD) (t : Fin cfg0.N) (h0 : t.val ≠ 0) (ht : t.val < 64) : bodyPre m c t ⊢ wp frame (wpE (defs₀ (F := F)) Variants.none c none) Set.univ (bodyAt0 t) (fun _ => bodyPost m c t) := by
  have h1 := fun h => h0 ((start_iff t).mp h)
  have h2 := fun h => h0 ((reset_iff t).mp h)
  have h3 := (tile_iff t).mpr ht
  have h4 := fun h => (last_iff t).mp h ht
  unfold bodyPre bodyPost bodyAt0
  simp only [before_0, before_1, before_2, before_3, before_4, before_5]
  rw [leaves_0, leaves_1, leaves_2, leaves_3, leaves_4, leaves_5, leaves_6, leaves_7, leaves_8, leaves_9]
  rw [show (dats m 0 c).owesAt () t.succ = (dats m 0 c).owesAt () t.castSucc from rfl, show (dats m 0 c).Φ t.succ = carried m c (min (t.val + 1) 64) from rfl, show (dats m 0 c).Φ t.castSucc = inv m c t.val from rfl]
  rw [inv_pos m c t.val h0]
  simp only [before_9_pos m c t h0]
  rw [show min t.val 64 = t.val by omega]
  have eT : tileAt m c t.val = tileB (grid0.coords t) (iblk m c 0 t) (iblk m c 1 t) (iblk m c 2 t) (iblk m c 3 t) (iblk m c 4 t) (iblk m c 5 t) (kpAt m c t.val) (vpAt m c t.val) := by unfold tileAt; rw [pt_val]
  rw [show min (t.val + 1) 64 = t.val + 1 by omega, show dqOut m c t.val = (tileAt m c t.val).dq by unfold dqOut; rw [show min t.val 63 = t.val by omega], show dkOut m c t.val = (tileAt m c t.val).dk (ckAt m c t.val) from if_pos (by omega), show dvOut m c t.val = (tileAt m c t.val).dv (cvAt m c t.val) from if_pos (by omega),
    show dbOut m c t.val = (tileAt m c t.val).db (dbAt m c t.val) by unfold dbOut; rw [show min (t.val + 1) 64 = t.val + 1 by omega]; rfl]
  unfold carried
  rw [kpAt_next, vpAt_next, show ckAt m c (t.val + 1) = (tileAt m c t.val).ck from rfl, show cvAt m c (t.val + 1) = (tileAt m c t.val).cv from rfl, eT]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩, ⟨%es3, HS3⟩⟩
  isplitl [HS0 HS1 HS2 HS3 Hg]
  · isplitl [HS0 HS1 HS2 HS3]
    · isplitl [HS0]
      · unfold owns; iexists _; isplitr
        swap; · iexact HS0
        ipureintro; exact runB_kp_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
      isplitl [HS1]
      · unfold owns; iexists _; isplitr
        swap; · iexact HS1
        ipureintro; exact runB_vp_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
      isplitl [HS2]
      · unfold owns; iexists _; isplitr
        swap; · iexact HS2
        ipureintro; exact runB_ck_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
      unfold owns; iexists _; isplitr
      swap; · iexact HS3
      ipureintro; exact runB_cv_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runB_dq_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
  isplitl [H7]
  · unfold owns; iexists _; isplitr
    swap; · iexact H7
    ipureintro; exact runB_dk_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
  isplitl [H8]
  · unfold owns; iexists _; isplitr
    swap; · iexact H8
    ipureintro; exact runB_dv_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _
  unfold owns; iexists _; isplitr
  swap; · iexact H9
  ipureintro; exact runB_db_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (iblk m c 0 t) (iblk m c 1 t) (iblk m c 2 t) (iblk m c 3 t) (iblk m c 4 t) (iblk m c 5 t) (dbAt m c t.val) (kpAt m c t.val) (vpAt m c t.val) (ckAt m c t.val) (cvAt m c t.val) _

set_option maxHeartbeats 8000000 in
theorem body_C (c : Dev nD) (t : Fin cfg0.N) (ht : t.val = 64) : bodyPre m c t ⊢ wp frame (wpE (defs₀ (F := F)) Variants.none c none) Set.univ (bodyAt0 t) (fun _ => bodyPost m c t) := by
  have h0 : t.val ≠ 0 := by omega
  have h1 := fun h => h0 ((start_iff t).mp h)
  have h2 := fun h => h0 ((reset_iff t).mp h)
  have h3 : ¬isTile (grid0.coords t) := fun h => absurd ((tile_iff t).mp h) (by omega)
  have h4 := (last_iff t).mpr (by omega)
  unfold bodyPre bodyPost bodyAt0
  simp only [before_0, before_1, before_2, before_3, before_4, before_5]
  rw [leaves_0, leaves_1, leaves_2, leaves_3, leaves_4, leaves_5, leaves_6, leaves_7, leaves_8, leaves_9]
  rw [show (dats m 0 c).owesAt () t.succ = (dats m 0 c).owesAt () t.castSucc from rfl, show (dats m 0 c).Φ t.succ = carried m c (min (t.val + 1) 64) from rfl, show (dats m 0 c).Φ t.castSucc = inv m c t.val from rfl]
  rw [inv_pos m c t.val h0]
  simp only [before_9_pos m c t h0]
  simp only [before_6_last m c t ht]
  rw [show min t.val 64 = 64 by omega]
  rw [show min (t.val + 1) 64 = 64 by omega, show dqOut m c t.val = dqOut m c 64 by rw [ht], show dkOut m c t.val = k0_pay11 (ckAt m c 64) from if_neg (by omega), show dvOut m c t.val = k0_pay12 (cvAt m c 64) from if_neg (by omega), show dbOut m c t.val = dbAt m c 64 by rw [ht]; rfl]
  unfold carried
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (ckAt m c 64) (cvAt m c 64)).2.2 Set.univ _)
  isplitl [H7]; · iexists _; iexact H7
  isplitl [H8]; · iexists _; iexact H8
  isplitl [HS2]; · iexact HS2
  isplitl [HS3]; · iexact HS3
  iintro ⟨⟨%e7, H7⟩, ⟨%e8, H8⟩, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact runC_dk_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (ckAt m c 64) (cvAt m c 64) _
  isplitl [H8]
  · unfold owns; iexists _; isplitr
    swap; · iexact H8
    ipureintro; exact runC_dv_at c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) sc0 (Memref.isWhole_whole _) sc1 (Memref.isWhole_whole _) sc2 (Memref.isWhole_whole _) sc3 (Memref.isWhole_whole _) h1 h2 h3 h4 (ckAt m c 64) (cvAt m c 64) _
  iexact H9

/-- The body at any point. -/
theorem body_any (c : Dev nD) (t : Fin cfg0.N) : bodyPre m c t ⊢ wp frame (wpE (defs₀ (F := F)) Variants.none c none) Set.univ (bodyAt0 t) (fun _ => bodyPost m c t) := by
  have hN : t.val < 65 := lt_of_lt_of_eq t.isLt (show cfg0.N = 65 from N_0)
  by_cases h0 : t.val = 0
  · exact body_A m c t h0
  · by_cases h : t.val < 64
    · exact body_B m c t h0 h
    · exact body_C m c t (by omega)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_any m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [show (dats m 0 c).Φ (Fin.last cfg0.N) = carried m c 64 from rfl, ΦA_split]
  unfold carried
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run -/

set_option backward.isDefEq.respectTransparency.types false in
/-- Every execution ends with the arrays at what the proof data says, and every counter at zero. -/
theorem run_q : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_post : θ_run defs (onTc (τ := τ) (main (F := F))) (s₀ m ρ) (Pipeline.FramePost cfgs (dats m) 0 (V m)) :=
  (θ_run defs _ _).mono (fun _ h => h.1) (run_q m ρ)

/-- The arguments end unchanged and every counter at zero. -/
theorem unchanged_q : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_post m ρ)) ((θ_run defs _ _).mono (fun _ h => h.2) (run_q m ρ))

end Cert.KernelIdeal.Body

end
-- ==== Proof.SameRun.lean ====
/- The kernel is the idealised kernel read with the named constant at its own bits, operation for operation. -/
module

public import proofs.«01_k».proof.Proof.Region
public import proofs.«01_k».proof.Proof.Gen.Kernel
public import proofs.«01_k».proof.Kernel

@[expose] public section

set_option maxRecDepth 16384

noncomputable section

namespace Cert.Kernel.Same

open Idealize.ShloMosaic Idealize.ShloMosaic.TcCoe Idealize.SL.Sem

variable {F : FTy → Type} [FloatOps F]

/-- A named constant read at the bits it stands beside. -/
@[reducible] def plain : Named F where
  named _ _ bits := FloatOps.ofBits bits

set_option maxHeartbeats 4000000 in
theorem defs0_same : (letI : Named F := plain; Cert.KernelIdeal.defs₀ (F := F)) = Cert.Kernel.defs₀ (F := F) := by
  refine congrArg Defs.onTc (funext fun l => ?_)
  match l with
  | ⟨0, _⟩ => funext a; obtain ⟨t, s⟩ := a; rfl
  | ⟨n + 1, h⟩ => exact absurd h (Nat.not_lt.2 (Nat.le_add_left _ _))
set_option maxHeartbeats 4000000 in
theorem defs_same : (letI : Named F := plain; Cert.KernelIdeal.defs (F := F)) = Cert.Kernel.defs (F := F) :=
  congrArg (Pipeline.defs (Cert.Kernel.pcfgs (F := F))) defs0_same

set_option maxHeartbeats 4000000 in
theorem part0_same : (letI : Named F := plain; Cert.KernelIdeal.main_part0 (F := F)) = Cert.Kernel.main_part0 (F := F) := rfl

set_option maxHeartbeats 4000000 in
theorem part1_same : (letI : Named F := plain; Cert.KernelIdeal.main_part1 (F := F)) = Cert.Kernel.main_part1 (F := F) := rfl

set_option maxHeartbeats 4000000 in
theorem part2_same : (letI : Named F := plain; Cert.KernelIdeal.main_part2 (F := F)) = Cert.Kernel.main_part2 (F := F) := rfl

end Cert.Kernel.Same

end
-- ==== Proof.SameMain.lean ====
/- The kernel's frame, from the run of the idealised kernel: the two are one program once the named constant is read at its bits. -/
module

public import proofs.«01_k».proof.Defs
public import proofs.«01_k».proof.Proof.SameRun

@[expose] public section

noncomputable section

namespace Cert.Kernel.Same

open Idealize.ShloMosaic Idealize.ShloMosaic.TcCoe Idealize.SL.Sem

variable {F : FTy → Type} [FloatOps F]

theorem main_same : (letI : Named F := plain; Cert.KernelIdeal.main (F := F)) = Cert.Kernel.main (F := F) := by
  funext d
  exact congrArg₂ bind (congrFun part0_same d) (funext fun _ =>
    congrArg₂ bind (congrFun part1_same d) (funext fun _ => congrFun part2_same d))

/-- Every execution of the kernel ends with its arguments unchanged and every counter at zero. -/
theorem frame_p : @Cert.quiescent_Kernel Cert.Kernel.Gen.facts := fun m ρ _ => by
  have h := (letI : Named Bits := plain; Cert.KernelIdeal.Body.unchanged_q (F := Bits) m ρ)
  rw [defs_same (F := Bits), main_same (F := Bits)] at h
  exact h

end Cert.Kernel.Same

end
-- ==== Proof.Spec.lean ====
/- The gradient of one group's attention, in real numbers: the quantities both programs compute, and the identity between the two ways of computing them. -/
module

public import Idealize.ShloMosaic.Lib.Pointwise

@[expose] public section

noncomputable section

namespace Cert.Attn

open Idealize.ShloMosaic

/-! ## Real numbers among the extended reals -/

theorem coe_sum {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem exp_real (x : ℝ) : Ideal.exp (x : EReal) = ((Real.exp x : ℝ) : EReal) := rfl

theorem exp_bot : Ideal.exp (⊥ : EReal) = 0 := rfl

theorem log_real {x : ℝ} (h : 0 < x) : Ideal.log (x : EReal) = ((Real.log x : ℝ) : EReal) := if_neg (not_le.mpr h)

theorem div_real {y : ℝ} (h : y ≠ 0) (x : ℝ) : Ideal.div (x : EReal) (y : EReal) = ((x / y : ℝ) : EReal) := by
  rw [Ideal.div_coe h, ← EReal.coe_mul, mul_one_div]

theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-! ## The arrays -/

/-- The arrays of the step at one group, by block, row in the block, head and lane. -/
structure Args where
  q : Fin 64 → Fin 128 → Fin 8 → Fin 64 → ℝ
  k : Fin 64 → Fin 128 → Fin 8 → Fin 64 → ℝ
  v : Fin 64 → Fin 128 → Fin 8 → Fin 64 → ℝ
  g : Fin 64 → Fin 128 → Fin 8 → Fin 64 → ℝ
  o1 : Fin 64 → Fin 128 → Fin 8 → Fin 64 → ℝ
  o2 : Fin 64 → Fin 128 → Fin 8 → Fin 64 → ℝ
  b : Fin 8 → Fin 128 → Fin 256 → ℝ
  l1 : Fin 64 → Fin 128 → Fin 8 → ℝ
  l2 : Fin 64 → Fin 128 → Fin 8 → ℝ

/-- A block's window of an array: the block before it, zero before the first, and the block itself. -/
def win (x : Fin 64 → Fin 128 → Fin 8 → Fin 64 → ℝ) (n : Fin 64) (j : Fin 256) (h : Fin 8) (l : Fin 64) : ℝ :=
  if hj : j.val < 128 then (if hn : 0 < n.val then x ⟨n.val - 1, by omega⟩ ⟨j.val, hj⟩ h l else 0)
  else x n ⟨j.val - 128, by omega⟩ h l

/-- Row `r` of block `n` sees place `j` of its window. -/
abbrev ok (n : Fin 64) (r : Fin 128) (j : Fin 256) : Prop := (r.val ≤ j.val ∧ j.val ≤ r.val + 128) ∧ (0 < n.val ∨ 128 ≤ j.val)

namespace Args

variable (A : Args) (n : Fin 64) (h : Fin 8) (r : Fin 128)

/-! ## The attention of the group -/

/-- The score of a place. -/
def lg (j : Fin 256) : ℝ := (∑ l, A.q n r h l * win A.k n j h l) + A.b h r j

/-- The score of a place, least where the row does not see it. -/
def S (j : Fin 256) : EReal := if ok n r j then (A.lg n h r j : EReal) else ⊥

/-- The greatest score. -/
def mx : ℝ := (Finset.univ.fold max ⊥ (A.S n h r)).toReal

/-- The place a row sees in its own row. -/
def own : Fin 256 := ⟨r.val + 128, by omega⟩

theorem own_ok : ok n r (own r) := ⟨⟨by simp [own], by simp [own]⟩, Or.inr (by simp [own])⟩

theorem fold_ge (j : Fin 256) : A.S n h r j ≤ Finset.univ.fold max ⊥ (A.S n h r) :=
  (Finset.le_fold_max _).mpr (Or.inr ⟨j, Finset.mem_univ j, le_rfl⟩)

theorem S_lt (j : Fin 256) : A.S n h r j < ⊤ := by
  unfold S; split
  · exact EReal.coe_lt_top _
  · exact bot_lt_top

theorem fold_mx : Finset.univ.fold max ⊥ (A.S n h r) = (A.mx n h r : EReal) := by
  refine (EReal.coe_toReal ?_ ?_).symm
  · exact ne_of_lt ((Finset.fold_max_lt _).mpr ⟨bot_lt_top, fun j _ => A.S_lt n h r j⟩)
  · refine ne_of_gt (lt_of_lt_of_le ?_ (A.fold_ge n h r (own r)))
    rw [S, if_pos (own_ok n r)]; exact EReal.bot_lt_coe _

theorem exists_mx : ∃ j, A.S n h r j = (A.mx n h r : EReal) := by
  have h1 := (Finset.le_fold_max (s := Finset.univ) (f := A.S n h r) (b := ⊥) (A.mx n h r : EReal)).mp (A.fold_mx n h r).ge
  rcases h1 with h1 | ⟨j, _, h1⟩
  · exact absurd (le_bot_iff.mp h1) (EReal.coe_ne_bot _)
  · exact ⟨j, le_antisymm ((A.fold_ge n h r j).trans (A.fold_mx n h r).le) h1⟩

/-- The weight of a place before its division by their sum. -/
def E (j : Fin 256) : ℝ := if ok n r j then Real.exp (A.lg n h r j - A.mx n h r) else 0

theorem S_exp (x : ℝ) (j : Fin 256) : Ideal.exp (A.S n h r j - (x : EReal)) = ((if ok n r j then Real.exp (A.lg n h r j - x) else 0 : ℝ) : EReal) := by
  unfold S
  by_cases hj : ok n r j
  · rw [if_pos hj, if_pos hj, ← EReal.coe_sub]; rfl
  · rw [if_neg hj, if_neg hj]; exact exp_bot

theorem E_nonneg (j : Fin 256) : 0 ≤ A.E n h r j := by unfold E; split <;> positivity

/-- The sum of the weights. -/
def L : ℝ := ∑ j, A.E n h r j

theorem L_pos : 0 < A.L n h r :=
  Finset.sum_pos' (fun j _ => A.E_nonneg n h r j) ⟨own r, Finset.mem_univ _, by unfold E; rw [if_pos (own_ok n r)]; positivity⟩

theorem L_ne : A.L n h r ≠ 0 := (A.L_pos n h r).ne'

/-- The group's output. -/
def O (d : Fin 64) : ℝ := ∑ j, win A.v n j h d * (A.E n h r j / A.L n h r)

/-- The logarithm of the sum of the exponentials of the scores. -/
def lse : ℝ := A.mx n h r + Real.log (A.L n h r)

/-! ## The three groups together -/

def M : ℝ := max (max (A.lse n h r) (A.l1 n r h)) (A.l2 n r h)
def e0 : ℝ := Real.exp (A.lse n h r - A.M n h r)
def e1 : ℝ := Real.exp (A.l1 n r h - A.M n h r)
def e2 : ℝ := Real.exp (A.l2 n r h - A.M n h r)
def den : ℝ := A.e0 n h r + A.e1 n h r + A.e2 n h r

theorem den_pos : 0 < A.den n h r := by unfold den e0 e1 e2; positivity
theorem den_ne : A.den n h r ≠ 0 := (A.den_pos n h r).ne'

/-- The logarithm of the sum over the three groups. -/
def total : ℝ := A.M n h r + Real.log (A.den n h r)

/-- The output of the three groups. -/
def out (d : Fin 64) : ℝ := (A.e0 n h r * A.O n h r d + A.e1 n h r * A.o1 n r h d + A.e2 n h r * A.o2 n r h d) / A.den n h r

def delta : ℝ := ∑ d, A.out n h r d * A.g n r h d

/-- A place's weight in the whole softmax. -/
def kP (j : Fin 256) : ℝ := if ok n r j then Real.exp (A.lg n h r j - A.total n h r) else 0

/-- The output's gradient against a place's value. -/
def X (j : Fin 256) : ℝ := ∑ d, A.g n r h d * win A.v n j h d

/-- The gradient of a score. -/
def kD (j : Fin 256) : ℝ := A.kP n h r j * (A.X n h r j - A.delta n h r)

/-! ## The gradient as the rules of differentiation give it -/

def D0 : ℝ := ∑ d, A.g n r h d * A.O n h r d
def D1 : ℝ := ∑ d, A.g n r h d * A.o1 n r h d
def D2 : ℝ := ∑ d, A.g n r h d * A.o2 n r h d

/-- The gradient of the group's logarithm. -/
def dl : ℝ :=
  (A.D0 n h r / A.den n h r + -(A.D0 n h r * (1 / (A.den n h r * A.den n h r)) * A.e0 n h r
    + A.D1 n h r * (1 / (A.den n h r * A.den n h r)) * A.e1 n h r
    + A.D2 n h r * (1 / (A.den n h r * A.den n h r)) * A.e2 n h r)) * A.e0 n h r

/-- The group's share of the output's gradient. -/
def gw (d : Fin 64) : ℝ := A.e0 n h r / A.den n h r * A.g n r h d

/-- The gradient of a weight. -/
def dp (j : Fin 256) : ℝ := ∑ d, A.gw n h r d * win A.v n j h d

/-- The gradient of a score. -/
def rD (j : Fin 256) : ℝ :=
  (A.dp n h r j / A.L n h r + (A.dl n h r / A.L n h r + -(∑ j', A.dp n h r j' * (1 / (A.L n h r * A.L n h r)) * A.E n h r j'))) * A.E n h r j

/-! ## The two agree -/

theorem dp_eq (j : Fin 256) : A.dp n h r j = A.e0 n h r / A.den n h r * A.X n h r j := by
  unfold dp gw X; rw [Finset.mul_sum]; exact Finset.sum_congr rfl fun d _ => by ring

theorem sum_X : ∑ j, A.X n h r j * A.E n h r j = A.L n h r * A.D0 n h r := by
  have hL := A.L_ne n h r
  unfold X D0 O
  simp only [Finset.sum_mul, Finset.mul_sum]
  rw [Finset.sum_comm]
  refine Finset.sum_congr rfl fun d _ => Finset.sum_congr rfl fun j _ => ?_
  field_simp

theorem delta_eq : A.delta n h r = (A.e0 n h r * A.D0 n h r + A.e1 n h r * A.D1 n h r + A.e2 n h r * A.D2 n h r) / A.den n h r := by
  unfold delta out D0 D1 D2
  simp only [Finset.mul_sum]
  rw [← Finset.sum_add_distrib, ← Finset.sum_add_distrib, Finset.sum_div]
  exact Finset.sum_congr rfl fun d _ => by ring

theorem dl_eq : A.dl n h r = A.e0 n h r / A.den n h r * (A.D0 n h r - A.delta n h r) := by
  have hd := A.den_ne n h r
  rw [A.delta_eq]; unfold dl
  field_simp
  ring

theorem kP_eq (j : Fin 256) : A.kP n h r j = A.E n h r j / A.L n h r * (A.e0 n h r / A.den n h r) := by
  have hL := A.L_pos n h r
  have hd := A.den_pos n h r
  unfold kP E
  by_cases hj : ok n r j
  · rw [if_pos hj, if_pos hj]
    unfold e0 total lse
    rw [show A.lg n h r j - (A.M n h r + Real.log (A.den n h r)) = (A.lg n h r j - A.mx n h r) + ((A.mx n h r + Real.log (A.L n h r) - A.M n h r) + (-Real.log (A.L n h r) + -Real.log (A.den n h r))) by ring,
      Real.exp_add, Real.exp_add, Real.exp_add (-Real.log (A.L n h r)), Real.exp_neg, Real.exp_neg, Real.exp_log hL, Real.exp_log hd]
    have := hL.ne'; have := hd.ne'
    field_simp
  · rw [if_neg hj, if_neg hj]; simp

theorem sum_dp : ∑ j, A.dp n h r j * (1 / (A.L n h r * A.L n h r)) * A.E n h r j = A.e0 n h r / A.den n h r * A.D0 n h r / A.L n h r := by
  have hL := A.L_ne n h r
  have h1 : ∀ j, A.dp n h r j * (1 / (A.L n h r * A.L n h r)) * A.E n h r j
      = (A.e0 n h r / A.den n h r * (1 / (A.L n h r * A.L n h r))) * (A.X n h r j * A.E n h r j) := fun j => by rw [A.dp_eq]; ring
  rw [Finset.sum_congr rfl fun j _ => h1 j, ← Finset.mul_sum, A.sum_X]
  field_simp

theorem rD_eq (j : Fin 256) : A.rD n h r j = A.kD n h r j := by
  have hL := A.L_ne n h r
  have hd := A.den_ne n h r
  unfold rD kD
  rw [A.sum_dp, A.kP_eq, A.dl_eq, A.dp_eq]
  field_simp
  ring

theorem sum_rD : A.dl n h r + ∑ j, -(A.rD n h r j) = 0 := by
  have hL := A.L_ne n h r
  have hd := A.den_ne n h r
  have h1 : ∀ j, -(A.rD n h r j) = -(A.e0 n h r / A.den n h r / A.L n h r) * (A.X n h r j * A.E n h r j) + (A.e0 n h r / A.den n h r / A.L n h r * A.delta n h r) * A.E n h r j := fun j => by
    rw [A.rD_eq]; unfold kD; rw [A.kP_eq]; field_simp; ring
  rw [Finset.sum_congr rfl fun j _ => h1 j, Finset.sum_add_distrib, ← Finset.mul_sum, ← Finset.mul_sum, A.sum_X, A.dl_eq,
    show ∑ j, A.E n h r j = A.L n h r from rfl]
  field_simp
  ring

theorem not_ok (j : Fin 256) (hj : ¬ ok n r j) : A.kD n h r j = 0 := by unfold kD kP; rw [if_neg hj, zero_mul]

end Args

end Cert.Attn

end
-- ==== Proof.Casts.lean ====
/- The reshapes between the step's layouts, read at an index. -/
module

public import proofs.«01_k».proof.Proof.Spec
public import Idealize.ShloMosaic.Lib.Pointwise

@[expose] public section

noncomputable section

namespace Cert.Attn

open Idealize.ShloMosaic

/-- Row `r` of block `n`, among all rows. -/
def rowOf (n : Fin 64) (r : Fin 128) : Fin 8192 := ⟨128 * n.val + r.val, by omega⟩

/-- Lane `l` of head `h`, among all lanes. -/
def laneOf (h : Fin 8) (l : Fin 64) : Fin 512 := ⟨64 * h.val + l.val, by omega⟩

theorem eq_row (s : Fin 8192) : s = rowOf ⟨s.val / 128, by omega⟩ ⟨s.val % 128, by omega⟩ := Fin.ext (by simp only [rowOf]; omega)

theorem eq_lane (x : Fin 512) : x = laneOf ⟨x.val / 64, by omega⟩ ⟨x.val % 64, by omega⟩ := Fin.ext (by simp only [laneOf]; omega)

variable {α : Type} (n : Fin 64) (r : Fin 128) (h : Fin 8) (l : Fin 64)

theorem cast_blocks (x : (⟨3, ![1, 8192, 512]⟩ : Shape).Idx → α) (hs : (⟨3, ![1, 8192, 512]⟩ : Shape).ShapeCasts ⟨4, ![64, 128, 8, 64]⟩) :
    shapeCast ⟨4, ![64, 128, 8, 64]⟩ x hs (ix4 n r h l) = x (ix3 0 (rowOf n r) (laneOf h l)) :=
  shapeCast_apply x hs _ _ (by
    rw [Shape.rowMajor_val_three, Shape.rowMajor_val_four]
    show (0 * 8192 + (128 * n.val + r.val)) * 512 + (64 * h.val + l.val) = ((n.val * 128 + r.val) * 8 + h.val) * 64 + l.val
    omega)

theorem cast_flat (x : (⟨4, ![64, 128, 8, 64]⟩ : Shape).Idx → α) (hs : (⟨4, ![64, 128, 8, 64]⟩ : Shape).ShapeCasts ⟨3, ![1, 8192, 512]⟩) :
    shapeCast ⟨3, ![1, 8192, 512]⟩ x hs (ix3 0 (rowOf n r) (laneOf h l)) = x (ix4 n r h l) :=
  shapeCast_apply x hs _ _ (by
    rw [Shape.rowMajor_val_three, Shape.rowMajor_val_four]
    show ((n.val * 128 + r.val) * 8 + h.val) * 64 + l.val = (0 * 8192 + (128 * n.val + r.val)) * 512 + (64 * h.val + l.val)
    omega)

theorem cast_heads (x : (⟨3, ![1, 8192, 512]⟩ : Shape).Idx → α) (hs : (⟨3, ![1, 8192, 512]⟩ : Shape).ShapeCasts ⟨3, ![8192, 8, 64]⟩) (s : Fin 8192) :
    shapeCast ⟨3, ![8192, 8, 64]⟩ x hs (ix3 s h l) = x (ix3 0 s (laneOf h l)) :=
  shapeCast_apply x hs _ _ (by
    rw [Shape.rowMajor_val_three, Shape.rowMajor_val_three]
    show (0 * 8192 + s.val) * 512 + (64 * h.val + l.val) = (s.val * 8 + h.val) * 64 + l.val
    omega)

theorem cast_lanes (x : (⟨3, ![8192, 8, 64]⟩ : Shape).Idx → α) (hs : (⟨3, ![8192, 8, 64]⟩ : Shape).ShapeCasts ⟨3, ![1, 8192, 512]⟩) (s : Fin 8192) :
    shapeCast ⟨3, ![1, 8192, 512]⟩ x hs (ix3 0 s (laneOf h l)) = x (ix3 s h l) :=
  shapeCast_apply x hs _ _ (by
    rw [Shape.rowMajor_val_three, Shape.rowMajor_val_three]
    show (s.val * 8 + h.val) * 64 + l.val = (0 * 8192 + s.val) * 512 + (64 * h.val + l.val)
    omega)

theorem cast_rows (x : (⟨4, ![64, 128, 8, 64]⟩ : Shape).Idx → α) (hs : (⟨4, ![64, 128, 8, 64]⟩ : Shape).ShapeCasts ⟨3, ![8192, 8, 64]⟩) :
    shapeCast ⟨3, ![8192, 8, 64]⟩ x hs (ix3 (rowOf n r) h l) = x (ix4 n r h l) :=
  shapeCast_apply x hs _ _ (by
    rw [Shape.rowMajor_val_three, Shape.rowMajor_val_four]
    show ((n.val * 128 + r.val) * 8 + h.val) * 64 + l.val = ((128 * n.val + r.val) * 8 + h.val) * 64 + l.val
    omega)

theorem cast_unrows (x : (⟨3, ![8192, 8, 64]⟩ : Shape).Idx → α) (hs : (⟨3, ![8192, 8, 64]⟩ : Shape).ShapeCasts ⟨4, ![64, 128, 8, 64]⟩) :
    shapeCast ⟨4, ![64, 128, 8, 64]⟩ x hs (ix4 n r h l) = x (ix3 (rowOf n r) h l) :=
  shapeCast_apply x hs _ _ (by
    rw [Shape.rowMajor_val_three, Shape.rowMajor_val_four]
    show ((128 * n.val + r.val) * 8 + h.val) * 64 + l.val = ((n.val * 128 + r.val) * 8 + h.val) * 64 + l.val
    omega)

theorem cast_rows3 (x : (⟨3, ![64, 128, 8]⟩ : Shape).Idx → α) (hs : (⟨3, ![64, 128, 8]⟩ : Shape).ShapeCasts ⟨2, ![8192, 8]⟩) :
    shapeCast ⟨2, ![8192, 8]⟩ x hs (ix2 (rowOf n r) h) = x (ix3 n r h) :=
  shapeCast_apply x hs _ _ (by
    rw [Shape.rowMajor_val_three, Shape.rowMajor_val_two]
    show (n.val * 128 + r.val) * 8 + h.val = (128 * n.val + r.val) * 8 + h.val
    omega)

theorem cast_unrows3 (x : (⟨2, ![8192, 8]⟩ : Shape).Idx → α) (hs : (⟨2, ![8192, 8]⟩ : Shape).ShapeCasts ⟨3, ![64, 128, 8]⟩) :
    shapeCast ⟨3, ![64, 128, 8]⟩ x hs (ix3 n r h) = x (ix2 (rowOf n r) h) :=
  shapeCast_apply x hs _ _ (by
    rw [Shape.rowMajor_val_three, Shape.rowMajor_val_two]
    show (128 * n.val + r.val) * 8 + h.val = (n.val * 128 + r.val) * 8 + h.val
    omega)

theorem cast_unit3 {a b : ℕ} (x : (⟨2, ![a, b]⟩ : Shape).Idx → α) (hs : (⟨2, ![a, b]⟩ : Shape).ShapeCasts ⟨3, ![1, a, b]⟩) (i : Fin a) (j : Fin b) :
    shapeCast ⟨3, ![1, a, b]⟩ x hs (ix3 0 i j) = x (ix2 i j) :=
  shapeCast_apply x hs _ _ (by
    rw [Shape.rowMajor_val_three, Shape.rowMajor_val_two]
    show i.val * b + j.val = (0 * a + i.val) * b + j.val
    rw [Nat.zero_mul, Nat.zero_add])

theorem cast_drop3 {a b : ℕ} (x : (⟨3, ![1, a, b]⟩ : Shape).Idx → α) (hs : (⟨3, ![1, a, b]⟩ : Shape).ShapeCasts ⟨2, ![a, b]⟩) (i : Fin a) (j : Fin b) :
    shapeCast ⟨2, ![a, b]⟩ x hs (ix2 i j) = x (ix3 0 i j) :=
  shapeCast_apply x hs _ _ (by
    rw [Shape.rowMajor_val_three, Shape.rowMajor_val_two]
    show (0 * a + i.val) * b + j.val = i.val * b + j.val
    rw [Nat.zero_mul, Nat.zero_add])

theorem cast_unit4 {a b d : ℕ} (x : (⟨3, ![a, b, d]⟩ : Shape).Idx → α) (hs : (⟨3, ![a, b, d]⟩ : Shape).ShapeCasts ⟨4, ![1, a, b, d]⟩) (i : Fin a) (j : Fin b) (k : Fin d) :
    shapeCast ⟨4, ![1, a, b, d]⟩ x hs (ix4 0 i j k) = x (ix3 i j k) :=
  shapeCast_apply x hs _ _ (by
    rw [Shape.rowMajor_val_three, Shape.rowMajor_val_four]
    show (i.val * b + j.val) * d + k.val = ((0 * a + i.val) * b + j.val) * d + k.val
    rw [Nat.zero_mul, Nat.zero_add])

theorem cast_drop4 {a b d : ℕ} (x : (⟨4, ![1, a, b, d]⟩ : Shape).Idx → α) (hs : (⟨4, ![1, a, b, d]⟩ : Shape).ShapeCasts ⟨3, ![a, b, d]⟩) (i : Fin a) (j : Fin b) (k : Fin d) :
    shapeCast ⟨3, ![a, b, d]⟩ x hs (ix3 i j k) = x (ix4 0 i j k) :=
  shapeCast_apply x hs _ _ (by
    rw [Shape.rowMajor_val_three, Shape.rowMajor_val_four]
    show ((0 * a + i.val) * b + j.val) * d + k.val = (i.val * b + j.val) * d + k.val
    rw [Nat.zero_mul, Nat.zero_add])

/-! ## The words of the mask -/

/-- The mask's comparisons of a row and a place. -/
theorem near : ∀ (r : Fin 128) (j : Fin 256),
    IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32)
    = if r.val ≤ j.val ∧ j.val ≤ r.val + 128 then 1#1 else 0#1 := by decide +kernel

/-- The mask's comparison of a block with the first. -/
theorem later : ∀ (n : Fin 64), IntOp.cmpi .sgt (BitVec.ofNat 32 n.val) 0#32 = if 0 < n.val then 1#1 else 0#1 := by decide +kernel

/-- The mask's comparison of a place with the middle. -/
theorem inside : ∀ (j : Fin 256), IntOp.cmpi .sge (BitVec.ofNat 32 j.val) 128#32 = if 128 ≤ j.val then 1#1 else 0#1 := by decide +kernel

end Cert.Attn

end
-- ==== Proof.Reals.lean ====
/- Finite arguments are real numbers. -/
module

public import proofs.«01_k».proof.Pre_all_finite
public import proofs.«01_k».proof.Proof.Casts
public import Idealize.ShloMosaic.Lib.KernelVsHost

@[expose] public section

noncomputable section

namespace Cert.Attn

open Idealize.ShloMosaic

/-- The condition the claim asks of an argument, at one place: its absolute value is below infinity, so it is a real number. -/
theorem real_of_small (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal (ne_of_lt hlt.1) ?_).symm
  rintro rfl
  simp at hlt

theorem real_at {s : Shape} (hb) (X : FVec Ideal s .f32)
    (h : cmpf .olt (Host.absf X) (broadcastInDim s ![] hb (constant (⟨0, ![]⟩ : Shape) .f32 0x7F800000#32)) = fun _ => 1#1) (i : s.Idx) :
    X i = ((X i : EReal).toReal : EReal) :=
  real_of_small (X i) (congrFun h i)

/-- The arguments by block, row, head and lane. -/
def argsOf (q k v : FVec Ideal ⟨3, ![1, 8192, 512]⟩ .f32) (b : FVec Ideal ⟨3, ![24, 128, 256]⟩ .f32) (o1 : FVec Ideal ⟨3, ![8192, 8, 64]⟩ .f32)
    (l1 : FVec Ideal ⟨2, ![8192, 8]⟩ .f32) (o2 : FVec Ideal ⟨3, ![8192, 8, 64]⟩ .f32) (l2 : FVec Ideal ⟨2, ![8192, 8]⟩ .f32)
    (g : FVec Ideal ⟨3, ![1, 8192, 512]⟩ .f32) : Args where
  q n r h l := (q (ix3 0 (rowOf n r) (laneOf h l)) : EReal).toReal
  k n r h l := (k (ix3 0 (rowOf n r) (laneOf h l)) : EReal).toReal
  v n r h l := (v (ix3 0 (rowOf n r) (laneOf h l)) : EReal).toReal
  g n r h l := (g (ix3 0 (rowOf n r) (laneOf h l)) : EReal).toReal
  o1 n r h l := (o1 (ix3 (rowOf n r) h l) : EReal).toReal
  o2 n r h l := (o2 (ix3 (rowOf n r) h l) : EReal).toReal
  b h r j := (b (ix3 (⟨h.val, by omega⟩ : Fin 24) r j) : EReal).toReal
  l1 n r h := (l1 (ix2 (rowOf n r) h) : EReal).toReal
  l2 n r h := (l2 (ix2 (rowOf n r) h) : EReal).toReal

end Cert.Attn

end
-- ==== Proof.Heads.lean ====
/- One head's part of a tile, read at an index over the extended reals. -/
module

public import proofs.«01_k».proof.Proof.Tile
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.SL.Sem

/-- The mask constant is the least extended real. -/
theorem mask_eq : (Named.named (F := Ideal) κ "mask" 0xF149F2CA#32 : Ideal .f32) = (⊥ : EReal) := by rfl

/-- Lane `l` of half `e` of a pair of heads. -/
def lane (e : Fin 2) (l : Fin 64) : Fin 128 := ⟨64 * e.val + l.val, by omega⟩

/-- A sum over the pair's lanes of something that vanishes off half `e` is the sum over that half. -/
theorem sum_half (e : Fin 2) (w : Fin 128 → EReal) (h : ∀ x : Fin 128, x.val / 64 ≠ e.val → w x = 0) : ∑ x, w x = ∑ l, w (lane e l) := by
  rw [Fin.sum_univ_tiles 2 64 rfl w, Finset.sum_eq_single e]
  · exact Finset.sum_congr rfl fun l _ => congrArg w (Fin.ext (by simp only [lane]; omega))
  · intro j _ hj
    exact Finset.sum_eq_zero fun l _ => h _ (by simp only [ne_eq]; intro hh; exact hj (Fin.ext (by omega)))
  · intro hh; exact absurd (Finset.mem_univ e) hh

/-! ## One head, as scalars -/

section
variable (Q : Fin 128 → Fin 64 → EReal) (K V : Fin 256 → Fin 64 → EReal) (G : Fin 128 → Fin 64 → EReal) (B : Fin 128 → Fin 256 → EReal) (M : Fin 128 → Fin 256 → BitVec 1) (t d : Fin 128 → EReal)

/-- The score of key `j` for row `r`, its weight under the saved normaliser `t`, the gradient of the score under the saved inner product `d`, -/
def headS (r : Fin 128) (j : Fin 256) : EReal := if M r j = 1#1 then ⊥ else (∑ l, Q r l * K j l) + B r j
def headP (r : Fin 128) (j : Fin 256) : EReal := Ideal.exp (headS Q K B M r j - t r)
def headD (r : Fin 128) (j : Fin 256) : EReal := headP Q K B M t r j * ((∑ l, G r l * V j l) - d r)
/-- and the tile's part of the gradients of the queries, keys and values. -/
def headDq (r : Fin 128) (l : Fin 64) : EReal := ∑ j, headD Q K V G B M t d r j * K j l
def headDk (j : Fin 256) (l : Fin 64) : EReal := ∑ r, headD Q K V G B M t d r j * Q r l
def headDv (j : Fin 256) (l : Fin 64) : EReal := ∑ r, headP Q K B M t r j * G r l
end

/-! ## One head of the body -/

/-- The mask of half `e`. -/
def Half (e : Fin 2) (mq : IVec S128x128 1) : Prop := ∀ r x : Fin 128, mq (ix2 r x) = if x.val / 64 = e.val then 1#1 else 0#1

theorem even_half : Half 0 evenLanes := fun r x => by
  unfold evenLanes; pointwise [k0_pay13]
  by_cases h : x.val < 64
  · rw [if_pos (by simp; omega)]; word_cmp
  · rw [if_neg (by simp; omega)]; word_cmp

theorem odd_half : Half 1 oddLanes := fun r x => by
  unfold oddLanes; pointwise [k0_pay38]
  have := even_half r x
  unfold evenLanes at this
  rw [this]
  by_cases h : x.val / 64 = (0 : Fin 2).val
  · rw [if_pos h, if_neg (by rw [h]; decide)]; rfl
  · rw [if_neg h, if_pos (by simp only [Fin.val_zero] at h; show x.val / 64 = 1; omega)]; rfl

/-- A selection by a known bit. -/
theorem select_one {α : Type} (a b : α) : Scalar.select 1#1 a b = a := rfl
theorem select_zero {α : Type} (a b : α) : Scalar.select 0#1 a b = b := rfl
theorem zero_word : (((0#32 : BitVec 32).toInt : ℝ) : EReal) = 0 := by simp

theorem quarter_at (r x : Fin 128) : k0_pay14 (ix2 r x) = if x.val % 64 < 32 then 1#1 else 0#1 := by
  have h : ∀ y : Fin 128, k0_pay14 (ix2 0 y) = if y.val % 64 < 32 then 1#1 else 0#1 := by decide +kernel
  exact h x

theorem first_at (a : BitVec 32) (r : Fin 128) (j : Fin 256) : k0_pay15 a (ix2 r j) = if a = 0#32 ∧ j.val < 128 then 1#1 else 0#1 := by
  pointwise [k0_pay15]
  by_cases ha : a = 0#32 <;> by_cases h : j.val < 128
  · rw [if_pos ⟨ha, h⟩, ha]; word_cmp
  · rw [if_neg (fun hh => h hh.2), ha]; word_cmp; simp only [h, decide_false, Bool.and_false]
  · rw [if_neg (fun hh => ha hh.1)]; word_cmp; simp only [show ¬a.toNat = 0 from fun hh => ha (BitVec.eq_of_toNat_eq hh), decide_false, Bool.false_and]
  · rw [if_neg (fun hh => ha hh.1)]; word_cmp; simp only [h, decide_false, Bool.and_false]

theorem negInf : Ideal.ofBits FTy.f32 0xFF800000#32 = (⊥ : EReal) := by simp [Ideal.ofBits, Ideal.ieee]

/-- The greatest of values that are all `c` or the least, one of them `c`. -/
theorem fold_max_eq (w : Fin 128 → EReal) (c : EReal) (h : ∀ x, w x = c ∨ w x = ⊥) (x : Fin 128) (hx : w x = c) : Finset.fold max (Ideal.ofBits FTy.f32 0xFF800000#32) w Finset.univ = c := by
  rw [show Ideal.ofBits FTy.f32 0xFF800000#32 = (⊥ : EReal) from negInf]
  refine le_antisymm ?_ ?_
  · rw [Finset.fold_max_le]
    exact ⟨bot_le, fun y _ => (h y).elim (fun hy => hy.le) (fun hy => hy ▸ bot_le)⟩
  · rw [Finset.le_fold_max]
    exact Or.inr ⟨x, Finset.mem_univ x, hx.ge⟩

theorem lane_div (e : Fin 2) (l : Fin 64) : (lane e l).val / 64 = e.val := by simp only [lane]; omega

section
variable (e : Fin 2) (mq : IVec S128x128 1) (hm : Half e mq) (f : IVec S128x256 1) (k2 v2 : FVec Ideal S256x128 .bf16) (q g : Vec Ideal S1x128x128 .bf16) (b : Vec Ideal S1x128x256 .f32)
  (st : Vec Ideal S1x128x128 .f32)
include hm

theorem hQ_at (r x : Fin 128) : hQ mq q (ix2 r x) = if x.val / 64 = e.val then q (ix3 0 r x) else (0 : EReal) := by
  unfold hQ; pointwise [k0_pay42, k0_pay24]
  rw [hm r x]; by_cases h : x.val / 64 = e.val
  · rw [if_pos h, if_pos h]; rfl
  · rw [if_neg h, if_neg h, select_zero, zero_word]

theorem hDo_at (r x : Fin 128) : hDo mq g (ix2 r x) = if x.val / 64 = e.val then g (ix3 0 r x) else (0 : EReal) := by
  unfold hDo; pointwise [k0_pay50, k0_pay28]
  rw [hm r x]; by_cases h : x.val / 64 = e.val
  · rw [if_pos h, if_pos h]; rfl
  · rw [if_neg h, if_neg h, select_zero, zero_word]

/-- The scores: the inner product over the head's lanes, and the bias; the least extended real where `f` masks. -/
theorem hS_at (r : Fin 128) (j : Fin 256) : hS f k2 mq q b (ix2 r j)
    = if f (ix2 r j) = 1#1 then (⊥ : EReal) else (∑ l, q (ix3 0 r (lane e l)) * k2 (ix2 j (lane e l))) + b (ix3 0 r j) := by
  unfold hS; pointwise [k0_pay58]
  rw [mask_eq]
  by_cases hf : f (ix2 r j) = 1#1
  · rw [if_pos hf, hf]; rfl
  · rw [if_neg hf, (BitVec.eq_zero_or_eq_one (f (ix2 r j))).resolve_right hf]
    refine congrArg (· + b (ix3 0 r j)) ((sum_half e _ fun x hx => ?_).trans (Finset.sum_congr rfl fun l _ => ?_))
    · simp only [hQ_at e mq hm q, if_neg hx, zero_mul]
    · simp only [hQ_at e mq hm q, if_pos (lane_div e l)]

theorem hL_at (r : Fin 128) (c : EReal) (h : ∀ l : Fin 64, l.val < 32 → st (ix3 0 r (lane e l)) = c) : hL mq st (ix2 r 0) = c := by
  unfold hL; pointwise [k0_pay68, k0_pay32]
  refine fold_max_eq _ c (fun x => ?_) (lane e 0) ?_
  · rw [mask_eq, hm r x, quarter_at r x]
    by_cases h1 : x.val / 64 = e.val <;> by_cases h2 : x.val % 64 < 32
    · rw [if_pos h1, if_pos h2]
      refine Or.inl (.trans (congrArg (fun y => st (ix3 0 r y)) (Fin.ext ?_)) (h ⟨x.val % 64, by omega⟩ h2))
      simp only [lane]; omega
    · exact Or.inr (by rw [if_pos h1, if_neg h2]; rfl)
    · exact Or.inr (by rw [if_neg h1, if_pos h2]; rfl)
    · exact Or.inr (by rw [if_neg h1, if_neg h2]; rfl)
  · rw [mask_eq, hm r _, quarter_at r _, if_pos (lane_div e 0), if_pos (by simp only [lane]; omega)]
    exact h 0 (by decide)

theorem hDel_at (r : Fin 128) (c : EReal) (h : ∀ l : Fin 64, ¬l.val < 32 → st (ix3 0 r (lane e l)) = c) : hDel mq st (ix2 r 0) = c := by
  unfold hDel; pointwise [k0_pay76, k0_pay32]
  refine fold_max_eq _ c (fun x => ?_) (lane e 32) ?_
  · rw [mask_eq, hm r x, quarter_at r x]
    by_cases h1 : x.val / 64 = e.val <;> by_cases h2 : x.val % 64 < 32
    · exact Or.inr (by rw [if_pos h1, if_pos h2]; rfl)
    · rw [if_pos h1, if_neg h2]
      refine Or.inl (.trans (congrArg (fun y => st (ix3 0 r y)) (Fin.ext ?_)) (h ⟨x.val % 64, by omega⟩ h2))
      simp only [lane]; omega
    · exact Or.inr (by rw [if_neg h1, if_pos h2]; rfl)
    · exact Or.inr (by rw [if_neg h1, if_neg h2]; rfl)
  · rw [mask_eq, hm r _, quarter_at r _, if_pos (lane_div e 32), if_neg (by simp only [lane, Fin.isValue]; show ¬ (64 * e.val + 32) % 64 < 32; omega)]
    exact h 32 (by decide)

variable (t d : Fin 128 → EReal) (ht : ∀ (r : Fin 128) (l : Fin 64), l.val < 32 → st (ix3 0 r (lane e l)) = t r)
  (hd : ∀ (r : Fin 128) (l : Fin 64), ¬l.val < 32 → st (ix3 0 r (lane e l)) = d r)

include ht in
theorem hP_at (r : Fin 128) (j : Fin 256) : hP f k2 mq q b st (ix2 r j)
    = headP (fun r l => q (ix3 0 r (lane e l))) (fun j l => k2 (ix2 j (lane e l))) (fun r j => b (ix3 0 r j)) (fun r j => f (ix2 r j)) t r j := by
  unfold hP; pointwise [k0_pay85]
  rw [hS_at e mq hm f k2 q b r j, hL_at e mq hm st r (t r) (ht r)]; rfl

include ht hd in
theorem hD_at (r : Fin 128) (j : Fin 256) : hD f k2 v2 mq q g b st (ix2 r j)
    = headD (fun r l => q (ix3 0 r (lane e l))) (fun j l => k2 (ix2 j (lane e l))) (fun j l => v2 (ix2 j (lane e l))) (fun r l => g (ix3 0 r (lane e l)))
        (fun r j => b (ix3 0 r j)) (fun r j => f (ix2 r j)) t d r j := by
  unfold hD; pointwise [k0_pay93]
  rw [show k0_pay85 (hS f k2 mq q b) (hL mq st) (ix2 r j) = hP f k2 mq q b st (ix2 r j) from rfl, hP_at e mq hm f k2 q b st t ht r j, hDel_at e mq hm st r (d r) (hd r)]
  refine Ideal.mul_congr rfl (congrArg (fun z : EReal => z - d r) ((sum_half e _ fun x hx => ?_).trans (Finset.sum_congr rfl fun l _ => ?_)))
  · simp only [hDo_at e mq hm g, if_neg hx, zero_mul]
  · simp only [hDo_at e mq hm g, if_pos (lane_div e l)]

/-- The head's products with the scores' gradient or the weights: on the head's own lanes, and nought on the other's. -/
theorem hDq_at0 (D : FVec Ideal S128x256 .f32) (r x : Fin 128) : k0_pay109 mq k2 D (ix2 r x) = if x.val / 64 = e.val then ∑ j, D (ix2 r j) * k2 (ix2 j x) else (0 : EReal) := by
  pointwise [k0_pay109, k0_pay101]
  rw [hm r x]; by_cases h : x.val / 64 = e.val
  · rw [if_pos h, if_pos h]; rfl
  · rw [if_neg h, if_neg h]; rfl

theorem hDk_at (D : FVec Ideal S128x256 .f32) (j : Fin 256) (x : Fin 128) : k0_pay118 (hQ mq q) (k0_pay101 D) (ix2 j x)
    = if x.val / 64 = e.val then ∑ r, D (ix2 r j) * q (ix3 0 r x) else (0 : EReal) := by
  pointwise [k0_pay118, k0_pay101]
  by_cases h : x.val / 64 = e.val
  · rw [if_pos h]; exact Finset.sum_congr rfl fun r _ => by rw [hQ_at e mq hm q, if_pos h]
  · rw [if_neg h]; exact Finset.sum_eq_zero fun r _ => by rw [hQ_at e mq hm q, if_neg h, mul_zero]

theorem hDv_at (P : FVec Ideal S128x256 .f32) (j : Fin 256) (x : Fin 128) : k0_pay126 (hDo mq g) P (ix2 j x)
    = if x.val / 64 = e.val then ∑ r, P (ix2 r j) * g (ix3 0 r x) else (0 : EReal) := by
  pointwise [k0_pay126]
  by_cases h : x.val / 64 = e.val
  · rw [if_pos h]; exact Finset.sum_congr rfl fun r _ => by rw [hDo_at e mq hm g, if_pos h]
  · rw [if_neg h]; exact Finset.sum_eq_zero fun r _ => by rw [hDo_at e mq hm g, if_neg h, mul_zero]

end

/-! ## One pair of heads of the body -/

section
variable (f : IVec S128x256 1) (k2 v2 : FVec Ideal S256x128 .bf16) (q g : Vec Ideal S1x128x128 .bf16) (b b' : Vec Ideal S1x128x256 .f32) (st : Vec Ideal S1x128x128 .f32)

/-- The even and the odd head's operands within the pair. -/
abbrev prQ (e : Fin 2) (r : Fin 128) (l : Fin 64) : EReal := q (ix3 0 r (lane e l))
abbrev prK (e : Fin 2) (j : Fin 256) (l : Fin 64) : EReal := k2 (ix2 j (lane e l))
abbrev prB (r : Fin 128) (j : Fin 256) : EReal := b (ix3 0 r j)
abbrev prM (r : Fin 128) (j : Fin 256) : BitVec 1 := f (ix2 r j)

section
variable (t d : Fin 128 → EReal) (ht : ∀ (r : Fin 128) (l : Fin 64), l.val < 32 → st (ix3 0 r (lane 0 l)) = t r)
  (hd : ∀ (r : Fin 128) (l : Fin 64), ¬l.val < 32 → st (ix3 0 r (lane 0 l)) = d r)
include ht hd
theorem pairDq_even (r : Fin 128) (l : Fin 64) : pairDq f k2 v2 q g b b' st (ix3 0 r (lane 0 l)) = headDq (prQ q 0) (prK k2 0) (prK v2 0) (prQ g 0) (prB b) (prM f) t d r l := by
  unfold pairDq; pointwise [k0_pay144]
  rw [show k0_pay109 evenLanes k2 (hD f k2 v2 evenLanes q g b st) (ix2 r (lane 0 l)) = _ from hDq_at0 0 evenLanes even_half k2 _ r (lane 0 l),
    show k0_pay109 oddLanes k2 (hD f k2 v2 oddLanes q g b' st) (ix2 r (lane 0 l)) = _ from hDq_at0 1 oddLanes odd_half k2 _ r (lane 0 l), lane_div]
  simp only [hD_at 0 evenLanes even_half f k2 v2 q g b st t d ht hd]
  rw [if_pos trivial, if_neg (by decide), add_zero]; rfl
theorem pairDk_even (j : Fin 256) (l : Fin 64) : pairDk f k2 v2 q g b b' st (ix2 j (lane 0 l)) = headDk (prQ q 0) (prK k2 0) (prK v2 0) (prQ g 0) (prB b) (prM f) t d j l := by
  unfold pairDk; pointwise [k0_pay142]
  rw [hDk_at 0 evenLanes even_half q _ j (lane 0 l), hDk_at 1 oddLanes odd_half q _ j (lane 0 l), lane_div]
  simp only [hD_at 0 evenLanes even_half f k2 v2 q g b st t d ht hd]
  rw [if_pos trivial, if_neg (by decide), add_zero]; rfl
omit hd in
theorem pairDv_even (j : Fin 256) (l : Fin 64) : pairDv f k2 q g b b' st (ix2 j (lane 0 l)) = headDv (prQ q 0) (prK k2 0) (prQ g 0) (prB b) (prM f) t j l := by
  unfold pairDv; pointwise [k0_pay143]
  rw [hDv_at 0 evenLanes even_half g _ j (lane 0 l), hDv_at 1 oddLanes odd_half g _ j (lane 0 l), lane_div]
  simp only [hP_at 0 evenLanes even_half f k2 q b st t ht]
  rw [if_pos trivial, if_neg (by decide), add_zero]; rfl
end

section
variable (t d : Fin 128 → EReal) (ht : ∀ (r : Fin 128) (l : Fin 64), l.val < 32 → st (ix3 0 r (lane 1 l)) = t r)
  (hd : ∀ (r : Fin 128) (l : Fin 64), ¬l.val < 32 → st (ix3 0 r (lane 1 l)) = d r)
include ht hd
theorem pairDq_odd (r : Fin 128) (l : Fin 64) : pairDq f k2 v2 q g b b' st (ix3 0 r (lane 1 l)) = headDq (prQ q 1) (prK k2 1) (prK v2 1) (prQ g 1) (prB b') (prM f) t d r l := by
  unfold pairDq; pointwise [k0_pay144]
  rw [show k0_pay109 evenLanes k2 (hD f k2 v2 evenLanes q g b st) (ix2 r (lane 1 l)) = _ from hDq_at0 0 evenLanes even_half k2 _ r (lane 1 l),
    show k0_pay109 oddLanes k2 (hD f k2 v2 oddLanes q g b' st) (ix2 r (lane 1 l)) = _ from hDq_at0 1 oddLanes odd_half k2 _ r (lane 1 l), lane_div]
  simp only [hD_at 1 oddLanes odd_half f k2 v2 q g b' st t d ht hd]
  rw [if_pos trivial, if_neg (by decide), zero_add]; rfl
theorem pairDk_odd (j : Fin 256) (l : Fin 64) : pairDk f k2 v2 q g b b' st (ix2 j (lane 1 l)) = headDk (prQ q 1) (prK k2 1) (prK v2 1) (prQ g 1) (prB b') (prM f) t d j l := by
  unfold pairDk; pointwise [k0_pay142]
  rw [hDk_at 0 evenLanes even_half q _ j (lane 1 l), hDk_at 1 oddLanes odd_half q _ j (lane 1 l), lane_div]
  simp only [hD_at 1 oddLanes odd_half f k2 v2 q g b' st t d ht hd]
  rw [if_pos trivial, if_neg (by decide), zero_add]; rfl
omit hd in
theorem pairDv_odd (j : Fin 256) (l : Fin 64) : pairDv f k2 q g b b' st (ix2 j (lane 1 l)) = headDv (prQ q 1) (prK k2 1) (prQ g 1) (prB b') (prM f) t j l := by
  unfold pairDv; pointwise [k0_pay143]
  rw [hDv_at 0 evenLanes even_half g _ j (lane 1 l), hDv_at 1 oddLanes odd_half g _ j (lane 1 l), lane_div]
  simp only [hP_at 1 oddLanes odd_half f k2 q b' st t ht]
  rw [if_pos trivial, if_neg (by decide), zero_add]; rfl
end

end

end Cert.KernelIdeal.Body

end
-- ==== Proof.TileRead.lean ====
/- The tile's blocks, read at an index over the extended reals, head by head. -/
module

public import proofs.«01_k».proof.Proof.Heads

@[expose] public section

set_option maxRecDepth 16384

noncomputable section

namespace Cert.KernelIdeal.Body

open Cert.KernelIdeal Cert.KernelIdeal.Gen
open Idealize.ShloMosaic Idealize.ShloMosaic.TcCoe Idealize.SL.Sem

/-- Lane `l` of head `h`; lane `y` of pair `p`; and the pair's half that a head is. -/
def lane8 (h : Fin 8) (l : Fin 64) : Fin 512 := ⟨64 * h.val + l.val, by omega⟩
def lane4 (p : Fin 4) (y : Fin 128) : Fin 512 := ⟨128 * p.val + y.val, by omega⟩

section
variable {F : FTy → Type} [FloatOps F] [Named F] {e : EltTy}

/-- Four stores side by side, read at a lane of pair `p`. -/
theorem canon_pairs (P : Fin 4 → Vec F S1x128x128 e) (p : Fin 4) (r y : Fin 128) : View.canon (Val := Elt F) (s := S1x128x512) (e := e) [
    ⟨Rect.unit ![0, 0, 384] ![1, 128, 128] inb_S1x128x512_S1x128x128_0_0_384, P 3⟩, ⟨Rect.unit ![0, 0, 256] ![1, 128, 128] inb_S1x128x512_S1x128x128_0_0_256, P 2⟩, ⟨Rect.unit ![0, 0, 128] ![1, 128, 128] inb_S1x128x512_S1x128x128_0_0_128, P 1⟩, ⟨Rect.unit ![0, 0, 0] ![1, 128, 128] inb_S1x128x512_S1x128x128_0_0_0, P 0⟩] (ix3 0 r (lane4 p y)) = P p (ix3 0 r y) := by
  canon_tiles x h
  · obtain rfl : p = 3 := Fin.ext (by simp only [lane4, ix3_2] at h2; show p.val = 3; omega)
    refine congrArg (P 3) ?_
    rw [eq_ix3 x]; simp only [lane4, ix3_1, ix3_2] at h1 h2
    refine (ix3_inj ..).2 ⟨Subsingleton.elim _ _, Fin.ext (by omega), Fin.ext (by omega)⟩
  · obtain rfl : p = 2 := Fin.ext (by simp only [lane4, ix3_2] at h2; show p.val = 2; omega)
    refine congrArg (P 2) ?_
    rw [eq_ix3 x]; simp only [lane4, ix3_1, ix3_2] at h1 h2
    refine (ix3_inj ..).2 ⟨Subsingleton.elim _ _, Fin.ext (by omega), Fin.ext (by omega)⟩
  · obtain rfl : p = 1 := Fin.ext (by simp only [lane4, ix3_2] at h2; show p.val = 1; omega)
    refine congrArg (P 1) ?_
    rw [eq_ix3 x]; simp only [lane4, ix3_1, ix3_2] at h1 h2
    refine (ix3_inj ..).2 ⟨Subsingleton.elim _ _, Fin.ext (by omega), Fin.ext (by omega)⟩
  · obtain rfl : p = 0 := Fin.ext (by simp only [lane4, ix3_2] at h2; show p.val = 0; omega)
    refine congrArg (P 0) ?_
    rw [eq_ix3 x]; simp only [lane4, ix3_1, ix3_2] at h1 h2
    refine (ix3_inj ..).2 ⟨Subsingleton.elim _ _, Fin.ext (by omega), Fin.ext (by omega)⟩
theorem canon_pairs_flat (P : Fin 4 → Vec F S128x128 e) (p : Fin 4) (r y : Fin 128) : View.canon (Val := Elt F) (s := S128x512) (e := e) [
    ⟨Rect.unit ![0, 384] ![128, 128] inb_S128x512_S128x128_0_384, P 3⟩, ⟨Rect.unit ![0, 256] ![128, 128] inb_S128x512_S128x128_0_256, P 2⟩, ⟨Rect.unit ![0, 128] ![128, 128] inb_S128x512_S128x128_0_128, P 1⟩, ⟨Rect.unit ![0, 0] ![128, 128] inb_S128x512_S128x128_0_0, P 0⟩] (ix2 r (lane4 p y)) = P p (ix2 r y) := by
  canon_tiles x h
  · obtain rfl : p = 3 := Fin.ext (by simp only [lane4, ix2_1] at h1; show p.val = 3; omega)
    refine congrArg (P 3) ?_
    rw [eq_ix2 x]; simp only [lane4, ix2_0, ix2_1] at h0 h1
    refine (ix2_inj ..).2 ⟨Fin.ext (by omega), Fin.ext (by omega)⟩
  · obtain rfl : p = 2 := Fin.ext (by simp only [lane4, ix2_1] at h1; show p.val = 2; omega)
    refine congrArg (P 2) ?_
    rw [eq_ix2 x]; simp only [lane4, ix2_0, ix2_1] at h0 h1
    refine (ix2_inj ..).2 ⟨Fin.ext (by omega), Fin.ext (by omega)⟩
  · obtain rfl : p = 1 := Fin.ext (by simp only [lane4, ix2_1] at h1; show p.val = 1; omega)
    refine congrArg (P 1) ?_
    rw [eq_ix2 x]; simp only [lane4, ix2_0, ix2_1] at h0 h1
    refine (ix2_inj ..).2 ⟨Fin.ext (by omega), Fin.ext (by omega)⟩
  · obtain rfl : p = 0 := Fin.ext (by simp only [lane4, ix2_1] at h1; show p.val = 0; omega)
    refine congrArg (P 0) ?_
    rw [eq_ix2 x]; simp only [lane4, ix2_0, ix2_1] at h0 h1
    refine (ix2_inj ..).2 ⟨Fin.ext (by omega), Fin.ext (by omega)⟩
/-- Eight stores, one a head. -/
theorem canon_heads (P : Fin 8 → Vec F S1x128x256 e) (p : Fin 8) (r : Fin 128) (j : Fin 256) : View.canon (Val := Elt F) (s := S8x128x256) (e := e) [
    ⟨Rect.unit ![7, 0, 0] ![1, 128, 256] inb_S8x128x256_S1x128x256_7_0_0, P 7⟩, ⟨Rect.unit ![6, 0, 0] ![1, 128, 256] inb_S8x128x256_S1x128x256_6_0_0, P 6⟩, ⟨Rect.unit ![5, 0, 0] ![1, 128, 256] inb_S8x128x256_S1x128x256_5_0_0, P 5⟩, ⟨Rect.unit ![4, 0, 0] ![1, 128, 256] inb_S8x128x256_S1x128x256_4_0_0, P 4⟩, ⟨Rect.unit ![3, 0, 0] ![1, 128, 256] inb_S8x128x256_S1x128x256_3_0_0, P 3⟩, ⟨Rect.unit ![2, 0, 0] ![1, 128, 256] inb_S8x128x256_S1x128x256_2_0_0, P 2⟩, ⟨Rect.unit ![1, 0, 0] ![1, 128, 256] inb_S8x128x256_S1x128x256_1_0_0, P 1⟩, ⟨Rect.unit ![0, 0, 0] ![1, 128, 256] inb_S8x128x256_S1x128x256_0_0_0, P 0⟩] (ix3 p r j) = P p (ix3 0 r j) := by
  canon_tiles x h
  · obtain rfl : p = 7 := Fin.ext (by simp only [ix3_0] at h0; show p.val = 7; omega)
    refine congrArg (P 7) ?_
    rw [eq_ix3 x]; simp only [ix3_1, ix3_2] at h1 h2
    refine (ix3_inj ..).2 ⟨Subsingleton.elim _ _, Fin.ext (by omega), Fin.ext (by omega)⟩
  · obtain rfl : p = 6 := Fin.ext (by simp only [ix3_0] at h0; show p.val = 6; omega)
    refine congrArg (P 6) ?_
    rw [eq_ix3 x]; simp only [ix3_1, ix3_2] at h1 h2
    refine (ix3_inj ..).2 ⟨Subsingleton.elim _ _, Fin.ext (by omega), Fin.ext (by omega)⟩
  · obtain rfl : p = 5 := Fin.ext (by simp only [ix3_0] at h0; show p.val = 5; omega)
    refine congrArg (P 5) ?_
    rw [eq_ix3 x]; simp only [ix3_1, ix3_2] at h1 h2
    refine (ix3_inj ..).2 ⟨Subsingleton.elim _ _, Fin.ext (by omega), Fin.ext (by omega)⟩
  · obtain rfl : p = 4 := Fin.ext (by simp only [ix3_0] at h0; show p.val = 4; omega)
    refine congrArg (P 4) ?_
    rw [eq_ix3 x]; simp only [ix3_1, ix3_2] at h1 h2
    refine (ix3_inj ..).2 ⟨Subsingleton.elim _ _, Fin.ext (by omega), Fin.ext (by omega)⟩
  · obtain rfl : p = 3 := Fin.ext (by simp only [ix3_0] at h0; show p.val = 3; omega)
    refine congrArg (P 3) ?_
    rw [eq_ix3 x]; simp only [ix3_1, ix3_2] at h1 h2
    refine (ix3_inj ..).2 ⟨Subsingleton.elim _ _, Fin.ext (by omega), Fin.ext (by omega)⟩
  · obtain rfl : p = 2 := Fin.ext (by simp only [ix3_0] at h0; show p.val = 2; omega)
    refine congrArg (P 2) ?_
    rw [eq_ix3 x]; simp only [ix3_1, ix3_2] at h1 h2
    refine (ix3_inj ..).2 ⟨Subsingleton.elim _ _, Fin.ext (by omega), Fin.ext (by omega)⟩
  · obtain rfl : p = 1 := Fin.ext (by simp only [ix3_0] at h0; show p.val = 1; omega)
    refine congrArg (P 1) ?_
    rw [eq_ix3 x]; simp only [ix3_1, ix3_2] at h1 h2
    refine (ix3_inj ..).2 ⟨Subsingleton.elim _ _, Fin.ext (by omega), Fin.ext (by omega)⟩
  · obtain rfl : p = 0 := Fin.ext (by simp only [ix3_0] at h0; show p.val = 0; omega)
    refine congrArg (P 0) ?_
    rw [eq_ix3 x]; simp only [ix3_1, ix3_2] at h1 h2
    refine (ix3_inj ..).2 ⟨Subsingleton.elim _ _, Fin.ext (by omega), Fin.ext (by omega)⟩
theorem canon_pair0 (P0 P1 P2 P3 : Vec F S1x128x128 e) (r y : Fin 128) : View.canon (Val := Elt F) (s := S1x128x512) (e := e) [
    ⟨Rect.unit ![0, 0, 384] ![1, 128, 128] inb_S1x128x512_S1x128x128_0_0_384, P3⟩, ⟨Rect.unit ![0, 0, 256] ![1, 128, 128] inb_S1x128x512_S1x128x128_0_0_256, P2⟩, ⟨Rect.unit ![0, 0, 128] ![1, 128, 128] inb_S1x128x512_S1x128x128_0_0_128, P1⟩, ⟨Rect.unit ![0, 0, 0] ![1, 128, 128] inb_S1x128x512_S1x128x128_0_0_0, P0⟩] (ix3 0 r (lane4 0 y)) = P0 (ix3 0 r y) :=
  canon_pairs ![P0, P1, P2, P3] 0 r y
theorem canon_flat0 (P0 P1 P2 P3 : Vec F S128x128 e) (r y : Fin 128) : View.canon (Val := Elt F) (s := S128x512) (e := e) [
    ⟨Rect.unit ![0, 384] ![128, 128] inb_S128x512_S128x128_0_384, P3⟩, ⟨Rect.unit ![0, 256] ![128, 128] inb_S128x512_S128x128_0_256, P2⟩, ⟨Rect.unit ![0, 128] ![128, 128] inb_S128x512_S128x128_0_128, P1⟩, ⟨Rect.unit ![0, 0] ![128, 128] inb_S128x512_S128x128_0_0, P0⟩] (ix2 r (lane4 0 y)) = P0 (ix2 r y) :=
  canon_pairs_flat ![P0, P1, P2, P3] 0 r y
theorem canon_pair1 (P0 P1 P2 P3 : Vec F S1x128x128 e) (r y : Fin 128) : View.canon (Val := Elt F) (s := S1x128x512) (e := e) [
    ⟨Rect.unit ![0, 0, 384] ![1, 128, 128] inb_S1x128x512_S1x128x128_0_0_384, P3⟩, ⟨Rect.unit ![0, 0, 256] ![1, 128, 128] inb_S1x128x512_S1x128x128_0_0_256, P2⟩, ⟨Rect.unit ![0, 0, 128] ![1, 128, 128] inb_S1x128x512_S1x128x128_0_0_128, P1⟩, ⟨Rect.unit ![0, 0, 0] ![1, 128, 128] inb_S1x128x512_S1x128x128_0_0_0, P0⟩] (ix3 0 r (lane4 1 y)) = P1 (ix3 0 r y) :=
  canon_pairs ![P0, P1, P2, P3] 1 r y
theorem canon_flat1 (P0 P1 P2 P3 : Vec F S128x128 e) (r y : Fin 128) : View.canon (Val := Elt F) (s := S128x512) (e := e) [
    ⟨Rect.unit ![0, 384] ![128, 128] inb_S128x512_S128x128_0_384, P3⟩, ⟨Rect.unit ![0, 256] ![128, 128] inb_S128x512_S128x128_0_256, P2⟩, ⟨Rect.unit ![0, 128] ![128, 128] inb_S128x512_S128x128_0_128, P1⟩, ⟨Rect.unit ![0, 0] ![128, 128] inb_S128x512_S128x128_0_0, P0⟩] (ix2 r (lane4 1 y)) = P1 (ix2 r y) :=
  canon_pairs_flat ![P0, P1, P2, P3] 1 r y
theorem canon_pair2 (P0 P1 P2 P3 : Vec F S1x128x128 e) (r y : Fin 128) : View.canon (Val := Elt F) (s := S1x128x512) (e := e) [
    ⟨Rect.unit ![0, 0, 384] ![1, 128, 128] inb_S1x128x512_S1x128x128_0_0_384, P3⟩, ⟨Rect.unit ![0, 0, 256] ![1, 128, 128] inb_S1x128x512_S1x128x128_0_0_256, P2⟩, ⟨Rect.unit ![0, 0, 128] ![1, 128, 128] inb_S1x128x512_S1x128x128_0_0_128, P1⟩, ⟨Rect.unit ![0, 0, 0] ![1, 128, 128] inb_S1x128x512_S1x128x128_0_0_0, P0⟩] (ix3 0 r (lane4 2 y)) = P2 (ix3 0 r y) :=
  canon_pairs ![P0, P1, P2, P3] 2 r y
theorem canon_flat2 (P0 P1 P2 P3 : Vec F S128x128 e) (r y : Fin 128) : View.canon (Val := Elt F) (s := S128x512) (e := e) [
    ⟨Rect.unit ![0, 384] ![128, 128] inb_S128x512_S128x128_0_384, P3⟩, ⟨Rect.unit ![0, 256] ![128, 128] inb_S128x512_S128x128_0_256, P2⟩, ⟨Rect.unit ![0, 128] ![128, 128] inb_S128x512_S128x128_0_128, P1⟩, ⟨Rect.unit ![0, 0] ![128, 128] inb_S128x512_S128x128_0_0, P0⟩] (ix2 r (lane4 2 y)) = P2 (ix2 r y) :=
  canon_pairs_flat ![P0, P1, P2, P3] 2 r y
theorem canon_pair3 (P0 P1 P2 P3 : Vec F S1x128x128 e) (r y : Fin 128) : View.canon (Val := Elt F) (s := S1x128x512) (e := e) [
    ⟨Rect.unit ![0, 0, 384] ![1, 128, 128] inb_S1x128x512_S1x128x128_0_0_384, P3⟩, ⟨Rect.unit ![0, 0, 256] ![1, 128, 128] inb_S1x128x512_S1x128x128_0_0_256, P2⟩, ⟨Rect.unit ![0, 0, 128] ![1, 128, 128] inb_S1x128x512_S1x128x128_0_0_128, P1⟩, ⟨Rect.unit ![0, 0, 0] ![1, 128, 128] inb_S1x128x512_S1x128x128_0_0_0, P0⟩] (ix3 0 r (lane4 3 y)) = P3 (ix3 0 r y) :=
  canon_pairs ![P0, P1, P2, P3] 3 r y
theorem canon_flat3 (P0 P1 P2 P3 : Vec F S128x128 e) (r y : Fin 128) : View.canon (Val := Elt F) (s := S128x512) (e := e) [
    ⟨Rect.unit ![0, 384] ![128, 128] inb_S128x512_S128x128_0_384, P3⟩, ⟨Rect.unit ![0, 256] ![128, 128] inb_S128x512_S128x128_0_256, P2⟩, ⟨Rect.unit ![0, 128] ![128, 128] inb_S128x512_S128x128_0_128, P1⟩, ⟨Rect.unit ![0, 0] ![128, 128] inb_S128x512_S128x128_0_0, P0⟩] (ix2 r (lane4 3 y)) = P3 (ix2 r y) :=
  canon_pairs_flat ![P0, P1, P2, P3] 3 r y
theorem canon_head0 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 0 r j) = P0 (ix3 0 r j) :=
  canon_heads ![P0, P1, P2, P3, P4, P5, P6, P7] 0 r j
theorem canon_head1 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 1 r j) = P1 (ix3 0 r j) :=
  canon_heads ![P0, P1, P2, P3, P4, P5, P6, P7] 1 r j
theorem canon_head2 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 2 r j) = P2 (ix3 0 r j) :=
  canon_heads ![P0, P1, P2, P3, P4, P5, P6, P7] 2 r j
theorem canon_head3 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 3 r j) = P3 (ix3 0 r j) :=
  canon_heads ![P0, P1, P2, P3, P4, P5, P6, P7] 3 r j
theorem canon_head4 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 4 r j) = P4 (ix3 0 r j) :=
  canon_heads ![P0, P1, P2, P3, P4, P5, P6, P7] 4 r j
theorem canon_head5 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 5 r j) = P5 (ix3 0 r j) :=
  canon_heads ![P0, P1, P2, P3, P4, P5, P6, P7] 5 r j
theorem canon_head6 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 6 r j) = P6 (ix3 0 r j) :=
  canon_heads ![P0, P1, P2, P3, P4, P5, P6, P7] 6 r j
theorem canon_head7 (P0 P1 P2 P3 P4 P5 P6 P7 : Vec F S1x128x256 e) (r : Fin 128) (j : Fin 256) : View.canon (Val := Elt F) (s := S8x128x256) (e := e) [
    ⟨Rect.unit ![7, 0, 0] ![1, 128, 256] inb_S8x128x256_S1x128x256_7_0_0, P7⟩, ⟨Rect.unit ![6, 0, 0] ![1, 128, 256] inb_S8x128x256_S1x128x256_6_0_0, P6⟩, ⟨Rect.unit ![5, 0, 0] ![1, 128, 256] inb_S8x128x256_S1x128x256_5_0_0, P5⟩, ⟨Rect.unit ![4, 0, 0] ![1, 128, 256] inb_S8x128x256_S1x128x256_4_0_0, P4⟩, ⟨Rect.unit ![3, 0, 0] ![1, 128, 256] inb_S8x128x256_S1x128x256_3_0_0, P3⟩, ⟨Rect.unit ![2, 0, 0] ![1, 128, 256] inb_S8x128x256_S1x128x256_2_0_0, P2⟩, ⟨Rect.unit ![1, 0, 0] ![1, 128, 256] inb_S8x128x256_S1x128x256_1_0_0, P1⟩, ⟨Rect.unit ![0, 0, 0] ![1, 128, 256] inb_S8x128x256_S1x128x256_0_0_0, P0⟩] (ix3 7 r j) = P7 (ix3 0 r j) :=
  canon_heads ![P0, P1, P2, P3, P4, P5, P6, P7] 7 r j

end

/-! ## The operands of a head -/

def Tile.Q (T : Tile Ideal) (h : Fin 8) (r : Fin 128) (l : Fin 64) : EReal := T.q (ix3 0 r (lane8 h l))
def Tile.G (T : Tile Ideal) (h : Fin 8) (r : Fin 128) (l : Fin 64) : EReal := T.g (ix3 0 r (lane8 h l))
/-- The keys, and the values: those carried, then the tile's own. -/
def Tile.K (T : Tile Ideal) (h : Fin 8) (j : Fin 256) (l : Fin 64) : EReal :=
  if hj : j.val < 128 then T.kp (ix2 ⟨j.val, hj⟩ (lane8 h l)) else T.k (ix3 0 ⟨j.val - 128, by omega⟩ (lane8 h l))
def Tile.V (T : Tile Ideal) (h : Fin 8) (j : Fin 256) (l : Fin 64) : EReal :=
  if hj : j.val < 128 then T.vp (ix2 ⟨j.val, hj⟩ (lane8 h l)) else T.v (ix3 0 ⟨j.val - 128, by omega⟩ (lane8 h l))
def Tile.B (T : Tile Ideal) (h : Fin 8) (r : Fin 128) (j : Fin 256) : EReal := T.b (ix3 h r j)
/-- Two stacked blocks. -/
theorem stackK_at (x : Vec Ideal S128x128 .bf16) (y : Vec Ideal S1x128x128 .bf16) (j : Fin 256) (l : Fin 128) :
    k0_pay16 x y (ix2 j l) = if hj : j.val < 128 then x (ix2 ⟨j.val, hj⟩ l) else y (ix3 0 ⟨j.val - 128, by omega⟩ l) := by
  pointwise [k0_pay16]
theorem stackV_at (x : Vec Ideal S128x128 .bf16) (y : Vec Ideal S1x128x128 .bf16) (j : Fin 256) (l : Fin 128) :
    k0_pay20 x y (ix2 j l) = if hj : j.val < 128 then x (ix2 ⟨j.val, hj⟩ l) else y (ix3 0 ⟨j.val - 128, by omega⟩ l) := by
  pointwise [k0_pay20]
def Tile.M (T : Tile Ideal) (r : Fin 128) (j : Fin 256) : BitVec 1 := T.f (ix2 r j)

theorem lane_0 (l : Fin 64) : lane8 0 l = lane4 0 (lane 0 l) := Fin.ext (by show 64 * 0 + l.val = 128 * 0 + (64 * 0 + l.val); omega)
theorem block_0 {e : EltTy} (x : Vec Ideal S1x128x512 e) (r : Fin 128) (l : Fin 64) : View.ld x (Rect.unit ![0, 0, 0] ![1, 128, 128] inb_S1x128x512_S1x128x128_0_0_0) (ix3 0 r (lane 0 l)) = x (ix3 0 r (lane8 0 l)) := by
  pointwise; exact congrArg x ((ix3_inj ..).2 ⟨rfl, rfl, Fin.ext (by show 64 * 0 + l.val = 64 * 0 + l.val; omega)⟩)
theorem carried_0 {e : EltTy} (x : Vec Ideal S128x512 e) (r : Fin 128) (l : Fin 64) : View.ld x (Rect.unit ![0, 0] ![128, 128] inb_S128x512_S128x128_0_0) (ix2 r (lane 0 l)) = x (ix2 r (lane8 0 l)) := by
  pointwise; exact congrArg x ((ix2_inj ..).2 ⟨rfl, Fin.ext (by show 64 * 0 + l.val = 64 * 0 + l.val; omega)⟩)
theorem score_0 (x : Vec Ideal S8x128x256 .f32) (r : Fin 128) (j : Fin 256) : View.ld x (Rect.unit ![0, 0, 0] ![1, 128, 256] inb_S8x128x256_S1x128x256_0_0_0) (ix3 0 r j) = x (ix3 0 r j) := by
  pointwise
theorem keys_0 (T : Tile Ideal) (j : Fin 256) (l : Fin 64) : T.k2_0 (ix2 j (lane 0 l)) = T.K 0 j l :=
  (stackK_at _ _ j (lane 0 l)).trans (dite_congr rfl (fun hj => carried_0 T.kp ⟨j.val, hj⟩ l) (fun hj => block_0 T.k ⟨j.val - 128, by omega⟩ l))
theorem values_0 (T : Tile Ideal) (j : Fin 256) (l : Fin 64) : T.v2_0 (ix2 j (lane 0 l)) = T.V 0 j l :=
  (stackV_at _ _ j (lane 0 l)).trans (dite_congr rfl (fun hj => carried_0 T.vp ⟨j.val, hj⟩ l) (fun hj => block_0 T.v ⟨j.val - 128, by omega⟩ l))

theorem lane_1 (l : Fin 64) : lane8 1 l = lane4 0 (lane 1 l) := Fin.ext (by show 64 * 1 + l.val = 128 * 0 + (64 * 1 + l.val); omega)
theorem block_1 {e : EltTy} (x : Vec Ideal S1x128x512 e) (r : Fin 128) (l : Fin 64) : View.ld x (Rect.unit ![0, 0, 0] ![1, 128, 128] inb_S1x128x512_S1x128x128_0_0_0) (ix3 0 r (lane 1 l)) = x (ix3 0 r (lane8 1 l)) := by
  pointwise; exact congrArg x ((ix3_inj ..).2 ⟨rfl, rfl, Fin.ext (by show 64 * 1 + l.val = 64 * 1 + l.val; omega)⟩)
theorem carried_1 {e : EltTy} (x : Vec Ideal S128x512 e) (r : Fin 128) (l : Fin 64) : View.ld x (Rect.unit ![0, 0] ![128, 128] inb_S128x512_S128x128_0_0) (ix2 r (lane 1 l)) = x (ix2 r (lane8 1 l)) := by
  pointwise; exact congrArg x ((ix2_inj ..).2 ⟨rfl, Fin.ext (by show 64 * 1 + l.val = 64 * 1 + l.val; omega)⟩)
theorem score_1 (x : Vec Ideal S8x128x256 .f32) (r : Fin 128) (j : Fin 256) : View.ld x (Rect.unit ![1, 0, 0] ![1, 128, 256] inb_S8x128x256_S1x128x256_1_0_0) (ix3 0 r j) = x (ix3 1 r j) := by
  pointwise
theorem keys_1 (T : Tile Ideal) (j : Fin 256) (l : Fin 64) : T.k2_0 (ix2 j (lane 1 l)) = T.K 1 j l :=
  (stackK_at _ _ j (lane 1 l)).trans (dite_congr rfl (fun hj => carried_1 T.kp ⟨j.val, hj⟩ l) (fun hj => block_1 T.k ⟨j.val - 128, by omega⟩ l))
theorem values_1 (T : Tile Ideal) (j : Fin 256) (l : Fin 64) : T.v2_0 (ix2 j (lane 1 l)) = T.V 1 j l :=
  (stackV_at _ _ j (lane 1 l)).trans (dite_congr rfl (fun hj => carried_1 T.vp ⟨j.val, hj⟩ l) (fun hj => block_1 T.v ⟨j.val - 128, by omega⟩ l))

theorem lane_2 (l : Fin 64) : lane8 2 l = lane4 1 (lane 0 l) := Fin.ext (by show 64 * 2 + l.val = 128 * 1 + (64 * 0 + l.val); omega)
theorem block_2 {e : EltTy} (x : Vec Ideal S1x128x512 e) (r : Fin 128) (l : Fin 64) : View.ld x (Rect.unit ![0, 0, 128] ![1, 128, 128] inb_S1x128x512_S1x128x128_0_0_128) (ix3 0 r (lane 0 l)) = x (ix3 0 r (lane8 2 l)) := by
  pointwise; exact congrArg x ((ix3_inj ..).2 ⟨rfl, rfl, Fin.ext (by show 128 + (64 * 0 + l.val) = 64 * 2 + l.val; omega)⟩)
theorem carried_2 {e : EltTy} (x : Vec Ideal S128x512 e) (r : Fin 128) (l : Fin 64) : View.ld x (Rect.unit ![0, 128] ![128, 128] inb_S128x512_S128x128_0_128) (ix2 r (lane 0 l)) = x (ix2 r (lane8 2 l)) := by
  pointwise; exact congrArg x ((ix2_inj ..).2 ⟨rfl, Fin.ext (by show 128 + (64 * 0 + l.val) = 64 * 2 + l.val; omega)⟩)
theorem score_2 (x : Vec Ideal S8x128x256 .f32) (r : Fin 128) (j : Fin 256) : View.ld x (Rect.unit ![2, 0, 0] ![1, 128, 256] inb_S8x128x256_S1x128x256_2_0_0) (ix3 0 r j) = x (ix3 2 r j) := by
  pointwise
theorem keys_2 (T : Tile Ideal) (j : Fin 256) (l : Fin 64) : T.k2_1 (ix2 j (lane 0 l)) = T.K 2 j l :=
  (stackK_at _ _ j (lane 0 l)).trans (dite_congr rfl (fun hj => carried_2 T.kp ⟨j.val, hj⟩ l) (fun hj => block_2 T.k ⟨j.val - 128, by omega⟩ l))
theorem values_2 (T : Tile Ideal) (j : Fin 256) (l : Fin 64) : T.v2_1 (ix2 j (lane 0 l)) = T.V 2 j l :=
  (stackV_at _ _ j (lane 0 l)).trans (dite_congr rfl (fun hj => carried_2 T.vp ⟨j.val, hj⟩ l) (fun hj => block_2 T.v ⟨j.val - 128, by omega⟩ l))

theorem lane_3 (l : Fin 64) : lane8 3 l = lane4 1 (lane 1 l) := Fin.ext (by show 64 * 3 + l.val = 128 * 1 + (64 * 1 + l.val); omega)
theorem block_3 {e : EltTy} (x : Vec Ideal S1x128x512 e) (r : Fin 128) (l : Fin 64) : View.ld x (Rect.unit ![0, 0, 128] ![1, 128, 128] inb_S1x128x512_S1x128x128_0_0_128) (ix3 0 r (lane 1 l)) = x (ix3 0 r (lane8 3 l)) := by
  pointwise; exact congrArg x ((ix3_inj ..).2 ⟨rfl, rfl, Fin.ext (by show 128 + (64 * 1 + l.val) = 64 * 3 + l.val; omega)⟩)
theorem carried_3 {e : EltTy} (x : Vec Ideal S128x512 e) (r : Fin 128) (l : Fin 64) : View.ld x (Rect.unit ![0, 128] ![128, 128] inb_S128x512_S128x128_0_128) (ix2 r (lane 1 l)) = x (ix2 r (lane8 3 l)) := by
  pointwise; exact congrArg x ((ix2_inj ..).2 ⟨rfl, Fin.ext (by show 128 + (64 * 1 + l.val) = 64 * 3 + l.val; omega)⟩)
theorem score_3 (x : Vec Ideal S8x128x256 .f32) (r : Fin 128) (j : Fin 256) : View.ld x (Rect.unit ![3, 0, 0] ![1, 128, 256] inb_S8x128x256_S1x128x256_3_0_0) (ix3 0 r j) = x (ix3 3 r j) := by
  pointwise
theorem keys_3 (T : Tile Ideal) (j : Fin 256) (l : Fin 64) : T.k2_1 (ix2 j (lane 1 l)) = T.K 3 j l :=
  (stackK_at _ _ j (lane 1 l)).trans (dite_congr rfl (fun hj => carried_3 T.kp ⟨j.val, hj⟩ l) (fun hj => block_3 T.k ⟨j.val - 128, by omega⟩ l))
theorem values_3 (T : Tile Ideal) (j : Fin 256) (l : Fin 64) : T.v2_1 (ix2 j (lane 1 l)) = T.V 3 j l :=
  (stackV_at _ _ j (lane 1 l)).trans (dite_congr rfl (fun hj => carried_3 T.vp ⟨j.val, hj⟩ l) (fun hj => block_3 T.v ⟨j.val - 128, by omega⟩ l))

theorem lane_4 (l : Fin 64) : lane8 4 l = lane4 2 (lane 0 l) := Fin.ext (by show 64 * 4 + l.val = 128 * 2 + (64 * 0 + l.val); omega)
theorem block_4 {e : EltTy} (x : Vec Ideal S1x128x512 e) (r : Fin 128) (l : Fin 64) : View.ld x (Rect.unit ![0, 0, 256] ![1, 128, 128] inb_S1x128x512_S1x128x128_0_0_256) (ix3 0 r (lane 0 l)) = x (ix3 0 r (lane8 4 l)) := by
  pointwise; exact congrArg x ((ix3_inj ..).2 ⟨rfl, rfl, Fin.ext (by show 256 + (64 * 0 + l.val) = 64 * 4 + l.val; omega)⟩)
theorem carried_4 {e : EltTy} (x : Vec Ideal S128x512 e) (r : Fin 128) (l : Fin 64) : View.ld x (Rect.unit ![0, 256] ![128, 128] inb_S128x512_S128x128_0_256) (ix2 r (lane 0 l)) = x (ix2 r (lane8 4 l)) := by
  pointwise; exact congrArg x ((ix2_inj ..).2 ⟨rfl, Fin.ext (by show 256 + (64 * 0 + l.val) = 64 * 4 + l.val; omega)⟩)
theorem score_4 (x : Vec Ideal S8x128x256 .f32) (r : Fin 128) (j : Fin 256) : View.ld x (Rect.unit ![4, 0, 0] ![1, 128, 256] inb_S8x128x256_S1x128x256_4_0_0) (ix3 0 r j) = x (ix3 4 r j) := by
  pointwise
theorem keys_4 (T : Tile Ideal) (j : Fin 256) (l : Fin 64) : T.k2_2 (ix2 j (lane 0 l)) = T.K 4 j l :=
  (stackK_at _ _ j (lane 0 l)).trans (dite_congr rfl (fun hj => carried_4 T.kp ⟨j.val, hj⟩ l) (fun hj => block_4 T.k ⟨j.val - 128, by omega⟩ l))
theorem values_4 (T : Tile Ideal) (j : Fin 256) (l : Fin 64) : T.v2_2 (ix2 j (lane 0 l)) = T.V 4 j l :=
  (stackV_at _ _ j (lane 0 l)).trans (dite_congr rfl (fun hj => carried_4 T.vp ⟨j.val, hj⟩ l) (fun hj => block_4 T.v ⟨j.val - 128, by omega⟩ l))

theorem lane_5 (l : Fin 64) : lane8 5 l = lane4 2 (lane 1 l) := Fin.ext (by show 64 * 5 + l.val = 128 * 2 + (64 * 1 + l.val); omega)
theorem block_5 {e : EltTy} (x : Vec Ideal S1x128x512 e) (r : Fin 128) (l : Fin 64) : View.ld x (Rect.unit ![0, 0, 256] ![1, 128, 128] inb_S1x128x512_S1x128x128_0_0_256) (ix3 0 r (lane 1 l)) = x (ix3 0 r (lane8 5 l)) := by
  pointwise; exact congrArg x ((ix3_inj ..).2 ⟨rfl, rfl, Fin.ext (by show 256 + (64 * 1 + l.val) = 64 * 5 + l.val; omega)⟩)
theorem carried_5 {e : EltTy} (x : Vec Ideal S128x512 e) (r : Fin 128) (l : Fin 64) : View.ld x (Rect.unit ![0, 256] ![128, 128] inb_S128x512_S128x128_0_256) (ix2 r (lane 1 l)) = x (ix2 r (lane8 5 l)) := by
  pointwise; exact congrArg x ((ix2_inj ..).2 ⟨rfl, Fin.ext (by show 256 + (64 * 1 + l.val) = 64 * 5 + l.val; omega)⟩)
theorem score_5 (x : Vec Ideal S8x128x256 .f32) (r : Fin 128) (j : Fin 256) : View.ld x (Rect.unit ![5, 0, 0] ![1, 128, 256] inb_S8x128x256_S1x128x256_5_0_0) (ix3 0 r j) = x (ix3 5 r j) := by
  pointwise
theorem keys_5 (T : Tile Ideal) (j : Fin 256) (l : Fin 64) : T.k2_2 (ix2 j (lane 1 l)) = T.K 5 j l :=
  (stackK_at _ _ j (lane 1 l)).trans (dite_congr rfl (fun hj => carried_5 T.kp ⟨j.val, hj⟩ l) (fun hj => block_5 T.k ⟨j.val - 128, by omega⟩ l))
theorem values_5 (T : Tile Ideal) (j : Fin 256) (l : Fin 64) : T.v2_2 (ix2 j (lane 1 l)) = T.V 5 j l :=
  (stackV_at _ _ j (lane 1 l)).trans (dite_congr rfl (fun hj => carried_5 T.vp ⟨j.val, hj⟩ l) (fun hj => block_5 T.v ⟨j.val - 128, by omega⟩ l))

theorem lane_6 (l : Fin 64) : lane8 6 l = lane4 3 (lane 0 l) := Fin.ext (by show 64 * 6 + l.val = 128 * 3 + (64 * 0 + l.val); omega)
theorem block_6 {e : EltTy} (x : Vec Ideal S1x128x512 e) (r : Fin 128) (l : Fin 64) : View.ld x (Rect.unit ![0, 0, 384] ![1, 128, 128] inb_S1x128x512_S1x128x128_0_0_384) (ix3 0 r (lane 0 l)) = x (ix3 0 r (lane8 6 l)) := by
  pointwise; exact congrArg x ((ix3_inj ..).2 ⟨rfl, rfl, Fin.ext (by show 384 + (64 * 0 + l.val) = 64 * 6 + l.val; omega)⟩)
theorem carried_6 {e : EltTy} (x : Vec Ideal S128x512 e) (r : Fin 128) (l : Fin 64) : View.ld x (Rect.unit ![0, 384] ![128, 128] inb_S128x512_S128x128_0_384) (ix2 r (lane 0 l)) = x (ix2 r (lane8 6 l)) := by
  pointwise; exact congrArg x ((ix2_inj ..).2 ⟨rfl, Fin.ext (by show 384 + (64 * 0 + l.val) = 64 * 6 + l.val; omega)⟩)
theorem score_6 (x : Vec Ideal S8x128x256 .f32) (r : Fin 128) (j : Fin 256) : View.ld x (Rect.unit ![6, 0, 0] ![1, 128, 256] inb_S8x128x256_S1x128x256_6_0_0) (ix3 0 r j) = x (ix3 6 r j) := by
  pointwise
theorem keys_6 (T : Tile Ideal) (j : Fin 256) (l : Fin 64) : T.k2_3 (ix2 j (lane 0 l)) = T.K 6 j l :=
  (stackK_at _ _ j (lane 0 l)).trans (dite_congr rfl (fun hj => carried_6 T.kp ⟨j.val, hj⟩ l) (fun hj => block_6 T.k ⟨j.val - 128, by omega⟩ l))
theorem values_6 (T : Tile Ideal) (j : Fin 256) (l : Fin 64) : T.v2_3 (ix2 j (lane 0 l)) = T.V 6 j l :=
  (stackV_at _ _ j (lane 0 l)).trans (dite_congr rfl (fun hj => carried_6 T.vp ⟨j.val, hj⟩ l) (fun hj => block_6 T.v ⟨j.val - 128, by omega⟩ l))

theorem lane_7 (l : Fin 64) : lane8 7 l = lane4 3 (lane 1 l) := Fin.ext (by show 64 * 7 + l.val = 128 * 3 + (64 * 1 + l.val); omega)
theorem block_7 {e : EltTy} (x : Vec Ideal S1x128x512 e) (r : Fin 128) (l : Fin 64) : View.ld x (Rect.unit ![0, 0, 384] ![1, 128, 128] inb_S1x128x512_S1x128x128_0_0_384) (ix3 0 r (lane 1 l)) = x (ix3 0 r (lane8 7 l)) := by
  pointwise; exact congrArg x ((ix3_inj ..).2 ⟨rfl, rfl, Fin.ext (by show 384 + (64 * 1 + l.val) = 64 * 7 + l.val; omega)⟩)
theorem carried_7 {e : EltTy} (x : Vec Ideal S128x512 e) (r : Fin 128) (l : Fin 64) : View.ld x (Rect.unit ![0, 384] ![128, 128] inb_S128x512_S128x128_0_384) (ix2 r (lane 1 l)) = x (ix2 r (lane8 7 l)) := by
  pointwise; exact congrArg x ((ix2_inj ..).2 ⟨rfl, Fin.ext (by show 384 + (64 * 1 + l.val) = 64 * 7 + l.val; omega)⟩)
theorem score_7 (x : Vec Ideal S8x128x256 .f32) (r : Fin 128) (j : Fin 256) : View.ld x (Rect.unit ![7, 0, 0] ![1, 128, 256] inb_S8x128x256_S1x128x256_7_0_0) (ix3 0 r j) = x (ix3 7 r j) := by
  pointwise
theorem keys_7 (T : Tile Ideal) (j : Fin 256) (l : Fin 64) : T.k2_3 (ix2 j (lane 1 l)) = T.K 7 j l :=
  (stackK_at _ _ j (lane 1 l)).trans (dite_congr rfl (fun hj => carried_7 T.kp ⟨j.val, hj⟩ l) (fun hj => block_7 T.k ⟨j.val - 128, by omega⟩ l))
theorem values_7 (T : Tile Ideal) (j : Fin 256) (l : Fin 64) : T.v2_3 (ix2 j (lane 1 l)) = T.V 7 j l :=
  (stackV_at _ _ j (lane 1 l)).trans (dite_congr rfl (fun hj => carried_7 T.vp ⟨j.val, hj⟩ l) (fun hj => block_7 T.v ⟨j.val - 128, by omega⟩ l))

/-! ## The tile's results -/

section
variable (T : Tile Ideal) (t d : Fin 8 → Fin 128 → EReal) (ht : ∀ (h : Fin 8) (r : Fin 128) (l : Fin 64), l.val < 32 → T.st (ix3 0 r (lane8 h l)) = t h r)
  (hd : ∀ (h : Fin 8) (r : Fin 128) (l : Fin 64), ¬l.val < 32 → T.st (ix3 0 r (lane8 h l)) = d h r)

/-- The tile's weights, scores' gradients and parts of the three gradients, head by head, under the saved `t` and `d`. -/
abbrev Tile.sD (h : Fin 8) := headD (T.Q h) (T.K h) (T.V h) (T.G h) (T.B h) T.M (t h) (d h)
abbrev Tile.sDq (h : Fin 8) := headDq (T.Q h) (T.K h) (T.V h) (T.G h) (T.B h) T.M (t h) (d h)
abbrev Tile.sDk (h : Fin 8) := headDk (T.Q h) (T.K h) (T.V h) (T.G h) (T.B h) T.M (t h) (d h)
abbrev Tile.sDv (h : Fin 8) := headDv (T.Q h) (T.K h) (T.G h) (T.B h) T.M (t h)

include ht hd in
theorem head_dq_0 (r : Fin 128) (l : Fin 64) : T.dq_0 (ix3 0 r (lane 0 l)) = T.sDq t d 0 r l := by
  refine (pairDq_even T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 0) (d 0) (fun r l hl => (block_0 T.st r l).trans (ht 0 r l hl)) (fun r l hl => (block_0 T.st r l).trans (hd 0 r l hl)) r l).trans ?_
  rw [show prQ (View.ld T.q (Rect.unit ![0, 0, 0] ![1, 128, 128] inb_S1x128x512_S1x128x128_0_0_0)) 0 = T.Q 0 from funext fun r => funext fun l => block_0 T.q r l,
      show prK T.k2_0 0 = T.K 0 from funext fun j => funext fun l => keys_0 T j l,
      show prK T.v2_0 0 = T.V 0 from funext fun j => funext fun l => values_0 T j l,
      show prQ (View.ld T.g (Rect.unit ![0, 0, 0] ![1, 128, 128] inb_S1x128x512_S1x128x128_0_0_0)) 0 = T.G 0 from funext fun r => funext fun l => block_0 T.g r l,
      show prB (View.ld T.b (Rect.unit ![0, 0, 0] ![1, 128, 256] inb_S8x128x256_S1x128x256_0_0_0)) = T.B 0 from funext fun r => funext fun j => score_0 T.b r j,
      show prM T.f = T.M from rfl]
include ht hd in
theorem head_dk_0 (j : Fin 256) (l : Fin 64) : T.dk_0 (ix2 j (lane 0 l)) = T.sDk t d 0 j l := by
  refine (pairDk_even T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 0) (d 0) (fun r l hl => (block_0 T.st r l).trans (ht 0 r l hl)) (fun r l hl => (block_0 T.st r l).trans (hd 0 r l hl)) j l).trans ?_
  rw [show prQ (View.ld T.q (Rect.unit ![0, 0, 0] ![1, 128, 128] inb_S1x128x512_S1x128x128_0_0_0)) 0 = T.Q 0 from funext fun r => funext fun l => block_0 T.q r l,
      show prK T.k2_0 0 = T.K 0 from funext fun j => funext fun l => keys_0 T j l,
      show prK T.v2_0 0 = T.V 0 from funext fun j => funext fun l => values_0 T j l,
      show prQ (View.ld T.g (Rect.unit ![0, 0, 0] ![1, 128, 128] inb_S1x128x512_S1x128x128_0_0_0)) 0 = T.G 0 from funext fun r => funext fun l => block_0 T.g r l,
      show prB (View.ld T.b (Rect.unit ![0, 0, 0] ![1, 128, 256] inb_S8x128x256_S1x128x256_0_0_0)) = T.B 0 from funext fun r => funext fun j => score_0 T.b r j,
      show prM T.f = T.M from rfl]
include ht in
theorem head_dv_0 (j : Fin 256) (l : Fin 64) : T.dv_0 (ix2 j (lane 0 l)) = T.sDv t 0 j l := by
  refine (pairDv_even T.f T.k2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 0) (fun r l hl => (block_0 T.st r l).trans (ht 0 r l hl)) j l).trans ?_
  rw [show prQ (View.ld T.q (Rect.unit ![0, 0, 0] ![1, 128, 128] inb_S1x128x512_S1x128x128_0_0_0)) 0 = T.Q 0 from funext fun r => funext fun l => block_0 T.q r l,
      show prK T.k2_0 0 = T.K 0 from funext fun j => funext fun l => keys_0 T j l,
      show prQ (View.ld T.g (Rect.unit ![0, 0, 0] ![1, 128, 128] inb_S1x128x512_S1x128x128_0_0_0)) 0 = T.G 0 from funext fun r => funext fun l => block_0 T.g r l,
      show prB (View.ld T.b (Rect.unit ![0, 0, 0] ![1, 128, 256] inb_S8x128x256_S1x128x256_0_0_0)) = T.B 0 from funext fun r => funext fun j => score_0 T.b r j,
      show prM T.f = T.M from rfl]
include ht hd in
theorem head_ds_0 (r : Fin 128) (j : Fin 256) : T.ds_0 (ix2 r j) = T.sD t d 0 r j := by
  refine (hD_at 0 evenLanes even_half T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.st (Rect.unit ![0, 0, 0] ![1, 128, 128] inb_S1x128x512_S1x128x128_0_0_0)) (t 0) (d 0) (fun r l hl => (block_0 T.st r l).trans (ht 0 r l hl)) (fun r l hl => (block_0 T.st r l).trans (hd 0 r l hl)) r j).trans ?_
  change headD (prQ (View.ld T.q (Rect.unit ![0, 0, 0] ![1, 128, 128] inb_S1x128x512_S1x128x128_0_0_0)) 0) (prK T.k2_0 0) (prK T.v2_0 0) (prQ (View.ld T.g (Rect.unit ![0, 0, 0] ![1, 128, 128] inb_S1x128x512_S1x128x128_0_0_0)) 0) (prB (View.ld T.b (Rect.unit ![0, 0, 0] ![1, 128, 256] inb_S8x128x256_S1x128x256_0_0_0))) (prM T.f) (t 0) (d 0) r j = _
  rw [show prQ (View.ld T.q (Rect.unit ![0, 0, 0] ![1, 128, 128] inb_S1x128x512_S1x128x128_0_0_0)) 0 = T.Q 0 from funext fun r => funext fun l => block_0 T.q r l,
      show prK T.k2_0 0 = T.K 0 from funext fun j => funext fun l => keys_0 T j l,
      show prK T.v2_0 0 = T.V 0 from funext fun j => funext fun l => values_0 T j l,
      show prQ (View.ld T.g (Rect.unit ![0, 0, 0] ![1, 128, 128] inb_S1x128x512_S1x128x128_0_0_0)) 0 = T.G 0 from funext fun r => funext fun l => block_0 T.g r l,
      show prB (View.ld T.b (Rect.unit ![0, 0, 0] ![1, 128, 256] inb_S8x128x256_S1x128x256_0_0_0)) = T.B 0 from funext fun r => funext fun j => score_0 T.b r j,
      show prM T.f = T.M from rfl]

include ht hd in
theorem head_dq_1 (r : Fin 128) (l : Fin 64) : T.dq_0 (ix3 0 r (lane 1 l)) = T.sDq t d 1 r l := by
  refine (pairDq_odd T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 1) (d 1) (fun r l hl => (block_1 T.st r l).trans (ht 1 r l hl)) (fun r l hl => (block_1 T.st r l).trans (hd 1 r l hl)) r l).trans ?_
  rw [show prQ (View.ld T.q (Rect.unit ![0, 0, 0] ![1, 128, 128] inb_S1x128x512_S1x128x128_0_0_0)) 1 = T.Q 1 from funext fun r => funext fun l => block_1 T.q r l,
      show prK T.k2_0 1 = T.K 1 from funext fun j => funext fun l => keys_1 T j l,
      show prK T.v2_0 1 = T.V 1 from funext fun j => funext fun l => values_1 T j l,
      show prQ (View.ld T.g (Rect.unit ![0, 0, 0] ![1, 128, 128] inb_S1x128x512_S1x128x128_0_0_0)) 1 = T.G 1 from funext fun r => funext fun l => block_1 T.g r l,
      show prB (View.ld T.b (Rect.unit ![1, 0, 0] ![1, 128, 256] inb_S8x128x256_S1x128x256_1_0_0)) = T.B 1 from funext fun r => funext fun j => score_1 T.b r j,
      show prM T.f = T.M from rfl]
include ht hd in
theorem head_dk_1 (j : Fin 256) (l : Fin 64) : T.dk_0 (ix2 j (lane 1 l)) = T.sDk t d 1 j l := by
  refine (pairDk_odd T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 1) (d 1) (fun r l hl => (block_1 T.st r l).trans (ht 1 r l hl)) (fun r l hl => (block_1 T.st r l).trans (hd 1 r l hl)) j l).trans ?_
  rw [show prQ (View.ld T.q (Rect.unit ![0, 0, 0] ![1, 128, 128] inb_S1x128x512_S1x128x128_0_0_0)) 1 = T.Q 1 from funext fun r => funext fun l => block_1 T.q r l,
      show prK T.k2_0 1 = T.K 1 from funext fun j => funext fun l => keys_1 T j l,
      show prK T.v2_0 1 = T.V 1 from funext fun j => funext fun l => values_1 T j l,
      show prQ (View.ld T.g (Rect.unit ![0, 0, 0] ![1, 128, 128] inb_S1x128x512_S1x128x128_0_0_0)) 1 = T.G 1 from funext fun r => funext fun l => block_1 T.g r l,
      show prB (View.ld T.b (Rect.unit ![1, 0, 0] ![1, 128, 256] inb_S8x128x256_S1x128x256_1_0_0)) = T.B 1 from funext fun r => funext fun j => score_1 T.b r j,
      show prM T.f = T.M from rfl]
include ht in
theorem head_dv_1 (j : Fin 256) (l : Fin 64) : T.dv_0 (ix2 j (lane 1 l)) = T.sDv t 1 j l := by
  refine (pairDv_odd T.f T.k2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![0, 0, 0] ![1, 128, 256] inb_S8x128x256_S1x128x256_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 1) (fun r l hl => (block_1 T.st r l).trans (ht 1 r l hl)) j l).trans ?_
  rw [show prQ (View.ld T.q (Rect.unit ![0, 0, 0] ![1, 128, 128] inb_S1x128x512_S1x128x128_0_0_0)) 1 = T.Q 1 from funext fun r => funext fun l => block_1 T.q r l,
      show prK T.k2_0 1 = T.K 1 from funext fun j => funext fun l => keys_1 T j l,
      show prQ (View.ld T.g (Rect.unit ![0, 0, 0] ![1, 128, 128] inb_S1x128x512_S1x128x128_0_0_0)) 1 = T.G 1 from funext fun r => funext fun l => block_1 T.g r l,
      show prB (View.ld T.b (Rect.unit ![1, 0, 0] ![1, 128, 256] inb_S8x128x256_S1x128x256_1_0_0)) = T.B 1 from funext fun r => funext fun j => score_1 T.b r j,
      show prM T.f = T.M from rfl]
include ht hd in
theorem head_ds_1 (r : Fin 128) (j : Fin 256) : T.ds_1 (ix2 r j) = T.sD t d 1 r j := by
  refine (hD_at 1 oddLanes odd_half T.f T.k2_0 T.v2_0 (View.ld T.q (Rect.unit ![0, 0, 0] ![1, 128, 128] inb_S1x128x512_S1x128x128_0_0_0)) (View.ld T.g (Rect.unit ![0, 0, 0] ![1, 128, 128] inb_S1x128x512_S1x128x128_0_0_0)) (View.ld T.b (Rect.unit ![1, 0, 0] ![1, 128, 256] inb_S8x128x256_S1x128x256_1_0_0)) (View.ld T.st (Rect.unit ![0, 0, 0] ![1, 128, 128] inb_S1x128x512_S1x128x128_0_0_0)) (t 1) (d 1) (fun r l hl => (block_1 T.st r l).trans (ht 1 r l hl)) (fun r l hl => (block_1 T.st r l).trans (hd 1 r l hl)) r j).trans ?_
  change headD (prQ (View.ld T.q (Rect.unit ![0, 0, 0] ![1, 128, 128] inb_S1x128x512_S1x128x128_0_0_0)) 1) (prK T.k2_0 1) (prK T.v2_0 1) (prQ (View.ld T.g (Rect.unit ![0, 0, 0] ![1, 128, 128] inb_S1x128x512_S1x128x128_0_0_0)) 1) (prB (View.ld T.b (Rect.unit ![1, 0, 0] ![1, 128, 256] inb_S8x128x256_S1x128x256_1_0_0))) (prM T.f) (t 1) (d 1) r j = _
  rw [show prQ (View.ld T.q (Rect.unit ![0, 0, 0] ![1, 128, 128] inb_S1x128x512_S1x128x128_0_0_0)) 1 = T.Q 1 from funext fun r => funext fun l => block_1 T.q r l,
      show prK T.k2_0 1 = T.K 1 from funext fun j => funext fun l => keys_1 T j l,
      show prK T.v2_0 1 = T.V 1 from funext fun j => funext fun l => values_1 T j l,
      show prQ (View.ld T.g (Rect.unit ![0, 0, 0] ![1, 128, 128] inb_S1x128x512_S1x128x128_0_0_0)) 1 = T.G 1 from funext fun r => funext fun l => block_1 T.g r l,
      show prB (View.ld T.b (Rect.unit ![1, 0, 0] ![1, 128, 256] inb_S8x128x256_S1x128x256_1_0_0)) = T.B 1 from funext fun r => funext fun j => score_1 T.b r j,
      show prM T.f = T.M from rfl]

include ht hd in
theorem head_dq_2 (r : Fin 128) (l : Fin 64) : T.dq_1 (ix3 0 r (lane 0 l)) = T.sDq t d 2 r l := by
  refine (pairDq_even T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128)) (t 2) (d 2) (fun r l hl => (block_2 T.st r l).trans (ht 2 r l hl)) (fun r l hl => (block_2 T.st r l).trans (hd 2 r l hl)) r l).trans ?_
  rw [show prQ (View.ld T.q (Rect.unit ![0, 0, 128] ![1, 128, 128] inb_S1x128x512_S1x128x128_0_0_128)) 0 = T.Q 2 from funext fun r => funext fun l => block_2 T.q r l,
      show prK T.k2_1 0 = T.K 2 from funext fun j => funext fun l => keys_2 T j l,
      show prK T.v2_1 0 = T.V 2 from funext fun j => funext fun l => values_2 T j l,
      show prQ (View.ld T.g (Rect.unit ![0, 0, 128] ![1, 128, 128] inb_S1x128x512_S1x128x128_0_0_128)) 0 = T.G 2 from funext fun r => funext fun l => block_2 T.g r l,
      show prB (View.ld T.b (Rect.unit ![2, 0, 0] ![1, 128, 256] inb_S8x128x256_S1x128x256_2_0_0)) = T.B 2 from funext fun r => funext fun j => score_2 T.b r j,
      show prM T.f = T.M from rfl]
include ht hd in
theorem head_dk_2 (j : Fin 256) (l : Fin 64) : T.dk_1 (ix2 j (lane 0 l)) = T.sDk t d 2 j l := by
  refine (pairDk_even T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128)) (t 2) (d 2) (fun r l hl => (block_2 T.st r l).trans (ht 2 r l hl)) (fun r l hl => (block_2 T.st r l).trans (hd 2 r l hl)) j l).trans ?_
  rw [show prQ (View.ld T.q (Rect.unit ![0, 0, 128] ![1, 128, 128] inb_S1x128x512_S1x128x128_0_0_128)) 0 = T.Q 2 from funext fun r => funext fun l => block_2 T.q r l,
      show prK T.k2_1 0 = T.K 2 from funext fun j => funext fun l => keys_2 T j l,
      show prK T.v2_1 0 = T.V 2 from funext fun j => funext fun l => values_2 T j l,
      show prQ (View.ld T.g (Rect.unit ![0, 0, 128] ![1, 128, 128] inb_S1x128x512_S1x128x128_0_0_128)) 0 = T.G 2 from funext fun r => funext fun l => block_2 T.g r l,
      show prB (View.ld T.b (Rect.unit ![2, 0, 0] ![1, 128, 256] inb_S8x128x256_S1x128x256_2_0_0)) = T.B 2 from funext fun r => funext fun j => score_2 T.b r j,
      show prM T.f = T.M from rfl]
include ht in
theorem head_dv_2 (j : Fin 256) (l : Fin 64) : T.dv_1 (ix2 j (lane 0 l)) = T.sDv t 2 j l := by
  refine (pairDv_even T.f T.k2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128)) (t 2) (fun r l hl => (block_2 T.st r l).trans (ht 2 r l hl)) j l).trans ?_
  rw [show prQ (View.ld T.q (Rect.unit ![0, 0, 128] ![1, 128, 128] inb_S1x128x512_S1x128x128_0_0_128)) 0 = T.Q 2 from funext fun r => funext fun l => block_2 T.q r l,
      show prK T.k2_1 0 = T.K 2 from funext fun j => funext fun l => keys_2 T j l,
      show prQ (View.ld T.g (Rect.unit ![0, 0, 128] ![1, 128, 128] inb_S1x128x512_S1x128x128_0_0_128)) 0 = T.G 2 from funext fun r => funext fun l => block_2 T.g r l,
      show prB (View.ld T.b (Rect.unit ![2, 0, 0] ![1, 128, 256] inb_S8x128x256_S1x128x256_2_0_0)) = T.B 2 from funext fun r => funext fun j => score_2 T.b r j,
      show prM T.f = T.M from rfl]
include ht hd in
theorem head_ds_2 (r : Fin 128) (j : Fin 256) : T.ds_2 (ix2 r j) = T.sD t d 2 r j := by
  refine (hD_at 0 evenLanes even_half T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.st (Rect.unit ![0, 0, 128] ![1, 128, 128] inb_S1x128x512_S1x128x128_0_0_128)) (t 2) (d 2) (fun r l hl => (block_2 T.st r l).trans (ht 2 r l hl)) (fun r l hl => (block_2 T.st r l).trans (hd 2 r l hl)) r j).trans ?_
  change headD (prQ (View.ld T.q (Rect.unit ![0, 0, 128] ![1, 128, 128] inb_S1x128x512_S1x128x128_0_0_128)) 0) (prK T.k2_1 0) (prK T.v2_1 0) (prQ (View.ld T.g (Rect.unit ![0, 0, 128] ![1, 128, 128] inb_S1x128x512_S1x128x128_0_0_128)) 0) (prB (View.ld T.b (Rect.unit ![2, 0, 0] ![1, 128, 256] inb_S8x128x256_S1x128x256_2_0_0))) (prM T.f) (t 2) (d 2) r j = _
  rw [show prQ (View.ld T.q (Rect.unit ![0, 0, 128] ![1, 128, 128] inb_S1x128x512_S1x128x128_0_0_128)) 0 = T.Q 2 from funext fun r => funext fun l => block_2 T.q r l,
      show prK T.k2_1 0 = T.K 2 from funext fun j => funext fun l => keys_2 T j l,
      show prK T.v2_1 0 = T.V 2 from funext fun j => funext fun l => values_2 T j l,
      show prQ (View.ld T.g (Rect.unit ![0, 0, 128] ![1, 128, 128] inb_S1x128x512_S1x128x128_0_0_128)) 0 = T.G 2 from funext fun r => funext fun l => block_2 T.g r l,
      show prB (View.ld T.b (Rect.unit ![2, 0, 0] ![1, 128, 256] inb_S8x128x256_S1x128x256_2_0_0)) = T.B 2 from funext fun r => funext fun j => score_2 T.b r j,
      show prM T.f = T.M from rfl]

include ht hd in
theorem head_dq_3 (r : Fin 128) (l : Fin 64) : T.dq_1 (ix3 0 r (lane 1 l)) = T.sDq t d 3 r l := by
  refine (pairDq_odd T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128)) (t 3) (d 3) (fun r l hl => (block_3 T.st r l).trans (ht 3 r l hl)) (fun r l hl => (block_3 T.st r l).trans (hd 3 r l hl)) r l).trans ?_
  rw [show prQ (View.ld T.q (Rect.unit ![0, 0, 128] ![1, 128, 128] inb_S1x128x512_S1x128x128_0_0_128)) 1 = T.Q 3 from funext fun r => funext fun l => block_3 T.q r l,
      show prK T.k2_1 1 = T.K 3 from funext fun j => funext fun l => keys_3 T j l,
      show prK T.v2_1 1 = T.V 3 from funext fun j => funext fun l => values_3 T j l,
      show prQ (View.ld T.g (Rect.unit ![0, 0, 128] ![1, 128, 128] inb_S1x128x512_S1x128x128_0_0_128)) 1 = T.G 3 from funext fun r => funext fun l => block_3 T.g r l,
      show prB (View.ld T.b (Rect.unit ![3, 0, 0] ![1, 128, 256] inb_S8x128x256_S1x128x256_3_0_0)) = T.B 3 from funext fun r => funext fun j => score_3 T.b r j,
      show prM T.f = T.M from rfl]
include ht hd in
theorem head_dk_3 (j : Fin 256) (l : Fin 64) : T.dk_1 (ix2 j (lane 1 l)) = T.sDk t d 3 j l := by
  refine (pairDk_odd T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128)) (t 3) (d 3) (fun r l hl => (block_3 T.st r l).trans (ht 3 r l hl)) (fun r l hl => (block_3 T.st r l).trans (hd 3 r l hl)) j l).trans ?_
  rw [show prQ (View.ld T.q (Rect.unit ![0, 0, 128] ![1, 128, 128] inb_S1x128x512_S1x128x128_0_0_128)) 1 = T.Q 3 from funext fun r => funext fun l => block_3 T.q r l,
      show prK T.k2_1 1 = T.K 3 from funext fun j => funext fun l => keys_3 T j l,
      show prK T.v2_1 1 = T.V 3 from funext fun j => funext fun l => values_3 T j l,
      show prQ (View.ld T.g (Rect.unit ![0, 0, 128] ![1, 128, 128] inb_S1x128x512_S1x128x128_0_0_128)) 1 = T.G 3 from funext fun r => funext fun l => block_3 T.g r l,
      show prB (View.ld T.b (Rect.unit ![3, 0, 0] ![1, 128, 256] inb_S8x128x256_S1x128x256_3_0_0)) = T.B 3 from funext fun r => funext fun j => score_3 T.b r j,
      show prM T.f = T.M from rfl]
include ht in
theorem head_dv_3 (j : Fin 256) (l : Fin 64) : T.dv_1 (ix2 j (lane 1 l)) = T.sDv t 3 j l := by
  refine (pairDv_odd T.f T.k2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![2, 0, 0] ![1, 128, 256] inb_S8x128x256_S1x128x256_2_0_0)) (View.ld T.b (Rect.unit ![3, 0, 0] ![1, 128, 256] inb_S8x128x256_S1x128x256_3_0_0)) (View.ld T.st (Rect.unit ![0, 0, 128] ![1, 128, 128] inb_S1x128x512_S1x128x128_0_0_128)) (t 3) (fun r l hl => (block_3 T.st r l).trans (ht 3 r l hl)) j l).trans ?_
  rw [show prQ (View.ld T.q (Rect.unit ![0, 0, 128] ![1, 128, 128] inb_S1x128x512_S1x128x128_0_0_128)) 1 = T.Q 3 from funext fun r => funext fun l => block_3 T.q r l,
      show prK T.k2_1 1 = T.K 3 from funext fun j => funext fun l => keys_3 T j l,
      show prQ (View.ld T.g (Rect.unit ![0, 0, 128] ![1, 128, 128] inb_S1x128x512_S1x128x128_0_0_128)) 1 = T.G 3 from funext fun r => funext fun l => block_3 T.g r l,
      show prB (View.ld T.b (Rect.unit ![3, 0, 0] ![1, 128, 256] inb_S8x128x256_S1x128x256_3_0_0)) = T.B 3 from funext fun r => funext fun j => score_3 T.b r j,
      show prM T.f = T.M from rfl]
include ht hd in
theorem head_ds_3 (r : Fin 128) (j : Fin 256) : T.ds_3 (ix2 r j) = T.sD t d 3 r j := by
  refine (hD_at 1 oddLanes odd_half T.f T.k2_1 T.v2_1 (View.ld T.q (Rect.unit ![0, 0, 128] ![1, 128, 128] inb_S1x128x512_S1x128x128_0_0_128)) (View.ld T.g (Rect.unit ![0, 0, 128] ![1, 128, 128] inb_S1x128x512_S1x128x128_0_0_128)) (View.ld T.b (Rect.unit ![3, 0, 0] ![1, 128, 256] inb_S8x128x256_S1x128x256_3_0_0)) (View.ld T.st (Rect.unit ![0, 0, 128] ![1, 128, 128] inb_S1x128x512_S1x128x128_0_0_128)) (t 3) (d 3) (fun r l hl => (block_3 T.st r l).trans (ht 3 r l hl)) (fun r l hl => (block_3 T.st r l).trans (hd 3 r l hl)) r j).trans ?_
  change headD (prQ (View.ld T.q (Rect.unit ![0, 0, 128] ![1, 128, 128] inb_S1x128x512_S1x128x128_0_0_128)) 1) (prK T.k2_1 1) (prK T.v2_1 1) (prQ (View.ld T.g (Rect.unit ![0, 0, 128] ![1, 128, 128] inb_S1x128x512_S1x128x128_0_0_128)) 1) (prB (View.ld T.b (Rect.unit ![3, 0, 0] ![1, 128, 256] inb_S8x128x256_S1x128x256_3_0_0))) (prM T.f) (t 3) (d 3) r j = _
  rw [show prQ (View.ld T.q (Rect.unit ![0, 0, 128] ![1, 128, 128] inb_S1x128x512_S1x128x128_0_0_128)) 1 = T.Q 3 from funext fun r => funext fun l => block_3 T.q r l,
      show prK T.k2_1 1 = T.K 3 from funext fun j => funext fun l => keys_3 T j l,
      show prK T.v2_1 1 = T.V 3 from funext fun j => funext fun l => values_3 T j l,
      show prQ (View.ld T.g (Rect.unit ![0, 0, 128] ![1, 128, 128] inb_S1x128x512_S1x128x128_0_0_128)) 1 = T.G 3 from funext fun r => funext fun l => block_3 T.g r l,
      show prB (View.ld T.b (Rect.unit ![3, 0, 0] ![1, 128, 256] inb_S8x128x256_S1x128x256_3_0_0)) = T.B 3 from funext fun r => funext fun j => score_3 T.b r j,
      show prM T.f = T.M from rfl]

include ht hd in
theorem head_dq_4 (r : Fin 128) (l : Fin 64) : T.dq_2 (ix3 0 r (lane 0 l)) = T.sDq t d 4 r l := by
  refine (pairDq_even T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256)) (t 4) (d 4) (fun r l hl => (block_4 T.st r l).trans (ht 4 r l hl)) (fun r l hl => (block_4 T.st r l).trans (hd 4 r l hl)) r l).trans ?_
  rw [show prQ (View.ld T.q (Rect.unit ![0, 0, 256] ![1, 128, 128] inb_S1x128x512_S1x128x128_0_0_256)) 0 = T.Q 4 from funext fun r => funext fun l => block_4 T.q r l,
      show prK T.k2_2 0 = T.K 4 from funext fun j => funext fun l => keys_4 T j l,
      show prK T.v2_2 0 = T.V 4 from funext fun j => funext fun l => values_4 T j l,
      show prQ (View.ld T.g (Rect.unit ![0, 0, 256] ![1, 128, 128] inb_S1x128x512_S1x128x128_0_0_256)) 0 = T.G 4 from funext fun r => funext fun l => block_4 T.g r l,
      show prB (View.ld T.b (Rect.unit ![4, 0, 0] ![1, 128, 256] inb_S8x128x256_S1x128x256_4_0_0)) = T.B 4 from funext fun r => funext fun j => score_4 T.b r j,
      show prM T.f = T.M from rfl]
include ht hd in
theorem head_dk_4 (j : Fin 256) (l : Fin 64) : T.dk_2 (ix2 j (lane 0 l)) = T.sDk t d 4 j l := by
  refine (pairDk_even T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256)) (t 4) (d 4) (fun r l hl => (block_4 T.st r l).trans (ht 4 r l hl)) (fun r l hl => (block_4 T.st r l).trans (hd 4 r l hl)) j l).trans ?_
  rw [show prQ (View.ld T.q (Rect.unit ![0, 0, 256] ![1, 128, 128] inb_S1x128x512_S1x128x128_0_0_256)) 0 = T.Q 4 from funext fun r => funext fun l => block_4 T.q r l,
      show prK T.k2_2 0 = T.K 4 from funext fun j => funext fun l => keys_4 T j l,
      show prK T.v2_2 0 = T.V 4 from funext fun j => funext fun l => values_4 T j l,
      show prQ (View.ld T.g (Rect.unit ![0, 0, 256] ![1, 128, 128] inb_S1x128x512_S1x128x128_0_0_256)) 0 = T.G 4 from funext fun r => funext fun l => block_4 T.g r l,
      show prB (View.ld T.b (Rect.unit ![4, 0, 0] ![1, 128, 256] inb_S8x128x256_S1x128x256_4_0_0)) = T.B 4 from funext fun r => funext fun j => score_4 T.b r j,
      show prM T.f = T.M from rfl]
include ht in
theorem head_dv_4 (j : Fin 256) (l : Fin 64) : T.dv_2 (ix2 j (lane 0 l)) = T.sDv t 4 j l := by
  refine (pairDv_even T.f T.k2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256)) (t 4) (fun r l hl => (block_4 T.st r l).trans (ht 4 r l hl)) j l).trans ?_
  rw [show prQ (View.ld T.q (Rect.unit ![0, 0, 256] ![1, 128, 128] inb_S1x128x512_S1x128x128_0_0_256)) 0 = T.Q 4 from funext fun r => funext fun l => block_4 T.q r l,
      show prK T.k2_2 0 = T.K 4 from funext fun j => funext fun l => keys_4 T j l,
      show prQ (View.ld T.g (Rect.unit ![0, 0, 256] ![1, 128, 128] inb_S1x128x512_S1x128x128_0_0_256)) 0 = T.G 4 from funext fun r => funext fun l => block_4 T.g r l,
      show prB (View.ld T.b (Rect.unit ![4, 0, 0] ![1, 128, 256] inb_S8x128x256_S1x128x256_4_0_0)) = T.B 4 from funext fun r => funext fun j => score_4 T.b r j,
      show prM T.f = T.M from rfl]
include ht hd in
theorem head_ds_4 (r : Fin 128) (j : Fin 256) : T.ds_4 (ix2 r j) = T.sD t d 4 r j := by
  refine (hD_at 0 evenLanes even_half T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.st (Rect.unit ![0, 0, 256] ![1, 128, 128] inb_S1x128x512_S1x128x128_0_0_256)) (t 4) (d 4) (fun r l hl => (block_4 T.st r l).trans (ht 4 r l hl)) (fun r l hl => (block_4 T.st r l).trans (hd 4 r l hl)) r j).trans ?_
  change headD (prQ (View.ld T.q (Rect.unit ![0, 0, 256] ![1, 128, 128] inb_S1x128x512_S1x128x128_0_0_256)) 0) (prK T.k2_2 0) (prK T.v2_2 0) (prQ (View.ld T.g (Rect.unit ![0, 0, 256] ![1, 128, 128] inb_S1x128x512_S1x128x128_0_0_256)) 0) (prB (View.ld T.b (Rect.unit ![4, 0, 0] ![1, 128, 256] inb_S8x128x256_S1x128x256_4_0_0))) (prM T.f) (t 4) (d 4) r j = _
  rw [show prQ (View.ld T.q (Rect.unit ![0, 0, 256] ![1, 128, 128] inb_S1x128x512_S1x128x128_0_0_256)) 0 = T.Q 4 from funext fun r => funext fun l => block_4 T.q r l,
      show prK T.k2_2 0 = T.K 4 from funext fun j => funext fun l => keys_4 T j l,
      show prK T.v2_2 0 = T.V 4 from funext fun j => funext fun l => values_4 T j l,
      show prQ (View.ld T.g (Rect.unit ![0, 0, 256] ![1, 128, 128] inb_S1x128x512_S1x128x128_0_0_256)) 0 = T.G 4 from funext fun r => funext fun l => block_4 T.g r l,
      show prB (View.ld T.b (Rect.unit ![4, 0, 0] ![1, 128, 256] inb_S8x128x256_S1x128x256_4_0_0)) = T.B 4 from funext fun r => funext fun j => score_4 T.b r j,
      show prM T.f = T.M from rfl]

include ht hd in
theorem head_dq_5 (r : Fin 128) (l : Fin 64) : T.dq_2 (ix3 0 r (lane 1 l)) = T.sDq t d 5 r l := by
  refine (pairDq_odd T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256)) (t 5) (d 5) (fun r l hl => (block_5 T.st r l).trans (ht 5 r l hl)) (fun r l hl => (block_5 T.st r l).trans (hd 5 r l hl)) r l).trans ?_
  rw [show prQ (View.ld T.q (Rect.unit ![0, 0, 256] ![1, 128, 128] inb_S1x128x512_S1x128x128_0_0_256)) 1 = T.Q 5 from funext fun r => funext fun l => block_5 T.q r l,
      show prK T.k2_2 1 = T.K 5 from funext fun j => funext fun l => keys_5 T j l,
      show prK T.v2_2 1 = T.V 5 from funext fun j => funext fun l => values_5 T j l,
      show prQ (View.ld T.g (Rect.unit ![0, 0, 256] ![1, 128, 128] inb_S1x128x512_S1x128x128_0_0_256)) 1 = T.G 5 from funext fun r => funext fun l => block_5 T.g r l,
      show prB (View.ld T.b (Rect.unit ![5, 0, 0] ![1, 128, 256] inb_S8x128x256_S1x128x256_5_0_0)) = T.B 5 from funext fun r => funext fun j => score_5 T.b r j,
      show prM T.f = T.M from rfl]
include ht hd in
theorem head_dk_5 (j : Fin 256) (l : Fin 64) : T.dk_2 (ix2 j (lane 1 l)) = T.sDk t d 5 j l := by
  refine (pairDk_odd T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256)) (t 5) (d 5) (fun r l hl => (block_5 T.st r l).trans (ht 5 r l hl)) (fun r l hl => (block_5 T.st r l).trans (hd 5 r l hl)) j l).trans ?_
  rw [show prQ (View.ld T.q (Rect.unit ![0, 0, 256] ![1, 128, 128] inb_S1x128x512_S1x128x128_0_0_256)) 1 = T.Q 5 from funext fun r => funext fun l => block_5 T.q r l,
      show prK T.k2_2 1 = T.K 5 from funext fun j => funext fun l => keys_5 T j l,
      show prK T.v2_2 1 = T.V 5 from funext fun j => funext fun l => values_5 T j l,
      show prQ (View.ld T.g (Rect.unit ![0, 0, 256] ![1, 128, 128] inb_S1x128x512_S1x128x128_0_0_256)) 1 = T.G 5 from funext fun r => funext fun l => block_5 T.g r l,
      show prB (View.ld T.b (Rect.unit ![5, 0, 0] ![1, 128, 256] inb_S8x128x256_S1x128x256_5_0_0)) = T.B 5 from funext fun r => funext fun j => score_5 T.b r j,
      show prM T.f = T.M from rfl]
include ht in
theorem head_dv_5 (j : Fin 256) (l : Fin 64) : T.dv_2 (ix2 j (lane 1 l)) = T.sDv t 5 j l := by
  refine (pairDv_odd T.f T.k2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![4, 0, 0] ![1, 128, 256] inb_S8x128x256_S1x128x256_4_0_0)) (View.ld T.b (Rect.unit ![5, 0, 0] ![1, 128, 256] inb_S8x128x256_S1x128x256_5_0_0)) (View.ld T.st (Rect.unit ![0, 0, 256] ![1, 128, 128] inb_S1x128x512_S1x128x128_0_0_256)) (t 5) (fun r l hl => (block_5 T.st r l).trans (ht 5 r l hl)) j l).trans ?_
  rw [show prQ (View.ld T.q (Rect.unit ![0, 0, 256] ![1, 128, 128] inb_S1x128x512_S1x128x128_0_0_256)) 1 = T.Q 5 from funext fun r => funext fun l => block_5 T.q r l,
      show prK T.k2_2 1 = T.K 5 from funext fun j => funext fun l => keys_5 T j l,
      show prQ (View.ld T.g (Rect.unit ![0, 0, 256] ![1, 128, 128] inb_S1x128x512_S1x128x128_0_0_256)) 1 = T.G 5 from funext fun r => funext fun l => block_5 T.g r l,
      show prB (View.ld T.b (Rect.unit ![5, 0, 0] ![1, 128, 256] inb_S8x128x256_S1x128x256_5_0_0)) = T.B 5 from funext fun r => funext fun j => score_5 T.b r j,
      show prM T.f = T.M from rfl]
include ht hd in
theorem head_ds_5 (r : Fin 128) (j : Fin 256) : T.ds_5 (ix2 r j) = T.sD t d 5 r j := by
  refine (hD_at 1 oddLanes odd_half T.f T.k2_2 T.v2_2 (View.ld T.q (Rect.unit ![0, 0, 256] ![1, 128, 128] inb_S1x128x512_S1x128x128_0_0_256)) (View.ld T.g (Rect.unit ![0, 0, 256] ![1, 128, 128] inb_S1x128x512_S1x128x128_0_0_256)) (View.ld T.b (Rect.unit ![5, 0, 0] ![1, 128, 256] inb_S8x128x256_S1x128x256_5_0_0)) (View.ld T.st (Rect.unit ![0, 0, 256] ![1, 128, 128] inb_S1x128x512_S1x128x128_0_0_256)) (t 5) (d 5) (fun r l hl => (block_5 T.st r l).trans (ht 5 r l hl)) (fun r l hl => (block_5 T.st r l).trans (hd 5 r l hl)) r j).trans ?_
  change headD (prQ (View.ld T.q (Rect.unit ![0, 0, 256] ![1, 128, 128] inb_S1x128x512_S1x128x128_0_0_256)) 1) (prK T.k2_2 1) (prK T.v2_2 1) (prQ (View.ld T.g (Rect.unit ![0, 0, 256] ![1, 128, 128] inb_S1x128x512_S1x128x128_0_0_256)) 1) (prB (View.ld T.b (Rect.unit ![5, 0, 0] ![1, 128, 256] inb_S8x128x256_S1x128x256_5_0_0))) (prM T.f) (t 5) (d 5) r j = _
  rw [show prQ (View.ld T.q (Rect.unit ![0, 0, 256] ![1, 128, 128] inb_S1x128x512_S1x128x128_0_0_256)) 1 = T.Q 5 from funext fun r => funext fun l => block_5 T.q r l,
      show prK T.k2_2 1 = T.K 5 from funext fun j => funext fun l => keys_5 T j l,
      show prK T.v2_2 1 = T.V 5 from funext fun j => funext fun l => values_5 T j l,
      show prQ (View.ld T.g (Rect.unit ![0, 0, 256] ![1, 128, 128] inb_S1x128x512_S1x128x128_0_0_256)) 1 = T.G 5 from funext fun r => funext fun l => block_5 T.g r l,
      show prB (View.ld T.b (Rect.unit ![5, 0, 0] ![1, 128, 256] inb_S8x128x256_S1x128x256_5_0_0)) = T.B 5 from funext fun r => funext fun j => score_5 T.b r j,
      show prM T.f = T.M from rfl]

include ht hd in
theorem head_dq_6 (r : Fin 128) (l : Fin 64) : T.dq_3 (ix3 0 r (lane 0 l)) = T.sDq t d 6 r l := by
  refine (pairDq_even T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384)) (t 6) (d 6) (fun r l hl => (block_6 T.st r l).trans (ht 6 r l hl)) (fun r l hl => (block_6 T.st r l).trans (hd 6 r l hl)) r l).trans ?_
  rw [show prQ (View.ld T.q (Rect.unit ![0, 0, 384] ![1, 128, 128] inb_S1x128x512_S1x128x128_0_0_384)) 0 = T.Q 6 from funext fun r => funext fun l => block_6 T.q r l,
      show prK T.k2_3 0 = T.K 6 from funext fun j => funext fun l => keys_6 T j l,
      show prK T.v2_3 0 = T.V 6 from funext fun j => funext fun l => values_6 T j l,
      show prQ (View.ld T.g (Rect.unit ![0, 0, 384] ![1, 128, 128] inb_S1x128x512_S1x128x128_0_0_384)) 0 = T.G 6 from funext fun r => funext fun l => block_6 T.g r l,
      show prB (View.ld T.b (Rect.unit ![6, 0, 0] ![1, 128, 256] inb_S8x128x256_S1x128x256_6_0_0)) = T.B 6 from funext fun r => funext fun j => score_6 T.b r j,
      show prM T.f = T.M from rfl]
include ht hd in
theorem head_dk_6 (j : Fin 256) (l : Fin 64) : T.dk_3 (ix2 j (lane 0 l)) = T.sDk t d 6 j l := by
  refine (pairDk_even T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384)) (t 6) (d 6) (fun r l hl => (block_6 T.st r l).trans (ht 6 r l hl)) (fun r l hl => (block_6 T.st r l).trans (hd 6 r l hl)) j l).trans ?_
  rw [show prQ (View.ld T.q (Rect.unit ![0, 0, 384] ![1, 128, 128] inb_S1x128x512_S1x128x128_0_0_384)) 0 = T.Q 6 from funext fun r => funext fun l => block_6 T.q r l,
      show prK T.k2_3 0 = T.K 6 from funext fun j => funext fun l => keys_6 T j l,
      show prK T.v2_3 0 = T.V 6 from funext fun j => funext fun l => values_6 T j l,
      show prQ (View.ld T.g (Rect.unit ![0, 0, 384] ![1, 128, 128] inb_S1x128x512_S1x128x128_0_0_384)) 0 = T.G 6 from funext fun r => funext fun l => block_6 T.g r l,
      show prB (View.ld T.b (Rect.unit ![6, 0, 0] ![1, 128, 256] inb_S8x128x256_S1x128x256_6_0_0)) = T.B 6 from funext fun r => funext fun j => score_6 T.b r j,
      show prM T.f = T.M from rfl]
include ht in
theorem head_dv_6 (j : Fin 256) (l : Fin 64) : T.dv_3 (ix2 j (lane 0 l)) = T.sDv t 6 j l := by
  refine (pairDv_even T.f T.k2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384)) (t 6) (fun r l hl => (block_6 T.st r l).trans (ht 6 r l hl)) j l).trans ?_
  rw [show prQ (View.ld T.q (Rect.unit ![0, 0, 384] ![1, 128, 128] inb_S1x128x512_S1x128x128_0_0_384)) 0 = T.Q 6 from funext fun r => funext fun l => block_6 T.q r l,
      show prK T.k2_3 0 = T.K 6 from funext fun j => funext fun l => keys_6 T j l,
      show prQ (View.ld T.g (Rect.unit ![0, 0, 384] ![1, 128, 128] inb_S1x128x512_S1x128x128_0_0_384)) 0 = T.G 6 from funext fun r => funext fun l => block_6 T.g r l,
      show prB (View.ld T.b (Rect.unit ![6, 0, 0] ![1, 128, 256] inb_S8x128x256_S1x128x256_6_0_0)) = T.B 6 from funext fun r => funext fun j => score_6 T.b r j,
      show prM T.f = T.M from rfl]
include ht hd in
theorem head_ds_6 (r : Fin 128) (j : Fin 256) : T.ds_6 (ix2 r j) = T.sD t d 6 r j := by
  refine (hD_at 0 evenLanes even_half T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.st (Rect.unit ![0, 0, 384] ![1, 128, 128] inb_S1x128x512_S1x128x128_0_0_384)) (t 6) (d 6) (fun r l hl => (block_6 T.st r l).trans (ht 6 r l hl)) (fun r l hl => (block_6 T.st r l).trans (hd 6 r l hl)) r j).trans ?_
  change headD (prQ (View.ld T.q (Rect.unit ![0, 0, 384] ![1, 128, 128] inb_S1x128x512_S1x128x128_0_0_384)) 0) (prK T.k2_3 0) (prK T.v2_3 0) (prQ (View.ld T.g (Rect.unit ![0, 0, 384] ![1, 128, 128] inb_S1x128x512_S1x128x128_0_0_384)) 0) (prB (View.ld T.b (Rect.unit ![6, 0, 0] ![1, 128, 256] inb_S8x128x256_S1x128x256_6_0_0))) (prM T.f) (t 6) (d 6) r j = _
  rw [show prQ (View.ld T.q (Rect.unit ![0, 0, 384] ![1, 128, 128] inb_S1x128x512_S1x128x128_0_0_384)) 0 = T.Q 6 from funext fun r => funext fun l => block_6 T.q r l,
      show prK T.k2_3 0 = T.K 6 from funext fun j => funext fun l => keys_6 T j l,
      show prK T.v2_3 0 = T.V 6 from funext fun j => funext fun l => values_6 T j l,
      show prQ (View.ld T.g (Rect.unit ![0, 0, 384] ![1, 128, 128] inb_S1x128x512_S1x128x128_0_0_384)) 0 = T.G 6 from funext fun r => funext fun l => block_6 T.g r l,
      show prB (View.ld T.b (Rect.unit ![6, 0, 0] ![1, 128, 256] inb_S8x128x256_S1x128x256_6_0_0)) = T.B 6 from funext fun r => funext fun j => score_6 T.b r j,
      show prM T.f = T.M from rfl]

include ht hd in
theorem head_dq_7 (r : Fin 128) (l : Fin 64) : T.dq_3 (ix3 0 r (lane 1 l)) = T.sDq t d 7 r l := by
  refine (pairDq_odd T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384)) (t 7) (d 7) (fun r l hl => (block_7 T.st r l).trans (ht 7 r l hl)) (fun r l hl => (block_7 T.st r l).trans (hd 7 r l hl)) r l).trans ?_
  rw [show prQ (View.ld T.q (Rect.unit ![0, 0, 384] ![1, 128, 128] inb_S1x128x512_S1x128x128_0_0_384)) 1 = T.Q 7 from funext fun r => funext fun l => block_7 T.q r l,
      show prK T.k2_3 1 = T.K 7 from funext fun j => funext fun l => keys_7 T j l,
      show prK T.v2_3 1 = T.V 7 from funext fun j => funext fun l => values_7 T j l,
      show prQ (View.ld T.g (Rect.unit ![0, 0, 384] ![1, 128, 128] inb_S1x128x512_S1x128x128_0_0_384)) 1 = T.G 7 from funext fun r => funext fun l => block_7 T.g r l,
      show prB (View.ld T.b (Rect.unit ![7, 0, 0] ![1, 128, 256] inb_S8x128x256_S1x128x256_7_0_0)) = T.B 7 from funext fun r => funext fun j => score_7 T.b r j,
      show prM T.f = T.M from rfl]
include ht hd in
theorem head_dk_7 (j : Fin 256) (l : Fin 64) : T.dk_3 (ix2 j (lane 1 l)) = T.sDk t d 7 j l := by
  refine (pairDk_odd T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384)) (t 7) (d 7) (fun r l hl => (block_7 T.st r l).trans (ht 7 r l hl)) (fun r l hl => (block_7 T.st r l).trans (hd 7 r l hl)) j l).trans ?_
  rw [show prQ (View.ld T.q (Rect.unit ![0, 0, 384] ![1, 128, 128] inb_S1x128x512_S1x128x128_0_0_384)) 1 = T.Q 7 from funext fun r => funext fun l => block_7 T.q r l,
      show prK T.k2_3 1 = T.K 7 from funext fun j => funext fun l => keys_7 T j l,
      show prK T.v2_3 1 = T.V 7 from funext fun j => funext fun l => values_7 T j l,
      show prQ (View.ld T.g (Rect.unit ![0, 0, 384] ![1, 128, 128] inb_S1x128x512_S1x128x128_0_0_384)) 1 = T.G 7 from funext fun r => funext fun l => block_7 T.g r l,
      show prB (View.ld T.b (Rect.unit ![7, 0, 0] ![1, 128, 256] inb_S8x128x256_S1x128x256_7_0_0)) = T.B 7 from funext fun r => funext fun j => score_7 T.b r j,
      show prM T.f = T.M from rfl]
include ht in
theorem head_dv_7 (j : Fin 256) (l : Fin 64) : T.dv_3 (ix2 j (lane 1 l)) = T.sDv t 7 j l := by
  refine (pairDv_odd T.f T.k2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![6, 0, 0] ![1, 128, 256] inb_S8x128x256_S1x128x256_6_0_0)) (View.ld T.b (Rect.unit ![7, 0, 0] ![1, 128, 256] inb_S8x128x256_S1x128x256_7_0_0)) (View.ld T.st (Rect.unit ![0, 0, 384] ![1, 128, 128] inb_S1x128x512_S1x128x128_0_0_384)) (t 7) (fun r l hl => (block_7 T.st r l).trans (ht 7 r l hl)) j l).trans ?_
  rw [show prQ (View.ld T.q (Rect.unit ![0, 0, 384] ![1, 128, 128] inb_S1x128x512_S1x128x128_0_0_384)) 1 = T.Q 7 from funext fun r => funext fun l => block_7 T.q r l,
      show prK T.k2_3 1 = T.K 7 from funext fun j => funext fun l => keys_7 T j l,
      show prQ (View.ld T.g (Rect.unit ![0, 0, 384] ![1, 128, 128] inb_S1x128x512_S1x128x128_0_0_384)) 1 = T.G 7 from funext fun r => funext fun l => block_7 T.g r l,
      show prB (View.ld T.b (Rect.unit ![7, 0, 0] ![1, 128, 256] inb_S8x128x256_S1x128x256_7_0_0)) = T.B 7 from funext fun r => funext fun j => score_7 T.b r j,
      show prM T.f = T.M from rfl]
include ht hd in
theorem head_ds_7 (r : Fin 128) (j : Fin 256) : T.ds_7 (ix2 r j) = T.sD t d 7 r j := by
  refine (hD_at 1 oddLanes odd_half T.f T.k2_3 T.v2_3 (View.ld T.q (Rect.unit ![0, 0, 384] ![1, 128, 128] inb_S1x128x512_S1x128x128_0_0_384)) (View.ld T.g (Rect.unit ![0, 0, 384] ![1, 128, 128] inb_S1x128x512_S1x128x128_0_0_384)) (View.ld T.b (Rect.unit ![7, 0, 0] ![1, 128, 256] inb_S8x128x256_S1x128x256_7_0_0)) (View.ld T.st (Rect.unit ![0, 0, 384] ![1, 128, 128] inb_S1x128x512_S1x128x128_0_0_384)) (t 7) (d 7) (fun r l hl => (block_7 T.st r l).trans (ht 7 r l hl)) (fun r l hl => (block_7 T.st r l).trans (hd 7 r l hl)) r j).trans ?_
  change headD (prQ (View.ld T.q (Rect.unit ![0, 0, 384] ![1, 128, 128] inb_S1x128x512_S1x128x128_0_0_384)) 1) (prK T.k2_3 1) (prK T.v2_3 1) (prQ (View.ld T.g (Rect.unit ![0, 0, 384] ![1, 128, 128] inb_S1x128x512_S1x128x128_0_0_384)) 1) (prB (View.ld T.b (Rect.unit ![7, 0, 0] ![1, 128, 256] inb_S8x128x256_S1x128x256_7_0_0))) (prM T.f) (t 7) (d 7) r j = _
  rw [show prQ (View.ld T.q (Rect.unit ![0, 0, 384] ![1, 128, 128] inb_S1x128x512_S1x128x128_0_0_384)) 1 = T.Q 7 from funext fun r => funext fun l => block_7 T.q r l,
      show prK T.k2_3 1 = T.K 7 from funext fun j => funext fun l => keys_7 T j l,
      show prK T.v2_3 1 = T.V 7 from funext fun j => funext fun l => values_7 T j l,
      show prQ (View.ld T.g (Rect.unit ![0, 0, 384] ![1, 128, 128] inb_S1x128x512_S1x128x128_0_0_384)) 1 = T.G 7 from funext fun r => funext fun l => block_7 T.g r l,
      show prB (View.ld T.b (Rect.unit ![7, 0, 0] ![1, 128, 256] inb_S8x128x256_S1x128x256_7_0_0)) = T.B 7 from funext fun r => funext fun j => score_7 T.b r j,
      show prM T.f = T.M from rfl]

theorem outDk_at (c : Vec Ideal S128x128 .f32) (D : FVec Ideal S256x128 .f32) (r x : Fin 128) : outDk c D (ix3 0 r x) = (c (ix2 r x) + D (ix2 ⟨r.val, by omega⟩ x) : EReal) := by
  pointwise [outDk]
theorem outDv_at (c : Vec Ideal S128x128 .f32) (D : FVec Ideal S256x128 .f32) (r x : Fin 128) : outDv c D (ix3 0 r x) = (c (ix2 r x) + D (ix2 ⟨r.val, by omega⟩ x) : EReal) := by
  pointwise [outDv]
theorem later_at (D : FVec Ideal S256x128 .f32) (r x : Fin 128) : k0_pay7 D (ix2 r x) = D (ix2 ⟨128 + r.val, by omega⟩ x) := by
  pointwise [k0_pay7]
theorem addScore_at (D : FVec Ideal S128x256 .f32) (c : Vec Ideal S1x128x256 .f32) (r : Fin 128) (j : Fin 256) : k0_pay134 D c (ix3 0 r j) = (c (ix3 0 r j) + D (ix2 r j) : EReal) := by
  pointwise [k0_pay134]

include ht hd in
theorem Tile.dq_at_0 (r : Fin 128) (l : Fin 64) : T.dq (ix3 0 r (lane8 0 l)) = T.sDq t d 0 r l := by
  rw [lane_0]; exact (canon_pair0 (F := Ideal) (e := .f32) (T.dq_0) (T.dq_1) (T.dq_2) (T.dq_3) r (lane 0 l)).trans (head_dq_0 T t d ht hd r l)
include ht hd in
theorem Tile.dq_at_1 (r : Fin 128) (l : Fin 64) : T.dq (ix3 0 r (lane8 1 l)) = T.sDq t d 1 r l := by
  rw [lane_1]; exact (canon_pair0 (F := Ideal) (e := .f32) (T.dq_0) (T.dq_1) (T.dq_2) (T.dq_3) r (lane 1 l)).trans (head_dq_1 T t d ht hd r l)
include ht hd in
theorem Tile.dq_at_2 (r : Fin 128) (l : Fin 64) : T.dq (ix3 0 r (lane8 2 l)) = T.sDq t d 2 r l := by
  rw [lane_2]; exact (canon_pair1 (F := Ideal) (e := .f32) (T.dq_0) (T.dq_1) (T.dq_2) (T.dq_3) r (lane 0 l)).trans (head_dq_2 T t d ht hd r l)
include ht hd in
theorem Tile.dq_at_3 (r : Fin 128) (l : Fin 64) : T.dq (ix3 0 r (lane8 3 l)) = T.sDq t d 3 r l := by
  rw [lane_3]; exact (canon_pair1 (F := Ideal) (e := .f32) (T.dq_0) (T.dq_1) (T.dq_2) (T.dq_3) r (lane 1 l)).trans (head_dq_3 T t d ht hd r l)
include ht hd in
theorem Tile.dq_at_4 (r : Fin 128) (l : Fin 64) : T.dq (ix3 0 r (lane8 4 l)) = T.sDq t d 4 r l := by
  rw [lane_4]; exact (canon_pair2 (F := Ideal) (e := .f32) (T.dq_0) (T.dq_1) (T.dq_2) (T.dq_3) r (lane 0 l)).trans (head_dq_4 T t d ht hd r l)
include ht hd in
theorem Tile.dq_at_5 (r : Fin 128) (l : Fin 64) : T.dq (ix3 0 r (lane8 5 l)) = T.sDq t d 5 r l := by
  rw [lane_5]; exact (canon_pair2 (F := Ideal) (e := .f32) (T.dq_0) (T.dq_1) (T.dq_2) (T.dq_3) r (lane 1 l)).trans (head_dq_5 T t d ht hd r l)
include ht hd in
theorem Tile.dq_at_6 (r : Fin 128) (l : Fin 64) : T.dq (ix3 0 r (lane8 6 l)) = T.sDq t d 6 r l := by
  rw [lane_6]; exact (canon_pair3 (F := Ideal) (e := .f32) (T.dq_0) (T.dq_1) (T.dq_2) (T.dq_3) r (lane 0 l)).trans (head_dq_6 T t d ht hd r l)
include ht hd in
theorem Tile.dq_at_7 (r : Fin 128) (l : Fin 64) : T.dq (ix3 0 r (lane8 7 l)) = T.sDq t d 7 r l := by
  rw [lane_7]; exact (canon_pair3 (F := Ideal) (e := .f32) (T.dq_0) (T.dq_1) (T.dq_2) (T.dq_3) r (lane 1 l)).trans (head_dq_7 T t d ht hd r l)
include ht hd in
theorem Tile.dq_at (h : Fin 8) (r : Fin 128) (l : Fin 64) : T.dq (ix3 0 r (lane8 h l)) = T.sDq t d h r l :=
  match h with
  | 0 => Tile.dq_at_0 T t d ht hd r l
  | 1 => Tile.dq_at_1 T t d ht hd r l
  | 2 => Tile.dq_at_2 T t d ht hd r l
  | 3 => Tile.dq_at_3 T t d ht hd r l
  | 4 => Tile.dq_at_4 T t d ht hd r l
  | 5 => Tile.dq_at_5 T t d ht hd r l
  | 6 => Tile.dq_at_6 T t d ht hd r l
  | 7 => Tile.dq_at_7 T t d ht hd r l
include ht hd in
theorem Tile.dk_at_0 (c : Vec Ideal S128x512 .f32) (r : Fin 128) (l : Fin 64) : T.dk c (ix3 0 r (lane8 0 l)) = (c (ix2 r (lane8 0 l)) + T.sDk t d 0 ⟨r.val, by omega⟩ l : EReal) := by
  rw [← carried_0 c r l, lane_0]; exact (canon_pair0 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 0 l)).trans
    ((outDk_at (View.ld c (Rect.unit ![0, 0] ![128, 128] inb_S128x512_S128x128_0_0)) T.dk_0 r (lane 0 l)).trans (Ideal.add_congr rfl (head_dk_0 T t d ht hd _ l)))
include ht hd in
theorem Tile.dk_at_1 (c : Vec Ideal S128x512 .f32) (r : Fin 128) (l : Fin 64) : T.dk c (ix3 0 r (lane8 1 l)) = (c (ix2 r (lane8 1 l)) + T.sDk t d 1 ⟨r.val, by omega⟩ l : EReal) := by
  rw [← carried_1 c r l, lane_1]; exact (canon_pair0 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 1 l)).trans
    ((outDk_at (View.ld c (Rect.unit ![0, 0] ![128, 128] inb_S128x512_S128x128_0_0)) T.dk_0 r (lane 1 l)).trans (Ideal.add_congr rfl (head_dk_1 T t d ht hd _ l)))
include ht hd in
theorem Tile.dk_at_2 (c : Vec Ideal S128x512 .f32) (r : Fin 128) (l : Fin 64) : T.dk c (ix3 0 r (lane8 2 l)) = (c (ix2 r (lane8 2 l)) + T.sDk t d 2 ⟨r.val, by omega⟩ l : EReal) := by
  rw [← carried_2 c r l, lane_2]; exact (canon_pair1 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 0 l)).trans
    ((outDk_at (View.ld c (Rect.unit ![0, 128] ![128, 128] inb_S128x512_S128x128_0_128)) T.dk_1 r (lane 0 l)).trans (Ideal.add_congr rfl (head_dk_2 T t d ht hd _ l)))
include ht hd in
theorem Tile.dk_at_3 (c : Vec Ideal S128x512 .f32) (r : Fin 128) (l : Fin 64) : T.dk c (ix3 0 r (lane8 3 l)) = (c (ix2 r (lane8 3 l)) + T.sDk t d 3 ⟨r.val, by omega⟩ l : EReal) := by
  rw [← carried_3 c r l, lane_3]; exact (canon_pair1 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 1 l)).trans
    ((outDk_at (View.ld c (Rect.unit ![0, 128] ![128, 128] inb_S128x512_S128x128_0_128)) T.dk_1 r (lane 1 l)).trans (Ideal.add_congr rfl (head_dk_3 T t d ht hd _ l)))
include ht hd in
theorem Tile.dk_at_4 (c : Vec Ideal S128x512 .f32) (r : Fin 128) (l : Fin 64) : T.dk c (ix3 0 r (lane8 4 l)) = (c (ix2 r (lane8 4 l)) + T.sDk t d 4 ⟨r.val, by omega⟩ l : EReal) := by
  rw [← carried_4 c r l, lane_4]; exact (canon_pair2 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 0 l)).trans
    ((outDk_at (View.ld c (Rect.unit ![0, 256] ![128, 128] inb_S128x512_S128x128_0_256)) T.dk_2 r (lane 0 l)).trans (Ideal.add_congr rfl (head_dk_4 T t d ht hd _ l)))
include ht hd in
theorem Tile.dk_at_5 (c : Vec Ideal S128x512 .f32) (r : Fin 128) (l : Fin 64) : T.dk c (ix3 0 r (lane8 5 l)) = (c (ix2 r (lane8 5 l)) + T.sDk t d 5 ⟨r.val, by omega⟩ l : EReal) := by
  rw [← carried_5 c r l, lane_5]; exact (canon_pair2 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 1 l)).trans
    ((outDk_at (View.ld c (Rect.unit ![0, 256] ![128, 128] inb_S128x512_S128x128_0_256)) T.dk_2 r (lane 1 l)).trans (Ideal.add_congr rfl (head_dk_5 T t d ht hd _ l)))
include ht hd in
theorem Tile.dk_at_6 (c : Vec Ideal S128x512 .f32) (r : Fin 128) (l : Fin 64) : T.dk c (ix3 0 r (lane8 6 l)) = (c (ix2 r (lane8 6 l)) + T.sDk t d 6 ⟨r.val, by omega⟩ l : EReal) := by
  rw [← carried_6 c r l, lane_6]; exact (canon_pair3 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 0 l)).trans
    ((outDk_at (View.ld c (Rect.unit ![0, 384] ![128, 128] inb_S128x512_S128x128_0_384)) T.dk_3 r (lane 0 l)).trans (Ideal.add_congr rfl (head_dk_6 T t d ht hd _ l)))
include ht hd in
theorem Tile.dk_at_7 (c : Vec Ideal S128x512 .f32) (r : Fin 128) (l : Fin 64) : T.dk c (ix3 0 r (lane8 7 l)) = (c (ix2 r (lane8 7 l)) + T.sDk t d 7 ⟨r.val, by omega⟩ l : EReal) := by
  rw [← carried_7 c r l, lane_7]; exact (canon_pair3 (F := Ideal) (e := .f32) (outDk (View.ld c (Rect.unit ![0, 0] ![128, 128] inb_S128x512_S128x128_0_0)) T.dk_0) (outDk (View.ld c (Rect.unit ![0, 128] ![128, 128] inb_S128x512_S128x128_0_128)) T.dk_1) (outDk (View.ld c (Rect.unit ![0, 256] ![128, 128] inb_S128x512_S128x128_0_256)) T.dk_2) (outDk (View.ld c (Rect.unit ![0, 384] ![128, 128] inb_S128x512_S128x128_0_384)) T.dk_3) r (lane 1 l)).trans
    ((outDk_at (View.ld c (Rect.unit ![0, 384] ![128, 128] inb_S128x512_S128x128_0_384)) T.dk_3 r (lane 1 l)).trans (Ideal.add_congr rfl (head_dk_7 T t d ht hd _ l)))
include ht hd in
theorem Tile.dk_at (c : Vec Ideal S128x512 .f32) (h : Fin 8) (r : Fin 128) (l : Fin 64) : T.dk c (ix3 0 r (lane8 h l)) = (c (ix2 r (lane8 h l)) + T.sDk t d h ⟨r.val, by omega⟩ l : EReal) :=
  match h with
  | 0 => Tile.dk_at_0 T t d ht hd c r l
  | 1 => Tile.dk_at_1 T t d ht hd c r l
  | 2 => Tile.dk_at_2 T t d ht hd c r l
  | 3 => Tile.dk_at_3 T t d ht hd c r l
  | 4 => Tile.dk_at_4 T t d ht hd c r l
  | 5 => Tile.dk_at_5 T t d ht hd c r l
  | 6 => Tile.dk_at_6 T t d ht hd c r l
  | 7 => Tile.dk_at_7 T t d ht hd c r l
include ht in
theorem Tile.dv_at_0 (c : Vec Ideal S128x512 .f32) (r : Fin 128) (l : Fin 64) : T.dv c (ix3 0 r (lane8 0 l)) = (c (ix2 r (lane8 0 l)) + T.sDv t 0 ⟨r.val, by omega⟩ l : EReal) := by
  rw [← carried_0 c r l, lane_0]; exact (canon_pair0 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 0 l)).trans
    ((outDv_at (View.ld c (Rect.unit ![0, 0] ![128, 128] inb_S128x512_S128x128_0_0)) T.dv_0 r (lane 0 l)).trans (Ideal.add_congr rfl (head_dv_0 T t ht _ l)))
include ht in
theorem Tile.dv_at_1 (c : Vec Ideal S128x512 .f32) (r : Fin 128) (l : Fin 64) : T.dv c (ix3 0 r (lane8 1 l)) = (c (ix2 r (lane8 1 l)) + T.sDv t 1 ⟨r.val, by omega⟩ l : EReal) := by
  rw [← carried_1 c r l, lane_1]; exact (canon_pair0 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 1 l)).trans
    ((outDv_at (View.ld c (Rect.unit ![0, 0] ![128, 128] inb_S128x512_S128x128_0_0)) T.dv_0 r (lane 1 l)).trans (Ideal.add_congr rfl (head_dv_1 T t ht _ l)))
include ht in
theorem Tile.dv_at_2 (c : Vec Ideal S128x512 .f32) (r : Fin 128) (l : Fin 64) : T.dv c (ix3 0 r (lane8 2 l)) = (c (ix2 r (lane8 2 l)) + T.sDv t 2 ⟨r.val, by omega⟩ l : EReal) := by
  rw [← carried_2 c r l, lane_2]; exact (canon_pair1 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 0 l)).trans
    ((outDv_at (View.ld c (Rect.unit ![0, 128] ![128, 128] inb_S128x512_S128x128_0_128)) T.dv_1 r (lane 0 l)).trans (Ideal.add_congr rfl (head_dv_2 T t ht _ l)))
include ht in
theorem Tile.dv_at_3 (c : Vec Ideal S128x512 .f32) (r : Fin 128) (l : Fin 64) : T.dv c (ix3 0 r (lane8 3 l)) = (c (ix2 r (lane8 3 l)) + T.sDv t 3 ⟨r.val, by omega⟩ l : EReal) := by
  rw [← carried_3 c r l, lane_3]; exact (canon_pair1 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 1 l)).trans
    ((outDv_at (View.ld c (Rect.unit ![0, 128] ![128, 128] inb_S128x512_S128x128_0_128)) T.dv_1 r (lane 1 l)).trans (Ideal.add_congr rfl (head_dv_3 T t ht _ l)))
include ht in
theorem Tile.dv_at_4 (c : Vec Ideal S128x512 .f32) (r : Fin 128) (l : Fin 64) : T.dv c (ix3 0 r (lane8 4 l)) = (c (ix2 r (lane8 4 l)) + T.sDv t 4 ⟨r.val, by omega⟩ l : EReal) := by
  rw [← carried_4 c r l, lane_4]; exact (canon_pair2 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 0 l)).trans
    ((outDv_at (View.ld c (Rect.unit ![0, 256] ![128, 128] inb_S128x512_S128x128_0_256)) T.dv_2 r (lane 0 l)).trans (Ideal.add_congr rfl (head_dv_4 T t ht _ l)))
include ht in
theorem Tile.dv_at_5 (c : Vec Ideal S128x512 .f32) (r : Fin 128) (l : Fin 64) : T.dv c (ix3 0 r (lane8 5 l)) = (c (ix2 r (lane8 5 l)) + T.sDv t 5 ⟨r.val, by omega⟩ l : EReal) := by
  rw [← carried_5 c r l, lane_5]; exact (canon_pair2 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 1 l)).trans
    ((outDv_at (View.ld c (Rect.unit ![0, 256] ![128, 128] inb_S128x512_S128x128_0_256)) T.dv_2 r (lane 1 l)).trans (Ideal.add_congr rfl (head_dv_5 T t ht _ l)))
include ht in
theorem Tile.dv_at_6 (c : Vec Ideal S128x512 .f32) (r : Fin 128) (l : Fin 64) : T.dv c (ix3 0 r (lane8 6 l)) = (c (ix2 r (lane8 6 l)) + T.sDv t 6 ⟨r.val, by omega⟩ l : EReal) := by
  rw [← carried_6 c r l, lane_6]; exact (canon_pair3 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 0 l)).trans
    ((outDv_at (View.ld c (Rect.unit ![0, 384] ![128, 128] inb_S128x512_S128x128_0_384)) T.dv_3 r (lane 0 l)).trans (Ideal.add_congr rfl (head_dv_6 T t ht _ l)))
include ht in
theorem Tile.dv_at_7 (c : Vec Ideal S128x512 .f32) (r : Fin 128) (l : Fin 64) : T.dv c (ix3 0 r (lane8 7 l)) = (c (ix2 r (lane8 7 l)) + T.sDv t 7 ⟨r.val, by omega⟩ l : EReal) := by
  rw [← carried_7 c r l, lane_7]; exact (canon_pair3 (F := Ideal) (e := .bf16) (outDv (View.ld c (Rect.unit ![0, 0] ![128, 128] inb_S128x512_S128x128_0_0)) T.dv_0) (outDv (View.ld c (Rect.unit ![0, 128] ![128, 128] inb_S128x512_S128x128_0_128)) T.dv_1) (outDv (View.ld c (Rect.unit ![0, 256] ![128, 128] inb_S128x512_S128x128_0_256)) T.dv_2) (outDv (View.ld c (Rect.unit ![0, 384] ![128, 128] inb_S128x512_S128x128_0_384)) T.dv_3) r (lane 1 l)).trans
    ((outDv_at (View.ld c (Rect.unit ![0, 384] ![128, 128] inb_S128x512_S128x128_0_384)) T.dv_3 r (lane 1 l)).trans (Ideal.add_congr rfl (head_dv_7 T t ht _ l)))
include ht in
theorem Tile.dv_at (c : Vec Ideal S128x512 .f32) (h : Fin 8) (r : Fin 128) (l : Fin 64) : T.dv c (ix3 0 r (lane8 h l)) = (c (ix2 r (lane8 h l)) + T.sDv t h ⟨r.val, by omega⟩ l : EReal) :=
  match h with
  | 0 => Tile.dv_at_0 T t ht c r l
  | 1 => Tile.dv_at_1 T t ht c r l
  | 2 => Tile.dv_at_2 T t ht c r l
  | 3 => Tile.dv_at_3 T t ht c r l
  | 4 => Tile.dv_at_4 T t ht c r l
  | 5 => Tile.dv_at_5 T t ht c r l
  | 6 => Tile.dv_at_6 T t ht c r l
  | 7 => Tile.dv_at_7 T t ht c r l
include ht hd in
theorem Tile.ck_at_0 (r : Fin 128) (l : Fin 64) : T.ck (ix2 r (lane8 0 l)) = T.sDk t d 0 ⟨128 + r.val, by omega⟩ l := by
  rw [lane_0]; exact (canon_flat0 (F := Ideal) (e := .f32) (k0_pay7 T.dk_0) (k0_pay7 T.dk_1) (k0_pay7 T.dk_2) (k0_pay7 T.dk_3) r (lane 0 l)).trans ((later_at T.dk_0 r (lane 0 l)).trans (head_dk_0 T t d ht hd _ l))
include ht hd in
theorem Tile.ck_at_1 (r : Fin 128) (l : Fin 64) : T.ck (ix2 r (lane8 1 l)) = T.sDk t d 1 ⟨128 + r.val, by omega⟩ l := by
  rw [lane_1]; exact (canon_flat0 (F := Ideal) (e := .f32) (k0_pay7 T.dk_0) (k0_pay7 T.dk_1) (k0_pay7 T.dk_2) (k0_pay7 T.dk_3) r (lane 1 l)).trans ((later_at T.dk_0 r (lane 1 l)).trans (head_dk_1 T t d ht hd _ l))
include ht hd in
theorem Tile.ck_at_2 (r : Fin 128) (l : Fin 64) : T.ck (ix2 r (lane8 2 l)) = T.sDk t d 2 ⟨128 + r.val, by omega⟩ l := by
  rw [lane_2]; exact (canon_flat1 (F := Ideal) (e := .f32) (k0_pay7 T.dk_0) (k0_pay7 T.dk_1) (k0_pay7 T.dk_2) (k0_pay7 T.dk_3) r (lane 0 l)).trans ((later_at T.dk_1 r (lane 0 l)).trans (head_dk_2 T t d ht hd _ l))
include ht hd in
theorem Tile.ck_at_3 (r : Fin 128) (l : Fin 64) : T.ck (ix2 r (lane8 3 l)) = T.sDk t d 3 ⟨128 + r.val, by omega⟩ l := by
  rw [lane_3]; exact (canon_flat1 (F := Ideal) (e := .f32) (k0_pay7 T.dk_0) (k0_pay7 T.dk_1) (k0_pay7 T.dk_2) (k0_pay7 T.dk_3) r (lane 1 l)).trans ((later_at T.dk_1 r (lane 1 l)).trans (head_dk_3 T t d ht hd _ l))
include ht hd in
theorem Tile.ck_at_4 (r : Fin 128) (l : Fin 64) : T.ck (ix2 r (lane8 4 l)) = T.sDk t d 4 ⟨128 + r.val, by omega⟩ l := by
  rw [lane_4]; exact (canon_flat2 (F := Ideal) (e := .f32) (k0_pay7 T.dk_0) (k0_pay7 T.dk_1) (k0_pay7 T.dk_2) (k0_pay7 T.dk_3) r (lane 0 l)).trans ((later_at T.dk_2 r (lane 0 l)).trans (head_dk_4 T t d ht hd _ l))
include ht hd in
theorem Tile.ck_at_5 (r : Fin 128) (l : Fin 64) : T.ck (ix2 r (lane8 5 l)) = T.sDk t d 5 ⟨128 + r.val, by omega⟩ l := by
  rw [lane_5]; exact (canon_flat2 (F := Ideal) (e := .f32) (k0_pay7 T.dk_0) (k0_pay7 T.dk_1) (k0_pay7 T.dk_2) (k0_pay7 T.dk_3) r (lane 1 l)).trans ((later_at T.dk_2 r (lane 1 l)).trans (head_dk_5 T t d ht hd _ l))
include ht hd in
theorem Tile.ck_at_6 (r : Fin 128) (l : Fin 64) : T.ck (ix2 r (lane8 6 l)) = T.sDk t d 6 ⟨128 + r.val, by omega⟩ l := by
  rw [lane_6]; exact (canon_flat3 (F := Ideal) (e := .f32) (k0_pay7 T.dk_0) (k0_pay7 T.dk_1) (k0_pay7 T.dk_2) (k0_pay7 T.dk_3) r (lane 0 l)).trans ((later_at T.dk_3 r (lane 0 l)).trans (head_dk_6 T t d ht hd _ l))
include ht hd in
theorem Tile.ck_at_7 (r : Fin 128) (l : Fin 64) : T.ck (ix2 r (lane8 7 l)) = T.sDk t d 7 ⟨128 + r.val, by omega⟩ l := by
  rw [lane_7]; exact (canon_flat3 (F := Ideal) (e := .f32) (k0_pay7 T.dk_0) (k0_pay7 T.dk_1) (k0_pay7 T.dk_2) (k0_pay7 T.dk_3) r (lane 1 l)).trans ((later_at T.dk_3 r (lane 1 l)).trans (head_dk_7 T t d ht hd _ l))
include ht hd in
theorem Tile.ck_at (h : Fin 8) (r : Fin 128) (l : Fin 64) : T.ck (ix2 r (lane8 h l)) = T.sDk t d h ⟨128 + r.val, by omega⟩ l :=
  match h with
  | 0 => Tile.ck_at_0 T t d ht hd r l
  | 1 => Tile.ck_at_1 T t d ht hd r l
  | 2 => Tile.ck_at_2 T t d ht hd r l
  | 3 => Tile.ck_at_3 T t d ht hd r l
  | 4 => Tile.ck_at_4 T t d ht hd r l
  | 5 => Tile.ck_at_5 T t d ht hd r l
  | 6 => Tile.ck_at_6 T t d ht hd r l
  | 7 => Tile.ck_at_7 T t d ht hd r l
include ht in
theorem Tile.cv_at_0 (r : Fin 128) (l : Fin 64) : T.cv (ix2 r (lane8 0 l)) = T.sDv t 0 ⟨128 + r.val, by omega⟩ l := by
  rw [lane_0]; exact (canon_flat0 (F := Ideal) (e := .f32) (k0_pay7 T.dv_0) (k0_pay7 T.dv_1) (k0_pay7 T.dv_2) (k0_pay7 T.dv_3) r (lane 0 l)).trans ((later_at T.dv_0 r (lane 0 l)).trans (head_dv_0 T t ht _ l))
include ht in
theorem Tile.cv_at_1 (r : Fin 128) (l : Fin 64) : T.cv (ix2 r (lane8 1 l)) = T.sDv t 1 ⟨128 + r.val, by omega⟩ l := by
  rw [lane_1]; exact (canon_flat0 (F := Ideal) (e := .f32) (k0_pay7 T.dv_0) (k0_pay7 T.dv_1) (k0_pay7 T.dv_2) (k0_pay7 T.dv_3) r (lane 1 l)).trans ((later_at T.dv_0 r (lane 1 l)).trans (head_dv_1 T t ht _ l))
include ht in
theorem Tile.cv_at_2 (r : Fin 128) (l : Fin 64) : T.cv (ix2 r (lane8 2 l)) = T.sDv t 2 ⟨128 + r.val, by omega⟩ l := by
  rw [lane_2]; exact (canon_flat1 (F := Ideal) (e := .f32) (k0_pay7 T.dv_0) (k0_pay7 T.dv_1) (k0_pay7 T.dv_2) (k0_pay7 T.dv_3) r (lane 0 l)).trans ((later_at T.dv_1 r (lane 0 l)).trans (head_dv_2 T t ht _ l))
include ht in
theorem Tile.cv_at_3 (r : Fin 128) (l : Fin 64) : T.cv (ix2 r (lane8 3 l)) = T.sDv t 3 ⟨128 + r.val, by omega⟩ l := by
  rw [lane_3]; exact (canon_flat1 (F := Ideal) (e := .f32) (k0_pay7 T.dv_0) (k0_pay7 T.dv_1) (k0_pay7 T.dv_2) (k0_pay7 T.dv_3) r (lane 1 l)).trans ((later_at T.dv_1 r (lane 1 l)).trans (head_dv_3 T t ht _ l))
include ht in
theorem Tile.cv_at_4 (r : Fin 128) (l : Fin 64) : T.cv (ix2 r (lane8 4 l)) = T.sDv t 4 ⟨128 + r.val, by omega⟩ l := by
  rw [lane_4]; exact (canon_flat2 (F := Ideal) (e := .f32) (k0_pay7 T.dv_0) (k0_pay7 T.dv_1) (k0_pay7 T.dv_2) (k0_pay7 T.dv_3) r (lane 0 l)).trans ((later_at T.dv_2 r (lane 0 l)).trans (head_dv_4 T t ht _ l))
include ht in
theorem Tile.cv_at_5 (r : Fin 128) (l : Fin 64) : T.cv (ix2 r (lane8 5 l)) = T.sDv t 5 ⟨128 + r.val, by omega⟩ l := by
  rw [lane_5]; exact (canon_flat2 (F := Ideal) (e := .f32) (k0_pay7 T.dv_0) (k0_pay7 T.dv_1) (k0_pay7 T.dv_2) (k0_pay7 T.dv_3) r (lane 1 l)).trans ((later_at T.dv_2 r (lane 1 l)).trans (head_dv_5 T t ht _ l))
include ht in
theorem Tile.cv_at_6 (r : Fin 128) (l : Fin 64) : T.cv (ix2 r (lane8 6 l)) = T.sDv t 6 ⟨128 + r.val, by omega⟩ l := by
  rw [lane_6]; exact (canon_flat3 (F := Ideal) (e := .f32) (k0_pay7 T.dv_0) (k0_pay7 T.dv_1) (k0_pay7 T.dv_2) (k0_pay7 T.dv_3) r (lane 0 l)).trans ((later_at T.dv_3 r (lane 0 l)).trans (head_dv_6 T t ht _ l))
include ht in
theorem Tile.cv_at_7 (r : Fin 128) (l : Fin 64) : T.cv (ix2 r (lane8 7 l)) = T.sDv t 7 ⟨128 + r.val, by omega⟩ l := by
  rw [lane_7]; exact (canon_flat3 (F := Ideal) (e := .f32) (k0_pay7 T.dv_0) (k0_pay7 T.dv_1) (k0_pay7 T.dv_2) (k0_pay7 T.dv_3) r (lane 1 l)).trans ((later_at T.dv_3 r (lane 1 l)).trans (head_dv_7 T t ht _ l))
include ht in
theorem Tile.cv_at (h : Fin 8) (r : Fin 128) (l : Fin 64) : T.cv (ix2 r (lane8 h l)) = T.sDv t h ⟨128 + r.val, by omega⟩ l :=
  match h with
  | 0 => Tile.cv_at_0 T t ht r l
  | 1 => Tile.cv_at_1 T t ht r l
  | 2 => Tile.cv_at_2 T t ht r l
  | 3 => Tile.cv_at_3 T t ht r l
  | 4 => Tile.cv_at_4 T t ht r l
  | 5 => Tile.cv_at_5 T t ht r l
  | 6 => Tile.cv_at_6 T t ht r l
  | 7 => Tile.cv_at_7 T t ht r l
include ht hd in
theorem Tile.db_at_0 (c : Vec Ideal S8x128x256 .f32) (r : Fin 128) (j : Fin 256) : T.db c (ix3 0 r j) = (c (ix3 0 r j) + T.sD t d 0 r j : EReal) := by
  exact (canon_head0 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_0 (View.ld c (Rect.unit ![0, 0, 0] ![1, 128, 256] inb_S8x128x256_S1x128x256_0_0_0)) r j).trans (Ideal.add_congr (score_0 c r j) (head_ds_0 T t d ht hd r j)))
include ht hd in
theorem Tile.db_at_1 (c : Vec Ideal S8x128x256 .f32) (r : Fin 128) (j : Fin 256) : T.db c (ix3 1 r j) = (c (ix3 1 r j) + T.sD t d 1 r j : EReal) := by
  exact (canon_head1 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_1 (View.ld c (Rect.unit ![1, 0, 0] ![1, 128, 256] inb_S8x128x256_S1x128x256_1_0_0)) r j).trans (Ideal.add_congr (score_1 c r j) (head_ds_1 T t d ht hd r j)))
include ht hd in
theorem Tile.db_at_2 (c : Vec Ideal S8x128x256 .f32) (r : Fin 128) (j : Fin 256) : T.db c (ix3 2 r j) = (c (ix3 2 r j) + T.sD t d 2 r j : EReal) := by
  exact (canon_head2 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_2 (View.ld c (Rect.unit ![2, 0, 0] ![1, 128, 256] inb_S8x128x256_S1x128x256_2_0_0)) r j).trans (Ideal.add_congr (score_2 c r j) (head_ds_2 T t d ht hd r j)))
include ht hd in
theorem Tile.db_at_3 (c : Vec Ideal S8x128x256 .f32) (r : Fin 128) (j : Fin 256) : T.db c (ix3 3 r j) = (c (ix3 3 r j) + T.sD t d 3 r j : EReal) := by
  exact (canon_head3 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_3 (View.ld c (Rect.unit ![3, 0, 0] ![1, 128, 256] inb_S8x128x256_S1x128x256_3_0_0)) r j).trans (Ideal.add_congr (score_3 c r j) (head_ds_3 T t d ht hd r j)))
include ht hd in
theorem Tile.db_at_4 (c : Vec Ideal S8x128x256 .f32) (r : Fin 128) (j : Fin 256) : T.db c (ix3 4 r j) = (c (ix3 4 r j) + T.sD t d 4 r j : EReal) := by
  exact (canon_head4 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_4 (View.ld c (Rect.unit ![4, 0, 0] ![1, 128, 256] inb_S8x128x256_S1x128x256_4_0_0)) r j).trans (Ideal.add_congr (score_4 c r j) (head_ds_4 T t d ht hd r j)))
include ht hd in
theorem Tile.db_at_5 (c : Vec Ideal S8x128x256 .f32) (r : Fin 128) (j : Fin 256) : T.db c (ix3 5 r j) = (c (ix3 5 r j) + T.sD t d 5 r j : EReal) := by
  exact (canon_head5 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_5 (View.ld c (Rect.unit ![5, 0, 0] ![1, 128, 256] inb_S8x128x256_S1x128x256_5_0_0)) r j).trans (Ideal.add_congr (score_5 c r j) (head_ds_5 T t d ht hd r j)))
include ht hd in
theorem Tile.db_at_6 (c : Vec Ideal S8x128x256 .f32) (r : Fin 128) (j : Fin 256) : T.db c (ix3 6 r j) = (c (ix3 6 r j) + T.sD t d 6 r j : EReal) := by
  exact (canon_head6 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_6 (View.ld c (Rect.unit ![6, 0, 0] ![1, 128, 256] inb_S8x128x256_S1x128x256_6_0_0)) r j).trans (Ideal.add_congr (score_6 c r j) (head_ds_6 T t d ht hd r j)))
include ht hd in
theorem Tile.db_at_7 (c : Vec Ideal S8x128x256 .f32) (r : Fin 128) (j : Fin 256) : T.db c (ix3 7 r j) = (c (ix3 7 r j) + T.sD t d 7 r j : EReal) := by
  exact (canon_head7 (F := Ideal) (e := .f32) (k0_pay134 T.ds_0 (View.ld c (Rect.unit ![0, 0, 0] ![1, 128, 256] inb_S8x128x256_S1x128x256_0_0_0))) (k0_pay134 T.ds_1 (View.ld c (Rect.unit ![1, 0, 0] ![1, 128, 256] inb_S8x128x256_S1x128x256_1_0_0))) (k0_pay134 T.ds_2 (View.ld c (Rect.unit ![2, 0, 0] ![1, 128, 256] inb_S8x128x256_S1x128x256_2_0_0))) (k0_pay134 T.ds_3 (View.ld c (Rect.unit ![3, 0, 0] ![1, 128, 256] inb_S8x128x256_S1x128x256_3_0_0))) (k0_pay134 T.ds_4 (View.ld c (Rect.unit ![4, 0, 0] ![1, 128, 256] inb_S8x128x256_S1x128x256_4_0_0))) (k0_pay134 T.ds_5 (View.ld c (Rect.unit ![5, 0, 0] ![1, 128, 256] inb_S8x128x256_S1x128x256_5_0_0))) (k0_pay134 T.ds_6 (View.ld c (Rect.unit ![6, 0, 0] ![1, 128, 256] inb_S8x128x256_S1x128x256_6_0_0))) (k0_pay134 T.ds_7 (View.ld c (Rect.unit ![7, 0, 0] ![1, 128, 256] inb_S8x128x256_S1x128x256_7_0_0))) r j).trans ((addScore_at T.ds_7 (View.ld c (Rect.unit ![7, 0, 0] ![1, 128, 256] inb_S8x128x256_S1x128x256_7_0_0)) r j).trans (Ideal.add_congr (score_7 c r j) (head_ds_7 T t d ht hd r j)))
include ht hd in
theorem Tile.db_at (c : Vec Ideal S8x128x256 .f32) (h : Fin 8) (r : Fin 128) (j : Fin 256) : T.db c (ix3 h r j) = (c (ix3 h r j) + T.sD t d h r j : EReal) :=
  match h with
  | 0 => Tile.db_at_0 T t d ht hd c r j
  | 1 => Tile.db_at_1 T t d ht hd c r j
  | 2 => Tile.db_at_2 T t d ht hd c r j
  | 3 => Tile.db_at_3 T t d ht hd c r j
  | 4 => Tile.db_at_4 T t d ht hd c r j
  | 5 => Tile.db_at_5 T t d ht hd c r j
  | 6 => Tile.db_at_6 T t d ht hd c r j
  | 7 => Tile.db_at_7 T t d ht hd c r j

end

end Cert.KernelIdeal.Body

end
-- ==== Proof.HostLine.lean ====
/- A line of host operations, read at a buffer off the one operation that writes it. -/
module

public import Idealize.ShloMosaic.Lib.StableHlo.Run
public import Idealize.ShloMosaic.Lib.Pipeline.Frame
public import Idealize.ShloMosaic.PureOps.Ideal

@[expose] public section

namespace Cert.HostLine

open Idealize.ShloMosaic Idealize.ShloMosaic.StableHlo Idealize.ShloMosaic.TcCoe

variable {τ : Topo} {sig : RefSig} {Val : EltTy → Type}

/-- Arrays of a shape and element type over the extended reals. -/
abbrev Arr (s : Shape) (e : EltTy) := (⟨s, e⟩ : BufTy).Contents (Elt Ideal)

/-- A line read at the buffer its operation `i` writes, when no later operation writes that buffer. -/
theorem line_step {ops : List (HloOp τ sig Val)} {W : List (Ref sig .tc)}
    (hW : ops.map HloOp.writes = W.map fun w => {Proc.devRef (τ := τ) .tc w}) (V : Valuation τ sig Val)
    {i : ℕ} {op : HloOp τ sig Val} {r : Ref sig .tc} (hop : ops[i]? = some op) (hr : r ∉ W.drop (i + 1)) :
    after ops V (Proc.devRef .tc r) = op.result (after (ops.take i) V) (Proc.devRef .tc r) := by
  obtain ⟨hi, hop⟩ := List.getElem?_eq_some_iff.mp hop
  have hs : ops = ops.take i ++ op :: ops.drop (i + 1) := by
    rw [← hop, ← List.drop_eq_getElem_cons hi, List.take_append_drop]
  conv_lhs => rw [hs]
  rw [Idealize.ShloMosaic.StableHlo.after_append, after_cons]
  exact after_of_writes_sub _ _ (forall_writes_sub_of_map (by rw [List.map_drop, hW, List.map_drop])) hr

/-- A buffer written by no operation from the `i`-th on: the contents before it are the last. -/
theorem line_keep {ops : List (HloOp τ sig Val)} {W : List (Ref sig .tc)}
    (hW : ops.map HloOp.writes = W.map fun w => {Proc.devRef (τ := τ) .tc w}) (V : Valuation τ sig Val)
    {i : ℕ} {r : Ref sig .tc} (hr : r ∉ W.drop i) :
    after (ops.take i) V (Proc.devRef .tc r) = after ops V (Proc.devRef .tc r) := by
  conv_rhs => rw [← List.take_append_drop i ops]
  rw [Idealize.ShloMosaic.StableHlo.after_append]
  exact (after_of_writes_sub _ _ (forall_writes_sub_of_map (by rw [List.map_drop, hW, List.map_drop])) hr).symm

end Cert.HostLine
-- ==== Proof.HostEq.lean ====
/- The host operations before the kernel, one equation each: what an operation leaves in its buffer, from what its operands hold. -/
module

public import proofs.«01_k».proof.Proof.Gen.KernelIdeal.Frame
public import proofs.«01_k».proof.Proof.HostLine
public import Idealize.ShloMosaic.Lib.Pointwise

@[expose] public section

set_option maxRecDepth 16384
set_option maxHeartbeats 2000000

noncomputable section

namespace Cert.KernelIdeal.Host

open Cert.KernelIdeal Cert.KernelIdeal.Gen
open Idealize.ShloMosaic Idealize.ShloMosaic.TcCoe Idealize.ShloMosaic.StableHlo Idealize.SL.Sem
open Cert.HostLine (Arr)

variable (m : (ℓ : Loc nD τ sig) → Buf (Elt Ideal) ℓ) (c : Dev nD)

/-- The host operations, in order. -/
abbrev ops : List (HloOp τ sig (Elt Ideal)) := List.flatten [hostOps0, hostOps0_1, hostOps0_2, hostOps0_3, hostOps0_4]

/-- The buffers they write, in order. -/
abbrev opsW : List (Ref sig .tc) := [main_v0, main_v1, main_v2, main_v3, main_v4, main_cst, main_v5, main_v6, main_v7, main_v8, main_v9, main_cst_0, main_v10, main_v11, main_v12, main_v13, main_v14, main_v15, main_c, main_v16, main_v17, main_v18, main_v19, main_v20, main_v21, main_v22, main_c_1, main_v23, main_v24, main_c_2, main_v25, main_v26, main_v27, main_v28, main_v29, main_c_3, main_v30, main_v31, main_v32, main_c_4, main_v33, main_v34, main_v35, main_v36, main_v37, main_v38, main_v39, main_v40, main_v41, main_v42, main_v43, main_v44, main_v45, main_v46, main_cst_5, main_call0_v0, main_call0_v1, main_call0_v2, main_v47, main_cst_6, main_v48, main_v49, main_v50, main_v51, main_v52, main_cst_7, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_c_8, main_v101, main_v102, main_v103, main_v104, main_v105, main_v106, main_v107, main_c_9, main_v108, main_v109, main_c_10, main_v110, main_v111, main_v112, main_cst_11, main_call1_v0, main_call1_v1, main_call1_v2, main_v113, main_v114, main_v115, main_v116, main_v117]

theorem writes : ops.map HloOp.writes = opsW.map fun w => {Proc.devRef (τ := τ) .tc w} := rfl

theorem step (i : ℕ) {op : HloOp τ sig (Elt Ideal)} {r : Ref sig .tc} (hop : ops[i]? = some op) (hr : r ∉ opsW.drop (i + 1)) :
    V m c r = op.result (after (ops.take i) fun b => m (c, b)) (Proc.devRef .tc r) := HostLine.line_step writes _ hop hr

theorem keep (i : ℕ) {r : Ref sig .tc} (hr : r ∉ opsW.drop i) :
    after (ops.take i) (fun b => m (c, b)) (Proc.devRef .tc r) = V m c r := HostLine.line_keep writes _ hr

theorem at_v0 : V m c main_v0 = ((extractStridedSlice S8x128x256 ![0, 0, 0] · slices_S24x128x256_S8x128x256_0_0_0) : Arr S24x128x256 .f32 → Arr S8x128x256 .f32) (V m c main_arg3) := by
  refine (step m c 0 rfl (by decide)).trans ((unary_result' ..).trans ?_)
  rw [← keep m c 0 (r := main_arg3) (by decide)]
  try rfl
theorem at_v1 : V m c main_v1 = shapeCast _ (V m c main_arg0) shapeCasts_S1x8192x512_S64x128x8x64 := by
  refine (step m c 1 rfl (by decide)).trans ((reshape_result' ..).trans ?_)
  rw [← keep m c 1 (r := main_arg0) (by decide)]
  try rfl
theorem at_v2 : V m c main_v2 = shapeCast _ (V m c main_arg1) shapeCasts_S1x8192x512_S64x128x8x64 := by
  refine (step m c 2 rfl (by decide)).trans ((reshape_result' ..).trans ?_)
  rw [← keep m c 2 (r := main_arg1) (by decide)]
  try rfl
theorem at_v3 : V m c main_v3 = shapeCast _ (V m c main_arg2) shapeCasts_S1x8192x512_S64x128x8x64 := by
  refine (step m c 3 rfl (by decide)).trans ((reshape_result' ..).trans ?_)
  rw [← keep m c 3 (r := main_arg2) (by decide)]
  try rfl
theorem at_v4 : V m c main_v4 = ((extractStridedSlice S1x128x8x64 ![0, 0, 0, 0] · slices_S64x128x8x64_S1x128x8x64_0_0_0_0) : Arr S64x128x8x64 .f32 → Arr S1x128x8x64 .f32) (V m c main_v2) := by
  refine (step m c 4 rfl (by decide)).trans ((unary_result' ..).trans ?_)
  rw [← keep m c 4 (r := main_v2) (by decide)]
  try rfl
theorem at_cst : V m c main_cst = (constant (F := Ideal) S_ .f32 0x00000000#32)  := by
  refine (step m c 5 rfl (by decide)).trans ((nullary_result' ..).trans ?_)
  first | done | rfl
theorem at_v5 : V m c main_v5 = (broadcastInDim S1x128x8x64 ![] bcast_S_S1x128x8x64 : Arr S_ .f32 → Arr S1x128x8x64 .f32) (V m c main_cst) := by
  refine (step m c 6 rfl (by decide)).trans ((unary_result' ..).trans ?_)
  rw [← keep m c 6 (r := main_cst) (by decide)]
  try rfl
theorem at_v6 : V m c main_v6 = ((extractStridedSlice S63x128x8x64 ![0, 0, 0, 0] · slices_S64x128x8x64_S63x128x8x64_0_0_0_0) : Arr S64x128x8x64 .f32 → Arr S63x128x8x64 .f32) (V m c main_v2) := by
  refine (step m c 7 rfl (by decide)).trans ((unary_result' ..).trans ?_)
  rw [← keep m c 7 (r := main_v2) (by decide)]
  try rfl
theorem at_v7 : V m c main_v7 = ((fun a b => concatenate S64x128x8x64 0 [⟨S1x128x8x64, a⟩, ⟨S63x128x8x64, b⟩] concatenates_S1x128x8x64_S63x128x8x64_S64x128x8x64_d0) : Arr S1x128x8x64 .f32 → Arr S63x128x8x64 .f32 → Arr S64x128x8x64 .f32) (V m c main_v5) (V m c main_v6) := by
  refine (step m c 8 rfl (by decide)).trans ((binary_result' ..).trans ?_)
  rw [← keep m c 8 (r := main_v5) (by decide), ← keep m c 8 (r := main_v6) (by decide)]
  try rfl
theorem at_v8 : V m c main_v8 = ((fun a b => concatenate S64x256x8x64 1 [⟨S64x128x8x64, a⟩, ⟨S64x128x8x64, b⟩] concatenates_S64x128x8x64_S64x128x8x64_S64x256x8x64_d1) : Arr S64x128x8x64 .f32 → Arr S64x128x8x64 .f32 → Arr S64x256x8x64 .f32) (V m c main_v7) (V m c main_v2) := by
  refine (step m c 9 rfl (by decide)).trans ((binary_result' ..).trans ?_)
  rw [← keep m c 9 (r := main_v7) (by decide), ← keep m c 9 (r := main_v2) (by decide)]
  try rfl
theorem at_v9 : V m c main_v9 = ((extractStridedSlice S1x128x8x64 ![0, 0, 0, 0] · slices_S64x128x8x64_S1x128x8x64_0_0_0_0) : Arr S64x128x8x64 .f32 → Arr S1x128x8x64 .f32) (V m c main_v3) := by
  refine (step m c 10 rfl (by decide)).trans ((unary_result' ..).trans ?_)
  rw [← keep m c 10 (r := main_v3) (by decide)]
  try rfl
theorem at_cst_0 : V m c main_cst_0 = (constant (F := Ideal) S_ .f32 0x00000000#32)  := by
  refine (step m c 11 rfl (by decide)).trans ((nullary_result' ..).trans ?_)
  first | done | rfl
theorem at_v10 : V m c main_v10 = (broadcastInDim S1x128x8x64 ![] bcast_S_S1x128x8x64 : Arr S_ .f32 → Arr S1x128x8x64 .f32) (V m c main_cst_0) := by
  refine (step m c 12 rfl (by decide)).trans ((unary_result' ..).trans ?_)
  rw [← keep m c 12 (r := main_cst_0) (by decide)]
  try rfl
theorem at_v11 : V m c main_v11 = ((extractStridedSlice S63x128x8x64 ![0, 0, 0, 0] · slices_S64x128x8x64_S63x128x8x64_0_0_0_0) : Arr S64x128x8x64 .f32 → Arr S63x128x8x64 .f32) (V m c main_v3) := by
  refine (step m c 13 rfl (by decide)).trans ((unary_result' ..).trans ?_)
  rw [← keep m c 13 (r := main_v3) (by decide)]
  try rfl
theorem at_v12 : V m c main_v12 = ((fun a b => concatenate S64x128x8x64 0 [⟨S1x128x8x64, a⟩, ⟨S63x128x8x64, b⟩] concatenates_S1x128x8x64_S63x128x8x64_S64x128x8x64_d0) : Arr S1x128x8x64 .f32 → Arr S63x128x8x64 .f32 → Arr S64x128x8x64 .f32) (V m c main_v10) (V m c main_v11) := by
  refine (step m c 14 rfl (by decide)).trans ((binary_result' ..).trans ?_)
  rw [← keep m c 14 (r := main_v10) (by decide), ← keep m c 14 (r := main_v11) (by decide)]
  try rfl
theorem at_v13 : V m c main_v13 = ((fun a b => concatenate S64x256x8x64 1 [⟨S64x128x8x64, a⟩, ⟨S64x128x8x64, b⟩] concatenates_S64x128x8x64_S64x128x8x64_S64x256x8x64_d1) : Arr S64x128x8x64 .f32 → Arr S64x128x8x64 .f32 → Arr S64x256x8x64 .f32) (V m c main_v12) (V m c main_v3) := by
  refine (step m c 15 rfl (by decide)).trans ((binary_result' ..).trans ?_)
  rw [← keep m c 15 (r := main_v12) (by decide), ← keep m c 15 (r := main_v3) (by decide)]
  try rfl
theorem at_v14 : V m c main_v14 = (iotaInDim S128 32 0)  := by
  refine (step m c 16 rfl (by decide)).trans ((nullary_result' ..).trans ?_)
  first | done | rfl
theorem at_v15 : V m c main_v15 = (broadcastInDim S128x1 ![0] bcast_S128_S128x1_0 : Arr S128 .i32 → Arr S128x1 .i32) (V m c main_v14) := by
  refine (step m c 17 rfl (by decide)).trans ((unary_result' ..).trans ?_)
  rw [← keep m c 17 (r := main_v14) (by decide)]
  try rfl
theorem at_c : V m c main_c = (constantI S_ 32 128#32)  := by
  refine (step m c 18 rfl (by decide)).trans ((nullary_result' ..).trans ?_)
  first | done | rfl
theorem at_v16 : V m c main_v16 = (broadcastInDim S128x1 ![] bcast_S_S128x1 : Arr S_ .i32 → Arr S128x1 .i32) (V m c main_c) := by
  refine (step m c 19 rfl (by decide)).trans ((unary_result' ..).trans ?_)
  rw [← keep m c 19 (r := main_c) (by decide)]
  try rfl
theorem at_v17 : V m c main_v17 = (addi : Arr S128x1 .i32 → Arr S128x1 .i32 → Arr S128x1 .i32) (V m c main_v15) (V m c main_v16) := by
  refine (step m c 20 rfl (by decide)).trans ((binary_result' ..).trans ?_)
  rw [← keep m c 20 (r := main_v15) (by decide), ← keep m c 20 (r := main_v16) (by decide)]
  try rfl
theorem at_v18 : V m c main_v18 = (iotaInDim S256 32 0)  := by
  refine (step m c 21 rfl (by decide)).trans ((nullary_result' ..).trans ?_)
  first | done | rfl
theorem at_v19 : V m c main_v19 = (broadcastInDim S1x256 ![1] bcast_S256_S1x256_1 : Arr S256 .i32 → Arr S1x256 .i32) (V m c main_v18) := by
  refine (step m c 22 rfl (by decide)).trans ((unary_result' ..).trans ?_)
  rw [← keep m c 22 (r := main_v18) (by decide)]
  try rfl
theorem at_v20 : V m c main_v20 = (broadcastInDim S128x256 ![0, 1] bcast_S128x1_S128x256_0_1 : Arr S128x1 .i32 → Arr S128x256 .i32) (V m c main_v17) := by
  refine (step m c 23 rfl (by decide)).trans ((unary_result' ..).trans ?_)
  rw [← keep m c 23 (r := main_v17) (by decide)]
  try rfl
theorem at_v21 : V m c main_v21 = (broadcastInDim S128x256 ![0, 1] bcast_S1x256_S128x256_0_1 : Arr S1x256 .i32 → Arr S128x256 .i32) (V m c main_v19) := by
  refine (step m c 24 rfl (by decide)).trans ((unary_result' ..).trans ?_)
  rw [← keep m c 24 (r := main_v19) (by decide)]
  try rfl
theorem at_v22 : V m c main_v22 = (subi : Arr S128x256 .i32 → Arr S128x256 .i32 → Arr S128x256 .i32) (V m c main_v20) (V m c main_v21) := by
  refine (step m c 25 rfl (by decide)).trans ((binary_result' ..).trans ?_)
  rw [← keep m c 25 (r := main_v20) (by decide), ← keep m c 25 (r := main_v21) (by decide)]
  try rfl
theorem at_c_1 : V m c main_c_1 = (constantI S_ 32 0#32)  := by
  refine (step m c 26 rfl (by decide)).trans ((nullary_result' ..).trans ?_)
  first | done | rfl
theorem at_v23 : V m c main_v23 = (broadcastInDim S128x256 ![] bcast_S_S128x256 : Arr S_ .i32 → Arr S128x256 .i32) (V m c main_c_1) := by
  refine (step m c 27 rfl (by decide)).trans ((unary_result' ..).trans ?_)
  rw [← keep m c 27 (r := main_c_1) (by decide)]
  try rfl
theorem at_v24 : V m c main_v24 = (cmpi .sge : Arr S128x256 .i32 → Arr S128x256 .i32 → Arr S128x256 .i1) (V m c main_v22) (V m c main_v23) := by
  refine (step m c 28 rfl (by decide)).trans ((binary_result' ..).trans ?_)
  rw [← keep m c 28 (r := main_v22) (by decide), ← keep m c 28 (r := main_v23) (by decide)]
  try rfl
theorem at_c_2 : V m c main_c_2 = (constantI S_ 32 128#32)  := by
  refine (step m c 29 rfl (by decide)).trans ((nullary_result' ..).trans ?_)
  first | done | rfl
theorem at_v25 : V m c main_v25 = (broadcastInDim S128x256 ![] bcast_S_S128x256 : Arr S_ .i32 → Arr S128x256 .i32) (V m c main_c_2) := by
  refine (step m c 30 rfl (by decide)).trans ((unary_result' ..).trans ?_)
  rw [← keep m c 30 (r := main_c_2) (by decide)]
  try rfl
theorem at_v26 : V m c main_v26 = (cmpi .sle : Arr S128x256 .i32 → Arr S128x256 .i32 → Arr S128x256 .i1) (V m c main_v22) (V m c main_v25) := by
  refine (step m c 31 rfl (by decide)).trans ((binary_result' ..).trans ?_)
  rw [← keep m c 31 (r := main_v22) (by decide), ← keep m c 31 (r := main_v25) (by decide)]
  try rfl
theorem at_v27 : V m c main_v27 = (andi : Arr S128x256 .i1 → Arr S128x256 .i1 → Arr S128x256 .i1) (V m c main_v24) (V m c main_v26) := by
  refine (step m c 32 rfl (by decide)).trans ((binary_result' ..).trans ?_)
  rw [← keep m c 32 (r := main_v24) (by decide), ← keep m c 32 (r := main_v26) (by decide)]
  try rfl
theorem at_v28 : V m c main_v28 = (broadcastInDim S1x128x256 ![1, 2] bcast_S128x256_S1x128x256_1_2 : Arr S128x256 .i1 → Arr S1x128x256 .i1) (V m c main_v27) := by
  refine (step m c 33 rfl (by decide)).trans ((unary_result' ..).trans ?_)
  rw [← keep m c 33 (r := main_v27) (by decide)]
  try rfl
theorem at_v29 : V m c main_v29 = (iotaInDim S64 32 0)  := by
  refine (step m c 34 rfl (by decide)).trans ((nullary_result' ..).trans ?_)
  first | done | rfl
theorem at_c_3 : V m c main_c_3 = (constantI S_ 32 0#32)  := by
  refine (step m c 35 rfl (by decide)).trans ((nullary_result' ..).trans ?_)
  first | done | rfl
theorem at_v30 : V m c main_v30 = (broadcastInDim S64 ![] bcast_S_S64 : Arr S_ .i32 → Arr S64 .i32) (V m c main_c_3) := by
  refine (step m c 36 rfl (by decide)).trans ((unary_result' ..).trans ?_)
  rw [← keep m c 36 (r := main_c_3) (by decide)]
  try rfl
theorem at_v31 : V m c main_v31 = (cmpi .sgt : Arr S64 .i32 → Arr S64 .i32 → Arr S64 .i1) (V m c main_v29) (V m c main_v30) := by
  refine (step m c 37 rfl (by decide)).trans ((binary_result' ..).trans ?_)
  rw [← keep m c 37 (r := main_v29) (by decide), ← keep m c 37 (r := main_v30) (by decide)]
  try rfl
theorem at_v32 : V m c main_v32 = (broadcastInDim S64x1x1 ![0] bcast_S64_S64x1x1_0 : Arr S64 .i1 → Arr S64x1x1 .i1) (V m c main_v31) := by
  refine (step m c 38 rfl (by decide)).trans ((unary_result' ..).trans ?_)
  rw [← keep m c 38 (r := main_v31) (by decide)]
  try rfl
theorem at_c_4 : V m c main_c_4 = (constantI S_ 32 128#32)  := by
  refine (step m c 39 rfl (by decide)).trans ((nullary_result' ..).trans ?_)
  first | done | rfl
theorem at_v33 : V m c main_v33 = (broadcastInDim S1x256 ![] bcast_S_S1x256 : Arr S_ .i32 → Arr S1x256 .i32) (V m c main_c_4) := by
  refine (step m c 40 rfl (by decide)).trans ((unary_result' ..).trans ?_)
  rw [← keep m c 40 (r := main_c_4) (by decide)]
  try rfl
theorem at_v34 : V m c main_v34 = (cmpi .sge : Arr S1x256 .i32 → Arr S1x256 .i32 → Arr S1x256 .i1) (V m c main_v19) (V m c main_v33) := by
  refine (step m c 41 rfl (by decide)).trans ((binary_result' ..).trans ?_)
  rw [← keep m c 41 (r := main_v19) (by decide), ← keep m c 41 (r := main_v33) (by decide)]
  try rfl
theorem at_v35 : V m c main_v35 = (broadcastInDim S1x1x256 ![1, 2] bcast_S1x256_S1x1x256_1_2 : Arr S1x256 .i1 → Arr S1x1x256 .i1) (V m c main_v34) := by
  refine (step m c 42 rfl (by decide)).trans ((unary_result' ..).trans ?_)
  rw [← keep m c 42 (r := main_v34) (by decide)]
  try rfl
theorem at_v36 : V m c main_v36 = (broadcastInDim S64x1x256 ![0, 1, 2] bcast_S64x1x1_S64x1x256_0_1_2 : Arr S64x1x1 .i1 → Arr S64x1x256 .i1) (V m c main_v32) := by
  refine (step m c 43 rfl (by decide)).trans ((unary_result' ..).trans ?_)
  rw [← keep m c 43 (r := main_v32) (by decide)]
  try rfl
theorem at_v37 : V m c main_v37 = (broadcastInDim S64x1x256 ![0, 1, 2] bcast_S1x1x256_S64x1x256_0_1_2 : Arr S1x1x256 .i1 → Arr S64x1x256 .i1) (V m c main_v35) := by
  refine (step m c 44 rfl (by decide)).trans ((unary_result' ..).trans ?_)
  rw [← keep m c 44 (r := main_v35) (by decide)]
  try rfl
theorem at_v38 : V m c main_v38 = (ori : Arr S64x1x256 .i1 → Arr S64x1x256 .i1 → Arr S64x1x256 .i1) (V m c main_v36) (V m c main_v37) := by
  refine (step m c 45 rfl (by decide)).trans ((binary_result' ..).trans ?_)
  rw [← keep m c 45 (r := main_v36) (by decide), ← keep m c 45 (r := main_v37) (by decide)]
  try rfl
theorem at_v39 : V m c main_v39 = (broadcastInDim S64x128x256 ![0, 1, 2] bcast_S1x128x256_S64x128x256_0_1_2 : Arr S1x128x256 .i1 → Arr S64x128x256 .i1) (V m c main_v28) := by
  refine (step m c 46 rfl (by decide)).trans ((unary_result' ..).trans ?_)
  rw [← keep m c 46 (r := main_v28) (by decide)]
  try rfl
theorem at_v40 : V m c main_v40 = (broadcastInDim S64x128x256 ![0, 1, 2] bcast_S64x1x256_S64x128x256_0_1_2 : Arr S64x1x256 .i1 → Arr S64x128x256 .i1) (V m c main_v38) := by
  refine (step m c 47 rfl (by decide)).trans ((unary_result' ..).trans ?_)
  rw [← keep m c 47 (r := main_v38) (by decide)]
  try rfl
theorem at_v41 : V m c main_v41 = (andi : Arr S64x128x256 .i1 → Arr S64x128x256 .i1 → Arr S64x128x256 .i1) (V m c main_v39) (V m c main_v40) := by
  refine (step m c 48 rfl (by decide)).trans ((binary_result' ..).trans ?_)
  rw [← keep m c 48 (r := main_v39) (by decide), ← keep m c 48 (r := main_v40) (by decide)]
  try rfl
theorem at_v42 : V m c main_v42 = ((fun l r => Host.dotGeneral (F := Ideal) (φ₁ := .f32) (φ₂ := .f32) dot_S64x128x8x64_S64x256x8x64_S64x8x128x256_3_3_1_1_02_02 none l r) : Arr S64x128x8x64 .f32 → Arr S64x256x8x64 .f32 → Arr S64x8x128x256 .f32) (V m c main_v1) (V m c main_v8) := by
  refine (step m c 49 rfl (by decide)).trans ((binary_result' ..).trans ?_)
  rw [← keep m c 49 (r := main_v1) (by decide), ← keep m c 49 (r := main_v8) (by decide)]
  try rfl
theorem at_v43 : V m c main_v43 = (broadcastInDim S1x8x128x256 ![1, 2, 3] bcast_S8x128x256_S1x8x128x256_1_2_3 : Arr S8x128x256 .f32 → Arr S1x8x128x256 .f32) (V m c main_v0) := by
  refine (step m c 50 rfl (by decide)).trans ((unary_result' ..).trans ?_)
  rw [← keep m c 50 (r := main_v0) (by decide)]
  try rfl
theorem at_v44 : V m c main_v44 = (broadcastInDim S64x8x128x256 ![0, 1, 2, 3] bcast_S1x8x128x256_S64x8x128x256_0_1_2_3 : Arr S1x8x128x256 .f32 → Arr S64x8x128x256 .f32) (V m c main_v43) := by
  refine (step m c 51 rfl (by decide)).trans ((unary_result' ..).trans ?_)
  rw [← keep m c 51 (r := main_v43) (by decide)]
  try rfl
theorem at_v45 : V m c main_v45 = (addf (F := Ideal) (φ := .f32) : Arr S64x8x128x256 .f32 → Arr S64x8x128x256 .f32 → Arr S64x8x128x256 .f32) (V m c main_v42) (V m c main_v44) := by
  refine (step m c 52 rfl (by decide)).trans ((binary_result' ..).trans ?_)
  rw [← keep m c 52 (r := main_v42) (by decide), ← keep m c 52 (r := main_v44) (by decide)]
  try rfl
theorem at_v46 : V m c main_v46 = (broadcastInDim S64x1x128x256 ![0, 2, 3] bcast_S64x128x256_S64x1x128x256_0_2_3 : Arr S64x128x256 .i1 → Arr S64x1x128x256 .i1) (V m c main_v41) := by
  refine (step m c 53 rfl (by decide)).trans ((unary_result' ..).trans ?_)
  rw [← keep m c 53 (r := main_v41) (by decide)]
  try rfl
theorem at_cst_5 : V m c main_cst_5 = (constant (F := Ideal) S_ .f32 0xFF800000#32)  := by
  refine (step m c 54 rfl (by decide)).trans ((nullary_result' ..).trans ?_)
  first | done | rfl
theorem at_call0_v0 : V m c main_call0_v0 = id (V m c main_cst_5) := by
  refine (step m c 55 rfl (by decide)).trans ((unary_result' ..).trans ?_)
  rw [← keep m c 55 (r := main_cst_5) (by decide)]
  try rfl
theorem at_call0_v1 : V m c main_call0_v1 = (broadcastInDim S64x8x128x256 ![0, 1, 2, 3] bcast_S64x1x128x256_S64x8x128x256_0_1_2_3) (V m c main_v46) := by
  refine (step m c 56 rfl (by decide)).trans ((unary_result' ..).trans ?_)
  rw [← keep m c 56 (r := main_v46) (by decide)]
  try rfl
theorem at_call0_v2 : V m c main_call0_v2 = (broadcastInDim S64x8x128x256 ![] bcast_S_S64x8x128x256) (V m c main_call0_v0) := by
  refine (step m c 57 rfl (by decide)).trans ((unary_result' ..).trans ?_)
  rw [← keep m c 57 (r := main_call0_v0) (by decide)]
  try rfl
theorem at_v47 : V m c main_v47 = select (V m c main_call0_v1) (V m c main_v45) (V m c main_call0_v2) := by
  refine (step m c 58 rfl (by decide)).trans ((ternary_result' ..).trans ?_)
  rw [← keep m c 58 (r := main_call0_v1) (by decide), ← keep m c 58 (r := main_v45) (by decide), ← keep m c 58 (r := main_call0_v2) (by decide)]
  try rfl
theorem at_cst_6 : V m c main_cst_6 = (constant (F := Ideal) S_ .f32 0xFF800000#32)  := by
  refine (step m c 59 rfl (by decide)).trans ((nullary_result' ..).trans ?_)
  first | done | rfl
theorem at_v48 : V m c main_v48 = ((fun x v => Host.reduce (FloatOps.maximumf (F := Ideal) (φ := .f32)) x v reducesTo_S64x8x128x256_S64x8x128_d3 h_S_) : Arr S64x8x128x256 .f32 → Arr S_ .f32 → Arr S64x8x128 .f32) (V m c main_v47) (V m c main_cst_6) := by
  refine (step m c 60 rfl (by decide)).trans ((binary_result' ..).trans ?_)
  rw [← keep m c 60 (r := main_v47) (by decide), ← keep m c 60 (r := main_cst_6) (by decide)]
  try rfl
theorem at_v49 : V m c main_v49 = (broadcastInDim S64x8x128x1 ![0, 1, 2] bcast_S64x8x128_S64x8x128x1_0_1_2 : Arr S64x8x128 .f32 → Arr S64x8x128x1 .f32) (V m c main_v48) := by
  refine (step m c 61 rfl (by decide)).trans ((unary_result' ..).trans ?_)
  rw [← keep m c 61 (r := main_v48) (by decide)]
  try rfl
theorem at_v50 : V m c main_v50 = (broadcastInDim S64x8x128x256 ![0, 1, 2, 3] bcast_S64x8x128x1_S64x8x128x256_0_1_2_3 : Arr S64x8x128x1 .f32 → Arr S64x8x128x256 .f32) (V m c main_v49) := by
  refine (step m c 62 rfl (by decide)).trans ((unary_result' ..).trans ?_)
  rw [← keep m c 62 (r := main_v49) (by decide)]
  try rfl
theorem at_v51 : V m c main_v51 = (subf (F := Ideal) (φ := .f32) : Arr S64x8x128x256 .f32 → Arr S64x8x128x256 .f32 → Arr S64x8x128x256 .f32) (V m c main_v47) (V m c main_v50) := by
  refine (step m c 63 rfl (by decide)).trans ((binary_result' ..).trans ?_)
  rw [← keep m c 63 (r := main_v47) (by decide), ← keep m c 63 (r := main_v50) (by decide)]
  try rfl
theorem at_v52 : V m c main_v52 = (Host.exp (F := Ideal) (φ := .f32) : Arr S64x8x128x256 .f32 → Arr S64x8x128x256 .f32) (V m c main_v51) := by
  refine (step m c 64 rfl (by decide)).trans ((unary_result' ..).trans ?_)
  rw [← keep m c 64 (r := main_v51) (by decide)]
  try rfl
theorem at_cst_7 : V m c main_cst_7 = (constant (F := Ideal) S_ .f32 0x00000000#32)  := by
  refine (step m c 65 rfl (by decide)).trans ((nullary_result' ..).trans ?_)
  first | done | rfl
theorem at_v53 : V m c main_v53 = ((fun x v => Host.reduceAdd (F := Ideal) (φ := .f32) x v reducesTo_S64x8x128x256_S64x8x128_d3 h_S_) : Arr S64x8x128x256 .f32 → Arr S_ .f32 → Arr S64x8x128 .f32) (V m c main_v52) (V m c main_cst_7) := by
  refine (step m c 66 rfl (by decide)).trans ((binary_result' ..).trans ?_)
  rw [← keep m c 66 (r := main_v52) (by decide), ← keep m c 66 (r := main_cst_7) (by decide)]
  try rfl
theorem at_v54 : V m c main_v54 = (broadcastInDim S64x8x128x1 ![0, 1, 2] bcast_S64x8x128_S64x8x128x1_0_1_2 : Arr S64x8x128 .f32 → Arr S64x8x128x1 .f32) (V m c main_v53) := by
  refine (step m c 67 rfl (by decide)).trans ((unary_result' ..).trans ?_)
  rw [← keep m c 67 (r := main_v53) (by decide)]
  try rfl
theorem at_v55 : V m c main_v55 = (broadcastInDim S64x8x128x256 ![0, 1, 2, 3] bcast_S64x8x128x1_S64x8x128x256_0_1_2_3 : Arr S64x8x128x1 .f32 → Arr S64x8x128x256 .f32) (V m c main_v54) := by
  refine (step m c 68 rfl (by decide)).trans ((unary_result' ..).trans ?_)
  rw [← keep m c 68 (r := main_v54) (by decide)]
  try rfl
theorem at_v56 : V m c main_v56 = (Host.divf (F := Ideal) (φ := .f32) : Arr S64x8x128x256 .f32 → Arr S64x8x128x256 .f32 → Arr S64x8x128x256 .f32) (V m c main_v52) (V m c main_v55) := by
  refine (step m c 69 rfl (by decide)).trans ((binary_result' ..).trans ?_)
  rw [← keep m c 69 (r := main_v52) (by decide), ← keep m c 69 (r := main_v55) (by decide)]
  try rfl
theorem at_v57 : V m c main_v57 = ((fun l r => Host.dotGeneral (F := Ideal) (φ₁ := .f32) (φ₂ := .f32) dot_S64x256x8x64_S64x8x128x256_S64x8x64x128_1_3_3_2_02_01 none l r) : Arr S64x256x8x64 .f32 → Arr S64x8x128x256 .f32 → Arr S64x8x64x128 .f32) (V m c main_v13) (V m c main_v56) := by
  refine (step m c 70 rfl (by decide)).trans ((binary_result' ..).trans ?_)
  rw [← keep m c 70 (r := main_v13) (by decide), ← keep m c 70 (r := main_v56) (by decide)]
  try rfl
theorem at_v58 : V m c main_v58 = ((transpose S64x128x8x64 [0, 3, 1, 2] · transposes_S64x8x64x128_S64x128x8x64_0_3_1_2) : Arr S64x8x64x128 .f32 → Arr S64x128x8x64 .f32) (V m c main_v57) := by
  refine (step m c 71 rfl (by decide)).trans ((unary_result' ..).trans ?_)
  rw [← keep m c 71 (r := main_v57) (by decide)]
  try rfl
theorem at_v59 : V m c main_v59 = (Host.log (F := Ideal) (φ := .f32) : Arr S64x8x128x1 .f32 → Arr S64x8x128x1 .f32) (V m c main_v54) := by
  refine (step m c 72 rfl (by decide)).trans ((unary_result' ..).trans ?_)
  rw [← keep m c 72 (r := main_v54) (by decide)]
  try rfl
theorem at_v60 : V m c main_v60 = (addf (F := Ideal) (φ := .f32) : Arr S64x8x128x1 .f32 → Arr S64x8x128x1 .f32 → Arr S64x8x128x1 .f32) (V m c main_v49) (V m c main_v59) := by
  refine (step m c 73 rfl (by decide)).trans ((binary_result' ..).trans ?_)
  rw [← keep m c 73 (r := main_v49) (by decide), ← keep m c 73 (r := main_v59) (by decide)]
  try rfl
theorem at_v61 : V m c main_v61 = shapeCast _ (V m c main_v60) shapeCasts_S64x8x128x1_S64x8x128 := by
  refine (step m c 74 rfl (by decide)).trans ((reshape_result' ..).trans ?_)
  rw [← keep m c 74 (r := main_v60) (by decide)]
  try rfl
theorem at_v62 : V m c main_v62 = shapeCast _ (V m c main_v58) shapeCasts_S64x128x8x64_S8192x8x64 := by
  refine (step m c 75 rfl (by decide)).trans ((reshape_result' ..).trans ?_)
  rw [← keep m c 75 (r := main_v58) (by decide)]
  try rfl
theorem at_v63 : V m c main_v63 = ((transpose S64x128x8 [0, 2, 1] · transposes_S64x8x128_S64x128x8_0_2_1) : Arr S64x8x128 .f32 → Arr S64x128x8 .f32) (V m c main_v61) := by
  refine (step m c 76 rfl (by decide)).trans ((unary_result' ..).trans ?_)
  rw [← keep m c 76 (r := main_v61) (by decide)]
  try rfl
theorem at_v64 : V m c main_v64 = shapeCast _ (V m c main_v63) shapeCasts_S64x128x8_S8192x8 := by
  refine (step m c 77 rfl (by decide)).trans ((reshape_result' ..).trans ?_)
  rw [← keep m c 77 (r := main_v63) (by decide)]
  try rfl
theorem at_v65 : V m c main_v65 = (maximumf (F := Ideal) (φ := .f32) : Arr S8192x8 .f32 → Arr S8192x8 .f32 → Arr S8192x8 .f32) (V m c main_v64) (V m c main_arg5) := by
  refine (step m c 78 rfl (by decide)).trans ((binary_result' ..).trans ?_)
  rw [← keep m c 78 (r := main_v64) (by decide), ← keep m c 78 (r := main_arg5) (by decide)]
  try rfl
theorem at_v66 : V m c main_v66 = (maximumf (F := Ideal) (φ := .f32) : Arr S8192x8 .f32 → Arr S8192x8 .f32 → Arr S8192x8 .f32) (V m c main_v65) (V m c main_arg7) := by
  refine (step m c 79 rfl (by decide)).trans ((binary_result' ..).trans ?_)
  rw [← keep m c 79 (r := main_v65) (by decide), ← keep m c 79 (r := main_arg7) (by decide)]
  try rfl
theorem at_v67 : V m c main_v67 = (subf (F := Ideal) (φ := .f32) : Arr S8192x8 .f32 → Arr S8192x8 .f32 → Arr S8192x8 .f32) (V m c main_v64) (V m c main_v66) := by
  refine (step m c 80 rfl (by decide)).trans ((binary_result' ..).trans ?_)
  rw [← keep m c 80 (r := main_v64) (by decide), ← keep m c 80 (r := main_v66) (by decide)]
  try rfl
theorem at_v68 : V m c main_v68 = (Host.exp (F := Ideal) (φ := .f32) : Arr S8192x8 .f32 → Arr S8192x8 .f32) (V m c main_v67) := by
  refine (step m c 81 rfl (by decide)).trans ((unary_result' ..).trans ?_)
  rw [← keep m c 81 (r := main_v67) (by decide)]
  try rfl
theorem at_v69 : V m c main_v69 = (subf (F := Ideal) (φ := .f32) : Arr S8192x8 .f32 → Arr S8192x8 .f32 → Arr S8192x8 .f32) (V m c main_arg5) (V m c main_v66) := by
  refine (step m c 82 rfl (by decide)).trans ((binary_result' ..).trans ?_)
  rw [← keep m c 82 (r := main_arg5) (by decide), ← keep m c 82 (r := main_v66) (by decide)]
  try rfl
theorem at_v70 : V m c main_v70 = (Host.exp (F := Ideal) (φ := .f32) : Arr S8192x8 .f32 → Arr S8192x8 .f32) (V m c main_v69) := by
  refine (step m c 83 rfl (by decide)).trans ((unary_result' ..).trans ?_)
  rw [← keep m c 83 (r := main_v69) (by decide)]
  try rfl
theorem at_v71 : V m c main_v71 = (subf (F := Ideal) (φ := .f32) : Arr S8192x8 .f32 → Arr S8192x8 .f32 → Arr S8192x8 .f32) (V m c main_arg7) (V m c main_v66) := by
  refine (step m c 84 rfl (by decide)).trans ((binary_result' ..).trans ?_)
  rw [← keep m c 84 (r := main_arg7) (by decide), ← keep m c 84 (r := main_v66) (by decide)]
  try rfl
theorem at_v72 : V m c main_v72 = (Host.exp (F := Ideal) (φ := .f32) : Arr S8192x8 .f32 → Arr S8192x8 .f32) (V m c main_v71) := by
  refine (step m c 85 rfl (by decide)).trans ((unary_result' ..).trans ?_)
  rw [← keep m c 85 (r := main_v71) (by decide)]
  try rfl
theorem at_v73 : V m c main_v73 = (addf (F := Ideal) (φ := .f32) : Arr S8192x8 .f32 → Arr S8192x8 .f32 → Arr S8192x8 .f32) (V m c main_v68) (V m c main_v70) := by
  refine (step m c 86 rfl (by decide)).trans ((binary_result' ..).trans ?_)
  rw [← keep m c 86 (r := main_v68) (by decide), ← keep m c 86 (r := main_v70) (by decide)]
  try rfl
theorem at_v74 : V m c main_v74 = (addf (F := Ideal) (φ := .f32) : Arr S8192x8 .f32 → Arr S8192x8 .f32 → Arr S8192x8 .f32) (V m c main_v73) (V m c main_v72) := by
  refine (step m c 87 rfl (by decide)).trans ((binary_result' ..).trans ?_)
  rw [← keep m c 87 (r := main_v73) (by decide), ← keep m c 87 (r := main_v72) (by decide)]
  try rfl
theorem at_v75 : V m c main_v75 = (broadcastInDim S8192x8x1 ![0, 1] bcast_S8192x8_S8192x8x1_0_1 : Arr S8192x8 .f32 → Arr S8192x8x1 .f32) (V m c main_v68) := by
  refine (step m c 88 rfl (by decide)).trans ((unary_result' ..).trans ?_)
  rw [← keep m c 88 (r := main_v68) (by decide)]
  try rfl
theorem at_v76 : V m c main_v76 = (broadcastInDim S8192x8x64 ![0, 1, 2] bcast_S8192x8x1_S8192x8x64_0_1_2 : Arr S8192x8x1 .f32 → Arr S8192x8x64 .f32) (V m c main_v75) := by
  refine (step m c 89 rfl (by decide)).trans ((unary_result' ..).trans ?_)
  rw [← keep m c 89 (r := main_v75) (by decide)]
  try rfl
theorem at_v77 : V m c main_v77 = (mulf (F := Ideal) (φ := .f32) : Arr S8192x8x64 .f32 → Arr S8192x8x64 .f32 → Arr S8192x8x64 .f32) (V m c main_v76) (V m c main_v62) := by
  refine (step m c 90 rfl (by decide)).trans ((binary_result' ..).trans ?_)
  rw [← keep m c 90 (r := main_v76) (by decide), ← keep m c 90 (r := main_v62) (by decide)]
  try rfl
theorem at_v78 : V m c main_v78 = (broadcastInDim S8192x8x1 ![0, 1] bcast_S8192x8_S8192x8x1_0_1 : Arr S8192x8 .f32 → Arr S8192x8x1 .f32) (V m c main_v70) := by
  refine (step m c 91 rfl (by decide)).trans ((unary_result' ..).trans ?_)
  rw [← keep m c 91 (r := main_v70) (by decide)]
  try rfl
theorem at_v79 : V m c main_v79 = (broadcastInDim S8192x8x64 ![0, 1, 2] bcast_S8192x8x1_S8192x8x64_0_1_2 : Arr S8192x8x1 .f32 → Arr S8192x8x64 .f32) (V m c main_v78) := by
  refine (step m c 92 rfl (by decide)).trans ((unary_result' ..).trans ?_)
  rw [← keep m c 92 (r := main_v78) (by decide)]
  try rfl
theorem at_v80 : V m c main_v80 = (mulf (F := Ideal) (φ := .f32) : Arr S8192x8x64 .f32 → Arr S8192x8x64 .f32 → Arr S8192x8x64 .f32) (V m c main_v79) (V m c main_arg4) := by
  refine (step m c 93 rfl (by decide)).trans ((binary_result' ..).trans ?_)
  rw [← keep m c 93 (r := main_v79) (by decide), ← keep m c 93 (r := main_arg4) (by decide)]
  try rfl
theorem at_v81 : V m c main_v81 = (addf (F := Ideal) (φ := .f32) : Arr S8192x8x64 .f32 → Arr S8192x8x64 .f32 → Arr S8192x8x64 .f32) (V m c main_v77) (V m c main_v80) := by
  refine (step m c 94 rfl (by decide)).trans ((binary_result' ..).trans ?_)
  rw [← keep m c 94 (r := main_v77) (by decide), ← keep m c 94 (r := main_v80) (by decide)]
  try rfl
theorem at_v82 : V m c main_v82 = (broadcastInDim S8192x8x1 ![0, 1] bcast_S8192x8_S8192x8x1_0_1 : Arr S8192x8 .f32 → Arr S8192x8x1 .f32) (V m c main_v72) := by
  refine (step m c 95 rfl (by decide)).trans ((unary_result' ..).trans ?_)
  rw [← keep m c 95 (r := main_v72) (by decide)]
  try rfl
theorem at_v83 : V m c main_v83 = (broadcastInDim S8192x8x64 ![0, 1, 2] bcast_S8192x8x1_S8192x8x64_0_1_2 : Arr S8192x8x1 .f32 → Arr S8192x8x64 .f32) (V m c main_v82) := by
  refine (step m c 96 rfl (by decide)).trans ((unary_result' ..).trans ?_)
  rw [← keep m c 96 (r := main_v82) (by decide)]
  try rfl
theorem at_v84 : V m c main_v84 = (mulf (F := Ideal) (φ := .f32) : Arr S8192x8x64 .f32 → Arr S8192x8x64 .f32 → Arr S8192x8x64 .f32) (V m c main_v83) (V m c main_arg6) := by
  refine (step m c 97 rfl (by decide)).trans ((binary_result' ..).trans ?_)
  rw [← keep m c 97 (r := main_v83) (by decide), ← keep m c 97 (r := main_arg6) (by decide)]
  try rfl
theorem at_v85 : V m c main_v85 = (addf (F := Ideal) (φ := .f32) : Arr S8192x8x64 .f32 → Arr S8192x8x64 .f32 → Arr S8192x8x64 .f32) (V m c main_v81) (V m c main_v84) := by
  refine (step m c 98 rfl (by decide)).trans ((binary_result' ..).trans ?_)
  rw [← keep m c 98 (r := main_v81) (by decide), ← keep m c 98 (r := main_v84) (by decide)]
  try rfl
theorem at_v86 : V m c main_v86 = (broadcastInDim S8192x8x1 ![0, 1] bcast_S8192x8_S8192x8x1_0_1 : Arr S8192x8 .f32 → Arr S8192x8x1 .f32) (V m c main_v74) := by
  refine (step m c 99 rfl (by decide)).trans ((unary_result' ..).trans ?_)
  rw [← keep m c 99 (r := main_v74) (by decide)]
  try rfl
theorem at_v87 : V m c main_v87 = (broadcastInDim S8192x8x64 ![0, 1, 2] bcast_S8192x8x1_S8192x8x64_0_1_2 : Arr S8192x8x1 .f32 → Arr S8192x8x64 .f32) (V m c main_v86) := by
  refine (step m c 100 rfl (by decide)).trans ((unary_result' ..).trans ?_)
  rw [← keep m c 100 (r := main_v86) (by decide)]
  try rfl
theorem at_v88 : V m c main_v88 = (Host.divf (F := Ideal) (φ := .f32) : Arr S8192x8x64 .f32 → Arr S8192x8x64 .f32 → Arr S8192x8x64 .f32) (V m c main_v85) (V m c main_v87) := by
  refine (step m c 101 rfl (by decide)).trans ((binary_result' ..).trans ?_)
  rw [← keep m c 101 (r := main_v85) (by decide), ← keep m c 101 (r := main_v87) (by decide)]
  try rfl
theorem at_v89 : V m c main_v89 = (Host.log (F := Ideal) (φ := .f32) : Arr S8192x8 .f32 → Arr S8192x8 .f32) (V m c main_v74) := by
  refine (step m c 102 rfl (by decide)).trans ((unary_result' ..).trans ?_)
  rw [← keep m c 102 (r := main_v74) (by decide)]
  try rfl
theorem at_v90 : V m c main_v90 = (addf (F := Ideal) (φ := .f32) : Arr S8192x8 .f32 → Arr S8192x8 .f32 → Arr S8192x8 .f32) (V m c main_v66) (V m c main_v89) := by
  refine (step m c 103 rfl (by decide)).trans ((binary_result' ..).trans ?_)
  rw [← keep m c 103 (r := main_v66) (by decide), ← keep m c 103 (r := main_v89) (by decide)]
  try rfl
theorem at_v91 : V m c main_v91 = shapeCast _ (V m c main_arg8) shapeCasts_S1x8192x512_S8192x8x64 := by
  refine (step m c 104 rfl (by decide)).trans ((reshape_result' ..).trans ?_)
  rw [← keep m c 104 (r := main_arg8) (by decide)]
  try rfl
theorem at_v92 : V m c main_v92 = ((fun l r => Host.dotGeneral (F := Ideal) (φ₁ := .f32) (φ₂ := .f32) dot_S8192x8x64_S8192x8x64_S8192x8_2_2_n_n_01_01 none l r) : Arr S8192x8x64 .f32 → Arr S8192x8x64 .f32 → Arr S8192x8 .f32) (V m c main_v88) (V m c main_v91) := by
  refine (step m c 105 rfl (by decide)).trans ((binary_result' ..).trans ?_)
  rw [← keep m c 105 (r := main_v88) (by decide), ← keep m c 105 (r := main_v91) (by decide)]
  try rfl
theorem at_v93 : V m c main_v93 = (broadcastInDim S8192x8x1 ![0, 1] bcast_S8192x8_S8192x8x1_0_1 : Arr S8192x8 .f32 → Arr S8192x8x1 .f32) (V m c main_v90) := by
  refine (step m c 106 rfl (by decide)).trans ((unary_result' ..).trans ?_)
  rw [← keep m c 106 (r := main_v90) (by decide)]
  try rfl
theorem at_v94 : V m c main_v94 = (broadcastInDim S8192x8x32 ![0, 1, 2] bcast_S8192x8x1_S8192x8x32_0_1_2 : Arr S8192x8x1 .f32 → Arr S8192x8x32 .f32) (V m c main_v93) := by
  refine (step m c 107 rfl (by decide)).trans ((unary_result' ..).trans ?_)
  rw [← keep m c 107 (r := main_v93) (by decide)]
  try rfl
theorem at_v95 : V m c main_v95 = (broadcastInDim S8192x8x1 ![0, 1] bcast_S8192x8_S8192x8x1_0_1 : Arr S8192x8 .f32 → Arr S8192x8x1 .f32) (V m c main_v92) := by
  refine (step m c 108 rfl (by decide)).trans ((unary_result' ..).trans ?_)
  rw [← keep m c 108 (r := main_v92) (by decide)]
  try rfl
theorem at_v96 : V m c main_v96 = (broadcastInDim S8192x8x32 ![0, 1, 2] bcast_S8192x8x1_S8192x8x32_0_1_2 : Arr S8192x8x1 .f32 → Arr S8192x8x32 .f32) (V m c main_v95) := by
  refine (step m c 109 rfl (by decide)).trans ((unary_result' ..).trans ?_)
  rw [← keep m c 109 (r := main_v95) (by decide)]
  try rfl
theorem at_v97 : V m c main_v97 = ((fun a b => concatenate S8192x8x64 2 [⟨S8192x8x32, a⟩, ⟨S8192x8x32, b⟩] concatenates_S8192x8x32_S8192x8x32_S8192x8x64_d2) : Arr S8192x8x32 .f32 → Arr S8192x8x32 .f32 → Arr S8192x8x64 .f32) (V m c main_v94) (V m c main_v96) := by
  refine (step m c 110 rfl (by decide)).trans ((binary_result' ..).trans ?_)
  rw [← keep m c 110 (r := main_v94) (by decide), ← keep m c 110 (r := main_v96) (by decide)]
  try rfl
theorem at_v98 : V m c main_v98 = shapeCast _ (V m c main_v97) shapeCasts_S8192x8x64_S1x8192x512 := by
  refine (step m c 111 rfl (by decide)).trans ((reshape_result' ..).trans ?_)
  rw [← keep m c 111 (r := main_v97) (by decide)]
  try rfl
theorem at_v99 : V m c main_v99 = (iotaInDim S128 32 0)  := by
  refine (step m c 112 rfl (by decide)).trans ((nullary_result' ..).trans ?_)
  first | done | rfl
theorem at_v100 : V m c main_v100 = (broadcastInDim S128x1 ![0] bcast_S128_S128x1_0 : Arr S128 .i32 → Arr S128x1 .i32) (V m c main_v99) := by
  refine (step m c 113 rfl (by decide)).trans ((unary_result' ..).trans ?_)
  rw [← keep m c 113 (r := main_v99) (by decide)]
  try rfl
theorem at_c_8 : V m c main_c_8 = (constantI S_ 32 128#32)  := by
  refine (step m c 114 rfl (by decide)).trans ((nullary_result' ..).trans ?_)
  first | done | rfl
theorem at_v101 : V m c main_v101 = (broadcastInDim S128x1 ![] bcast_S_S128x1 : Arr S_ .i32 → Arr S128x1 .i32) (V m c main_c_8) := by
  refine (step m c 115 rfl (by decide)).trans ((unary_result' ..).trans ?_)
  rw [← keep m c 115 (r := main_c_8) (by decide)]
  try rfl
theorem at_v102 : V m c main_v102 = (addi : Arr S128x1 .i32 → Arr S128x1 .i32 → Arr S128x1 .i32) (V m c main_v100) (V m c main_v101) := by
  refine (step m c 116 rfl (by decide)).trans ((binary_result' ..).trans ?_)
  rw [← keep m c 116 (r := main_v100) (by decide), ← keep m c 116 (r := main_v101) (by decide)]
  try rfl
theorem at_v103 : V m c main_v103 = (iotaInDim S256 32 0)  := by
  refine (step m c 117 rfl (by decide)).trans ((nullary_result' ..).trans ?_)
  first | done | rfl
theorem at_v104 : V m c main_v104 = (broadcastInDim S1x256 ![1] bcast_S256_S1x256_1 : Arr S256 .i32 → Arr S1x256 .i32) (V m c main_v103) := by
  refine (step m c 118 rfl (by decide)).trans ((unary_result' ..).trans ?_)
  rw [← keep m c 118 (r := main_v103) (by decide)]
  try rfl
theorem at_v105 : V m c main_v105 = (broadcastInDim S128x256 ![0, 1] bcast_S128x1_S128x256_0_1 : Arr S128x1 .i32 → Arr S128x256 .i32) (V m c main_v102) := by
  refine (step m c 119 rfl (by decide)).trans ((unary_result' ..).trans ?_)
  rw [← keep m c 119 (r := main_v102) (by decide)]
  try rfl
theorem at_v106 : V m c main_v106 = (broadcastInDim S128x256 ![0, 1] bcast_S1x256_S128x256_0_1 : Arr S1x256 .i32 → Arr S128x256 .i32) (V m c main_v104) := by
  refine (step m c 120 rfl (by decide)).trans ((unary_result' ..).trans ?_)
  rw [← keep m c 120 (r := main_v104) (by decide)]
  try rfl
theorem at_v107 : V m c main_v107 = (subi : Arr S128x256 .i32 → Arr S128x256 .i32 → Arr S128x256 .i32) (V m c main_v105) (V m c main_v106) := by
  refine (step m c 121 rfl (by decide)).trans ((binary_result' ..).trans ?_)
  rw [← keep m c 121 (r := main_v105) (by decide), ← keep m c 121 (r := main_v106) (by decide)]
  try rfl
theorem at_c_9 : V m c main_c_9 = (constantI S_ 32 0#32)  := by
  refine (step m c 122 rfl (by decide)).trans ((nullary_result' ..).trans ?_)
  first | done | rfl
theorem at_v108 : V m c main_v108 = (broadcastInDim S128x256 ![] bcast_S_S128x256 : Arr S_ .i32 → Arr S128x256 .i32) (V m c main_c_9) := by
  refine (step m c 123 rfl (by decide)).trans ((unary_result' ..).trans ?_)
  rw [← keep m c 123 (r := main_c_9) (by decide)]
  try rfl
theorem at_v109 : V m c main_v109 = (cmpi .sge : Arr S128x256 .i32 → Arr S128x256 .i32 → Arr S128x256 .i1) (V m c main_v107) (V m c main_v108) := by
  refine (step m c 124 rfl (by decide)).trans ((binary_result' ..).trans ?_)
  rw [← keep m c 124 (r := main_v107) (by decide), ← keep m c 124 (r := main_v108) (by decide)]
  try rfl
theorem at_c_10 : V m c main_c_10 = (constantI S_ 32 128#32)  := by
  refine (step m c 125 rfl (by decide)).trans ((nullary_result' ..).trans ?_)
  first | done | rfl
theorem at_v110 : V m c main_v110 = (broadcastInDim S128x256 ![] bcast_S_S128x256 : Arr S_ .i32 → Arr S128x256 .i32) (V m c main_c_10) := by
  refine (step m c 126 rfl (by decide)).trans ((unary_result' ..).trans ?_)
  rw [← keep m c 126 (r := main_c_10) (by decide)]
  try rfl
theorem at_v111 : V m c main_v111 = (cmpi .sle : Arr S128x256 .i32 → Arr S128x256 .i32 → Arr S128x256 .i1) (V m c main_v107) (V m c main_v110) := by
  refine (step m c 127 rfl (by decide)).trans ((binary_result' ..).trans ?_)
  rw [← keep m c 127 (r := main_v107) (by decide), ← keep m c 127 (r := main_v110) (by decide)]
  try rfl
theorem at_v112 : V m c main_v112 = (andi : Arr S128x256 .i1 → Arr S128x256 .i1 → Arr S128x256 .i1) (V m c main_v109) (V m c main_v111) := by
  refine (step m c 128 rfl (by decide)).trans ((binary_result' ..).trans ?_)
  rw [← keep m c 128 (r := main_v109) (by decide), ← keep m c 128 (r := main_v111) (by decide)]
  try rfl
theorem at_cst_11 : V m c main_cst_11 = (constant (F := Ideal) S_ .f32 0xFF800000#32)  := by
  refine (step m c 129 rfl (by decide)).trans ((nullary_result' ..).trans ?_)
  first | done | rfl
theorem at_call1_v0 : V m c main_call1_v0 = id (V m c main_cst_11) := by
  refine (step m c 130 rfl (by decide)).trans ((unary_result' ..).trans ?_)
  rw [← keep m c 130 (r := main_cst_11) (by decide)]
  try rfl
theorem at_call1_v1 : V m c main_call1_v1 = (broadcastInDim S24x128x256 ![1, 2] bcast_S128x256_S24x128x256_1_2) (V m c main_v112) := by
  refine (step m c 131 rfl (by decide)).trans ((unary_result' ..).trans ?_)
  rw [← keep m c 131 (r := main_v112) (by decide)]
  try rfl
theorem at_call1_v2 : V m c main_call1_v2 = (broadcastInDim S24x128x256 ![] bcast_S_S24x128x256) (V m c main_call1_v0) := by
  refine (step m c 132 rfl (by decide)).trans ((unary_result' ..).trans ?_)
  rw [← keep m c 132 (r := main_call1_v0) (by decide)]
  try rfl
theorem at_v113 : V m c main_v113 = select (V m c main_call1_v1) (V m c main_arg3) (V m c main_call1_v2) := by
  refine (step m c 133 rfl (by decide)).trans ((ternary_result' ..).trans ?_)
  rw [← keep m c 133 (r := main_call1_v1) (by decide), ← keep m c 133 (r := main_arg3) (by decide), ← keep m c 133 (r := main_call1_v2) (by decide)]
  try rfl
theorem at_v114 : V m c main_v114 = ((truncf (F := Ideal) (φ := .f32) .bf16 · bitsLt_bf16_f32) : Arr S1x8192x512 .f32 → Arr S1x8192x512 .bf16) (V m c main_arg0) := by
  refine (step m c 134 rfl (by decide)).trans ((unary_result' ..).trans ?_)
  rw [← keep m c 134 (r := main_arg0) (by decide)]
  try rfl
theorem at_v115 : V m c main_v115 = ((truncf (F := Ideal) (φ := .f32) .bf16 · bitsLt_bf16_f32) : Arr S1x8192x512 .f32 → Arr S1x8192x512 .bf16) (V m c main_arg1) := by
  refine (step m c 135 rfl (by decide)).trans ((unary_result' ..).trans ?_)
  rw [← keep m c 135 (r := main_arg1) (by decide)]
  try rfl
theorem at_v116 : V m c main_v116 = ((truncf (F := Ideal) (φ := .f32) .bf16 · bitsLt_bf16_f32) : Arr S1x8192x512 .f32 → Arr S1x8192x512 .bf16) (V m c main_arg2) := by
  refine (step m c 136 rfl (by decide)).trans ((unary_result' ..).trans ?_)
  rw [← keep m c 136 (r := main_arg2) (by decide)]
  try rfl
theorem at_v117 : V m c main_v117 = ((truncf (F := Ideal) (φ := .f32) .bf16 · bitsLt_bf16_f32) : Arr S1x8192x512 .f32 → Arr S1x8192x512 .bf16) (V m c main_arg8) := by
  refine (step m c 137 rfl (by decide)).trans ((unary_result' ..).trans ?_)
  rw [← keep m c 137 (r := main_arg8) (by decide)]
  try rfl

end Cert.KernelIdeal.Host

end
-- ==== Proof.Results.lean ====
/- The four results, as sums over the places of a window. -/
module

public import proofs.«01_k».proof.Proof.Spec

@[expose] public section

noncomputable section

namespace Cert.Attn.Args

variable (A : Args)

/-- The gradient of a query. -/
def dqOf (n : Fin 64) (r : Fin 128) (h : Fin 8) (l : Fin 64) : ℝ := ∑ j, A.kD n h r j * win A.k n j h l

/-- A block's gradient with respect to the place `j` of its own window: of a key, and of a value. -/
def dkAt (n : Fin 64) (j : Fin 256) (h : Fin 8) (l : Fin 64) : ℝ := ∑ r, A.kD n h r j * A.q n r h l
def dvAt (n : Fin 64) (j : Fin 256) (h : Fin 8) (l : Fin 64) : ℝ := ∑ r, A.kP n h r j * A.g n r h l

/-- A key is the second half of its own block's window and the first half of the next block's. -/
def dkOf (n : Fin 64) (r : Fin 128) (h : Fin 8) (l : Fin 64) : ℝ :=
  A.dkAt n ⟨128 + r.val, by omega⟩ h l + (if hn : n.val < 63 then A.dkAt ⟨n.val + 1, by omega⟩ ⟨r.val, by omega⟩ h l else 0)
def dvOf (n : Fin 64) (r : Fin 128) (h : Fin 8) (l : Fin 64) : ℝ :=
  A.dvAt n ⟨128 + r.val, by omega⟩ h l + (if hn : n.val < 63 then A.dvAt ⟨n.val + 1, by omega⟩ ⟨r.val, by omega⟩ h l else 0)

/-- The gradient of the bias. -/
def dbOf (h : Fin 8) (r : Fin 128) (j : Fin 256) : ℝ := ∑ n, A.kD n h r j

end Cert.Attn.Args

end
-- ==== Proof.KerRead.lean ====
/- The kernel's operands read at an index. -/
module

public import proofs.«01_k».proof.Proof.HostEq
public import proofs.«01_k».proof.Proof.Casts
public import proofs.«01_k».proof.Proof.Results

@[expose] public section

set_option maxHeartbeats 1000000

noncomputable section

namespace Cert.KernelIdeal.Host

open Cert.KernelIdeal Cert.KernelIdeal.Gen Cert.Attn
open Idealize.ShloMosaic Idealize.ShloMosaic.TcCoe Idealize.ShloMosaic.StableHlo Idealize.SL.Sem
open Cert.HostLine (Arr)

theorem and_if (p q : Prop) [Decidable p] [Decidable q] :
    IntOp.andi (if p then 1#1 else 0#1) (if q then 1#1 else 0#1) = if p ∧ q then 1#1 else 0#1 := by
  by_cases a : p <;> by_cases b : q <;> simp [a, b, IntOp.andi]

theorem negInf : Ideal.ofBits FTy.f32 0xFF800000#32 = (⊥ : EReal) := by simp [Ideal.ofBits, Ideal.ieee]

/-- The kernel's arguments are the real arrays `A`. -/
structure Reads (m : (ℓ : Loc nD τ sig) → Buf (Elt Ideal) ℓ) (c : Dev nD) (A : Args) : Prop where
  q : ∀ n r h l, V m c main_arg0 (ix3 0 (rowOf n r) (laneOf h l)) = (A.q n r h l : EReal)
  k : ∀ n r h l, V m c main_arg1 (ix3 0 (rowOf n r) (laneOf h l)) = (A.k n r h l : EReal)
  v : ∀ n r h l, V m c main_arg2 (ix3 0 (rowOf n r) (laneOf h l)) = (A.v n r h l : EReal)
  b : ∀ (h : Fin 8) r j, V m c main_arg3 (ix3 ⟨h.val, by omega⟩ r j) = (A.b h r j : EReal)
  o1 : ∀ n r h l, V m c main_arg4 (ix3 (rowOf n r) h l) = (A.o1 n r h l : EReal)
  l1 : ∀ n r h, V m c main_arg5 (ix2 (rowOf n r) h) = (A.l1 n r h : EReal)
  o2 : ∀ n r h l, V m c main_arg6 (ix3 (rowOf n r) h l) = (A.o2 n r h l : EReal)
  l2 : ∀ n r h, V m c main_arg7 (ix2 (rowOf n r) h) = (A.l2 n r h : EReal)
  g : ∀ n r h l, V m c main_arg8 (ix3 0 (rowOf n r) (laneOf h l)) = (A.g n r h l : EReal)

variable (m : (ℓ : Loc nD τ sig) → Buf (Elt Ideal) ℓ) (c : Dev nD)

theorem k_v27 (r : Fin 128) (j : Fin 256) : V m c main_v27 (ix2 r j) = if r.val ≤ j.val ∧ j.val ≤ r.val + 128 then 1#1 else 0#1 := by
  rw [← near r j, at_v27, at_v24, at_v26, at_v22, at_v23, at_v25, at_v20, at_v21, at_v19, at_v17, at_v16, at_v15, at_v14, at_v18, at_c, at_c_1, at_c_2]
  pointwise

theorem k_v112 (r : Fin 128) (j : Fin 256) : V m c main_v112 (ix2 r j) = if r.val ≤ j.val ∧ j.val ≤ r.val + 128 then 1#1 else 0#1 := by
  rw [← near r j, at_v112, at_v109, at_v111, at_v107, at_v108, at_v110, at_v105, at_v106, at_v104, at_v102, at_v101, at_v100, at_v99, at_v103, at_c_8, at_c_9, at_c_10]
  pointwise

theorem k_v38 (n : Fin 64) (j : Fin 256) : V m c main_v38 (ix3 n 0 j) = if 0 < n.val ∨ 128 ≤ j.val then 1#1 else 0#1 := by
  have h1 := later n
  have h2 := inside j
  rw [at_v38, at_v36, at_v37, at_v35, at_v34, at_v33, at_v32, at_v31, at_v30, at_v29, at_v19, at_v18, at_c_3, at_c_4]
  pointwise
  rw [h1, h2]
  by_cases a : 0 < n.val <;> by_cases b : 128 ≤ j.val <;> simp [a, b, IntOp.ori]

theorem k_v41 (n : Fin 64) (r : Fin 128) (j : Fin 256) : V m c main_v41 (ix3 n r j) = if ok n r j then 1#1 else 0#1 := by
  have h1 := k_v27 m c r j
  have h2 := k_v38 m c n j
  rw [at_v41, at_v39, at_v40, at_v28]
  pointwise [h1, h2]
  exact and_if _ _

theorem k_call0_v1 (n : Fin 64) (h : Fin 8) (r : Fin 128) (j : Fin 256) : V m c main_call0_v1 (ix4 n h r j) = if ok n r j then 1#1 else 0#1 := by
  rw [at_call0_v1, at_v46]
  pointwise
  exact k_v41 m c n r j

section
variable {m c} {A : Args} (H : Reads m c A)
include H

theorem k_v0 (h : Fin 8) (r : Fin 128) (j : Fin 256) : V m c main_v0 (ix3 h r j) = (A.b h r j : EReal) := by
  rw [at_v0]
  pointwise
  exact H.b h r j

theorem k_v1 (n : Fin 64) (r : Fin 128) (h : Fin 8) (l : Fin 64) : V m c main_v1 (ix4 n r h l) = (A.q n r h l : EReal) := by
  rw [at_v1]
  exact (cast_blocks n r h l _ _).trans (H.q n r h l)

theorem k_v2 (n : Fin 64) (r : Fin 128) (h : Fin 8) (l : Fin 64) : V m c main_v2 (ix4 n r h l) = (A.k n r h l : EReal) := by
  rw [at_v2]
  exact (cast_blocks n r h l _ _).trans (H.k n r h l)

theorem k_v3 (n : Fin 64) (r : Fin 128) (h : Fin 8) (l : Fin 64) : V m c main_v3 (ix4 n r h l) = (A.v n r h l : EReal) := by
  rw [at_v3]
  exact (cast_blocks n r h l _ _).trans (H.v n r h l)

theorem k_v7 (n : Fin 64) (r : Fin 128) (h : Fin 8) (l : Fin 64) : V m c main_v7 (ix4 n r h l) = ((if hn : 0 < n.val then A.k ⟨n.val - 1, by omega⟩ r h l else 0 : ℝ) : EReal) := by
  rw [at_v7, at_v5, at_cst, at_v6]
  have e0 := k_v2 H
  obtain ⟨x_v2, h0⟩ : ∃ x : Arr S64x128x8x64 .f32, V m c main_v2 = x := ⟨_, rfl⟩
  rw [h0] at e0 ⊢
  pointwise
  by_cases hn : n.val < 1
  · rw [dif_pos hn, dif_neg (by omega)]; simp
  · rw [dif_neg hn, dif_pos (by omega)]; exact e0 _ r h l

theorem k_v8 (n : Fin 64) (j : Fin 256) (h : Fin 8) (l : Fin 64) : V m c main_v8 (ix4 n j h l) = (win A.k n j h l : EReal) := by
  rw [at_v8]
  have e0 := k_v7 H
  have e1 := k_v2 H
  obtain ⟨x_v7, h0⟩ : ∃ x : Arr S64x128x8x64 .f32, V m c main_v7 = x := ⟨_, rfl⟩
  rw [h0] at e0 ⊢
  obtain ⟨x_v2, h1⟩ : ∃ x : Arr S64x128x8x64 .f32, V m c main_v2 = x := ⟨_, rfl⟩
  rw [h1] at e1 ⊢
  pointwise
  unfold win
  by_cases hj : j.val < 128
  · rw [dif_pos hj, dif_pos hj]; exact e0 n ⟨j.val, hj⟩ h l
  · rw [dif_neg hj, dif_neg hj]; exact e1 n _ h l

theorem k_v12 (n : Fin 64) (r : Fin 128) (h : Fin 8) (l : Fin 64) : V m c main_v12 (ix4 n r h l) = ((if hn : 0 < n.val then A.v ⟨n.val - 1, by omega⟩ r h l else 0 : ℝ) : EReal) := by
  rw [at_v12, at_v10, at_cst_0, at_v11]
  have e0 := k_v3 H
  obtain ⟨x_v3, h0⟩ : ∃ x : Arr S64x128x8x64 .f32, V m c main_v3 = x := ⟨_, rfl⟩
  rw [h0] at e0 ⊢
  pointwise
  by_cases hn : n.val < 1
  · rw [dif_pos hn, dif_neg (by omega)]; simp
  · rw [dif_neg hn, dif_pos (by omega)]; exact e0 _ r h l

theorem k_v13 (n : Fin 64) (j : Fin 256) (h : Fin 8) (l : Fin 64) : V m c main_v13 (ix4 n j h l) = (win A.v n j h l : EReal) := by
  rw [at_v13]
  have e0 := k_v12 H
  have e1 := k_v3 H
  obtain ⟨x_v12, h0⟩ : ∃ x : Arr S64x128x8x64 .f32, V m c main_v12 = x := ⟨_, rfl⟩
  rw [h0] at e0 ⊢
  obtain ⟨x_v3, h1⟩ : ∃ x : Arr S64x128x8x64 .f32, V m c main_v3 = x := ⟨_, rfl⟩
  rw [h1] at e1 ⊢
  pointwise
  unfold win
  by_cases hj : j.val < 128
  · rw [dif_pos hj, dif_pos hj]; exact e0 n ⟨j.val, hj⟩ h l
  · rw [dif_neg hj, dif_neg hj]; exact e1 n _ h l

theorem k_v45 (n : Fin 64) (h : Fin 8) (r : Fin 128) (j : Fin 256) : V m c main_v45 (ix4 n h r j) = (A.lg n h r j : EReal) := by
  rw [at_v45, at_v42, at_v44, at_v43]
  have e0 := k_v1 H
  have e1 := k_v8 H
  have e2 := k_v0 H
  obtain ⟨x_v1, h0⟩ : ∃ x : Arr S64x128x8x64 .f32, V m c main_v1 = x := ⟨_, rfl⟩
  rw [h0] at e0 ⊢
  obtain ⟨x_v8, h1⟩ : ∃ x : Arr S64x256x8x64 .f32, V m c main_v8 = x := ⟨_, rfl⟩
  rw [h1] at e1 ⊢
  obtain ⟨x_v0, h2⟩ : ∃ x : Arr S8x128x256 .f32, V m c main_v0 = x := ⟨_, rfl⟩
  rw [h2] at e2 ⊢
  pointwise
  simp only [e0, e1, e2, ← EReal.coe_mul, coe_sum, ← EReal.coe_add]
  rfl

theorem k_v47 (n : Fin 64) (h : Fin 8) (r : Fin 128) (j : Fin 256) : V m c main_v47 (ix4 n h r j) = (A.S n h r j : EReal) := by
  rw [at_v47, at_call0_v2, at_call0_v0, at_cst_5]
  have e0 := k_call0_v1 m c
  have e1 := k_v45 H
  obtain ⟨x_call0_v1, h0⟩ : ∃ x : Arr S64x8x128x256 .i1, V m c main_call0_v1 = x := ⟨_, rfl⟩
  rw [h0] at e0 ⊢
  obtain ⟨x_v45, h1⟩ : ∃ x : Arr S64x8x128x256 .f32, V m c main_v45 = x := ⟨_, rfl⟩
  rw [h1] at e1 ⊢
  pointwise
  rw [e0, e1]
  refine (congrArg (Scalar.select _ _) (show _ = (⊥ : EReal) from negInf)).trans ?_
  unfold Args.S
  by_cases hj : ok n r j
  · rw [if_pos hj, if_pos hj]; rfl
  · rw [if_neg hj, if_neg hj]; rfl

theorem k_v48 (n : Fin 64) (h : Fin 8) (r : Fin 128) : V m c main_v48 (ix3 n h r) = (A.mx n h r : EReal) := by
  rw [at_v48, at_cst_6]
  have e0 := k_v47 H
  obtain ⟨x_v47, h0⟩ : ∃ x : Arr S64x8x128x256 .f32, V m c main_v47 = x := ⟨_, rfl⟩
  rw [h0] at e0 ⊢
  pointwise
  rw [negInf, ← A.fold_mx n h r]
  exact congrArg (fun f : Fin 256 → EReal => Finset.fold max (⊥ : EReal) f Finset.univ) (funext fun j => e0 n h r j)

theorem k_v49 (n : Fin 64) (h : Fin 8) (r : Fin 128) : V m c main_v49 (ix4 n h r 0) = (A.mx n h r : EReal) := by
  rw [at_v49]
  have e0 := k_v48 H
  obtain ⟨x_v48, h0⟩ : ∃ x : Arr S64x8x128 .f32, V m c main_v48 = x := ⟨_, rfl⟩
  rw [h0] at e0 ⊢
  pointwise
  exact e0 n h r

theorem k_v52 (n : Fin 64) (h : Fin 8) (r : Fin 128) (j : Fin 256) : V m c main_v52 (ix4 n h r j) = (A.E n h r j : EReal) := by
  rw [at_v52, at_v51, at_v50]
  have e0 := k_v47 H
  have e1 := k_v49 H
  obtain ⟨x_v47, h0⟩ : ∃ x : Arr S64x8x128x256 .f32, V m c main_v47 = x := ⟨_, rfl⟩
  rw [h0] at e0 ⊢
  obtain ⟨x_v49, h1⟩ : ∃ x : Arr S64x8x128x1 .f32, V m c main_v49 = x := ⟨_, rfl⟩
  rw [h1] at e1 ⊢
  pointwise
  rw [e0, e1, A.S_exp]
  rfl

theorem k_v53 (n : Fin 64) (h : Fin 8) (r : Fin 128) : V m c main_v53 (ix3 n h r) = (A.L n h r : EReal) := by
  rw [at_v53, at_cst_7]
  have e0 := k_v52 H
  obtain ⟨x_v52, h0⟩ : ∃ x : Arr S64x8x128x256 .f32, V m c main_v52 = x := ⟨_, rfl⟩
  rw [h0] at e0 ⊢
  pointwise
  simp only [e0, coe_sum]
  rfl

theorem k_v54 (n : Fin 64) (h : Fin 8) (r : Fin 128) : V m c main_v54 (ix4 n h r 0) = (A.L n h r : EReal) := by
  rw [at_v54]
  have e0 := k_v53 H
  obtain ⟨x_v53, h0⟩ : ∃ x : Arr S64x8x128 .f32, V m c main_v53 = x := ⟨_, rfl⟩
  rw [h0] at e0 ⊢
  pointwise
  exact e0 n h r

theorem k_v56 (n : Fin 64) (h : Fin 8) (r : Fin 128) (j : Fin 256) : V m c main_v56 (ix4 n h r j) = ((A.E n h r j / A.L n h r : ℝ) : EReal) := by
  rw [at_v56, at_v55]
  have e0 := k_v52 H
  have e1 := k_v54 H
  obtain ⟨x_v52, h0⟩ : ∃ x : Arr S64x8x128x256 .f32, V m c main_v52 = x := ⟨_, rfl⟩
  rw [h0] at e0 ⊢
  obtain ⟨x_v54, h1⟩ : ∃ x : Arr S64x8x128x1 .f32, V m c main_v54 = x := ⟨_, rfl⟩
  rw [h1] at e1 ⊢
  pointwise
  rw [e0, e1, div_real (A.L_ne n h r)]

theorem k_v58 (n : Fin 64) (r : Fin 128) (h : Fin 8) (d : Fin 64) : V m c main_v58 (ix4 n r h d) = (A.O n h r d : EReal) := by
  rw [at_v58, at_v57]
  have e0 := k_v13 H
  have e1 := k_v56 H
  obtain ⟨x_v13, h0⟩ : ∃ x : Arr S64x256x8x64 .f32, V m c main_v13 = x := ⟨_, rfl⟩
  rw [h0] at e0 ⊢
  obtain ⟨x_v56, h1⟩ : ∃ x : Arr S64x8x128x256 .f32, V m c main_v56 = x := ⟨_, rfl⟩
  rw [h1] at e1 ⊢
  pointwise
  simp only [e0, e1, ← EReal.coe_mul, coe_sum]
  rfl

theorem k_v62 (n : Fin 64) (r : Fin 128) (h : Fin 8) (d : Fin 64) : V m c main_v62 (ix3 (rowOf n r) h d) = (A.O n h r d : EReal) := by
  rw [at_v62]
  exact (cast_rows n r h d _ _).trans (k_v58 H n r h d)

theorem k_v59 (n : Fin 64) (h : Fin 8) (r : Fin 128) : V m c main_v59 (ix4 n h r 0) = ((Real.log (A.L n h r) : ℝ) : EReal) := by
  rw [at_v59]
  have e0 := k_v54 H
  obtain ⟨x_v54, h0⟩ : ∃ x : Arr S64x8x128x1 .f32, V m c main_v54 = x := ⟨_, rfl⟩
  rw [h0] at e0 ⊢
  pointwise
  rw [e0, log_real (A.L_pos n h r)]

theorem k_v60 (n : Fin 64) (h : Fin 8) (r : Fin 128) : V m c main_v60 (ix4 n h r 0) = (A.lse n h r : EReal) := by
  rw [at_v60]
  have e0 := k_v49 H
  have e1 := k_v59 H
  obtain ⟨x_v49, h0⟩ : ∃ x : Arr S64x8x128x1 .f32, V m c main_v49 = x := ⟨_, rfl⟩
  rw [h0] at e0 ⊢
  obtain ⟨x_v59, h1⟩ : ∃ x : Arr S64x8x128x1 .f32, V m c main_v59 = x := ⟨_, rfl⟩
  rw [h1] at e1 ⊢
  pointwise
  rw [e0, e1, ← EReal.coe_add]
  rfl

theorem k_v61 (n : Fin 64) (h : Fin 8) (r : Fin 128) : V m c main_v61 (ix3 n h r) = (A.lse n h r : EReal) := by
  rw [at_v61]
  have e0 := k_v60 H
  obtain ⟨x_v60, h0⟩ : ∃ x : Arr S64x8x128x1 .f32, V m c main_v60 = x := ⟨_, rfl⟩
  rw [h0] at e0 ⊢
  pointwise
  exact e0 n h r

theorem k_v63 (n : Fin 64) (r : Fin 128) (h : Fin 8) : V m c main_v63 (ix3 n r h) = (A.lse n h r : EReal) := by
  rw [at_v63]
  have e0 := k_v61 H
  obtain ⟨x_v61, h0⟩ : ∃ x : Arr S64x8x128 .f32, V m c main_v61 = x := ⟨_, rfl⟩
  rw [h0] at e0 ⊢
  pointwise
  exact e0 n h r

theorem k_v64 (n : Fin 64) (r : Fin 128) (h : Fin 8) : V m c main_v64 (ix2 (rowOf n r) h) = (A.lse n h r : EReal) := by
  rw [at_v64]
  exact (cast_rows3 n r h _ _).trans (k_v63 H n r h)

theorem k_v66 (n : Fin 64) (r : Fin 128) (h : Fin 8) : V m c main_v66 (ix2 (rowOf n r) h) = (A.M n h r : EReal) := by
  rw [at_v66, at_v65]
  have e0 := k_v64 H
  have e1 := H.l1
  have e2 := H.l2
  obtain ⟨x_v64, h0⟩ : ∃ x : Arr S8192x8 .f32, V m c main_v64 = x := ⟨_, rfl⟩
  rw [h0] at e0 ⊢
  obtain ⟨x_arg5, h1⟩ : ∃ x : Arr S8192x8 .f32, V m c main_arg5 = x := ⟨_, rfl⟩
  rw [h1] at e1 ⊢
  obtain ⟨x_arg7, h2⟩ : ∃ x : Arr S8192x8 .f32, V m c main_arg7 = x := ⟨_, rfl⟩
  rw [h2] at e2 ⊢
  pointwise
  rw [e0, e1, e2, max_real, max_real]
  rfl

theorem k_v68 (n : Fin 64) (r : Fin 128) (h : Fin 8) : V m c main_v68 (ix2 (rowOf n r) h) = (A.e0 n h r : EReal) := by
  rw [at_v68, at_v67]
  have e0 := k_v64 H
  have e1 := k_v66 H
  obtain ⟨x_v64, h0⟩ : ∃ x : Arr S8192x8 .f32, V m c main_v64 = x := ⟨_, rfl⟩
  rw [h0] at e0 ⊢
  obtain ⟨x_v66, h1⟩ : ∃ x : Arr S8192x8 .f32, V m c main_v66 = x := ⟨_, rfl⟩
  rw [h1] at e1 ⊢
  pointwise
  rw [e0, e1, ← EReal.coe_sub, exp_real]
  rfl

theorem k_v70 (n : Fin 64) (r : Fin 128) (h : Fin 8) : V m c main_v70 (ix2 (rowOf n r) h) = (A.e1 n h r : EReal) := by
  rw [at_v70, at_v69]
  have e0 := H.l1
  have e1 := k_v66 H
  obtain ⟨x_arg5, h0⟩ : ∃ x : Arr S8192x8 .f32, V m c main_arg5 = x := ⟨_, rfl⟩
  rw [h0] at e0 ⊢
  obtain ⟨x_v66, h1⟩ : ∃ x : Arr S8192x8 .f32, V m c main_v66 = x := ⟨_, rfl⟩
  rw [h1] at e1 ⊢
  pointwise
  rw [e0, e1, ← EReal.coe_sub, exp_real]
  rfl

theorem k_v72 (n : Fin 64) (r : Fin 128) (h : Fin 8) : V m c main_v72 (ix2 (rowOf n r) h) = (A.e2 n h r : EReal) := by
  rw [at_v72, at_v71]
  have e0 := H.l2
  have e1 := k_v66 H
  obtain ⟨x_arg7, h0⟩ : ∃ x : Arr S8192x8 .f32, V m c main_arg7 = x := ⟨_, rfl⟩
  rw [h0] at e0 ⊢
  obtain ⟨x_v66, h1⟩ : ∃ x : Arr S8192x8 .f32, V m c main_v66 = x := ⟨_, rfl⟩
  rw [h1] at e1 ⊢
  pointwise
  rw [e0, e1, ← EReal.coe_sub, exp_real]
  rfl

theorem k_v74 (n : Fin 64) (r : Fin 128) (h : Fin 8) : V m c main_v74 (ix2 (rowOf n r) h) = (A.den n h r : EReal) := by
  rw [at_v74, at_v73]
  have e0 := k_v68 H
  have e1 := k_v70 H
  have e2 := k_v72 H
  obtain ⟨x_v68, h0⟩ : ∃ x : Arr S8192x8 .f32, V m c main_v68 = x := ⟨_, rfl⟩
  rw [h0] at e0 ⊢
  obtain ⟨x_v70, h1⟩ : ∃ x : Arr S8192x8 .f32, V m c main_v70 = x := ⟨_, rfl⟩
  rw [h1] at e1 ⊢
  obtain ⟨x_v72, h2⟩ : ∃ x : Arr S8192x8 .f32, V m c main_v72 = x := ⟨_, rfl⟩
  rw [h2] at e2 ⊢
  pointwise
  rw [e0, e1, e2, ← EReal.coe_add, ← EReal.coe_add]
  rfl

theorem k_v77 (n : Fin 64) (r : Fin 128) (h : Fin 8) (d : Fin 64) : V m c main_v77 (ix3 (rowOf n r) h d) = ((A.e0 n h r * A.O n h r d : ℝ) : EReal) := by
  rw [at_v77, at_v76, at_v75]
  have e0 := k_v68 H
  have e1 := k_v62 H
  obtain ⟨x_v68, h0⟩ : ∃ x : Arr S8192x8 .f32, V m c main_v68 = x := ⟨_, rfl⟩
  rw [h0] at e0 ⊢
  obtain ⟨x_v62, h1⟩ : ∃ x : Arr S8192x8x64 .f32, V m c main_v62 = x := ⟨_, rfl⟩
  rw [h1] at e1 ⊢
  pointwise
  rw [e0, e1, ← EReal.coe_mul]

theorem k_v80 (n : Fin 64) (r : Fin 128) (h : Fin 8) (d : Fin 64) : V m c main_v80 (ix3 (rowOf n r) h d) = ((A.e1 n h r * A.o1 n r h d : ℝ) : EReal) := by
  rw [at_v80, at_v79, at_v78]
  have e0 := k_v70 H
  have e1 := H.o1
  obtain ⟨x_v70, h0⟩ : ∃ x : Arr S8192x8 .f32, V m c main_v70 = x := ⟨_, rfl⟩
  rw [h0] at e0 ⊢
  obtain ⟨x_arg4, h1⟩ : ∃ x : Arr S8192x8x64 .f32, V m c main_arg4 = x := ⟨_, rfl⟩
  rw [h1] at e1 ⊢
  pointwise
  rw [e0, e1, ← EReal.coe_mul]

theorem k_v84 (n : Fin 64) (r : Fin 128) (h : Fin 8) (d : Fin 64) : V m c main_v84 (ix3 (rowOf n r) h d) = ((A.e2 n h r * A.o2 n r h d : ℝ) : EReal) := by
  rw [at_v84, at_v83, at_v82]
  have e0 := k_v72 H
  have e1 := H.o2
  obtain ⟨x_v72, h0⟩ : ∃ x : Arr S8192x8 .f32, V m c main_v72 = x := ⟨_, rfl⟩
  rw [h0] at e0 ⊢
  obtain ⟨x_arg6, h1⟩ : ∃ x : Arr S8192x8x64 .f32, V m c main_arg6 = x := ⟨_, rfl⟩
  rw [h1] at e1 ⊢
  pointwise
  rw [e0, e1, ← EReal.coe_mul]

theorem k_v88 (n : Fin 64) (r : Fin 128) (h : Fin 8) (d : Fin 64) : V m c main_v88 (ix3 (rowOf n r) h d) = (A.out n h r d : EReal) := by
  rw [at_v88, at_v85, at_v81, at_v87, at_v86]
  have e0 := k_v77 H
  have e1 := k_v80 H
  have e2 := k_v84 H
  have e3 := k_v74 H
  obtain ⟨x_v77, h0⟩ : ∃ x : Arr S8192x8x64 .f32, V m c main_v77 = x := ⟨_, rfl⟩
  rw [h0] at e0 ⊢
  obtain ⟨x_v80, h1⟩ : ∃ x : Arr S8192x8x64 .f32, V m c main_v80 = x := ⟨_, rfl⟩
  rw [h1] at e1 ⊢
  obtain ⟨x_v84, h2⟩ : ∃ x : Arr S8192x8x64 .f32, V m c main_v84 = x := ⟨_, rfl⟩
  rw [h2] at e2 ⊢
  obtain ⟨x_v74, h3⟩ : ∃ x : Arr S8192x8 .f32, V m c main_v74 = x := ⟨_, rfl⟩
  rw [h3] at e3 ⊢
  pointwise
  rw [e0, e1, e2, e3, ← EReal.coe_add, ← EReal.coe_add, div_real (A.den_ne n h r)]
  rfl

theorem k_v90 (n : Fin 64) (r : Fin 128) (h : Fin 8) : V m c main_v90 (ix2 (rowOf n r) h) = (A.total n h r : EReal) := by
  rw [at_v90, at_v89]
  have e0 := k_v66 H
  have e1 := k_v74 H
  obtain ⟨x_v66, h0⟩ : ∃ x : Arr S8192x8 .f32, V m c main_v66 = x := ⟨_, rfl⟩
  rw [h0] at e0 ⊢
  obtain ⟨x_v74, h1⟩ : ∃ x : Arr S8192x8 .f32, V m c main_v74 = x := ⟨_, rfl⟩
  rw [h1] at e1 ⊢
  pointwise
  rw [e0, e1, log_real (A.den_pos n h r), ← EReal.coe_add]
  rfl

theorem k_v91 (n : Fin 64) (r : Fin 128) (h : Fin 8) (d : Fin 64) : V m c main_v91 (ix3 (rowOf n r) h d) = (A.g n r h d : EReal) := by
  rw [at_v91]
  exact (cast_heads h d _ _ _).trans (H.g n r h d)

theorem k_v92 (n : Fin 64) (r : Fin 128) (h : Fin 8) : V m c main_v92 (ix2 (rowOf n r) h) = (A.delta n h r : EReal) := by
  rw [at_v92]
  have e0 := k_v88 H
  have e1 := k_v91 H
  obtain ⟨x_v88, h0⟩ : ∃ x : Arr S8192x8x64 .f32, V m c main_v88 = x := ⟨_, rfl⟩
  rw [h0] at e0 ⊢
  obtain ⟨x_v91, h1⟩ : ∃ x : Arr S8192x8x64 .f32, V m c main_v91 = x := ⟨_, rfl⟩
  rw [h1] at e1 ⊢
  pointwise
  simp only [e0, e1, ← EReal.coe_mul, coe_sum]
  rfl

theorem k_v97 (n : Fin 64) (r : Fin 128) (h : Fin 8) (l : Fin 64) : V m c main_v97 (ix3 (rowOf n r) h l) = ((if l.val < 32 then A.total n h r else A.delta n h r : ℝ) : EReal) := by
  rw [at_v97, at_v94, at_v93, at_v96, at_v95]
  have e0 := k_v90 H
  have e1 := k_v92 H
  obtain ⟨x_v90, h0⟩ : ∃ x : Arr S8192x8 .f32, V m c main_v90 = x := ⟨_, rfl⟩
  rw [h0] at e0 ⊢
  obtain ⟨x_v92, h1⟩ : ∃ x : Arr S8192x8 .f32, V m c main_v92 = x := ⟨_, rfl⟩
  rw [h1] at e1 ⊢
  pointwise
  by_cases hl : l.val < 32
  · rw [dif_pos hl, if_pos hl, e0]
  · rw [dif_neg hl, if_neg hl, e1]

theorem k_v98 (n : Fin 64) (r : Fin 128) (h : Fin 8) (l : Fin 64) : V m c main_v98 (ix3 0 (rowOf n r) (laneOf h l)) = ((if l.val < 32 then A.total n h r else A.delta n h r : ℝ) : EReal) := by
  rw [at_v98]
  exact (cast_lanes h l _ _ _).trans (k_v97 H n r h l)

theorem k_v113 (h : Fin 8) (r : Fin 128) (j : Fin 256) : V m c main_v113 (ix3 (⟨h.val, by omega⟩ : Fin 24) r j) = (if r.val ≤ j.val ∧ j.val ≤ r.val + 128 then (A.b h r j : EReal) else ⊥ : EReal) := by
  rw [at_v113, at_call1_v1, at_call1_v2, at_call1_v0, at_cst_11]
  have e0 := k_v112 m c
  have e1 := H.b
  obtain ⟨x_v112, h0⟩ : ∃ x : Arr S128x256 .i1, V m c main_v112 = x := ⟨_, rfl⟩
  rw [h0] at e0 ⊢
  obtain ⟨x_arg3, h1⟩ : ∃ x : Arr S24x128x256 .f32, V m c main_arg3 = x := ⟨_, rfl⟩
  rw [h1] at e1 ⊢
  pointwise
  rw [e0, e1]
  refine (congrArg (Scalar.select _ _) (show _ = (⊥ : EReal) from negInf)).trans ?_
  by_cases hj : r.val ≤ j.val ∧ j.val ≤ r.val + 128
  · rw [if_pos hj, if_pos hj]; rfl
  · rw [if_neg hj, if_neg hj]; rfl

theorem k_v114 (n : Fin 64) (r : Fin 128) (h : Fin 8) (l : Fin 64) : V m c main_v114 (ix3 0 (rowOf n r) (laneOf h l)) = (A.q n r h l : EReal) := by
  rw [at_v114]
  have e0 := H.q
  obtain ⟨x_arg0, h0⟩ : ∃ x : Arr S1x8192x512 .f32, V m c main_arg0 = x := ⟨_, rfl⟩
  rw [h0] at e0 ⊢
  pointwise
  exact e0 n r h l

theorem k_v115 (n : Fin 64) (r : Fin 128) (h : Fin 8) (l : Fin 64) : V m c main_v115 (ix3 0 (rowOf n r) (laneOf h l)) = (A.k n r h l : EReal) := by
  rw [at_v115]
  have e0 := H.k
  obtain ⟨x_arg1, h0⟩ : ∃ x : Arr S1x8192x512 .f32, V m c main_arg1 = x := ⟨_, rfl⟩
  rw [h0] at e0 ⊢
  pointwise
  exact e0 n r h l

theorem k_v116 (n : Fin 64) (r : Fin 128) (h : Fin 8) (l : Fin 64) : V m c main_v116 (ix3 0 (rowOf n r) (laneOf h l)) = (A.v n r h l : EReal) := by
  rw [at_v116]
  have e0 := H.v
  obtain ⟨x_arg2, h0⟩ : ∃ x : Arr S1x8192x512 .f32, V m c main_arg2 = x := ⟨_, rfl⟩
  rw [h0] at e0 ⊢
  pointwise
  exact e0 n r h l

theorem k_v117 (n : Fin 64) (r : Fin 128) (h : Fin 8) (l : Fin 64) : V m c main_v117 (ix3 0 (rowOf n r) (laneOf h l)) = (A.g n r h l : EReal) := by
  rw [at_v117]
  have e0 := H.g
  obtain ⟨x_arg8, h0⟩ : ∃ x : Arr S1x8192x512 .f32, V m c main_arg8 = x := ⟨_, rfl⟩
  rw [h0] at e0 ⊢
  pointwise
  exact e0 n r h l

end

end Cert.KernelIdeal.Host

end
-- ==== Proof.KerTile.lean ====
/- A tile's operands and blocks as real numbers. -/
module

public import proofs.«01_k».proof.Proof.Region
public import proofs.«01_k».proof.Proof.TileRead
public import proofs.«01_k».proof.Proof.KerRead
public import Idealize.ShloMosaic.Lib.Pipeline.ValueKit

@[expose] public section

set_option maxRecDepth 16384

noncomputable section

namespace Cert.KernelIdeal.Body

open Cert.KernelIdeal Cert.KernelIdeal.Gen Cert.Attn
open Idealize.ShloMosaic Idealize.ShloMosaic.TcCoe Idealize.SL.Sem

variable (m : (ℓ : Loc nD τ sig) → Buf (Elt Ideal) ℓ) (c : Dev nD)

/-! ## Where the blocks sit -/

theorem idx_in : ∀ t : Fin cfg0.N, win0_0.index t = ![0, min t.val 63, 0] ∧ win0_1.index t = ![0, min t.val 63, 0] ∧ win0_2.index t = ![0, min t.val 63, 0]
    ∧ win0_3.index t = ![0, 0, 0] ∧ win0_4.index t = ![0, min t.val 63, 0] ∧ win0_5.index t = ![0, min t.val 63, 0] :=
  (by decide +kernel : ∀ t : Fin grid0.N, _)

theorem coord_pt : ∀ n : Fin 64, (grid0.coords (pt n.val) 1).val = n.val := by decide +kernel

theorem pt_min (n : Fin 64) : min (pt n.val).val 63 = n.val := by
  show min (min n.val 64) 63 = n.val
  omega

theorem word_zero : ∀ n : Fin 64, (BitVec.ofNat 32 n.val = 0#32) = (n.val = 0) := by
  intro n; refine propext ⟨fun h => ?_, fun h => by rw [h]⟩
  have := congrArg BitVec.toNat h
  simp at this; omega

/-- The block of the queries, keys, values, cotangents and statistics at a point, and the block of the bias. -/
theorem block_q (n : Fin 64) (r : Fin 128) (x : Fin 512) : iblk m c 0 (pt n.val) (ix3 0 r x) = V m c main_v114 (ix3 0 (rowOf n r) x) := by
  blk_simp [iblk]
  refine congrArg (V m c main_v114) ?_
  blk_ext [(idx_in (pt n.val)).1, pt_min n, rowOf]
theorem block_k (n : Fin 64) (r : Fin 128) (x : Fin 512) : iblk m c 1 (pt n.val) (ix3 0 r x) = V m c main_v115 (ix3 0 (rowOf n r) x) := by
  blk_simp [iblk]
  refine congrArg (V m c main_v115) ?_
  blk_ext [(idx_in (pt n.val)).2.1, pt_min n, rowOf]
theorem block_v (n : Fin 64) (r : Fin 128) (x : Fin 512) : iblk m c 2 (pt n.val) (ix3 0 r x) = V m c main_v116 (ix3 0 (rowOf n r) x) := by
  blk_simp [iblk]
  refine congrArg (V m c main_v116) ?_
  blk_ext [(idx_in (pt n.val)).2.2.1, pt_min n, rowOf]
theorem block_b (n : Fin 64) (h : Fin 8) (r : Fin 128) (j : Fin 256) :
    iblk m c 3 (pt n.val) (ix3 h r j) = V m c main_v113 (ix3 (⟨h.val, by omega⟩ : Fin 24) r j) := by
  blk_simp [iblk]
  refine congrArg (V m c main_v113) ?_
  blk_ext [(idx_in (pt n.val)).2.2.2.1]
theorem block_g (n : Fin 64) (r : Fin 128) (x : Fin 512) : iblk m c 4 (pt n.val) (ix3 0 r x) = V m c main_v117 (ix3 0 (rowOf n r) x) := by
  blk_simp [iblk]
  refine congrArg (V m c main_v117) ?_
  blk_ext [(idx_in (pt n.val)).2.2.2.2.1, pt_min n, rowOf]
theorem read_t (X : Vec Ideal S1x8192x512 .f32) (n : Fin 64) (r : Fin 128) (x : Fin 512) :
    ((cfg0.win 5).blk (pt n.val)).view.read (Elt Ideal) X (ix3 0 r x) = X (ix3 0 (rowOf n r) x) := by
  blk_simp
  refine congrArg X ?_
  blk_ext [(idx_in (pt n.val)).2.2.2.2.2, pt_min n, rowOf]
theorem block_t (n : Fin 64) (r : Fin 128) (x : Fin 512) : iblk m c 5 (pt n.val) (ix3 0 r x) = V m c main_v98 (ix3 0 (rowOf n r) x) :=
  read_t (V m c main_v98) n r x

/-! ## The carried blocks -/

theorem zero_bf (i : S128x512.Idx) : (k0_pay2 (F := Ideal)) i = (0 : EReal) := by pointwise [k0_pay2]
theorem zero_bf' (i : S128x512.Idx) : (k0_pay3 (F := Ideal)) i = (0 : EReal) := by pointwise [k0_pay3]
theorem zero_f (i : S128x512.Idx) : (k0_pay4 (F := Ideal)) i = (0 : EReal) := by pointwise [k0_pay4]
theorem zero_f' (i : S128x512.Idx) : (k0_pay5 (F := Ideal)) i = (0 : EReal) := by pointwise [k0_pay5]
theorem zero_b (i : S8x128x256.Idx) : (k0_pay1 (F := Ideal)) i = (0 : EReal) := by pointwise [k0_pay1]
theorem carry_k (x : Vec Ideal S1x128x512 .bf16) (r : Fin 128) (y : Fin 512) : k0_pay9 (k0_pay36 x) (ix2 r y) = x (ix3 0 r y) := by
  pointwise [k0_pay9, k0_pay36]
theorem carry_v (x : Vec Ideal S1x128x512 .bf16) (r : Fin 128) (y : Fin 512) : k0_pay10 (k0_pay37 x) (ix2 r y) = x (ix3 0 r y) := by
  pointwise [k0_pay10, k0_pay37]
theorem last_k (x : Vec Ideal S128x512 .f32) (r : Fin 128) (y : Fin 512) : k0_pay11 x (ix3 0 r y) = x (ix2 r y) := by
  pointwise [k0_pay11]
theorem last_v (x : Vec Ideal S128x512 .f32) (r : Fin 128) (y : Fin 512) : k0_pay12 x (ix3 0 r y) = x (ix2 r y) := by
  pointwise [k0_pay12]

/-! ## The tile's operands as real numbers -/

section
variable {m c} {A : Args} (H : Host.Reads m c A) (n : Fin 64)

include H in
theorem tile_q (h : Fin 8) (r : Fin 128) (l : Fin 64) : (tileAt m c n.val).Q h r l = (A.q n r h l : EReal) :=
  (block_q m c n r (lane8 h l)).trans (Host.k_v114 H n r h l)
include H in
theorem tile_g (h : Fin 8) (r : Fin 128) (l : Fin 64) : (tileAt m c n.val).G h r l = (A.g n r h l : EReal) :=
  (block_g m c n r (lane8 h l)).trans (Host.k_v117 H n r h l)

include H in
theorem carried_k (h : Fin 8) (r : Fin 128) (l : Fin 64) :
    kpAt m c n.val (ix2 r (lane8 h l)) = ((if hn : 0 < n.val then A.k ⟨n.val - 1, by omega⟩ r h l else 0 : ℝ) : EReal) := by
  obtain ⟨n, hn⟩ := n
  cases n with
  | zero => rw [dif_neg (by simp)]; exact zero_bf _
  | succ k =>
    rw [dif_pos (by simp)]
    refine (carry_k (iblk m c 1 (pt k)) r (lane8 h l)).trans ?_
    exact (block_k m c ⟨k, by omega⟩ r (lane8 h l)).trans (Host.k_v115 H ⟨k, by omega⟩ r h l)
include H in
theorem carried_v (h : Fin 8) (r : Fin 128) (l : Fin 64) :
    vpAt m c n.val (ix2 r (lane8 h l)) = ((if hn : 0 < n.val then A.v ⟨n.val - 1, by omega⟩ r h l else 0 : ℝ) : EReal) := by
  obtain ⟨n, hn⟩ := n
  cases n with
  | zero => rw [dif_neg (by simp)]; exact zero_bf' _
  | succ k =>
    rw [dif_pos (by simp)]
    refine (carry_v (iblk m c 2 (pt k)) r (lane8 h l)).trans ?_
    exact (block_v m c ⟨k, by omega⟩ r (lane8 h l)).trans (Host.k_v116 H ⟨k, by omega⟩ r h l)

include H in
theorem tile_k (h : Fin 8) (j : Fin 256) (l : Fin 64) : (tileAt m c n.val).K h j l = (win A.k n j h l : EReal) := by
  unfold Tile.K win
  by_cases hj : j.val < 128
  · rw [dif_pos hj, dif_pos hj]; exact carried_k H n h ⟨j.val, hj⟩ l
  · rw [dif_neg hj, dif_neg hj]
    exact (block_k m c n ⟨j.val - 128, by omega⟩ (lane8 h l)).trans (Host.k_v115 H n ⟨j.val - 128, by omega⟩ h l)
include H in
theorem tile_v (h : Fin 8) (j : Fin 256) (l : Fin 64) : (tileAt m c n.val).V h j l = (win A.v n j h l : EReal) := by
  unfold Tile.V win
  by_cases hj : j.val < 128
  · rw [dif_pos hj, dif_pos hj]; exact carried_v H n h ⟨j.val, hj⟩ l
  · rw [dif_neg hj, dif_neg hj]
    exact (block_v m c n ⟨j.val - 128, by omega⟩ (lane8 h l)).trans (Host.k_v116 H n ⟨j.val - 128, by omega⟩ h l)

include H in
theorem tile_b (h : Fin 8) (r : Fin 128) (j : Fin 256) :
    (tileAt m c n.val).B h r j = if r.val ≤ j.val ∧ j.val ≤ r.val + 128 then (A.b h r j : EReal) else ⊥ :=
  (block_b m c n h r j).trans (Host.k_v113 H h r j)

theorem tile_m (r : Fin 128) (j : Fin 256) : (tileAt m c n.val).M r j = if n.val = 0 ∧ j.val < 128 then 1#1 else 0#1 := by
  refine (first_at (BitVec.ofNat 32 (grid0.coords (pt n.val) 1).val) r j).trans ?_
  rw [coord_pt n]
  simp only [word_zero n]

/-- The saved normaliser and inner product, as the tile reads them. -/
abbrev normal (A : Args) (n : Fin 64) : Fin 8 → Fin 128 → EReal := fun h r => (A.total n h r : EReal)
abbrev inner (A : Args) (n : Fin 64) : Fin 8 → Fin 128 → EReal := fun h r => (A.delta n h r : EReal)

include H in
theorem tile_t (h : Fin 8) (r : Fin 128) (l : Fin 64) (hl : l.val < 32) : (tileAt m c n.val).st (ix3 0 r (lane8 h l)) = normal A n h r :=
  (block_t m c n r (lane8 h l)).trans ((Host.k_v98 H n r h l).trans (by rw [if_pos hl]))
include H in
theorem tile_d (h : Fin 8) (r : Fin 128) (l : Fin 64) (hl : ¬l.val < 32) : (tileAt m c n.val).st (ix3 0 r (lane8 h l)) = inner A n h r :=
  (block_t m c n r (lane8 h l)).trans ((Host.k_v98 H n r h l).trans (by rw [if_neg hl]))

/-! ## Its scores, weights and gradients -/

include H in
theorem tile_S (h : Fin 8) (r : Fin 128) (j : Fin 256) :
    headS ((tileAt m c n.val).Q h) ((tileAt m c n.val).K h) ((tileAt m c n.val).B h) (tileAt m c n.val).M r j = A.S n h r j := by
  unfold headS Args.S
  rw [tile_m, tile_b H, Finset.sum_congr rfl fun l _ => congrArg₂ (· * ·) (tile_q H n h r l) (tile_k H n h j l)]
  by_cases h1 : n.val = 0 ∧ j.val < 128
  · rw [if_pos h1, if_pos rfl, if_neg (by rintro ⟨_, h2 | h2⟩ <;> omega)]
  · rw [if_neg h1, if_neg (by decide)]
    by_cases h2 : r.val ≤ j.val ∧ j.val ≤ r.val + 128
    · rw [if_pos h2, if_pos ⟨h2, by omega⟩, Args.lg, EReal.coe_add, ← coe_sum]
      simp only [EReal.coe_mul]
    · rw [if_neg h2, if_neg fun h3 => h2 h3.1, EReal.add_bot]

include H in
theorem tile_P (h : Fin 8) (r : Fin 128) (j : Fin 256) :
    headP ((tileAt m c n.val).Q h) ((tileAt m c n.val).K h) ((tileAt m c n.val).B h) (tileAt m c n.val).M (normal A n h) r j = (A.kP n h r j : EReal) := by
  unfold headP
  rw [tile_S H n h r j]
  exact A.S_exp n h r (A.total n h r) j

include H in
theorem tile_D (h : Fin 8) (r : Fin 128) (j : Fin 256) : (tileAt m c n.val).sD (normal A n) (inner A n) h r j = (A.kD n h r j : EReal) := by
  unfold Tile.sD headD
  rw [tile_P H n h r j, Finset.sum_congr rfl fun l _ => congrArg₂ (· * ·) (tile_g H n h r l) (tile_v H n h j l)]
  rw [Args.kD, Args.X, EReal.coe_mul, EReal.coe_sub, ← coe_sum]
  simp only [EReal.coe_mul]

include H in
theorem tile_Dq (h : Fin 8) (r : Fin 128) (l : Fin 64) : (tileAt m c n.val).sDq (normal A n) (inner A n) h r l = (A.dqOf n r h l : EReal) := by
  unfold Tile.sDq headDq
  rw [Finset.sum_congr rfl fun j _ => congrArg₂ (· * ·) (tile_D H n h r j) (tile_k H n h j l)]
  rw [Args.dqOf, ← coe_sum]
  simp only [EReal.coe_mul]
include H in
theorem tile_Dk (h : Fin 8) (j : Fin 256) (l : Fin 64) : (tileAt m c n.val).sDk (normal A n) (inner A n) h j l = (A.dkAt n j h l : EReal) := by
  unfold Tile.sDk headDk
  rw [Finset.sum_congr rfl fun r _ => congrArg₂ (· * ·) (tile_D H n h r j) (tile_q H n h r l)]
  rw [Args.dkAt, ← coe_sum]
  simp only [EReal.coe_mul]
include H in
theorem tile_Dv (h : Fin 8) (j : Fin 256) (l : Fin 64) : (tileAt m c n.val).sDv (normal A n) h j l = (A.dvAt n j h l : EReal) := by
  unfold Tile.sDv headDv
  rw [Finset.sum_congr rfl fun r _ => congrArg₂ (· * ·) (tile_P H n h r j) (tile_g H n h r l)]
  rw [Args.dvAt, ← coe_sum]
  simp only [EReal.coe_mul]

/-! ## The sums carried -/

include H in
theorem sum_k (r : Fin 128) (h : Fin 8) (l : Fin 64) : ckAt m c (n.val + 1) (ix2 r (lane8 h l)) = (A.dkAt n ⟨128 + r.val, by omega⟩ h l : EReal) :=
  ((tileAt m c n.val).ck_at (normal A n) (inner A n) (tile_t H n) (tile_d H n) h r l).trans (tile_Dk H n h _ l)
include H in
theorem sum_v (r : Fin 128) (h : Fin 8) (l : Fin 64) : cvAt m c (n.val + 1) (ix2 r (lane8 h l)) = (A.dvAt n ⟨128 + r.val, by omega⟩ h l : EReal) :=
  ((tileAt m c n.val).cv_at (normal A n) (tile_t H n) h r l).trans (tile_Dv H n h _ l)

include H in
theorem sum_b (h : Fin 8) (r : Fin 128) (j : Fin 256) : ∀ k : ℕ, k ≤ 64 →
    dbAt m c k (ix3 h r j) = ((∑ n : Fin 64, if n.val < k then A.kD n h r j else 0 : ℝ) : EReal)
  | 0, _ => by
    refine (zero_b _).trans ?_
    rw [Finset.sum_eq_zero fun n _ => if_neg (Nat.not_lt_zero _), EReal.coe_zero]
  | k + 1, hk => by
    have e := ((tileAt m c k).db_at (normal A ⟨k, hk⟩) (inner A ⟨k, hk⟩) (tile_t H ⟨k, hk⟩) (tile_d H ⟨k, hk⟩) (dbAt m c k) h r j).trans
      (congrArg₂ (· + ·) (sum_b h r j k (by omega)) (tile_D H ⟨k, hk⟩ h r j))
    refine e.trans ?_
    have e' : (∑ n : Fin 64, if n.val < k + 1 then A.kD n h r j else 0) = (∑ n : Fin 64, if n.val < k then A.kD n h r j else 0) + A.kD ⟨k, hk⟩ h r j := by
      have e1 : A.kD ⟨k, hk⟩ h r j = ∑ n : Fin 64, if n = ⟨k, hk⟩ then A.kD n h r j else 0 := by
        rw [Finset.sum_ite_eq' Finset.univ (⟨k, hk⟩ : Fin 64) fun n => A.kD n h r j, if_pos (Finset.mem_univ _)]
      rw [e1, ← Finset.sum_add_distrib]
      refine Finset.sum_congr rfl fun n _ => ?_
      by_cases h1 : n.val < k
      · rw [if_pos h1, if_pos (by omega), if_neg (by rintro rfl; exact lt_irrefl _ h1), add_zero]
      · by_cases h2 : n.val = k
        · rw [if_neg h1, if_pos (by omega), if_pos (Fin.ext h2), zero_add]
        · rw [if_neg h1, if_neg (by omega), if_neg fun h3 => h2 (congrArg Fin.val h3), add_zero]
    rw [e', EReal.coe_add]
end

end Cert.KernelIdeal.Body

end
-- ==== Proof.Final.lean ====
/- What the kernel leaves in its four results, as real numbers. -/
module

public import proofs.«01_k».proof.Proof.KerTile

@[expose] public section

set_option maxRecDepth 16384

noncomputable section

namespace Cert.KernelIdeal.Body

open Cert.KernelIdeal Cert.KernelIdeal.Gen Cert.Attn
open Idealize.ShloMosaic Idealize.ShloMosaic.TcCoe Idealize.SL.Sem
open Idealize.ShloMosaic.Pipeline (Dat)

variable {m : (ℓ : Loc nD τ sig) → Buf (Elt Ideal) ℓ} {c : Dev nD} {A : Args} (H : Host.Reads m c A)

theorem point_all {α : Type} (f g : S1x128x512.Idx → α) (hfg : ∀ r x, f (ix3 0 r x) = g (ix3 0 r x)) (y : S1x128x512.Idx) : f y = g y := by
  idx_vars y
  rw [show y0 = 0 from Subsingleton.elim _ _]
  exact hfg y1 y2
theorem point_each {α : Type} (f g : S8x128x256.Idx → α) (hfg : ∀ h r j, f (ix3 h r j) = g (ix3 h r j)) (y : S8x128x256.Idx) : f y = g y := by
  idx_vars y
  exact hfg y0 y1 y2

/-! ## What a point leaves -/

include H in
theorem out_q (n : Fin 64) (t : ℕ) (ht : min t 63 = n.val) (r : Fin 128) (h : Fin 8) (l : Fin 64) :
    dqOut m c t (ix3 0 r (lane8 h l)) = (A.dqOf n r h l : EReal) := by
  unfold dqOut; rw [ht]
  exact ((tileAt m c n.val).dq_at (normal A n) (inner A n) (tile_t H n) (tile_d H n) h r l).trans (tile_Dq H n h r l)

include H in
theorem out_k (n : Fin 64) (r : Fin 128) (h : Fin 8) (l : Fin 64) : dkOut m c (n.val + 1) (ix3 0 r (lane8 h l)) = (A.dkOf n r h l : EReal) := by
  unfold dkOut Args.dkOf
  by_cases hn : n.val + 1 < 64
  · rw [if_pos hn, dif_pos (by omega), EReal.coe_add]
    exact ((tileAt m c (n.val + 1)).dk_at (normal A ⟨n.val + 1, hn⟩) (inner A ⟨n.val + 1, hn⟩) (tile_t H ⟨n.val + 1, hn⟩) (tile_d H ⟨n.val + 1, hn⟩)
      (ckAt m c (n.val + 1)) h r l).trans (congrArg₂ (· + ·) (sum_k H n r h l) (tile_Dk H ⟨n.val + 1, hn⟩ h _ l))
  · rw [if_neg hn, dif_neg (by omega), add_zero]
    refine (last_k _ r (lane8 h l)).trans ?_
    rw [show (64 : ℕ) = n.val + 1 by omega]
    exact sum_k H n r h l

include H in
theorem out_v (n : Fin 64) (r : Fin 128) (h : Fin 8) (l : Fin 64) : dvOut m c (n.val + 1) (ix3 0 r (lane8 h l)) = (A.dvOf n r h l : EReal) := by
  unfold dvOut Args.dvOf
  by_cases hn : n.val + 1 < 64
  · rw [if_pos hn, dif_pos (by omega), EReal.coe_add]
    exact ((tileAt m c (n.val + 1)).dv_at (normal A ⟨n.val + 1, hn⟩) (tile_t H ⟨n.val + 1, hn⟩)
      (cvAt m c (n.val + 1)) h r l).trans (congrArg₂ (· + ·) (sum_v H n r h l) (tile_Dv H ⟨n.val + 1, hn⟩ h _ l))
  · rw [if_neg hn, dif_neg (by omega), add_zero]
    refine (last_v _ r (lane8 h l)).trans ?_
    rw [show (64 : ℕ) = n.val + 1 by omega]
    exact sum_v H n r h l

include H in
theorem out_b (h : Fin 8) (r : Fin 128) (j : Fin 256) : dbAt m c 64 (ix3 h r j) = (A.dbOf h r j : EReal) := by
  refine (sum_b H h r j 64 le_rfl).trans ?_
  unfold Args.dbOf
  rw [Finset.sum_congr rfl fun n _ => if_pos n.isLt]

/-! ## Where the blocks of the results sit, and when they are written back -/

theorem idx_out : ∀ t : Fin cfg0.N, win0_6.index t = ![0, min t.val 63, 0] ∧ win0_7.index t = ![0, t.val - 1, 0] ∧ win0_8.index t = ![0, t.val - 1, 0]
    ∧ win0_9.index t = ![0, 0, 0] :=
  (by decide +kernel : ∀ t : Fin grid0.N, _)

theorem flush_k : ∀ t : Fin cfg0.N, (cfg0.win 7).flush t = true → 0 < t.val := by decide +kernel
theorem flush_v : ∀ t : Fin cfg0.N, (cfg0.win 8).flush t = true → 0 < t.val := by decide +kernel
theorem flush_b : ∀ t : Fin cfg0.N, (cfg0.win 9).flush t = true → t.val = 64 := by decide +kernel

theorem emb_q (t : Fin cfg0.N) (n : Fin 64) (hn : min t.val 63 = n.val) (r : Fin 128) (x : Fin 512) :
    ((cfg0.win 6).blk t).view.emb (ix3 0 r x) = ix3 (0 : Fin 1) (rowOf n r) x := by
  blk_ext [(idx_out t).1, hn, rowOf]
theorem emb_k (t : Fin cfg0.N) (n : Fin 64) (hn : t.val - 1 = n.val) (r : Fin 128) (x : Fin 512) :
    ((cfg0.win 7).blk t).view.emb (ix3 0 r x) = ix3 (0 : Fin 1) (rowOf n r) x := by
  blk_ext [(idx_out t).2.1, hn, rowOf]
theorem emb_v (t : Fin cfg0.N) (n : Fin 64) (hn : t.val - 1 = n.val) (r : Fin 128) (x : Fin 512) :
    ((cfg0.win 8).blk t).view.emb (ix3 0 r x) = ix3 (0 : Fin 1) (rowOf n r) x := by
  blk_ext [(idx_out t).2.2.1, hn, rowOf]
theorem emb_b (t : Fin cfg0.N) (h : Fin 8) (r : Fin 128) (j : Fin 256) :
    ((cfg0.win 9).blk t).view.emb (ix3 h r j) = ix3 h r j := by
  blk_ext [(idx_out t).2.2.2]

/-! ## The four results -/

include H in
theorem final_q (X : Vec Ideal S1x8192x512 .f32) (hX : ∀ n r h l, X (ix3 0 (rowOf n r) (laneOf h l)) = (A.dqOf n r h l : EReal)) :
    (dats m 0 c).arrAt 6 (cfgs 0).N = X := by
  refine (dats m 0 c).arrAt_eq_of_covers 6 _ (by decide +kernel) fun t hf y => ?_
  blk_simp
  rw [after_6]
  have point : ∀ (r : Fin 128) (x : Fin 512), dqOut m c t.val (ix3 0 r x) = X (((cfg0.win 6).blk t).view.emb (ix3 0 r x)) := fun r x => by
    rw [emb_q t ⟨min t.val 63, by omega⟩ rfl r x, eq_lane x, hX]
    exact out_q H ⟨min t.val 63, by omega⟩ t.val rfl r _ _
  exact point_all (dqOut m c t.val) (fun y => X (((cfg0.win 6).blk t).view.emb y)) point y

include H in
theorem final_k (X : Vec Ideal S1x8192x512 .f32) (hX : ∀ n r h l, X (ix3 0 (rowOf n r) (laneOf h l)) = (A.dkOf n r h l : EReal)) :
    (dats m 0 c).arrAt 7 (cfgs 0).N = X := by
  refine (dats m 0 c).arrAt_eq_of_covers 7 _ (by decide +kernel) fun t hf y => ?_
  blk_simp
  rw [after_7]
  have h0 := flush_k t hf
  have h1 : t.val < 65 := lt_of_lt_of_eq t.isLt N_0
  obtain ⟨n, e⟩ : ∃ n : Fin 64, t.val = n.val + 1 := ⟨⟨t.val - 1, by omega⟩, by show t.val = t.val - 1 + 1; omega⟩
  have point : ∀ (r : Fin 128) (x : Fin 512), dkOut m c t.val (ix3 0 r x) = X (((cfg0.win 7).blk t).view.emb (ix3 0 r x)) := fun r x => by
    rw [emb_k t n (by omega) r x, eq_lane x, hX, e]
    exact out_k H n r _ _
  exact point_all (dkOut m c t.val) (fun y => X (((cfg0.win 7).blk t).view.emb y)) point y

include H in
theorem final_v (X : Vec Ideal S1x8192x512 .bf16) (hX : ∀ n r h l, X (ix3 0 (rowOf n r) (laneOf h l)) = (A.dvOf n r h l : EReal)) :
    (dats m 0 c).arrAt 8 (cfgs 0).N = X := by
  refine (dats m 0 c).arrAt_eq_of_covers 8 _ (by decide +kernel) fun t hf y => ?_
  blk_simp
  rw [after_8]
  have h0 := flush_v t hf
  have h1 : t.val < 65 := lt_of_lt_of_eq t.isLt N_0
  obtain ⟨n, e⟩ : ∃ n : Fin 64, t.val = n.val + 1 := ⟨⟨t.val - 1, by omega⟩, by show t.val = t.val - 1 + 1; omega⟩
  have point : ∀ (r : Fin 128) (x : Fin 512), dvOut m c t.val (ix3 0 r x) = X (((cfg0.win 8).blk t).view.emb (ix3 0 r x)) := fun r x => by
    rw [emb_v t n (by omega) r x, eq_lane x, hX, e]
    exact out_v H n r _ _
  exact point_all (dvOut m c t.val) (fun y => X (((cfg0.win 8).blk t).view.emb y)) point y

include H in
theorem final_b (X : Vec Ideal S8x128x256 .f32) (hX : ∀ h r j, X (ix3 h r j) = (A.dbOf h r j : EReal)) :
    (dats m 0 c).arrAt 9 (cfgs 0).N = X := by
  refine (dats m 0 c).arrAt_eq_of_covers 9 _ (by decide +kernel) fun t hf y => ?_
  blk_simp
  rw [after_9]
  have h0 := flush_b t hf
  have point : ∀ (h : Fin 8) (r : Fin 128) (j : Fin 256), dbOut m c t.val (ix3 h r j) = X (((cfg0.win 9).blk t).view.emb (ix3 h r j)) := fun h r j => by
    rw [emb_b t h r j, hX]
    unfold dbOut
    rw [h0]
    exact out_b H h r j
  exact point_each (dbOut m c t.val) (fun y => X (((cfg0.win 9).blk t).view.emb y)) point y

end Cert.KernelIdeal.Body

end
-- ==== Proof.RefEq.lean ====
/- The reference's operations, one equation each: what an operation leaves in its buffer, from what its operands hold. -/
module

public import proofs.«01_k».proof.Proof.Gen.ReferenceIdeal.Run
public import proofs.«01_k».proof.Proof.HostLine
public import Idealize.ShloMosaic.Lib.Pointwise

@[expose] public section

set_option maxRecDepth 16384
set_option maxHeartbeats 2000000

noncomputable section

namespace Cert.ReferenceIdeal.Line

open Cert.ReferenceIdeal Cert.ReferenceIdeal.Gen Cert.ReferenceIdeal.Value
open Idealize.ShloMosaic Idealize.ShloMosaic.TcCoe Idealize.ShloMosaic.StableHlo Idealize.SL.Sem
open Cert.HostLine (Arr)

variable (m : (ℓ : Loc nD τ sig) → Buf (Elt Ideal) ℓ) (c : Dev nD)

/-- The buffers the operations write, in order. -/
abbrev opsW : List (Ref sig .tc) := [main_v0, main_v1, main_v2, main_v3, main_v4, main_cst, main_v5, main_v6, main_v7, main_cst_0, main_v8, main_v9, main_v10, main_cst_1, main_v11, main_v12, main_v13, main_cst_2, main_v14, main_v15, main_v16, main_v17, main_c, main_v18, main_v19, main_v20, main_v21, main_v22, main_v23, main_v24, main_c_3, main_v25, main_v26, main_c_4, main_v27, main_v28, main_v29, main_v30, main_v31, main_c_5, main_v32, main_v33, main_v34, main_c_6, main_v35, main_v36, main_v37, main_v38, main_v39, main_v40, main_v41, main_v42, main_v43, main_v44, main_v45, main_v46, main_v47, main_v48, main_cst_7, main_call0_v0, main_v49_1, main_call0_v2, main_v49_0, main_call0_cst, main_v49_2, main_cst_8, main_v50, main_v51, main_v52, main_v53, main_v54, main_cst_9, main_v55, main_v56, main_v57, main_v58, main_v59, main_cst_10, main_v60, main_v61, main_v62, main_v63, main_v64, main_cst_11, main_v65, main_v66, main_v67, main_v68, main_v69, main_v70, main_v71, main_v72, main_v73, main_v74, main_v75, main_v76, main_v77, main_v78, main_cst_12, main_v79, main_cst_13, main_v80, main_cst_14, main_v81, main_v82, main_v83, main_v84, main_v85, main_cst_15, main_v86, main_cst_16, main_v87, main_v88, main_cst_17, main_v89, main_v90, main_cst_18, main_v91, main_v92, main_cst_19, main_v93, main_cst_20, main_v94, main_cst_21, main_v95, main_v96, main_v97, main_v98, main_v99, main_v100, main_v101, main_cst_22, main_v102, main_v103, main_v104, main_v105, main_v106, main_cst_23, main_v107, main_v108, main_v109, main_v110, main_v111, main_v112, main_v113, main_cst_24, main_v114, main_cst_25, main_v115, main_v116, main_v117, main_cst_26, main_v118, main_v119, main_v120, main_v121, main_v122, main_v123, main_v124, main_cst_27, main_v125, main_v126, main_v127, main_v128, main_v129, main_v130, main_v131, main_v132, main_cst_28, main_v133, main_v134, main_v135, main_v136, main_cst_29, main_v137, main_v138, main_v139, main_v140, main_v141, main_cst_30, main_v142, main_v143, main_v144, main_v145, main_v146, main_v147, main_v148, main_v149, main_v150, main_v151, main_v152, main_v153, main_v154, main_v155, main_v156, main_v157, main_v158, main_v159, main_v160, main_v161, main_v162, main_v163, main_cst_31, main_v164, main_v165, main_v166, main_v167, main_v168, main_v169, main_cst_32, main_v170, main_v171, main_v172, main_v173, main_v174, main_cst_33, main_v175, main_v176, main_v177, main_cst_34, main_v178, main_v179, main_v180, main_v181, main_v182, main_call1_cst, main_call1_v0, main_v183, main_cst_35, main_v184, main_v185, main_cst_36, main_v186, main_v187, main_v188, main_v189, main_v190, main_v191, main_v192, main_v193, main_v194, main_cst_37, main_v195, main_v196, main_v197, main_v198, main_v199, main_v200, main_cst_38, main_v201, main_v202, main_v203, main_v204, main_v205, main_v206]

set_option maxHeartbeats 4000000 in
theorem writes : (ops (F := Ideal)).map HloOp.writes = opsW.map fun w => {Proc.devRef (τ := τ) .tc w} := rfl

/-- What a buffer holds after all the operations. -/
abbrev R (r : Ref sig .tc) : Buf (Elt Ideal) ((c : Thread nD τ).loc r) := after (ops (F := Ideal)) (launchContents m c) (Proc.devRef .tc r)

theorem step (i : ℕ) {op : HloOp τ sig (Elt Ideal)} {r : Ref sig .tc} (hop : (ops (F := Ideal))[i]? = some op) (hr : r ∉ opsW.drop (i + 1)) :
    R m c r = op.result (after ((ops (F := Ideal)).take i) (launchContents m c)) (Proc.devRef .tc r) := HostLine.line_step writes _ hop hr

theorem keep (i : ℕ) {r : Ref sig .tc} (hr : r ∉ opsW.drop i) :
    after ((ops (F := Ideal)).take i) (launchContents m c) (Proc.devRef .tc r) = R m c r := HostLine.line_keep writes _ hr

theorem at_v0 : R m c main_v0 = ((extractStridedSlice S8x128x256 ![0, 0, 0] · slices_S24x128x256_S8x128x256_0_0_0) : Arr S24x128x256 .f32 → Arr S8x128x256 .f32) (R m c main_arg3) := by
  refine (step m c 0 rfl (by decide)).trans ((unary_result' ..).trans ?_)
  rw [← keep m c 0 (r := main_arg3) (by decide)]
  try rfl
theorem at_v1 : R m c main_v1 = shapeCast _ (R m c main_arg0) shapeCasts_S1x8192x512_S64x128x8x64 := by
  refine (step m c 1 rfl (by decide)).trans ((reshape_result' ..).trans ?_)
  rw [← keep m c 1 (r := main_arg0) (by decide)]
  try rfl
theorem at_v2 : R m c main_v2 = shapeCast _ (R m c main_arg1) shapeCasts_S1x8192x512_S64x128x8x64 := by
  refine (step m c 2 rfl (by decide)).trans ((reshape_result' ..).trans ?_)
  rw [← keep m c 2 (r := main_arg1) (by decide)]
  try rfl
theorem at_v3 : R m c main_v3 = shapeCast _ (R m c main_arg2) shapeCasts_S1x8192x512_S64x128x8x64 := by
  refine (step m c 3 rfl (by decide)).trans ((reshape_result' ..).trans ?_)
  rw [← keep m c 3 (r := main_arg2) (by decide)]
  try rfl
theorem at_v4 : R m c main_v4 = ((extractStridedSlice S1x128x8x64 ![0, 0, 0, 0] · slices_S64x128x8x64_S1x128x8x64_0_0_0_0) : Arr S64x128x8x64 .f32 → Arr S1x128x8x64 .f32) (R m c main_v2) := by
  refine (step m c 4 rfl (by decide)).trans ((unary_result' ..).trans ?_)
  rw [← keep m c 4 (r := main_v2) (by decide)]
  try rfl
theorem at_cst : R m c main_cst = (constant (F := Ideal) S_ .f32 0x00000000#32)  := by
  refine (step m c 5 rfl (by decide)).trans ((nullary_result' ..).trans ?_)
  first | done | rfl
theorem at_v5 : R m c main_v5 = (broadcastInDim S1x128x8x64 ![] bcast_S_S1x128x8x64 : Arr S_ .f32 → Arr S1x128x8x64 .f32) (R m c main_cst) := by
  refine (step m c 6 rfl (by decide)).trans ((unary_result' ..).trans ?_)
  rw [← keep m c 6 (r := main_cst) (by decide)]
  try rfl
theorem at_v6 : R m c main_v6 = ((extractStridedSlice S63x128x8x64 ![0, 0, 0, 0] · slices_S64x128x8x64_S63x128x8x64_0_0_0_0) : Arr S64x128x8x64 .f32 → Arr S63x128x8x64 .f32) (R m c main_v2) := by
  refine (step m c 7 rfl (by decide)).trans ((unary_result' ..).trans ?_)
  rw [← keep m c 7 (r := main_v2) (by decide)]
  try rfl
theorem at_v7 : R m c main_v7 = (fn_main_v7 (F := Ideal)) (R m c main_v5) (R m c main_v6) := by
  refine (step m c 8 rfl (by decide)).trans ((binary_result' ..).trans ?_)
  rw [← keep m c 8 (r := main_v5) (by decide), ← keep m c 8 (r := main_v6) (by decide)]
  try rfl
theorem at_cst_0 : R m c main_cst_0 = (constant (F := Ideal) S_ .f32 0x00000000#32)  := by
  refine (step m c 9 rfl (by decide)).trans ((nullary_result' ..).trans ?_)
  first | done | rfl
theorem at_v8 : R m c main_v8 = (broadcastInDim S1x128x8x64 ![] bcast_S_S1x128x8x64 : Arr S_ .f32 → Arr S1x128x8x64 .f32) (R m c main_cst_0) := by
  refine (step m c 10 rfl (by decide)).trans ((unary_result' ..).trans ?_)
  rw [← keep m c 10 (r := main_cst_0) (by decide)]
  try rfl
theorem at_v9 : R m c main_v9 = (fn_main_v9 (F := Ideal)) (R m c main_v7) (R m c main_v2) := by
  refine (step m c 11 rfl (by decide)).trans ((binary_result' ..).trans ?_)
  rw [← keep m c 11 (r := main_v7) (by decide), ← keep m c 11 (r := main_v2) (by decide)]
  try rfl
theorem at_v10 : R m c main_v10 = ((extractStridedSlice S1x128x8x64 ![0, 0, 0, 0] · slices_S64x128x8x64_S1x128x8x64_0_0_0_0) : Arr S64x128x8x64 .f32 → Arr S1x128x8x64 .f32) (R m c main_v3) := by
  refine (step m c 12 rfl (by decide)).trans ((unary_result' ..).trans ?_)
  rw [← keep m c 12 (r := main_v3) (by decide)]
  try rfl
theorem at_cst_1 : R m c main_cst_1 = (constant (F := Ideal) S_ .f32 0x00000000#32)  := by
  refine (step m c 13 rfl (by decide)).trans ((nullary_result' ..).trans ?_)
  first | done | rfl
theorem at_v11 : R m c main_v11 = (broadcastInDim S1x128x8x64 ![] bcast_S_S1x128x8x64 : Arr S_ .f32 → Arr S1x128x8x64 .f32) (R m c main_cst_1) := by
  refine (step m c 14 rfl (by decide)).trans ((unary_result' ..).trans ?_)
  rw [← keep m c 14 (r := main_cst_1) (by decide)]
  try rfl
theorem at_v12 : R m c main_v12 = ((extractStridedSlice S63x128x8x64 ![0, 0, 0, 0] · slices_S64x128x8x64_S63x128x8x64_0_0_0_0) : Arr S64x128x8x64 .f32 → Arr S63x128x8x64 .f32) (R m c main_v3) := by
  refine (step m c 15 rfl (by decide)).trans ((unary_result' ..).trans ?_)
  rw [← keep m c 15 (r := main_v3) (by decide)]
  try rfl
theorem at_v13 : R m c main_v13 = (fn_main_v13 (F := Ideal)) (R m c main_v11) (R m c main_v12) := by
  refine (step m c 16 rfl (by decide)).trans ((binary_result' ..).trans ?_)
  rw [← keep m c 16 (r := main_v11) (by decide), ← keep m c 16 (r := main_v12) (by decide)]
  try rfl
theorem at_cst_2 : R m c main_cst_2 = (constant (F := Ideal) S_ .f32 0x00000000#32)  := by
  refine (step m c 17 rfl (by decide)).trans ((nullary_result' ..).trans ?_)
  first | done | rfl
theorem at_v14 : R m c main_v14 = (broadcastInDim S1x128x8x64 ![] bcast_S_S1x128x8x64 : Arr S_ .f32 → Arr S1x128x8x64 .f32) (R m c main_cst_2) := by
  refine (step m c 18 rfl (by decide)).trans ((unary_result' ..).trans ?_)
  rw [← keep m c 18 (r := main_cst_2) (by decide)]
  try rfl
theorem at_v15 : R m c main_v15 = (fn_main_v15 (F := Ideal)) (R m c main_v13) (R m c main_v3) := by
  refine (step m c 19 rfl (by decide)).trans ((binary_result' ..).trans ?_)
  rw [← keep m c 19 (r := main_v13) (by decide), ← keep m c 19 (r := main_v3) (by decide)]
  try rfl
theorem at_v16 : R m c main_v16 = (iotaInDim S128 32 0)  := by
  refine (step m c 20 rfl (by decide)).trans ((nullary_result' ..).trans ?_)
  first | done | rfl
theorem at_v17 : R m c main_v17 = (broadcastInDim S128x1 ![0] bcast_S128_S128x1_0 : Arr S128 .i32 → Arr S128x1 .i32) (R m c main_v16) := by
  refine (step m c 21 rfl (by decide)).trans ((unary_result' ..).trans ?_)
  rw [← keep m c 21 (r := main_v16) (by decide)]
  try rfl
theorem at_c : R m c main_c = (constantI S_ 32 128#32)  := by
  refine (step m c 22 rfl (by decide)).trans ((nullary_result' ..).trans ?_)
  first | done | rfl
theorem at_v18 : R m c main_v18 = (broadcastInDim S128x1 ![] bcast_S_S128x1 : Arr S_ .i32 → Arr S128x1 .i32) (R m c main_c) := by
  refine (step m c 23 rfl (by decide)).trans ((unary_result' ..).trans ?_)
  rw [← keep m c 23 (r := main_c) (by decide)]
  try rfl
theorem at_v19 : R m c main_v19 = (addi : Arr S128x1 .i32 → Arr S128x1 .i32 → Arr S128x1 .i32) (R m c main_v17) (R m c main_v18) := by
  refine (step m c 24 rfl (by decide)).trans ((binary_result' ..).trans ?_)
  rw [← keep m c 24 (r := main_v17) (by decide), ← keep m c 24 (r := main_v18) (by decide)]
  try rfl
theorem at_v20 : R m c main_v20 = (iotaInDim S256 32 0)  := by
  refine (step m c 25 rfl (by decide)).trans ((nullary_result' ..).trans ?_)
  first | done | rfl
theorem at_v21 : R m c main_v21 = (broadcastInDim S1x256 ![1] bcast_S256_S1x256_1 : Arr S256 .i32 → Arr S1x256 .i32) (R m c main_v20) := by
  refine (step m c 26 rfl (by decide)).trans ((unary_result' ..).trans ?_)
  rw [← keep m c 26 (r := main_v20) (by decide)]
  try rfl
theorem at_v22 : R m c main_v22 = (broadcastInDim S128x256 ![0, 1] bcast_S128x1_S128x256_0_1 : Arr S128x1 .i32 → Arr S128x256 .i32) (R m c main_v19) := by
  refine (step m c 27 rfl (by decide)).trans ((unary_result' ..).trans ?_)
  rw [← keep m c 27 (r := main_v19) (by decide)]
  try rfl
theorem at_v23 : R m c main_v23 = (broadcastInDim S128x256 ![0, 1] bcast_S1x256_S128x256_0_1 : Arr S1x256 .i32 → Arr S128x256 .i32) (R m c main_v21) := by
  refine (step m c 28 rfl (by decide)).trans ((unary_result' ..).trans ?_)
  rw [← keep m c 28 (r := main_v21) (by decide)]
  try rfl
theorem at_v24 : R m c main_v24 = (subi : Arr S128x256 .i32 → Arr S128x256 .i32 → Arr S128x256 .i32) (R m c main_v22) (R m c main_v23) := by
  refine (step m c 29 rfl (by decide)).trans ((binary_result' ..).trans ?_)
  rw [← keep m c 29 (r := main_v22) (by decide), ← keep m c 29 (r := main_v23) (by decide)]
  try rfl
theorem at_c_3 : R m c main_c_3 = (constantI S_ 32 0#32)  := by
  refine (step m c 30 rfl (by decide)).trans ((nullary_result' ..).trans ?_)
  first | done | rfl
theorem at_v25 : R m c main_v25 = (broadcastInDim S128x256 ![] bcast_S_S128x256 : Arr S_ .i32 → Arr S128x256 .i32) (R m c main_c_3) := by
  refine (step m c 31 rfl (by decide)).trans ((unary_result' ..).trans ?_)
  rw [← keep m c 31 (r := main_c_3) (by decide)]
  try rfl
theorem at_v26 : R m c main_v26 = (cmpi .sge : Arr S128x256 .i32 → Arr S128x256 .i32 → Arr S128x256 .i1) (R m c main_v24) (R m c main_v25) := by
  refine (step m c 32 rfl (by decide)).trans ((binary_result' ..).trans ?_)
  rw [← keep m c 32 (r := main_v24) (by decide), ← keep m c 32 (r := main_v25) (by decide)]
  try rfl
theorem at_c_4 : R m c main_c_4 = (constantI S_ 32 128#32)  := by
  refine (step m c 33 rfl (by decide)).trans ((nullary_result' ..).trans ?_)
  first | done | rfl
theorem at_v27 : R m c main_v27 = (broadcastInDim S128x256 ![] bcast_S_S128x256 : Arr S_ .i32 → Arr S128x256 .i32) (R m c main_c_4) := by
  refine (step m c 34 rfl (by decide)).trans ((unary_result' ..).trans ?_)
  rw [← keep m c 34 (r := main_c_4) (by decide)]
  try rfl
theorem at_v28 : R m c main_v28 = (cmpi .sle : Arr S128x256 .i32 → Arr S128x256 .i32 → Arr S128x256 .i1) (R m c main_v24) (R m c main_v27) := by
  refine (step m c 35 rfl (by decide)).trans ((binary_result' ..).trans ?_)
  rw [← keep m c 35 (r := main_v24) (by decide), ← keep m c 35 (r := main_v27) (by decide)]
  try rfl
theorem at_v29 : R m c main_v29 = (andi : Arr S128x256 .i1 → Arr S128x256 .i1 → Arr S128x256 .i1) (R m c main_v26) (R m c main_v28) := by
  refine (step m c 36 rfl (by decide)).trans ((binary_result' ..).trans ?_)
  rw [← keep m c 36 (r := main_v26) (by decide), ← keep m c 36 (r := main_v28) (by decide)]
  try rfl
theorem at_v30 : R m c main_v30 = (broadcastInDim S1x128x256 ![1, 2] bcast_S128x256_S1x128x256_1_2 : Arr S128x256 .i1 → Arr S1x128x256 .i1) (R m c main_v29) := by
  refine (step m c 37 rfl (by decide)).trans ((unary_result' ..).trans ?_)
  rw [← keep m c 37 (r := main_v29) (by decide)]
  try rfl
theorem at_v31 : R m c main_v31 = (iotaInDim S64 32 0)  := by
  refine (step m c 38 rfl (by decide)).trans ((nullary_result' ..).trans ?_)
  first | done | rfl
theorem at_c_5 : R m c main_c_5 = (constantI S_ 32 0#32)  := by
  refine (step m c 39 rfl (by decide)).trans ((nullary_result' ..).trans ?_)
  first | done | rfl
theorem at_v32 : R m c main_v32 = (broadcastInDim S64 ![] bcast_S_S64 : Arr S_ .i32 → Arr S64 .i32) (R m c main_c_5) := by
  refine (step m c 40 rfl (by decide)).trans ((unary_result' ..).trans ?_)
  rw [← keep m c 40 (r := main_c_5) (by decide)]
  try rfl
theorem at_v33 : R m c main_v33 = (cmpi .sgt : Arr S64 .i32 → Arr S64 .i32 → Arr S64 .i1) (R m c main_v31) (R m c main_v32) := by
  refine (step m c 41 rfl (by decide)).trans ((binary_result' ..).trans ?_)
  rw [← keep m c 41 (r := main_v31) (by decide), ← keep m c 41 (r := main_v32) (by decide)]
  try rfl
theorem at_v34 : R m c main_v34 = (broadcastInDim S64x1x1 ![0] bcast_S64_S64x1x1_0 : Arr S64 .i1 → Arr S64x1x1 .i1) (R m c main_v33) := by
  refine (step m c 42 rfl (by decide)).trans ((unary_result' ..).trans ?_)
  rw [← keep m c 42 (r := main_v33) (by decide)]
  try rfl
theorem at_c_6 : R m c main_c_6 = (constantI S_ 32 128#32)  := by
  refine (step m c 43 rfl (by decide)).trans ((nullary_result' ..).trans ?_)
  first | done | rfl
theorem at_v35 : R m c main_v35 = (broadcastInDim S1x256 ![] bcast_S_S1x256 : Arr S_ .i32 → Arr S1x256 .i32) (R m c main_c_6) := by
  refine (step m c 44 rfl (by decide)).trans ((unary_result' ..).trans ?_)
  rw [← keep m c 44 (r := main_c_6) (by decide)]
  try rfl
theorem at_v36 : R m c main_v36 = (cmpi .sge : Arr S1x256 .i32 → Arr S1x256 .i32 → Arr S1x256 .i1) (R m c main_v21) (R m c main_v35) := by
  refine (step m c 45 rfl (by decide)).trans ((binary_result' ..).trans ?_)
  rw [← keep m c 45 (r := main_v21) (by decide), ← keep m c 45 (r := main_v35) (by decide)]
  try rfl
theorem at_v37 : R m c main_v37 = (broadcastInDim S1x1x256 ![1, 2] bcast_S1x256_S1x1x256_1_2 : Arr S1x256 .i1 → Arr S1x1x256 .i1) (R m c main_v36) := by
  refine (step m c 46 rfl (by decide)).trans ((unary_result' ..).trans ?_)
  rw [← keep m c 46 (r := main_v36) (by decide)]
  try rfl
theorem at_v38 : R m c main_v38 = (broadcastInDim S64x1x256 ![0, 1, 2] bcast_S64x1x1_S64x1x256_0_1_2 : Arr S64x1x1 .i1 → Arr S64x1x256 .i1) (R m c main_v34) := by
  refine (step m c 47 rfl (by decide)).trans ((unary_result' ..).trans ?_)
  rw [← keep m c 47 (r := main_v34) (by decide)]
  try rfl
theorem at_v39 : R m c main_v39 = (broadcastInDim S64x1x256 ![0, 1, 2] bcast_S1x1x256_S64x1x256_0_1_2 : Arr S1x1x256 .i1 → Arr S64x1x256 .i1) (R m c main_v37) := by
  refine (step m c 48 rfl (by decide)).trans ((unary_result' ..).trans ?_)
  rw [← keep m c 48 (r := main_v37) (by decide)]
  try rfl
theorem at_v40 : R m c main_v40 = (ori : Arr S64x1x256 .i1 → Arr S64x1x256 .i1 → Arr S64x1x256 .i1) (R m c main_v38) (R m c main_v39) := by
  refine (step m c 49 rfl (by decide)).trans ((binary_result' ..).trans ?_)
  rw [← keep m c 49 (r := main_v38) (by decide), ← keep m c 49 (r := main_v39) (by decide)]
  try rfl
theorem at_v41 : R m c main_v41 = (broadcastInDim S64x128x256 ![0, 1, 2] bcast_S1x128x256_S64x128x256_0_1_2 : Arr S1x128x256 .i1 → Arr S64x128x256 .i1) (R m c main_v30) := by
  refine (step m c 50 rfl (by decide)).trans ((unary_result' ..).trans ?_)
  rw [← keep m c 50 (r := main_v30) (by decide)]
  try rfl
theorem at_v42 : R m c main_v42 = (broadcastInDim S64x128x256 ![0, 1, 2] bcast_S64x1x256_S64x128x256_0_1_2 : Arr S64x1x256 .i1 → Arr S64x128x256 .i1) (R m c main_v40) := by
  refine (step m c 51 rfl (by decide)).trans ((unary_result' ..).trans ?_)
  rw [← keep m c 51 (r := main_v40) (by decide)]
  try rfl
theorem at_v43 : R m c main_v43 = (andi : Arr S64x128x256 .i1 → Arr S64x128x256 .i1 → Arr S64x128x256 .i1) (R m c main_v41) (R m c main_v42) := by
  refine (step m c 52 rfl (by decide)).trans ((binary_result' ..).trans ?_)
  rw [← keep m c 52 (r := main_v41) (by decide), ← keep m c 52 (r := main_v42) (by decide)]
  try rfl
theorem at_v44 : R m c main_v44 = ((fun l r => Host.dotGeneral (F := Ideal) (φ₁ := .f32) (φ₂ := .f32) dot_S64x128x8x64_S64x256x8x64_S64x8x128x256_3_3_1_1_02_02 none l r) : Arr S64x128x8x64 .f32 → Arr S64x256x8x64 .f32 → Arr S64x8x128x256 .f32) (R m c main_v1) (R m c main_v9) := by
  refine (step m c 53 rfl (by decide)).trans ((binary_result' ..).trans ?_)
  rw [← keep m c 53 (r := main_v1) (by decide), ← keep m c 53 (r := main_v9) (by decide)]
  try rfl
theorem at_v45 : R m c main_v45 = (broadcastInDim S1x8x128x256 ![1, 2, 3] bcast_S8x128x256_S1x8x128x256_1_2_3 : Arr S8x128x256 .f32 → Arr S1x8x128x256 .f32) (R m c main_v0) := by
  refine (step m c 54 rfl (by decide)).trans ((unary_result' ..).trans ?_)
  rw [← keep m c 54 (r := main_v0) (by decide)]
  try rfl
theorem at_v46 : R m c main_v46 = (broadcastInDim S64x8x128x256 ![0, 1, 2, 3] bcast_S1x8x128x256_S64x8x128x256_0_1_2_3 : Arr S1x8x128x256 .f32 → Arr S64x8x128x256 .f32) (R m c main_v45) := by
  refine (step m c 55 rfl (by decide)).trans ((unary_result' ..).trans ?_)
  rw [← keep m c 55 (r := main_v45) (by decide)]
  try rfl
theorem at_v47 : R m c main_v47 = (addf (F := Ideal) (φ := .f32) : Arr S64x8x128x256 .f32 → Arr S64x8x128x256 .f32 → Arr S64x8x128x256 .f32) (R m c main_v44) (R m c main_v46) := by
  refine (step m c 56 rfl (by decide)).trans ((binary_result' ..).trans ?_)
  rw [← keep m c 56 (r := main_v44) (by decide), ← keep m c 56 (r := main_v46) (by decide)]
  try rfl
theorem at_v48 : R m c main_v48 = (broadcastInDim S64x1x128x256 ![0, 2, 3] bcast_S64x128x256_S64x1x128x256_0_2_3 : Arr S64x128x256 .i1 → Arr S64x1x128x256 .i1) (R m c main_v43) := by
  refine (step m c 57 rfl (by decide)).trans ((unary_result' ..).trans ?_)
  rw [← keep m c 57 (r := main_v43) (by decide)]
  try rfl
theorem at_cst_7 : R m c main_cst_7 = (constant (F := Ideal) S_ .f32 0xFF800000#32)  := by
  refine (step m c 58 rfl (by decide)).trans ((nullary_result' ..).trans ?_)
  first | done | rfl
theorem at_call0_v0 : R m c main_call0_v0 = id (R m c main_cst_7) := by
  refine (step m c 59 rfl (by decide)).trans ((unary_result' ..).trans ?_)
  rw [← keep m c 59 (r := main_cst_7) (by decide)]
  try rfl
theorem at_v49_1 : R m c main_v49_1 = (broadcastInDim S64x8x128x256 ![0, 1, 2, 3] bcast_S64x1x128x256_S64x8x128x256_0_1_2_3) (R m c main_v48) := by
  refine (step m c 60 rfl (by decide)).trans ((unary_result' ..).trans ?_)
  rw [← keep m c 60 (r := main_v48) (by decide)]
  try rfl
theorem at_call0_v2 : R m c main_call0_v2 = (broadcastInDim S64x8x128x256 ![] bcast_S_S64x8x128x256) (R m c main_call0_v0) := by
  refine (step m c 61 rfl (by decide)).trans ((unary_result' ..).trans ?_)
  rw [← keep m c 61 (r := main_call0_v0) (by decide)]
  try rfl
theorem at_v49_0 : R m c main_v49_0 = select (R m c main_v49_1) (R m c main_v47) (R m c main_call0_v2) := by
  refine (step m c 62 rfl (by decide)).trans ((ternary_result' ..).trans ?_)
  rw [← keep m c 62 (r := main_v49_1) (by decide), ← keep m c 62 (r := main_v47) (by decide), ← keep m c 62 (r := main_call0_v2) (by decide)]
  try rfl
theorem at_call0_cst : R m c main_call0_cst = (constant (F := Ideal) S_ .f32 0x00000000#32)  := by
  refine (step m c 63 rfl (by decide)).trans ((nullary_result' ..).trans ?_)
  first | done | rfl
theorem at_v49_2 : R m c main_v49_2 = (broadcastInDim S64x8x128x256 ![] bcast_S_S64x8x128x256) (R m c main_call0_cst) := by
  refine (step m c 64 rfl (by decide)).trans ((unary_result' ..).trans ?_)
  rw [← keep m c 64 (r := main_call0_cst) (by decide)]
  try rfl
theorem at_cst_8 : R m c main_cst_8 = (constant (F := Ideal) S_ .f32 0xFF800000#32)  := by
  refine (step m c 65 rfl (by decide)).trans ((nullary_result' ..).trans ?_)
  first | done | rfl
theorem at_v50 : R m c main_v50 = ((fun x v => Host.reduce (FloatOps.maximumf (F := Ideal) (φ := .f32)) x v reducesTo_S64x8x128x256_S64x8x128_d3 h_S_) : Arr S64x8x128x256 .f32 → Arr S_ .f32 → Arr S64x8x128 .f32) (R m c main_v49_0) (R m c main_cst_8) := by
  refine (step m c 66 rfl (by decide)).trans ((binary_result' ..).trans ?_)
  rw [← keep m c 66 (r := main_v49_0) (by decide), ← keep m c 66 (r := main_cst_8) (by decide)]
  try rfl
theorem at_v51 : R m c main_v51 = shapeCast _ (R m c main_v50) shapeCasts_S64x8x128_S64x8x128x1 := by
  refine (step m c 67 rfl (by decide)).trans ((reshape_result' ..).trans ?_)
  rw [← keep m c 67 (r := main_v50) (by decide)]
  try rfl
theorem at_v52 : R m c main_v52 = (broadcastInDim S64x8x128x256 ![0, 1, 2, 3] bcast_S64x8x128x1_S64x8x128x256_0_1_2_3 : Arr S64x8x128x1 .f32 → Arr S64x8x128x256 .f32) (R m c main_v51) := by
  refine (step m c 68 rfl (by decide)).trans ((unary_result' ..).trans ?_)
  rw [← keep m c 68 (r := main_v51) (by decide)]
  try rfl
theorem at_v53 : R m c main_v53 = (cmpf (F := Ideal) (φ := .f32) .oeq : Arr S64x8x128x256 .f32 → Arr S64x8x128x256 .f32 → Arr S64x8x128x256 .i1) (R m c main_v49_0) (R m c main_v52) := by
  refine (step m c 69 rfl (by decide)).trans ((binary_result' ..).trans ?_)
  rw [← keep m c 69 (r := main_v49_0) (by decide), ← keep m c 69 (r := main_v52) (by decide)]
  try rfl
theorem at_v54 : R m c main_v54 = (uitofp (F := Ideal) .f32 : Arr S64x8x128x256 .i1 → Arr S64x8x128x256 .f32) (R m c main_v53) := by
  refine (step m c 70 rfl (by decide)).trans ((unary_result' ..).trans ?_)
  rw [← keep m c 70 (r := main_v53) (by decide)]
  try rfl
theorem at_cst_9 : R m c main_cst_9 = (constant (F := Ideal) S_ .f32 0x00000000#32)  := by
  refine (step m c 71 rfl (by decide)).trans ((nullary_result' ..).trans ?_)
  first | done | rfl
theorem at_v55 : R m c main_v55 = ((fun x v => Host.reduceAdd (F := Ideal) (φ := .f32) x v reducesTo_S64x8x128x256_S64x8x128_d3 h_S_) : Arr S64x8x128x256 .f32 → Arr S_ .f32 → Arr S64x8x128 .f32) (R m c main_v54) (R m c main_cst_9) := by
  refine (step m c 72 rfl (by decide)).trans ((binary_result' ..).trans ?_)
  rw [← keep m c 72 (r := main_v54) (by decide), ← keep m c 72 (r := main_cst_9) (by decide)]
  try rfl
theorem at_v56 : R m c main_v56 = (broadcastInDim S64x8x128x1 ![0, 1, 2] bcast_S64x8x128_S64x8x128x1_0_1_2 : Arr S64x8x128 .f32 → Arr S64x8x128x1 .f32) (R m c main_v50) := by
  refine (step m c 73 rfl (by decide)).trans ((unary_result' ..).trans ?_)
  rw [← keep m c 73 (r := main_v50) (by decide)]
  try rfl
theorem at_v57 : R m c main_v57 = (broadcastInDim S64x8x128x256 ![0, 1, 2, 3] bcast_S64x8x128x1_S64x8x128x256_0_1_2_3 : Arr S64x8x128x1 .f32 → Arr S64x8x128x256 .f32) (R m c main_v56) := by
  refine (step m c 74 rfl (by decide)).trans ((unary_result' ..).trans ?_)
  rw [← keep m c 74 (r := main_v56) (by decide)]
  try rfl
theorem at_v58 : R m c main_v58 = (subf (F := Ideal) (φ := .f32) : Arr S64x8x128x256 .f32 → Arr S64x8x128x256 .f32 → Arr S64x8x128x256 .f32) (R m c main_v49_0) (R m c main_v57) := by
  refine (step m c 75 rfl (by decide)).trans ((binary_result' ..).trans ?_)
  rw [← keep m c 75 (r := main_v49_0) (by decide), ← keep m c 75 (r := main_v57) (by decide)]
  try rfl
theorem at_v59 : R m c main_v59 = (Host.exp (F := Ideal) (φ := .f32) : Arr S64x8x128x256 .f32 → Arr S64x8x128x256 .f32) (R m c main_v58) := by
  refine (step m c 76 rfl (by decide)).trans ((unary_result' ..).trans ?_)
  rw [← keep m c 76 (r := main_v58) (by decide)]
  try rfl
theorem at_cst_10 : R m c main_cst_10 = (constant (F := Ideal) S_ .f32 0x00000000#32)  := by
  refine (step m c 77 rfl (by decide)).trans ((nullary_result' ..).trans ?_)
  first | done | rfl
theorem at_v60 : R m c main_v60 = ((fun x v => Host.reduceAdd (F := Ideal) (φ := .f32) x v reducesTo_S64x8x128x256_S64x8x128_d3 h_S_) : Arr S64x8x128x256 .f32 → Arr S_ .f32 → Arr S64x8x128 .f32) (R m c main_v59) (R m c main_cst_10) := by
  refine (step m c 78 rfl (by decide)).trans ((binary_result' ..).trans ?_)
  rw [← keep m c 78 (r := main_v59) (by decide), ← keep m c 78 (r := main_cst_10) (by decide)]
  try rfl
theorem at_v61 : R m c main_v61 = (broadcastInDim S64x8x128x1 ![0, 1, 2] bcast_S64x8x128_S64x8x128x1_0_1_2 : Arr S64x8x128 .f32 → Arr S64x8x128x1 .f32) (R m c main_v60) := by
  refine (step m c 79 rfl (by decide)).trans ((unary_result' ..).trans ?_)
  rw [← keep m c 79 (r := main_v60) (by decide)]
  try rfl
theorem at_v62 : R m c main_v62 = (broadcastInDim S64x8x128x256 ![0, 1, 2, 3] bcast_S64x8x128x1_S64x8x128x256_0_1_2_3 : Arr S64x8x128x1 .f32 → Arr S64x8x128x256 .f32) (R m c main_v61) := by
  refine (step m c 80 rfl (by decide)).trans ((unary_result' ..).trans ?_)
  rw [← keep m c 80 (r := main_v61) (by decide)]
  try rfl
theorem at_v63 : R m c main_v63 = (Host.divf (F := Ideal) (φ := .f32) : Arr S64x8x128x256 .f32 → Arr S64x8x128x256 .f32 → Arr S64x8x128x256 .f32) (R m c main_v59) (R m c main_v62) := by
  refine (step m c 81 rfl (by decide)).trans ((binary_result' ..).trans ?_)
  rw [← keep m c 81 (r := main_v59) (by decide), ← keep m c 81 (r := main_v62) (by decide)]
  try rfl
theorem at_v64 : R m c main_v64 = (mulf (F := Ideal) (φ := .f32) : Arr S64x8x128x1 .f32 → Arr S64x8x128x1 .f32 → Arr S64x8x128x1 .f32) (R m c main_v61) (R m c main_v61) := by
  refine (step m c 82 rfl (by decide)).trans ((binary_result' ..).trans ?_)
  rw [← keep m c 82 (r := main_v61) (by decide)]
  try rfl
theorem at_cst_11 : R m c main_cst_11 = (constant (F := Ideal) S_ .f32 0x3F800000#32)  := by
  refine (step m c 83 rfl (by decide)).trans ((nullary_result' ..).trans ?_)
  first | done | rfl
theorem at_v65 : R m c main_v65 = (broadcastInDim S64x8x128x1 ![] bcast_S_S64x8x128x1 : Arr S_ .f32 → Arr S64x8x128x1 .f32) (R m c main_cst_11) := by
  refine (step m c 84 rfl (by decide)).trans ((unary_result' ..).trans ?_)
  rw [← keep m c 84 (r := main_cst_11) (by decide)]
  try rfl
theorem at_v66 : R m c main_v66 = (Host.divf (F := Ideal) (φ := .f32) : Arr S64x8x128x1 .f32 → Arr S64x8x128x1 .f32 → Arr S64x8x128x1 .f32) (R m c main_v65) (R m c main_v64) := by
  refine (step m c 85 rfl (by decide)).trans ((binary_result' ..).trans ?_)
  rw [← keep m c 85 (r := main_v65) (by decide), ← keep m c 85 (r := main_v64) (by decide)]
  try rfl
theorem at_v67 : R m c main_v67 = ((fun l r => Host.dotGeneral (F := Ideal) (φ₁ := .f32) (φ₂ := .f32) dot_S64x256x8x64_S64x8x128x256_S64x8x64x128_1_3_3_2_02_01 none l r) : Arr S64x256x8x64 .f32 → Arr S64x8x128x256 .f32 → Arr S64x8x64x128 .f32) (R m c main_v15) (R m c main_v63) := by
  refine (step m c 86 rfl (by decide)).trans ((binary_result' ..).trans ?_)
  rw [← keep m c 86 (r := main_v15) (by decide), ← keep m c 86 (r := main_v63) (by decide)]
  try rfl
theorem at_v68 : R m c main_v68 = ((transpose S64x128x8x64 [0, 3, 1, 2] · transposes_S64x8x64x128_S64x128x8x64_0_3_1_2) : Arr S64x8x64x128 .f32 → Arr S64x128x8x64 .f32) (R m c main_v67) := by
  refine (step m c 87 rfl (by decide)).trans ((unary_result' ..).trans ?_)
  rw [← keep m c 87 (r := main_v67) (by decide)]
  try rfl
theorem at_v69 : R m c main_v69 = (Host.log (F := Ideal) (φ := .f32) : Arr S64x8x128x1 .f32 → Arr S64x8x128x1 .f32) (R m c main_v61) := by
  refine (step m c 88 rfl (by decide)).trans ((unary_result' ..).trans ?_)
  rw [← keep m c 88 (r := main_v61) (by decide)]
  try rfl
theorem at_v70 : R m c main_v70 = (addf (F := Ideal) (φ := .f32) : Arr S64x8x128x1 .f32 → Arr S64x8x128x1 .f32 → Arr S64x8x128x1 .f32) (R m c main_v56) (R m c main_v69) := by
  refine (step m c 89 rfl (by decide)).trans ((binary_result' ..).trans ?_)
  rw [← keep m c 89 (r := main_v56) (by decide), ← keep m c 89 (r := main_v69) (by decide)]
  try rfl
theorem at_v71 : R m c main_v71 = shapeCast _ (R m c main_v70) shapeCasts_S64x8x128x1_S64x8x128 := by
  refine (step m c 90 rfl (by decide)).trans ((reshape_result' ..).trans ?_)
  rw [← keep m c 90 (r := main_v70) (by decide)]
  try rfl
theorem at_v72 : R m c main_v72 = shapeCast _ (R m c main_v68) shapeCasts_S64x128x8x64_S8192x8x64 := by
  refine (step m c 91 rfl (by decide)).trans ((reshape_result' ..).trans ?_)
  rw [← keep m c 91 (r := main_v68) (by decide)]
  try rfl
theorem at_v73 : R m c main_v73 = ((transpose S64x128x8 [0, 2, 1] · transposes_S64x8x128_S64x128x8_0_2_1) : Arr S64x8x128 .f32 → Arr S64x128x8 .f32) (R m c main_v71) := by
  refine (step m c 92 rfl (by decide)).trans ((unary_result' ..).trans ?_)
  rw [← keep m c 92 (r := main_v71) (by decide)]
  try rfl
theorem at_v74 : R m c main_v74 = shapeCast _ (R m c main_v73) shapeCasts_S64x128x8_S8192x8 := by
  refine (step m c 93 rfl (by decide)).trans ((reshape_result' ..).trans ?_)
  rw [← keep m c 93 (r := main_v73) (by decide)]
  try rfl
theorem at_v75 : R m c main_v75 = (broadcastInDim S1x8192x8 ![1, 2] bcast_S8192x8_S1x8192x8_1_2 : Arr S8192x8 .f32 → Arr S1x8192x8 .f32) (R m c main_v74) := by
  refine (step m c 94 rfl (by decide)).trans ((unary_result' ..).trans ?_)
  rw [← keep m c 94 (r := main_v74) (by decide)]
  try rfl
theorem at_v76 : R m c main_v76 = (broadcastInDim S1x8192x8 ![1, 2] bcast_S8192x8_S1x8192x8_1_2 : Arr S8192x8 .f32 → Arr S1x8192x8 .f32) (R m c main_arg5) := by
  refine (step m c 95 rfl (by decide)).trans ((unary_result' ..).trans ?_)
  rw [← keep m c 95 (r := main_arg5) (by decide)]
  try rfl
theorem at_v77 : R m c main_v77 = (broadcastInDim S1x8192x8 ![1, 2] bcast_S8192x8_S1x8192x8_1_2 : Arr S8192x8 .f32 → Arr S1x8192x8 .f32) (R m c main_arg7) := by
  refine (step m c 96 rfl (by decide)).trans ((unary_result' ..).trans ?_)
  rw [← keep m c 96 (r := main_arg7) (by decide)]
  try rfl
theorem at_v78 : R m c main_v78 = fn_main_v78 (R m c main_v75) (R m c main_v76) (R m c main_v77) := by
  refine (step m c 97 rfl (by decide)).trans ((nary_result' ..).trans ?_)
  rw [← keep m c 97 (r := main_v75) (by decide), ← keep m c 97 (r := main_v76) (by decide), ← keep m c 97 (r := main_v77) (by decide)]
  try rfl
theorem at_cst_12 : R m c main_cst_12 = (constant (F := Ideal) S_ .f32 0x00000000#32)  := by
  refine (step m c 98 rfl (by decide)).trans ((nullary_result' ..).trans ?_)
  first | done | rfl
theorem at_v79 : R m c main_v79 = (broadcastInDim S8192x8 ![] bcast_S_S8192x8 : Arr S_ .f32 → Arr S8192x8 .f32) (R m c main_cst_12) := by
  refine (step m c 99 rfl (by decide)).trans ((unary_result' ..).trans ?_)
  rw [← keep m c 99 (r := main_cst_12) (by decide)]
  try rfl
theorem at_cst_13 : R m c main_cst_13 = (constant (F := Ideal) S_ .f32 0x00000000#32)  := by
  refine (step m c 100 rfl (by decide)).trans ((nullary_result' ..).trans ?_)
  first | done | rfl
theorem at_v80 : R m c main_v80 = (broadcastInDim S8192x8 ![] bcast_S_S8192x8 : Arr S_ .f32 → Arr S8192x8 .f32) (R m c main_cst_13) := by
  refine (step m c 101 rfl (by decide)).trans ((unary_result' ..).trans ?_)
  rw [← keep m c 101 (r := main_cst_13) (by decide)]
  try rfl
theorem at_cst_14 : R m c main_cst_14 = (constant (F := Ideal) S_ .f32 0xFF800000#32)  := by
  refine (step m c 102 rfl (by decide)).trans ((nullary_result' ..).trans ?_)
  first | done | rfl
theorem at_v81 : R m c main_v81 = ((fun x v => Host.reduce (FloatOps.maximumf (F := Ideal) (φ := .f32)) x v reducesTo_S3x8192x8_S8192x8_d0 h_S_) : Arr S3x8192x8 .f32 → Arr S_ .f32 → Arr S8192x8 .f32) (R m c main_v78) (R m c main_cst_14) := by
  refine (step m c 103 rfl (by decide)).trans ((binary_result' ..).trans ?_)
  rw [← keep m c 103 (r := main_v78) (by decide), ← keep m c 103 (r := main_cst_14) (by decide)]
  try rfl
theorem at_v82 : R m c main_v82 = shapeCast _ (R m c main_v81) shapeCasts_S8192x8_S1x8192x8 := by
  refine (step m c 104 rfl (by decide)).trans ((reshape_result' ..).trans ?_)
  rw [← keep m c 104 (r := main_v81) (by decide)]
  try rfl
theorem at_v83 : R m c main_v83 = (broadcastInDim S3x8192x8 ![0, 1, 2] bcast_S1x8192x8_S3x8192x8_0_1_2 : Arr S1x8192x8 .f32 → Arr S3x8192x8 .f32) (R m c main_v82) := by
  refine (step m c 105 rfl (by decide)).trans ((unary_result' ..).trans ?_)
  rw [← keep m c 105 (r := main_v82) (by decide)]
  try rfl
theorem at_v84 : R m c main_v84 = (cmpf (F := Ideal) (φ := .f32) .oeq : Arr S3x8192x8 .f32 → Arr S3x8192x8 .f32 → Arr S3x8192x8 .i1) (R m c main_v78) (R m c main_v83) := by
  refine (step m c 106 rfl (by decide)).trans ((binary_result' ..).trans ?_)
  rw [← keep m c 106 (r := main_v78) (by decide), ← keep m c 106 (r := main_v83) (by decide)]
  try rfl
theorem at_v85 : R m c main_v85 = (uitofp (F := Ideal) .f32 : Arr S3x8192x8 .i1 → Arr S3x8192x8 .f32) (R m c main_v84) := by
  refine (step m c 107 rfl (by decide)).trans ((unary_result' ..).trans ?_)
  rw [← keep m c 107 (r := main_v84) (by decide)]
  try rfl
theorem at_cst_15 : R m c main_cst_15 = (constant (F := Ideal) S_ .f32 0x00000000#32)  := by
  refine (step m c 108 rfl (by decide)).trans ((nullary_result' ..).trans ?_)
  first | done | rfl
theorem at_v86 : R m c main_v86 = ((fun x v => Host.reduceAdd (F := Ideal) (φ := .f32) x v reducesTo_S3x8192x8_S8192x8_d0 h_S_) : Arr S3x8192x8 .f32 → Arr S_ .f32 → Arr S8192x8 .f32) (R m c main_v85) (R m c main_cst_15) := by
  refine (step m c 109 rfl (by decide)).trans ((binary_result' ..).trans ?_)
  rw [← keep m c 109 (r := main_v85) (by decide), ← keep m c 109 (r := main_cst_15) (by decide)]
  try rfl
theorem at_cst_16 : R m c main_cst_16 = (constant (F := Ideal) S_ .f32 0xFF800000#32)  := by
  refine (step m c 110 rfl (by decide)).trans ((nullary_result' ..).trans ?_)
  first | done | rfl
theorem at_v87 : R m c main_v87 = (broadcastInDim S8192x8 ![] bcast_S_S8192x8 : Arr S_ .f32 → Arr S8192x8 .f32) (R m c main_cst_16) := by
  refine (step m c 111 rfl (by decide)).trans ((unary_result' ..).trans ?_)
  rw [← keep m c 111 (r := main_cst_16) (by decide)]
  try rfl
theorem at_v88 : R m c main_v88 = (maximumf (F := Ideal) (φ := .f32) : Arr S8192x8 .f32 → Arr S8192x8 .f32 → Arr S8192x8 .f32) (R m c main_v87) (R m c main_v81) := by
  refine (step m c 112 rfl (by decide)).trans ((binary_result' ..).trans ?_)
  rw [← keep m c 112 (r := main_v87) (by decide), ← keep m c 112 (r := main_v81) (by decide)]
  try rfl
theorem at_cst_17 : R m c main_cst_17 = (constant (F := Ideal) S_ .f32 0xFF800000#32)  := by
  refine (step m c 113 rfl (by decide)).trans ((nullary_result' ..).trans ?_)
  first | done | rfl
theorem at_v89 : R m c main_v89 = (broadcastInDim S8192x8 ![] bcast_S_S8192x8 : Arr S_ .f32 → Arr S8192x8 .f32) (R m c main_cst_17) := by
  refine (step m c 114 rfl (by decide)).trans ((unary_result' ..).trans ?_)
  rw [← keep m c 114 (r := main_cst_17) (by decide)]
  try rfl
theorem at_v90 : R m c main_v90 = (cmpf (F := Ideal) (φ := .f32) .ogt : Arr S8192x8 .f32 → Arr S8192x8 .f32 → Arr S8192x8 .i1) (R m c main_v81) (R m c main_v89) := by
  refine (step m c 115 rfl (by decide)).trans ((binary_result' ..).trans ?_)
  rw [← keep m c 115 (r := main_v81) (by decide), ← keep m c 115 (r := main_v89) (by decide)]
  try rfl
theorem at_cst_18 : R m c main_cst_18 = (constant (F := Ideal) S_ .f32 0xFF800000#32)  := by
  refine (step m c 116 rfl (by decide)).trans ((nullary_result' ..).trans ?_)
  first | done | rfl
theorem at_v91 : R m c main_v91 = (broadcastInDim S8192x8 ![] bcast_S_S8192x8 : Arr S_ .f32 → Arr S8192x8 .f32) (R m c main_cst_18) := by
  refine (step m c 117 rfl (by decide)).trans ((unary_result' ..).trans ?_)
  rw [← keep m c 117 (r := main_cst_18) (by decide)]
  try rfl
theorem at_v92 : R m c main_v92 = (cmpf (F := Ideal) (φ := .f32) .oeq : Arr S8192x8 .f32 → Arr S8192x8 .f32 → Arr S8192x8 .i1) (R m c main_v81) (R m c main_v91) := by
  refine (step m c 118 rfl (by decide)).trans ((binary_result' ..).trans ?_)
  rw [← keep m c 118 (r := main_v81) (by decide), ← keep m c 118 (r := main_v91) (by decide)]
  try rfl
theorem at_cst_19 : R m c main_cst_19 = (constant (F := Ideal) S_ .f32 0x3F800000#32)  := by
  refine (step m c 119 rfl (by decide)).trans ((nullary_result' ..).trans ?_)
  first | done | rfl
theorem at_v93 : R m c main_v93 = (broadcastInDim S8192x8 ![] bcast_S_S8192x8 : Arr S_ .f32 → Arr S8192x8 .f32) (R m c main_cst_19) := by
  refine (step m c 120 rfl (by decide)).trans ((unary_result' ..).trans ?_)
  rw [← keep m c 120 (r := main_cst_19) (by decide)]
  try rfl
theorem at_cst_20 : R m c main_cst_20 = (constant (F := Ideal) S_ .f32 0x00000000#32)  := by
  refine (step m c 121 rfl (by decide)).trans ((nullary_result' ..).trans ?_)
  first | done | rfl
theorem at_v94 : R m c main_v94 = (broadcastInDim S8192x8 ![] bcast_S_S8192x8 : Arr S_ .f32 → Arr S8192x8 .f32) (R m c main_cst_20) := by
  refine (step m c 122 rfl (by decide)).trans ((unary_result' ..).trans ?_)
  rw [← keep m c 122 (r := main_cst_20) (by decide)]
  try rfl
theorem at_cst_21 : R m c main_cst_21 = (constant (F := Ideal) S_ .f32 0x3F000000#32)  := by
  refine (step m c 123 rfl (by decide)).trans ((nullary_result' ..).trans ?_)
  first | done | rfl
theorem at_v95 : R m c main_v95 = (broadcastInDim S8192x8 ![] bcast_S_S8192x8 : Arr S_ .f32 → Arr S8192x8 .f32) (R m c main_cst_21) := by
  refine (step m c 124 rfl (by decide)).trans ((unary_result' ..).trans ?_)
  rw [← keep m c 124 (r := main_cst_21) (by decide)]
  try rfl
theorem at_v96 : R m c main_v96 = (select : Arr S8192x8 .i1 → Arr S8192x8 .f32 → Arr S8192x8 .f32 → Arr S8192x8 .f32) (R m c main_v92) (R m c main_v95) (R m c main_v94) := by
  refine (step m c 125 rfl (by decide)).trans ((ternary_result' ..).trans ?_)
  rw [← keep m c 125 (r := main_v92) (by decide), ← keep m c 125 (r := main_v95) (by decide), ← keep m c 125 (r := main_v94) (by decide)]
  try rfl
theorem at_v97 : R m c main_v97 = (select : Arr S8192x8 .i1 → Arr S8192x8 .f32 → Arr S8192x8 .f32 → Arr S8192x8 .f32) (R m c main_v90) (R m c main_v93) (R m c main_v96) := by
  refine (step m c 126 rfl (by decide)).trans ((ternary_result' ..).trans ?_)
  rw [← keep m c 126 (r := main_v90) (by decide), ← keep m c 126 (r := main_v93) (by decide), ← keep m c 126 (r := main_v96) (by decide)]
  try rfl
theorem at_v98 : R m c main_v98 = (broadcastInDim S1x8192x8 ![1, 2] bcast_S8192x8_S1x8192x8_1_2 : Arr S8192x8 .f32 → Arr S1x8192x8 .f32) (R m c main_v88) := by
  refine (step m c 127 rfl (by decide)).trans ((unary_result' ..).trans ?_)
  rw [← keep m c 127 (r := main_v88) (by decide)]
  try rfl
theorem at_v99 : R m c main_v99 = (broadcastInDim S3x8192x8 ![0, 1, 2] bcast_S1x8192x8_S3x8192x8_0_1_2 : Arr S1x8192x8 .f32 → Arr S3x8192x8 .f32) (R m c main_v98) := by
  refine (step m c 128 rfl (by decide)).trans ((unary_result' ..).trans ?_)
  rw [← keep m c 128 (r := main_v98) (by decide)]
  try rfl
theorem at_v100 : R m c main_v100 = (subf (F := Ideal) (φ := .f32) : Arr S3x8192x8 .f32 → Arr S3x8192x8 .f32 → Arr S3x8192x8 .f32) (R m c main_v78) (R m c main_v99) := by
  refine (step m c 129 rfl (by decide)).trans ((binary_result' ..).trans ?_)
  rw [← keep m c 129 (r := main_v78) (by decide), ← keep m c 129 (r := main_v99) (by decide)]
  try rfl
theorem at_v101 : R m c main_v101 = (Host.exp (F := Ideal) (φ := .f32) : Arr S3x8192x8 .f32 → Arr S3x8192x8 .f32) (R m c main_v100) := by
  refine (step m c 130 rfl (by decide)).trans ((unary_result' ..).trans ?_)
  rw [← keep m c 130 (r := main_v100) (by decide)]
  try rfl
theorem at_cst_22 : R m c main_cst_22 = (constant (F := Ideal) S_ .f32 0x00000000#32)  := by
  refine (step m c 131 rfl (by decide)).trans ((nullary_result' ..).trans ?_)
  first | done | rfl
theorem at_v102 : R m c main_v102 = ((fun x v => Host.reduceAdd (F := Ideal) (φ := .f32) x v reducesTo_S3x8192x8_S8192x8_d0 h_S_) : Arr S3x8192x8 .f32 → Arr S_ .f32 → Arr S8192x8 .f32) (R m c main_v101) (R m c main_cst_22) := by
  refine (step m c 132 rfl (by decide)).trans ((binary_result' ..).trans ?_)
  rw [← keep m c 132 (r := main_v101) (by decide), ← keep m c 132 (r := main_cst_22) (by decide)]
  try rfl
theorem at_v103 : R m c main_v103 = (broadcastInDim S1x8192x8 ![1, 2] bcast_S8192x8_S1x8192x8_1_2 : Arr S8192x8 .f32 → Arr S1x8192x8 .f32) (R m c main_v102) := by
  refine (step m c 133 rfl (by decide)).trans ((unary_result' ..).trans ?_)
  rw [← keep m c 133 (r := main_v102) (by decide)]
  try rfl
theorem at_v104 : R m c main_v104 = (broadcastInDim S3x8192x8 ![0, 1, 2] bcast_S1x8192x8_S3x8192x8_0_1_2 : Arr S1x8192x8 .f32 → Arr S3x8192x8 .f32) (R m c main_v103) := by
  refine (step m c 134 rfl (by decide)).trans ((unary_result' ..).trans ?_)
  rw [← keep m c 134 (r := main_v103) (by decide)]
  try rfl
theorem at_v105 : R m c main_v105 = (Host.divf (F := Ideal) (φ := .f32) : Arr S3x8192x8 .f32 → Arr S3x8192x8 .f32 → Arr S3x8192x8 .f32) (R m c main_v101) (R m c main_v104) := by
  refine (step m c 135 rfl (by decide)).trans ((binary_result' ..).trans ?_)
  rw [← keep m c 135 (r := main_v101) (by decide), ← keep m c 135 (r := main_v104) (by decide)]
  try rfl
theorem at_v106 : R m c main_v106 = (mulf (F := Ideal) (φ := .f32) : Arr S1x8192x8 .f32 → Arr S1x8192x8 .f32 → Arr S1x8192x8 .f32) (R m c main_v103) (R m c main_v103) := by
  refine (step m c 136 rfl (by decide)).trans ((binary_result' ..).trans ?_)
  rw [← keep m c 136 (r := main_v103) (by decide)]
  try rfl
theorem at_cst_23 : R m c main_cst_23 = (constant (F := Ideal) S_ .f32 0x3F800000#32)  := by
  refine (step m c 137 rfl (by decide)).trans ((nullary_result' ..).trans ?_)
  first | done | rfl
theorem at_v107 : R m c main_v107 = (broadcastInDim S1x8192x8 ![] bcast_S_S1x8192x8 : Arr S_ .f32 → Arr S1x8192x8 .f32) (R m c main_cst_23) := by
  refine (step m c 138 rfl (by decide)).trans ((unary_result' ..).trans ?_)
  rw [← keep m c 138 (r := main_cst_23) (by decide)]
  try rfl
theorem at_v108 : R m c main_v108 = (Host.divf (F := Ideal) (φ := .f32) : Arr S1x8192x8 .f32 → Arr S1x8192x8 .f32 → Arr S1x8192x8 .f32) (R m c main_v107) (R m c main_v106) := by
  refine (step m c 139 rfl (by decide)).trans ((binary_result' ..).trans ?_)
  rw [← keep m c 139 (r := main_v107) (by decide), ← keep m c 139 (r := main_v106) (by decide)]
  try rfl
theorem at_v109 : R m c main_v109 = (broadcastInDim S3x8192x8x1 ![0, 1, 2] bcast_S3x8192x8_S3x8192x8x1_0_1_2 : Arr S3x8192x8 .f32 → Arr S3x8192x8x1 .f32) (R m c main_v105) := by
  refine (step m c 140 rfl (by decide)).trans ((unary_result' ..).trans ?_)
  rw [← keep m c 140 (r := main_v105) (by decide)]
  try rfl
theorem at_v110 : R m c main_v110 = (broadcastInDim S1x8192x8x64 ![1, 2, 3] bcast_S8192x8x64_S1x8192x8x64_1_2_3 : Arr S8192x8x64 .f32 → Arr S1x8192x8x64 .f32) (R m c main_v72) := by
  refine (step m c 141 rfl (by decide)).trans ((unary_result' ..).trans ?_)
  rw [← keep m c 141 (r := main_v72) (by decide)]
  try rfl
theorem at_v111 : R m c main_v111 = (broadcastInDim S1x8192x8x64 ![1, 2, 3] bcast_S8192x8x64_S1x8192x8x64_1_2_3 : Arr S8192x8x64 .f32 → Arr S1x8192x8x64 .f32) (R m c main_arg4) := by
  refine (step m c 142 rfl (by decide)).trans ((unary_result' ..).trans ?_)
  rw [← keep m c 142 (r := main_arg4) (by decide)]
  try rfl
theorem at_v112 : R m c main_v112 = (broadcastInDim S1x8192x8x64 ![1, 2, 3] bcast_S8192x8x64_S1x8192x8x64_1_2_3 : Arr S8192x8x64 .f32 → Arr S1x8192x8x64 .f32) (R m c main_arg6) := by
  refine (step m c 143 rfl (by decide)).trans ((unary_result' ..).trans ?_)
  rw [← keep m c 143 (r := main_arg6) (by decide)]
  try rfl
theorem at_v113 : R m c main_v113 = fn_main_v113 (R m c main_v110) (R m c main_v111) (R m c main_v112) := by
  refine (step m c 144 rfl (by decide)).trans ((nary_result' ..).trans ?_)
  rw [← keep m c 144 (r := main_v110) (by decide), ← keep m c 144 (r := main_v111) (by decide), ← keep m c 144 (r := main_v112) (by decide)]
  try rfl
theorem at_cst_24 : R m c main_cst_24 = (constant (F := Ideal) S_ .f32 0x00000000#32)  := by
  refine (step m c 145 rfl (by decide)).trans ((nullary_result' ..).trans ?_)
  first | done | rfl
theorem at_v114 : R m c main_v114 = (broadcastInDim S8192x8x64 ![] bcast_S_S8192x8x64 : Arr S_ .f32 → Arr S8192x8x64 .f32) (R m c main_cst_24) := by
  refine (step m c 146 rfl (by decide)).trans ((unary_result' ..).trans ?_)
  rw [← keep m c 146 (r := main_cst_24) (by decide)]
  try rfl
theorem at_cst_25 : R m c main_cst_25 = (constant (F := Ideal) S_ .f32 0x00000000#32)  := by
  refine (step m c 147 rfl (by decide)).trans ((nullary_result' ..).trans ?_)
  first | done | rfl
theorem at_v115 : R m c main_v115 = (broadcastInDim S8192x8x64 ![] bcast_S_S8192x8x64 : Arr S_ .f32 → Arr S8192x8x64 .f32) (R m c main_cst_25) := by
  refine (step m c 148 rfl (by decide)).trans ((unary_result' ..).trans ?_)
  rw [← keep m c 148 (r := main_cst_25) (by decide)]
  try rfl
theorem at_v116 : R m c main_v116 = (broadcastInDim S3x8192x8x64 ![0, 1, 2, 3] bcast_S3x8192x8x1_S3x8192x8x64_0_1_2_3 : Arr S3x8192x8x1 .f32 → Arr S3x8192x8x64 .f32) (R m c main_v109) := by
  refine (step m c 149 rfl (by decide)).trans ((unary_result' ..).trans ?_)
  rw [← keep m c 149 (r := main_v109) (by decide)]
  try rfl
theorem at_v117 : R m c main_v117 = (mulf (F := Ideal) (φ := .f32) : Arr S3x8192x8x64 .f32 → Arr S3x8192x8x64 .f32 → Arr S3x8192x8x64 .f32) (R m c main_v116) (R m c main_v113) := by
  refine (step m c 150 rfl (by decide)).trans ((binary_result' ..).trans ?_)
  rw [← keep m c 150 (r := main_v116) (by decide), ← keep m c 150 (r := main_v113) (by decide)]
  try rfl
theorem at_cst_26 : R m c main_cst_26 = (constant (F := Ideal) S_ .f32 0x00000000#32)  := by
  refine (step m c 151 rfl (by decide)).trans ((nullary_result' ..).trans ?_)
  first | done | rfl
theorem at_v118 : R m c main_v118 = ((fun x v => Host.reduceAdd (F := Ideal) (φ := .f32) x v reducesTo_S3x8192x8x64_S8192x8x64_d0 h_S_) : Arr S3x8192x8x64 .f32 → Arr S_ .f32 → Arr S8192x8x64 .f32) (R m c main_v117) (R m c main_cst_26) := by
  refine (step m c 152 rfl (by decide)).trans ((binary_result' ..).trans ?_)
  rw [← keep m c 152 (r := main_v117) (by decide), ← keep m c 152 (r := main_cst_26) (by decide)]
  try rfl
theorem at_v119 : R m c main_v119 = shapeCast _ (R m c main_v118) shapeCasts_S8192x8x64_S1x8192x512 := by
  refine (step m c 153 rfl (by decide)).trans ((reshape_result' ..).trans ?_)
  rw [← keep m c 153 (r := main_v118) (by decide)]
  try rfl
theorem at_v120 : R m c main_v120 = shapeCast _ (R m c main_arg8) shapeCasts_S1x8192x512_S8192x8x64 := by
  refine (step m c 154 rfl (by decide)).trans ((reshape_result' ..).trans ?_)
  rw [← keep m c 154 (r := main_arg8) (by decide)]
  try rfl
theorem at_v121 : R m c main_v121 = (broadcastInDim S3x8192x8x64 ![1, 2, 3] bcast_S8192x8x64_S3x8192x8x64_1_2_3 : Arr S8192x8x64 .f32 → Arr S3x8192x8x64 .f32) (R m c main_v120) := by
  refine (step m c 155 rfl (by decide)).trans ((unary_result' ..).trans ?_)
  rw [← keep m c 155 (r := main_v120) (by decide)]
  try rfl
theorem at_v122 : R m c main_v122 = (broadcastInDim S3x8192x8x64 ![0, 1, 2, 3] bcast_S3x8192x8x1_S3x8192x8x64_0_1_2_3 : Arr S3x8192x8x1 .f32 → Arr S3x8192x8x64 .f32) (R m c main_v109) := by
  refine (step m c 156 rfl (by decide)).trans ((unary_result' ..).trans ?_)
  rw [← keep m c 156 (r := main_v109) (by decide)]
  try rfl
theorem at_v123 : R m c main_v123 = (mulf (F := Ideal) (φ := .f32) : Arr S3x8192x8x64 .f32 → Arr S3x8192x8x64 .f32 → Arr S3x8192x8x64 .f32) (R m c main_v122) (R m c main_v121) := by
  refine (step m c 157 rfl (by decide)).trans ((binary_result' ..).trans ?_)
  rw [← keep m c 157 (r := main_v122) (by decide), ← keep m c 157 (r := main_v121) (by decide)]
  try rfl
theorem at_v124 : R m c main_v124 = (mulf (F := Ideal) (φ := .f32) : Arr S3x8192x8x64 .f32 → Arr S3x8192x8x64 .f32 → Arr S3x8192x8x64 .f32) (R m c main_v121) (R m c main_v113) := by
  refine (step m c 158 rfl (by decide)).trans ((binary_result' ..).trans ?_)
  rw [← keep m c 158 (r := main_v121) (by decide), ← keep m c 158 (r := main_v113) (by decide)]
  try rfl
theorem at_cst_27 : R m c main_cst_27 = (constant (F := Ideal) S_ .f32 0x00000000#32)  := by
  refine (step m c 159 rfl (by decide)).trans ((nullary_result' ..).trans ?_)
  first | done | rfl
theorem at_v125 : R m c main_v125 = ((fun x v => Host.reduceAdd (F := Ideal) (φ := .f32) x v reducesTo_S3x8192x8x64_S3x8192x8_d3 h_S_) : Arr S3x8192x8x64 .f32 → Arr S_ .f32 → Arr S3x8192x8 .f32) (R m c main_v124) (R m c main_cst_27) := by
  refine (step m c 160 rfl (by decide)).trans ((binary_result' ..).trans ?_)
  rw [← keep m c 160 (r := main_v124) (by decide), ← keep m c 160 (r := main_cst_27) (by decide)]
  try rfl
theorem at_v126 : R m c main_v126 = shapeCast _ (R m c main_v125) shapeCasts_S3x8192x8_S3x8192x8x1 := by
  refine (step m c 161 rfl (by decide)).trans ((reshape_result' ..).trans ?_)
  rw [← keep m c 161 (r := main_v125) (by decide)]
  try rfl
theorem at_v127 : R m c main_v127 = ((extractStridedSlice S1x8192x8x64 ![0, 0, 0, 0] · slices_S3x8192x8x64_S1x8192x8x64_0_0_0_0) : Arr S3x8192x8x64 .f32 → Arr S1x8192x8x64 .f32) (R m c main_v123) := by
  refine (step m c 162 rfl (by decide)).trans ((unary_result' ..).trans ?_)
  rw [← keep m c 162 (r := main_v123) (by decide)]
  try rfl
theorem at_v128 : R m c main_v128 = shapeCast _ (R m c main_v127) shapeCasts_S1x8192x8x64_S8192x8x64 := by
  refine (step m c 163 rfl (by decide)).trans ((reshape_result' ..).trans ?_)
  rw [← keep m c 163 (r := main_v127) (by decide)]
  try rfl
theorem at_v129 : R m c main_v129 = ((extractStridedSlice S1x8192x8x64 ![1, 0, 0, 0] · slices_S3x8192x8x64_S1x8192x8x64_1_0_0_0) : Arr S3x8192x8x64 .f32 → Arr S1x8192x8x64 .f32) (R m c main_v123) := by
  refine (step m c 164 rfl (by decide)).trans ((unary_result' ..).trans ?_)
  rw [← keep m c 164 (r := main_v123) (by decide)]
  try rfl
theorem at_v130 : R m c main_v130 = shapeCast _ (R m c main_v129) shapeCasts_S1x8192x8x64_S8192x8x64 := by
  refine (step m c 165 rfl (by decide)).trans ((reshape_result' ..).trans ?_)
  rw [← keep m c 165 (r := main_v129) (by decide)]
  try rfl
theorem at_v131 : R m c main_v131 = ((extractStridedSlice S1x8192x8x64 ![2, 0, 0, 0] · slices_S3x8192x8x64_S1x8192x8x64_2_0_0_0) : Arr S3x8192x8x64 .f32 → Arr S1x8192x8x64 .f32) (R m c main_v123) := by
  refine (step m c 166 rfl (by decide)).trans ((unary_result' ..).trans ?_)
  rw [← keep m c 166 (r := main_v123) (by decide)]
  try rfl
theorem at_v132 : R m c main_v132 = shapeCast _ (R m c main_v131) shapeCasts_S1x8192x8x64_S8192x8x64 := by
  refine (step m c 167 rfl (by decide)).trans ((reshape_result' ..).trans ?_)
  rw [← keep m c 167 (r := main_v131) (by decide)]
  try rfl
theorem at_cst_28 : R m c main_cst_28 = (constant (F := Ideal) S_ .f32 0x00000000#32)  := by
  refine (step m c 168 rfl (by decide)).trans ((nullary_result' ..).trans ?_)
  first | done | rfl
theorem at_v133 : R m c main_v133 = ((fun x v => Host.reduceAdd (F := Ideal) (φ := .f32) x v reducesTo_S3x8192x8x1_S3x8192x8_d3 h_S_) : Arr S3x8192x8x1 .f32 → Arr S_ .f32 → Arr S3x8192x8 .f32) (R m c main_v126) (R m c main_cst_28) := by
  refine (step m c 169 rfl (by decide)).trans ((binary_result' ..).trans ?_)
  rw [← keep m c 169 (r := main_v126) (by decide), ← keep m c 169 (r := main_cst_28) (by decide)]
  try rfl
theorem at_v134 : R m c main_v134 = (broadcastInDim S3x8192x8 ![0, 1, 2] bcast_S1x8192x8_S3x8192x8_0_1_2 : Arr S1x8192x8 .f32 → Arr S3x8192x8 .f32) (R m c main_v108) := by
  refine (step m c 170 rfl (by decide)).trans ((unary_result' ..).trans ?_)
  rw [← keep m c 170 (r := main_v108) (by decide)]
  try rfl
theorem at_v135 : R m c main_v135 = (mulf (F := Ideal) (φ := .f32) : Arr S3x8192x8 .f32 → Arr S3x8192x8 .f32 → Arr S3x8192x8 .f32) (R m c main_v133) (R m c main_v134) := by
  refine (step m c 171 rfl (by decide)).trans ((binary_result' ..).trans ?_)
  rw [← keep m c 171 (r := main_v133) (by decide), ← keep m c 171 (r := main_v134) (by decide)]
  try rfl
theorem at_v136 : R m c main_v136 = (mulf (F := Ideal) (φ := .f32) : Arr S3x8192x8 .f32 → Arr S3x8192x8 .f32 → Arr S3x8192x8 .f32) (R m c main_v135) (R m c main_v101) := by
  refine (step m c 172 rfl (by decide)).trans ((binary_result' ..).trans ?_)
  rw [← keep m c 172 (r := main_v135) (by decide), ← keep m c 172 (r := main_v101) (by decide)]
  try rfl
theorem at_cst_29 : R m c main_cst_29 = (constant (F := Ideal) S_ .f32 0x00000000#32)  := by
  refine (step m c 173 rfl (by decide)).trans ((nullary_result' ..).trans ?_)
  first | done | rfl
theorem at_v137 : R m c main_v137 = ((fun x v => Host.reduceAdd (F := Ideal) (φ := .f32) x v reducesTo_S3x8192x8_S8192x8_d0 h_S_) : Arr S3x8192x8 .f32 → Arr S_ .f32 → Arr S8192x8 .f32) (R m c main_v136) (R m c main_cst_29) := by
  refine (step m c 174 rfl (by decide)).trans ((binary_result' ..).trans ?_)
  rw [← keep m c 174 (r := main_v136) (by decide), ← keep m c 174 (r := main_cst_29) (by decide)]
  try rfl
theorem at_v138 : R m c main_v138 = shapeCast _ (R m c main_v137) shapeCasts_S8192x8_S1x8192x8 := by
  refine (step m c 175 rfl (by decide)).trans ((reshape_result' ..).trans ?_)
  rw [← keep m c 175 (r := main_v137) (by decide)]
  try rfl
theorem at_v139 : R m c main_v139 = (Host.negf (F := Ideal) (φ := .f32) : Arr S1x8192x8 .f32 → Arr S1x8192x8 .f32) (R m c main_v138) := by
  refine (step m c 176 rfl (by decide)).trans ((unary_result' ..).trans ?_)
  rw [← keep m c 176 (r := main_v138) (by decide)]
  try rfl
theorem at_v140 : R m c main_v140 = (broadcastInDim S3x8192x8 ![0, 1, 2] bcast_S1x8192x8_S3x8192x8_0_1_2 : Arr S1x8192x8 .f32 → Arr S3x8192x8 .f32) (R m c main_v103) := by
  refine (step m c 177 rfl (by decide)).trans ((unary_result' ..).trans ?_)
  rw [← keep m c 177 (r := main_v103) (by decide)]
  try rfl
theorem at_v141 : R m c main_v141 = (Host.divf (F := Ideal) (φ := .f32) : Arr S3x8192x8 .f32 → Arr S3x8192x8 .f32 → Arr S3x8192x8 .f32) (R m c main_v133) (R m c main_v140) := by
  refine (step m c 178 rfl (by decide)).trans ((binary_result' ..).trans ?_)
  rw [← keep m c 178 (r := main_v133) (by decide), ← keep m c 178 (r := main_v140) (by decide)]
  try rfl
theorem at_cst_30 : R m c main_cst_30 = (constant (F := Ideal) S_ .f32 0x00000000#32)  := by
  refine (step m c 179 rfl (by decide)).trans ((nullary_result' ..).trans ?_)
  first | done | rfl
theorem at_v142 : R m c main_v142 = ((fun x v => Host.reduceAdd (F := Ideal) (φ := .f32) x v reducesTo_S1x8192x8_S8192x8_d0 h_S_) : Arr S1x8192x8 .f32 → Arr S_ .f32 → Arr S8192x8 .f32) (R m c main_v139) (R m c main_cst_30) := by
  refine (step m c 180 rfl (by decide)).trans ((binary_result' ..).trans ?_)
  rw [← keep m c 180 (r := main_v139) (by decide), ← keep m c 180 (r := main_cst_30) (by decide)]
  try rfl
theorem at_v143 : R m c main_v143 = (broadcastInDim S3x8192x8 ![1, 2] bcast_S8192x8_S3x8192x8_1_2 : Arr S8192x8 .f32 → Arr S3x8192x8 .f32) (R m c main_v142) := by
  refine (step m c 181 rfl (by decide)).trans ((unary_result' ..).trans ?_)
  rw [← keep m c 181 (r := main_v142) (by decide)]
  try rfl
theorem at_v144 : R m c main_v144 = (addf (F := Ideal) (φ := .f32) : Arr S3x8192x8 .f32 → Arr S3x8192x8 .f32 → Arr S3x8192x8 .f32) (R m c main_v141) (R m c main_v143) := by
  refine (step m c 182 rfl (by decide)).trans ((binary_result' ..).trans ?_)
  rw [← keep m c 182 (r := main_v141) (by decide), ← keep m c 182 (r := main_v143) (by decide)]
  try rfl
theorem at_v145 : R m c main_v145 = (mulf (F := Ideal) (φ := .f32) : Arr S3x8192x8 .f32 → Arr S3x8192x8 .f32 → Arr S3x8192x8 .f32) (R m c main_v144) (R m c main_v101) := by
  refine (step m c 183 rfl (by decide)).trans ((binary_result' ..).trans ?_)
  rw [← keep m c 183 (r := main_v144) (by decide), ← keep m c 183 (r := main_v101) (by decide)]
  try rfl
theorem at_v146 : R m c main_v146 = ((extractStridedSlice S1x8192x8 ![0, 0, 0] · slices_S3x8192x8_S1x8192x8_0_0_0) : Arr S3x8192x8 .f32 → Arr S1x8192x8 .f32) (R m c main_v145) := by
  refine (step m c 184 rfl (by decide)).trans ((unary_result' ..).trans ?_)
  rw [← keep m c 184 (r := main_v145) (by decide)]
  try rfl
theorem at_v147 : R m c main_v147 = shapeCast _ (R m c main_v146) shapeCasts_S1x8192x8_S8192x8 := by
  refine (step m c 185 rfl (by decide)).trans ((reshape_result' ..).trans ?_)
  rw [← keep m c 185 (r := main_v146) (by decide)]
  try rfl
theorem at_v148 : R m c main_v148 = ((extractStridedSlice S1x8192x8 ![1, 0, 0] · slices_S3x8192x8_S1x8192x8_1_0_0) : Arr S3x8192x8 .f32 → Arr S1x8192x8 .f32) (R m c main_v145) := by
  refine (step m c 186 rfl (by decide)).trans ((unary_result' ..).trans ?_)
  rw [← keep m c 186 (r := main_v145) (by decide)]
  try rfl
theorem at_v149 : R m c main_v149 = shapeCast _ (R m c main_v148) shapeCasts_S1x8192x8_S8192x8 := by
  refine (step m c 187 rfl (by decide)).trans ((reshape_result' ..).trans ?_)
  rw [← keep m c 187 (r := main_v148) (by decide)]
  try rfl
theorem at_v150 : R m c main_v150 = ((extractStridedSlice S1x8192x8 ![2, 0, 0] · slices_S3x8192x8_S1x8192x8_2_0_0) : Arr S3x8192x8 .f32 → Arr S1x8192x8 .f32) (R m c main_v145) := by
  refine (step m c 188 rfl (by decide)).trans ((unary_result' ..).trans ?_)
  rw [← keep m c 188 (r := main_v145) (by decide)]
  try rfl
theorem at_v151 : R m c main_v151 = shapeCast _ (R m c main_v150) shapeCasts_S1x8192x8_S8192x8 := by
  refine (step m c 189 rfl (by decide)).trans ((reshape_result' ..).trans ?_)
  rw [← keep m c 189 (r := main_v150) (by decide)]
  try rfl
theorem at_v152 : R m c main_v152 = shapeCast _ (R m c main_v147) shapeCasts_S8192x8_S64x128x8 := by
  refine (step m c 190 rfl (by decide)).trans ((reshape_result' ..).trans ?_)
  rw [← keep m c 190 (r := main_v147) (by decide)]
  try rfl
theorem at_v153 : R m c main_v153 = ((transpose S64x8x128 [0, 2, 1] · transposes_S64x128x8_S64x8x128_0_2_1) : Arr S64x128x8 .f32 → Arr S64x8x128 .f32) (R m c main_v152) := by
  refine (step m c 191 rfl (by decide)).trans ((unary_result' ..).trans ?_)
  rw [← keep m c 191 (r := main_v152) (by decide)]
  try rfl
theorem at_v154 : R m c main_v154 = shapeCast _ (R m c main_v128) shapeCasts_S8192x8x64_S64x128x8x64 := by
  refine (step m c 192 rfl (by decide)).trans ((reshape_result' ..).trans ?_)
  rw [← keep m c 192 (r := main_v128) (by decide)]
  try rfl
theorem at_v155 : R m c main_v155 = (broadcastInDim S64x8x128x1 ![0, 1, 2] bcast_S64x8x128_S64x8x128x1_0_1_2 : Arr S64x8x128 .f32 → Arr S64x8x128x1 .f32) (R m c main_v153) := by
  refine (step m c 193 rfl (by decide)).trans ((unary_result' ..).trans ?_)
  rw [← keep m c 193 (r := main_v153) (by decide)]
  try rfl
theorem at_v156 : R m c main_v156 = (Host.divf (F := Ideal) (φ := .f32) : Arr S64x8x128x1 .f32 → Arr S64x8x128x1 .f32 → Arr S64x8x128x1 .f32) (R m c main_v155) (R m c main_v61) := by
  refine (step m c 194 rfl (by decide)).trans ((binary_result' ..).trans ?_)
  rw [← keep m c 194 (r := main_v155) (by decide), ← keep m c 194 (r := main_v61) (by decide)]
  try rfl
theorem at_v157 : R m c main_v157 = ((transpose S64x8x64x128 [0, 2, 3, 1] · transposes_S64x128x8x64_S64x8x64x128_0_2_3_1) : Arr S64x128x8x64 .f32 → Arr S64x8x64x128 .f32) (R m c main_v154) := by
  refine (step m c 195 rfl (by decide)).trans ((unary_result' ..).trans ?_)
  rw [← keep m c 195 (r := main_v154) (by decide)]
  try rfl
theorem at_v158 : R m c main_v158 = ((fun l r => Host.dotGeneral (F := Ideal) (φ₁ := .f32) (φ₂ := .f32) dot_S64x8x64x128_S64x256x8x64_S64x8x128x256_2_3_3_1_01_02 none l r) : Arr S64x8x64x128 .f32 → Arr S64x256x8x64 .f32 → Arr S64x8x128x256 .f32) (R m c main_v157) (R m c main_v15) := by
  refine (step m c 196 rfl (by decide)).trans ((binary_result' ..).trans ?_)
  rw [← keep m c 196 (r := main_v157) (by decide), ← keep m c 196 (r := main_v15) (by decide)]
  try rfl
theorem at_v159 : R m c main_v159 = ((fun l r => Host.dotGeneral (F := Ideal) (φ₁ := .f32) (φ₂ := .f32) dot_S64x8x64x128_S64x8x128x256_S64x8x64x256_3_2_2_3_01_01 none l r) : Arr S64x8x64x128 .f32 → Arr S64x8x128x256 .f32 → Arr S64x8x64x256 .f32) (R m c main_v157) (R m c main_v63) := by
  refine (step m c 197 rfl (by decide)).trans ((binary_result' ..).trans ?_)
  rw [← keep m c 197 (r := main_v157) (by decide), ← keep m c 197 (r := main_v63) (by decide)]
  try rfl
theorem at_v160 : R m c main_v160 = ((transpose S64x256x8x64 [0, 3, 1, 2] · transposes_S64x8x64x256_S64x256x8x64_0_3_1_2) : Arr S64x8x64x256 .f32 → Arr S64x256x8x64 .f32) (R m c main_v159) := by
  refine (step m c 198 rfl (by decide)).trans ((unary_result' ..).trans ?_)
  rw [← keep m c 198 (r := main_v159) (by decide)]
  try rfl
theorem at_v161 : R m c main_v161 = (broadcastInDim S64x8x128x256 ![0, 1, 2, 3] bcast_S64x8x128x1_S64x8x128x256_0_1_2_3 : Arr S64x8x128x1 .f32 → Arr S64x8x128x256 .f32) (R m c main_v66) := by
  refine (step m c 199 rfl (by decide)).trans ((unary_result' ..).trans ?_)
  rw [← keep m c 199 (r := main_v66) (by decide)]
  try rfl
theorem at_v162 : R m c main_v162 = (mulf (F := Ideal) (φ := .f32) : Arr S64x8x128x256 .f32 → Arr S64x8x128x256 .f32 → Arr S64x8x128x256 .f32) (R m c main_v158) (R m c main_v161) := by
  refine (step m c 200 rfl (by decide)).trans ((binary_result' ..).trans ?_)
  rw [← keep m c 200 (r := main_v158) (by decide), ← keep m c 200 (r := main_v161) (by decide)]
  try rfl
theorem at_v163 : R m c main_v163 = (mulf (F := Ideal) (φ := .f32) : Arr S64x8x128x256 .f32 → Arr S64x8x128x256 .f32 → Arr S64x8x128x256 .f32) (R m c main_v162) (R m c main_v59) := by
  refine (step m c 201 rfl (by decide)).trans ((binary_result' ..).trans ?_)
  rw [← keep m c 201 (r := main_v162) (by decide), ← keep m c 201 (r := main_v59) (by decide)]
  try rfl
theorem at_cst_31 : R m c main_cst_31 = (constant (F := Ideal) S_ .f32 0x00000000#32)  := by
  refine (step m c 202 rfl (by decide)).trans ((nullary_result' ..).trans ?_)
  first | done | rfl
theorem at_v164 : R m c main_v164 = ((fun x v => Host.reduceAdd (F := Ideal) (φ := .f32) x v reducesTo_S64x8x128x256_S64x8x128_d3 h_S_) : Arr S64x8x128x256 .f32 → Arr S_ .f32 → Arr S64x8x128 .f32) (R m c main_v163) (R m c main_cst_31) := by
  refine (step m c 203 rfl (by decide)).trans ((binary_result' ..).trans ?_)
  rw [← keep m c 203 (r := main_v163) (by decide), ← keep m c 203 (r := main_cst_31) (by decide)]
  try rfl
theorem at_v165 : R m c main_v165 = shapeCast _ (R m c main_v164) shapeCasts_S64x8x128_S64x8x128x1 := by
  refine (step m c 204 rfl (by decide)).trans ((reshape_result' ..).trans ?_)
  rw [← keep m c 204 (r := main_v164) (by decide)]
  try rfl
theorem at_v166 : R m c main_v166 = (Host.negf (F := Ideal) (φ := .f32) : Arr S64x8x128x1 .f32 → Arr S64x8x128x1 .f32) (R m c main_v165) := by
  refine (step m c 205 rfl (by decide)).trans ((unary_result' ..).trans ?_)
  rw [← keep m c 205 (r := main_v165) (by decide)]
  try rfl
theorem at_v167 : R m c main_v167 = (addf (F := Ideal) (φ := .f32) : Arr S64x8x128x1 .f32 → Arr S64x8x128x1 .f32 → Arr S64x8x128x1 .f32) (R m c main_v156) (R m c main_v166) := by
  refine (step m c 206 rfl (by decide)).trans ((binary_result' ..).trans ?_)
  rw [← keep m c 206 (r := main_v156) (by decide), ← keep m c 206 (r := main_v166) (by decide)]
  try rfl
theorem at_v168 : R m c main_v168 = (broadcastInDim S64x8x128x256 ![0, 1, 2, 3] bcast_S64x8x128x1_S64x8x128x256_0_1_2_3 : Arr S64x8x128x1 .f32 → Arr S64x8x128x256 .f32) (R m c main_v61) := by
  refine (step m c 207 rfl (by decide)).trans ((unary_result' ..).trans ?_)
  rw [← keep m c 207 (r := main_v61) (by decide)]
  try rfl
theorem at_v169 : R m c main_v169 = (Host.divf (F := Ideal) (φ := .f32) : Arr S64x8x128x256 .f32 → Arr S64x8x128x256 .f32 → Arr S64x8x128x256 .f32) (R m c main_v158) (R m c main_v168) := by
  refine (step m c 208 rfl (by decide)).trans ((binary_result' ..).trans ?_)
  rw [← keep m c 208 (r := main_v158) (by decide), ← keep m c 208 (r := main_v168) (by decide)]
  try rfl
theorem at_cst_32 : R m c main_cst_32 = (constant (F := Ideal) S_ .f32 0x00000000#32)  := by
  refine (step m c 209 rfl (by decide)).trans ((nullary_result' ..).trans ?_)
  first | done | rfl
theorem at_v170 : R m c main_v170 = ((fun x v => Host.reduceAdd (F := Ideal) (φ := .f32) x v reducesTo_S64x8x128x1_S64x8x128_d3 h_S_) : Arr S64x8x128x1 .f32 → Arr S_ .f32 → Arr S64x8x128 .f32) (R m c main_v167) (R m c main_cst_32) := by
  refine (step m c 210 rfl (by decide)).trans ((binary_result' ..).trans ?_)
  rw [← keep m c 210 (r := main_v167) (by decide), ← keep m c 210 (r := main_cst_32) (by decide)]
  try rfl
theorem at_v171 : R m c main_v171 = (broadcastInDim S64x8x128x256 ![0, 1, 2] bcast_S64x8x128_S64x8x128x256_0_1_2 : Arr S64x8x128 .f32 → Arr S64x8x128x256 .f32) (R m c main_v170) := by
  refine (step m c 211 rfl (by decide)).trans ((unary_result' ..).trans ?_)
  rw [← keep m c 211 (r := main_v170) (by decide)]
  try rfl
theorem at_v172 : R m c main_v172 = (addf (F := Ideal) (φ := .f32) : Arr S64x8x128x256 .f32 → Arr S64x8x128x256 .f32 → Arr S64x8x128x256 .f32) (R m c main_v169) (R m c main_v171) := by
  refine (step m c 212 rfl (by decide)).trans ((binary_result' ..).trans ?_)
  rw [← keep m c 212 (r := main_v169) (by decide), ← keep m c 212 (r := main_v171) (by decide)]
  try rfl
theorem at_v173 : R m c main_v173 = (mulf (F := Ideal) (φ := .f32) : Arr S64x8x128x256 .f32 → Arr S64x8x128x256 .f32 → Arr S64x8x128x256 .f32) (R m c main_v172) (R m c main_v59) := by
  refine (step m c 213 rfl (by decide)).trans ((binary_result' ..).trans ?_)
  rw [← keep m c 213 (r := main_v172) (by decide), ← keep m c 213 (r := main_v59) (by decide)]
  try rfl
theorem at_v174 : R m c main_v174 = (Host.negf (F := Ideal) (φ := .f32) : Arr S64x8x128x256 .f32 → Arr S64x8x128x256 .f32) (R m c main_v173) := by
  refine (step m c 214 rfl (by decide)).trans ((unary_result' ..).trans ?_)
  rw [← keep m c 214 (r := main_v173) (by decide)]
  try rfl
theorem at_cst_33 : R m c main_cst_33 = (constant (F := Ideal) S_ .f32 0x00000000#32)  := by
  refine (step m c 215 rfl (by decide)).trans ((nullary_result' ..).trans ?_)
  first | done | rfl
theorem at_v175 : R m c main_v175 = ((fun x v => Host.reduceAdd (F := Ideal) (φ := .f32) x v reducesTo_S64x8x128x256_S64x8x128_d3 h_S_) : Arr S64x8x128x256 .f32 → Arr S_ .f32 → Arr S64x8x128 .f32) (R m c main_v174) (R m c main_cst_33) := by
  refine (step m c 216 rfl (by decide)).trans ((binary_result' ..).trans ?_)
  rw [← keep m c 216 (r := main_v174) (by decide), ← keep m c 216 (r := main_cst_33) (by decide)]
  try rfl
theorem at_v176 : R m c main_v176 = shapeCast _ (R m c main_v175) shapeCasts_S64x8x128_S64x8x128x1 := by
  refine (step m c 217 rfl (by decide)).trans ((reshape_result' ..).trans ?_)
  rw [← keep m c 217 (r := main_v175) (by decide)]
  try rfl
theorem at_v177 : R m c main_v177 = (addf (F := Ideal) (φ := .f32) : Arr S64x8x128x1 .f32 → Arr S64x8x128x1 .f32 → Arr S64x8x128x1 .f32) (R m c main_v155) (R m c main_v176) := by
  refine (step m c 218 rfl (by decide)).trans ((binary_result' ..).trans ?_)
  rw [← keep m c 218 (r := main_v155) (by decide), ← keep m c 218 (r := main_v176) (by decide)]
  try rfl
theorem at_cst_34 : R m c main_cst_34 = (constant (F := Ideal) S_ .f32 0x00000000#32)  := by
  refine (step m c 219 rfl (by decide)).trans ((nullary_result' ..).trans ?_)
  first | done | rfl
theorem at_v178 : R m c main_v178 = ((fun x v => Host.reduceAdd (F := Ideal) (φ := .f32) x v reducesTo_S64x8x128x1_S64x8x128_d3 h_S_) : Arr S64x8x128x1 .f32 → Arr S_ .f32 → Arr S64x8x128 .f32) (R m c main_v177) (R m c main_cst_34) := by
  refine (step m c 220 rfl (by decide)).trans ((binary_result' ..).trans ?_)
  rw [← keep m c 220 (r := main_v177) (by decide), ← keep m c 220 (r := main_cst_34) (by decide)]
  try rfl
theorem at_v179 : R m c main_v179 = (Host.divf (F := Ideal) (φ := .f32) : Arr S64x8x128 .f32 → Arr S64x8x128 .f32 → Arr S64x8x128 .f32) (R m c main_v178) (R m c main_v55) := by
  refine (step m c 221 rfl (by decide)).trans ((binary_result' ..).trans ?_)
  rw [← keep m c 221 (r := main_v178) (by decide), ← keep m c 221 (r := main_v55) (by decide)]
  try rfl
theorem at_v180 : R m c main_v180 = (broadcastInDim S64x8x128x256 ![0, 1, 2] bcast_S64x8x128_S64x8x128x256_0_1_2 : Arr S64x8x128 .f32 → Arr S64x8x128x256 .f32) (R m c main_v179) := by
  refine (step m c 222 rfl (by decide)).trans ((unary_result' ..).trans ?_)
  rw [← keep m c 222 (r := main_v179) (by decide)]
  try rfl
theorem at_v181 : R m c main_v181 = (mulf (F := Ideal) (φ := .f32) : Arr S64x8x128x256 .f32 → Arr S64x8x128x256 .f32 → Arr S64x8x128x256 .f32) (R m c main_v180) (R m c main_v54) := by
  refine (step m c 223 rfl (by decide)).trans ((binary_result' ..).trans ?_)
  rw [← keep m c 223 (r := main_v180) (by decide), ← keep m c 223 (r := main_v54) (by decide)]
  try rfl
theorem at_v182 : R m c main_v182 = (addf (F := Ideal) (φ := .f32) : Arr S64x8x128x256 .f32 → Arr S64x8x128x256 .f32 → Arr S64x8x128x256 .f32) (R m c main_v173) (R m c main_v181) := by
  refine (step m c 224 rfl (by decide)).trans ((binary_result' ..).trans ?_)
  rw [← keep m c 224 (r := main_v173) (by decide), ← keep m c 224 (r := main_v181) (by decide)]
  try rfl
theorem at_call1_cst : R m c main_call1_cst = (constant (F := Ideal) S_ .f32 0x00000000#32)  := by
  refine (step m c 225 rfl (by decide)).trans ((nullary_result' ..).trans ?_)
  first | done | rfl
theorem at_call1_v0 : R m c main_call1_v0 = (broadcastInDim S64x8x128x256 ![] bcast_S_S64x8x128x256) (R m c main_call1_cst) := by
  refine (step m c 226 rfl (by decide)).trans ((unary_result' ..).trans ?_)
  rw [← keep m c 226 (r := main_call1_cst) (by decide)]
  try rfl
theorem at_v183 : R m c main_v183 = select (R m c main_v49_1) (R m c main_v182) (R m c main_call1_v0) := by
  refine (step m c 227 rfl (by decide)).trans ((ternary_result' ..).trans ?_)
  rw [← keep m c 227 (r := main_v49_1) (by decide), ← keep m c 227 (r := main_v182) (by decide), ← keep m c 227 (r := main_call1_v0) (by decide)]
  try rfl
theorem at_cst_35 : R m c main_cst_35 = (constant (F := Ideal) S_ .f32 0x00000000#32)  := by
  refine (step m c 228 rfl (by decide)).trans ((nullary_result' ..).trans ?_)
  first | done | rfl
theorem at_v184 : R m c main_v184 = ((fun x v => Host.reduceAdd (F := Ideal) (φ := .f32) x v reducesTo_S64x8x128x256_S8x128x256_d0 h_S_) : Arr S64x8x128x256 .f32 → Arr S_ .f32 → Arr S8x128x256 .f32) (R m c main_v183) (R m c main_cst_35) := by
  refine (step m c 229 rfl (by decide)).trans ((binary_result' ..).trans ?_)
  rw [← keep m c 229 (r := main_v183) (by decide), ← keep m c 229 (r := main_cst_35) (by decide)]
  try rfl
theorem at_v185 : R m c main_v185 = shapeCast _ (R m c main_v184) shapeCasts_S8x128x256_S1x8x128x256 := by
  refine (step m c 230 rfl (by decide)).trans ((reshape_result' ..).trans ?_)
  rw [← keep m c 230 (r := main_v184) (by decide)]
  try rfl
theorem at_cst_36 : R m c main_cst_36 = (constant (F := Ideal) S_ .f32 0x00000000#32)  := by
  refine (step m c 231 rfl (by decide)).trans ((nullary_result' ..).trans ?_)
  first | done | rfl
theorem at_v186 : R m c main_v186 = ((fun x v => Host.reduceAdd (F := Ideal) (φ := .f32) x v reducesTo_S1x8x128x256_S8x128x256_d0 h_S_) : Arr S1x8x128x256 .f32 → Arr S_ .f32 → Arr S8x128x256 .f32) (R m c main_v185) (R m c main_cst_36) := by
  refine (step m c 232 rfl (by decide)).trans ((binary_result' ..).trans ?_)
  rw [← keep m c 232 (r := main_v185) (by decide), ← keep m c 232 (r := main_cst_36) (by decide)]
  try rfl
theorem at_v187 : R m c main_v187 = ((fun l r => Host.dotGeneral (F := Ideal) (φ₁ := .f32) (φ₂ := .f32) dot_S64x8x128x256_S64x128x8x64_S64x8x256x64_2_1_3_3_01_02 none l r) : Arr S64x8x128x256 .f32 → Arr S64x128x8x64 .f32 → Arr S64x8x256x64 .f32) (R m c main_v183) (R m c main_v1) := by
  refine (step m c 233 rfl (by decide)).trans ((binary_result' ..).trans ?_)
  rw [← keep m c 233 (r := main_v183) (by decide), ← keep m c 233 (r := main_v1) (by decide)]
  try rfl
theorem at_v188 : R m c main_v188 = ((transpose S64x256x8x64 [0, 2, 1, 3] · transposes_S64x8x256x64_S64x256x8x64_0_2_1_3) : Arr S64x8x256x64 .f32 → Arr S64x256x8x64 .f32) (R m c main_v187) := by
  refine (step m c 234 rfl (by decide)).trans ((unary_result' ..).trans ?_)
  rw [← keep m c 234 (r := main_v187) (by decide)]
  try rfl
theorem at_v189 : R m c main_v189 = ((fun l r => Host.dotGeneral (F := Ideal) (φ₁ := .f32) (φ₂ := .f32) dot_S64x8x128x256_S64x256x8x64_S64x8x128x64_3_1_2_3_01_02 none l r) : Arr S64x8x128x256 .f32 → Arr S64x256x8x64 .f32 → Arr S64x8x128x64 .f32) (R m c main_v183) (R m c main_v9) := by
  refine (step m c 235 rfl (by decide)).trans ((binary_result' ..).trans ?_)
  rw [← keep m c 235 (r := main_v183) (by decide), ← keep m c 235 (r := main_v9) (by decide)]
  try rfl
theorem at_v190 : R m c main_v190 = ((transpose S64x128x8x64 [0, 2, 1, 3] · transposes_S64x8x128x64_S64x128x8x64_0_2_1_3) : Arr S64x8x128x64 .f32 → Arr S64x128x8x64 .f32) (R m c main_v189) := by
  refine (step m c 236 rfl (by decide)).trans ((unary_result' ..).trans ?_)
  rw [← keep m c 236 (r := main_v189) (by decide)]
  try rfl
theorem at_v191 : R m c main_v191 = ((extractStridedSlice S64x128x8x64 ![0, 0, 0, 0] · slices_S64x256x8x64_S64x128x8x64_0_0_0_0) : Arr S64x256x8x64 .f32 → Arr S64x128x8x64 .f32) (R m c main_v160) := by
  refine (step m c 237 rfl (by decide)).trans ((unary_result' ..).trans ?_)
  rw [← keep m c 237 (r := main_v160) (by decide)]
  try rfl
theorem at_v192 : R m c main_v192 = ((extractStridedSlice S64x128x8x64 ![0, 128, 0, 0] · slices_S64x256x8x64_S64x128x8x64_0_128_0_0) : Arr S64x256x8x64 .f32 → Arr S64x128x8x64 .f32) (R m c main_v160) := by
  refine (step m c 238 rfl (by decide)).trans ((unary_result' ..).trans ?_)
  rw [← keep m c 238 (r := main_v160) (by decide)]
  try rfl
theorem at_v193 : R m c main_v193 = ((extractStridedSlice S1x128x8x64 ![0, 0, 0, 0] · slices_S64x128x8x64_S1x128x8x64_0_0_0_0) : Arr S64x128x8x64 .f32 → Arr S1x128x8x64 .f32) (R m c main_v191) := by
  refine (step m c 239 rfl (by decide)).trans ((unary_result' ..).trans ?_)
  rw [← keep m c 239 (r := main_v191) (by decide)]
  try rfl
theorem at_v194 : R m c main_v194 = ((extractStridedSlice S63x128x8x64 ![1, 0, 0, 0] · slices_S64x128x8x64_S63x128x8x64_1_0_0_0) : Arr S64x128x8x64 .f32 → Arr S63x128x8x64 .f32) (R m c main_v191) := by
  refine (step m c 240 rfl (by decide)).trans ((unary_result' ..).trans ?_)
  rw [← keep m c 240 (r := main_v191) (by decide)]
  try rfl
theorem at_cst_37 : R m c main_cst_37 = (constant (F := Ideal) S_ .f32 0x00000000#32)  := by
  refine (step m c 241 rfl (by decide)).trans ((nullary_result' ..).trans ?_)
  first | done | rfl
theorem at_v195 : R m c main_v195 = ((fun x v => pad S64x128x8x64 ![0, 0, 0, 0] ![1, 0, 0, 0] ![0, 0, 0, 0] x v pads_S63x128x8x64_S64x128x8x64_010_000_000_000 h_S_) : Arr S63x128x8x64 .f32 → Arr S_ .f32 → Arr S64x128x8x64 .f32) (R m c main_v194) (R m c main_cst_37) := by
  refine (step m c 242 rfl (by decide)).trans ((binary_result' ..).trans ?_)
  rw [← keep m c 242 (r := main_v194) (by decide), ← keep m c 242 (r := main_cst_37) (by decide)]
  try rfl
theorem at_v196 : R m c main_v196 = (addf (F := Ideal) (φ := .f32) : Arr S64x128x8x64 .f32 → Arr S64x128x8x64 .f32 → Arr S64x128x8x64 .f32) (R m c main_v192) (R m c main_v195) := by
  refine (step m c 243 rfl (by decide)).trans ((binary_result' ..).trans ?_)
  rw [← keep m c 243 (r := main_v192) (by decide), ← keep m c 243 (r := main_v195) (by decide)]
  try rfl
theorem at_v197 : R m c main_v197 = ((extractStridedSlice S64x128x8x64 ![0, 0, 0, 0] · slices_S64x256x8x64_S64x128x8x64_0_0_0_0) : Arr S64x256x8x64 .f32 → Arr S64x128x8x64 .f32) (R m c main_v188) := by
  refine (step m c 244 rfl (by decide)).trans ((unary_result' ..).trans ?_)
  rw [← keep m c 244 (r := main_v188) (by decide)]
  try rfl
theorem at_v198 : R m c main_v198 = ((extractStridedSlice S64x128x8x64 ![0, 128, 0, 0] · slices_S64x256x8x64_S64x128x8x64_0_128_0_0) : Arr S64x256x8x64 .f32 → Arr S64x128x8x64 .f32) (R m c main_v188) := by
  refine (step m c 245 rfl (by decide)).trans ((unary_result' ..).trans ?_)
  rw [← keep m c 245 (r := main_v188) (by decide)]
  try rfl
theorem at_v199 : R m c main_v199 = ((extractStridedSlice S1x128x8x64 ![0, 0, 0, 0] · slices_S64x128x8x64_S1x128x8x64_0_0_0_0) : Arr S64x128x8x64 .f32 → Arr S1x128x8x64 .f32) (R m c main_v197) := by
  refine (step m c 246 rfl (by decide)).trans ((unary_result' ..).trans ?_)
  rw [← keep m c 246 (r := main_v197) (by decide)]
  try rfl
theorem at_v200 : R m c main_v200 = ((extractStridedSlice S63x128x8x64 ![1, 0, 0, 0] · slices_S64x128x8x64_S63x128x8x64_1_0_0_0) : Arr S64x128x8x64 .f32 → Arr S63x128x8x64 .f32) (R m c main_v197) := by
  refine (step m c 247 rfl (by decide)).trans ((unary_result' ..).trans ?_)
  rw [← keep m c 247 (r := main_v197) (by decide)]
  try rfl
theorem at_cst_38 : R m c main_cst_38 = (constant (F := Ideal) S_ .f32 0x00000000#32)  := by
  refine (step m c 248 rfl (by decide)).trans ((nullary_result' ..).trans ?_)
  first | done | rfl
theorem at_v201 : R m c main_v201 = ((fun x v => pad S64x128x8x64 ![0, 0, 0, 0] ![1, 0, 0, 0] ![0, 0, 0, 0] x v pads_S63x128x8x64_S64x128x8x64_010_000_000_000 h_S_) : Arr S63x128x8x64 .f32 → Arr S_ .f32 → Arr S64x128x8x64 .f32) (R m c main_v200) (R m c main_cst_38) := by
  refine (step m c 249 rfl (by decide)).trans ((binary_result' ..).trans ?_)
  rw [← keep m c 249 (r := main_v200) (by decide), ← keep m c 249 (r := main_cst_38) (by decide)]
  try rfl
theorem at_v202 : R m c main_v202 = (addf (F := Ideal) (φ := .f32) : Arr S64x128x8x64 .f32 → Arr S64x128x8x64 .f32 → Arr S64x128x8x64 .f32) (R m c main_v198) (R m c main_v201) := by
  refine (step m c 250 rfl (by decide)).trans ((binary_result' ..).trans ?_)
  rw [← keep m c 250 (r := main_v198) (by decide), ← keep m c 250 (r := main_v201) (by decide)]
  try rfl
theorem at_v203 : R m c main_v203 = shapeCast _ (R m c main_v196) shapeCasts_S64x128x8x64_S1x8192x512 := by
  refine (step m c 251 rfl (by decide)).trans ((reshape_result' ..).trans ?_)
  rw [← keep m c 251 (r := main_v196) (by decide)]
  try rfl
theorem at_v204 : R m c main_v204 = shapeCast _ (R m c main_v202) shapeCasts_S64x128x8x64_S1x8192x512 := by
  refine (step m c 252 rfl (by decide)).trans ((reshape_result' ..).trans ?_)
  rw [← keep m c 252 (r := main_v202) (by decide)]
  try rfl
theorem at_v205 : R m c main_v205 = shapeCast _ (R m c main_v190) shapeCasts_S64x128x8x64_S1x8192x512 := by
  refine (step m c 253 rfl (by decide)).trans ((reshape_result' ..).trans ?_)
  rw [← keep m c 253 (r := main_v190) (by decide)]
  try rfl
theorem at_v206 : R m c main_v206 = ((truncf (F := Ideal) (φ := .f32) .bf16 · bitsLt_bf16_f32) : Arr S1x8192x512 .f32 → Arr S1x8192x512 .bf16) (R m c main_v203) := by
  refine (step m c 254 rfl (by decide)).trans ((unary_result' ..).trans ?_)
  rw [← keep m c 254 (r := main_v203) (by decide)]
  try rfl

end Cert.ReferenceIdeal.Line

end
-- ==== Proof.RefRead.lean ====
/- The reference read at an index: the attention of the group. -/
module

public import proofs.«01_k».proof.Proof.RefEq
public import proofs.«01_k».proof.Proof.Casts
public import proofs.«01_k».proof.Proof.Results

@[expose] public section

set_option maxHeartbeats 1000000

noncomputable section

namespace Cert.ReferenceIdeal.Line

open Cert.ReferenceIdeal Cert.ReferenceIdeal.Gen Cert.ReferenceIdeal.Value Cert.Attn
open Idealize.ShloMosaic Idealize.ShloMosaic.TcCoe Idealize.ShloMosaic.StableHlo Idealize.SL.Sem

/-- Three values, one for each group. -/
def three (x y z : ℝ) (g : Fin 3) : ℝ := if g.val < 1 then x else if g.val < 2 then y else z

theorem three_sum (x y z : ℝ) : ∑ g, three x y z g = x + y + z := by
  rw [Fin.sum_univ_three]; rfl

theorem three_max (x y z : ℝ) : Finset.fold max (⊥ : EReal) (fun g => (three x y z g : EReal)) Finset.univ = ((max (max x y) z : ℝ) : EReal) := by
  have hu : (Finset.univ : Finset (Fin 3)) = {0, 1, 2} := by decide
  rw [hu, Finset.fold_insert (by decide), Finset.fold_insert (by decide), Finset.fold_singleton, max_eq_left (a := (three x y z 2 : EReal)) bot_le, max_real, max_real, ← max_assoc]
  rfl

theorem and_if (p q : Prop) [Decidable p] [Decidable q] :
    IntOp.andi (if p then 1#1 else 0#1) (if q then 1#1 else 0#1) = if p ∧ q then 1#1 else 0#1 := by
  by_cases a : p <;> by_cases b : q <;> simp [a, b, IntOp.andi]

theorem negInf : Ideal.ofBits FTy.f32 0xFF800000#32 = (⊥ : EReal) := by simp [Ideal.ofBits, Ideal.ieee]

/-- The reference's arguments are the real arrays `A`. -/
structure Reads (m : (ℓ : Loc nD τ sig) → Buf (Elt Ideal) ℓ) (c : Dev nD) (A : Args) : Prop where
  q : ∀ n r h l, R m c main_arg0 (ix3 0 (rowOf n r) (laneOf h l)) = (A.q n r h l : EReal)
  k : ∀ n r h l, R m c main_arg1 (ix3 0 (rowOf n r) (laneOf h l)) = (A.k n r h l : EReal)
  v : ∀ n r h l, R m c main_arg2 (ix3 0 (rowOf n r) (laneOf h l)) = (A.v n r h l : EReal)
  b : ∀ (h : Fin 8) r j, R m c main_arg3 (ix3 ⟨h.val, by omega⟩ r j) = (A.b h r j : EReal)
  o1 : ∀ n r h l, R m c main_arg4 (ix3 (rowOf n r) h l) = (A.o1 n r h l : EReal)
  l1 : ∀ n r h, R m c main_arg5 (ix2 (rowOf n r) h) = (A.l1 n r h : EReal)
  o2 : ∀ n r h l, R m c main_arg6 (ix3 (rowOf n r) h l) = (A.o2 n r h l : EReal)
  l2 : ∀ n r h, R m c main_arg7 (ix2 (rowOf n r) h) = (A.l2 n r h : EReal)
  g : ∀ n r h l, R m c main_arg8 (ix3 0 (rowOf n r) (laneOf h l)) = (A.g n r h l : EReal)

variable (m : (ℓ : Loc nD τ sig) → Buf (Elt Ideal) ℓ) (c : Dev nD)

theorem r_v29 (r : Fin 128) (j : Fin 256) : R m c main_v29 (ix2 r j) = if r.val ≤ j.val ∧ j.val ≤ r.val + 128 then 1#1 else 0#1 := by
  rw [← near r j, at_v29, at_v26, at_v28, at_v24, at_v25, at_v27, at_v22, at_v23, at_v21, at_v19, at_v18, at_v17, at_v16, at_v20, at_c, at_c_3, at_c_4]
  pointwise

theorem r_v40 (n : Fin 64) (j : Fin 256) : R m c main_v40 (ix3 n 0 j) = if 0 < n.val ∨ 128 ≤ j.val then 1#1 else 0#1 := by
  have h1 := later n
  have h2 := inside j
  rw [at_v40, at_v38, at_v39, at_v37, at_v36, at_v35, at_v34, at_v33, at_v32, at_v31, at_v21, at_v20, at_c_5, at_c_6]
  pointwise
  rw [h1, h2]
  by_cases a : 0 < n.val <;> by_cases b : 128 ≤ j.val <;> simp [a, b, IntOp.ori]

theorem r_v43 (n : Fin 64) (r : Fin 128) (j : Fin 256) : R m c main_v43 (ix3 n r j) = if ok n r j then 1#1 else 0#1 := by
  have h1 := r_v29 m c r j
  have h2 := r_v40 m c n j
  rw [at_v43, at_v41, at_v42, at_v30]
  pointwise [h1, h2]
  exact and_if _ _

theorem r_v49_1 (n : Fin 64) (h : Fin 8) (r : Fin 128) (j : Fin 256) : R m c main_v49_1 (ix4 n h r j) = if ok n r j then 1#1 else 0#1 := by
  rw [at_v49_1, at_v48]
  pointwise
  exact r_v43 m c n r j

section
variable {m c} {A : Args} (H : Reads m c A)
include H

theorem r_v0 (h : Fin 8) (r : Fin 128) (j : Fin 256) : R m c main_v0 (ix3 h r j) = (A.b h r j : EReal) := by
  rw [at_v0]
  pointwise
  exact H.b h r j

theorem r_v1 (n : Fin 64) (r : Fin 128) (h : Fin 8) (l : Fin 64) : R m c main_v1 (ix4 n r h l) = (A.q n r h l : EReal) := by
  rw [at_v1]
  exact (cast_blocks n r h l _ _).trans (H.q n r h l)

theorem r_v2 (n : Fin 64) (r : Fin 128) (h : Fin 8) (l : Fin 64) : R m c main_v2 (ix4 n r h l) = (A.k n r h l : EReal) := by
  rw [at_v2]
  exact (cast_blocks n r h l _ _).trans (H.k n r h l)

theorem r_v3 (n : Fin 64) (r : Fin 128) (h : Fin 8) (l : Fin 64) : R m c main_v3 (ix4 n r h l) = (A.v n r h l : EReal) := by
  rw [at_v3]
  exact (cast_blocks n r h l _ _).trans (H.v n r h l)

theorem r_v7 (n : Fin 64) (r : Fin 128) (h : Fin 8) (l : Fin 64) : R m c main_v7 (ix4 n r h l) = ((if hn : 0 < n.val then A.k ⟨n.val - 1, by omega⟩ r h l else 0 : ℝ) : EReal) := by
  rw [at_v7, at_v5, at_cst, at_v6]
  pointwise [fn_main_v7]
  by_cases hn : n.val < 1
  · rw [dif_pos hn, dif_neg (by omega)]; simp
  · rw [dif_neg hn, dif_pos (by omega)]; exact r_v2 H _ r h l

theorem r_v9 (n : Fin 64) (j : Fin 256) (h : Fin 8) (l : Fin 64) : R m c main_v9 (ix4 n j h l) = (win A.k n j h l : EReal) := by
  rw [at_v9]
  pointwise [fn_main_v9]
  unfold win
  by_cases hj : j.val < 128
  · rw [dif_pos hj, dif_pos hj]; exact r_v7 H n ⟨j.val, hj⟩ h l
  · rw [dif_neg hj, dif_neg hj]; exact r_v2 H n _ h l

theorem r_v13 (n : Fin 64) (r : Fin 128) (h : Fin 8) (l : Fin 64) : R m c main_v13 (ix4 n r h l) = ((if hn : 0 < n.val then A.v ⟨n.val - 1, by omega⟩ r h l else 0 : ℝ) : EReal) := by
  rw [at_v13, at_v11, at_cst_1, at_v12]
  pointwise [fn_main_v13]
  by_cases hn : n.val < 1
  · rw [dif_pos hn, dif_neg (by omega)]; simp
  · rw [dif_neg hn, dif_pos (by omega)]; exact r_v3 H _ r h l

theorem r_v15 (n : Fin 64) (j : Fin 256) (h : Fin 8) (l : Fin 64) : R m c main_v15 (ix4 n j h l) = (win A.v n j h l : EReal) := by
  rw [at_v15]
  pointwise [fn_main_v15]
  unfold win
  by_cases hj : j.val < 128
  · rw [dif_pos hj, dif_pos hj]; exact r_v13 H n ⟨j.val, hj⟩ h l
  · rw [dif_neg hj, dif_neg hj]; exact r_v3 H n _ h l

theorem r_v47 (n : Fin 64) (h : Fin 8) (r : Fin 128) (j : Fin 256) : R m c main_v47 (ix4 n h r j) = (A.lg n h r j : EReal) := by
  rw [at_v47, at_v44, at_v46, at_v45]
  pointwise
  simp only [r_v1 H, r_v9 H, r_v0 H, ← EReal.coe_mul, coe_sum, ← EReal.coe_add]
  rfl

theorem r_v49_0 (n : Fin 64) (h : Fin 8) (r : Fin 128) (j : Fin 256) : R m c main_v49_0 (ix4 n h r j) = (A.S n h r j : EReal) := by
  rw [at_v49_0, at_call0_v2, at_call0_v0, at_cst_7]
  pointwise
  rw [r_v49_1, r_v47 H]
  refine (congrArg (Scalar.select _ _) (show _ = (⊥ : EReal) from negInf)).trans ?_
  unfold Args.S
  by_cases hj : ok n r j
  · rw [if_pos hj, if_pos hj]; rfl
  · rw [if_neg hj, if_neg hj]; rfl

theorem r_v50 (n : Fin 64) (h : Fin 8) (r : Fin 128) : R m c main_v50 (ix3 n h r) = (A.mx n h r : EReal) := by
  rw [at_v50, at_cst_8]
  pointwise
  rw [negInf, ← A.fold_mx n h r]
  exact congrArg (fun f : Fin 256 → EReal => Finset.fold max (⊥ : EReal) f Finset.univ) (funext fun j => r_v49_0 H n h r j)

theorem r_v56 (n : Fin 64) (h : Fin 8) (r : Fin 128) : R m c main_v56 (ix4 n h r 0) = (A.mx n h r : EReal) := by
  rw [at_v56]
  pointwise
  exact r_v50 H n h r

theorem r_v59 (n : Fin 64) (h : Fin 8) (r : Fin 128) (j : Fin 256) : R m c main_v59 (ix4 n h r j) = (A.E n h r j : EReal) := by
  rw [at_v59, at_v58, at_v57]
  pointwise
  rw [r_v49_0 H, r_v56 H, A.S_exp]
  rfl

theorem r_v60 (n : Fin 64) (h : Fin 8) (r : Fin 128) : R m c main_v60 (ix3 n h r) = (A.L n h r : EReal) := by
  rw [at_v60, at_cst_10]
  pointwise
  simp only [r_v59 H, coe_sum]
  rfl

theorem r_v61 (n : Fin 64) (h : Fin 8) (r : Fin 128) : R m c main_v61 (ix4 n h r 0) = (A.L n h r : EReal) := by
  rw [at_v61]
  pointwise
  exact r_v60 H n h r

theorem r_v63 (n : Fin 64) (h : Fin 8) (r : Fin 128) (j : Fin 256) : R m c main_v63 (ix4 n h r j) = ((A.E n h r j / A.L n h r : ℝ) : EReal) := by
  rw [at_v63, at_v62]
  pointwise
  rw [r_v59 H, r_v61 H, div_real (A.L_ne n h r)]

theorem r_v66 (n : Fin 64) (h : Fin 8) (r : Fin 128) : R m c main_v66 (ix4 n h r 0) = ((1 / (A.L n h r * A.L n h r) : ℝ) : EReal) := by
  rw [at_v66, at_v65, at_v64, at_cst_11]
  pointwise
  rw [r_v61 H, ← EReal.coe_mul, ← EReal.coe_one, div_real (mul_ne_zero (A.L_ne n h r) (A.L_ne n h r))]

theorem r_v68 (n : Fin 64) (r : Fin 128) (h : Fin 8) (d : Fin 64) : R m c main_v68 (ix4 n r h d) = (A.O n h r d : EReal) := by
  rw [at_v68, at_v67]
  pointwise
  simp only [r_v15 H, r_v63 H, ← EReal.coe_mul, coe_sum]
  rfl

theorem r_v69 (n : Fin 64) (h : Fin 8) (r : Fin 128) : R m c main_v69 (ix4 n h r 0) = ((Real.log (A.L n h r) : ℝ) : EReal) := by
  rw [at_v69]
  pointwise
  rw [r_v61 H, log_real (A.L_pos n h r)]

end

end Cert.ReferenceIdeal.Line

end
-- ==== Proof.RefMerge.lean ====
/- The reference read at an index: the three groups together, and their gradient. -/
module

public import proofs.«01_k».proof.Proof.RefRead

@[expose] public section

set_option maxHeartbeats 1000000

noncomputable section

namespace Cert.ReferenceIdeal.Line

open Cert.ReferenceIdeal Cert.ReferenceIdeal.Gen Cert.ReferenceIdeal.Value Cert.Attn
open Idealize.ShloMosaic Idealize.ShloMosaic.TcCoe Idealize.ShloMosaic.StableHlo Idealize.SL.Sem
open Cert.HostLine (Arr)

section
variable {m c} {A : Args} (H : Reads m c A)
include H

theorem r_v70 (n : Fin 64) (h : Fin 8) (r : Fin 128) : R m c main_v70 (ix4 n h r 0) = (A.lse n h r : EReal) := by
  rw [at_v70]
  have e0 := r_v56 H
  have e1 := r_v69 H
  obtain ⟨x_v56, h0⟩ : ∃ x : Arr S64x8x128x1 .f32, R m c main_v56 = x := ⟨_, rfl⟩
  rw [h0] at e0 ⊢
  obtain ⟨x_v69, h1⟩ : ∃ x : Arr S64x8x128x1 .f32, R m c main_v69 = x := ⟨_, rfl⟩
  rw [h1] at e1 ⊢
  pointwise
  rw [e0, e1, ← EReal.coe_add]
  rfl

theorem r_v71 (n : Fin 64) (h : Fin 8) (r : Fin 128) : R m c main_v71 (ix3 n h r) = (A.lse n h r : EReal) := by
  rw [at_v71]
  have e0 := r_v70 H
  obtain ⟨x_v70, h0⟩ : ∃ x : Arr S64x8x128x1 .f32, R m c main_v70 = x := ⟨_, rfl⟩
  rw [h0] at e0 ⊢
  pointwise
  exact e0 n h r

theorem r_v73 (n : Fin 64) (r : Fin 128) (h : Fin 8) : R m c main_v73 (ix3 n r h) = (A.lse n h r : EReal) := by
  rw [at_v73]
  have e0 := r_v71 H
  obtain ⟨x_v71, h0⟩ : ∃ x : Arr S64x8x128 .f32, R m c main_v71 = x := ⟨_, rfl⟩
  rw [h0] at e0 ⊢
  pointwise
  exact e0 n h r

theorem r_v74 (n : Fin 64) (r : Fin 128) (h : Fin 8) : R m c main_v74 (ix2 (rowOf n r) h) = (A.lse n h r : EReal) := by
  rw [at_v74]
  exact (cast_rows3 n r h _ _).trans (r_v73 H n r h)

theorem r_v72 (n : Fin 64) (r : Fin 128) (h : Fin 8) (d : Fin 64) : R m c main_v72 (ix3 (rowOf n r) h d) = (A.O n h r d : EReal) := by
  rw [at_v72]
  exact (cast_rows n r h d _ _).trans (r_v68 H n r h d)

theorem r_v78 (g : Fin 3) (n : Fin 64) (r : Fin 128) (h : Fin 8) : R m c main_v78 (ix3 g (rowOf n r) h) = (three (A.lse n h r) (A.l1 n r h) (A.l2 n r h) g : EReal) := by
  rw [at_v78, at_v75, at_v76, at_v77]
  have e0 := r_v74 H
  have e1 := H.l1
  have e2 := H.l2
  obtain ⟨x_v74, h0⟩ : ∃ x : Arr S8192x8 .f32, R m c main_v74 = x := ⟨_, rfl⟩
  rw [h0] at e0 ⊢
  obtain ⟨x_arg5, h1⟩ : ∃ x : Arr S8192x8 .f32, R m c main_arg5 = x := ⟨_, rfl⟩
  rw [h1] at e1 ⊢
  obtain ⟨x_arg7, h2⟩ : ∃ x : Arr S8192x8 .f32, R m c main_arg7 = x := ⟨_, rfl⟩
  rw [h2] at e2 ⊢
  pointwise [fn_main_v78]
  unfold three
  by_cases h1 : g.val < 1
  · rw [dif_pos h1, if_pos h1]; exact e0 n r h
  · rw [dif_neg h1, if_neg h1]
    by_cases h2 : g.val < 2
    · rw [if_pos h2]; (first | rw [dif_pos h2] | rw [dif_pos (by omega)]); exact e1 n r h
    · rw [if_neg h2]; (first | rw [dif_neg h2] | rw [dif_neg (by omega)]); exact e2 n r h

theorem r_v81 (n : Fin 64) (r : Fin 128) (h : Fin 8) : R m c main_v81 (ix2 (rowOf n r) h) = (A.M n h r : EReal) := by
  rw [at_v81, at_cst_14]
  have e0 := r_v78 H
  obtain ⟨x_v78, h0⟩ : ∃ x : Arr S3x8192x8 .f32, R m c main_v78 = x := ⟨_, rfl⟩
  rw [h0] at e0 ⊢
  pointwise
  rw [negInf]
  refine (congrArg (fun f : Fin 3 → EReal => Finset.fold max (⊥ : EReal) f Finset.univ) (funext fun g => e0 g n r h)).trans ?_
  exact three_max _ _ _

theorem r_v88 (n : Fin 64) (r : Fin 128) (h : Fin 8) : R m c main_v88 (ix2 (rowOf n r) h) = (A.M n h r : EReal) := by
  rw [at_v88, at_v87, at_cst_16]
  have e0 := r_v81 H
  obtain ⟨x_v81, h0⟩ : ∃ x : Arr S8192x8 .f32, R m c main_v81 = x := ⟨_, rfl⟩
  rw [h0] at e0 ⊢
  pointwise
  rw [negInf, e0]
  exact max_eq_right (bot_le : (⊥ : EReal) ≤ _)

theorem r_v101 (g : Fin 3) (n : Fin 64) (r : Fin 128) (h : Fin 8) : R m c main_v101 (ix3 g (rowOf n r) h) = (three (A.e0 n h r) (A.e1 n h r) (A.e2 n h r) g : EReal) := by
  rw [at_v101, at_v100, at_v99, at_v98]
  have e0 := r_v78 H
  have e1 := r_v88 H
  obtain ⟨x_v78, h0⟩ : ∃ x : Arr S3x8192x8 .f32, R m c main_v78 = x := ⟨_, rfl⟩
  rw [h0] at e0 ⊢
  obtain ⟨x_v88, h1⟩ : ∃ x : Arr S8192x8 .f32, R m c main_v88 = x := ⟨_, rfl⟩
  rw [h1] at e1 ⊢
  pointwise
  rw [e0, e1, ← EReal.coe_sub, exp_real]
  unfold three Args.e0 Args.e1 Args.e2
  split_ifs <;> rfl

theorem r_v102 (n : Fin 64) (r : Fin 128) (h : Fin 8) : R m c main_v102 (ix2 (rowOf n r) h) = (A.den n h r : EReal) := by
  rw [at_v102, at_cst_22]
  have e0 := r_v101 H
  obtain ⟨x_v101, h0⟩ : ∃ x : Arr S3x8192x8 .f32, R m c main_v101 = x := ⟨_, rfl⟩
  rw [h0] at e0 ⊢
  pointwise
  simp only [e0, coe_sum, three_sum]
  rfl

theorem r_v103 (n : Fin 64) (r : Fin 128) (h : Fin 8) : R m c main_v103 (ix3 0 (rowOf n r) h) = (A.den n h r : EReal) := by
  rw [at_v103]
  have e0 := r_v102 H
  obtain ⟨x_v102, h0⟩ : ∃ x : Arr S8192x8 .f32, R m c main_v102 = x := ⟨_, rfl⟩
  rw [h0] at e0 ⊢
  pointwise
  exact e0 n r h

theorem r_v105 (g : Fin 3) (n : Fin 64) (r : Fin 128) (h : Fin 8) : R m c main_v105 (ix3 g (rowOf n r) h) = ((three (A.e0 n h r) (A.e1 n h r) (A.e2 n h r) g / A.den n h r : ℝ) : EReal) := by
  rw [at_v105, at_v104]
  have e0 := r_v101 H
  have e1 := r_v103 H
  obtain ⟨x_v101, h0⟩ : ∃ x : Arr S3x8192x8 .f32, R m c main_v101 = x := ⟨_, rfl⟩
  rw [h0] at e0 ⊢
  obtain ⟨x_v103, h1⟩ : ∃ x : Arr S1x8192x8 .f32, R m c main_v103 = x := ⟨_, rfl⟩
  rw [h1] at e1 ⊢
  pointwise
  rw [e0, e1, div_real (A.den_ne n h r)]

theorem r_v108 (n : Fin 64) (r : Fin 128) (h : Fin 8) : R m c main_v108 (ix3 0 (rowOf n r) h) = ((1 / (A.den n h r * A.den n h r) : ℝ) : EReal) := by
  rw [at_v108, at_v107, at_v106, at_cst_23]
  have e0 := r_v103 H
  obtain ⟨x_v103, h0⟩ : ∃ x : Arr S1x8192x8 .f32, R m c main_v103 = x := ⟨_, rfl⟩
  rw [h0] at e0 ⊢
  pointwise
  rw [e0, ← EReal.coe_mul, ← EReal.coe_one, div_real (mul_ne_zero (A.den_ne n h r) (A.den_ne n h r))]

theorem r_v113 (g : Fin 3) (n : Fin 64) (r : Fin 128) (h : Fin 8) (d : Fin 64) : R m c main_v113 (ix4 g (rowOf n r) h d) = (three (A.O n h r d) (A.o1 n r h d) (A.o2 n r h d) g : EReal) := by
  rw [at_v113, at_v110, at_v111, at_v112]
  have e0 := r_v72 H
  have e1 := H.o1
  have e2 := H.o2
  obtain ⟨x_v72, h0⟩ : ∃ x : Arr S8192x8x64 .f32, R m c main_v72 = x := ⟨_, rfl⟩
  rw [h0] at e0 ⊢
  obtain ⟨x_arg4, h1⟩ : ∃ x : Arr S8192x8x64 .f32, R m c main_arg4 = x := ⟨_, rfl⟩
  rw [h1] at e1 ⊢
  obtain ⟨x_arg6, h2⟩ : ∃ x : Arr S8192x8x64 .f32, R m c main_arg6 = x := ⟨_, rfl⟩
  rw [h2] at e2 ⊢
  pointwise [fn_main_v113]
  unfold three
  by_cases h1 : g.val < 1
  · rw [dif_pos h1, if_pos h1]; exact e0 n r h d
  · rw [dif_neg h1, if_neg h1]
    by_cases h2 : g.val < 2
    · rw [if_pos h2]; (first | rw [dif_pos h2] | rw [dif_pos (by omega)]); exact e1 n r h d
    · rw [if_neg h2]; (first | rw [dif_neg h2] | rw [dif_neg (by omega)]); exact e2 n r h d

theorem r_v120 (n : Fin 64) (r : Fin 128) (h : Fin 8) (d : Fin 64) : R m c main_v120 (ix3 (rowOf n r) h d) = (A.g n r h d : EReal) := by
  rw [at_v120]
  exact (cast_heads h d _ _ _).trans (H.g n r h d)

theorem r_v121 (g : Fin 3) (n : Fin 64) (r : Fin 128) (h : Fin 8) (d : Fin 64) : R m c main_v121 (ix4 g (rowOf n r) h d) = (A.g n r h d : EReal) := by
  rw [at_v121]
  have e0 := r_v120 H
  obtain ⟨x_v120, h0⟩ : ∃ x : Arr S8192x8x64 .f32, R m c main_v120 = x := ⟨_, rfl⟩
  rw [h0] at e0 ⊢
  pointwise
  exact e0 n r h d

theorem r_v123 (g : Fin 3) (n : Fin 64) (r : Fin 128) (h : Fin 8) (d : Fin 64) : R m c main_v123 (ix4 g (rowOf n r) h d) = ((three (A.e0 n h r) (A.e1 n h r) (A.e2 n h r) g / A.den n h r * A.g n r h d : ℝ) : EReal) := by
  rw [at_v123, at_v122, at_v109]
  have e0 := r_v105 H
  have e1 := r_v121 H
  obtain ⟨x_v105, h0⟩ : ∃ x : Arr S3x8192x8 .f32, R m c main_v105 = x := ⟨_, rfl⟩
  rw [h0] at e0 ⊢
  obtain ⟨x_v121, h1⟩ : ∃ x : Arr S3x8192x8x64 .f32, R m c main_v121 = x := ⟨_, rfl⟩
  rw [h1] at e1 ⊢
  pointwise
  rw [e0, e1, ← EReal.coe_mul]

theorem r_v125 (g : Fin 3) (n : Fin 64) (r : Fin 128) (h : Fin 8) : R m c main_v125 (ix3 g (rowOf n r) h) = (three (A.D0 n h r) (A.D1 n h r) (A.D2 n h r) g : EReal) := by
  rw [at_v125, at_v124, at_cst_27]
  have e0 := r_v121 H
  have e1 := r_v113 H
  obtain ⟨x_v121, h0⟩ : ∃ x : Arr S3x8192x8x64 .f32, R m c main_v121 = x := ⟨_, rfl⟩
  rw [h0] at e0 ⊢
  obtain ⟨x_v113, h1⟩ : ∃ x : Arr S3x8192x8x64 .f32, R m c main_v113 = x := ⟨_, rfl⟩
  rw [h1] at e1 ⊢
  pointwise
  simp only [e0, e1, ← EReal.coe_mul, coe_sum]
  unfold three Args.D0 Args.D1 Args.D2
  split_ifs <;> rfl

theorem r_v127 (n : Fin 64) (r : Fin 128) (h : Fin 8) (d : Fin 64) : R m c main_v127 (ix4 0 (rowOf n r) h d) = (A.gw n h r d : EReal) := by
  rw [at_v127]
  have e0 := r_v123 H
  obtain ⟨x_v123, h0⟩ : ∃ x : Arr S3x8192x8x64 .f32, R m c main_v123 = x := ⟨_, rfl⟩
  rw [h0] at e0 ⊢
  pointwise
  refine (e0 0 n r h d).trans ?_
  rfl

theorem r_v128 (n : Fin 64) (r : Fin 128) (h : Fin 8) (d : Fin 64) : R m c main_v128 (ix3 (rowOf n r) h d) = (A.gw n h r d : EReal) := by
  rw [at_v128]
  exact (cast_drop4 _ _ _ _ _).trans (r_v127 H n r h d)

theorem r_v133 (g : Fin 3) (n : Fin 64) (r : Fin 128) (h : Fin 8) : R m c main_v133 (ix3 g (rowOf n r) h) = (three (A.D0 n h r) (A.D1 n h r) (A.D2 n h r) g : EReal) := by
  rw [at_v133, at_cst_28, at_v126]
  have e0 := r_v125 H
  obtain ⟨x_v125, h0⟩ : ∃ x : Arr S3x8192x8 .f32, R m c main_v125 = x := ⟨_, rfl⟩
  rw [h0] at e0 ⊢
  pointwise
  simp only [e0, coe_sum, Finset.univ_unique, Finset.sum_singleton]

theorem r_v136 (g : Fin 3) (n : Fin 64) (r : Fin 128) (h : Fin 8) : R m c main_v136 (ix3 g (rowOf n r) h) = ((three (A.D0 n h r) (A.D1 n h r) (A.D2 n h r) g * (1 / (A.den n h r * A.den n h r)) * three (A.e0 n h r) (A.e1 n h r) (A.e2 n h r) g : ℝ) : EReal) := by
  rw [at_v136, at_v135, at_v134]
  have e0 := r_v133 H
  have e1 := r_v108 H
  have e2 := r_v101 H
  obtain ⟨x_v133, h0⟩ : ∃ x : Arr S3x8192x8 .f32, R m c main_v133 = x := ⟨_, rfl⟩
  rw [h0] at e0 ⊢
  obtain ⟨x_v108, h1⟩ : ∃ x : Arr S1x8192x8 .f32, R m c main_v108 = x := ⟨_, rfl⟩
  rw [h1] at e1 ⊢
  obtain ⟨x_v101, h2⟩ : ∃ x : Arr S3x8192x8 .f32, R m c main_v101 = x := ⟨_, rfl⟩
  rw [h2] at e2 ⊢
  pointwise
  rw [e0, e1, e2, ← EReal.coe_mul, ← EReal.coe_mul]

theorem r_v137 (n : Fin 64) (r : Fin 128) (h : Fin 8) : R m c main_v137 (ix2 (rowOf n r) h) = (((A.D0 n h r * (1 / (A.den n h r * A.den n h r)) * A.e0 n h r + A.D1 n h r * (1 / (A.den n h r * A.den n h r)) * A.e1 n h r + A.D2 n h r * (1 / (A.den n h r * A.den n h r)) * A.e2 n h r) : ℝ) : EReal) := by
  rw [at_v137, at_cst_29]
  have e0 := r_v136 H
  obtain ⟨x_v136, h0⟩ : ∃ x : Arr S3x8192x8 .f32, R m c main_v136 = x := ⟨_, rfl⟩
  rw [h0] at e0 ⊢
  pointwise
  simp only [e0, coe_sum, Fin.sum_univ_three]
  rfl

theorem r_v138 (n : Fin 64) (r : Fin 128) (h : Fin 8) : R m c main_v138 (ix3 0 (rowOf n r) h) = (((A.D0 n h r * (1 / (A.den n h r * A.den n h r)) * A.e0 n h r + A.D1 n h r * (1 / (A.den n h r * A.den n h r)) * A.e1 n h r + A.D2 n h r * (1 / (A.den n h r * A.den n h r)) * A.e2 n h r) : ℝ) : EReal) := by
  rw [at_v138]
  exact (cast_unit3 _ _ _ _).trans (r_v137 H n r h)

theorem r_v139 (n : Fin 64) (r : Fin 128) (h : Fin 8) : R m c main_v139 (ix3 0 (rowOf n r) h) = ((-(A.D0 n h r * (1 / (A.den n h r * A.den n h r)) * A.e0 n h r + A.D1 n h r * (1 / (A.den n h r * A.den n h r)) * A.e1 n h r + A.D2 n h r * (1 / (A.den n h r * A.den n h r)) * A.e2 n h r) : ℝ) : EReal) := by
  rw [at_v139]
  have e0 := r_v138 H
  obtain ⟨x_v138, h0⟩ : ∃ x : Arr S1x8192x8 .f32, R m c main_v138 = x := ⟨_, rfl⟩
  rw [h0] at e0 ⊢
  pointwise
  rw [e0, ← EReal.coe_neg]

theorem r_v142 (n : Fin 64) (r : Fin 128) (h : Fin 8) : R m c main_v142 (ix2 (rowOf n r) h) = ((-(A.D0 n h r * (1 / (A.den n h r * A.den n h r)) * A.e0 n h r + A.D1 n h r * (1 / (A.den n h r * A.den n h r)) * A.e1 n h r + A.D2 n h r * (1 / (A.den n h r * A.den n h r)) * A.e2 n h r) : ℝ) : EReal) := by
  rw [at_v142, at_cst_30]
  have e0 := r_v139 H
  obtain ⟨x_v139, h0⟩ : ∃ x : Arr S1x8192x8 .f32, R m c main_v139 = x := ⟨_, rfl⟩
  rw [h0] at e0 ⊢
  pointwise
  simp only [e0, coe_sum, Finset.univ_unique, Finset.sum_singleton, Fin.default_eq_zero]

theorem r_v141 (g : Fin 3) (n : Fin 64) (r : Fin 128) (h : Fin 8) : R m c main_v141 (ix3 g (rowOf n r) h) = ((three (A.D0 n h r) (A.D1 n h r) (A.D2 n h r) g / A.den n h r : ℝ) : EReal) := by
  rw [at_v141, at_v140]
  have e0 := r_v133 H
  have e1 := r_v103 H
  obtain ⟨x_v133, h0⟩ : ∃ x : Arr S3x8192x8 .f32, R m c main_v133 = x := ⟨_, rfl⟩
  rw [h0] at e0 ⊢
  obtain ⟨x_v103, h1⟩ : ∃ x : Arr S1x8192x8 .f32, R m c main_v103 = x := ⟨_, rfl⟩
  rw [h1] at e1 ⊢
  pointwise
  rw [e0, e1, div_real (A.den_ne n h r)]

theorem r_v145 (g : Fin 3) (n : Fin 64) (r : Fin 128) (h : Fin 8) : R m c main_v145 (ix3 g (rowOf n r) h) = (((three (A.D0 n h r) (A.D1 n h r) (A.D2 n h r) g / A.den n h r + -(A.D0 n h r * (1 / (A.den n h r * A.den n h r)) * A.e0 n h r + A.D1 n h r * (1 / (A.den n h r * A.den n h r)) * A.e1 n h r + A.D2 n h r * (1 / (A.den n h r * A.den n h r)) * A.e2 n h r)) * three (A.e0 n h r) (A.e1 n h r) (A.e2 n h r) g : ℝ) : EReal) := by
  rw [at_v145, at_v144, at_v143]
  have e0 := r_v141 H
  have e1 := r_v142 H
  have e2 := r_v101 H
  obtain ⟨x_v141, h0⟩ : ∃ x : Arr S3x8192x8 .f32, R m c main_v141 = x := ⟨_, rfl⟩
  rw [h0] at e0 ⊢
  obtain ⟨x_v142, h1⟩ : ∃ x : Arr S8192x8 .f32, R m c main_v142 = x := ⟨_, rfl⟩
  rw [h1] at e1 ⊢
  obtain ⟨x_v101, h2⟩ : ∃ x : Arr S3x8192x8 .f32, R m c main_v101 = x := ⟨_, rfl⟩
  rw [h2] at e2 ⊢
  pointwise
  rw [e0, e1, e2, ← EReal.coe_add, ← EReal.coe_mul]

theorem r_v146 (n : Fin 64) (r : Fin 128) (h : Fin 8) : R m c main_v146 (ix3 0 (rowOf n r) h) = (A.dl n h r : EReal) := by
  rw [at_v146]
  have e0 := r_v145 H
  obtain ⟨x_v145, h0⟩ : ∃ x : Arr S3x8192x8 .f32, R m c main_v145 = x := ⟨_, rfl⟩
  rw [h0] at e0 ⊢
  pointwise
  refine (e0 0 n r h).trans ?_
  rfl

theorem r_v147 (n : Fin 64) (r : Fin 128) (h : Fin 8) : R m c main_v147 (ix2 (rowOf n r) h) = (A.dl n h r : EReal) := by
  rw [at_v147]
  exact (cast_drop3 _ _ _ _).trans (r_v146 H n r h)

theorem r_v152 (n : Fin 64) (r : Fin 128) (h : Fin 8) : R m c main_v152 (ix3 n r h) = (A.dl n h r : EReal) := by
  rw [at_v152]
  exact (cast_unrows3 n r h _ _).trans (r_v147 H n r h)

theorem r_v155 (n : Fin 64) (h : Fin 8) (r : Fin 128) : R m c main_v155 (ix4 n h r 0) = (A.dl n h r : EReal) := by
  rw [at_v155, at_v153]
  have e0 := r_v152 H
  obtain ⟨x_v152, h0⟩ : ∃ x : Arr S64x128x8 .f32, R m c main_v152 = x := ⟨_, rfl⟩
  rw [h0] at e0 ⊢
  pointwise
  exact e0 n r h

theorem r_v154 (n : Fin 64) (r : Fin 128) (h : Fin 8) (d : Fin 64) : R m c main_v154 (ix4 n r h d) = (A.gw n h r d : EReal) := by
  rw [at_v154]
  exact (cast_unrows n r h d _ _).trans (r_v128 H n r h d)

theorem r_v157 (n : Fin 64) (h : Fin 8) (r : Fin 128) (d : Fin 64) : R m c main_v157 (ix4 n h d r) = (A.gw n h r d : EReal) := by
  rw [at_v157]
  have e0 := r_v154 H
  obtain ⟨x_v154, h0⟩ : ∃ x : Arr S64x128x8x64 .f32, R m c main_v154 = x := ⟨_, rfl⟩
  rw [h0] at e0 ⊢
  pointwise
  exact e0 n r h d

end

end Cert.ReferenceIdeal.Line

end
-- ==== Proof.RefGrad.lean ====
/- The reference read at an index: the gradient of the group. -/
module

public import proofs.«01_k».proof.Proof.RefMerge

@[expose] public section

set_option maxHeartbeats 1000000

noncomputable section

namespace Cert.ReferenceIdeal.Line

open Cert.ReferenceIdeal Cert.ReferenceIdeal.Gen Cert.ReferenceIdeal.Value Cert.Attn
open Idealize.ShloMosaic Idealize.ShloMosaic.TcCoe Idealize.ShloMosaic.StableHlo Idealize.SL.Sem
open Cert.HostLine (Arr)

section
variable {m c} {A : Args} (H : Reads m c A)
include H

theorem r_v52 (n : Fin 64) (h : Fin 8) (r : Fin 128) (j : Fin 256) : R m c main_v52 (ix4 n h r j) = (A.mx n h r : EReal) := by
  rw [at_v52, at_v51]
  have e0 := r_v50 H
  obtain ⟨x_v50, h0⟩ : ∃ x : Arr S64x8x128 .f32, R m c main_v50 = x := ⟨_, rfl⟩
  rw [h0] at e0 ⊢
  pointwise
  exact e0 n h r

theorem r_v53 (n : Fin 64) (h : Fin 8) (r : Fin 128) (j : Fin 256) : R m c main_v53 (ix4 n h r j) = BitVec.ofBool (decide (A.S n h r j = (A.mx n h r : EReal))) := by
  rw [at_v53]
  have e0 := r_v49_0 H
  have e1 := r_v52 H
  obtain ⟨x_v49_0, h0⟩ : ∃ x : Arr S64x8x128x256 .f32, R m c main_v49_0 = x := ⟨_, rfl⟩
  rw [h0] at e0 ⊢
  obtain ⟨x_v52, h1⟩ : ∃ x : Arr S64x8x128x256 .f32, R m c main_v52 = x := ⟨_, rfl⟩
  rw [h1] at e1 ⊢
  pointwise
  rw [e0, e1]

theorem r_v54 (n : Fin 64) (h : Fin 8) (r : Fin 128) (j : Fin 256) : R m c main_v54 (ix4 n h r j) = ((if A.S n h r j = (A.mx n h r : EReal) then 1 else 0 : ℝ) : EReal) := by
  rw [at_v54]
  have e0 := r_v53 H
  obtain ⟨x_v53, h0⟩ : ∃ x : Arr S64x8x128x256 .i1, R m c main_v53 = x := ⟨_, rfl⟩
  rw [h0] at e0 ⊢
  pointwise
  rw [e0]
  by_cases hj : A.S n h r j = (A.mx n h r : EReal)
  · rw [if_pos hj, decide_eq_true hj]; simp [FloatOps.uitofp]
  · rw [if_neg hj, decide_eq_false hj]; simp [FloatOps.uitofp]

theorem r_v55 (n : Fin 64) (h : Fin 8) (r : Fin 128) : R m c main_v55 (ix3 n h r) = ((∑ j, if A.S n h r j = (A.mx n h r : EReal) then 1 else 0 : ℝ) : EReal) := by
  rw [at_v55, at_cst_9]
  have e0 := r_v54 H
  obtain ⟨x_v54, h0⟩ : ∃ x : Arr S64x8x128x256 .f32, R m c main_v54 = x := ⟨_, rfl⟩
  rw [h0] at e0 ⊢
  pointwise
  simp only [e0, coe_sum]

omit H in
theorem count_ne (n : Fin 64) (h : Fin 8) (r : Fin 128) : (∑ j, if A.S n h r j = (A.mx n h r : EReal) then 1 else 0 : ℝ) ≠ 0 := by
  obtain ⟨j, hj⟩ := A.exists_mx n h r
  refine (Finset.sum_pos' (fun i _ => ?_) ⟨j, Finset.mem_univ _, ?_⟩).ne'
  · split_ifs <;> norm_num
  · rw [if_pos hj]; norm_num

theorem r_v158 (n : Fin 64) (h : Fin 8) (r : Fin 128) (j : Fin 256) : R m c main_v158 (ix4 n h r j) = (A.dp n h r j : EReal) := by
  rw [at_v158]
  have e0 := r_v157 H
  have e1 := r_v15 H
  obtain ⟨x_v157, h0⟩ : ∃ x : Arr S64x8x64x128 .f32, R m c main_v157 = x := ⟨_, rfl⟩
  rw [h0] at e0 ⊢
  obtain ⟨x_v15, h1⟩ : ∃ x : Arr S64x256x8x64 .f32, R m c main_v15 = x := ⟨_, rfl⟩
  rw [h1] at e1 ⊢
  pointwise
  simp only [e0, e1, ← EReal.coe_mul, coe_sum]
  rfl

theorem r_v160 (n : Fin 64) (j : Fin 256) (h : Fin 8) (d : Fin 64) : R m c main_v160 (ix4 n j h d) = (A.dvAt n j h d : EReal) := by
  rw [at_v160, at_v159]
  have e0 := r_v157 H
  have e1 := r_v63 H
  obtain ⟨x_v157, h0⟩ : ∃ x : Arr S64x8x64x128 .f32, R m c main_v157 = x := ⟨_, rfl⟩
  rw [h0] at e0 ⊢
  obtain ⟨x_v63, h1⟩ : ∃ x : Arr S64x8x128x256 .f32, R m c main_v63 = x := ⟨_, rfl⟩
  rw [h1] at e1 ⊢
  pointwise
  simp only [e0, e1, ← EReal.coe_mul, coe_sum]
  refine congrArg Real.toEReal (Finset.sum_congr rfl fun r _ => ?_)
  rw [A.kP_eq n h r j]; unfold Args.gw; ring

theorem r_v164 (n : Fin 64) (h : Fin 8) (r : Fin 128) : R m c main_v164 (ix3 n h r) = ((∑ j, A.dp n h r j * (1 / (A.L n h r * A.L n h r)) * A.E n h r j : ℝ) : EReal) := by
  rw [at_v164, at_v163, at_v162, at_v161, at_cst_31]
  have e0 := r_v158 H
  have e1 := r_v66 H
  have e2 := r_v59 H
  obtain ⟨x_v158, h0⟩ : ∃ x : Arr S64x8x128x256 .f32, R m c main_v158 = x := ⟨_, rfl⟩
  rw [h0] at e0 ⊢
  obtain ⟨x_v66, h1⟩ : ∃ x : Arr S64x8x128x1 .f32, R m c main_v66 = x := ⟨_, rfl⟩
  rw [h1] at e1 ⊢
  obtain ⟨x_v59, h2⟩ : ∃ x : Arr S64x8x128x256 .f32, R m c main_v59 = x := ⟨_, rfl⟩
  rw [h2] at e2 ⊢
  pointwise
  simp only [e0, e1, e2, ← EReal.coe_mul, coe_sum]

theorem r_v166 (n : Fin 64) (h : Fin 8) (r : Fin 128) : R m c main_v166 (ix4 n h r 0) = ((-(∑ j, A.dp n h r j * (1 / (A.L n h r * A.L n h r)) * A.E n h r j) : ℝ) : EReal) := by
  rw [at_v166, at_v165]
  have e0 := r_v164 H
  obtain ⟨x_v164, h0⟩ : ∃ x : Arr S64x8x128 .f32, R m c main_v164 = x := ⟨_, rfl⟩
  rw [h0] at e0 ⊢
  pointwise
  rw [e0, ← EReal.coe_neg]

theorem r_v156 (n : Fin 64) (h : Fin 8) (r : Fin 128) : R m c main_v156 (ix4 n h r 0) = ((A.dl n h r / A.L n h r : ℝ) : EReal) := by
  rw [at_v156]
  have e0 := r_v155 H
  have e1 := r_v61 H
  obtain ⟨x_v155, h0⟩ : ∃ x : Arr S64x8x128x1 .f32, R m c main_v155 = x := ⟨_, rfl⟩
  rw [h0] at e0 ⊢
  obtain ⟨x_v61, h1⟩ : ∃ x : Arr S64x8x128x1 .f32, R m c main_v61 = x := ⟨_, rfl⟩
  rw [h1] at e1 ⊢
  pointwise
  rw [e0, e1, div_real (A.L_ne n h r)]

theorem r_v167 (n : Fin 64) (h : Fin 8) (r : Fin 128) : R m c main_v167 (ix4 n h r 0) = ((A.dl n h r / A.L n h r + -(∑ j, A.dp n h r j * (1 / (A.L n h r * A.L n h r)) * A.E n h r j) : ℝ) : EReal) := by
  rw [at_v167]
  have e0 := r_v156 H
  have e1 := r_v166 H
  obtain ⟨x_v156, h0⟩ : ∃ x : Arr S64x8x128x1 .f32, R m c main_v156 = x := ⟨_, rfl⟩
  rw [h0] at e0 ⊢
  obtain ⟨x_v166, h1⟩ : ∃ x : Arr S64x8x128x1 .f32, R m c main_v166 = x := ⟨_, rfl⟩
  rw [h1] at e1 ⊢
  pointwise
  rw [e0, e1, ← EReal.coe_add]

theorem r_v170 (n : Fin 64) (h : Fin 8) (r : Fin 128) : R m c main_v170 (ix3 n h r) = ((A.dl n h r / A.L n h r + -(∑ j, A.dp n h r j * (1 / (A.L n h r * A.L n h r)) * A.E n h r j) : ℝ) : EReal) := by
  rw [at_v170, at_cst_32]
  have e0 := r_v167 H
  obtain ⟨x_v167, h0⟩ : ∃ x : Arr S64x8x128x1 .f32, R m c main_v167 = x := ⟨_, rfl⟩
  rw [h0] at e0 ⊢
  pointwise
  simp only [e0, coe_sum, Finset.univ_unique, Finset.sum_singleton, Fin.default_eq_zero]

theorem r_v173 (n : Fin 64) (h : Fin 8) (r : Fin 128) (j : Fin 256) : R m c main_v173 (ix4 n h r j) = (A.rD n h r j : EReal) := by
  rw [at_v173, at_v172, at_v169, at_v168, at_v171]
  have e0 := r_v158 H
  have e1 := r_v61 H
  have e2 := r_v170 H
  have e3 := r_v59 H
  obtain ⟨x_v158, h0⟩ : ∃ x : Arr S64x8x128x256 .f32, R m c main_v158 = x := ⟨_, rfl⟩
  rw [h0] at e0 ⊢
  obtain ⟨x_v61, h1⟩ : ∃ x : Arr S64x8x128x1 .f32, R m c main_v61 = x := ⟨_, rfl⟩
  rw [h1] at e1 ⊢
  obtain ⟨x_v170, h2⟩ : ∃ x : Arr S64x8x128 .f32, R m c main_v170 = x := ⟨_, rfl⟩
  rw [h2] at e2 ⊢
  obtain ⟨x_v59, h3⟩ : ∃ x : Arr S64x8x128x256 .f32, R m c main_v59 = x := ⟨_, rfl⟩
  rw [h3] at e3 ⊢
  pointwise
  rw [e0, e1, e2, e3, div_real (A.L_ne n h r), ← EReal.coe_add, ← EReal.coe_mul]
  rfl

theorem r_v175 (n : Fin 64) (h : Fin 8) (r : Fin 128) : R m c main_v175 (ix3 n h r) = ((∑ j, -A.rD n h r j : ℝ) : EReal) := by
  rw [at_v175, at_v174, at_cst_33]
  have e0 := r_v173 H
  obtain ⟨x_v173, h0⟩ : ∃ x : Arr S64x8x128x256 .f32, R m c main_v173 = x := ⟨_, rfl⟩
  rw [h0] at e0 ⊢
  pointwise
  simp only [e0, ← EReal.coe_neg, coe_sum]

theorem r_v177 (n : Fin 64) (h : Fin 8) (r : Fin 128) : R m c main_v177 (ix4 n h r 0) = ((0 : ℝ) : EReal) := by
  rw [at_v177, at_v176]
  have e0 := r_v155 H
  have e1 := r_v175 H
  obtain ⟨x_v155, h0⟩ : ∃ x : Arr S64x8x128x1 .f32, R m c main_v155 = x := ⟨_, rfl⟩
  rw [h0] at e0 ⊢
  obtain ⟨x_v175, h1⟩ : ∃ x : Arr S64x8x128 .f32, R m c main_v175 = x := ⟨_, rfl⟩
  rw [h1] at e1 ⊢
  pointwise
  rw [e0, e1, ← EReal.coe_add, A.sum_rD]

theorem r_v178 (n : Fin 64) (h : Fin 8) (r : Fin 128) : R m c main_v178 (ix3 n h r) = ((0 : ℝ) : EReal) := by
  rw [at_v178, at_cst_34]
  have e0 := r_v177 H
  obtain ⟨x_v177, h0⟩ : ∃ x : Arr S64x8x128x1 .f32, R m c main_v177 = x := ⟨_, rfl⟩
  rw [h0] at e0 ⊢
  pointwise
  simp only [e0, coe_sum, Finset.univ_unique, Finset.sum_singleton, Fin.default_eq_zero]

theorem r_v179 (n : Fin 64) (h : Fin 8) (r : Fin 128) : R m c main_v179 (ix3 n h r) = ((0 : ℝ) : EReal) := by
  rw [at_v179]
  have e0 := r_v178 H
  have e1 := r_v55 H
  obtain ⟨x_v178, h0⟩ : ∃ x : Arr S64x8x128 .f32, R m c main_v178 = x := ⟨_, rfl⟩
  rw [h0] at e0 ⊢
  obtain ⟨x_v55, h1⟩ : ∃ x : Arr S64x8x128 .f32, R m c main_v55 = x := ⟨_, rfl⟩
  rw [h1] at e1 ⊢
  pointwise
  rw [e0, e1, div_real (count_ne n h r), zero_div]

theorem r_v181 (n : Fin 64) (h : Fin 8) (r : Fin 128) (j : Fin 256) : R m c main_v181 (ix4 n h r j) = ((0 : ℝ) : EReal) := by
  rw [at_v181, at_v180]
  have e0 := r_v179 H
  have e1 := r_v54 H
  obtain ⟨x_v179, h0⟩ : ∃ x : Arr S64x8x128 .f32, R m c main_v179 = x := ⟨_, rfl⟩
  rw [h0] at e0 ⊢
  obtain ⟨x_v54, h1⟩ : ∃ x : Arr S64x8x128x256 .f32, R m c main_v54 = x := ⟨_, rfl⟩
  rw [h1] at e1 ⊢
  pointwise
  rw [e0, e1, ← EReal.coe_mul, zero_mul]

theorem r_v182 (n : Fin 64) (h : Fin 8) (r : Fin 128) (j : Fin 256) : R m c main_v182 (ix4 n h r j) = (A.kD n h r j : EReal) := by
  rw [at_v182]
  have e0 := r_v173 H
  have e1 := r_v181 H
  obtain ⟨x_v173, h0⟩ : ∃ x : Arr S64x8x128x256 .f32, R m c main_v173 = x := ⟨_, rfl⟩
  rw [h0] at e0 ⊢
  obtain ⟨x_v181, h1⟩ : ∃ x : Arr S64x8x128x256 .f32, R m c main_v181 = x := ⟨_, rfl⟩
  rw [h1] at e1 ⊢
  pointwise
  rw [e0, e1, ← EReal.coe_add, add_zero, A.rD_eq]

theorem r_v183 (n : Fin 64) (h : Fin 8) (r : Fin 128) (j : Fin 256) : R m c main_v183 (ix4 n h r j) = (A.kD n h r j : EReal) := by
  rw [at_v183, at_call1_v0, at_call1_cst]
  have e0 := r_v49_1 m c
  have e1 := r_v182 H
  obtain ⟨x_v49_1, h0⟩ : ∃ x : Arr S64x8x128x256 .i1, R m c main_v49_1 = x := ⟨_, rfl⟩
  rw [h0] at e0 ⊢
  obtain ⟨x_v182, h1⟩ : ∃ x : Arr S64x8x128x256 .f32, R m c main_v182 = x := ⟨_, rfl⟩
  rw [h1] at e1 ⊢
  pointwise
  rw [e0, e1]
  by_cases hj : ok n r j
  · rw [if_pos hj]; rfl
  · rw [if_neg hj, A.not_ok n h r j hj]; simp [Scalar.select]

theorem r_v184 (h : Fin 8) (r : Fin 128) (j : Fin 256) : R m c main_v184 (ix3 h r j) = (A.dbOf h r j : EReal) := by
  rw [at_v184, at_cst_35]
  have e0 := r_v183 H
  obtain ⟨x_v183, h0⟩ : ∃ x : Arr S64x8x128x256 .f32, R m c main_v183 = x := ⟨_, rfl⟩
  rw [h0] at e0 ⊢
  pointwise
  simp only [e0, coe_sum]
  rfl

theorem r_v185 (h : Fin 8) (r : Fin 128) (j : Fin 256) : R m c main_v185 (ix4 0 h r j) = (A.dbOf h r j : EReal) := by
  rw [at_v185]
  exact (cast_unit4 _ _ _ _ _).trans (r_v184 H h r j)

theorem r_v186 (h : Fin 8) (r : Fin 128) (j : Fin 256) : R m c main_v186 (ix3 h r j) = (A.dbOf h r j : EReal) := by
  rw [at_v186, at_cst_36]
  have e0 := r_v185 H
  obtain ⟨x_v185, h0⟩ : ∃ x : Arr S1x8x128x256 .f32, R m c main_v185 = x := ⟨_, rfl⟩
  rw [h0] at e0 ⊢
  pointwise
  simp only [e0, coe_sum, Finset.univ_unique, Finset.sum_singleton, Fin.default_eq_zero]

theorem r_v190 (n : Fin 64) (r : Fin 128) (h : Fin 8) (l : Fin 64) : R m c main_v190 (ix4 n r h l) = (A.dqOf n r h l : EReal) := by
  rw [at_v190, at_v189]
  have e0 := r_v183 H
  have e1 := r_v9 H
  obtain ⟨x_v183, h0⟩ : ∃ x : Arr S64x8x128x256 .f32, R m c main_v183 = x := ⟨_, rfl⟩
  rw [h0] at e0 ⊢
  obtain ⟨x_v9, h1⟩ : ∃ x : Arr S64x256x8x64 .f32, R m c main_v9 = x := ⟨_, rfl⟩
  rw [h1] at e1 ⊢
  pointwise
  simp only [e0, e1, ← EReal.coe_mul, coe_sum]
  rfl

theorem r_v205 (n : Fin 64) (r : Fin 128) (h : Fin 8) (l : Fin 64) : R m c main_v205 (ix3 0 (rowOf n r) (laneOf h l)) = (A.dqOf n r h l : EReal) := by
  rw [at_v205]
  exact (cast_flat n r h l _ _).trans (r_v190 H n r h l)

theorem r_v188 (n : Fin 64) (j : Fin 256) (h : Fin 8) (l : Fin 64) : R m c main_v188 (ix4 n j h l) = (A.dkAt n j h l : EReal) := by
  rw [at_v188, at_v187]
  have e0 := r_v183 H
  have e1 := r_v1 H
  obtain ⟨x_v183, h0⟩ : ∃ x : Arr S64x8x128x256 .f32, R m c main_v183 = x := ⟨_, rfl⟩
  rw [h0] at e0 ⊢
  obtain ⟨x_v1, h1⟩ : ∃ x : Arr S64x128x8x64 .f32, R m c main_v1 = x := ⟨_, rfl⟩
  rw [h1] at e1 ⊢
  pointwise
  simp only [e0, e1, ← EReal.coe_mul, coe_sum]
  rfl

theorem r_v198 (n : Fin 64) (r : Fin 128) (h : Fin 8) (l : Fin 64) : R m c main_v198 (ix4 n r h l) = (A.dkAt n ⟨128 + r.val, by omega⟩ h l : EReal) := by
  rw [at_v198]
  have e0 := r_v188 H
  obtain ⟨x_v188, h0⟩ : ∃ x : Arr S64x256x8x64 .f32, R m c main_v188 = x := ⟨_, rfl⟩
  rw [h0] at e0 ⊢
  pointwise
  exact e0 n _ h l

theorem r_v200 (n : Fin 63) (r : Fin 128) (h : Fin 8) (l : Fin 64) : R m c main_v200 (ix4 n r h l) = (A.dkAt ⟨n.val + 1, by omega⟩ ⟨r.val, by omega⟩ h l : EReal) := by
  rw [at_v200, at_v197]
  have e0 := r_v188 H
  obtain ⟨x_v188, h0⟩ : ∃ x : Arr S64x256x8x64 .f32, R m c main_v188 = x := ⟨_, rfl⟩
  rw [h0] at e0 ⊢
  pointwise
  refine Eq.trans ?_ (e0 ⟨n.val + 1, by omega⟩ ⟨r.val, by omega⟩ h l)
  congr 2 <;> first | rfl | (apply Fin.ext; simp; try omega)

theorem r_v201 (n : Fin 64) (r : Fin 128) (h : Fin 8) (l : Fin 64) : R m c main_v201 (ix4 n r h l) = ((if hn : n.val < 63 then A.dkAt ⟨n.val + 1, by omega⟩ ⟨r.val, by omega⟩ h l else 0 : ℝ) : EReal) := by
  rw [at_v201, at_cst_38]
  have e0 := r_v200 H
  obtain ⟨x_v200, h0⟩ : ∃ x : Arr S63x128x8x64 .f32, R m c main_v200 = x := ⟨_, rfl⟩
  rw [h0] at e0 ⊢
  pointwise
  by_cases hn : n.val < 63
  · rw [dif_pos hn, dif_pos hn]; exact e0 ⟨n.val, hn⟩ r h l
  · rw [dif_neg hn, dif_neg hn]; simp

theorem r_v202 (n : Fin 64) (r : Fin 128) (h : Fin 8) (l : Fin 64) : R m c main_v202 (ix4 n r h l) = (A.dkOf n r h l : EReal) := by
  rw [at_v202]
  have e0 := r_v198 H
  have e1 := r_v201 H
  obtain ⟨x_v198, h0⟩ : ∃ x : Arr S64x128x8x64 .f32, R m c main_v198 = x := ⟨_, rfl⟩
  rw [h0] at e0 ⊢
  obtain ⟨x_v201, h1⟩ : ∃ x : Arr S64x128x8x64 .f32, R m c main_v201 = x := ⟨_, rfl⟩
  rw [h1] at e1 ⊢
  pointwise
  rw [e0, e1, ← EReal.coe_add]
  rfl

theorem r_v204 (n : Fin 64) (r : Fin 128) (h : Fin 8) (l : Fin 64) : R m c main_v204 (ix3 0 (rowOf n r) (laneOf h l)) = (A.dkOf n r h l : EReal) := by
  rw [at_v204]
  exact (cast_flat n r h l _ _).trans (r_v202 H n r h l)

theorem r_v192 (n : Fin 64) (r : Fin 128) (h : Fin 8) (l : Fin 64) : R m c main_v192 (ix4 n r h l) = (A.dvAt n ⟨128 + r.val, by omega⟩ h l : EReal) := by
  rw [at_v192]
  have e0 := r_v160 H
  obtain ⟨x_v160, h0⟩ : ∃ x : Arr S64x256x8x64 .f32, R m c main_v160 = x := ⟨_, rfl⟩
  rw [h0] at e0 ⊢
  pointwise
  exact e0 n _ h l

theorem r_v194 (n : Fin 63) (r : Fin 128) (h : Fin 8) (l : Fin 64) : R m c main_v194 (ix4 n r h l) = (A.dvAt ⟨n.val + 1, by omega⟩ ⟨r.val, by omega⟩ h l : EReal) := by
  rw [at_v194, at_v191]
  have e0 := r_v160 H
  obtain ⟨x_v160, h0⟩ : ∃ x : Arr S64x256x8x64 .f32, R m c main_v160 = x := ⟨_, rfl⟩
  rw [h0] at e0 ⊢
  pointwise
  refine Eq.trans ?_ (e0 ⟨n.val + 1, by omega⟩ ⟨r.val, by omega⟩ h l)
  congr 2 <;> first | rfl | (apply Fin.ext; simp; try omega)

theorem r_v195 (n : Fin 64) (r : Fin 128) (h : Fin 8) (l : Fin 64) : R m c main_v195 (ix4 n r h l) = ((if hn : n.val < 63 then A.dvAt ⟨n.val + 1, by omega⟩ ⟨r.val, by omega⟩ h l else 0 : ℝ) : EReal) := by
  rw [at_v195, at_cst_37]
  have e0 := r_v194 H
  obtain ⟨x_v194, h0⟩ : ∃ x : Arr S63x128x8x64 .f32, R m c main_v194 = x := ⟨_, rfl⟩
  rw [h0] at e0 ⊢
  pointwise
  by_cases hn : n.val < 63
  · rw [dif_pos hn, dif_pos hn]; exact e0 ⟨n.val, hn⟩ r h l
  · rw [dif_neg hn, dif_neg hn]; simp

theorem r_v196 (n : Fin 64) (r : Fin 128) (h : Fin 8) (l : Fin 64) : R m c main_v196 (ix4 n r h l) = (A.dvOf n r h l : EReal) := by
  rw [at_v196]
  have e0 := r_v192 H
  have e1 := r_v195 H
  obtain ⟨x_v192, h0⟩ : ∃ x : Arr S64x128x8x64 .f32, R m c main_v192 = x := ⟨_, rfl⟩
  rw [h0] at e0 ⊢
  obtain ⟨x_v195, h1⟩ : ∃ x : Arr S64x128x8x64 .f32, R m c main_v195 = x := ⟨_, rfl⟩
  rw [h1] at e1 ⊢
  pointwise
  rw [e0, e1, ← EReal.coe_add]
  rfl

theorem r_v203 (n : Fin 64) (r : Fin 128) (h : Fin 8) (l : Fin 64) : R m c main_v203 (ix3 0 (rowOf n r) (laneOf h l)) = (A.dvOf n r h l : EReal) := by
  rw [at_v203]
  exact (cast_flat n r h l _ _).trans (r_v196 H n r h l)

theorem r_v206 (n : Fin 64) (r : Fin 128) (h : Fin 8) (l : Fin 64) : R m c main_v206 (ix3 0 (rowOf n r) (laneOf h l)) = (A.dvOf n r h l : EReal) := by
  rw [at_v206]
  have e0 := r_v203 H
  obtain ⟨x_v203, h0⟩ : ∃ x : Arr S1x8192x512 .f32, R m c main_v203 = x := ⟨_, rfl⟩
  rw [h0] at e0 ⊢
  pointwise
  exact e0 n r h l

end

end Cert.ReferenceIdeal.Line

end
-- ==== Proof.Leg.lean ====
/- The two programs leave the same four results. -/
module

public import proofs.«01_k».proof.Defs
public import proofs.«01_k».proof.Proof.Reals
public import proofs.«01_k».proof.Proof.Final
public import proofs.«01_k».proof.Proof.RefGrad
public import Idealize.ShloMosaic.Lib.Claim

@[expose] public section

set_option maxRecDepth 16384

noncomputable section

namespace Cert.Leg

open Idealize.ShloMosaic Idealize.ShloMosaic.TcCoe Idealize.ShloMosaic.StableHlo Idealize.SL.Sem Cert.Attn

/-- The side conditions of the precondition's own operations. -/
theorem facts_pre : Cert.Pre_all_finite.Facts where
  bcast_S_S1x8192x512 := by decide
  bcast_S_S24x128x256 := by decide
  bcast_S_S8192x8x64 := by decide
  bcast_S_S8192x8 := by decide

/-! ## Both programs read the same real numbers -/

section
variable (X0 : FVec Ideal ⟨3, ![1, 8192, 512]⟩ .f32) (X1 : FVec Ideal ⟨3, ![1, 8192, 512]⟩ .f32) (X2 : FVec Ideal ⟨3, ![1, 8192, 512]⟩ .f32) (X3 : FVec Ideal ⟨3, ![24, 128, 256]⟩ .f32) (X4 : FVec Ideal ⟨3, ![8192, 8, 64]⟩ .f32) (X5 : FVec Ideal ⟨2, ![8192, 8]⟩ .f32) (X6 : FVec Ideal ⟨3, ![8192, 8, 64]⟩ .f32) (X7 : FVec Ideal ⟨2, ![8192, 8]⟩ .f32) (X8 : FVec Ideal ⟨3, ![1, 8192, 512]⟩ .f32)

/-- Every place of every argument is a real number. -/
structure Finite : Prop where
  h0 : ∀ x, X0 x = ((X0 x : EReal).toReal : EReal)
  h1 : ∀ x, X1 x = ((X1 x : EReal).toReal : EReal)
  h2 : ∀ x, X2 x = ((X2 x : EReal).toReal : EReal)
  h3 : ∀ x, X3 x = ((X3 x : EReal).toReal : EReal)
  h4 : ∀ x, X4 x = ((X4 x : EReal).toReal : EReal)
  h5 : ∀ x, X5 x = ((X5 x : EReal).toReal : EReal)
  h6 : ∀ x, X6 x = ((X6 x : EReal).toReal : EReal)
  h7 : ∀ x, X7 x = ((X7 x : EReal).toReal : EReal)
  h8 : ∀ x, X8 x = ((X8 x : EReal).toReal : EReal)

variable {X0 X1 X2 X3 X4 X5 X6 X7 X8} (hf : Finite X0 X1 X2 X3 X4 X5 X6 X7 X8)

section
open Cert.KernelIdeal Cert.KernelIdeal.Gen
variable (m : (ℓ : Loc nD τ sig) → Buf (Elt Ideal) ℓ) (c : Dev nD)
include hf in
theorem reads_kernel (e0 : m ((c.tc : Thread nD τ).loc main_arg0) = X0) (e1 : m ((c.tc : Thread nD τ).loc main_arg1) = X1) (e2 : m ((c.tc : Thread nD τ).loc main_arg2) = X2) (e3 : m ((c.tc : Thread nD τ).loc main_arg3) = X3) (e4 : m ((c.tc : Thread nD τ).loc main_arg4) = X4) (e5 : m ((c.tc : Thread nD τ).loc main_arg5) = X5) (e6 : m ((c.tc : Thread nD τ).loc main_arg6) = X6) (e7 : m ((c.tc : Thread nD τ).loc main_arg7) = X7) (e8 : m ((c.tc : Thread nD τ).loc main_arg8) = X8) :
    Cert.KernelIdeal.Host.Reads m c (argsOf X0 X1 X2 X3 X4 X5 X6 X7 X8) where
    q := fun n r h l => (congrFun (V_main_arg0 m c) _).trans ((congrFun e0 _).trans (hf.h0 _))
    k := fun n r h l => (congrFun (V_main_arg1 m c) _).trans ((congrFun e1 _).trans (hf.h1 _))
    v := fun n r h l => (congrFun (V_main_arg2 m c) _).trans ((congrFun e2 _).trans (hf.h2 _))
    b := fun h r j => (congrFun (V_main_arg3 m c) _).trans ((congrFun e3 _).trans (hf.h3 _))
    o1 := fun n r h l => (congrFun (V_main_arg4 m c) _).trans ((congrFun e4 _).trans (hf.h4 _))
    l1 := fun n r h => (congrFun (V_main_arg5 m c) _).trans ((congrFun e5 _).trans (hf.h5 _))
    o2 := fun n r h l => (congrFun (V_main_arg6 m c) _).trans ((congrFun e6 _).trans (hf.h6 _))
    l2 := fun n r h => (congrFun (V_main_arg7 m c) _).trans ((congrFun e7 _).trans (hf.h7 _))
    g := fun n r h l => (congrFun (V_main_arg8 m c) _).trans ((congrFun e8 _).trans (hf.h8 _))
/-- The kernel's run: each result is its window's array after the last point, and the arguments are unchanged. -/
theorem run_kernel (ρ : Dev nD → PrngReg) : θ_run defs (onTc (τ := τ) (main (F := Ideal))) ⟨m, fun _ => 0, ρ⟩ fun r => ∀ c : Dev nD,
      r.2.mem ((c.tc : Thread nD τ).loc main_v118_0) = (Cert.KernelIdeal.Body.dats m 0 c).arrAt 6 (cfgs 0).N
      ∧ r.2.mem ((c.tc : Thread nD τ).loc main_v118_1) = (Cert.KernelIdeal.Body.dats m 0 c).arrAt 7 (cfgs 0).N
      ∧ r.2.mem ((c.tc : Thread nD τ).loc main_v118_2) = (Cert.KernelIdeal.Body.dats m 0 c).arrAt 8 (cfgs 0).N
      ∧ r.2.mem ((c.tc : Thread nD τ).loc main_v118_3) = (Cert.KernelIdeal.Body.dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 6, (h.1 c).1 7, (h.1 c).1 8, (h.1 c).1 9, h.2 c⟩)
    (θ_run_and (Cert.KernelIdeal.Body.run_post m ρ) (frame_of m ρ (Cert.KernelIdeal.Body.dats m) (Cert.KernelIdeal.Body.A_eq m) (Cert.KernelIdeal.Body.run_post m ρ)))
end

section
open Cert.ReferenceIdeal Cert.ReferenceIdeal.Gen Cert.ReferenceIdeal.Value Cert.ReferenceIdeal.Line
variable (m : (ℓ : Loc nD τ sig) → Buf (Elt Ideal) ℓ) (c : Dev nD) (ρ : Dev nD → PrngReg)

theorem kept_0 : R m c main_arg0 = m ((c.tc : Thread nD τ).loc main_arg0) := (keep m c 0 (r := main_arg0) (by decide)).symm
theorem kept_1 : R m c main_arg1 = m ((c.tc : Thread nD τ).loc main_arg1) := (keep m c 0 (r := main_arg1) (by decide)).symm
theorem kept_2 : R m c main_arg2 = m ((c.tc : Thread nD τ).loc main_arg2) := (keep m c 0 (r := main_arg2) (by decide)).symm
theorem kept_3 : R m c main_arg3 = m ((c.tc : Thread nD τ).loc main_arg3) := (keep m c 0 (r := main_arg3) (by decide)).symm
theorem kept_4 : R m c main_arg4 = m ((c.tc : Thread nD τ).loc main_arg4) := (keep m c 0 (r := main_arg4) (by decide)).symm
theorem kept_5 : R m c main_arg5 = m ((c.tc : Thread nD τ).loc main_arg5) := (keep m c 0 (r := main_arg5) (by decide)).symm
theorem kept_6 : R m c main_arg6 = m ((c.tc : Thread nD τ).loc main_arg6) := (keep m c 0 (r := main_arg6) (by decide)).symm
theorem kept_7 : R m c main_arg7 = m ((c.tc : Thread nD τ).loc main_arg7) := (keep m c 0 (r := main_arg7) (by decide)).symm
theorem kept_8 : R m c main_arg8 = m ((c.tc : Thread nD τ).loc main_arg8) := (keep m c 0 (r := main_arg8) (by decide)).symm

include hf in
theorem reads_reference (e0 : m ((c.tc : Thread nD τ).loc main_arg0) = X0) (e1 : m ((c.tc : Thread nD τ).loc main_arg1) = X1) (e2 : m ((c.tc : Thread nD τ).loc main_arg2) = X2) (e3 : m ((c.tc : Thread nD τ).loc main_arg3) = X3) (e4 : m ((c.tc : Thread nD τ).loc main_arg4) = X4) (e5 : m ((c.tc : Thread nD τ).loc main_arg5) = X5) (e6 : m ((c.tc : Thread nD τ).loc main_arg6) = X6) (e7 : m ((c.tc : Thread nD τ).loc main_arg7) = X7) (e8 : m ((c.tc : Thread nD τ).loc main_arg8) = X8) :
    Cert.ReferenceIdeal.Line.Reads m c (argsOf X0 X1 X2 X3 X4 X5 X6 X7 X8) where
    q := fun n r h l => (congrFun (kept_0 m c) _).trans ((congrFun e0 _).trans (hf.h0 _))
    k := fun n r h l => (congrFun (kept_1 m c) _).trans ((congrFun e1 _).trans (hf.h1 _))
    v := fun n r h l => (congrFun (kept_2 m c) _).trans ((congrFun e2 _).trans (hf.h2 _))
    b := fun h r j => (congrFun (kept_3 m c) _).trans ((congrFun e3 _).trans (hf.h3 _))
    o1 := fun n r h l => (congrFun (kept_4 m c) _).trans ((congrFun e4 _).trans (hf.h4 _))
    l1 := fun n r h => (congrFun (kept_5 m c) _).trans ((congrFun e5 _).trans (hf.h5 _))
    o2 := fun n r h l => (congrFun (kept_6 m c) _).trans ((congrFun e6 _).trans (hf.h6 _))
    l2 := fun n r h => (congrFun (kept_7 m c) _).trans ((congrFun e7 _).trans (hf.h7 _))
    g := fun n r h l => (congrFun (kept_8 m c) _).trans ((congrFun e8 _).trans (hf.h8 _))

/-- The reference's run: each result is what the operations leave in its buffer, and the arguments are unchanged. -/
theorem run_reference : θ_run defs (onTc (τ := τ) (main (F := Ideal))) ⟨m, fun _ => 0, ρ⟩ fun r => ∀ c : Dev nD,
      r.2.mem ((c.tc : Thread nD τ).loc main_v205) = R m c main_v205
      ∧ r.2.mem ((c.tc : Thread nD τ).loc main_v204) = R m c main_v204
      ∧ r.2.mem ((c.tc : Thread nD τ).loc main_v206) = R m c main_v206
      ∧ r.2.mem ((c.tc : Thread nD τ).loc main_v186) = R m c main_v186
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨h c main_v205, h c main_v204, h c main_v206, h c main_v186, (h c main_arg0).trans (kept_0 m c), (h c main_arg1).trans (kept_1 m c), (h c main_arg2).trans (kept_2 m c), (h c main_arg3).trans (kept_3 m c), (h c main_arg4).trans (kept_4 m c), (h c main_arg5).trans (kept_5 m c), (h c main_arg6).trans (kept_6 m c), (h c main_arg7).trans (kept_7 m c), (h c main_arg8).trans (kept_8 m c)⟩)
    (run_seq scopedRefs_eq scopedSems_eq defs main (fun _ => ops) main_eq (fun _ => ops_sub) m ρ fun _ => ops_fresh)

/-! The reference's four results, as arrays of real numbers. -/

variable {m c} {A : Args} (H : Reads m c A)
include H in
theorem result_q : ∃ X : (⟨⟨3, ![1, 8192, 512]⟩, .f32⟩ : BufTy).Contents (Elt Ideal), R m c main_v205 = X ∧ ∀ n r h l, X (ix3 0 (rowOf n r) (laneOf h l)) = (A.dqOf n r h l : EReal) := ⟨_, rfl, r_v205 H⟩
include H in
theorem result_k : ∃ X : (⟨⟨3, ![1, 8192, 512]⟩, .f32⟩ : BufTy).Contents (Elt Ideal), R m c main_v204 = X ∧ ∀ n r h l, X (ix3 0 (rowOf n r) (laneOf h l)) = (A.dkOf n r h l : EReal) := ⟨_, rfl, r_v204 H⟩
include H in
theorem result_v : ∃ X : (⟨⟨3, ![1, 8192, 512]⟩, .bf16⟩ : BufTy).Contents (Elt Ideal), R m c main_v206 = X ∧ ∀ n r h l, X (ix3 0 (rowOf n r) (laneOf h l)) = (A.dvOf n r h l : EReal) := ⟨_, rfl, r_v206 H⟩
include H in
theorem result_b : ∃ X : (⟨⟨3, ![8, 128, 256]⟩, .f32⟩ : BufTy).Contents (Elt Ideal), R m c main_v186 = X ∧ ∀ h r j, X (ix3 h r j) = (A.dbOf h r j : EReal) := ⟨_, rfl, r_v186 H⟩
end

end

end Cert.Leg

end
-- ==== Proof.Algebraic.lean ====
/- The algebraic claim. -/
module

public import proofs.«01_k».proof.Proof.Leg

@[expose] public section

set_option maxRecDepth 16384

noncomputable section

namespace Cert.Leg

open Idealize.ShloMosaic Idealize.ShloMosaic.TcCoe Idealize.ShloMosaic.StableHlo Idealize.SL.Sem Cert.Attn

/-- The precondition makes every argument real. -/
theorem finite_of (m : (ℓ : Loc Cert.KernelIdeal.nD Cert.KernelIdeal.τ Cert.KernelIdeal.sig) → Buf (Elt Ideal) ℓ) (c : Dev Cert.KernelIdeal.nD)
    (h : @Cert.Pre_KernelIdeal_all_finite facts_pre m) : Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) where
  h0 := real_at _ _ ((h c).1)
  h1 := real_at _ _ ((h c).2.1)
  h2 := real_at _ _ ((h c).2.2.1)
  h3 := real_at _ _ ((h c).2.2.2.1)
  h4 := real_at _ _ ((h c).2.2.2.2.1)
  h5 := real_at _ _ ((h c).2.2.2.2.2.1)
  h6 := real_at _ _ ((h c).2.2.2.2.2.2.1)
  h7 := real_at _ _ ((h c).2.2.2.2.2.2.2.1)
  h8 := real_at _ _ ((h c).2.2.2.2.2.2.2.2)

/-- The kernel's four results are the reference's, where every argument is finite. -/
theorem algebraic : @Cert.algebraic_KernelIdeal_ReferenceIdeal_pre_all_finite Cert.KernelIdeal.Gen.facts Cert.ReferenceIdeal.Gen.facts facts_pre := by
  intro m g m' g' hpre hagree
  refine ⟨fun c => (Cert.KernelIdeal.Body.dats m 0 c).arrAt 6 (Cert.KernelIdeal.cfgs 0).N, fun c => (Cert.KernelIdeal.Body.dats m 0 c).arrAt 7 (Cert.KernelIdeal.cfgs 0).N,
    fun c => (Cert.KernelIdeal.Body.dats m 0 c).arrAt 8 (Cert.KernelIdeal.cfgs 0).N, fun c => (Cert.KernelIdeal.Body.dats m 0 c).arrAt 9 (Cert.KernelIdeal.cfgs 0).N,
    run_kernel m g, ?_⟩
  refine (θ_run _ _ _).mono (fun r h c => ?_) (run_reference m' g')
  have HK := reads_kernel (finite_of m c hpre) m c rfl rfl rfl rfl rfl rfl rfl rfl rfl
  have HR := reads_reference (finite_of m c hpre) m' c ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2)
  obtain ⟨X0, x0, y0⟩ := result_q HR
  obtain ⟨X1, x1, y1⟩ := result_k HR
  obtain ⟨X2, x2, y2⟩ := result_v HR
  obtain ⟨X3, x3, y3⟩ := result_b HR
  exact ⟨((h c).1.trans x0).trans (Cert.KernelIdeal.Body.final_q HK X0 y0).symm,
      ((h c).2.1.trans x1).trans (Cert.KernelIdeal.Body.final_k HK X1 y1).symm,
      ((h c).2.2.1.trans x2).trans (Cert.KernelIdeal.Body.final_v HK X2 y2).symm,
      ((h c).2.2.2.1.trans x3).trans (Cert.KernelIdeal.Body.final_b HK X3 y3).symm,
      (h c).2.2.2.2⟩

end Cert.Leg

end
-- ==== Proof.Product.lean ====
/- Sums over a contracted axis taken in runs, and the running sum that a blocked product keeps. -/
module

public import Idealize.ShloMosaic.PureOps.Ideal
public import Idealize.ShloMosaic.Lib.Pointwise

@[expose] public section

noncomputable section

namespace Cert.Product

/-- Place `r` of run `i`, where `N` places lie in `a` runs of `b`. -/
def cell (a b N : ℕ) (h : N = a * b) (i : Fin a) (r : Fin b) : Fin N :=
  ⟨b * i.val + r.val, by
    have h1 : b * i.val + b ≤ b * a := by rw [← Nat.mul_succ]; exact Nat.mul_le_mul_left _ i.isLt
    have h2 : a * b = b * a := Nat.mul_comm _ _
    have := r.isLt
    omega⟩

theorem cell_val (a b N : ℕ) (h : N = a * b) (i : Fin a) (r : Fin b) : (cell a b N h i r).val = b * i.val + r.val := rfl

/-- A sum over `N = a * b` places, run by run. -/
theorem sum_cells (a b N : ℕ) (h : N = a * b) (f : Fin N → EReal) : ∑ x, f x = ∑ k, ∑ l, f (cell a b N h k l) := by
  subst h
  rw [← Fintype.sum_prod_type' fun k l => f (cell a b (a * b) rfl k l)]
  refine (Fintype.sum_equiv finProdFinEquiv _ f fun x => congrArg f (Fin.ext ?_)).symm
  exact add_comm _ _

/-- Two functions on a block's places agree if they agree at every row and column. -/
theorem at_each {a b : ℕ} {α : Type} (f g : (⟨2, ![a, b]⟩ : Idealize.ShloMosaic.Shape).Idx → α)
    (hfg : ∀ r n, f (Idealize.ShloMosaic.ix2 r n) = g (Idealize.ShloMosaic.ix2 r n)) (y : (⟨2, ![a, b]⟩ : Idealize.ShloMosaic.Shape).Idx) : f y = g y := by
  rw [Idealize.ShloMosaic.eq_ix2 y]
  exact hfg _ _

/-! ## The running sum -/

section
variable {K : ℕ} (f : Fin K → EReal)

theorem sum_first (k : Fin K) (h : k.val = 0) : ∑ j ∈ Finset.univ.filter (fun j : Fin K => j.val ≤ 0), f j = f k := by
  rw [show (Finset.univ.filter fun j : Fin K => j.val ≤ 0) = {k} by
    ext j; simp only [Finset.mem_filter, Finset.mem_univ, true_and, Finset.mem_singleton, Fin.ext_iff]; omega]
  exact Finset.sum_singleton _ _

theorem sum_next (k : Fin K) (p : ℕ) (h : k.val = p + 1) :
    ∑ j ∈ Finset.univ.filter (fun j : Fin K => j.val ≤ p), f j + f k = ∑ j ∈ Finset.univ.filter (fun j : Fin K => j.val ≤ p + 1), f j := by
  rw [show (Finset.univ.filter fun j : Fin K => j.val ≤ p + 1) = insert k (Finset.univ.filter fun j : Fin K => j.val ≤ p) by
    ext j; simp only [Finset.mem_filter, Finset.mem_univ, true_and, Finset.mem_insert, Fin.ext_iff]; omega]
  rw [Finset.sum_insert (by simp only [Finset.mem_filter, Finset.mem_univ, true_and]; omega), add_comm]

theorem sum_all (p : ℕ) (h : K = p + 1) : ∑ j ∈ Finset.univ.filter (fun j : Fin K => j.val ≤ p), f j = ∑ j, f j := by
  rw [Finset.filter_true_of_mem fun j _ => by have := j.isLt; omega]
end

theorem pred_mod (K t k : ℕ) (hp : 0 < K) (h : t % K = k + 1) : (t - 1) % K = k ∧ (t - 1) / K = t / K := by
  have hK : k + 1 < K := by rw [← h]; exact Nat.mod_lt _ hp
  have e := Nat.div_add_mod t K
  have e' : t - 1 = K * (t / K) + k := by omega
  rw [e']
  exact ⟨by rw [Nat.mul_add_mod, Nat.mod_eq_of_lt (by omega)], by rw [Nat.mul_add_div hp, Nat.div_eq_of_lt (a := k) (by omega), Nat.add_zero]⟩

/-- Points come in runs of `K`. A sum that the first point of a run starts and every later one adds to holds, at the
    run's last point, the sum of all the run's terms. -/
theorem running {N K : ℕ} (hK : 1 < K) (S T O : Fin N → EReal) (f : Fin N → Fin K → EReal)
    (hf : ∀ t t' : Fin N, t.val / K = t'.val / K → f t = f t')
    (hT : ∀ t, T t = f t ⟨t.val % K, Nat.mod_lt _ (by omega)⟩)
    (first : ∀ t : Fin N, t.val % K = 0 → S t = T t)
    (next : ∀ t : Fin N, ¬t.val % K = 0 → ¬t.val % K = K - 1 → S t = S ⟨t.val - 1, lt_of_le_of_lt (Nat.sub_le _ _) t.isLt⟩ + T t)
    (last : ∀ t : Fin N, t.val % K = K - 1 → O t = S ⟨t.val - 1, lt_of_le_of_lt (Nat.sub_le _ _) t.isLt⟩ + T t)
    (t : Fin N) (ht : t.val % K = K - 1) : O t = ∑ j, f t j := by
  have part : ∀ k, k < K - 1 → ∀ t : Fin N, t.val % K = k → S t = ∑ j ∈ Finset.univ.filter (fun j : Fin K => j.val ≤ k), f t j := by
    intro k
    induction k with
    | zero => intro _ t ht; rw [first t ht, hT t, sum_first (f t) ⟨t.val % K, _⟩ ht]
    | succ k ih =>
      intro hk t ht
      have hp := pred_mod K t.val k (by omega) ht
      rw [next t (by omega) (by omega), ih (by omega) _ hp.1, hf _ t hp.2, hT t, sum_next (f t) ⟨t.val % K, _⟩ k ht]
  obtain ⟨p, rfl⟩ : ∃ p, K = p + 2 := ⟨K - 2, by omega⟩
  have ht : t.val % (p + 2) = p + 1 := ht
  have hp := pred_mod (p + 2) t.val p (by omega) ht
  rw [last t ht, part p (by omega) _ hp.1, hf _ t hp.2, hT t, sum_next (f t) ⟨t.val % (p + 2), _⟩ p ht, sum_all (f t) (p + 1) rfl]

end Cert.Product

end
-- ==== Proof.FfnInDxKer.lean ====
/- The feed-forward layer's input gradient: what the kernel leaves in its result. -/
module

public import proofs.«01_k».proof.Proof.Gen.FfnInDxIdeal.Frame
public import Idealize.ShloMosaic.Lib.Pipeline.ValueKit
public import proofs.«01_k».proof.Proof.Product

@[expose] public section

set_option maxRecDepth 16384

noncomputable section

namespace Cert.FfnInDxIdeal.Body

open Cert.FfnInDxIdeal Cert.FfnInDxIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S1024x1408 .bf16) (w3 : a3.IsWhole) (a4 : Memref sig .tc .vmem S1x1024x1408 .bf16) (w4 : a4.IsWhole)
  (a5 : Memref sig .tc .vmem S1024x1024 .bf16) (w5 : a5.IsWhole) (a6 : Memref sig .tc .vmem S1024x1024 .f32) (w6 : a6.IsWhole)
  (x0 : Vec F S1024x1408 .bf16) (x1 : Vec F S1x1024x1408 .bf16) (xs : Vec F S1024x1024 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay3 (k0_pay2 xs x0 x1) := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r n : Fin 1024) : k0_pay1 (F := Ideal) (ix2 r n) = (0 : EReal) := by pointwise [k0_pay1]
theorem add_at (xs : Vec Ideal S1024x1024 .f32) (x0 : Vec Ideal S1024x1408 .bf16) (x1 : Vec Ideal S1x1024x1408 .bf16) (r n : Fin 1024) :
    k0_pay2 xs x0 x1 (ix2 r n) = ((xs (ix2 r n) : EReal) + ∑ l : Fin 1408, (x0 (ix2 r l) : EReal) * x1 (ix3 0 n l) : EReal) := by
  pointwise [k0_pay2]
theorem store_at (x : Vec Ideal S1024x1024 .f32) (r n : Fin 1024) : k0_pay3 x (ix2 r n) = x (ix2 r n) := by pointwise [k0_pay3]

/-! ## The product, run by run -/

abbrev rowOf := cell 8 1024 8192 rfl
abbrev colOf := cell 4 1408 5632 rfl

/-- What shard `k` of the weight adds to one element of the product. -/
def share (A : FVec Ideal ⟨2, ![8192, 5632]⟩ .bf16) (B : FVec Ideal ⟨3, ![4, 1024, 1408]⟩ .bf16) (x : Fin 8192) (n : Fin 1024) (k : Fin 4) : EReal :=
  ∑ l : Fin 1408, (A (ix2 x (colOf k l)) : EReal) * (B (ix3 k n l) : EReal)

/-! ## Where the blocks sit -/

variable (m : (ℓ : Loc nD τ sig) → Buf (Elt Ideal) ℓ) (c : Dev nD)

theorem index_at : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The outer place of point `t`, and its place in the run. -/
def outer (t : Fin cfg0.N) : Fin 8 := ⟨t.val / 4, by have := lt_of_lt_of_eq t.isLt N_0; omega⟩
def inner (t : Fin cfg0.N) : Fin 4 := ⟨t.val % 4, by omega⟩

theorem block_a (t : Fin cfg0.N) (r : Fin 1024) (l : Fin 1408) : iblk m c 0 t (ix2 r l) = V m c main_arg0 (ix2 (rowOf (outer t) r) (colOf (inner t) l)) := by
  blk_simp [iblk]
  refine congrArg (V m c main_arg0) ?_
  blk_ext [(index_at t).1, cell, outer, inner]
theorem block_b (t : Fin cfg0.N) (n : Fin 1024) (l : Fin 1408) : iblk m c 1 t (ix3 0 n l) = V m c main_arg1 (ix3 (inner t) n l) := by
  blk_simp [iblk]
  refine congrArg (V m c main_arg1) ?_
  blk_ext [(index_at t).2.1, inner]
theorem emb_out (t : Fin cfg0.N) (r n : Fin 1024) : ((cfg0.win 2).blk t).view.emb (ix2 r n) = ix2 (rowOf (outer t) r) n := by
  blk_ext [(index_at t).2.2, cell, outer]

theorem term_at (t : Fin cfg0.N) (xs : Vec Ideal S1024x1024 .f32) (r n : Fin 1024) :
    k0_pay2 xs (iblk m c 0 t) (iblk m c 1 t) (ix2 r n)
      = ((xs (ix2 r n) : EReal) + share (V m c main_arg0) (V m c main_arg1) (rowOf (outer t) r) n (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 4 = 3) (r n : Fin 1024) :
    ((outsAt0 m c t.val t.isLt).1 (ix2 r n) : EReal) = ∑ k, share (V m c main_arg0) (V m c main_arg1) (rowOf (outer t) r) n k := by
  refine running (K := 4) (by omega) (fun t : Fin cfg0.N => ((outsAt0 m c t.val t.isLt).2 (ix2 r n) : EReal))
    (fun t => share (V m c main_arg0) (V m c main_arg1) (rowOf (outer t) r) n (inner t)) (fun t => ((outsAt0 m c t.val t.isLt).1 (ix2 r n) : EReal))
    (fun t => share (V m c main_arg0) (V m c main_arg1) (rowOf (outer t) r) n) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact (store_at _ r n).trans (term_at m c t _ r n)

/-! ## The result -/

/-- The blocks cover the result: it is the product. -/
theorem final (X : Vec Ideal S8192x1024 .bf16) (hX : ∀ x n, (X (ix2 x n) : EReal) = ∑ k, share (V m c main_arg0) (V m c main_arg1) x n k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX _ n).symm

end Cert.FfnInDxIdeal.Body

end
-- ==== Proof.FfnInDxRef.lean ====
/- The feed-forward layer's input gradient: the reference's result, read at an index. -/
module

public import proofs.«01_k».proof.Proof.Gen.FfnInDxReferenceIdeal.Run
public import proofs.«01_k».proof.Proof.FfnInDxKer

@[expose] public section

set_option maxRecDepth 16384
set_option maxHeartbeats 1000000

noncomputable section

namespace Cert.FfnInDxReferenceIdeal.Line

open Cert.FfnInDxIdeal.Body (colOf share)
open Cert.FfnInDxReferenceIdeal Cert.FfnInDxReferenceIdeal.Gen Cert.FfnInDxReferenceIdeal.Value Cert.Product
open Idealize.ShloMosaic Idealize.ShloMosaic.TcCoe Idealize.SL.Sem

variable (A : FVec Ideal S8192x5632 .bf16) (W : FVec Ideal S4x1024x1408 .bf16)

/-- The four shards side by side. -/
def wide : FVec Ideal S1024x5632 .bf16 :=
  concatenate S1024x5632 1 [⟨S1024x1408, shapeCast _ (extractStridedSlice S1x1024x1408 ![0, 0, 0] W slices_S4x1024x1408_S1x1024x1408_0_0_0) shapeCasts_S1x1024x1408_S1024x1408⟩,
    ⟨S1024x1408, shapeCast _ (extractStridedSlice S1x1024x1408 ![1, 0, 0] W slices_S4x1024x1408_S1x1024x1408_1_0_0) shapeCasts_S1x1024x1408_S1024x1408⟩,
    ⟨S1024x1408, shapeCast _ (extractStridedSlice S1x1024x1408 ![2, 0, 0] W slices_S4x1024x1408_S1x1024x1408_2_0_0) shapeCasts_S1x1024x1408_S1024x1408⟩,
    ⟨S1024x1408, shapeCast _ (extractStridedSlice S1x1024x1408 ![3, 0, 0] W slices_S4x1024x1408_S1x1024x1408_3_0_0) shapeCasts_S1x1024x1408_S1024x1408⟩]
    concatenates_S1024x1408_S1024x1408_S1024x1408_S1024x1408_S1024x5632_d1

/-- What the reference computes from its two arguments. -/
def result : FVec Ideal S8192x1024 .bf16 :=
  truncf .bf16 (Host.dotGeneral (F := Ideal) (φ₁ := .bf16) (φ₂ := .bf16) dot_S8192x5632_S5632x1024_S8192x1024_1_0_0_1_n_n none A (transpose S5632x1024 [1, 0] (wide W) transposes_S1024x5632_S5632x1024_1_0)) bitsLt_bf16_f32

theorem wide_split (n : Fin 1024) (x : Fin 5632) : wide W (ix2 n x)
    = if h : x.val < 1408 then W (ix3 0 n ⟨x.val, h⟩)
      else if h : x.val - 1408 < 1408 then W (ix3 1 n ⟨x.val - 1408, h⟩)
      else if h : x.val - 1408 - 1408 < 1408 then W (ix3 2 n ⟨x.val - 1408 - 1408, h⟩)
      else W (ix3 3 n ⟨x.val - 1408 - 1408 - 1408, by omega⟩) := by
  unfold wide
  pointwise

/-- A column of the joined shards is that shard's own column. -/
theorem wide_at (n : Fin 1024) (k : Fin 4) (l : Fin 1408) : wide W (ix2 n (colOf k l)) = W (ix3 k n l) := by
  have hx : (colOf k l).val = 1408 * k.val + l.val := rfl
  have hl := l.isLt
  rw [wide_split]
  generalize colOf k l = x at hx
  obtain ⟨k, hk⟩ := k
  have hx : x.val = 1408 * k + l.val := hx
  obtain rfl | rfl | rfl | rfl : k = 0 ∨ k = 1 ∨ k = 2 ∨ k = 3 := by omega
  · rw [dif_pos (by omega)]; exact congrArg (fun z => W (ix3 0 n z)) (Fin.ext (by show x.val = l.val; omega))
  · rw [dif_neg (by omega), dif_pos (by omega)]; exact congrArg (fun z => W (ix3 1 n z)) (Fin.ext (by show x.val - 1408 = l.val; omega))
  · rw [dif_neg (by omega), dif_neg (by omega), dif_pos (by omega)]; exact congrArg (fun z => W (ix3 2 n z)) (Fin.ext (by show x.val - 1408 - 1408 = l.val; omega))
  · rw [dif_neg (by omega), dif_neg (by omega), dif_neg (by omega)]; exact congrArg (fun z => W (ix3 3 n z)) (Fin.ext (by show x.val - 1408 - 1408 - 1408 = l.val; omega))

/-- One element of the result: the sum of the four shards' shares. -/
theorem result_at (x : Fin 8192) (n : Fin 1024) : (result A W (ix2 x n) : EReal) = ∑ k, share A W x n k := by
  have h := wide_at W n
  unfold result
  generalize wide W = Z at h
  pointwise
  rw [sum_cells 4 1408 5632 rfl]
  refine Finset.sum_congr rfl fun k _ => Finset.sum_congr rfl fun l _ => ?_
  rw [← h k l]

end Cert.FfnInDxReferenceIdeal.Line

end
-- ==== Proof.FfnInDwKer.lean ====
/- The gradient of the feed-forward layer's first weight: what the kernel leaves in its result. -/
module

public import proofs.«01_k».proof.Proof.Gen.FfnInDwIdeal.Frame
public import Idealize.ShloMosaic.Lib.Pipeline.ValueKit
public import proofs.«01_k».proof.Proof.Product

@[expose] public section

set_option maxRecDepth 16384

noncomputable section

namespace Cert.FfnInDwIdeal.Body

open Cert.FfnInDwIdeal Cert.FfnInDwIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S1024x1024 .bf16) (w3 : a3.IsWhole) (a4 : Memref sig .tc .vmem S1024x1408 .bf16) (w4 : a4.IsWhole)
  (a5 : Memref sig .tc .vmem S1x1024x1408 .f32) (w5 : a5.IsWhole) (a6 : Memref sig .tc .vmem S1024x1408 .f32) (w6 : a6.IsWhole)
  (x0 : Vec F S1024x1024 .bf16) (x1 : Vec F S1024x1408 .bf16) (xs : Vec F S1024x1408 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay3 (k0_pay2 xs x0 x1) := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r : Fin 1024) (n : Fin 1408) : k0_pay1 (F := Ideal) (ix2 r n) = (0 : EReal) := by pointwise [k0_pay1]
theorem add_at (xs : Vec Ideal S1024x1408 .f32) (x0 : Vec Ideal S1024x1024 .bf16) (x1 : Vec Ideal S1024x1408 .bf16) (r : Fin 1024) (n : Fin 1408) :
    k0_pay2 xs x0 x1 (ix2 r n) = ((xs (ix2 r n) : EReal) + ∑ l : Fin 1024, (x0 (ix2 l r) : EReal) * x1 (ix2 l n) : EReal) := by
  pointwise [k0_pay2]
theorem store_at (x : Vec Ideal S1024x1408 .f32) (r : Fin 1024) (n : Fin 1408) : k0_pay3 x (ix3 0 r n) = x (ix2 r n) := by pointwise [k0_pay3]

/-! ## The product, run by run -/

abbrev colOf := cell 4 1408 5632 rfl
abbrev tokOf := cell 8 1024 8192 rfl

/-- What the `k`-th run of tokens adds to one element of the product. -/
def share (A : FVec Ideal ⟨2, ![8192, 1024]⟩ .bf16) (B : FVec Ideal ⟨2, ![8192, 5632]⟩ .bf16) (x : Fin 1024) (n : Fin 5632) (k : Fin 8) : EReal :=
  ∑ l : Fin 1024, (A (ix2 (tokOf k l) x) : EReal) * (B (ix2 (tokOf k l) n) : EReal)

/-! ## Where the blocks sit -/

variable (m : (ℓ : Loc nD τ sig) → Buf (Elt Ideal) ℓ) (c : Dev nD)

theorem index_at : ∀ t : Fin cfg0.N, win0_0.index t = ![t.val % 8, 0] ∧ win0_1.index t = ![t.val % 8, t.val / 8] ∧ win0_2.index t = ![t.val / 8, 0, 0] :=
  (by decide +kernel : ∀ t : Fin grid0.N, _)

/-- The outer place of point `t`, and its place in the run. -/
def outer (t : Fin cfg0.N) : Fin 4 := ⟨t.val / 8, by have := lt_of_lt_of_eq t.isLt N_0; omega⟩
def inner (t : Fin cfg0.N) : Fin 8 := ⟨t.val % 8, by omega⟩

theorem block_a (t : Fin cfg0.N) (l : Fin 1024) (r : Fin 1024) : iblk m c 0 t (ix2 l r) = V m c main_arg0 (ix2 (tokOf (inner t) l) r) := by
  blk_simp [iblk]
  refine congrArg (V m c main_arg0) ?_
  blk_ext [(index_at t).1, cell, inner]
theorem block_b (t : Fin cfg0.N) (l : Fin 1024) (n : Fin 1408) : iblk m c 1 t (ix2 l n) = V m c main_arg1 (ix2 (tokOf (inner t) l) (colOf (outer t) n)) := by
  blk_simp [iblk]
  refine congrArg (V m c main_arg1) ?_
  blk_ext [(index_at t).2.1, cell, inner, outer]
theorem emb_out (t : Fin cfg0.N) (r : Fin 1024) (n : Fin 1408) : ((cfg0.win 2).blk t).view.emb (ix3 0 r n) = ix3 (outer t) r n := by
  blk_ext [(index_at t).2.2, outer]

theorem term_at (t : Fin cfg0.N) (xs : Vec Ideal S1024x1408 .f32) (r : Fin 1024) (n : Fin 1408) :
    k0_pay2 xs (iblk m c 0 t) (iblk m c 1 t) (ix2 r n)
      = ((xs (ix2 r n) : EReal) + share (V m c main_arg0) (V m c main_arg1) r (colOf (outer t) n) (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 8 = 7) (r : Fin 1024) (n : Fin 1408) :
    ((outsAt0 m c t.val t.isLt).1 (ix3 0 r n) : EReal) = ∑ k, share (V m c main_arg0) (V m c main_arg1) r (colOf (outer t) n) k := by
  refine running (K := 8) (by omega) (fun t : Fin cfg0.N => ((outsAt0 m c t.val t.isLt).2 (ix2 r n) : EReal))
    (fun t => share (V m c main_arg0) (V m c main_arg1) r (colOf (outer t) n) (inner t)) (fun t => ((outsAt0 m c t.val t.isLt).1 (ix3 0 r n) : EReal))
    (fun t => share (V m c main_arg0) (V m c main_arg1) r (colOf (outer t) n)) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact (store_at _ r n).trans (term_at m c t _ r n)

/-! ## The result -/

theorem at_each {α : Type} (f g : S1x1024x1408.Idx → α) (hfg : ∀ r n, f (ix3 0 r n) = g (ix3 0 r n)) (y : S1x1024x1408.Idx) : f y = g y := by
  idx_vars y
  obtain rfl : y0 = 0 := Fin.ext (by have := y0.isLt; omega)
  exact hfg y1 y2

/-- The blocks cover the result: it is the product. -/
theorem final (X : Vec Ideal S4x1024x1408 .f32) (hX : ∀ j r n, (X (ix3 j r n) : EReal) = ∑ k, share (V m c main_arg0) (V m c main_arg1) r (colOf j n) k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX _ r n).symm

end Cert.FfnInDwIdeal.Body

end
-- ==== Proof.FfnInDwRef.lean ====
/- The gradient of the feed-forward layer's first weight: the reference's result, read at an index. -/
module

public import proofs.«01_k».proof.Proof.Gen.FfnInDwReferenceIdeal.Run
public import proofs.«01_k».proof.Proof.FfnInDwKer

@[expose] public section

set_option maxRecDepth 16384
set_option maxHeartbeats 1000000

noncomputable section

namespace Cert.FfnInDwReferenceIdeal.Line

open Cert.FfnInDwIdeal.Body (colOf tokOf share)
open Cert.FfnInDwReferenceIdeal Cert.FfnInDwReferenceIdeal.Gen Cert.FfnInDwReferenceIdeal.Value Cert.Product
open Idealize.ShloMosaic Idealize.ShloMosaic.TcCoe Idealize.SL.Sem

variable (A : FVec Ideal S8192x1024 .bf16) (B : FVec Ideal S8192x5632 .bf16)

/-- The four shards of a whole weight. -/
def shards (P : FVec Ideal S1024x5632 .f32) : FVec Ideal S4x1024x1408 .f32 :=
  (concatenate S4x1024x1408 0 [⟨S1x1024x1408, ((broadcastInDim S1x1024x1408 ![1, 2] bcast_S1024x1408_S1x1024x1408_1_2 (extractStridedSlice S1024x1408 ![0, 0] P slices_S1024x5632_S1024x1408_0_0)) : (⟨S1x1024x1408, .f32⟩ : BufTy).Contents (Elt Ideal))⟩
    , ⟨S1x1024x1408, ((broadcastInDim S1x1024x1408 ![1, 2] bcast_S1024x1408_S1x1024x1408_1_2 (extractStridedSlice S1024x1408 ![0, 1408] P slices_S1024x5632_S1024x1408_0_1408)) : (⟨S1x1024x1408, .f32⟩ : BufTy).Contents (Elt Ideal))⟩
    , ⟨S1x1024x1408, ((broadcastInDim S1x1024x1408 ![1, 2] bcast_S1024x1408_S1x1024x1408_1_2 (extractStridedSlice S1024x1408 ![0, 2816] P slices_S1024x5632_S1024x1408_0_2816)) : (⟨S1x1024x1408, .f32⟩ : BufTy).Contents (Elt Ideal))⟩
    , ⟨S1x1024x1408, ((broadcastInDim S1x1024x1408 ![1, 2] bcast_S1024x1408_S1x1024x1408_1_2 (extractStridedSlice S1024x1408 ![0, 4224] P slices_S1024x5632_S1024x1408_0_4224)) : (⟨S1x1024x1408, .f32⟩ : BufTy).Contents (Elt Ideal))⟩] concatenates_S1x1024x1408_S1x1024x1408_S1x1024x1408_S1x1024x1408_S4x1024x1408_d0 : (⟨S4x1024x1408, .f32⟩ : BufTy).Contents (Elt Ideal))

/-- The whole weight's gradient. -/
def whole : FVec Ideal S1024x5632 .f32 :=
  Host.dotGeneral (F := Ideal) (φ₁ := .bf16) (φ₂ := .bf16) dot_S1024x8192_S8192x5632_S1024x5632_1_0_0_1_n_n none (transpose S1024x8192 [1, 0] A transposes_S8192x1024_S1024x8192_1_0) B

/-- What the reference computes from its two arguments. -/
def result : FVec Ideal S4x1024x1408 .f32 := shards (whole A B)

/-- One element of the whole gradient, run by run. -/
theorem whole_at (x : Fin 1024) (n : Fin 5632) : (whole A B (ix2 x n) : EReal) = ∑ k, share A B x n k := by
  unfold whole
  pointwise
  exact sum_cells 8 1024 8192 rfl _

/-- Shard `j` holds its own columns of the whole. -/
theorem shards_split (P : FVec Ideal S1024x5632 .f32) (j : Fin 4) (x : Fin 1024) (n : Fin 1408) : shards P (ix3 j x n) = P (ix2 x (colOf j n)) := by
  unfold shards
  pointwise
  obtain ⟨j, hj⟩ := j
  obtain rfl | rfl | rfl | rfl : j = 0 ∨ j = 1 ∨ j = 2 ∨ j = 3 := by omega
  all_goals exact congrArg (fun z => P (ix2 x z)) (Fin.ext (by rw [cell_val]; first | rfl | (dsimp only; omega)))

/-- One element of the result: the sum of the eight runs' shares. -/
theorem result_at (j : Fin 4) (x : Fin 1024) (n : Fin 1408) : (result A B (ix3 j x n) : EReal) = ∑ k, share A B x (colOf j n) k :=
  (shards_split (whole A B) j x n).trans (whole_at A B x (colOf j n))

end Cert.FfnInDwReferenceIdeal.Line

end
-- ==== Proof.FfnOutDwKer.lean ====
/- The gradient of the feed-forward layer's second weight: what the kernel leaves in its result. -/
module

public import proofs.«01_k».proof.Proof.Gen.FfnOutDwIdeal.Frame
public import Idealize.ShloMosaic.Lib.Pipeline.ValueKit
public import proofs.«01_k».proof.Proof.Product

@[expose] public section

set_option maxRecDepth 16384

noncomputable section

namespace Cert.FfnOutDwIdeal.Body

open Cert.FfnOutDwIdeal Cert.FfnOutDwIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S2048x1408 .bf16) (w3 : a3.IsWhole) (a4 : Memref sig .tc .vmem S2048x1024 .bf16) (w4 : a4.IsWhole)
  (a5 : Memref sig .tc .vmem S1408x1024 .f32) (w5 : a5.IsWhole) (a6 : Memref sig .tc .vmem S1408x1024 .f32) (w6 : a6.IsWhole)
  (x0 : Vec F S2048x1408 .bf16) (x1 : Vec F S2048x1024 .bf16) (xs : Vec F S1408x1024 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay2 xs x0 x1 := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r : Fin 1408) (n : Fin 1024) : k0_pay1 (F := Ideal) (ix2 r n) = (0 : EReal) := by pointwise [k0_pay1]
theorem add_at (xs : Vec Ideal S1408x1024 .f32) (x0 : Vec Ideal S2048x1408 .bf16) (x1 : Vec Ideal S2048x1024 .bf16) (r : Fin 1408) (n : Fin 1024) :
    k0_pay2 xs x0 x1 (ix2 r n) = ((xs (ix2 r n) : EReal) + ∑ l : Fin 2048, (x0 (ix2 l r) : EReal) * x1 (ix2 l n) : EReal) := by
  pointwise [k0_pay2]

/-! ## The product, run by run -/

abbrev rowOf := cell 2 1408 2816 rfl
abbrev tokOf := cell 4 2048 8192 rfl

/-- What the `k`-th run of tokens adds to one element of the product. -/
def share (A : FVec Ideal ⟨2, ![8192, 2816]⟩ .bf16) (B : FVec Ideal ⟨2, ![8192, 1024]⟩ .bf16) (x : Fin 2816) (n : Fin 1024) (k : Fin 4) : EReal :=
  ∑ l : Fin 2048, (A (ix2 (tokOf k l) x) : EReal) * (B (ix2 (tokOf k l) n) : EReal)

/-! ## Where the blocks sit -/

variable (m : (ℓ : Loc nD τ sig) → Buf (Elt Ideal) ℓ) (c : Dev nD)

theorem index_at : ∀ t : Fin cfg0.N, win0_0.index t = ![t.val % 4, t.val / 4] ∧ win0_1.index t = ![t.val % 4, 0] ∧ win0_2.index t = ![t.val / 4, 0] :=
  (by decide +kernel : ∀ t : Fin grid0.N, _)

/-- The outer place of point `t`, and its place in the run. -/
def outer (t : Fin cfg0.N) : Fin 2 := ⟨t.val / 4, by have := lt_of_lt_of_eq t.isLt N_0; omega⟩
def inner (t : Fin cfg0.N) : Fin 4 := ⟨t.val % 4, by omega⟩

theorem block_a (t : Fin cfg0.N) (l : Fin 2048) (r : Fin 1408) : iblk m c 0 t (ix2 l r) = V m c main_arg0 (ix2 (tokOf (inner t) l) (rowOf (outer t) r)) := by
  blk_simp [iblk]
  refine congrArg (V m c main_arg0) ?_
  blk_ext [(index_at t).1, cell, outer, inner]
theorem block_b (t : Fin cfg0.N) (l : Fin 2048) (n : Fin 1024) : iblk m c 1 t (ix2 l n) = V m c main_arg1 (ix2 (tokOf (inner t) l) n) := by
  blk_simp [iblk]
  refine congrArg (V m c main_arg1) ?_
  blk_ext [(index_at t).2.1, cell, inner]
theorem emb_out (t : Fin cfg0.N) (r : Fin 1408) (n : Fin 1024) : ((cfg0.win 2).blk t).view.emb (ix2 r n) = ix2 (rowOf (outer t) r) n := by
  blk_ext [(index_at t).2.2, cell, outer]

theorem term_at (t : Fin cfg0.N) (xs : Vec Ideal S1408x1024 .f32) (r : Fin 1408) (n : Fin 1024) :
    k0_pay2 xs (iblk m c 0 t) (iblk m c 1 t) (ix2 r n)
      = ((xs (ix2 r n) : EReal) + share (V m c main_arg0) (V m c main_arg1) (rowOf (outer t) r) n (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 4 = 3) (r : Fin 1408) (n : Fin 1024) :
    ((outsAt0 m c t.val t.isLt).1 (ix2 r n) : EReal) = ∑ k, share (V m c main_arg0) (V m c main_arg1) (rowOf (outer t) r) n k := by
  refine running (K := 4) (by omega) (fun t : Fin cfg0.N => ((outsAt0 m c t.val t.isLt).2 (ix2 r n) : EReal))
    (fun t => share (V m c main_arg0) (V m c main_arg1) (rowOf (outer t) r) n (inner t)) (fun t => ((outsAt0 m c t.val t.isLt).1 (ix2 r n) : EReal))
    (fun t => share (V m c main_arg0) (V m c main_arg1) (rowOf (outer t) r) n) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact term_at m c t _ r n

/-! ## The result -/

/-- The blocks cover the result: it is the product. -/
theorem final (X : Vec Ideal S2816x1024 .f32) (hX : ∀ x n, (X (ix2 x n) : EReal) = ∑ k, share (V m c main_arg0) (V m c main_arg1) x n k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX _ n).symm

end Cert.FfnOutDwIdeal.Body

end
-- ==== Proof.FfnOutDwRef.lean ====
/- The gradient of the feed-forward layer's second weight: the reference's result, read at an index. -/
module

public import proofs.«01_k».proof.Proof.Gen.FfnOutDwReferenceIdeal.Run
public import proofs.«01_k».proof.Proof.FfnOutDwKer

@[expose] public section

set_option maxRecDepth 16384
set_option maxHeartbeats 1000000

noncomputable section

namespace Cert.FfnOutDwReferenceIdeal.Line

open Cert.FfnOutDwIdeal.Body (tokOf share)
open Cert.FfnOutDwReferenceIdeal Cert.FfnOutDwReferenceIdeal.Gen Cert.FfnOutDwReferenceIdeal.Value Cert.Product
open Idealize.ShloMosaic Idealize.ShloMosaic.TcCoe Idealize.SL.Sem

variable (A : FVec Ideal S8192x2816 .bf16) (B : FVec Ideal S8192x1024 .bf16)

/-- What the reference computes from its two arguments. -/
def result : FVec Ideal S2816x1024 .f32 :=
  Host.dotGeneral (F := Ideal) (φ₁ := .bf16) (φ₂ := .bf16) dot_S2816x8192_S8192x1024_S2816x1024_1_0_0_1_n_n none (transpose S2816x8192 [1, 0] A transposes_S8192x2816_S2816x8192_1_0) B

/-- One element of the result: the sum of the four runs' shares. -/
theorem result_at (x : Fin 2816) (n : Fin 1024) : (result A B (ix2 x n) : EReal) = ∑ k, share A B x n k := by
  unfold result
  pointwise
  exact sum_cells 4 2048 8192 rfl _

end Cert.FfnOutDwReferenceIdeal.Line

end
-- ==== Proof.ProductClaims.lean ====
/- The frames and the values of the feed-forward layers' products. -/
module

public import proofs.«01_k».proof.Defs
public import proofs.«01_k».proof.Proof.Gen.FfnInDx.Frame
public import proofs.«01_k».proof.Proof.Gen.FfnInDw.Frame
public import proofs.«01_k».proof.Proof.Gen.FfnOutDw.Frame
public import proofs.«01_k».proof.Proof.FfnInDxRef
public import proofs.«01_k».proof.Proof.FfnInDwRef
public import proofs.«01_k».proof.Proof.FfnOutDwRef
public import Idealize.ShloMosaic.Adequacy
public import Idealize.ShloMosaic.Init

@[expose] public section

set_option maxRecDepth 16384

noncomputable section

namespace Cert.Product

open Idealize.ShloMosaic Idealize.ShloMosaic.TcCoe Idealize.SL.Sem

/-! ## The input's gradient -/

theorem dx_frame : @Cert.quiescent_FfnInDx Cert.FfnInDx.Gen.facts := fun m ρ _ => Cert.FfnInDx.Gen.frame m ρ
theorem dx_frame_ideal : @Cert.quiescent_FfnInDxIdeal Cert.FfnInDxIdeal.Gen.facts := fun m ρ _ => Cert.FfnInDxIdeal.Gen.frame m ρ
/-- A program of operations alone has no semaphore, and its run leaves the arguments unchanged. -/
theorem dx_frame_ref : @Cert.quiescent_FfnInDxReferenceIdeal Cert.FfnInDxReferenceIdeal.Gen.facts := fun m ρ _ =>
  (θ_run Cert.FfnInDxReferenceIdeal.defs _ _).mono (fun r h => ⟨fun c => (h c).2, Idealize.ShloMosaic.sem_eq_zero_of_no_sems (by decide) r.2⟩)
    (Cert.FfnInDxReferenceIdeal.Value.run (F := Ideal) m ρ)
/-- The kernel's result is the reference's. -/
theorem dx_algebraic : @Cert.algebraic_FfnInDxIdeal_FfnInDxReferenceIdeal Cert.FfnInDxIdeal.Gen.facts Cert.FfnInDxReferenceIdeal.Gen.facts := by
  intro m g m' g' _ hagree
  refine ⟨fun c => (Cert.FfnInDxIdeal.Gen.dats m 0 c).arrAt 2 (Cert.FfnInDxIdeal.cfgs 0).N,
    (θ_run _ _ _).mono (fun r h c => ⟨(h.1 c).1 2, h.2 c⟩) (θ_run_and (Cert.FfnInDxIdeal.Gen.run_main m g) (Cert.FfnInDxIdeal.Gen.unchanged m g)), ?_⟩
  refine (θ_run _ _ _).mono (fun r h c => ⟨(h c).1.trans ?_, (h c).2⟩) (Cert.FfnInDxReferenceIdeal.Value.run (F := Ideal) m' g')
  change Cert.FfnInDxReferenceIdeal.Line.result _ _ = _
  rw [(hagree c).1, (hagree c).2]
  exact (Cert.FfnInDxIdeal.Body.final m c _ (fun x n => Cert.FfnInDxReferenceIdeal.Line.result_at _ _ x n)).symm

/-! ## The first weight's gradient -/

theorem dw_frame : @Cert.quiescent_FfnInDw Cert.FfnInDw.Gen.facts := fun m ρ _ => Cert.FfnInDw.Gen.frame m ρ
theorem dw_frame_ideal : @Cert.quiescent_FfnInDwIdeal Cert.FfnInDwIdeal.Gen.facts := fun m ρ _ => Cert.FfnInDwIdeal.Gen.frame m ρ
theorem dw_frame_ref : @Cert.quiescent_FfnInDwReferenceIdeal Cert.FfnInDwReferenceIdeal.Gen.facts := fun m ρ _ =>
  (θ_run Cert.FfnInDwReferenceIdeal.defs _ _).mono (fun r h => ⟨fun c => (h c).2, Idealize.ShloMosaic.sem_eq_zero_of_no_sems (by decide) r.2⟩)
    (Cert.FfnInDwReferenceIdeal.Value.run (F := Ideal) m ρ)
/-- The kernel's result is the reference's. -/
theorem dw_algebraic : @Cert.algebraic_FfnInDwIdeal_FfnInDwReferenceIdeal Cert.FfnInDwIdeal.Gen.facts Cert.FfnInDwReferenceIdeal.Gen.facts := by
  intro m g m' g' _ hagree
  refine ⟨fun c => (Cert.FfnInDwIdeal.Gen.dats m 0 c).arrAt 2 (Cert.FfnInDwIdeal.cfgs 0).N,
    (θ_run _ _ _).mono (fun r h c => ⟨(h.1 c).1 2, h.2 c⟩) (θ_run_and (Cert.FfnInDwIdeal.Gen.run_main m g) (Cert.FfnInDwIdeal.Gen.unchanged m g)), ?_⟩
  refine (θ_run _ _ _).mono (fun r h c => ⟨(h c).1.trans ?_, (h c).2⟩) (Cert.FfnInDwReferenceIdeal.Value.run (F := Ideal) m' g')
  change Cert.FfnInDwReferenceIdeal.Line.result _ _ = _
  rw [(hagree c).1, (hagree c).2]
  exact (Cert.FfnInDwIdeal.Body.final m c _ (fun j x n => Cert.FfnInDwReferenceIdeal.Line.result_at _ _ j x n)).symm

/-! ## The second weight's gradient -/

theorem ow_frame : @Cert.quiescent_FfnOutDw Cert.FfnOutDw.Gen.facts := fun m ρ _ => Cert.FfnOutDw.Gen.frame m ρ
theorem ow_frame_ideal : @Cert.quiescent_FfnOutDwIdeal Cert.FfnOutDwIdeal.Gen.facts := fun m ρ _ => Cert.FfnOutDwIdeal.Gen.frame m ρ
theorem ow_frame_ref : @Cert.quiescent_FfnOutDwReferenceIdeal Cert.FfnOutDwReferenceIdeal.Gen.facts := fun m ρ _ =>
  (θ_run Cert.FfnOutDwReferenceIdeal.defs _ _).mono (fun r h => ⟨fun c => (h c).2, Idealize.ShloMosaic.sem_eq_zero_of_no_sems (by decide) r.2⟩)
    (Cert.FfnOutDwReferenceIdeal.Value.run (F := Ideal) m ρ)
/-- The kernel's result is the reference's. -/
theorem ow_algebraic : @Cert.algebraic_FfnOutDwIdeal_FfnOutDwReferenceIdeal Cert.FfnOutDwIdeal.Gen.facts Cert.FfnOutDwReferenceIdeal.Gen.facts := by
  intro m g m' g' _ hagree
  refine ⟨fun c => (Cert.FfnOutDwIdeal.Gen.dats m 0 c).arrAt 2 (Cert.FfnOutDwIdeal.cfgs 0).N,
    (θ_run _ _ _).mono (fun r h c => ⟨(h.1 c).1 2, h.2 c⟩) (θ_run_and (Cert.FfnOutDwIdeal.Gen.run_main m g) (Cert.FfnOutDwIdeal.Gen.unchanged m g)), ?_⟩
  refine (θ_run _ _ _).mono (fun r h c => ⟨(h c).1.trans ?_, (h c).2⟩) (Cert.FfnOutDwReferenceIdeal.Value.run (F := Ideal) m' g')
  change Cert.FfnOutDwReferenceIdeal.Line.result _ _ = _
  rw [(hagree c).1, (hagree c).2]
  exact (Cert.FfnOutDwIdeal.Body.final m c _ (fun x n => Cert.FfnOutDwReferenceIdeal.Line.result_at _ _ x n)).symm

end Cert.Product

end
-- ==== Proof.DswInDxKer.lean ====
/- The attention layer's input gradient: what the kernel leaves in its result. -/
module

public import proofs.«01_k».proof.Proof.Gen.DswInDxIdeal.Frame
public import Idealize.ShloMosaic.Lib.Pipeline.ValueKit
public import proofs.«01_k».proof.Proof.Product

@[expose] public section

set_option maxRecDepth 16384

noncomputable section

namespace Cert.DswInDxIdeal.Body

open Cert.DswInDxIdeal Cert.DswInDxIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S1024x1152 .bf16) (w3 : a3.IsWhole) (a4 : Memref sig .tc .vmem S1x1024x1152 .bf16) (w4 : a4.IsWhole)
  (a5 : Memref sig .tc .vmem S1024x1024 .bf16) (w5 : a5.IsWhole) (a6 : Memref sig .tc .vmem S1024x1024 .f32) (w6 : a6.IsWhole)
  (x0 : Vec F S1024x1152 .bf16) (x1 : Vec F S1x1024x1152 .bf16) (xs : Vec F S1024x1024 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay3 (k0_pay2 xs x0 x1) := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r n : Fin 1024) : k0_pay1 (F := Ideal) (ix2 r n) = (0 : EReal) := by pointwise [k0_pay1]
theorem add_at (xs : Vec Ideal S1024x1024 .f32) (x0 : Vec Ideal S1024x1152 .bf16) (x1 : Vec Ideal S1x1024x1152 .bf16) (r n : Fin 1024) :
    k0_pay2 xs x0 x1 (ix2 r n) = ((xs (ix2 r n) : EReal) + ∑ l : Fin 1152, (x0 (ix2 r l) : EReal) * x1 (ix3 0 n l) : EReal) := by
  pointwise [k0_pay2]
theorem store_at (x : Vec Ideal S1024x1024 .f32) (r n : Fin 1024) : k0_pay3 x (ix2 r n) = x (ix2 r n) := by pointwise [k0_pay3]

/-! ## The product, run by run -/

abbrev rowOf := cell 8 1024 8192 rfl
abbrev colOf := cell 4 1152 4608 rfl

/-- What shard `k` of the weight adds to one element of the product. -/
def share (A : FVec Ideal ⟨2, ![8192, 4608]⟩ .bf16) (B : FVec Ideal ⟨3, ![4, 1024, 1152]⟩ .bf16) (x : Fin 8192) (n : Fin 1024) (k : Fin 4) : EReal :=
  ∑ l : Fin 1152, (A (ix2 x (colOf k l)) : EReal) * (B (ix3 k n l) : EReal)

/-! ## Where the blocks sit -/

variable (m : (ℓ : Loc nD τ sig) → Buf (Elt Ideal) ℓ) (c : Dev nD)

theorem index_at : ∀ t : Fin cfg0.N, win0_0.index t = ![t.val / 4, t.val % 4] ∧ win0_1.index t = ![t.val % 4, 0, 0] ∧ win0_2.index t = ![t.val / 4, 0] :=
  (by decide +kernel : ∀ t : Fin grid0.N, _)

/-- The outer place of point `t`, and its place in the run. -/
def outer (t : Fin cfg0.N) : Fin 8 := ⟨t.val / 4, by have := lt_of_lt_of_eq t.isLt N_0; omega⟩
def inner (t : Fin cfg0.N) : Fin 4 := ⟨t.val % 4, by omega⟩

theorem block_a (t : Fin cfg0.N) (r : Fin 1024) (l : Fin 1152) : iblk m c 0 t (ix2 r l) = V m c main_arg0 (ix2 (rowOf (outer t) r) (colOf (inner t) l)) := by
  blk_simp [iblk]
  refine congrArg (V m c main_arg0) ?_
  blk_ext [(index_at t).1, cell, outer, inner]
theorem block_b (t : Fin cfg0.N) (n : Fin 1024) (l : Fin 1152) : iblk m c 1 t (ix3 0 n l) = V m c main_arg1 (ix3 (inner t) n l) := by
  blk_simp [iblk]
  refine congrArg (V m c main_arg1) ?_
  blk_ext [(index_at t).2.1, inner]
theorem emb_out (t : Fin cfg0.N) (r n : Fin 1024) : ((cfg0.win 2).blk t).view.emb (ix2 r n) = ix2 (rowOf (outer t) r) n := by
  blk_ext [(index_at t).2.2, cell, outer]

theorem term_at (t : Fin cfg0.N) (xs : Vec Ideal S1024x1024 .f32) (r n : Fin 1024) :
    k0_pay2 xs (iblk m c 0 t) (iblk m c 1 t) (ix2 r n)
      = ((xs (ix2 r n) : EReal) + share (V m c main_arg0) (V m c main_arg1) (rowOf (outer t) r) n (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 4 = 3) (r n : Fin 1024) :
    ((outsAt0 m c t.val t.isLt).1 (ix2 r n) : EReal) = ∑ k, share (V m c main_arg0) (V m c main_arg1) (rowOf (outer t) r) n k := by
  refine running (K := 4) (by omega) (fun t : Fin cfg0.N => ((outsAt0 m c t.val t.isLt).2 (ix2 r n) : EReal))
    (fun t => share (V m c main_arg0) (V m c main_arg1) (rowOf (outer t) r) n (inner t)) (fun t => ((outsAt0 m c t.val t.isLt).1 (ix2 r n) : EReal))
    (fun t => share (V m c main_arg0) (V m c main_arg1) (rowOf (outer t) r) n) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact (store_at _ r n).trans (term_at m c t _ r n)

/-! ## The result -/

/-- The blocks cover the result: it is the product. -/
theorem final (X : Vec Ideal S8192x1024 .bf16) (hX : ∀ x n, (X (ix2 x n) : EReal) = ∑ k, share (V m c main_arg0) (V m c main_arg1) x n k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX _ n).symm

end Cert.DswInDxIdeal.Body

end
-- ==== Proof.DswInDxRef.lean ====
/- The attention layer's input gradient: the reference's result, read at an index. -/
module

public import proofs.«01_k».proof.Proof.Gen.DswInDxReferenceIdeal.Run
public import proofs.«01_k».proof.Proof.DswInDxKer

@[expose] public section

set_option maxRecDepth 16384
set_option maxHeartbeats 1000000

noncomputable section

namespace Cert.DswInDxReferenceIdeal.Line

open Cert.DswInDxIdeal.Body (colOf share)
open Cert.DswInDxReferenceIdeal Cert.DswInDxReferenceIdeal.Gen Cert.DswInDxReferenceIdeal.Value Cert.Product
open Idealize.ShloMosaic Idealize.ShloMosaic.TcCoe Idealize.SL.Sem

variable (A : FVec Ideal S8192x4608 .bf16) (W : FVec Ideal S4x1024x1152 .bf16)

/-- The four shards side by side. -/
def wide : FVec Ideal S1024x4608 .bf16 :=
  concatenate S1024x4608 1 [⟨S1024x1152, shapeCast _ (extractStridedSlice S1x1024x1152 ![0, 0, 0] W slices_S4x1024x1152_S1x1024x1152_0_0_0) shapeCasts_S1x1024x1152_S1024x1152⟩,
    ⟨S1024x1152, shapeCast _ (extractStridedSlice S1x1024x1152 ![1, 0, 0] W slices_S4x1024x1152_S1x1024x1152_1_0_0) shapeCasts_S1x1024x1152_S1024x1152⟩,
    ⟨S1024x1152, shapeCast _ (extractStridedSlice S1x1024x1152 ![2, 0, 0] W slices_S4x1024x1152_S1x1024x1152_2_0_0) shapeCasts_S1x1024x1152_S1024x1152⟩,
    ⟨S1024x1152, shapeCast _ (extractStridedSlice S1x1024x1152 ![3, 0, 0] W slices_S4x1024x1152_S1x1024x1152_3_0_0) shapeCasts_S1x1024x1152_S1024x1152⟩]
    concatenates_S1024x1152_S1024x1152_S1024x1152_S1024x1152_S1024x4608_d1

/-- What the reference computes from its two arguments. -/
def result : FVec Ideal S8192x1024 .bf16 :=
  truncf .bf16 (Host.dotGeneral (F := Ideal) (φ₁ := .bf16) (φ₂ := .bf16) dot_S8192x4608_S4608x1024_S8192x1024_1_0_0_1_n_n none A (transpose S4608x1024 [1, 0] (wide W) transposes_S1024x4608_S4608x1024_1_0)) bitsLt_bf16_f32

theorem wide_split (n : Fin 1024) (x : Fin 4608) : wide W (ix2 n x)
    = if h : x.val < 1152 then W (ix3 0 n ⟨x.val, h⟩)
      else if h : x.val - 1152 < 1152 then W (ix3 1 n ⟨x.val - 1152, h⟩)
      else if h : x.val - 1152 - 1152 < 1152 then W (ix3 2 n ⟨x.val - 1152 - 1152, h⟩)
      else W (ix3 3 n ⟨x.val - 1152 - 1152 - 1152, by omega⟩) := by
  unfold wide
  pointwise

/-- A column of the joined shards is that shard's own column. -/
theorem wide_at (n : Fin 1024) (k : Fin 4) (l : Fin 1152) : wide W (ix2 n (colOf k l)) = W (ix3 k n l) := by
  have hx : (colOf k l).val = 1152 * k.val + l.val := rfl
  have hl := l.isLt
  rw [wide_split]
  generalize colOf k l = x at hx
  obtain ⟨k, hk⟩ := k
  have hx : x.val = 1152 * k + l.val := hx
  obtain rfl | rfl | rfl | rfl : k = 0 ∨ k = 1 ∨ k = 2 ∨ k = 3 := by omega
  · rw [dif_pos (by omega)]; exact congrArg (fun z => W (ix3 0 n z)) (Fin.ext (by show x.val = l.val; omega))
  · rw [dif_neg (by omega), dif_pos (by omega)]; exact congrArg (fun z => W (ix3 1 n z)) (Fin.ext (by show x.val - 1152 = l.val; omega))
  · rw [dif_neg (by omega), dif_neg (by omega), dif_pos (by omega)]; exact congrArg (fun z => W (ix3 2 n z)) (Fin.ext (by show x.val - 1152 - 1152 = l.val; omega))
  · rw [dif_neg (by omega), dif_neg (by omega), dif_neg (by omega)]; exact congrArg (fun z => W (ix3 3 n z)) (Fin.ext (by show x.val - 1152 - 1152 - 1152 = l.val; omega))

/-- One element of the result: the sum of the four shards' shares. -/
theorem result_at (x : Fin 8192) (n : Fin 1024) : (result A W (ix2 x n) : EReal) = ∑ k, share A W x n k := by
  have h := wide_at W n
  unfold result
  generalize wide W = Z at h
  pointwise
  rw [sum_cells 4 1152 4608 rfl]
  refine Finset.sum_congr rfl fun k _ => Finset.sum_congr rfl fun l _ => ?_
  rw [← h k l]

end Cert.DswInDxReferenceIdeal.Line

end
-- ==== Proof.DswInDwKer.lean ====
/- The gradient of the attention layer's input projection: what the kernel leaves in its result. -/
module

public import proofs.«01_k».proof.Proof.Gen.DswInDwIdeal.Frame
public import Idealize.ShloMosaic.Lib.Pipeline.ValueKit
public import proofs.«01_k».proof.Proof.Product

@[expose] public section

set_option maxRecDepth 16384

noncomputable section

namespace Cert.DswInDwIdeal.Body

open Cert.DswInDwIdeal Cert.DswInDwIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S1024x1024 .bf16) (w3 : a3.IsWhole) (a4 : Memref sig .tc .vmem S1024x1152 .bf16) (w4 : a4.IsWhole)
  (a5 : Memref sig .tc .vmem S1x1024x1152 .f32) (w5 : a5.IsWhole) (a6 : Memref sig .tc .vmem S1024x1152 .f32) (w6 : a6.IsWhole)
  (x0 : Vec F S1024x1024 .bf16) (x1 : Vec F S1024x1152 .bf16) (xs : Vec F S1024x1152 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay3 (k0_pay2 xs x0 x1) := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r : Fin 1024) (n : Fin 1152) : k0_pay1 (F := Ideal) (ix2 r n) = (0 : EReal) := by pointwise [k0_pay1]
theorem add_at (xs : Vec Ideal S1024x1152 .f32) (x0 : Vec Ideal S1024x1024 .bf16) (x1 : Vec Ideal S1024x1152 .bf16) (r : Fin 1024) (n : Fin 1152) :
    k0_pay2 xs x0 x1 (ix2 r n) = ((xs (ix2 r n) : EReal) + ∑ l : Fin 1024, (x0 (ix2 l r) : EReal) * x1 (ix2 l n) : EReal) := by
  pointwise [k0_pay2]
theorem store_at (x : Vec Ideal S1024x1152 .f32) (r : Fin 1024) (n : Fin 1152) : k0_pay3 x (ix3 0 r n) = x (ix2 r n) := by pointwise [k0_pay3]

/-! ## The product, run by run -/

abbrev colOf := cell 4 1152 4608 rfl
abbrev tokOf := cell 8 1024 8192 rfl

/-- What the `k`-th run of tokens adds to one element of the product. -/
def share (A : FVec Ideal ⟨2, ![8192, 1024]⟩ .bf16) (B : FVec Ideal ⟨2, ![8192, 4608]⟩ .bf16) (x : Fin 1024) (n : Fin 4608) (k : Fin 8) : EReal :=
  ∑ l : Fin 1024, (A (ix2 (tokOf k l) x) : EReal) * (B (ix2 (tokOf k l) n) : EReal)

/-! ## Where the blocks sit -/

variable (m : (ℓ : Loc nD τ sig) → Buf (Elt Ideal) ℓ) (c : Dev nD)

theorem index_at : ∀ t : Fin cfg0.N, win0_0.index t = ![t.val % 8, 0] ∧ win0_1.index t = ![t.val % 8, t.val / 8] ∧ win0_2.index t = ![t.val / 8, 0, 0] :=
  (by decide +kernel : ∀ t : Fin grid0.N, _)

/-- The outer place of point `t`, and its place in the run. -/
def outer (t : Fin cfg0.N) : Fin 4 := ⟨t.val / 8, by have := lt_of_lt_of_eq t.isLt N_0; omega⟩
def inner (t : Fin cfg0.N) : Fin 8 := ⟨t.val % 8, by omega⟩

theorem block_a (t : Fin cfg0.N) (l : Fin 1024) (r : Fin 1024) : iblk m c 0 t (ix2 l r) = V m c main_arg0 (ix2 (tokOf (inner t) l) r) := by
  blk_simp [iblk]
  refine congrArg (V m c main_arg0) ?_
  blk_ext [(index_at t).1, cell, inner]
theorem block_b (t : Fin cfg0.N) (l : Fin 1024) (n : Fin 1152) : iblk m c 1 t (ix2 l n) = V m c main_arg1 (ix2 (tokOf (inner t) l) (colOf (outer t) n)) := by
  blk_simp [iblk]
  refine congrArg (V m c main_arg1) ?_
  blk_ext [(index_at t).2.1, cell, inner, outer]
theorem emb_out (t : Fin cfg0.N) (r : Fin 1024) (n : Fin 1152) : ((cfg0.win 2).blk t).view.emb (ix3 0 r n) = ix3 (outer t) r n := by
  blk_ext [(index_at t).2.2, outer]

theorem term_at (t : Fin cfg0.N) (xs : Vec Ideal S1024x1152 .f32) (r : Fin 1024) (n : Fin 1152) :
    k0_pay2 xs (iblk m c 0 t) (iblk m c 1 t) (ix2 r n)
      = ((xs (ix2 r n) : EReal) + share (V m c main_arg0) (V m c main_arg1) r (colOf (outer t) n) (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 8 = 7) (r : Fin 1024) (n : Fin 1152) :
    ((outsAt0 m c t.val t.isLt).1 (ix3 0 r n) : EReal) = ∑ k, share (V m c main_arg0) (V m c main_arg1) r (colOf (outer t) n) k := by
  refine running (K := 8) (by omega) (fun t : Fin cfg0.N => ((outsAt0 m c t.val t.isLt).2 (ix2 r n) : EReal))
    (fun t => share (V m c main_arg0) (V m c main_arg1) r (colOf (outer t) n) (inner t)) (fun t => ((outsAt0 m c t.val t.isLt).1 (ix3 0 r n) : EReal))
    (fun t => share (V m c main_arg0) (V m c main_arg1) r (colOf (outer t) n)) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact (store_at _ r n).trans (term_at m c t _ r n)

/-! ## The result -/

theorem at_each {α : Type} (f g : S1x1024x1152.Idx → α) (hfg : ∀ r n, f (ix3 0 r n) = g (ix3 0 r n)) (y : S1x1024x1152.Idx) : f y = g y := by
  idx_vars y
  obtain rfl : y0 = 0 := Fin.ext (by have := y0.isLt; omega)
  exact hfg y1 y2

/-- The blocks cover the result: it is the product. -/
theorem final (X : Vec Ideal S4x1024x1152 .f32) (hX : ∀ j r n, (X (ix3 j r n) : EReal) = ∑ k, share (V m c main_arg0) (V m c main_arg1) r (colOf j n) k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX _ r n).symm

end Cert.DswInDwIdeal.Body

end
-- ==== Proof.DswInDwRef.lean ====
/- The gradient of the attention layer's input projection: the reference's result, read at an index. -/
module

public import proofs.«01_k».proof.Proof.Gen.DswInDwReferenceIdeal.Run
public import proofs.«01_k».proof.Proof.DswInDwKer

@[expose] public section

set_option maxRecDepth 16384
set_option maxHeartbeats 1000000

noncomputable section

namespace Cert.DswInDwReferenceIdeal.Line

open Cert.DswInDwIdeal.Body (colOf tokOf share)
open Cert.DswInDwReferenceIdeal Cert.DswInDwReferenceIdeal.Gen Cert.DswInDwReferenceIdeal.Value Cert.Product
open Idealize.ShloMosaic Idealize.ShloMosaic.TcCoe Idealize.SL.Sem

variable (A : FVec Ideal S8192x1024 .bf16) (B : FVec Ideal S8192x4608 .bf16)

/-- The four shards of a whole weight. -/
def shards (P : FVec Ideal S1024x4608 .f32) : FVec Ideal S4x1024x1152 .f32 :=
  (concatenate S4x1024x1152 0 [⟨S1x1024x1152, ((broadcastInDim S1x1024x1152 ![1, 2] bcast_S1024x1152_S1x1024x1152_1_2 (extractStridedSlice S1024x1152 ![0, 0] P slices_S1024x4608_S1024x1152_0_0)) : (⟨S1x1024x1152, .f32⟩ : BufTy).Contents (Elt Ideal))⟩
    , ⟨S1x1024x1152, ((broadcastInDim S1x1024x1152 ![1, 2] bcast_S1024x1152_S1x1024x1152_1_2 (extractStridedSlice S1024x1152 ![0, 1152] P slices_S1024x4608_S1024x1152_0_1152)) : (⟨S1x1024x1152, .f32⟩ : BufTy).Contents (Elt Ideal))⟩
    , ⟨S1x1024x1152, ((broadcastInDim S1x1024x1152 ![1, 2] bcast_S1024x1152_S1x1024x1152_1_2 (extractStridedSlice S1024x1152 ![0, 2304] P slices_S1024x4608_S1024x1152_0_2304)) : (⟨S1x1024x1152, .f32⟩ : BufTy).Contents (Elt Ideal))⟩
    , ⟨S1x1024x1152, ((broadcastInDim S1x1024x1152 ![1, 2] bcast_S1024x1152_S1x1024x1152_1_2 (extractStridedSlice S1024x1152 ![0, 3456] P slices_S1024x4608_S1024x1152_0_3456)) : (⟨S1x1024x1152, .f32⟩ : BufTy).Contents (Elt Ideal))⟩] concatenates_S1x1024x1152_S1x1024x1152_S1x1024x1152_S1x1024x1152_S4x1024x1152_d0 : (⟨S4x1024x1152, .f32⟩ : BufTy).Contents (Elt Ideal))

/-- The whole weight's gradient. -/
def whole : FVec Ideal S1024x4608 .f32 :=
  Host.dotGeneral (F := Ideal) (φ₁ := .bf16) (φ₂ := .bf16) dot_S1024x8192_S8192x4608_S1024x4608_1_0_0_1_n_n none (transpose S1024x8192 [1, 0] A transposes_S8192x1024_S1024x8192_1_0) B

/-- What the reference computes from its two arguments. -/
def result : FVec Ideal S4x1024x1152 .f32 := shards (whole A B)

/-- One element of the whole gradient, run by run. -/
theorem whole_at (x : Fin 1024) (n : Fin 4608) : (whole A B (ix2 x n) : EReal) = ∑ k, share A B x n k := by
  unfold whole
  pointwise
  exact sum_cells 8 1024 8192 rfl _

/-- Shard `j` holds its own columns of the whole. -/
theorem shards_split (P : FVec Ideal S1024x4608 .f32) (j : Fin 4) (x : Fin 1024) (n : Fin 1152) : shards P (ix3 j x n) = P (ix2 x (colOf j n)) := by
  unfold shards
  pointwise
  obtain ⟨j, hj⟩ := j
  obtain rfl | rfl | rfl | rfl : j = 0 ∨ j = 1 ∨ j = 2 ∨ j = 3 := by omega
  all_goals exact congrArg (fun z => P (ix2 x z)) (Fin.ext (by rw [cell_val]; first | rfl | (dsimp only; omega)))

/-- One element of the result: the sum of the eight runs' shares. -/
theorem result_at (j : Fin 4) (x : Fin 1024) (n : Fin 1152) : (result A B (ix3 j x n) : EReal) = ∑ k, share A B x (colOf j n) k :=
  (shards_split (whole A B) j x n).trans (whole_at A B x (colOf j n))

end Cert.DswInDwReferenceIdeal.Line

end
-- ==== Proof.GdnInDxKer.lean ====
/- The delta-rule layer's input gradient: what the kernel leaves in its result. -/
module

public import proofs.«01_k».proof.Proof.Gen.GdnInDxIdeal.Frame
public import Idealize.ShloMosaic.Lib.Pipeline.ValueKit
public import proofs.«01_k».proof.Proof.Product

@[expose] public section

set_option maxRecDepth 16384

noncomputable section

namespace Cert.GdnInDxIdeal.Body

open Cert.GdnInDxIdeal Cert.GdnInDxIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S1024x1408 .bf16) (w3 : a3.IsWhole) (a4 : Memref sig .tc .vmem S1024x1408 .bf16) (w4 : a4.IsWhole)
  (a5 : Memref sig .tc .vmem S1024x1024 .bf16) (w5 : a5.IsWhole) (a6 : Memref sig .tc .vmem S1024x1024 .f32) (w6 : a6.IsWhole)
  (x0 : Vec F S1024x1408 .bf16) (x1 : Vec F S1024x1408 .bf16) (xs : Vec F S1024x1024 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay3 (k0_pay2 xs x0 x1) := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r n : Fin 1024) : k0_pay1 (F := Ideal) (ix2 r n) = (0 : EReal) := by pointwise [k0_pay1]
theorem add_at (xs : Vec Ideal S1024x1024 .f32) (x0 : Vec Ideal S1024x1408 .bf16) (x1 : Vec Ideal S1024x1408 .bf16) (r n : Fin 1024) :
    k0_pay2 xs x0 x1 (ix2 r n) = ((xs (ix2 r n) : EReal) + ∑ l : Fin 1408, (x0 (ix2 r l) : EReal) * x1 (ix2 n l) : EReal) := by
  pointwise [k0_pay2]
theorem store_at (x : Vec Ideal S1024x1024 .f32) (r n : Fin 1024) : k0_pay3 x (ix2 r n) = x (ix2 r n) := by pointwise [k0_pay3]

/-! ## The product, run by run -/

abbrev rowOf := cell 8 1024 8192 rfl
abbrev colOf := cell 3 1408 4224 rfl

/-- What the `k`-th run of columns adds to one element of the product. -/
def share (A : FVec Ideal ⟨2, ![8192, 4224]⟩ .bf16) (B : FVec Ideal ⟨2, ![1024, 4224]⟩ .bf16) (x : Fin 8192) (n : Fin 1024) (k : Fin 3) : EReal :=
  ∑ l : Fin 1408, (A (ix2 x (colOf k l)) : EReal) * (B (ix2 n (colOf k l)) : EReal)

/-! ## Where the blocks sit -/

variable (m : (ℓ : Loc nD τ sig) → Buf (Elt Ideal) ℓ) (c : Dev nD)

theorem index_at : ∀ t : Fin cfg0.N, win0_0.index t = ![t.val / 3, t.val % 3] ∧ win0_1.index t = ![0, t.val % 3] ∧ win0_2.index t = ![t.val / 3, 0] :=
  (by decide +kernel : ∀ t : Fin grid0.N, _)

/-- The outer place of point `t`, and its place in the run. -/
def outer (t : Fin cfg0.N) : Fin 8 := ⟨t.val / 3, by have := lt_of_lt_of_eq t.isLt N_0; omega⟩
def inner (t : Fin cfg0.N) : Fin 3 := ⟨t.val % 3, by omega⟩

theorem block_a (t : Fin cfg0.N) (r : Fin 1024) (l : Fin 1408) : iblk m c 0 t (ix2 r l) = V m c main_arg0 (ix2 (rowOf (outer t) r) (colOf (inner t) l)) := by
  blk_simp [iblk]
  refine congrArg (V m c main_arg0) ?_
  blk_ext [(index_at t).1, cell, outer, inner]
theorem block_b (t : Fin cfg0.N) (n : Fin 1024) (l : Fin 1408) : iblk m c 1 t (ix2 n l) = V m c main_arg1 (ix2 n (colOf (inner t) l)) := by
  blk_simp [iblk]
  refine congrArg (V m c main_arg1) ?_
  blk_ext [(index_at t).2.1, cell, inner]
theorem emb_out (t : Fin cfg0.N) (r n : Fin 1024) : ((cfg0.win 2).blk t).view.emb (ix2 r n) = ix2 (rowOf (outer t) r) n := by
  blk_ext [(index_at t).2.2, cell, outer]

theorem term_at (t : Fin cfg0.N) (xs : Vec Ideal S1024x1024 .f32) (r n : Fin 1024) :
    k0_pay2 xs (iblk m c 0 t) (iblk m c 1 t) (ix2 r n)
      = ((xs (ix2 r n) : EReal) + share (V m c main_arg0) (V m c main_arg1) (rowOf (outer t) r) n (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 3 = 2) (r n : Fin 1024) :
    ((outsAt0 m c t.val t.isLt).1 (ix2 r n) : EReal) = ∑ k, share (V m c main_arg0) (V m c main_arg1) (rowOf (outer t) r) n k := by
  refine running (K := 3) (by omega) (fun t : Fin cfg0.N => ((outsAt0 m c t.val t.isLt).2 (ix2 r n) : EReal))
    (fun t => share (V m c main_arg0) (V m c main_arg1) (rowOf (outer t) r) n (inner t)) (fun t => ((outsAt0 m c t.val t.isLt).1 (ix2 r n) : EReal))
    (fun t => share (V m c main_arg0) (V m c main_arg1) (rowOf (outer t) r) n) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact (store_at _ r n).trans (term_at m c t _ r n)

/-! ## The result -/

/-- The blocks cover the result: it is the product. -/
theorem final (X : Vec Ideal S8192x1024 .bf16) (hX : ∀ x n, (X (ix2 x n) : EReal) = ∑ k, share (V m c main_arg0) (V m c main_arg1) x n k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX _ n).symm

end Cert.GdnInDxIdeal.Body

end
-- ==== Proof.GdnInDxRef.lean ====
/- The delta-rule layer's input gradient: the reference's result, read at an index. -/
module

public import proofs.«01_k».proof.Proof.Gen.GdnInDxReferenceIdeal.Run
public import proofs.«01_k».proof.Proof.GdnInDxKer

@[expose] public section

set_option maxRecDepth 16384
set_option maxHeartbeats 1000000

noncomputable section

namespace Cert.GdnInDxReferenceIdeal.Line

open Cert.GdnInDxIdeal.Body (colOf share)
open Cert.GdnInDxReferenceIdeal Cert.GdnInDxReferenceIdeal.Gen Cert.GdnInDxReferenceIdeal.Value Cert.Product
open Idealize.ShloMosaic Idealize.ShloMosaic.TcCoe Idealize.SL.Sem

variable (A : FVec Ideal S8192x4224 .bf16) (B : FVec Ideal S1024x4224 .bf16)

/-- What the reference computes from its two arguments. -/
def result : FVec Ideal S8192x1024 .bf16 :=
  truncf .bf16 (Host.dotGeneral (F := Ideal) (φ₁ := .bf16) (φ₂ := .bf16) dot_S8192x4224_S4224x1024_S8192x1024_1_0_0_1_n_n none A (transpose S4224x1024 [1, 0] B transposes_S1024x4224_S4224x1024_1_0)) bitsLt_bf16_f32

/-- One element of the result: the sum of the three runs' shares. -/
theorem result_at (x : Fin 8192) (n : Fin 1024) : (result A B (ix2 x n) : EReal) = ∑ k, share A B x n k := by
  unfold result
  pointwise
  exact sum_cells 3 1408 4224 rfl _

end Cert.GdnInDxReferenceIdeal.Line

end
-- ==== Proof.GdnInDwKer.lean ====
/- The gradient of the delta-rule layer's input projection: what the kernel leaves in its result. -/
module

public import proofs.«01_k».proof.Proof.Gen.GdnInDwIdeal.Frame
public import Idealize.ShloMosaic.Lib.Pipeline.ValueKit
public import proofs.«01_k».proof.Proof.Product

@[expose] public section

set_option maxRecDepth 16384

noncomputable section

namespace Cert.GdnInDwIdeal.Body

open Cert.GdnInDwIdeal Cert.GdnInDwIdeal.Gen Cert.Product
open Idealize.ShloMosaic Idealize.ShloMosaic.TcCoe Idealize.SL.Sem
open Idealize.ShloMosaic.Pipeline (Dat)

/-! ## What a point leaves, from what it finds -/

section
variable {F : FTy → Type} [FloatOps F] (c : Dev nD) (i : grid0.Coords)
  (a3 : Memref sig .tc .vmem S2048x1024 .bf16) (w3 : a3.IsWhole) (a4 : Memref sig .tc .vmem S2048x1408 .bf16) (w4 : a4.IsWhole)
  (a5 : Memref sig .tc .vmem S1024x1408 .f32) (w5 : a5.IsWhole) (a6 : Memref sig .tc .vmem S1024x1408 .f32) (w6 : a6.IsWhole)
  (x0 : Vec F S2048x1024 .bf16) (x1 : Vec F S2048x1408 .bf16) (xs : Vec F S1024x1408 .f32)

theorem first_sum (h0 : cond0_0 i) (h1 : ¬cond0_1 i) : sout0_A_0 c i a3 w3 a4 w4 a5 w5 a6 w6 h0 h1 x0 x1 = k0_pay2 k0_pay1 x0 x1 := by
  unfold sout0_A_0
  refine (View.read_writes_eq_canon _ _ _ (scover0_A_0 c i a3 w3 a4 w4 a5 w5 a6 w6 h0 h1 x0 x1)).trans ?_
  frame_out
theorem next_sum (h0 : ¬cond0_0 i) (h1 : ¬cond0_1 i) : sout0_B_0 c i a3 w3 a4 w4 a5 w5 a6 w6 h0 h1 x0 x1 xs = k0_pay2 xs x0 x1 := by
  unfold sout0_B_0
  refine (View.read_writes_eq_canon _ _ _ (scover0_B_0 c i a3 w3 a4 w4 a5 w5 a6 w6 h0 h1 x0 x1 xs)).trans ?_
  frame_out
theorem last_block (h0 : ¬cond0_0 i) (h1 : cond0_1 i) : out0_C_2 c i a3 w3 a4 w4 a5 w5 a6 w6 h0 h1 x0 x1 xs = k0_pay2 xs x0 x1 := by
  unfold out0_C_2
  refine (View.read_writes_eq_canon _ _ _ (cover0_C_2 c i a3 w3 a4 w4 a5 w5 a6 w6 h0 h1 x0 x1 xs)).trans ?_
  frame_out
end

/-! ## The block's product over the extended reals -/

theorem clear_at (r : Fin 1024) (n : Fin 1408) : k0_pay1 (F := Ideal) (ix2 r n) = (0 : EReal) := by pointwise [k0_pay1]
theorem add_at (xs : Vec Ideal S1024x1408 .f32) (x0 : Vec Ideal S2048x1024 .bf16) (x1 : Vec Ideal S2048x1408 .bf16) (r : Fin 1024) (n : Fin 1408) :
    k0_pay2 xs x0 x1 (ix2 r n) = ((xs (ix2 r n) : EReal) + ∑ l : Fin 2048, (x0 (ix2 l r) : EReal) * x1 (ix2 l n) : EReal) := by
  pointwise [k0_pay2]

/-! ## The product, run by run -/

abbrev colOf := cell 3 1408 4224 rfl
abbrev tokOf := cell 4 2048 8192 rfl

/-- What the `k`-th run of tokens adds to one element of the product. -/
def share (A : FVec Ideal ⟨2, ![8192, 1024]⟩ .bf16) (B : FVec Ideal ⟨2, ![8192, 4224]⟩ .bf16) (x : Fin 1024) (n : Fin 4224) (k : Fin 4) : EReal :=
  ∑ l : Fin 2048, (A (ix2 (tokOf k l) x) : EReal) * (B (ix2 (tokOf k l) n) : EReal)

/-! ## Where the blocks sit -/

variable (m : (ℓ : Loc nD τ sig) → Buf (Elt Ideal) ℓ) (c : Dev nD)

theorem index_at : ∀ t : Fin cfg0.N, win0_0.index t = ![t.val % 4, 0] ∧ win0_1.index t = ![t.val % 4, t.val / 4] ∧ win0_2.index t = ![0, t.val / 4] :=
  (by decide +kernel : ∀ t : Fin grid0.N, _)

/-- The outer place of point `t`, and its place in the run. -/
def outer (t : Fin cfg0.N) : Fin 3 := ⟨t.val / 4, by have := lt_of_lt_of_eq t.isLt N_0; omega⟩
def inner (t : Fin cfg0.N) : Fin 4 := ⟨t.val % 4, by omega⟩

theorem block_a (t : Fin cfg0.N) (l : Fin 2048) (r : Fin 1024) : iblk m c 0 t (ix2 l r) = V m c main_arg0 (ix2 (tokOf (inner t) l) r) := by
  blk_simp [iblk]
  refine congrArg (V m c main_arg0) ?_
  blk_ext [(index_at t).1, cell, inner]
theorem block_b (t : Fin cfg0.N) (l : Fin 2048) (n : Fin 1408) : iblk m c 1 t (ix2 l n) = V m c main_arg1 (ix2 (tokOf (inner t) l) (colOf (outer t) n)) := by
  blk_simp [iblk]
  refine congrArg (V m c main_arg1) ?_
  blk_ext [(index_at t).2.1, cell, outer, inner]
theorem emb_out (t : Fin cfg0.N) (r : Fin 1024) (n : Fin 1408) : ((cfg0.win 2).blk t).view.emb (ix2 r n) = ix2 r (colOf (outer t) n) := by
  blk_ext [(index_at t).2.2, cell, outer]

theorem term_at (t : Fin cfg0.N) (xs : Vec Ideal S1024x1408 .f32) (r : Fin 1024) (n : Fin 1408) :
    k0_pay2 xs (iblk m c 0 t) (iblk m c 1 t) (ix2 r n)
      = ((xs (ix2 r n) : EReal) + share (V m c main_arg0) (V m c main_arg1) r (colOf (outer t) n) (inner t) : EReal) := by
  refine (add_at _ _ _ r n).trans (congrArg _ (Finset.sum_congr rfl fun l _ => ?_))
  rw [block_a, block_b]

/-- At the last point of a run the block of the result is the whole product. -/
theorem block_at (t : Fin cfg0.N) (ht : t.val % 4 = 3) (r : Fin 1024) (n : Fin 1408) :
    ((outsAt0 m c t.val t.isLt).1 (ix2 r n) : EReal) = ∑ k, share (V m c main_arg0) (V m c main_arg1) r (colOf (outer t) n) k := by
  refine running (K := 4) (by omega) (fun t : Fin cfg0.N => ((outsAt0 m c t.val t.isLt).2 (ix2 r n) : EReal))
    (fun t => share (V m c main_arg0) (V m c main_arg1) r (colOf (outer t) n) (inner t)) (fun t => ((outsAt0 m c t.val t.isLt).1 (ix2 r n) : EReal))
    (fun t => share (V m c main_arg0) (V m c main_arg1) r (colOf (outer t) n)) (fun t t' h => ?_) (fun _ => rfl) (fun t h => ?_) (fun t h h' => ?_) (fun t h => ?_) t ht
  · rw [show outer t = outer t' from Fin.ext h]
  · rw [outsAt0_A m c t h (by omega)]
    dsimp only
    rw [first_sum]
    refine (term_at m c t _ r n).trans ?_
    rw [clear_at, zero_add]
  · rw [outsAt0_B m c t h h']
    dsimp only
    rw [next_sum]
    exact term_at m c t _ r n
  · rw [outsAt0_C m c t (by omega) h]
    dsimp only
    rw [last_block]
    exact term_at m c t _ r n

/-! ## The result -/

/-- The blocks cover the result: it is the product. -/
theorem final (X : Vec Ideal S1024x4224 .f32) (hX : ∀ x n, (X (ix2 x n) : EReal) = ∑ k, share (V m c main_arg0) (V m c main_arg1) x n k) :
    (dats m 0 c).arrAt 2 (cfgs 0).N = X := by
  refine (dats m 0 c).arrAt_eq_of_covers 2 _ (by decide +kernel) fun t hf y => ?_
  blk_simp
  rw [after0_2]
  refine at_each (outsAt0 m c t.val t.isLt).1 (fun y => X (((cfg0.win 2).blk t).view.emb y)) (fun r n => ?_) y
  rw [emb_out t r n]
  exact (block_at m c t ((flush0_2 t).mp hf) r n).trans (hX r _).symm

end Cert.GdnInDwIdeal.Body

end
-- ==== Proof.GdnInDwRef.lean ====
/- The gradient of the delta-rule layer's input projection: the reference's result, read at an index. -/
module

public import proofs.«01_k».proof.Proof.Gen.GdnInDwReferenceIdeal.Run
public import proofs.«01_k».proof.Proof.GdnInDwKer

@[expose] public section

set_option maxRecDepth 16384
set_option maxHeartbeats 1000000

noncomputable section

namespace Cert.GdnInDwReferenceIdeal.Line

open Cert.GdnInDwIdeal.Body (tokOf share)
open Cert.GdnInDwReferenceIdeal Cert.GdnInDwReferenceIdeal.Gen Cert.GdnInDwReferenceIdeal.Value Cert.Product
open Idealize.ShloMosaic Idealize.ShloMosaic.TcCoe Idealize.SL.Sem

variable (A : FVec Ideal S8192x1024 .bf16) (B : FVec Ideal S8192x4224 .bf16)

/-- What the reference computes from its two arguments. -/
def result : FVec Ideal S1024x4224 .f32 :=
  Host.dotGeneral (F := Ideal) (φ₁ := .bf16) (φ₂ := .bf16) dot_S1024x8192_S8192x4224_S1024x4224_1_0_0_1_n_n none (transpose S1024x8192 [1, 0] A transposes_S8192x1024_S1024x8192_1_0) B

/-- One element of the result: the sum of the four runs' shares. -/
theorem result_at (x : Fin 1024) (n : Fin 4224) : (result A B (ix2 x n) : EReal) = ∑ k, share A B x n k := by
  unfold result
  pointwise
  exact sum_cells 4 2048 8192 rfl _

end Cert.GdnInDwReferenceIdeal.Line

end
-- ==== Proof.ProjectionClaims.lean ====
/- The frames and the values of the products in the attention and delta-rule layers' input projections. -/
module

public import proofs.«01_k».proof.Defs
public import proofs.«01_k».proof.Proof.Gen.DswInDx.Frame
public import proofs.«01_k».proof.Proof.DswInDxRef
public import proofs.«01_k».proof.Proof.Gen.DswInDw.Frame
public import proofs.«01_k».proof.Proof.DswInDwRef
public import proofs.«01_k».proof.Proof.Gen.GdnInDx.Frame
public import proofs.«01_k».proof.Proof.GdnInDxRef
public import proofs.«01_k».proof.Proof.Gen.GdnInDw.Frame
public import proofs.«01_k».proof.Proof.GdnInDwRef
public import Idealize.ShloMosaic.Adequacy
public import Idealize.ShloMosaic.Init

@[expose] public section

set_option maxRecDepth 16384

noncomputable section

namespace Cert.Product

open Idealize.ShloMosaic Idealize.ShloMosaic.TcCoe Idealize.SL.Sem

/-! ## The attention layer's input gradient -/

theorem dswx_frame : @Cert.quiescent_DswInDx Cert.DswInDx.Gen.facts := fun m ρ _ => Cert.DswInDx.Gen.frame m ρ
theorem dswx_frame_ideal : @Cert.quiescent_DswInDxIdeal Cert.DswInDxIdeal.Gen.facts := fun m ρ _ => Cert.DswInDxIdeal.Gen.frame m ρ
/-- A program of operations alone has no semaphore, and its run leaves the arguments unchanged. -/
theorem dswx_frame_ref : @Cert.quiescent_DswInDxReferenceIdeal Cert.DswInDxReferenceIdeal.Gen.facts := fun m ρ _ =>
  (θ_run Cert.DswInDxReferenceIdeal.defs _ _).mono (fun r h => ⟨fun c => (h c).2, Idealize.ShloMosaic.sem_eq_zero_of_no_sems (by decide) r.2⟩)
    (Cert.DswInDxReferenceIdeal.Value.run (F := Ideal) m ρ)
/-- The kernel's result is the reference's. -/
theorem dswx_algebraic : @Cert.algebraic_DswInDxIdeal_DswInDxReferenceIdeal Cert.DswInDxIdeal.Gen.facts Cert.DswInDxReferenceIdeal.Gen.facts := by
  intro m g m' g' _ hagree
  refine ⟨fun c => (Cert.DswInDxIdeal.Gen.dats m 0 c).arrAt 2 (Cert.DswInDxIdeal.cfgs 0).N,
    (θ_run _ _ _).mono (fun r h c => ⟨(h.1 c).1 2, h.2 c⟩) (θ_run_and (Cert.DswInDxIdeal.Gen.run_main m g) (Cert.DswInDxIdeal.Gen.unchanged m g)), ?_⟩
  refine (θ_run _ _ _).mono (fun r h c => ⟨(h c).1.trans ?_, (h c).2⟩) (Cert.DswInDxReferenceIdeal.Value.run (F := Ideal) m' g')
  change Cert.DswInDxReferenceIdeal.Line.result _ _ = _
  rw [(hagree c).1, (hagree c).2]
  exact (Cert.DswInDxIdeal.Body.final m c _ (fun x n => Cert.DswInDxReferenceIdeal.Line.result_at _ _ x n)).symm

/-! ## The attention layer's input projection -/

theorem dsww_frame : @Cert.quiescent_DswInDw Cert.DswInDw.Gen.facts := fun m ρ _ => Cert.DswInDw.Gen.frame m ρ
theorem dsww_frame_ideal : @Cert.quiescent_DswInDwIdeal Cert.DswInDwIdeal.Gen.facts := fun m ρ _ => Cert.DswInDwIdeal.Gen.frame m ρ
theorem dsww_frame_ref : @Cert.quiescent_DswInDwReferenceIdeal Cert.DswInDwReferenceIdeal.Gen.facts := fun m ρ _ =>
  (θ_run Cert.DswInDwReferenceIdeal.defs _ _).mono (fun r h => ⟨fun c => (h c).2, Idealize.ShloMosaic.sem_eq_zero_of_no_sems (by decide) r.2⟩)
    (Cert.DswInDwReferenceIdeal.Value.run (F := Ideal) m ρ)
/-- The kernel's result is the reference's. -/
theorem dsww_algebraic : @Cert.algebraic_DswInDwIdeal_DswInDwReferenceIdeal Cert.DswInDwIdeal.Gen.facts Cert.DswInDwReferenceIdeal.Gen.facts := by
  intro m g m' g' _ hagree
  refine ⟨fun c => (Cert.DswInDwIdeal.Gen.dats m 0 c).arrAt 2 (Cert.DswInDwIdeal.cfgs 0).N,
    (θ_run _ _ _).mono (fun r h c => ⟨(h.1 c).1 2, h.2 c⟩) (θ_run_and (Cert.DswInDwIdeal.Gen.run_main m g) (Cert.DswInDwIdeal.Gen.unchanged m g)), ?_⟩
  refine (θ_run _ _ _).mono (fun r h c => ⟨(h c).1.trans ?_, (h c).2⟩) (Cert.DswInDwReferenceIdeal.Value.run (F := Ideal) m' g')
  change Cert.DswInDwReferenceIdeal.Line.result _ _ = _
  rw [(hagree c).1, (hagree c).2]
  exact (Cert.DswInDwIdeal.Body.final m c _ (fun j x n => Cert.DswInDwReferenceIdeal.Line.result_at _ _ j x n)).symm

/-! ## The delta-rule layer's input gradient -/

theorem gdnx_frame : @Cert.quiescent_GdnInDx Cert.GdnInDx.Gen.facts := fun m ρ _ => Cert.GdnInDx.Gen.frame m ρ
theorem gdnx_frame_ideal : @Cert.quiescent_GdnInDxIdeal Cert.GdnInDxIdeal.Gen.facts := fun m ρ _ => Cert.GdnInDxIdeal.Gen.frame m ρ
theorem gdnx_frame_ref : @Cert.quiescent_GdnInDxReferenceIdeal Cert.GdnInDxReferenceIdeal.Gen.facts := fun m ρ _ =>
  (θ_run Cert.GdnInDxReferenceIdeal.defs _ _).mono (fun r h => ⟨fun c => (h c).2, Idealize.ShloMosaic.sem_eq_zero_of_no_sems (by decide) r.2⟩)
    (Cert.GdnInDxReferenceIdeal.Value.run (F := Ideal) m ρ)
/-- The kernel's result is the reference's. -/
theorem gdnx_algebraic : @Cert.algebraic_GdnInDxIdeal_GdnInDxReferenceIdeal Cert.GdnInDxIdeal.Gen.facts Cert.GdnInDxReferenceIdeal.Gen.facts := by
  intro m g m' g' _ hagree
  refine ⟨fun c => (Cert.GdnInDxIdeal.Gen.dats m 0 c).arrAt 2 (Cert.GdnInDxIdeal.cfgs 0).N,
    (θ_run _ _ _).mono (fun r h c => ⟨(h.1 c).1 2, h.2 c⟩) (θ_run_and (Cert.GdnInDxIdeal.Gen.run_main m g) (Cert.GdnInDxIdeal.Gen.unchanged m g)), ?_⟩
  refine (θ_run _ _ _).mono (fun r h c => ⟨(h c).1.trans ?_, (h c).2⟩) (Cert.GdnInDxReferenceIdeal.Value.run (F := Ideal) m' g')
  change Cert.GdnInDxReferenceIdeal.Line.result _ _ = _
  rw [(hagree c).1, (hagree c).2]
  exact (Cert.GdnInDxIdeal.Body.final m c _ (fun x n => Cert.GdnInDxReferenceIdeal.Line.result_at _ _ x n)).symm

/-! ## The delta-rule layer's input projection -/

theorem gdnw_frame : @Cert.quiescent_GdnInDw Cert.GdnInDw.Gen.facts := fun m ρ _ => Cert.GdnInDw.Gen.frame m ρ
theorem gdnw_frame_ideal : @Cert.quiescent_GdnInDwIdeal Cert.GdnInDwIdeal.Gen.facts := fun m ρ _ => Cert.GdnInDwIdeal.Gen.frame m ρ
theorem gdnw_frame_ref : @Cert.quiescent_GdnInDwReferenceIdeal Cert.GdnInDwReferenceIdeal.Gen.facts := fun m ρ _ =>
  (θ_run Cert.GdnInDwReferenceIdeal.defs _ _).mono (fun r h => ⟨fun c => (h c).2, Idealize.ShloMosaic.sem_eq_zero_of_no_sems (by decide) r.2⟩)
    (Cert.GdnInDwReferenceIdeal.Value.run (F := Ideal) m ρ)
/-- The kernel's result is the reference's. -/
theorem gdnw_algebraic : @Cert.algebraic_GdnInDwIdeal_GdnInDwReferenceIdeal Cert.GdnInDwIdeal.Gen.facts Cert.GdnInDwReferenceIdeal.Gen.facts := by
  intro m g m' g' _ hagree
  refine ⟨fun c => (Cert.GdnInDwIdeal.Gen.dats m 0 c).arrAt 2 (Cert.GdnInDwIdeal.cfgs 0).N,
    (θ_run _ _ _).mono (fun r h c => ⟨(h.1 c).1 2, h.2 c⟩) (θ_run_and (Cert.GdnInDwIdeal.Gen.run_main m g) (Cert.GdnInDwIdeal.Gen.unchanged m g)), ?_⟩
  refine (θ_run _ _ _).mono (fun r h c => ⟨(h c).1.trans ?_, (h c).2⟩) (Cert.GdnInDwReferenceIdeal.Value.run (F := Ideal) m' g')
  change Cert.GdnInDwReferenceIdeal.Line.result _ _ = _
  rw [(hagree c).1, (hagree c).2]
  exact (Cert.GdnInDwIdeal.Body.final m c _ (fun x n => Cert.GdnInDwReferenceIdeal.Line.result_at _ _ x n)).symm

end Cert.Product

end
-- ==== Proof.DswInKer.lean ====
/- The attention layer's projection in the forward pass: what the kernel leaves in its result, and the reference's result. -/
module

public import proofs.«01_k».proof.Proof.Gen.DswInIdeal.Frame
public import proofs.«01_k».proof.Proof.Gen.DswInReferenceIdeal.Run
public import Idealize.ShloMosaic.Lib.Pipeline.ValueKit
public import proofs.«01_k».proof.Proof.Product
public import proofs.«01_k».proof.Proof.DswInDxRef

@[expose] public section

set_option maxRecDepth 16384

noncomputable section

namespace Cert.DswInIdeal.Body

open Cert.DswInIdeal Cert.DswInIdeal.Gen Cert.Product
open Idealize.ShloMosaic Idealize.ShloMosaic.TcCoe Idealize.SL.Sem
open Idealize.ShloMosaic.Pipeline (Dat)

theorem block_of {F : FTy → Type} [FloatOps F] (x0 : Vec F S1024x1024 .bf16) (x1 : Vec F S1x1024x1152 .bf16) : out0_2 x0 x1 = k0_pay1 x0 x1 := by
  unfold out0_2
  frame_out

theorem product_at (x0 : Vec Ideal S1024x1024 .bf16) (x1 : Vec Ideal S1x1024x1152 .bf16) (r : Fin 1024) (n : Fin 1152) :
    (k0_pay1 x0 x1 (ix2 r n) : EReal) = ∑ l : Fin 1024, (x0 (ix2 r l) : EReal) * x1 (ix3 0 l n) := by
  pointwise [k0_pay1]

abbrev rowOf := cell 8 1024 8192 rfl
abbrev colOf := cell 4 1152 4608 rfl

/-- One element of the product. -/
def product (A : FVec Ideal ⟨2, ![8192, 1024]⟩ .bf16) (B : FVec Ideal ⟨3, ![4, 1024, 1152]⟩ .bf16) (x : Fin 8192) (i : Fin 4) (n : Fin 1152) : EReal :=
  ∑ l : Fin 1024, (A (ix2 x l) : EReal) * (B (ix3 i l n) : EReal)

/-! ## Where the blocks sit -/

variable (m : (ℓ : Loc nD τ sig) → Buf (Elt Ideal) ℓ) (c : Dev nD)

theorem index_at : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The row and the column of blocks that point `t` computes. -/
def outer (t : Fin cfg0.N) : Fin 8 := ⟨t.val / 4, by have := lt_of_lt_of_eq t.isLt N_0; omega⟩
def inner (t : Fin cfg0.N) : Fin 4 := ⟨t.val % 4, by omega⟩

theorem block_a (t : Fin cfg0.N) (r l : Fin 1024) : iblk m c 0 t (ix2 r l) = V m c main_arg0 (ix2 (rowOf (outer t) r) l) := by
  blk_simp [iblk]
  refine congrArg (V m c main_arg0) ?_
  blk_ext [(index_at t).1, cell, outer]
theorem block_b (t : Fin cfg0.N) (l : Fin 1024) (n : Fin 1152) : iblk m c 1 t (ix3 0 l n) = V m c main_arg1 (ix3 (inner t) l n) := by
  blk_simp [iblk]
  refine congrArg (V m c main_arg1) ?_
  blk_ext [(index_at t).2.1, inner]
theorem emb_out (t : Fin cfg0.N) (r : Fin 1024) (n : Fin 1152) :
    ((cfg0.win 2).blk t).view.emb (ix2 r n) = ix2 (rowOf (outer t) r) (colOf (inner t) n) := by
  blk_ext [(index_at t).2.2, cell, outer, inner]

/-! ## The result -/

/-- The blocks cover the result: it is the product. -/
theorem final (X : Vec Ideal S8192x4608 .bf16)
    (hX : ∀ x i n, (X (ix2 x (colOf i n)) : EReal) = product (V m c main_arg0) (V m c main_arg1) x i n) :
    (dats m 0 c).arrAt 2 (cfgs 0).N = X := by
  refine (dats m 0 c).arrAt_eq_of_covers 2 _ (by decide +kernel) fun t hf y => ?_
  blk_simp
  rw [after0_2, block_of]
  refine at_each (k0_pay1 (iblk m c 0 t) (iblk m c 1 t)) (fun y => X (((cfg0.win 2).blk t).view.emb y)) (fun r n => ?_) y
  rw [emb_out t r n]
  refine (product_at _ _ r n).trans (Eq.trans (Finset.sum_congr rfl fun l _ => ?_) (hX _ _ n).symm)
  rw [block_a, block_b]

end Cert.DswInIdeal.Body

namespace Cert.DswInReferenceIdeal.Line

open Cert.DswInReferenceIdeal Cert.DswInReferenceIdeal.Gen Cert.DswInDxReferenceIdeal.Line Idealize.ShloMosaic
open Cert.DswInIdeal.Body (colOf)

variable (A : FVec Ideal S8192x1024 .bf16) (W : FVec Ideal S4x1024x1152 .bf16)

/-- What the reference computes from its two arguments: the input times the four shards side by side. -/
def result : FVec Ideal S8192x4608 .bf16 :=
  truncf .bf16 (Host.dotGeneral (F := Ideal) (φ₁ := .bf16) (φ₂ := .bf16) dot_S8192x1024_S1024x4608_S8192x4608_1_0_0_1_n_n none A (wide W)) bitsLt_bf16_f32

theorem result_at (x : Fin 8192) (k : Fin 4) (n : Fin 1152) :
    (result A W (ix2 x (colOf k n)) : EReal) = ∑ l : Fin 1024, (A (ix2 x l) : EReal) * (W (ix3 k l n) : EReal) := by
  have h : ∀ l, wide W (ix2 l (colOf k n)) = W (ix3 k l n) := fun l => wide_at W l k n
  unfold result
  generalize wide W = Z at h
  generalize colOf k n = y at h ⊢
  pointwise
  exact Finset.sum_congr rfl fun l _ => by rw [← h l]

end Cert.DswInReferenceIdeal.Line

end
-- ==== Proof.GdnInKer.lean ====
/- The delta-rule layer's projection in the forward pass: what the kernel leaves in its result, and the reference's result. -/
module

public import proofs.«01_k».proof.Proof.Gen.GdnInIdeal.Frame
public import proofs.«01_k».proof.Proof.Gen.GdnInReferenceIdeal.Run
public import Idealize.ShloMosaic.Lib.Pipeline.ValueKit
public import proofs.«01_k».proof.Proof.Product

@[expose] public section

set_option maxRecDepth 16384

noncomputable section

namespace Cert.GdnInIdeal.Body

open Cert.GdnInIdeal Cert.GdnInIdeal.Gen Cert.Product
open Idealize.ShloMosaic Idealize.ShloMosaic.TcCoe Idealize.SL.Sem
open Idealize.ShloMosaic.Pipeline (Dat)

theorem block_of {F : FTy → Type} [FloatOps F] (x0 : Vec F S1024x1024 .bf16) (x1 : Vec F S1024x1408 .bf16) : out0_2 x0 x1 = k0_pay1 x0 x1 := by
  unfold out0_2
  frame_out

theorem product_at (x0 : Vec Ideal S1024x1024 .bf16) (x1 : Vec Ideal S1024x1408 .bf16) (r : Fin 1024) (n : Fin 1408) :
    (k0_pay1 x0 x1 (ix2 r n) : EReal) = ∑ l : Fin 1024, (x0 (ix2 r l) : EReal) * x1 (ix2 l n) := by
  pointwise [k0_pay1]

abbrev rowOf := cell 8 1024 8192 rfl
abbrev colOf := cell 3 1408 4224 rfl

/-- One element of the product. -/
def product (A : FVec Ideal ⟨2, ![8192, 1024]⟩ .bf16) (B : FVec Ideal ⟨2, ![1024, 4224]⟩ .bf16) (x : Fin 8192) (i : Fin 3) (n : Fin 1408) : EReal :=
  ∑ l : Fin 1024, (A (ix2 x l) : EReal) * (B (ix2 l (colOf i n)) : EReal)

/-! ## Where the blocks sit -/

variable (m : (ℓ : Loc nD τ sig) → Buf (Elt Ideal) ℓ) (c : Dev nD)

theorem index_at : ∀ t : Fin cfg0.N, win0_0.index t = ![t.val / 3, 0] ∧ win0_1.index t = ![0, t.val % 3] ∧ win0_2.index t = ![t.val / 3, t.val % 3] :=
  (by decide +kernel : ∀ t : Fin grid0.N, _)

/-- The row and the column of blocks that point `t` computes. -/
def outer (t : Fin cfg0.N) : Fin 8 := ⟨t.val / 3, by have := lt_of_lt_of_eq t.isLt N_0; omega⟩
def inner (t : Fin cfg0.N) : Fin 3 := ⟨t.val % 3, by omega⟩

theorem block_a (t : Fin cfg0.N) (r l : Fin 1024) : iblk m c 0 t (ix2 r l) = V m c main_arg0 (ix2 (rowOf (outer t) r) l) := by
  blk_simp [iblk]
  refine congrArg (V m c main_arg0) ?_
  blk_ext [(index_at t).1, cell, outer]
theorem block_b (t : Fin cfg0.N) (l : Fin 1024) (n : Fin 1408) : iblk m c 1 t (ix2 l n) = V m c main_arg1 (ix2 l (colOf (inner t) n)) := by
  blk_simp [iblk]
  refine congrArg (V m c main_arg1) ?_
  blk_ext [(index_at t).2.1, cell, inner]
theorem emb_out (t : Fin cfg0.N) (r : Fin 1024) (n : Fin 1408) :
    ((cfg0.win 2).blk t).view.emb (ix2 r n) = ix2 (rowOf (outer t) r) (colOf (inner t) n) := by
  blk_ext [(index_at t).2.2, cell, outer, inner]

/-! ## The result -/

/-- The blocks cover the result: it is the product. -/
theorem final (X : Vec Ideal S8192x4224 .bf16)
    (hX : ∀ x i n, (X (ix2 x (colOf i n)) : EReal) = product (V m c main_arg0) (V m c main_arg1) x i n) :
    (dats m 0 c).arrAt 2 (cfgs 0).N = X := by
  refine (dats m 0 c).arrAt_eq_of_covers 2 _ (by decide +kernel) fun t hf y => ?_
  blk_simp
  rw [after0_2, block_of]
  refine at_each (k0_pay1 (iblk m c 0 t) (iblk m c 1 t)) (fun y => X (((cfg0.win 2).blk t).view.emb y)) (fun r n => ?_) y
  rw [emb_out t r n]
  refine (product_at _ _ r n).trans (Eq.trans (Finset.sum_congr rfl fun l _ => ?_) (hX _ _ n).symm)
  rw [block_a, block_b]

end Cert.GdnInIdeal.Body

namespace Cert.GdnInReferenceIdeal.Line

open Cert.GdnInReferenceIdeal Cert.GdnInReferenceIdeal.Gen Idealize.ShloMosaic

/-- What the reference computes from its two arguments. -/
def result (A : FVec Ideal S8192x1024 .bf16) (B : FVec Ideal S1024x4224 .bf16) : FVec Ideal S8192x4224 .bf16 :=
  truncf .bf16 (Host.dotGeneral (F := Ideal) (φ₁ := .bf16) (φ₂ := .bf16) dot_S8192x1024_S1024x4224_S8192x4224_1_0_0_1_n_n none A B) bitsLt_bf16_f32

theorem result_at (A : FVec Ideal S8192x1024 .bf16) (B : FVec Ideal S1024x4224 .bf16) (x : Fin 8192) (n : Fin 4224) :
    (result A B (ix2 x n) : EReal) = ∑ l : Fin 1024, (A (ix2 x l) : EReal) * (B (ix2 l n) : EReal) := by
  unfold result
  pointwise

end Cert.GdnInReferenceIdeal.Line

end
-- ==== Proof.FfnOutKer.lean ====
/- The feed-forward layer's second product in the forward pass: what the kernel leaves in its result, and the reference's result. -/
module

public import proofs.«01_k».proof.Proof.Gen.FfnOutIdeal.Frame
public import proofs.«01_k».proof.Proof.Gen.FfnOutReferenceIdeal.Run
public import Idealize.ShloMosaic.Lib.Pipeline.ValueKit
public import proofs.«01_k».proof.Proof.Product

@[expose] public section

set_option maxRecDepth 16384

noncomputable section

namespace Cert.FfnOutIdeal.Body

open Cert.FfnOutIdeal Cert.FfnOutIdeal.Gen Cert.Product
open Idealize.ShloMosaic Idealize.ShloMosaic.TcCoe Idealize.SL.Sem
open Idealize.ShloMosaic.Pipeline (Dat)

theorem block_of {F : FTy → Type} [FloatOps F] (x0 : Vec F S1024x2816 .bf16) (x1 : Vec F S2816x1024 .bf16) : out0_2 x0 x1 = k0_pay1 x0 x1 := by
  unfold out0_2
  frame_out

theorem product_at (x0 : Vec Ideal S1024x2816 .bf16) (x1 : Vec Ideal S2816x1024 .bf16) (r n : Fin 1024) :
    (k0_pay1 x0 x1 (ix2 r n) : EReal) = ∑ l : Fin 2816, (x0 (ix2 r l) : EReal) * x1 (ix2 l n) := by
  pointwise [k0_pay1]

abbrev rowOf := cell 8 1024 8192 rfl

/-- One element of the product. -/
def product (A : FVec Ideal ⟨2, ![8192, 2816]⟩ .bf16) (B : FVec Ideal ⟨2, ![2816, 1024]⟩ .bf16) (x : Fin 8192) (n : Fin 1024) : EReal :=
  ∑ l : Fin 2816, (A (ix2 x l) : EReal) * (B (ix2 l n) : EReal)

/-! ## Where the blocks sit -/

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The row of blocks that point `t` computes. -/
def outer (t : Fin cfg0.N) : Fin 8 := ⟨t.val, lt_of_lt_of_eq t.isLt N_0⟩

theorem block_a (t : Fin cfg0.N) (r : Fin 1024) (l : Fin 2816) : iblk m c 0 t (ix2 r l) = V m c main_arg0 (ix2 (rowOf (outer t) r) l) := by
  blk_simp [iblk]
  refine congrArg (V m c main_arg0) ?_
  blk_ext [(index_at t).1, cell, outer]
theorem block_b (t : Fin cfg0.N) (l : Fin 2816) (n : Fin 1024) : iblk m c 1 t (ix2 l n) = V m c main_arg1 (ix2 l n) := by
  blk_simp [iblk]
  refine congrArg (V m c main_arg1) ?_
  blk_ext [(index_at t).2.1]
theorem emb_out (t : Fin cfg0.N) (r n : Fin 1024) :
    ((cfg0.win 2).blk t).view.emb (ix2 r n) = ix2 (rowOf (outer t) r) n := by
  blk_ext [(index_at t).2.2, cell, outer]

/-! ## The result -/

/-- The blocks cover the result: it is the product. -/
theorem final (X : Vec Ideal S8192x1024 .bf16)
    (hX : ∀ x n, (X (ix2 x n) : EReal) = product (V m c main_arg0) (V m c main_arg1) x n) :
    (dats m 0 c).arrAt 2 (cfgs 0).N = X := by
  refine (dats m 0 c).arrAt_eq_of_covers 2 _ (by decide +kernel) fun t hf y => ?_
  blk_simp
  rw [after0_2, block_of]
  refine at_each (k0_pay1 (iblk m c 0 t) (iblk m c 1 t)) (fun y => X (((cfg0.win 2).blk t).view.emb y)) (fun r n => ?_) y
  rw [emb_out t r n]
  refine (product_at _ _ r n).trans (Eq.trans (Finset.sum_congr rfl fun l _ => ?_) (hX _ n).symm)
  rw [block_a, block_b]

end Cert.FfnOutIdeal.Body

namespace Cert.FfnOutReferenceIdeal.Line

open Cert.FfnOutReferenceIdeal Cert.FfnOutReferenceIdeal.Gen Idealize.ShloMosaic

/-- What the reference computes from its two arguments. -/
def result (A : FVec Ideal S8192x2816 .bf16) (B : FVec Ideal S2816x1024 .bf16) : FVec Ideal S8192x1024 .bf16 :=
  truncf .bf16 (Host.dotGeneral (F := Ideal) (φ₁ := .bf16) (φ₂ := .bf16) dot_S8192x2816_S2816x1024_S8192x1024_1_0_0_1_n_n none A B) bitsLt_bf16_f32

theorem result_at (A : FVec Ideal S8192x2816 .bf16) (B : FVec Ideal S2816x1024 .bf16) (x : Fin 8192) (n : Fin 1024) :
    (result A B (ix2 x n) : EReal) = ∑ l : Fin 2816, (A (ix2 x l) : EReal) * (B (ix2 l n) : EReal) := by
  unfold result
  pointwise

end Cert.FfnOutReferenceIdeal.Line

end
-- ==== Proof.GdnOutKer.lean ====
/- The delta-rule layer's output projection in the forward pass: what the kernel leaves in its result, and the reference's result. -/
module

public import proofs.«01_k».proof.Proof.Gen.GdnOutIdeal.Frame
public import proofs.«01_k».proof.Proof.Gen.GdnOutReferenceIdeal.Run
public import Idealize.ShloMosaic.Lib.Pipeline.ValueKit
public import proofs.«01_k».proof.Proof.Product

@[expose] public section

set_option maxRecDepth 16384

noncomputable section

namespace Cert.GdnOutIdeal.Body

open Cert.GdnOutIdeal Cert.GdnOutIdeal.Gen Cert.Product
open Idealize.ShloMosaic Idealize.ShloMosaic.TcCoe Idealize.SL.Sem
open Idealize.ShloMosaic.Pipeline (Dat)

theorem block_of {F : FTy → Type} [FloatOps F] (x0 : Vec F S1024x1024 .bf16) (x1 : Vec F S1024x1024 .bf16) : out0_2 x0 x1 = k0_pay1 x0 x1 := by
  unfold out0_2
  frame_out

theorem product_at (x0 : Vec Ideal S1024x1024 .bf16) (x1 : Vec Ideal S1024x1024 .bf16) (r n : Fin 1024) :
    (k0_pay1 x0 x1 (ix2 r n) : EReal) = ∑ l : Fin 1024, (x0 (ix2 r l) : EReal) * x1 (ix2 l n) := by
  pointwise [k0_pay1]

abbrev rowOf := cell 8 1024 8192 rfl

/-- One element of the product. -/
def product (A : FVec Ideal ⟨2, ![8192, 1024]⟩ .bf16) (B : FVec Ideal ⟨2, ![1024, 1024]⟩ .bf16) (x : Fin 8192) (n : Fin 1024) : EReal :=
  ∑ l : Fin 1024, (A (ix2 x l) : EReal) * (B (ix2 l n) : EReal)

/-! ## Where the blocks sit -/

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The row of blocks that point `t` computes. -/
def outer (t : Fin cfg0.N) : Fin 8 := ⟨t.val, lt_of_lt_of_eq t.isLt N_0⟩

theorem block_a (t : Fin cfg0.N) (r : Fin 1024) (l : Fin 1024) : iblk m c 0 t (ix2 r l) = V m c main_arg0 (ix2 (rowOf (outer t) r) l) := by
  blk_simp [iblk]
  refine congrArg (V m c main_arg0) ?_
  blk_ext [(index_at t).1, cell, outer]
theorem block_b (t : Fin cfg0.N) (l : Fin 1024) (n : Fin 1024) : iblk m c 1 t (ix2 l n) = V m c main_arg1 (ix2 l n) := by
  blk_simp [iblk]
  refine congrArg (V m c main_arg1) ?_
  blk_ext [(index_at t).2.1]
theorem emb_out (t : Fin cfg0.N) (r n : Fin 1024) :
    ((cfg0.win 2).blk t).view.emb (ix2 r n) = ix2 (rowOf (outer t) r) n := by
  blk_ext [(index_at t).2.2, cell, outer]

/-! ## The result -/

/-- The blocks cover the result: it is the product. -/
theorem final (X : Vec Ideal S8192x1024 .bf16)
    (hX : ∀ x n, (X (ix2 x n) : EReal) = product (V m c main_arg0) (V m c main_arg1) x n) :
    (dats m 0 c).arrAt 2 (cfgs 0).N = X := by
  refine (dats m 0 c).arrAt_eq_of_covers 2 _ (by decide +kernel) fun t hf y => ?_
  blk_simp
  rw [after0_2, block_of]
  refine at_each (k0_pay1 (iblk m c 0 t) (iblk m c 1 t)) (fun y => X (((cfg0.win 2).blk t).view.emb y)) (fun r n => ?_) y
  rw [emb_out t r n]
  refine (product_at _ _ r n).trans (Eq.trans (Finset.sum_congr rfl fun l _ => ?_) (hX _ n).symm)
  rw [block_a, block_b]

end Cert.GdnOutIdeal.Body

namespace Cert.GdnOutReferenceIdeal.Line

open Cert.GdnOutReferenceIdeal Cert.GdnOutReferenceIdeal.Gen Idealize.ShloMosaic

/-- What the reference computes from its two arguments. -/
def result (A : FVec Ideal S8192x1024 .bf16) (B : FVec Ideal S1024x1024 .bf16) : FVec Ideal S8192x1024 .bf16 :=
  truncf .bf16 (Host.dotGeneral (F := Ideal) (φ₁ := .bf16) (φ₂ := .bf16) dot_S8192x1024_S1024x1024_S8192x1024_1_0_0_1_n_n none A B) bitsLt_bf16_f32

theorem result_at (A : FVec Ideal S8192x1024 .bf16) (B : FVec Ideal S1024x1024 .bf16) (x : Fin 8192) (n : Fin 1024) :
    (result A B (ix2 x n) : EReal) = ∑ l : Fin 1024, (A (ix2 x l) : EReal) * (B (ix2 l n) : EReal) := by
  unfold result
  pointwise

end Cert.GdnOutReferenceIdeal.Line

end
-- ==== Proof.GdnOutDxKer.lean ====
/- The delta-rule layer's output projection in the backward pass: what the kernel leaves in its result, and the reference's result. -/
module

public import proofs.«01_k».proof.Proof.Gen.GdnOutDxIdeal.Frame
public import proofs.«01_k».proof.Proof.Gen.GdnOutDxReferenceIdeal.Run
public import Idealize.ShloMosaic.Lib.Pipeline.ValueKit
public import proofs.«01_k».proof.Proof.Product

@[expose] public section

set_option maxRecDepth 16384

noncomputable section

namespace Cert.GdnOutDxIdeal.Body

open Cert.GdnOutDxIdeal Cert.GdnOutDxIdeal.Gen Cert.Product
open Idealize.ShloMosaic Idealize.ShloMosaic.TcCoe Idealize.SL.Sem
open Idealize.ShloMosaic.Pipeline (Dat)

theorem block_of {F : FTy → Type} [FloatOps F] (x0 : Vec F S1024x1024 .bf16) (x1 : Vec F S1024x1024 .bf16) : out0_2 x0 x1 = k0_pay1 x0 x1 := by
  unfold out0_2
  frame_out

theorem product_at (x0 : Vec Ideal S1024x1024 .bf16) (x1 : Vec Ideal S1024x1024 .bf16) (r n : Fin 1024) :
    (k0_pay1 x0 x1 (ix2 r n) : EReal) = ∑ l : Fin 1024, (x0 (ix2 r l) : EReal) * x1 (ix2 n l) := by
  pointwise [k0_pay1]

abbrev rowOf := cell 8 1024 8192 rfl

/-- One element of the product. -/
def product (A : FVec Ideal ⟨2, ![8192, 1024]⟩ .bf16) (B : FVec Ideal ⟨2, ![1024, 1024]⟩ .bf16) (x : Fin 8192) (n : Fin 1024) : EReal :=
  ∑ l : Fin 1024, (A (ix2 x l) : EReal) * (B (ix2 n l) : EReal)

/-! ## Where the blocks sit -/

variable (m : (ℓ : Loc nD τ sig) → Buf (Elt Ideal) ℓ) (c : Dev nD)

theorem index_at : ∀ t : Fin cfg0.N, win0_0.index t = ![t.val, 0] ∧ win0_1.index t = ![0, 0] ∧ win0_2.index t = ![t.val, 0] :=
  (by decide +kernel : ∀ t : Fin grid0.N, _)

/-- The row of blocks that point `t` computes. -/
def outer (t : Fin cfg0.N) : Fin 8 := ⟨t.val, lt_of_lt_of_eq t.isLt N_0⟩

theorem block_a (t : Fin cfg0.N) (r : Fin 1024) (l : Fin 1024) : iblk m c 0 t (ix2 r l) = V m c main_arg0 (ix2 (rowOf (outer t) r) l) := by
  blk_simp [iblk]
  refine congrArg (V m c main_arg0) ?_
  blk_ext [(index_at t).1, cell, outer]
theorem block_b (t : Fin cfg0.N) (l : Fin 1024) (n : Fin 1024) : iblk m c 1 t (ix2 n l) = V m c main_arg1 (ix2 n l) := by
  blk_simp [iblk]
  refine congrArg (V m c main_arg1) ?_
  blk_ext [(index_at t).2.1]
theorem emb_out (t : Fin cfg0.N) (r n : Fin 1024) :
    ((cfg0.win 2).blk t).view.emb (ix2 r n) = ix2 (rowOf (outer t) r) n := by
  blk_ext [(index_at t).2.2, cell, outer]

/-! ## The result -/

/-- The blocks cover the result: it is the product. -/
theorem final (X : Vec Ideal S8192x1024 .bf16)
    (hX : ∀ x n, (X (ix2 x n) : EReal) = product (V m c main_arg0) (V m c main_arg1) x n) :
    (dats m 0 c).arrAt 2 (cfgs 0).N = X := by
  refine (dats m 0 c).arrAt_eq_of_covers 2 _ (by decide +kernel) fun t hf y => ?_
  blk_simp
  rw [after0_2, block_of]
  refine at_each (k0_pay1 (iblk m c 0 t) (iblk m c 1 t)) (fun y => X (((cfg0.win 2).blk t).view.emb y)) (fun r n => ?_) y
  rw [emb_out t r n]
  refine (product_at _ _ r n).trans (Eq.trans (Finset.sum_congr rfl fun l _ => ?_) (hX _ n).symm)
  rw [block_a, block_b]

end Cert.GdnOutDxIdeal.Body

namespace Cert.GdnOutDxReferenceIdeal.Line

open Cert.GdnOutDxReferenceIdeal Cert.GdnOutDxReferenceIdeal.Gen Idealize.ShloMosaic

/-- What the reference computes from its two arguments. -/
def result (A : FVec Ideal S8192x1024 .bf16) (B : FVec Ideal S1024x1024 .bf16) : FVec Ideal S8192x1024 .bf16 :=
  truncf .bf16 (Host.dotGeneral (F := Ideal) (φ₁ := .bf16) (φ₂ := .bf16) dot_S8192x1024_S1024x1024_S8192x1024_1_0_0_1_n_n none A (transpose S1024x1024 [1, 0] B transposes_S1024x1024_S1024x1024_1_0)) bitsLt_bf16_f32

theorem result_at (A : FVec Ideal S8192x1024 .bf16) (B : FVec Ideal S1024x1024 .bf16) (x : Fin 8192) (n : Fin 1024) :
    (result A B (ix2 x n) : EReal) = ∑ l : Fin 1024, (A (ix2 x l) : EReal) * (B (ix2 n l) : EReal) := by
  unfold result
  pointwise

end Cert.GdnOutDxReferenceIdeal.Line

end
-- ==== Proof.ForwardClaims.lean ====
/- The frames and the values of the products that contract in one step. -/
module

public import proofs.«01_k».proof.Defs
public import proofs.«01_k».proof.Proof.Gen.DswIn.Frame
public import proofs.«01_k».proof.Proof.DswInKer
public import proofs.«01_k».proof.Proof.Gen.GdnIn.Frame
public import proofs.«01_k».proof.Proof.GdnInKer
public import proofs.«01_k».proof.Proof.Gen.FfnOut.Frame
public import proofs.«01_k».proof.Proof.FfnOutKer
public import proofs.«01_k».proof.Proof.Gen.GdnOut.Frame
public import proofs.«01_k».proof.Proof.GdnOutKer
public import proofs.«01_k».proof.Proof.Gen.GdnOutDx.Frame
public import proofs.«01_k».proof.Proof.GdnOutDxKer
public import Idealize.ShloMosaic.Adequacy
public import Idealize.ShloMosaic.Init

@[expose] public section

set_option maxRecDepth 16384

noncomputable section

namespace Cert.Product

open Idealize.ShloMosaic Idealize.ShloMosaic.TcCoe Idealize.SL.Sem

/-! ## The attention layer's projection in the forward pass -/

theorem dswf_frame : @Cert.quiescent_DswIn Cert.DswIn.Gen.facts := fun m ρ _ => Cert.DswIn.Gen.frame m ρ
theorem dswf_frame_ideal : @Cert.quiescent_DswInIdeal Cert.DswInIdeal.Gen.facts := fun m ρ _ => Cert.DswInIdeal.Gen.frame m ρ
theorem dswf_frame_ref : @Cert.quiescent_DswInReferenceIdeal Cert.DswInReferenceIdeal.Gen.facts := fun m ρ _ =>
  (θ_run Cert.DswInReferenceIdeal.defs _ _).mono (fun r h => ⟨fun c => (h c).2, Idealize.ShloMosaic.sem_eq_zero_of_no_sems (by decide) r.2⟩)
    (Cert.DswInReferenceIdeal.Value.run (F := Ideal) m ρ)
/-- The kernel's result is the reference's. -/
theorem dswf_algebraic : @Cert.algebraic_DswInIdeal_DswInReferenceIdeal Cert.DswInIdeal.Gen.facts Cert.DswInReferenceIdeal.Gen.facts := by
  intro m g m' g' _ hagree
  refine ⟨fun c => (Cert.DswInIdeal.Gen.dats m 0 c).arrAt 2 (Cert.DswInIdeal.cfgs 0).N,
    (θ_run _ _ _).mono (fun r h c => ⟨(h.1 c).1 2, h.2 c⟩) (θ_run_and (Cert.DswInIdeal.Gen.run_main m g) (Cert.DswInIdeal.Gen.unchanged m g)), ?_⟩
  refine (θ_run _ _ _).mono (fun r h c => ⟨(h c).1.trans ?_, (h c).2⟩) (Cert.DswInReferenceIdeal.Value.run (F := Ideal) m' g')
  change Cert.DswInReferenceIdeal.Line.result _ _ = _
  rw [(hagree c).1, (hagree c).2]
  exact (Cert.DswInIdeal.Body.final m c _ (fun x k n => Cert.DswInReferenceIdeal.Line.result_at _ _ x k n)).symm

/-! ## The delta-rule layer's projection in the forward pass -/

theorem gdnf_frame : @Cert.quiescent_GdnIn Cert.GdnIn.Gen.facts := fun m ρ _ => Cert.GdnIn.Gen.frame m ρ
theorem gdnf_frame_ideal : @Cert.quiescent_GdnInIdeal Cert.GdnInIdeal.Gen.facts := fun m ρ _ => Cert.GdnInIdeal.Gen.frame m ρ
theorem gdnf_frame_ref : @Cert.quiescent_GdnInReferenceIdeal Cert.GdnInReferenceIdeal.Gen.facts := fun m ρ _ =>
  (θ_run Cert.GdnInReferenceIdeal.defs _ _).mono (fun r h => ⟨fun c => (h c).2, Idealize.ShloMosaic.sem_eq_zero_of_no_sems (by decide) r.2⟩)
    (Cert.GdnInReferenceIdeal.Value.run (F := Ideal) m ρ)
/-- The kernel's result is the reference's. -/
theorem gdnf_algebraic : @Cert.algebraic_GdnInIdeal_GdnInReferenceIdeal Cert.GdnInIdeal.Gen.facts Cert.GdnInReferenceIdeal.Gen.facts := by
  intro m g m' g' _ hagree
  refine ⟨fun c => (Cert.GdnInIdeal.Gen.dats m 0 c).arrAt 2 (Cert.GdnInIdeal.cfgs 0).N,
    (θ_run _ _ _).mono (fun r h c => ⟨(h.1 c).1 2, h.2 c⟩) (θ_run_and (Cert.GdnInIdeal.Gen.run_main m g) (Cert.GdnInIdeal.Gen.unchanged m g)), ?_⟩
  refine (θ_run _ _ _).mono (fun r h c => ⟨(h c).1.trans ?_, (h c).2⟩) (Cert.GdnInReferenceIdeal.Value.run (F := Ideal) m' g')
  change Cert.GdnInReferenceIdeal.Line.result _ _ = _
  rw [(hagree c).1, (hagree c).2]
  exact (Cert.GdnInIdeal.Body.final m c _ (fun x _ n => Cert.GdnInReferenceIdeal.Line.result_at _ _ x _)).symm

/-! ## The feed-forward layer's second product in the forward pass -/

theorem ffnf_frame : @Cert.quiescent_FfnOut Cert.FfnOut.Gen.facts := fun m ρ _ => Cert.FfnOut.Gen.frame m ρ
theorem ffnf_frame_ideal : @Cert.quiescent_FfnOutIdeal Cert.FfnOutIdeal.Gen.facts := fun m ρ _ => Cert.FfnOutIdeal.Gen.frame m ρ
theorem ffnf_frame_ref : @Cert.quiescent_FfnOutReferenceIdeal Cert.FfnOutReferenceIdeal.Gen.facts := fun m ρ _ =>
  (θ_run Cert.FfnOutReferenceIdeal.defs _ _).mono (fun r h => ⟨fun c => (h c).2, Idealize.ShloMosaic.sem_eq_zero_of_no_sems (by decide) r.2⟩)
    (Cert.FfnOutReferenceIdeal.Value.run (F := Ideal) m ρ)
/-- The kernel's result is the reference's. -/
theorem ffnf_algebraic : @Cert.algebraic_FfnOutIdeal_FfnOutReferenceIdeal Cert.FfnOutIdeal.Gen.facts Cert.FfnOutReferenceIdeal.Gen.facts := by
  intro m g m' g' _ hagree
  refine ⟨fun c => (Cert.FfnOutIdeal.Gen.dats m 0 c).arrAt 2 (Cert.FfnOutIdeal.cfgs 0).N,
    (θ_run _ _ _).mono (fun r h c => ⟨(h.1 c).1 2, h.2 c⟩) (θ_run_and (Cert.FfnOutIdeal.Gen.run_main m g) (Cert.FfnOutIdeal.Gen.unchanged m g)), ?_⟩
  refine (θ_run _ _ _).mono (fun r h c => ⟨(h c).1.trans ?_, (h c).2⟩) (Cert.FfnOutReferenceIdeal.Value.run (F := Ideal) m' g')
  change Cert.FfnOutReferenceIdeal.Line.result _ _ = _
  rw [(hagree c).1, (hagree c).2]
  exact (Cert.FfnOutIdeal.Body.final m c _ (fun x n => Cert.FfnOutReferenceIdeal.Line.result_at _ _ x n)).symm

/-! ## The delta-rule layer's output projection in the forward pass -/

theorem gdno_frame : @Cert.quiescent_GdnOut Cert.GdnOut.Gen.facts := fun m ρ _ => Cert.GdnOut.Gen.frame m ρ
theorem gdno_frame_ideal : @Cert.quiescent_GdnOutIdeal Cert.GdnOutIdeal.Gen.facts := fun m ρ _ => Cert.GdnOutIdeal.Gen.frame m ρ
theorem gdno_frame_ref : @Cert.quiescent_GdnOutReferenceIdeal Cert.GdnOutReferenceIdeal.Gen.facts := fun m ρ _ =>
  (θ_run Cert.GdnOutReferenceIdeal.defs _ _).mono (fun r h => ⟨fun c => (h c).2, Idealize.ShloMosaic.sem_eq_zero_of_no_sems (by decide) r.2⟩)
    (Cert.GdnOutReferenceIdeal.Value.run (F := Ideal) m ρ)
/-- The kernel's result is the reference's. -/
theorem gdno_algebraic : @Cert.algebraic_GdnOutIdeal_GdnOutReferenceIdeal Cert.GdnOutIdeal.Gen.facts Cert.GdnOutReferenceIdeal.Gen.facts := by
  intro m g m' g' _ hagree
  refine ⟨fun c => (Cert.GdnOutIdeal.Gen.dats m 0 c).arrAt 2 (Cert.GdnOutIdeal.cfgs 0).N,
    (θ_run _ _ _).mono (fun r h c => ⟨(h.1 c).1 2, h.2 c⟩) (θ_run_and (Cert.GdnOutIdeal.Gen.run_main m g) (Cert.GdnOutIdeal.Gen.unchanged m g)), ?_⟩
  refine (θ_run _ _ _).mono (fun r h c => ⟨(h c).1.trans ?_, (h c).2⟩) (Cert.GdnOutReferenceIdeal.Value.run (F := Ideal) m' g')
  change Cert.GdnOutReferenceIdeal.Line.result _ _ = _
  rw [(hagree c).1, (hagree c).2]
  exact (Cert.GdnOutIdeal.Body.final m c _ (fun x n => Cert.GdnOutReferenceIdeal.Line.result_at _ _ x n)).symm

/-! ## The delta-rule layer's output projection in the backward pass -/

theorem gdnox_frame : @Cert.quiescent_GdnOutDx Cert.GdnOutDx.Gen.facts := fun m ρ _ => Cert.GdnOutDx.Gen.frame m ρ
theorem gdnox_frame_ideal : @Cert.quiescent_GdnOutDxIdeal Cert.GdnOutDxIdeal.Gen.facts := fun m ρ _ => Cert.GdnOutDxIdeal.Gen.frame m ρ
theorem gdnox_frame_ref : @Cert.quiescent_GdnOutDxReferenceIdeal Cert.GdnOutDxReferenceIdeal.Gen.facts := fun m ρ _ =>
  (θ_run Cert.GdnOutDxReferenceIdeal.defs _ _).mono (fun r h => ⟨fun c => (h c).2, Idealize.ShloMosaic.sem_eq_zero_of_no_sems (by decide) r.2⟩)
    (Cert.GdnOutDxReferenceIdeal.Value.run (F := Ideal) m ρ)
/-- The kernel's result is the reference's. -/
theorem gdnox_algebraic : @Cert.algebraic_GdnOutDxIdeal_GdnOutDxReferenceIdeal Cert.GdnOutDxIdeal.Gen.facts Cert.GdnOutDxReferenceIdeal.Gen.facts := by
  intro m g m' g' _ hagree
  refine ⟨fun c => (Cert.GdnOutDxIdeal.Gen.dats m 0 c).arrAt 2 (Cert.GdnOutDxIdeal.cfgs 0).N,
    (θ_run _ _ _).mono (fun r h c => ⟨(h.1 c).1 2, h.2 c⟩) (θ_run_and (Cert.GdnOutDxIdeal.Gen.run_main m g) (Cert.GdnOutDxIdeal.Gen.unchanged m g)), ?_⟩
  refine (θ_run _ _ _).mono (fun r h c => ⟨(h c).1.trans ?_, (h c).2⟩) (Cert.GdnOutDxReferenceIdeal.Value.run (F := Ideal) m' g')
  change Cert.GdnOutDxReferenceIdeal.Line.result _ _ = _
  rw [(hagree c).1, (hagree c).2]
  exact (Cert.GdnOutDxIdeal.Body.final m c _ (fun x n => Cert.GdnOutDxReferenceIdeal.Line.result_at _ _ x n)).symm

end Cert.Product

end
-- ==== Proof.lean ====
/- The proof of the claims about the backward attention of the first group and the products of the layers: the frames, the named constant, and the values. -/
module

public import proofs.«01_k».proof.Defs
public import proofs.«01_k».proof.Proof.SameMain
public import proofs.«01_k».proof.Proof.Algebraic
public import proofs.«01_k».proof.Proof.ProductClaims
public import proofs.«01_k».proof.Proof.ProjectionClaims
public import proofs.«01_k».proof.Proof.ForwardClaims
public import Idealize.ShloMosaic.Adequacy
public import Idealize.ShloMosaic.Init

@[expose] public section

noncomputable section

namespace Cert.Proof

open Idealize.ShloMosaic Idealize.SL.Sem

/-- The idealised kernel's frame, from its run over the extended reals. -/
theorem frame_pi : @Cert.quiescent_KernelIdeal Cert.KernelIdeal.Gen.facts := fun m ρ _ => Cert.KernelIdeal.Body.unchanged_q m ρ
theorem frame_pi_pre : @Cert.quiescent_KernelIdeal_pre_all_finite Cert.KernelIdeal.Gen.facts Cert.Leg.facts_pre := fun m ρ _ => Cert.KernelIdeal.Body.unchanged_q m ρ

/-- The reference's frame: the operations' run leaves the arguments unchanged, and the machine has no semaphore. -/
theorem frame_ri : @Cert.quiescent_ReferenceIdeal Cert.ReferenceIdeal.Gen.facts := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)
theorem frame_ri_pre : @Cert.quiescent_ReferenceIdeal_pre_all_finite Cert.ReferenceIdeal.Gen.facts Cert.Leg.facts_pre := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The named constant: the table gives the mask the value minus infinity. -/
theorem mask_named : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.FfnInDx.Gen.facts, Cert.FfnInDxIdeal.Gen.facts, Cert.FfnInDxReferenceIdeal.Gen.facts,
  Cert.FfnInDw.Gen.facts, Cert.FfnInDwIdeal.Gen.facts, Cert.FfnInDwReferenceIdeal.Gen.facts,
  Cert.FfnOutDw.Gen.facts, Cert.FfnOutDwIdeal.Gen.facts, Cert.FfnOutDwReferenceIdeal.Gen.facts,
  Cert.DswInDx.Gen.facts, Cert.DswInDxIdeal.Gen.facts, Cert.DswInDxReferenceIdeal.Gen.facts,
  Cert.DswInDw.Gen.facts, Cert.DswInDwIdeal.Gen.facts, Cert.DswInDwReferenceIdeal.Gen.facts,
  Cert.GdnInDx.Gen.facts, Cert.GdnInDxIdeal.Gen.facts, Cert.GdnInDxReferenceIdeal.Gen.facts,
  Cert.GdnInDw.Gen.facts, Cert.GdnInDwIdeal.Gen.facts, Cert.GdnInDwReferenceIdeal.Gen.facts,
  Cert.DswIn.Gen.facts, Cert.DswInIdeal.Gen.facts, Cert.DswInReferenceIdeal.Gen.facts,
  Cert.GdnIn.Gen.facts, Cert.GdnInIdeal.Gen.facts, Cert.GdnInReferenceIdeal.Gen.facts,
  Cert.FfnOut.Gen.facts, Cert.FfnOutIdeal.Gen.facts, Cert.FfnOutReferenceIdeal.Gen.facts,
  Cert.GdnOut.Gen.facts, Cert.GdnOutIdeal.Gen.facts, Cert.GdnOutReferenceIdeal.Gen.facts,
  Cert.GdnOutDx.Gen.facts, Cert.GdnOutDxIdeal.Gen.facts, Cert.GdnOutDxReferenceIdeal.Gen.facts,
  Cert.Leg.facts_pre,
  Cert.Kernel.Same.frame_p, frame_pi, frame_pi_pre, frame_ri, frame_ri_pre,
  Cert.Product.dx_frame, Cert.Product.dx_frame_ideal, Cert.Product.dx_frame_ref,
  Cert.Product.dw_frame, Cert.Product.dw_frame_ideal, Cert.Product.dw_frame_ref,
  Cert.Product.ow_frame, Cert.Product.ow_frame_ideal, Cert.Product.ow_frame_ref,
  Cert.Product.dswx_frame, Cert.Product.dswx_frame_ideal, Cert.Product.dswx_frame_ref,
  Cert.Product.dsww_frame, Cert.Product.dsww_frame_ideal, Cert.Product.dsww_frame_ref,
  Cert.Product.gdnx_frame, Cert.Product.gdnx_frame_ideal, Cert.Product.gdnx_frame_ref,
  Cert.Product.gdnw_frame, Cert.Product.gdnw_frame_ideal, Cert.Product.gdnw_frame_ref,
  Cert.Product.dswf_frame, Cert.Product.dswf_frame_ideal, Cert.Product.dswf_frame_ref,
  Cert.Product.gdnf_frame, Cert.Product.gdnf_frame_ideal, Cert.Product.gdnf_frame_ref,
  Cert.Product.ffnf_frame, Cert.Product.ffnf_frame_ideal, Cert.Product.ffnf_frame_ref,
  Cert.Product.gdno_frame, Cert.Product.gdno_frame_ideal, Cert.Product.gdno_frame_ref,
  Cert.Product.gdnox_frame, Cert.Product.gdnox_frame_ideal, Cert.Product.gdnox_frame_ref,
  mask_named, Cert.Leg.algebraic, trivial, Cert.Product.dx_algebraic, trivial, Cert.Product.dw_algebraic, trivial, Cert.Product.ow_algebraic,
  trivial, Cert.Product.dswx_algebraic, trivial, Cert.Product.dsww_algebraic, trivial, Cert.Product.gdnx_algebraic, trivial, Cert.Product.gdnw_algebraic,
  trivial, Cert.Product.dswf_algebraic, trivial, Cert.Product.gdnf_algebraic, trivial, Cert.Product.ffnf_algebraic,
  trivial, Cert.Product.gdno_algebraic, trivial, Cert.Product.gdnox_algebraic⟩

end Cert.Proof

end
